-- ==== Defs.lean ====
def Pre_Dsa (m : (ℓ : Loc Cert.Dsa.nD Cert.Dsa.τ Cert.Dsa.sig) → Buf (Elt Bits) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Mixed (m : (ℓ : Loc Cert.Mixed.nD Cert.Mixed.τ Cert.Mixed.sig) → Buf (Elt Bits) ℓ) : Prop :=
  True

def Pre_MixedIdeal (m : (ℓ : Loc Cert.MixedIdeal.nD Cert.MixedIdeal.τ Cert.MixedIdeal.sig) → Buf (Elt Ideal) ℓ) : Prop :=
  True

def Pre_MixedRefIdeal (m : (ℓ : Loc Cert.MixedRefIdeal.nD Cert.MixedRefIdeal.τ Cert.MixedRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_Conf (m : (ℓ : Loc Cert.Conf.nD Cert.Conf.τ Cert.Conf.sig) → Buf (Elt Bits) ℓ) : Prop :=
  True

def Pre_ConfIdeal (m : (ℓ : Loc Cert.ConfIdeal.nD Cert.ConfIdeal.τ Cert.ConfIdeal.sig) → Buf (Elt Ideal) ℓ) : Prop :=
  True

def Pre_ConfRefIdeal (m : (ℓ : Loc Cert.ConfRefIdeal.nD Cert.ConfRefIdeal.τ Cert.ConfRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def quiescent_Dsa [hDsa : Cert.Dsa.Facts] : Prop :=
  ∀ (m : (ℓ : Loc Cert.Dsa.nD Cert.Dsa.τ Cert.Dsa.sig) → Buf (Elt Bits) ℓ) (g : Dev Cert.Dsa.nD → PrngReg), Pre_Dsa m →
    θ_run (Cert.Dsa.defs (F := Bits)) (onTc (τ := Cert.Dsa.τ) (Cert.Dsa.main (F := Bits))) ⟨m, fun _ => 0, g⟩ (fun r => (∀ c : Dev Cert.Dsa.nD,
      r.2.mem ((c.tc : Thread Cert.Dsa.nD Cert.Dsa.τ).loc Cert.Dsa.main_arg0) = m ((c.tc : Thread Cert.Dsa.nD Cert.Dsa.τ).loc Cert.Dsa.main_arg0)
      ∧ r.2.mem ((c.tc : Thread Cert.Dsa.nD Cert.Dsa.τ).loc Cert.Dsa.main_arg1) = m ((c.tc : Thread Cert.Dsa.nD Cert.Dsa.τ).loc Cert.Dsa.main_arg1)
      ∧ r.2.mem ((c.tc : Thread Cert.Dsa.nD Cert.Dsa.τ).loc Cert.Dsa.main_arg2) = m ((c.tc : Thread Cert.Dsa.nD Cert.Dsa.τ).loc Cert.Dsa.main_arg2)
      ∧ r.2.mem ((c.tc : Thread Cert.Dsa.nD Cert.Dsa.τ).loc Cert.Dsa.main_arg3) = m ((c.tc : Thread Cert.Dsa.nD Cert.Dsa.τ).loc Cert.Dsa.main_arg3)
      ∧ r.2.mem ((c.tc : Thread Cert.Dsa.nD Cert.Dsa.τ).loc Cert.Dsa.main_arg4) = m ((c.tc : Thread Cert.Dsa.nD Cert.Dsa.τ).loc Cert.Dsa.main_arg4)
      ∧ r.2.mem ((c.tc : Thread Cert.Dsa.nD Cert.Dsa.τ).loc Cert.Dsa.main_arg5) = m ((c.tc : Thread Cert.Dsa.nD Cert.Dsa.τ).loc Cert.Dsa.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Mixed [hMixed : Cert.Mixed.Facts] : Prop :=
  ∀ (m : (ℓ : Loc Cert.Mixed.nD Cert.Mixed.τ Cert.Mixed.sig) → Buf (Elt Bits) ℓ) (g : Dev Cert.Mixed.nD → PrngReg), Pre_Mixed m →
    θ_run (Cert.Mixed.defs (F := Bits)) (onTc (τ := Cert.Mixed.τ) (Cert.Mixed.main (F := Bits))) ⟨m, fun _ => 0, g⟩ (fun r => (∀ c : Dev Cert.Mixed.nD,
      r.2.mem ((c.tc : Thread Cert.Mixed.nD Cert.Mixed.τ).loc Cert.Mixed.main_arg0) = m ((c.tc : Thread Cert.Mixed.nD Cert.Mixed.τ).loc Cert.Mixed.main_arg0)
      ∧ r.2.mem ((c.tc : Thread Cert.Mixed.nD Cert.Mixed.τ).loc Cert.Mixed.main_arg1) = m ((c.tc : Thread Cert.Mixed.nD Cert.Mixed.τ).loc Cert.Mixed.main_arg1)
      ∧ r.2.mem ((c.tc : Thread Cert.Mixed.nD Cert.Mixed.τ).loc Cert.Mixed.main_arg2) = m ((c.tc : Thread Cert.Mixed.nD Cert.Mixed.τ).loc Cert.Mixed.main_arg2)
      ∧ r.2.mem ((c.tc : Thread Cert.Mixed.nD Cert.Mixed.τ).loc Cert.Mixed.main_arg3) = m ((c.tc : Thread Cert.Mixed.nD Cert.Mixed.τ).loc Cert.Mixed.main_arg3)
      ∧ r.2.mem ((c.tc : Thread Cert.Mixed.nD Cert.Mixed.τ).loc Cert.Mixed.main_arg4) = m ((c.tc : Thread Cert.Mixed.nD Cert.Mixed.τ).loc Cert.Mixed.main_arg4)
      ∧ r.2.mem ((c.tc : Thread Cert.Mixed.nD Cert.Mixed.τ).loc Cert.Mixed.main_arg5) = m ((c.tc : Thread Cert.Mixed.nD Cert.Mixed.τ).loc Cert.Mixed.main_arg5)
      ∧ r.2.mem ((c.tc : Thread Cert.Mixed.nD Cert.Mixed.τ).loc Cert.Mixed.main_arg6) = m ((c.tc : Thread Cert.Mixed.nD Cert.Mixed.τ).loc Cert.Mixed.main_arg6)
      ∧ r.2.mem ((c.tc : Thread Cert.Mixed.nD Cert.Mixed.τ).loc Cert.Mixed.main_arg7) = m ((c.tc : Thread Cert.Mixed.nD Cert.Mixed.τ).loc Cert.Mixed.main_arg7))
      ∧ r.2.sem = fun _ => 0)

def quiescent_MixedIdeal [hMixedIdeal : Cert.MixedIdeal.Facts] : Prop :=
  ∀ (m : (ℓ : Loc Cert.MixedIdeal.nD Cert.MixedIdeal.τ Cert.MixedIdeal.sig) → Buf (Elt Ideal) ℓ) (g : Dev Cert.MixedIdeal.nD → PrngReg), Pre_MixedIdeal m →
    θ_run (Cert.MixedIdeal.defs (F := Ideal)) (onTc (τ := Cert.MixedIdeal.τ) (Cert.MixedIdeal.main (F := Ideal))) ⟨m, fun _ => 0, g⟩ (fun r => (∀ c : Dev Cert.MixedIdeal.nD,
      r.2.mem ((c.tc : Thread Cert.MixedIdeal.nD Cert.MixedIdeal.τ).loc Cert.MixedIdeal.main_arg0) = m ((c.tc : Thread Cert.MixedIdeal.nD Cert.MixedIdeal.τ).loc Cert.MixedIdeal.main_arg0)
      ∧ r.2.mem ((c.tc : Thread Cert.MixedIdeal.nD Cert.MixedIdeal.τ).loc Cert.MixedIdeal.main_arg1) = m ((c.tc : Thread Cert.MixedIdeal.nD Cert.MixedIdeal.τ).loc Cert.MixedIdeal.main_arg1)
      ∧ r.2.mem ((c.tc : Thread Cert.MixedIdeal.nD Cert.MixedIdeal.τ).loc Cert.MixedIdeal.main_arg2) = m ((c.tc : Thread Cert.MixedIdeal.nD Cert.MixedIdeal.τ).loc Cert.MixedIdeal.main_arg2)
      ∧ r.2.mem ((c.tc : Thread Cert.MixedIdeal.nD Cert.MixedIdeal.τ).loc Cert.MixedIdeal.main_arg3) = m ((c.tc : Thread Cert.MixedIdeal.nD Cert.MixedIdeal.τ).loc Cert.MixedIdeal.main_arg3)
      ∧ r.2.mem ((c.tc : Thread Cert.MixedIdeal.nD Cert.MixedIdeal.τ).loc Cert.MixedIdeal.main_arg4) = m ((c.tc : Thread Cert.MixedIdeal.nD Cert.MixedIdeal.τ).loc Cert.MixedIdeal.main_arg4)
      ∧ r.2.mem ((c.tc : Thread Cert.MixedIdeal.nD Cert.MixedIdeal.τ).loc Cert.MixedIdeal.main_arg5) = m ((c.tc : Thread Cert.MixedIdeal.nD Cert.MixedIdeal.τ).loc Cert.MixedIdeal.main_arg5)
      ∧ r.2.mem ((c.tc : Thread Cert.MixedIdeal.nD Cert.MixedIdeal.τ).loc Cert.MixedIdeal.main_arg6) = m ((c.tc : Thread Cert.MixedIdeal.nD Cert.MixedIdeal.τ).loc Cert.MixedIdeal.main_arg6)
      ∧ r.2.mem ((c.tc : Thread Cert.MixedIdeal.nD Cert.MixedIdeal.τ).loc Cert.MixedIdeal.main_arg7) = m ((c.tc : Thread Cert.MixedIdeal.nD Cert.MixedIdeal.τ).loc Cert.MixedIdeal.main_arg7))
      ∧ r.2.sem = fun _ => 0)

def quiescent_MixedRefIdeal [hMixedRefIdeal : Cert.MixedRefIdeal.Facts] : Prop :=
  ∀ (m : (ℓ : Loc Cert.MixedRefIdeal.nD Cert.MixedRefIdeal.τ Cert.MixedRefIdeal.sig) → Buf (Elt Ideal) ℓ) (g : Dev Cert.MixedRefIdeal.nD → PrngReg), Pre_MixedRefIdeal m →
    θ_run (Cert.MixedRefIdeal.defs (F := Ideal)) (onTc (τ := Cert.MixedRefIdeal.τ) (Cert.MixedRefIdeal.main (F := Ideal))) ⟨m, fun _ => 0, g⟩ (fun r => (∀ c : Dev Cert.MixedRefIdeal.nD,
      r.2.mem ((c.tc : Thread Cert.MixedRefIdeal.nD Cert.MixedRefIdeal.τ).loc Cert.MixedRefIdeal.main_arg0) = m ((c.tc : Thread Cert.MixedRefIdeal.nD Cert.MixedRefIdeal.τ).loc Cert.MixedRefIdeal.main_arg0)
      ∧ r.2.mem ((c.tc : Thread Cert.MixedRefIdeal.nD Cert.MixedRefIdeal.τ).loc Cert.MixedRefIdeal.main_arg1) = m ((c.tc : Thread Cert.MixedRefIdeal.nD Cert.MixedRefIdeal.τ).loc Cert.MixedRefIdeal.main_arg1)
      ∧ r.2.mem ((c.tc : Thread Cert.MixedRefIdeal.nD Cert.MixedRefIdeal.τ).loc Cert.MixedRefIdeal.main_arg2) = m ((c.tc : Thread Cert.MixedRefIdeal.nD Cert.MixedRefIdeal.τ).loc Cert.MixedRefIdeal.main_arg2)
      ∧ r.2.mem ((c.tc : Thread Cert.MixedRefIdeal.nD Cert.MixedRefIdeal.τ).loc Cert.MixedRefIdeal.main_arg3) = m ((c.tc : Thread Cert.MixedRefIdeal.nD Cert.MixedRefIdeal.τ).loc Cert.MixedRefIdeal.main_arg3)
      ∧ r.2.mem ((c.tc : Thread Cert.MixedRefIdeal.nD Cert.MixedRefIdeal.τ).loc Cert.MixedRefIdeal.main_arg4) = m ((c.tc : Thread Cert.MixedRefIdeal.nD Cert.MixedRefIdeal.τ).loc Cert.MixedRefIdeal.main_arg4)
      ∧ r.2.mem ((c.tc : Thread Cert.MixedRefIdeal.nD Cert.MixedRefIdeal.τ).loc Cert.MixedRefIdeal.main_arg5) = m ((c.tc : Thread Cert.MixedRefIdeal.nD Cert.MixedRefIdeal.τ).loc Cert.MixedRefIdeal.main_arg5)
      ∧ r.2.mem ((c.tc : Thread Cert.MixedRefIdeal.nD Cert.MixedRefIdeal.τ).loc Cert.MixedRefIdeal.main_arg6) = m ((c.tc : Thread Cert.MixedRefIdeal.nD Cert.MixedRefIdeal.τ).loc Cert.MixedRefIdeal.main_arg6)
      ∧ r.2.mem ((c.tc : Thread Cert.MixedRefIdeal.nD Cert.MixedRefIdeal.τ).loc Cert.MixedRefIdeal.main_arg7) = m ((c.tc : Thread Cert.MixedRefIdeal.nD Cert.MixedRefIdeal.τ).loc Cert.MixedRefIdeal.main_arg7))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5)
      ∧ r.2.mem ((c.tc : Thread Cert.Last.nD Cert.Last.τ).loc Cert.Last.main_arg6) = m ((c.tc : Thread Cert.Last.nD Cert.Last.τ).loc Cert.Last.main_arg6)
      ∧ r.2.mem ((c.tc : Thread Cert.Last.nD Cert.Last.τ).loc Cert.Last.main_arg7) = m ((c.tc : Thread Cert.Last.nD Cert.Last.τ).loc Cert.Last.main_arg7)
      ∧ r.2.mem ((c.tc : Thread Cert.Last.nD Cert.Last.τ).loc Cert.Last.main_arg8) = m ((c.tc : Thread Cert.Last.nD Cert.Last.τ).loc Cert.Last.main_arg8))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
      ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
      ∧ r.2.mem ((c.tc : Thread Cert.LastIdeal.nD Cert.LastIdeal.τ).loc Cert.LastIdeal.main_arg7) = m ((c.tc : Thread Cert.LastIdeal.nD Cert.LastIdeal.τ).loc Cert.LastIdeal.main_arg7)
      ∧ r.2.mem ((c.tc : Thread Cert.LastIdeal.nD Cert.LastIdeal.τ).loc Cert.LastIdeal.main_arg8) = m ((c.tc : Thread Cert.LastIdeal.nD Cert.LastIdeal.τ).loc Cert.LastIdeal.main_arg8))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5)
      ∧ r.2.mem ((c.tc : Thread Cert.LastRefIdeal.nD Cert.LastRefIdeal.τ).loc Cert.LastRefIdeal.main_arg6) = m ((c.tc : Thread Cert.LastRefIdeal.nD Cert.LastRefIdeal.τ).loc Cert.LastRefIdeal.main_arg6)
      ∧ r.2.mem ((c.tc : Thread Cert.LastRefIdeal.nD Cert.LastRefIdeal.τ).loc Cert.LastRefIdeal.main_arg7) = m ((c.tc : Thread Cert.LastRefIdeal.nD Cert.LastRefIdeal.τ).loc Cert.LastRefIdeal.main_arg7)
      ∧ r.2.mem ((c.tc : Thread Cert.LastRefIdeal.nD Cert.LastRefIdeal.τ).loc Cert.LastRefIdeal.main_arg8) = m ((c.tc : Thread Cert.LastRefIdeal.nD Cert.LastRefIdeal.τ).loc Cert.LastRefIdeal.main_arg8))
      ∧ r.2.sem = fun _ => 0)

def quiescent_Conf [hConf : Cert.Conf.Facts] : Prop :=
  ∀ (m : (ℓ : Loc Cert.Conf.nD Cert.Conf.τ Cert.Conf.sig) → Buf (Elt Bits) ℓ) (g : Dev Cert.Conf.nD → PrngReg), Pre_Conf m →
    θ_run (Cert.Conf.defs (F := Bits)) (onTc (τ := Cert.Conf.τ) (Cert.Conf.main (F := Bits))) ⟨m, fun _ => 0, g⟩ (fun r => (∀ c : Dev Cert.Conf.nD,
      r.2.mem ((c.tc : Thread Cert.Conf.nD Cert.Conf.τ).loc Cert.Conf.main_arg0) = m ((c.tc : Thread Cert.Conf.nD Cert.Conf.τ).loc Cert.Conf.main_arg0)
      ∧ r.2.mem ((c.tc : Thread Cert.Conf.nD Cert.Conf.τ).loc Cert.Conf.main_arg1) = m ((c.tc : Thread Cert.Conf.nD Cert.Conf.τ).loc Cert.Conf.main_arg1)
      ∧ r.2.mem ((c.tc : Thread Cert.Conf.nD Cert.Conf.τ).loc Cert.Conf.main_arg2) = m ((c.tc : Thread Cert.Conf.nD Cert.Conf.τ).loc Cert.Conf.main_arg2)
      ∧ r.2.mem ((c.tc : Thread Cert.Conf.nD Cert.Conf.τ).loc Cert.Conf.main_arg3) = m ((c.tc : Thread Cert.Conf.nD Cert.Conf.τ).loc Cert.Conf.main_arg3)
      ∧ r.2.mem ((c.tc : Thread Cert.Conf.nD Cert.Conf.τ).loc Cert.Conf.main_arg4) = m ((c.tc : Thread Cert.Conf.nD Cert.Conf.τ).loc Cert.Conf.main_arg4)
      ∧ r.2.mem ((c.tc : Thread Cert.Conf.nD Cert.Conf.τ).loc Cert.Conf.main_arg5) = m ((c.tc : Thread Cert.Conf.nD Cert.Conf.τ).loc Cert.Conf.main_arg5)
      ∧ r.2.mem ((c.tc : Thread Cert.Conf.nD Cert.Conf.τ).loc Cert.Conf.main_arg6) = m ((c.tc : Thread Cert.Conf.nD Cert.Conf.τ).loc Cert.Conf.main_arg6)
      ∧ r.2.mem ((c.tc : Thread Cert.Conf.nD Cert.Conf.τ).loc Cert.Conf.main_arg7) = m ((c.tc : Thread Cert.Conf.nD Cert.Conf.τ).loc Cert.Conf.main_arg7))
      ∧ r.2.sem = fun _ => 0)

def quiescent_ConfIdeal [hConfIdeal : Cert.ConfIdeal.Facts] : Prop :=
  ∀ (m : (ℓ : Loc Cert.ConfIdeal.nD Cert.ConfIdeal.τ Cert.ConfIdeal.sig) → Buf (Elt Ideal) ℓ) (g : Dev Cert.ConfIdeal.nD → PrngReg), Pre_ConfIdeal m →
    θ_run (Cert.ConfIdeal.defs (F := Ideal)) (onTc (τ := Cert.ConfIdeal.τ) (Cert.ConfIdeal.main (F := Ideal))) ⟨m, fun _ => 0, g⟩ (fun r => (∀ c : Dev Cert.ConfIdeal.nD,
      r.2.mem ((c.tc : Thread Cert.ConfIdeal.nD Cert.ConfIdeal.τ).loc Cert.ConfIdeal.main_arg0) = m ((c.tc : Thread Cert.ConfIdeal.nD Cert.ConfIdeal.τ).loc Cert.ConfIdeal.main_arg0)
      ∧ r.2.mem ((c.tc : Thread Cert.ConfIdeal.nD Cert.ConfIdeal.τ).loc Cert.ConfIdeal.main_arg1) = m ((c.tc : Thread Cert.ConfIdeal.nD Cert.ConfIdeal.τ).loc Cert.ConfIdeal.main_arg1)
      ∧ r.2.mem ((c.tc : Thread Cert.ConfIdeal.nD Cert.ConfIdeal.τ).loc Cert.ConfIdeal.main_arg2) = m ((c.tc : Thread Cert.ConfIdeal.nD Cert.ConfIdeal.τ).loc Cert.ConfIdeal.main_arg2)
      ∧ r.2.mem ((c.tc : Thread Cert.ConfIdeal.nD Cert.ConfIdeal.τ).loc Cert.ConfIdeal.main_arg3) = m ((c.tc : Thread Cert.ConfIdeal.nD Cert.ConfIdeal.τ).loc Cert.ConfIdeal.main_arg3)
      ∧ r.2.mem ((c.tc : Thread Cert.ConfIdeal.nD Cert.ConfIdeal.τ).loc Cert.ConfIdeal.main_arg4) = m ((c.tc : Thread Cert.ConfIdeal.nD Cert.ConfIdeal.τ).loc Cert.ConfIdeal.main_arg4)
      ∧ r.2.mem ((c.tc : Thread Cert.ConfIdeal.nD Cert.ConfIdeal.τ).loc Cert.ConfIdeal.main_arg5) = m ((c.tc : Thread Cert.ConfIdeal.nD Cert.ConfIdeal.τ).loc Cert.ConfIdeal.main_arg5)
      ∧ r.2.mem ((c.tc : Thread Cert.ConfIdeal.nD Cert.ConfIdeal.τ).loc Cert.ConfIdeal.main_arg6) = m ((c.tc : Thread Cert.ConfIdeal.nD Cert.ConfIdeal.τ).loc Cert.ConfIdeal.main_arg6)
      ∧ r.2.mem ((c.tc : Thread Cert.ConfIdeal.nD Cert.ConfIdeal.τ).loc Cert.ConfIdeal.main_arg7) = m ((c.tc : Thread Cert.ConfIdeal.nD Cert.ConfIdeal.τ).loc Cert.ConfIdeal.main_arg7))
      ∧ r.2.sem = fun _ => 0)

def quiescent_ConfRefIdeal [hConfRefIdeal : Cert.ConfRefIdeal.Facts] : Prop :=
  ∀ (m : (ℓ : Loc Cert.ConfRefIdeal.nD Cert.ConfRefIdeal.τ Cert.ConfRefIdeal.sig) → Buf (Elt Ideal) ℓ) (g : Dev Cert.ConfRefIdeal.nD → PrngReg), Pre_ConfRefIdeal m →
    θ_run (Cert.ConfRefIdeal.defs (F := Ideal)) (onTc (τ := Cert.ConfRefIdeal.τ) (Cert.ConfRefIdeal.main (F := Ideal))) ⟨m, fun _ => 0, g⟩ (fun r => (∀ c : Dev Cert.ConfRefIdeal.nD,
      r.2.mem ((c.tc : Thread Cert.ConfRefIdeal.nD Cert.ConfRefIdeal.τ).loc Cert.ConfRefIdeal.main_arg0) = m ((c.tc : Thread Cert.ConfRefIdeal.nD Cert.ConfRefIdeal.τ).loc Cert.ConfRefIdeal.main_arg0)
      ∧ r.2.mem ((c.tc : Thread Cert.ConfRefIdeal.nD Cert.ConfRefIdeal.τ).loc Cert.ConfRefIdeal.main_arg1) = m ((c.tc : Thread Cert.ConfRefIdeal.nD Cert.ConfRefIdeal.τ).loc Cert.ConfRefIdeal.main_arg1)
      ∧ r.2.mem ((c.tc : Thread Cert.ConfRefIdeal.nD Cert.ConfRefIdeal.τ).loc Cert.ConfRefIdeal.main_arg2) = m ((c.tc : Thread Cert.ConfRefIdeal.nD Cert.ConfRefIdeal.τ).loc Cert.ConfRefIdeal.main_arg2)
      ∧ r.2.mem ((c.tc : Thread Cert.ConfRefIdeal.nD Cert.ConfRefIdeal.τ).loc Cert.ConfRefIdeal.main_arg3) = m ((c.tc : Thread Cert.ConfRefIdeal.nD Cert.ConfRefIdeal.τ).loc Cert.ConfRefIdeal.main_arg3)
      ∧ r.2.mem ((c.tc : Thread Cert.ConfRefIdeal.nD Cert.ConfRefIdeal.τ).loc Cert.ConfRefIdeal.main_arg4) = m ((c.tc : Thread Cert.ConfRefIdeal.nD Cert.ConfRefIdeal.τ).loc Cert.ConfRefIdeal.main_arg4)
      ∧ r.2.mem ((c.tc : Thread Cert.ConfRefIdeal.nD Cert.ConfRefIdeal.τ).loc Cert.ConfRefIdeal.main_arg5) = m ((c.tc : Thread Cert.ConfRefIdeal.nD Cert.ConfRefIdeal.τ).loc Cert.ConfRefIdeal.main_arg5)
      ∧ r.2.mem ((c.tc : Thread Cert.ConfRefIdeal.nD Cert.ConfRefIdeal.τ).loc Cert.ConfRefIdeal.main_arg6) = m ((c.tc : Thread Cert.ConfRefIdeal.nD Cert.ConfRefIdeal.τ).loc Cert.ConfRefIdeal.main_arg6)
      ∧ r.2.mem ((c.tc : Thread Cert.ConfRefIdeal.nD Cert.ConfRefIdeal.τ).loc Cert.ConfRefIdeal.main_arg7) = m ((c.tc : Thread Cert.ConfRefIdeal.nD Cert.ConfRefIdeal.τ).loc Cert.ConfRefIdeal.main_arg7))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v21) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Mixed_MixedIdeal : Prop :=
  True

def algebraic_MixedIdeal_MixedRefIdeal [hMixedIdeal : Cert.MixedIdeal.Facts] [hMixedRefIdeal : Cert.MixedRefIdeal.Facts] : Prop :=
  ∀ (m : (ℓ : Loc Cert.MixedIdeal.nD Cert.MixedIdeal.τ Cert.MixedIdeal.sig) → Buf (Elt Ideal) ℓ) (g : Dev Cert.MixedIdeal.nD → PrngReg)
    (m' : (ℓ : Loc Cert.MixedRefIdeal.nD Cert.MixedRefIdeal.τ Cert.MixedRefIdeal.sig) → Buf (Elt Ideal) ℓ) (g' : Dev Cert.MixedRefIdeal.nD → PrngReg), Pre_MixedIdeal m →
    (∀ c : Dev Cert.MixedIdeal.nD,
      m' ((c.tc : Thread Cert.MixedRefIdeal.nD Cert.MixedRefIdeal.τ).loc Cert.MixedRefIdeal.main_arg0) = m ((c.tc : Thread Cert.MixedIdeal.nD Cert.MixedIdeal.τ).loc Cert.MixedIdeal.main_arg0)
      ∧ m' ((c.tc : Thread Cert.MixedRefIdeal.nD Cert.MixedRefIdeal.τ).loc Cert.MixedRefIdeal.main_arg1) = m ((c.tc : Thread Cert.MixedIdeal.nD Cert.MixedIdeal.τ).loc Cert.MixedIdeal.main_arg1)
      ∧ m' ((c.tc : Thread Cert.MixedRefIdeal.nD Cert.MixedRefIdeal.τ).loc Cert.MixedRefIdeal.main_arg2) = m ((c.tc : Thread Cert.MixedIdeal.nD Cert.MixedIdeal.τ).loc Cert.MixedIdeal.main_arg2)
      ∧ m' ((c.tc : Thread Cert.MixedRefIdeal.nD Cert.MixedRefIdeal.τ).loc Cert.MixedRefIdeal.main_arg3) = m ((c.tc : Thread Cert.MixedIdeal.nD Cert.MixedIdeal.τ).loc Cert.MixedIdeal.main_arg3)
      ∧ m' ((c.tc : Thread Cert.MixedRefIdeal.nD Cert.MixedRefIdeal.τ).loc Cert.MixedRefIdeal.main_arg4) = m ((c.tc : Thread Cert.MixedIdeal.nD Cert.MixedIdeal.τ).loc Cert.MixedIdeal.main_arg4)
      ∧ m' ((c.tc : Thread Cert.MixedRefIdeal.nD Cert.MixedRefIdeal.τ).loc Cert.MixedRefIdeal.main_arg5) = m ((c.tc : Thread Cert.MixedIdeal.nD Cert.MixedIdeal.τ).loc Cert.MixedIdeal.main_arg5)
      ∧ m' ((c.tc : Thread Cert.MixedRefIdeal.nD Cert.MixedRefIdeal.τ).loc Cert.MixedRefIdeal.main_arg6) = m ((c.tc : Thread Cert.MixedIdeal.nD Cert.MixedIdeal.τ).loc Cert.MixedIdeal.main_arg6)
      ∧ m' ((c.tc : Thread Cert.MixedRefIdeal.nD Cert.MixedRefIdeal.τ).loc Cert.MixedRefIdeal.main_arg7) = m ((c.tc : Thread Cert.MixedIdeal.nD Cert.MixedIdeal.τ).loc Cert.MixedIdeal.main_arg7)) →
    ∃ (v0 : (c : Dev Cert.MixedIdeal.nD) → Buf (Elt Ideal) ((c.tc : Thread Cert.MixedIdeal.nD Cert.MixedIdeal.τ).loc Cert.MixedIdeal.main_v9)),
      θ_run (Cert.MixedIdeal.defs (F := Ideal)) (onTc (τ := Cert.MixedIdeal.τ) (Cert.MixedIdeal.main (F := Ideal))) ⟨m, fun _ => 0, g⟩ (fun r => ∀ c : Dev Cert.MixedIdeal.nD,
          r.2.mem ((c.tc : Thread Cert.MixedIdeal.nD Cert.MixedIdeal.τ).loc Cert.MixedIdeal.main_v9) = v0 c
          ∧ r.2.mem ((c.tc : Thread Cert.MixedIdeal.nD Cert.MixedIdeal.τ).loc Cert.MixedIdeal.main_arg0) = m ((c.tc : Thread Cert.MixedIdeal.nD Cert.MixedIdeal.τ).loc Cert.MixedIdeal.main_arg0)
          ∧ r.2.mem ((c.tc : Thread Cert.MixedIdeal.nD Cert.MixedIdeal.τ).loc Cert.MixedIdeal.main_arg1) = m ((c.tc : Thread Cert.MixedIdeal.nD Cert.MixedIdeal.τ).loc Cert.MixedIdeal.main_arg1)
          ∧ r.2.mem ((c.tc : Thread Cert.MixedIdeal.nD Cert.MixedIdeal.τ).loc Cert.MixedIdeal.main_arg2) = m ((c.tc : Thread Cert.MixedIdeal.nD Cert.MixedIdeal.τ).loc Cert.MixedIdeal.main_arg2)
          ∧ r.2.mem ((c.tc : Thread Cert.MixedIdeal.nD Cert.MixedIdeal.τ).loc Cert.MixedIdeal.main_arg3) = m ((c.tc : Thread Cert.MixedIdeal.nD Cert.MixedIdeal.τ).loc Cert.MixedIdeal.main_arg3)
          ∧ r.2.mem ((c.tc : Thread Cert.MixedIdeal.nD Cert.MixedIdeal.τ).loc Cert.MixedIdeal.main_arg4) = m ((c.tc : Thread Cert.MixedIdeal.nD Cert.MixedIdeal.τ).loc Cert.MixedIdeal.main_arg4)
          ∧ r.2.mem ((c.tc : Thread Cert.MixedIdeal.nD Cert.MixedIdeal.τ).loc Cert.MixedIdeal.main_arg5) = m ((c.tc : Thread Cert.MixedIdeal.nD Cert.MixedIdeal.τ).loc Cert.MixedIdeal.main_arg5)
          ∧ r.2.mem ((c.tc : Thread Cert.MixedIdeal.nD Cert.MixedIdeal.τ).loc Cert.MixedIdeal.main_arg6) = m ((c.tc : Thread Cert.MixedIdeal.nD Cert.MixedIdeal.τ).loc Cert.MixedIdeal.main_arg6)
          ∧ r.2.mem ((c.tc : Thread Cert.MixedIdeal.nD Cert.MixedIdeal.τ).loc Cert.MixedIdeal.main_arg7) = m ((c.tc : Thread Cert.MixedIdeal.nD Cert.MixedIdeal.τ).loc Cert.MixedIdeal.main_arg7))
      ∧ θ_run (Cert.MixedRefIdeal.defs (F := Ideal)) (onTc (τ := Cert.MixedRefIdeal.τ) (Cert.MixedRefIdeal.main (F := Ideal))) ⟨m', fun _ => 0, g'⟩ (fun r => ∀ c : Dev Cert.MixedRefIdeal.nD,
          r.2.mem ((c.tc : Thread Cert.MixedRefIdeal.nD Cert.MixedRefIdeal.τ).loc Cert.MixedRefIdeal.main_v26) = v0 c
          ∧ r.2.mem ((c.tc : Thread Cert.MixedRefIdeal.nD Cert.MixedRefIdeal.τ).loc Cert.MixedRefIdeal.main_arg0) = m' ((c.tc : Thread Cert.MixedRefIdeal.nD Cert.MixedRefIdeal.τ).loc Cert.MixedRefIdeal.main_arg0)
          ∧ r.2.mem ((c.tc : Thread Cert.MixedRefIdeal.nD Cert.MixedRefIdeal.τ).loc Cert.MixedRefIdeal.main_arg1) = m' ((c.tc : Thread Cert.MixedRefIdeal.nD Cert.MixedRefIdeal.τ).loc Cert.MixedRefIdeal.main_arg1)
          ∧ r.2.mem ((c.tc : Thread Cert.MixedRefIdeal.nD Cert.MixedRefIdeal.τ).loc Cert.MixedRefIdeal.main_arg2) = m' ((c.tc : Thread Cert.MixedRefIdeal.nD Cert.MixedRefIdeal.τ).loc Cert.MixedRefIdeal.main_arg2)
          ∧ r.2.mem ((c.tc : Thread Cert.MixedRefIdeal.nD Cert.MixedRefIdeal.τ).loc Cert.MixedRefIdeal.main_arg3) = m' ((c.tc : Thread Cert.MixedRefIdeal.nD Cert.MixedRefIdeal.τ).loc Cert.MixedRefIdeal.main_arg3)
          ∧ r.2.mem ((c.tc : Thread Cert.MixedRefIdeal.nD Cert.MixedRefIdeal.τ).loc Cert.MixedRefIdeal.main_arg4) = m' ((c.tc : Thread Cert.MixedRefIdeal.nD Cert.MixedRefIdeal.τ).loc Cert.MixedRefIdeal.main_arg4)
          ∧ r.2.mem ((c.tc : Thread Cert.MixedRefIdeal.nD Cert.MixedRefIdeal.τ).loc Cert.MixedRefIdeal.main_arg5) = m' ((c.tc : Thread Cert.MixedRefIdeal.nD Cert.MixedRefIdeal.τ).loc Cert.MixedRefIdeal.main_arg5)
          ∧ r.2.mem ((c.tc : Thread Cert.MixedRefIdeal.nD Cert.MixedRefIdeal.τ).loc Cert.MixedRefIdeal.main_arg6) = m' ((c.tc : Thread Cert.MixedRefIdeal.nD Cert.MixedRefIdeal.τ).loc Cert.MixedRefIdeal.main_arg6)
          ∧ r.2.mem ((c.tc : Thread Cert.MixedRefIdeal.nD Cert.MixedRefIdeal.τ).loc Cert.MixedRefIdeal.main_arg7) = m' ((c.tc : Thread Cert.MixedRefIdeal.nD Cert.MixedRefIdeal.τ).loc Cert.MixedRefIdeal.main_arg7))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)
      ∧ m' ((c.tc : Thread Cert.LastRefIdeal.nD Cert.LastRefIdeal.τ).loc Cert.LastRefIdeal.main_arg5) = m ((c.tc : Thread Cert.LastIdeal.nD Cert.LastIdeal.τ).loc Cert.LastIdeal.main_arg5)
      ∧ m' ((c.tc : Thread Cert.LastRefIdeal.nD Cert.LastRefIdeal.τ).loc Cert.LastRefIdeal.main_arg6) = m ((c.tc : Thread Cert.LastIdeal.nD Cert.LastIdeal.τ).loc Cert.LastIdeal.main_arg6)
      ∧ m' ((c.tc : Thread Cert.LastRefIdeal.nD Cert.LastRefIdeal.τ).loc Cert.LastRefIdeal.main_arg7) = m ((c.tc : Thread Cert.LastIdeal.nD Cert.LastIdeal.τ).loc Cert.LastIdeal.main_arg7)
      ∧ m' ((c.tc : Thread Cert.LastRefIdeal.nD Cert.LastRefIdeal.τ).loc Cert.LastRefIdeal.main_arg8) = m ((c.tc : Thread Cert.LastIdeal.nD Cert.LastIdeal.τ).loc Cert.LastIdeal.main_arg8)) →
    ∃ (v0 : (c : Dev Cert.LastIdeal.nD) → Buf (Elt Ideal) ((c.tc : Thread Cert.LastIdeal.nD Cert.LastIdeal.τ).loc Cert.LastIdeal.main_v8)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v8) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
          ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
          ∧ r.2.mem ((c.tc : Thread Cert.LastIdeal.nD Cert.LastIdeal.τ).loc Cert.LastIdeal.main_arg7) = m ((c.tc : Thread Cert.LastIdeal.nD Cert.LastIdeal.τ).loc Cert.LastIdeal.main_arg7)
          ∧ r.2.mem ((c.tc : Thread Cert.LastIdeal.nD Cert.LastIdeal.τ).loc Cert.LastIdeal.main_arg8) = m ((c.tc : Thread Cert.LastIdeal.nD Cert.LastIdeal.τ).loc Cert.LastIdeal.main_arg8))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v40) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4)
          ∧ r.2.mem ((c.tc : Thread Cert.LastRefIdeal.nD Cert.LastRefIdeal.τ).loc Cert.LastRefIdeal.main_arg5) = m' ((c.tc : Thread Cert.LastRefIdeal.nD Cert.LastRefIdeal.τ).loc Cert.LastRefIdeal.main_arg5)
          ∧ r.2.mem ((c.tc : Thread Cert.LastRefIdeal.nD Cert.LastRefIdeal.τ).loc Cert.LastRefIdeal.main_arg6) = m' ((c.tc : Thread Cert.LastRefIdeal.nD Cert.LastRefIdeal.τ).loc Cert.LastRefIdeal.main_arg6)
          ∧ r.2.mem ((c.tc : Thread Cert.LastRefIdeal.nD Cert.LastRefIdeal.τ).loc Cert.LastRefIdeal.main_arg7) = m' ((c.tc : Thread Cert.LastRefIdeal.nD Cert.LastRefIdeal.τ).loc Cert.LastRefIdeal.main_arg7)
          ∧ r.2.mem ((c.tc : Thread Cert.LastRefIdeal.nD Cert.LastRefIdeal.τ).loc Cert.LastRefIdeal.main_arg8) = m' ((c.tc : Thread Cert.LastRefIdeal.nD Cert.LastRefIdeal.τ).loc Cert.LastRefIdeal.main_arg8))

def preserves_Conf_ConfIdeal : Prop :=
  True

def algebraic_ConfIdeal_ConfRefIdeal [hConfIdeal : Cert.ConfIdeal.Facts] [hConfRefIdeal : Cert.ConfRefIdeal.Facts] : Prop :=
  ∀ (m : (ℓ : Loc Cert.ConfIdeal.nD Cert.ConfIdeal.τ Cert.ConfIdeal.sig) → Buf (Elt Ideal) ℓ) (g : Dev Cert.ConfIdeal.nD → PrngReg)
    (m' : (ℓ : Loc Cert.ConfRefIdeal.nD Cert.ConfRefIdeal.τ Cert.ConfRefIdeal.sig) → Buf (Elt Ideal) ℓ) (g' : Dev Cert.ConfRefIdeal.nD → PrngReg), Pre_ConfIdeal m →
    (∀ c : Dev Cert.ConfIdeal.nD,
      m' ((c.tc : Thread Cert.ConfRefIdeal.nD Cert.ConfRefIdeal.τ).loc Cert.ConfRefIdeal.main_arg0) = m ((c.tc : Thread Cert.ConfIdeal.nD Cert.ConfIdeal.τ).loc Cert.ConfIdeal.main_arg0)
      ∧ m' ((c.tc : Thread Cert.ConfRefIdeal.nD Cert.ConfRefIdeal.τ).loc Cert.ConfRefIdeal.main_arg1) = m ((c.tc : Thread Cert.ConfIdeal.nD Cert.ConfIdeal.τ).loc Cert.ConfIdeal.main_arg1)
      ∧ m' ((c.tc : Thread Cert.ConfRefIdeal.nD Cert.ConfRefIdeal.τ).loc Cert.ConfRefIdeal.main_arg2) = m ((c.tc : Thread Cert.ConfIdeal.nD Cert.ConfIdeal.τ).loc Cert.ConfIdeal.main_arg2)
      ∧ m' ((c.tc : Thread Cert.ConfRefIdeal.nD Cert.ConfRefIdeal.τ).loc Cert.ConfRefIdeal.main_arg3) = m ((c.tc : Thread Cert.ConfIdeal.nD Cert.ConfIdeal.τ).loc Cert.ConfIdeal.main_arg3)
      ∧ m' ((c.tc : Thread Cert.ConfRefIdeal.nD Cert.ConfRefIdeal.τ).loc Cert.ConfRefIdeal.main_arg4) = m ((c.tc : Thread Cert.ConfIdeal.nD Cert.ConfIdeal.τ).loc Cert.ConfIdeal.main_arg4)
      ∧ m' ((c.tc : Thread Cert.ConfRefIdeal.nD Cert.ConfRefIdeal.τ).loc Cert.ConfRefIdeal.main_arg5) = m ((c.tc : Thread Cert.ConfIdeal.nD Cert.ConfIdeal.τ).loc Cert.ConfIdeal.main_arg5)
      ∧ m' ((c.tc : Thread Cert.ConfRefIdeal.nD Cert.ConfRefIdeal.τ).loc Cert.ConfRefIdeal.main_arg6) = m ((c.tc : Thread Cert.ConfIdeal.nD Cert.ConfIdeal.τ).loc Cert.ConfIdeal.main_arg6)
      ∧ m' ((c.tc : Thread Cert.ConfRefIdeal.nD Cert.ConfRefIdeal.τ).loc Cert.ConfRefIdeal.main_arg7) = m ((c.tc : Thread Cert.ConfIdeal.nD Cert.ConfIdeal.τ).loc Cert.ConfIdeal.main_arg7)) →
    ∃ (v0 : (c : Dev Cert.ConfIdeal.nD) → Buf (Elt Ideal) ((c.tc : Thread Cert.ConfIdeal.nD Cert.ConfIdeal.τ).loc Cert.ConfIdeal.main_v6)),
      θ_run (Cert.ConfIdeal.defs (F := Ideal)) (onTc (τ := Cert.ConfIdeal.τ) (Cert.ConfIdeal.main (F := Ideal))) ⟨m, fun _ => 0, g⟩ (fun r => ∀ c : Dev Cert.ConfIdeal.nD,
          r.2.mem ((c.tc : Thread Cert.ConfIdeal.nD Cert.ConfIdeal.τ).loc Cert.ConfIdeal.main_v6) = v0 c
          ∧ r.2.mem ((c.tc : Thread Cert.ConfIdeal.nD Cert.ConfIdeal.τ).loc Cert.ConfIdeal.main_arg0) = m ((c.tc : Thread Cert.ConfIdeal.nD Cert.ConfIdeal.τ).loc Cert.ConfIdeal.main_arg0)
          ∧ r.2.mem ((c.tc : Thread Cert.ConfIdeal.nD Cert.ConfIdeal.τ).loc Cert.ConfIdeal.main_arg1) = m ((c.tc : Thread Cert.ConfIdeal.nD Cert.ConfIdeal.τ).loc Cert.ConfIdeal.main_arg1)
          ∧ r.2.mem ((c.tc : Thread Cert.ConfIdeal.nD Cert.ConfIdeal.τ).loc Cert.ConfIdeal.main_arg2) = m ((c.tc : Thread Cert.ConfIdeal.nD Cert.ConfIdeal.τ).loc Cert.ConfIdeal.main_arg2)
          ∧ r.2.mem ((c.tc : Thread Cert.ConfIdeal.nD Cert.ConfIdeal.τ).loc Cert.ConfIdeal.main_arg3) = m ((c.tc : Thread Cert.ConfIdeal.nD Cert.ConfIdeal.τ).loc Cert.ConfIdeal.main_arg3)
          ∧ r.2.mem ((c.tc : Thread Cert.ConfIdeal.nD Cert.ConfIdeal.τ).loc Cert.ConfIdeal.main_arg4) = m ((c.tc : Thread Cert.ConfIdeal.nD Cert.ConfIdeal.τ).loc Cert.ConfIdeal.main_arg4)
          ∧ r.2.mem ((c.tc : Thread Cert.ConfIdeal.nD Cert.ConfIdeal.τ).loc Cert.ConfIdeal.main_arg5) = m ((c.tc : Thread Cert.ConfIdeal.nD Cert.ConfIdeal.τ).loc Cert.ConfIdeal.main_arg5)
          ∧ r.2.mem ((c.tc : Thread Cert.ConfIdeal.nD Cert.ConfIdeal.τ).loc Cert.ConfIdeal.main_arg6) = m ((c.tc : Thread Cert.ConfIdeal.nD Cert.ConfIdeal.τ).loc Cert.ConfIdeal.main_arg6)
          ∧ r.2.mem ((c.tc : Thread Cert.ConfIdeal.nD Cert.ConfIdeal.τ).loc Cert.ConfIdeal.main_arg7) = m ((c.tc : Thread Cert.ConfIdeal.nD Cert.ConfIdeal.τ).loc Cert.ConfIdeal.main_arg7))
      ∧ θ_run (Cert.ConfRefIdeal.defs (F := Ideal)) (onTc (τ := Cert.ConfRefIdeal.τ) (Cert.ConfRefIdeal.main (F := Ideal))) ⟨m', fun _ => 0, g'⟩ (fun r => ∀ c : Dev Cert.ConfRefIdeal.nD,
          r.2.mem ((c.tc : Thread Cert.ConfRefIdeal.nD Cert.ConfRefIdeal.τ).loc Cert.ConfRefIdeal.main_v269) = v0 c
          ∧ r.2.mem ((c.tc : Thread Cert.ConfRefIdeal.nD Cert.ConfRefIdeal.τ).loc Cert.ConfRefIdeal.main_arg0) = m' ((c.tc : Thread Cert.ConfRefIdeal.nD Cert.ConfRefIdeal.τ).loc Cert.ConfRefIdeal.main_arg0)
          ∧ r.2.mem ((c.tc : Thread Cert.ConfRefIdeal.nD Cert.ConfRefIdeal.τ).loc Cert.ConfRefIdeal.main_arg1) = m' ((c.tc : Thread Cert.ConfRefIdeal.nD Cert.ConfRefIdeal.τ).loc Cert.ConfRefIdeal.main_arg1)
          ∧ r.2.mem ((c.tc : Thread Cert.ConfRefIdeal.nD Cert.ConfRefIdeal.τ).loc Cert.ConfRefIdeal.main_arg2) = m' ((c.tc : Thread Cert.ConfRefIdeal.nD Cert.ConfRefIdeal.τ).loc Cert.ConfRefIdeal.main_arg2)
          ∧ r.2.mem ((c.tc : Thread Cert.ConfRefIdeal.nD Cert.ConfRefIdeal.τ).loc Cert.ConfRefIdeal.main_arg3) = m' ((c.tc : Thread Cert.ConfRefIdeal.nD Cert.ConfRefIdeal.τ).loc Cert.ConfRefIdeal.main_arg3)
          ∧ r.2.mem ((c.tc : Thread Cert.ConfRefIdeal.nD Cert.ConfRefIdeal.τ).loc Cert.ConfRefIdeal.main_arg4) = m' ((c.tc : Thread Cert.ConfRefIdeal.nD Cert.ConfRefIdeal.τ).loc Cert.ConfRefIdeal.main_arg4)
          ∧ r.2.mem ((c.tc : Thread Cert.ConfRefIdeal.nD Cert.ConfRefIdeal.τ).loc Cert.ConfRefIdeal.main_arg5) = m' ((c.tc : Thread Cert.ConfRefIdeal.nD Cert.ConfRefIdeal.τ).loc Cert.ConfRefIdeal.main_arg5)
          ∧ r.2.mem ((c.tc : Thread Cert.ConfRefIdeal.nD Cert.ConfRefIdeal.τ).loc Cert.ConfRefIdeal.main_arg6) = m' ((c.tc : Thread Cert.ConfRefIdeal.nD Cert.ConfRefIdeal.τ).loc Cert.ConfRefIdeal.main_arg6)
          ∧ r.2.mem ((c.tc : Thread Cert.ConfRefIdeal.nD Cert.ConfRefIdeal.τ).loc Cert.ConfRefIdeal.main_arg7) = m' ((c.tc : Thread Cert.ConfRefIdeal.nD Cert.ConfRefIdeal.τ).loc Cert.ConfRefIdeal.main_arg7))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)) →
    ∃ (v0 : (c : Dev Cert.MixIdeal.nD) → Buf (Elt Ideal) ((c.tc : Thread Cert.MixIdeal.nD Cert.MixIdeal.τ).loc Cert.MixIdeal.main_v16_6)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v16_6) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v41) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4))

def Claim : Prop :=
  ∃ (hDsa : Cert.Dsa.Facts) (hFfn : Cert.Ffn.Facts) (hFfnIdeal : Cert.FfnIdeal.Facts) (hFfnRefIdeal : Cert.FfnRefIdeal.Facts) (hMixed : Cert.Mixed.Facts) (hMixedIdeal : Cert.MixedIdeal.Facts) (hMixedRefIdeal : Cert.MixedRefIdeal.Facts) (hLast : Cert.Last.Facts) (hLastIdeal : Cert.LastIdeal.Facts) (hLastRefIdeal : Cert.LastRefIdeal.Facts) (hConf : Cert.Conf.Facts) (hConfIdeal : Cert.ConfIdeal.Facts) (hConfRefIdeal : Cert.ConfRefIdeal.Facts) (hMix : Cert.Mix.Facts) (hMixIdeal : Cert.MixIdeal.Facts) (hMixRefIdeal : Cert.MixRefIdeal.Facts),
    quiescent_Dsa (hDsa := hDsa)
    ∧ quiescent_Ffn (hFfn := hFfn)
    ∧ quiescent_FfnIdeal (hFfnIdeal := hFfnIdeal)
    ∧ quiescent_FfnRefIdeal (hFfnRefIdeal := hFfnRefIdeal)
    ∧ quiescent_Mixed (hMixed := hMixed)
    ∧ quiescent_MixedIdeal (hMixedIdeal := hMixedIdeal)
    ∧ quiescent_MixedRefIdeal (hMixedRefIdeal := hMixedRefIdeal)
    ∧ quiescent_Last (hLast := hLast)
    ∧ quiescent_LastIdeal (hLastIdeal := hLastIdeal)
    ∧ quiescent_LastRefIdeal (hLastRefIdeal := hLastRefIdeal)
    ∧ quiescent_Conf (hConf := hConf)
    ∧ quiescent_ConfIdeal (hConfIdeal := hConfIdeal)
    ∧ quiescent_ConfRefIdeal (hConfRefIdeal := hConfRefIdeal)
    ∧ quiescent_Mix (hMix := hMix)
    ∧ quiescent_MixIdeal (hMixIdeal := hMixIdeal)
    ∧ quiescent_MixRefIdeal (hMixRefIdeal := hMixRefIdeal)
    ∧ preserves_Ffn_FfnIdeal
    ∧ algebraic_FfnIdeal_FfnRefIdeal (hFfnIdeal := hFfnIdeal) (hFfnRefIdeal := hFfnRefIdeal)
    ∧ preserves_Mixed_MixedIdeal
    ∧ algebraic_MixedIdeal_MixedRefIdeal (hMixedIdeal := hMixedIdeal) (hMixedRefIdeal := hMixedRefIdeal)
    ∧ preserves_Last_LastIdeal
    ∧ algebraic_LastIdeal_LastRefIdeal (hLastIdeal := hLastIdeal) (hLastRefIdeal := hLastRefIdeal)
    ∧ preserves_Conf_ConfIdeal
    ∧ algebraic_ConfIdeal_ConfRefIdeal (hConfIdeal := hConfIdeal) (hConfRefIdeal := hConfRefIdeal)
    ∧ preserves_Mix_MixIdeal
    ∧ algebraic_MixIdeal_MixRefIdeal (hMixIdeal := hMixIdeal) (hMixRefIdeal := hMixRefIdeal)
-- ==== Dsa.lean ====
abbrev S8x8192x512 : Shape := ⟨3, ![8, 8192, 512]⟩
abbrev S8x8192x256 : Shape := ⟨3, ![8, 8192, 256]⟩
abbrev S8x8x8192 : Shape := ⟨3, ![8, 8, 8192]⟩
abbrev S8x8192x128 : Shape := ⟨3, ![8, 8192, 128]⟩
abbrev S8x16x72x512 : Shape := ⟨4, ![8, 16, 72, 512]⟩
abbrev S8x8192x32 : Shape := ⟨3, ![8, 8192, 32]⟩
abbrev S1x128x512 : Shape := ⟨3, ![1, 128, 512]⟩
abbrev S1x128x256 : Shape := ⟨3, ![1, 128, 256]⟩
abbrev S1x8x128 : Shape := ⟨3, ![1, 8, 128]⟩
abbrev S1x8192x128 : Shape := ⟨3, ![1, 8192, 128]⟩
abbrev S1x16x72x512 : Shape := ⟨4, ![1, 16, 72, 512]⟩
abbrev S1x8192x32 : Shape := ⟨3, ![1, 8192, 32]⟩
abbrev S1024x256 : Shape := ⟨2, ![1024, 256]⟩
abbrev S1024x32 : Shape := ⟨2, ![1024, 32]⟩
abbrev S16x512x128 : Shape := ⟨3, ![16, 512, 128]⟩
abbrev S2x1x128 : Shape := ⟨3, ![2, 1, 128]⟩
abbrev S72x1024 : Shape := ⟨2, ![72, 1024]⟩
abbrev S512x1024 : Shape := ⟨2, ![512, 1024]⟩
abbrev S512x128 : Shape := ⟨2, ![512, 128]⟩
abbrev S128x128 : Shape := ⟨2, ![128, 128]⟩
abbrev S1x128x64 : Shape := ⟨3, ![1, 128, 64]⟩
abbrev S128x64 : Shape := ⟨2, ![128, 64]⟩
abbrev S1x128x32 : Shape := ⟨3, ![1, 128, 32]⟩
abbrev S128x32 : Shape := ⟨2, ![128, 32]⟩
abbrev S8x128 : Shape := ⟨2, ![8, 128]⟩
abbrev S1x512x32 : Shape := ⟨3, ![1, 512, 32]⟩
abbrev S512x32 : Shape := ⟨2, ![512, 32]⟩
abbrev S256x32 : Shape := ⟨2, ![256, 32]⟩
abbrev S512x256 : Shape := ⟨2, ![512, 256]⟩
abbrev S1x128 : Shape := ⟨2, ![1, 128]⟩
abbrev S1x512x128 : Shape := ⟨3, ![1, 512, 128]⟩
abbrev S1x1x128 : Shape := ⟨3, ![1, 1, 128]⟩
abbrev S16x128 : Shape := ⟨2, ![16, 128]⟩
abbrev S1x16x128 : Shape := ⟨3, ![1, 16, 128]⟩
abbrev S128 : Shape := ⟨1, ![128]⟩
abbrev S1 : Shape := ⟨1, ![1]⟩
abbrev S1x1x1 : Shape := ⟨3, ![1, 1, 1]⟩
abbrev S512x512 : Shape := ⟨2, ![512, 512]⟩
abbrev S1x256 : Shape := ⟨2, ![1, 256]⟩
abbrev S1x1x72x512 : Shape := ⟨4, ![1, 1, 72, 512]⟩
abbrev S72x512 : Shape := ⟨2, ![72, 512]⟩
abbrev S256x256 : Shape := ⟨2, ![256, 256]⟩
abbrev S256 : Shape := ⟨1, ![256]⟩
abbrev S72x256 : Shape := ⟨2, ![72, 256]⟩
abbrev S1x1024 : Shape := ⟨2, ![1, 1024]⟩
abbrev S64x1024 : Shape := ⟨2, ![64, 1024]⟩
abbrev S64x128 : Shape := ⟨2, ![64, 128]⟩

abbrev nBuf : Space → Nat
  | .hbm => 7
  | .vmem => 24
  | .smem => 0
  | _ => 0

abbrev bufTy : (tb : Table) → Fin (tcTables nBuf tb) → BufTy
  | .hbm, ⟨0, _⟩ => ⟨S8x8192x512, .bf16⟩
  | .hbm, ⟨1, _⟩ => ⟨S8x8192x256, .bf16⟩
  | .hbm, ⟨2, _⟩ => ⟨S8x8x8192, .f32⟩
  | .hbm, ⟨3, _⟩ => ⟨S8x8192x128, .bf16⟩
  | .hbm, ⟨4, _⟩ => ⟨S8x16x72x512, .bf16⟩
  | .hbm, ⟨5, _⟩ => ⟨S8x8192x32, .bf16⟩
  | .hbm, ⟨6, _⟩ => ⟨S8x8192x512, .bf16⟩
  | .local _ .vmem, ⟨0, _⟩ => ⟨S1x128x512, .bf16⟩
  | .local _ .vmem, ⟨1, _⟩ => ⟨S1x128x512, .bf16⟩
  | .local _ .vmem, ⟨2, _⟩ => ⟨S1x128x256, .bf16⟩
  | .local _ .vmem, ⟨3, _⟩ => ⟨S1x128x256, .bf16⟩
  | .local _ .vmem, ⟨4, _⟩ => ⟨S1x8x128, .f32⟩
  | .local _ .vmem, ⟨5, _⟩ => ⟨S1x8x128, .f32⟩
  | .local _ .vmem, ⟨6, _⟩ => ⟨S1x8192x128, .bf16⟩
  | .local _ .vmem, ⟨7, _⟩ => ⟨S1x8192x128, .bf16⟩
  | .local _ .vmem, ⟨8, _⟩ => ⟨S1x16x72x512, .bf16⟩
  | .local _ .vmem, ⟨9, _⟩ => ⟨S1x16x72x512, .bf16⟩
  | .local _ .vmem, ⟨10, _⟩ => ⟨S1x8192x32, .bf16⟩
  | .local _ .vmem, ⟨11, _⟩ => ⟨S1x8192x32, .bf16⟩
  | .local _ .vmem, ⟨12, _⟩ => ⟨S1x128x512, .bf16⟩
  | .local _ .vmem, ⟨13, _⟩ => ⟨S1x128x512, .bf16⟩
  | .local _ .vmem, ⟨14, _⟩ => ⟨S1024x256, .bf16⟩
  | .local _ .vmem, ⟨15, _⟩ => ⟨S1024x32, .bf16⟩
  | .local _ .vmem, ⟨16, _⟩ => ⟨S16x512x128, .i16⟩
  | .local _ .vmem, ⟨17, _⟩ => ⟨S16x512x128, .i16⟩
  | .local _ .vmem, ⟨18, _⟩ => ⟨S16x512x128, .i16⟩
  | .local _ .vmem, ⟨19, _⟩ => ⟨S2x1x128, .i32⟩
  | .local _ .vmem, ⟨20, _⟩ => ⟨S2x1x128, .f32⟩
  | .local _ .vmem, ⟨21, _⟩ => ⟨S72x1024, .f32⟩
  | .local _ .vmem, ⟨22, _⟩ => ⟨S512x1024, .f32⟩
  | .local _ .vmem, ⟨23, _⟩ => ⟨S512x1024, .f32⟩
  | _, _ => ⟨S8x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_scratch8 : Ref sig .tc := ⟨.vmem, 22, rfl⟩
abbrev cc0_scratch9 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [BitOps F]

abbrev grid0 : Pipeline.Grid := ⟨2, ![8, 64], ![false, false]⟩

@[reducible] def k0_t1_loop (i : grid0.Coords) : Scf.Loop 32 :=
  let c0_i32_125 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_8 : BitVec 32 := 0#32
  let v23 : BitVec 1 := Scalar.cmpi .sgt v21 c0_i32_8
  let v24 : BitVec 32 := Scalar.extui v23
  let c0_i32_9 : BitVec 32 := 0#32
  let v25 : BitVec 1 := Scalar.cmpi .slt v21 c0_i32_9
  let v26 : BitVec 32 := Scalar.extui v25
  let v27 : BitVec 32 := Scalar.subi v24 v26
  let c2_i32 : BitVec 32 := 2#32
  let c0_i32_10 : BitVec 32 := 0#32
  let v28 : BitVec 1 := Scalar.cmpi .sgt c2_i32 c0_i32_10
  let v29 : BitVec 32 := Scalar.extui v28
  let c0_i32_11 : BitVec 32 := 0#32
  let v30 : BitVec 1 := Scalar.cmpi .slt c2_i32 c0_i32_11
  let v31 : BitVec 32 := Scalar.extui v30
  let v32 : BitVec 32 := Scalar.subi v29 v31
  let v33 : BitVec 1 := Scalar.cmpi .ne v27 v32
  let v34 : BitVec 32 := Scalar.remsi v21 c2_i32
  let c0_i32_12 : BitVec 32 := 0#32
  let v35 : BitVec 1 := Scalar.cmpi .ne v34 c0_i32_12
  let v36 : BitVec 1 := Scalar.andi v33 v35
  let v22 : BitVec 32 := Scalar.divsi v21 c2_i32
  let c1_i32_13 : BitVec 32 := 1#32
  let v37 : BitVec 32 := Scalar.subi v22 c1_i32_13
  let v38 : BitVec 32 := Scalar.select v36 v37 v22
  let c1_i32_123 : BitVec 32 := 1#32
  let v188 : BitVec 32 := Scalar.subi v38 c1_i32_123
  let v189 : BitVec 32 := Scalar.subi v188 c0_i32_125
  let c1_i32_126 : BitVec 32 := 1#32
  let v191 : BitVec 32 := Scalar.divsi v189 c1_i32_126
  let v192 : BitVec 32 := Scalar.muli v191 c1_i32_126
  let v193 : BitVec 32 := Scalar.addi c0_i32_125 v192
  let c1_i32_127 : BitVec 32 := 1#32
  ⟨c0_i32_125, v193, c1_i32_127⟩
def k0_mult1 (i : grid0.Coords) (k0_t1 : Fin (k0_t1_loop i).trips) : BitVec 32 :=
  let c2_i32_270 : BitVec 32 := 2#32
  let c0_i32_125 : BitVec 32 := 0#32
  let c1_i32_127 : BitVec 32 := 1#32
  let arg19 : BitVec 32 := Scf.iv c0_i32_125 c1_i32_127 k0_t1
  let v461 : BitVec 32 := Scalar.muli c2_i32_270 arg19
  let c512_i32_271 : BitVec 32 := 512#32
  let v462 : BitVec 32 := Scalar.muli v461 c512_i32_271
  v462
def k0_off1 (i : grid0.Coords) (k0_t1 : Fin (k0_t1_loop i).trips) : Fin 3 → Nat :=
  let c0_272 : Index := 0#32
  let c2_i32_270 : BitVec 32 := 2#32
  let c0_i32_125 : BitVec 32 := 0#32
  let c1_i32_127 : BitVec 32 := 1#32
  let arg19 : BitVec 32 := Scf.iv c0_i32_125 c1_i32_127 k0_t1
  let v461 : BitVec 32 := Scalar.muli c2_i32_270 arg19
  let c512_i32_271 : BitVec 32 := 512#32
  let v462 : BitVec 32 := Scalar.muli v461 c512_i32_271
  let v463 : BitVec 32 := v462
  let v464 : Index := Scalar.indexCast v463
  let c0_273 : Index := 0#32
  ![0, v464.toNat, 0]
def k0_off2 (i : grid0.Coords) (k0_t1 : Fin (k0_t1_loop i).trips) : Fin 3 → Nat :=
  let c2_i32_270 : BitVec 32 := 2#32
  let c0_i32_125 : BitVec 32 := 0#32
  let c1_i32_127 : BitVec 32 := 1#32
  let arg19 : BitVec 32 := Scf.iv c0_i32_125 c1_i32_127 k0_t1
  let v461 : BitVec 32 := Scalar.muli c2_i32_270 arg19
  let v543 : Index := Scalar.indexCast v461
  let c0_299 : Index := 0#32
  let c0_300 : Index := 0#32
  ![v543.toNat, 0, 0]
def k0_mult2 (i : grid0.Coords) (k0_t1 : Fin (k0_t1_loop i).trips) : BitVec 32 :=
  let c2_i32_305 : BitVec 32 := 2#32
  let c0_i32_125 : BitVec 32 := 0#32
  let c1_i32_127 : BitVec 32 := 1#32
  let arg19 : BitVec 32 := Scf.iv c0_i32_125 c1_i32_127 k0_t1
  let v556 : BitVec 32 := Scalar.muli c2_i32_305 arg19
  let c1_i32_306 : BitVec 32 := 1#32
  let v557 : BitVec 32 := Scalar.addi v556 c1_i32_306
  let c512_i32_307 : BitVec 32 := 512#32
  let v558 : BitVec 32 := Scalar.muli v557 c512_i32_307
  v558
def k0_off3 (i : grid0.Coords) (k0_t1 : Fin (k0_t1_loop i).trips) : Fin 3 → Nat :=
  let c0_308 : Index := 0#32
  let c2_i32_305 : BitVec 32 := 2#32
  let c0_i32_125 : BitVec 32 := 0#32
  let c1_i32_127 : BitVec 32 := 1#32
  let arg19 : BitVec 32 := Scf.iv c0_i32_125 c1_i32_127 k0_t1
  let v556 : BitVec 32 := Scalar.muli c2_i32_305 arg19
  let c1_i32_306 : BitVec 32 := 1#32
  let v557 : BitVec 32 := Scalar.addi v556 c1_i32_306
  let c512_i32_307 : BitVec 32 := 512#32
  let v558 : BitVec 32 := Scalar.muli v557 c512_i32_307
  let v559 : BitVec 32 := v558
  let v560 : Index := Scalar.indexCast v559
  let c0_309 : Index := 0#32
  ![0, v560.toNat, 0]
def k0_off4 (i : grid0.Coords) (k0_t1 : Fin (k0_t1_loop i).trips) : Fin 3 → Nat :=
  let c2_i32_305 : BitVec 32 := 2#32
  let c0_i32_125 : BitVec 32 := 0#32
  let c1_i32_127 : BitVec 32 := 1#32
  let arg19 : BitVec 32 := Scf.iv c0_i32_125 c1_i32_127 k0_t1
  let v556 : BitVec 32 := Scalar.muli c2_i32_305 arg19
  let c1_i32_306 : BitVec 32 := 1#32
  let v557 : BitVec 32 := Scalar.addi v556 c1_i32_306
  let v639 : Index := Scalar.indexCast v557
  let c0_335 : Index := 0#32
  let c0_336 : Index := 0#32
  ![v639.toNat, 0, 0]
@[reducible] def k0_t2_loop (i : grid0.Coords) : Scf.Loop 32 :=
  let c0_i32_125 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_8 : BitVec 32 := 0#32
  let v23 : BitVec 1 := Scalar.cmpi .sgt v21 c0_i32_8
  let v24 : BitVec 32 := Scalar.extui v23
  let c0_i32_9 : BitVec 32 := 0#32
  let v25 : BitVec 1 := Scalar.cmpi .slt v21 c0_i32_9
  let v26 : BitVec 32 := Scalar.extui v25
  let v27 : BitVec 32 := Scalar.subi v24 v26
  let c2_i32 : BitVec 32 := 2#32
  let c0_i32_10 : BitVec 32 := 0#32
  let v28 : BitVec 1 := Scalar.cmpi .sgt c2_i32 c0_i32_10
  let v29 : BitVec 32 := Scalar.extui v28
  let c0_i32_11 : BitVec 32 := 0#32
  let v30 : BitVec 1 := Scalar.cmpi .slt c2_i32 c0_i32_11
  let v31 : BitVec 32 := Scalar.extui v30
  let v32 : BitVec 32 := Scalar.subi v29 v31
  let v33 : BitVec 1 := Scalar.cmpi .ne v27 v32
  let v34 : BitVec 32 := Scalar.remsi v21 c2_i32
  let c0_i32_12 : BitVec 32 := 0#32
  let v35 : BitVec 1 := Scalar.cmpi .ne v34 c0_i32_12
  let v36 : BitVec 1 := Scalar.andi v33 v35
  let v22 : BitVec 32 := Scalar.divsi v21 c2_i32
  let c1_i32_13 : BitVec 32 := 1#32
  let v37 : BitVec 32 := Scalar.subi v22 c1_i32_13
  let v38 : BitVec 32 := Scalar.select v36 v37 v22
  let c1_i32_123 : BitVec 32 := 1#32
  let v188 : BitVec 32 := Scalar.subi v38 c1_i32_123
  let v189 : BitVec 32 := Scalar.subi v188 c0_i32_125
  let c1_i32_126 : BitVec 32 := 1#32
  let v191 : BitVec 32 := Scalar.divsi v189 c1_i32_126
  let v192 : BitVec 32 := Scalar.muli v191 c1_i32_126
  let v193 : BitVec 32 := Scalar.addi c0_i32_125 v192
  let v190 : BitVec 32 := Scalar.addi c0_i32_125 v189
  let c1_i32_128 : BitVec 32 := 1#32
  ⟨v193, v190, c1_i32_128⟩
def k0_mult3 (i : grid0.Coords) (k0_t2 : Fin (k0_t2_loop i).trips) : BitVec 32 :=
  let c2_i32_270 : BitVec 32 := 2#32
  let c0_i32_125 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_8 : BitVec 32 := 0#32
  let v23 : BitVec 1 := Scalar.cmpi .sgt v21 c0_i32_8
  let v24 : BitVec 32 := Scalar.extui v23
  let c0_i32_9 : BitVec 32 := 0#32
  let v25 : BitVec 1 := Scalar.cmpi .slt v21 c0_i32_9
  let v26 : BitVec 32 := Scalar.extui v25
  let v27 : BitVec 32 := Scalar.subi v24 v26
  let c2_i32 : BitVec 32 := 2#32
  let c0_i32_10 : BitVec 32 := 0#32
  let v28 : BitVec 1 := Scalar.cmpi .sgt c2_i32 c0_i32_10
  let v29 : BitVec 32 := Scalar.extui v28
  let c0_i32_11 : BitVec 32 := 0#32
  let v30 : BitVec 1 := Scalar.cmpi .slt c2_i32 c0_i32_11
  let v31 : BitVec 32 := Scalar.extui v30
  let v32 : BitVec 32 := Scalar.subi v29 v31
  let v33 : BitVec 1 := Scalar.cmpi .ne v27 v32
  let v34 : BitVec 32 := Scalar.remsi v21 c2_i32
  let c0_i32_12 : BitVec 32 := 0#32
  let v35 : BitVec 1 := Scalar.cmpi .ne v34 c0_i32_12
  let v36 : BitVec 1 := Scalar.andi v33 v35
  let v22 : BitVec 32 := Scalar.divsi v21 c2_i32
  let c1_i32_13 : BitVec 32 := 1#32
  let v37 : BitVec 32 := Scalar.subi v22 c1_i32_13
  let v38 : BitVec 32 := Scalar.select v36 v37 v22
  let c1_i32_123 : BitVec 32 := 1#32
  let v188 : BitVec 32 := Scalar.subi v38 c1_i32_123
  let v189 : BitVec 32 := Scalar.subi v188 c0_i32_125
  let c1_i32_126 : BitVec 32 := 1#32
  let v191 : BitVec 32 := Scalar.divsi v189 c1_i32_126
  let v192 : BitVec 32 := Scalar.muli v191 c1_i32_126
  let v193 : BitVec 32 := Scalar.addi c0_i32_125 v192
  let c1_i32_128 : BitVec 32 := 1#32
  let arg19 : BitVec 32 := Scf.iv v193 c1_i32_128 k0_t2
  let v461 : BitVec 32 := Scalar.muli c2_i32_270 arg19
  let c512_i32_271 : BitVec 32 := 512#32
  let v462 : BitVec 32 := Scalar.muli v461 c512_i32_271
  v462
def k0_off5 (i : grid0.Coords) (k0_t2 : Fin (k0_t2_loop i).trips) : Fin 3 → Nat :=
  let c0_272 : Index := 0#32
  let c2_i32_270 : BitVec 32 := 2#32
  let c0_i32_125 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_8 : BitVec 32 := 0#32
  let v23 : BitVec 1 := Scalar.cmpi .sgt v21 c0_i32_8
  let v24 : BitVec 32 := Scalar.extui v23
  let c0_i32_9 : BitVec 32 := 0#32
  let v25 : BitVec 1 := Scalar.cmpi .slt v21 c0_i32_9
  let v26 : BitVec 32 := Scalar.extui v25
  let v27 : BitVec 32 := Scalar.subi v24 v26
  let c2_i32 : BitVec 32 := 2#32
  let c0_i32_10 : BitVec 32 := 0#32
  let v28 : BitVec 1 := Scalar.cmpi .sgt c2_i32 c0_i32_10
  let v29 : BitVec 32 := Scalar.extui v28
  let c0_i32_11 : BitVec 32 := 0#32
  let v30 : BitVec 1 := Scalar.cmpi .slt c2_i32 c0_i32_11
  let v31 : BitVec 32 := Scalar.extui v30
  let v32 : BitVec 32 := Scalar.subi v29 v31
  let v33 : BitVec 1 := Scalar.cmpi .ne v27 v32
  let v34 : BitVec 32 := Scalar.remsi v21 c2_i32
  let c0_i32_12 : BitVec 32 := 0#32
  let v35 : BitVec 1 := Scalar.cmpi .ne v34 c0_i32_12
  let v36 : BitVec 1 := Scalar.andi v33 v35
  let v22 : BitVec 32 := Scalar.divsi v21 c2_i32
  let c1_i32_13 : BitVec 32 := 1#32
  let v37 : BitVec 32 := Scalar.subi v22 c1_i32_13
  let v38 : BitVec 32 := Scalar.select v36 v37 v22
  let c1_i32_123 : BitVec 32 := 1#32
  let v188 : BitVec 32 := Scalar.subi v38 c1_i32_123
  let v189 : BitVec 32 := Scalar.subi v188 c0_i32_125
  let c1_i32_126 : BitVec 32 := 1#32
  let v191 : BitVec 32 := Scalar.divsi v189 c1_i32_126
  let v192 : BitVec 32 := Scalar.muli v191 c1_i32_126
  let v193 : BitVec 32 := Scalar.addi c0_i32_125 v192
  let c1_i32_128 : BitVec 32 := 1#32
  let arg19 : BitVec 32 := Scf.iv v193 c1_i32_128 k0_t2
  let v461 : BitVec 32 := Scalar.muli c2_i32_270 arg19
  let c512_i32_271 : BitVec 32 := 512#32
  let v462 : BitVec 32 := Scalar.muli v461 c512_i32_271
  let v463 : BitVec 32 := v462
  let v464 : Index := Scalar.indexCast v463
  let c0_273 : Index := 0#32
  ![0, v464.toNat, 0]
def k0_off6 (i : grid0.Coords) (k0_t2 : Fin (k0_t2_loop i).trips) : Fin 3 → Nat :=
  let c2_i32_270 : BitVec 32 := 2#32
  let c0_i32_125 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_8 : BitVec 32 := 0#32
  let v23 : BitVec 1 := Scalar.cmpi .sgt v21 c0_i32_8
  let v24 : BitVec 32 := Scalar.extui v23
  let c0_i32_9 : BitVec 32 := 0#32
  let v25 : BitVec 1 := Scalar.cmpi .slt v21 c0_i32_9
  let v26 : BitVec 32 := Scalar.extui v25
  let v27 : BitVec 32 := Scalar.subi v24 v26
  let c2_i32 : BitVec 32 := 2#32
  let c0_i32_10 : BitVec 32 := 0#32
  let v28 : BitVec 1 := Scalar.cmpi .sgt c2_i32 c0_i32_10
  let v29 : BitVec 32 := Scalar.extui v28
  let c0_i32_11 : BitVec 32 := 0#32
  let v30 : BitVec 1 := Scalar.cmpi .slt c2_i32 c0_i32_11
  let v31 : BitVec 32 := Scalar.extui v30
  let v32 : BitVec 32 := Scalar.subi v29 v31
  let v33 : BitVec 1 := Scalar.cmpi .ne v27 v32
  let v34 : BitVec 32 := Scalar.remsi v21 c2_i32
  let c0_i32_12 : BitVec 32 := 0#32
  let v35 : BitVec 1 := Scalar.cmpi .ne v34 c0_i32_12
  let v36 : BitVec 1 := Scalar.andi v33 v35
  let v22 : BitVec 32 := Scalar.divsi v21 c2_i32
  let c1_i32_13 : BitVec 32 := 1#32
  let v37 : BitVec 32 := Scalar.subi v22 c1_i32_13
  let v38 : BitVec 32 := Scalar.select v36 v37 v22
  let c1_i32_123 : BitVec 32 := 1#32
  let v188 : BitVec 32 := Scalar.subi v38 c1_i32_123
  let v189 : BitVec 32 := Scalar.subi v188 c0_i32_125
  let c1_i32_126 : BitVec 32 := 1#32
  let v191 : BitVec 32 := Scalar.divsi v189 c1_i32_126
  let v192 : BitVec 32 := Scalar.muli v191 c1_i32_126
  let v193 : BitVec 32 := Scalar.addi c0_i32_125 v192
  let c1_i32_128 : BitVec 32 := 1#32
  let arg19 : BitVec 32 := Scf.iv v193 c1_i32_128 k0_t2
  let v461 : BitVec 32 := Scalar.muli c2_i32_270 arg19
  let v543 : Index := Scalar.indexCast v461
  let c0_299 : Index := 0#32
  let c0_300 : Index := 0#32
  ![v543.toNat, 0, 0]
def k0_mult4 (i : grid0.Coords) (k0_t2 : Fin (k0_t2_loop i).trips) : BitVec 32 :=
  let c2_i32_305 : BitVec 32 := 2#32
  let c0_i32_125 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_8 : BitVec 32 := 0#32
  let v23 : BitVec 1 := Scalar.cmpi .sgt v21 c0_i32_8
  let v24 : BitVec 32 := Scalar.extui v23
  let c0_i32_9 : BitVec 32 := 0#32
  let v25 : BitVec 1 := Scalar.cmpi .slt v21 c0_i32_9
  let v26 : BitVec 32 := Scalar.extui v25
  let v27 : BitVec 32 := Scalar.subi v24 v26
  let c2_i32 : BitVec 32 := 2#32
  let c0_i32_10 : BitVec 32 := 0#32
  let v28 : BitVec 1 := Scalar.cmpi .sgt c2_i32 c0_i32_10
  let v29 : BitVec 32 := Scalar.extui v28
  let c0_i32_11 : BitVec 32 := 0#32
  let v30 : BitVec 1 := Scalar.cmpi .slt c2_i32 c0_i32_11
  let v31 : BitVec 32 := Scalar.extui v30
  let v32 : BitVec 32 := Scalar.subi v29 v31
  let v33 : BitVec 1 := Scalar.cmpi .ne v27 v32
  let v34 : BitVec 32 := Scalar.remsi v21 c2_i32
  let c0_i32_12 : BitVec 32 := 0#32
  let v35 : BitVec 1 := Scalar.cmpi .ne v34 c0_i32_12
  let v36 : BitVec 1 := Scalar.andi v33 v35
  let v22 : BitVec 32 := Scalar.divsi v21 c2_i32
  let c1_i32_13 : BitVec 32 := 1#32
  let v37 : BitVec 32 := Scalar.subi v22 c1_i32_13
  let v38 : BitVec 32 := Scalar.select v36 v37 v22
  let c1_i32_123 : BitVec 32 := 1#32
  let v188 : BitVec 32 := Scalar.subi v38 c1_i32_123
  let v189 : BitVec 32 := Scalar.subi v188 c0_i32_125
  let c1_i32_126 : BitVec 32 := 1#32
  let v191 : BitVec 32 := Scalar.divsi v189 c1_i32_126
  let v192 : BitVec 32 := Scalar.muli v191 c1_i32_126
  let v193 : BitVec 32 := Scalar.addi c0_i32_125 v192
  let c1_i32_128 : BitVec 32 := 1#32
  let arg19 : BitVec 32 := Scf.iv v193 c1_i32_128 k0_t2
  let v556 : BitVec 32 := Scalar.muli c2_i32_305 arg19
  let c1_i32_306 : BitVec 32 := 1#32
  let v557 : BitVec 32 := Scalar.addi v556 c1_i32_306
  let c512_i32_307 : BitVec 32 := 512#32
  let v558 : BitVec 32 := Scalar.muli v557 c512_i32_307
  v558
def k0_off7 (i : grid0.Coords) (k0_t2 : Fin (k0_t2_loop i).trips) : Fin 3 → Nat :=
  let c0_308 : Index := 0#32
  let c2_i32_305 : BitVec 32 := 2#32
  let c0_i32_125 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_8 : BitVec 32 := 0#32
  let v23 : BitVec 1 := Scalar.cmpi .sgt v21 c0_i32_8
  let v24 : BitVec 32 := Scalar.extui v23
  let c0_i32_9 : BitVec 32 := 0#32
  let v25 : BitVec 1 := Scalar.cmpi .slt v21 c0_i32_9
  let v26 : BitVec 32 := Scalar.extui v25
  let v27 : BitVec 32 := Scalar.subi v24 v26
  let c2_i32 : BitVec 32 := 2#32
  let c0_i32_10 : BitVec 32 := 0#32
  let v28 : BitVec 1 := Scalar.cmpi .sgt c2_i32 c0_i32_10
  let v29 : BitVec 32 := Scalar.extui v28
  let c0_i32_11 : BitVec 32 := 0#32
  let v30 : BitVec 1 := Scalar.cmpi .slt c2_i32 c0_i32_11
  let v31 : BitVec 32 := Scalar.extui v30
  let v32 : BitVec 32 := Scalar.subi v29 v31
  let v33 : BitVec 1 := Scalar.cmpi .ne v27 v32
  let v34 : BitVec 32 := Scalar.remsi v21 c2_i32
  let c0_i32_12 : BitVec 32 := 0#32
  let v35 : BitVec 1 := Scalar.cmpi .ne v34 c0_i32_12
  let v36 : BitVec 1 := Scalar.andi v33 v35
  let v22 : BitVec 32 := Scalar.divsi v21 c2_i32
  let c1_i32_13 : BitVec 32 := 1#32
  let v37 : BitVec 32 := Scalar.subi v22 c1_i32_13
  let v38 : BitVec 32 := Scalar.select v36 v37 v22
  let c1_i32_123 : BitVec 32 := 1#32
  let v188 : BitVec 32 := Scalar.subi v38 c1_i32_123
  let v189 : BitVec 32 := Scalar.subi v188 c0_i32_125
  let c1_i32_126 : BitVec 32 := 1#32
  let v191 : BitVec 32 := Scalar.divsi v189 c1_i32_126
  let v192 : BitVec 32 := Scalar.muli v191 c1_i32_126
  let v193 : BitVec 32 := Scalar.addi c0_i32_125 v192
  let c1_i32_128 : BitVec 32 := 1#32
  let arg19 : BitVec 32 := Scf.iv v193 c1_i32_128 k0_t2
  let v556 : BitVec 32 := Scalar.muli c2_i32_305 arg19
  let c1_i32_306 : BitVec 32 := 1#32
  let v557 : BitVec 32 := Scalar.addi v556 c1_i32_306
  let c512_i32_307 : BitVec 32 := 512#32
  let v558 : BitVec 32 := Scalar.muli v557 c512_i32_307
  let v559 : BitVec 32 := v558
  let v560 : Index := Scalar.indexCast v559
  let c0_309 : Index := 0#32
  ![0, v560.toNat, 0]
def k0_off8 (i : grid0.Coords) (k0_t2 : Fin (k0_t2_loop i).trips) : Fin 3 → Nat :=
  let c2_i32_305 : BitVec 32 := 2#32
  let c0_i32_125 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_8 : BitVec 32 := 0#32
  let v23 : BitVec 1 := Scalar.cmpi .sgt v21 c0_i32_8
  let v24 : BitVec 32 := Scalar.extui v23
  let c0_i32_9 : BitVec 32 := 0#32
  let v25 : BitVec 1 := Scalar.cmpi .slt v21 c0_i32_9
  let v26 : BitVec 32 := Scalar.extui v25
  let v27 : BitVec 32 := Scalar.subi v24 v26
  let c2_i32 : BitVec 32 := 2#32
  let c0_i32_10 : BitVec 32 := 0#32
  let v28 : BitVec 1 := Scalar.cmpi .sgt c2_i32 c0_i32_10
  let v29 : BitVec 32 := Scalar.extui v28
  let c0_i32_11 : BitVec 32 := 0#32
  let v30 : BitVec 1 := Scalar.cmpi .slt c2_i32 c0_i32_11
  let v31 : BitVec 32 := Scalar.extui v30
  let v32 : BitVec 32 := Scalar.subi v29 v31
  let v33 : BitVec 1 := Scalar.cmpi .ne v27 v32
  let v34 : BitVec 32 := Scalar.remsi v21 c2_i32
  let c0_i32_12 : BitVec 32 := 0#32
  let v35 : BitVec 1 := Scalar.cmpi .ne v34 c0_i32_12
  let v36 : BitVec 1 := Scalar.andi v33 v35
  let v22 : BitVec 32 := Scalar.divsi v21 c2_i32
  let c1_i32_13 : BitVec 32 := 1#32
  let v37 : BitVec 32 := Scalar.subi v22 c1_i32_13
  let v38 : BitVec 32 := Scalar.select v36 v37 v22
  let c1_i32_123 : BitVec 32 := 1#32
  let v188 : BitVec 32 := Scalar.subi v38 c1_i32_123
  let v189 : BitVec 32 := Scalar.subi v188 c0_i32_125
  let c1_i32_126 : BitVec 32 := 1#32
  let v191 : BitVec 32 := Scalar.divsi v189 c1_i32_126
  let v192 : BitVec 32 := Scalar.muli v191 c1_i32_126
  let v193 : BitVec 32 := Scalar.addi c0_i32_125 v192
  let c1_i32_128 : BitVec 32 := 1#32
  let arg19 : BitVec 32 := Scf.iv v193 c1_i32_128 k0_t2
  let v556 : BitVec 32 := Scalar.muli c2_i32_305 arg19
  let c1_i32_306 : BitVec 32 := 1#32
  let v557 : BitVec 32 := Scalar.addi v556 c1_i32_306
  let v639 : Index := Scalar.indexCast v557
  let c0_335 : Index := 0#32
  let c0_336 : Index := 0#32
  ![v639.toNat, 0, 0]
def k0_mult5 (i : grid0.Coords) : BitVec 32 :=
  let c2_i32_129 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_8 : BitVec 32 := 0#32
  let v23 : BitVec 1 := Scalar.cmpi .sgt v21 c0_i32_8
  let v24 : BitVec 32 := Scalar.extui v23
  let c0_i32_9 : BitVec 32 := 0#32
  let v25 : BitVec 1 := Scalar.cmpi .slt v21 c0_i32_9
  let v26 : BitVec 32 := Scalar.extui v25
  let v27 : BitVec 32 := Scalar.subi v24 v26
  let c2_i32 : BitVec 32 := 2#32
  let c0_i32_10 : BitVec 32 := 0#32
  let v28 : BitVec 1 := Scalar.cmpi .sgt c2_i32 c0_i32_10
  let v29 : BitVec 32 := Scalar.extui v28
  let c0_i32_11 : BitVec 32 := 0#32
  let v30 : BitVec 1 := Scalar.cmpi .slt c2_i32 c0_i32_11
  let v31 : BitVec 32 := Scalar.extui v30
  let v32 : BitVec 32 := Scalar.subi v29 v31
  let v33 : BitVec 1 := Scalar.cmpi .ne v27 v32
  let v34 : BitVec 32 := Scalar.remsi v21 c2_i32
  let c0_i32_12 : BitVec 32 := 0#32
  let v35 : BitVec 1 := Scalar.cmpi .ne v34 c0_i32_12
  let v36 : BitVec 1 := Scalar.andi v33 v35
  let v22 : BitVec 32 := Scalar.divsi v21 c2_i32
  let c1_i32_13 : BitVec 32 := 1#32
  let v37 : BitVec 32 := Scalar.subi v22 c1_i32_13
  let v38 : BitVec 32 := Scalar.select v36 v37 v22
  let v194 : BitVec 32 := Scalar.muli c2_i32_129 v38
  let c2_i32_130 : BitVec 32 := 2#32
  let v195 : BitVec 32 := Scalar.subi v194 c2_i32_130
  let c512_i32_131 : BitVec 32 := 512#32
  let v196 : BitVec 32 := Scalar.muli v195 c512_i32_131
  v196
def k0_off9 (i : grid0.Coords) : Fin 3 → Nat :=
  let c0_132 : Index := 0#32
  let c2_i32_129 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_8 : BitVec 32 := 0#32
  let v23 : BitVec 1 := Scalar.cmpi .sgt v21 c0_i32_8
  let v24 : BitVec 32 := Scalar.extui v23
  let c0_i32_9 : BitVec 32 := 0#32
  let v25 : BitVec 1 := Scalar.cmpi .slt v21 c0_i32_9
  let v26 : BitVec 32 := Scalar.extui v25
  let v27 : BitVec 32 := Scalar.subi v24 v26
  let c2_i32 : BitVec 32 := 2#32
  let c0_i32_10 : BitVec 32 := 0#32
  let v28 : BitVec 1 := Scalar.cmpi .sgt c2_i32 c0_i32_10
  let v29 : BitVec 32 := Scalar.extui v28
  let c0_i32_11 : BitVec 32 := 0#32
  let v30 : BitVec 1 := Scalar.cmpi .slt c2_i32 c0_i32_11
  let v31 : BitVec 32 := Scalar.extui v30
  let v32 : BitVec 32 := Scalar.subi v29 v31
  let v33 : BitVec 1 := Scalar.cmpi .ne v27 v32
  let v34 : BitVec 32 := Scalar.remsi v21 c2_i32
  let c0_i32_12 : BitVec 32 := 0#32
  let v35 : BitVec 1 := Scalar.cmpi .ne v34 c0_i32_12
  let v36 : BitVec 1 := Scalar.andi v33 v35
  let v22 : BitVec 32 := Scalar.divsi v21 c2_i32
  let c1_i32_13 : BitVec 32 := 1#32
  let v37 : BitVec 32 := Scalar.subi v22 c1_i32_13
  let v38 : BitVec 32 := Scalar.select v36 v37 v22
  let v194 : BitVec 32 := Scalar.muli c2_i32_129 v38
  let c2_i32_130 : BitVec 32 := 2#32
  let v195 : BitVec 32 := Scalar.subi v194 c2_i32_130
  let c512_i32_131 : BitVec 32 := 512#32
  let v196 : BitVec 32 := Scalar.muli v195 c512_i32_131
  let v197 : BitVec 32 := v196
  let v198 : Index := Scalar.indexCast v197
  let c0_133 : Index := 0#32
  ![0, v198.toNat, 0]
def k0_off10 (i : grid0.Coords) : Fin 3 → Nat :=
  let c2_i32_129 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_8 : BitVec 32 := 0#32
  let v23 : BitVec 1 := Scalar.cmpi .sgt v21 c0_i32_8
  let v24 : BitVec 32 := Scalar.extui v23
  let c0_i32_9 : BitVec 32 := 0#32
  let v25 : BitVec 1 := Scalar.cmpi .slt v21 c0_i32_9
  let v26 : BitVec 32 := Scalar.extui v25
  let v27 : BitVec 32 := Scalar.subi v24 v26
  let c2_i32 : BitVec 32 := 2#32
  let c0_i32_10 : BitVec 32 := 0#32
  let v28 : BitVec 1 := Scalar.cmpi .sgt c2_i32 c0_i32_10
  let v29 : BitVec 32 := Scalar.extui v28
  let c0_i32_11 : BitVec 32 := 0#32
  let v30 : BitVec 1 := Scalar.cmpi .slt c2_i32 c0_i32_11
  let v31 : BitVec 32 := Scalar.extui v30
  let v32 : BitVec 32 := Scalar.subi v29 v31
  let v33 : BitVec 1 := Scalar.cmpi .ne v27 v32
  let v34 : BitVec 32 := Scalar.remsi v21 c2_i32
  let c0_i32_12 : BitVec 32 := 0#32
  let v35 : BitVec 1 := Scalar.cmpi .ne v34 c0_i32_12
  let v36 : BitVec 1 := Scalar.andi v33 v35
  let v22 : BitVec 32 := Scalar.divsi v21 c2_i32
  let c1_i32_13 : BitVec 32 := 1#32
  let v37 : BitVec 32 := Scalar.subi v22 c1_i32_13
  let v38 : BitVec 32 := Scalar.select v36 v37 v22
  let v194 : BitVec 32 := Scalar.muli c2_i32_129 v38
  let c2_i32_130 : BitVec 32 := 2#32
  let v195 : BitVec 32 := Scalar.subi v194 c2_i32_130
  let v283 : Index := Scalar.indexCast v195
  let c0_157 : Index := 0#32
  let c0_158 : Index := 0#32
  ![v283.toNat, 0, 0]
def k0_cond1 (i : grid0.Coords) : BitVec 1 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c2_i32_161 : BitVec 32 := 2#32
  let c0_i32_162 : BitVec 32 := 0#32
  let v296 : BitVec 1 := Scalar.cmpi .eq c2_i32_161 c0_i32_162
  let c1_i32_163 : BitVec 32 := 1#32
  let v297 : BitVec 32 := Scalar.select v296 c1_i32_163 c2_i32_161
  let v298 : BitVec 32 := Scalar.remsi v20 v297
  let c0_i32_165 : BitVec 32 := 0#32
  let v300 : BitVec 1 := Scalar.cmpi .slt v298 c0_i32_165
  let c0_i32_166 : BitVec 32 := 0#32
  let v301 : BitVec 1 := Scalar.cmpi .slt v297 c0_i32_166
  let v302 : BitVec 1 := Scalar.xori v300 v301
  let c0_i32_164 : BitVec 32 := 0#32
  let v299 : BitVec 1 := Scalar.cmpi .ne v298 c0_i32_164
  let v303 : BitVec 1 := Scalar.andi v302 v299
  let v304 : BitVec 32 := Scalar.addi v298 v297
  let v305 : BitVec 32 := Scalar.select v303 v304 v298
  let c0_i32_167 : BitVec 32 := 0#32
  let v306 : BitVec 1 := Scalar.cmpi .eq v305 c0_i32_167
  let v307 : BitVec 32 := Scalar.extui v306
  let c0_i32_168 : BitVec 32 := 0#32
  let v308 : BitVec 1 := Scalar.cmpi .ne v307 c0_i32_168
  v308

def k0_mult6 (i : grid0.Coords) : BitVec 32 :=
  let c2_i32_270 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_8 : BitVec 32 := 0#32
  let v23 : BitVec 1 := Scalar.cmpi .sgt v21 c0_i32_8
  let v24 : BitVec 32 := Scalar.extui v23
  let c0_i32_9 : BitVec 32 := 0#32
  let v25 : BitVec 1 := Scalar.cmpi .slt v21 c0_i32_9
  let v26 : BitVec 32 := Scalar.extui v25
  let v27 : BitVec 32 := Scalar.subi v24 v26
  let c2_i32 : BitVec 32 := 2#32
  let c0_i32_10 : BitVec 32 := 0#32
  let v28 : BitVec 1 := Scalar.cmpi .sgt c2_i32 c0_i32_10
  let v29 : BitVec 32 := Scalar.extui v28
  let c0_i32_11 : BitVec 32 := 0#32
  let v30 : BitVec 1 := Scalar.cmpi .slt c2_i32 c0_i32_11
  let v31 : BitVec 32 := Scalar.extui v30
  let v32 : BitVec 32 := Scalar.subi v29 v31
  let v33 : BitVec 1 := Scalar.cmpi .ne v27 v32
  let v34 : BitVec 32 := Scalar.remsi v21 c2_i32
  let c0_i32_12 : BitVec 32 := 0#32
  let v35 : BitVec 1 := Scalar.cmpi .ne v34 c0_i32_12
  let v36 : BitVec 1 := Scalar.andi v33 v35
  let v22 : BitVec 32 := Scalar.divsi v21 c2_i32
  let c1_i32_13 : BitVec 32 := 1#32
  let v37 : BitVec 32 := Scalar.subi v22 c1_i32_13
  let v38 : BitVec 32 := Scalar.select v36 v37 v22
  let v461 : BitVec 32 := Scalar.muli c2_i32_270 v38
  let c1_i32_271 : BitVec 32 := 1#32
  let v462 : BitVec 32 := Scalar.subi v461 c1_i32_271
  let c512_i32_272 : BitVec 32 := 512#32
  let v463 : BitVec 32 := Scalar.muli v462 c512_i32_272
  v463
def k0_off11 (i : grid0.Coords) : Fin 3 → Nat :=
  let c0_273 : Index := 0#32
  let c2_i32_270 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_8 : BitVec 32 := 0#32
  let v23 : BitVec 1 := Scalar.cmpi .sgt v21 c0_i32_8
  let v24 : BitVec 32 := Scalar.extui v23
  let c0_i32_9 : BitVec 32 := 0#32
  let v25 : BitVec 1 := Scalar.cmpi .slt v21 c0_i32_9
  let v26 : BitVec 32 := Scalar.extui v25
  let v27 : BitVec 32 := Scalar.subi v24 v26
  let c2_i32 : BitVec 32 := 2#32
  let c0_i32_10 : BitVec 32 := 0#32
  let v28 : BitVec 1 := Scalar.cmpi .sgt c2_i32 c0_i32_10
  let v29 : BitVec 32 := Scalar.extui v28
  let c0_i32_11 : BitVec 32 := 0#32
  let v30 : BitVec 1 := Scalar.cmpi .slt c2_i32 c0_i32_11
  let v31 : BitVec 32 := Scalar.extui v30
  let v32 : BitVec 32 := Scalar.subi v29 v31
  let v33 : BitVec 1 := Scalar.cmpi .ne v27 v32
  let v34 : BitVec 32 := Scalar.remsi v21 c2_i32
  let c0_i32_12 : BitVec 32 := 0#32
  let v35 : BitVec 1 := Scalar.cmpi .ne v34 c0_i32_12
  let v36 : BitVec 1 := Scalar.andi v33 v35
  let v22 : BitVec 32 := Scalar.divsi v21 c2_i32
  let c1_i32_13 : BitVec 32 := 1#32
  let v37 : BitVec 32 := Scalar.subi v22 c1_i32_13
  let v38 : BitVec 32 := Scalar.select v36 v37 v22
  let v461 : BitVec 32 := Scalar.muli c2_i32_270 v38
  let c1_i32_271 : BitVec 32 := 1#32
  let v462 : BitVec 32 := Scalar.subi v461 c1_i32_271
  let c512_i32_272 : BitVec 32 := 512#32
  let v463 : BitVec 32 := Scalar.muli v462 c512_i32_272
  let v464 : BitVec 32 := v463
  let v465 : Index := Scalar.indexCast v464
  let c0_274 : Index := 0#32
  ![0, v465.toNat, 0]
def k0_off12 (i : grid0.Coords) : Fin 3 → Nat :=
  let c2_i32_270 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_8 : BitVec 32 := 0#32
  let v23 : BitVec 1 := Scalar.cmpi .sgt v21 c0_i32_8
  let v24 : BitVec 32 := Scalar.extui v23
  let c0_i32_9 : BitVec 32 := 0#32
  let v25 : BitVec 1 := Scalar.cmpi .slt v21 c0_i32_9
  let v26 : BitVec 32 := Scalar.extui v25
  let v27 : BitVec 32 := Scalar.subi v24 v26
  let c2_i32 : BitVec 32 := 2#32
  let c0_i32_10 : BitVec 32 := 0#32
  let v28 : BitVec 1 := Scalar.cmpi .sgt c2_i32 c0_i32_10
  let v29 : BitVec 32 := Scalar.extui v28
  let c0_i32_11 : BitVec 32 := 0#32
  let v30 : BitVec 1 := Scalar.cmpi .slt c2_i32 c0_i32_11
  let v31 : BitVec 32 := Scalar.extui v30
  let v32 : BitVec 32 := Scalar.subi v29 v31
  let v33 : BitVec 1 := Scalar.cmpi .ne v27 v32
  let v34 : BitVec 32 := Scalar.remsi v21 c2_i32
  let c0_i32_12 : BitVec 32 := 0#32
  let v35 : BitVec 1 := Scalar.cmpi .ne v34 c0_i32_12
  let v36 : BitVec 1 := Scalar.andi v33 v35
  let v22 : BitVec 32 := Scalar.divsi v21 c2_i32
  let c1_i32_13 : BitVec 32 := 1#32
  let v37 : BitVec 32 := Scalar.subi v22 c1_i32_13
  let v38 : BitVec 32 := Scalar.select v36 v37 v22
  let v461 : BitVec 32 := Scalar.muli c2_i32_270 v38
  let c1_i32_271 : BitVec 32 := 1#32
  let v462 : BitVec 32 := Scalar.subi v461 c1_i32_271
  let v550 : Index := Scalar.indexCast v462
  let c0_301 : Index := 0#32
  let c0_302 : Index := 0#32
  ![v550.toNat, 0, 0]
def k0_cond3 (i : grid0.Coords) : BitVec 1 :=
  let arg1 : BitVec 32 := BitVec.ofNat 32 (i 1).val
  let c1_i32_172 : BitVec 32 := 1#32
  let v314 : BitVec 32 := Scalar.addi arg1 c1_i32_172
  let c128_i32_173 : BitVec 32 := 128#32
  let v315 : BitVec 32 := Scalar.muli v314 c128_i32_173
  let c256_i32_174 : BitVec 32 := 256#32
  let v316 : BitVec 1 := Scalar.cmpi .sgt v315 c256_i32_174
  let v317 : BitVec 32 := Scalar.extui v316
  let c0_i32_176 : BitVec 32 := 0#32
  let v318 : BitVec 1 := Scalar.cmpi .ne v317 c0_i32_176
  v318

@[reducible] def k0_t3_loop : Scf.Loop 32 :=
  let c0_i32_273 : BitVec 32 := 0#32
  let c16_i32_274 : BitVec 32 := 16#32
  let v466 : BitVec 32 := Scalar.addi c0_i32_273 c16_i32_274
  let c1_i32_275 : BitVec 32 := 1#32
  ⟨c0_i32_273, v466, c1_i32_275⟩
@[reducible] def k0_t4_loop (i : grid0.Coords) : Scf.Loop 32 :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_336 : BitVec 32 := 1#32
  ⟨c0_i32_334, v552, c1_i32_336⟩
def k0_off13 (i : grid0.Coords) (k0_t4 : Fin (k0_t4_loop i).trips) (c0_i32_360 : BitVec 32) : Fin 3 → Nat :=
  let c0_i32_334 : BitVec 32 := 0#32
  let c1_i32_336 : BitVec 32 := 1#32
  let arg23 : BitVec 32 := Scf.iv c0_i32_334 c1_i32_336 k0_t4
  let c4_i32_359 : BitVec 32 := 4#32
  let v600 : BitVec 32 := Scalar.muli arg23 c4_i32_359
  let v601 : BitVec 32 := Scalar.addi v600 c0_i32_360
  let v602 : Index := Scalar.indexCast v601
  let c0_361 : Index := 0#32
  let c0_362 : Index := 0#32
  ![v602.toNat, 0, 0]
def k0_off14 (i : grid0.Coords) (k0_t4 : Fin (k0_t4_loop i).trips) (c0_i32_363 : BitVec 32) : Fin 3 → Nat :=
  let c0_i32_334 : BitVec 32 := 0#32
  let c1_i32_336 : BitVec 32 := 1#32
  let arg23 : BitVec 32 := Scf.iv c0_i32_334 c1_i32_336 k0_t4
  let c4_i32_359 : BitVec 32 := 4#32
  let v600 : BitVec 32 := Scalar.muli arg23 c4_i32_359
  let v611 : BitVec 32 := Scalar.addi v600 c0_i32_363
  let v612 : Index := Scalar.indexCast v611
  let c16 : Index := 16#32
  let c0_364 : Index := 0#32
  ![v612.toNat, 16, 0]
def k0_off15 (i : grid0.Coords) (k0_t4 : Fin (k0_t4_loop i).trips) (c0_i32_365 : BitVec 32) : Fin 3 → Nat :=
  let c0_i32_334 : BitVec 32 := 0#32
  let c1_i32_336 : BitVec 32 := 1#32
  let arg23 : BitVec 32 := Scf.iv c0_i32_334 c1_i32_336 k0_t4
  let c4_i32_359 : BitVec 32 := 4#32
  let v600 : BitVec 32 := Scalar.muli arg23 c4_i32_359
  let v621 : BitVec 32 := Scalar.addi v600 c0_i32_365
  let v622 : Index := Scalar.indexCast v621
  let c32_366 : Index := 32#32
  let c0_367 : Index := 0#32
  ![v622.toNat, 32, 0]
def k0_off16 (i : grid0.Coords) (k0_t4 : Fin (k0_t4_loop i).trips) (c0_i32_368 : BitVec 32) : Fin 3 → Nat :=
  let c0_i32_334 : BitVec 32 := 0#32
  let c1_i32_336 : BitVec 32 := 1#32
  let arg23 : BitVec 32 := Scf.iv c0_i32_334 c1_i32_336 k0_t4
  let c4_i32_359 : BitVec 32 := 4#32
  let v600 : BitVec 32 := Scalar.muli arg23 c4_i32_359
  let v631 : BitVec 32 := Scalar.addi v600 c0_i32_368
  let v632 : Index := Scalar.indexCast v631
  let c48 : Index := 48#32
  let c0_369 : Index := 0#32
  ![v632.toNat, 48, 0]
def k0_off17 (i : grid0.Coords) (k0_t4 : Fin (k0_t4_loop i).trips) (c0_i32_370 : BitVec 32) : Fin 3 → Nat :=
  let c0_i32_334 : BitVec 32 := 0#32
  let c1_i32_336 : BitVec 32 := 1#32
  let arg23 : BitVec 32 := Scf.iv c0_i32_334 c1_i32_336 k0_t4
  let c4_i32_359 : BitVec 32 := 4#32
  let v600 : BitVec 32 := Scalar.muli arg23 c4_i32_359
  let v641 : BitVec 32 := Scalar.addi v600 c0_i32_370
  let v642 : Index := Scalar.indexCast v641
  let c64_371 : Index := 64#32
  let c0_372 : Index := 0#32
  ![v642.toNat, 64, 0]
def k0_off18 (i : grid0.Coords) (k0_t4 : Fin (k0_t4_loop i).trips) (c0_i32_373 : BitVec 32) : Fin 3 → Nat :=
  let c0_i32_334 : BitVec 32 := 0#32
  let c1_i32_336 : BitVec 32 := 1#32
  let arg23 : BitVec 32 := Scf.iv c0_i32_334 c1_i32_336 k0_t4
  let c4_i32_359 : BitVec 32 := 4#32
  let v600 : BitVec 32 := Scalar.muli arg23 c4_i32_359
  let v651 : BitVec 32 := Scalar.addi v600 c0_i32_373
  let v652 : Index := Scalar.indexCast v651
  let c80 : Index := 80#32
  let c0_374 : Index := 0#32
  ![v652.toNat, 80, 0]
def k0_off19 (i : grid0.Coords) (k0_t4 : Fin (k0_t4_loop i).trips) (c0_i32_375 : BitVec 32) : Fin 3 → Nat :=
  let c0_i32_334 : BitVec 32 := 0#32
  let c1_i32_336 : BitVec 32 := 1#32
  let arg23 : BitVec 32 := Scf.iv c0_i32_334 c1_i32_336 k0_t4
  let c4_i32_359 : BitVec 32 := 4#32
  let v600 : BitVec 32 := Scalar.muli arg23 c4_i32_359
  let v661 : BitVec 32 := Scalar.addi v600 c0_i32_375
  let v662 : Index := Scalar.indexCast v661
  let c96_376 : Index := 96#32
  let c0_377 : Index := 0#32
  ![v662.toNat, 96, 0]
def k0_off20 (i : grid0.Coords) (k0_t4 : Fin (k0_t4_loop i).trips) (c0_i32_378 : BitVec 32) : Fin 3 → Nat :=
  let c0_i32_334 : BitVec 32 := 0#32
  let c1_i32_336 : BitVec 32 := 1#32
  let arg23 : BitVec 32 := Scf.iv c0_i32_334 c1_i32_336 k0_t4
  let c4_i32_359 : BitVec 32 := 4#32
  let v600 : BitVec 32 := Scalar.muli arg23 c4_i32_359
  let v671 : BitVec 32 := Scalar.addi v600 c0_i32_378
  let v672 : Index := Scalar.indexCast v671
  let c112 : Index := 112#32
  let c0_379 : Index := 0#32
  ![v672.toNat, 112, 0]
def k0_off21 (i : grid0.Coords) (k0_t4 : Fin (k0_t4_loop i).trips) (c0_i32_380 : BitVec 32) : Fin 3 → Nat :=
  let c0_i32_334 : BitVec 32 := 0#32
  let c1_i32_336 : BitVec 32 := 1#32
  let arg23 : BitVec 32 := Scf.iv c0_i32_334 c1_i32_336 k0_t4
  let c4_i32_359 : BitVec 32 := 4#32
  let v600 : BitVec 32 := Scalar.muli arg23 c4_i32_359
  let v681 : BitVec 32 := Scalar.addi v600 c0_i32_380
  let v682 : Index := Scalar.indexCast v681
  let c128_381 : Index := 128#32
  let c0_382 : Index := 0#32
  ![v682.toNat, 128, 0]
def k0_off22 (i : grid0.Coords) (k0_t4 : Fin (k0_t4_loop i).trips) (c0_i32_383 : BitVec 32) : Fin 3 → Nat :=
  let c0_i32_334 : BitVec 32 := 0#32
  let c1_i32_336 : BitVec 32 := 1#32
  let arg23 : BitVec 32 := Scf.iv c0_i32_334 c1_i32_336 k0_t4
  let c4_i32_359 : BitVec 32 := 4#32
  let v600 : BitVec 32 := Scalar.muli arg23 c4_i32_359
  let v691 : BitVec 32 := Scalar.addi v600 c0_i32_383
  let v692 : Index := Scalar.indexCast v691
  let c144 : Index := 144#32
  let c0_384 : Index := 0#32
  ![v692.toNat, 144, 0]
def k0_off23 (i : grid0.Coords) (k0_t4 : Fin (k0_t4_loop i).trips) (c0_i32_385 : BitVec 32) : Fin 3 → Nat :=
  let c0_i32_334 : BitVec 32 := 0#32
  let c1_i32_336 : BitVec 32 := 1#32
  let arg23 : BitVec 32 := Scf.iv c0_i32_334 c1_i32_336 k0_t4
  let c4_i32_359 : BitVec 32 := 4#32
  let v600 : BitVec 32 := Scalar.muli arg23 c4_i32_359
  let v701 : BitVec 32 := Scalar.addi v600 c0_i32_385
  let v702 : Index := Scalar.indexCast v701
  let c160_386 : Index := 160#32
  let c0_387 : Index := 0#32
  ![v702.toNat, 160, 0]
def k0_off24 (i : grid0.Coords) (k0_t4 : Fin (k0_t4_loop i).trips) (c0_i32_388 : BitVec 32) : Fin 3 → Nat :=
  let c0_i32_334 : BitVec 32 := 0#32
  let c1_i32_336 : BitVec 32 := 1#32
  let arg23 : BitVec 32 := Scf.iv c0_i32_334 c1_i32_336 k0_t4
  let c4_i32_359 : BitVec 32 := 4#32
  let v600 : BitVec 32 := Scalar.muli arg23 c4_i32_359
  let v711 : BitVec 32 := Scalar.addi v600 c0_i32_388
  let v712 : Index := Scalar.indexCast v711
  let c176 : Index := 176#32
  let c0_389 : Index := 0#32
  ![v712.toNat, 176, 0]
def k0_off25 (i : grid0.Coords) (k0_t4 : Fin (k0_t4_loop i).trips) (c0_i32_390 : BitVec 32) : Fin 3 → Nat :=
  let c0_i32_334 : BitVec 32 := 0#32
  let c1_i32_336 : BitVec 32 := 1#32
  let arg23 : BitVec 32 := Scf.iv c0_i32_334 c1_i32_336 k0_t4
  let c4_i32_359 : BitVec 32 := 4#32
  let v600 : BitVec 32 := Scalar.muli arg23 c4_i32_359
  let v721 : BitVec 32 := Scalar.addi v600 c0_i32_390
  let v722 : Index := Scalar.indexCast v721
  let c192_391 : Index := 192#32
  let c0_392 : Index := 0#32
  ![v722.toNat, 192, 0]
def k0_off26 (i : grid0.Coords) (k0_t4 : Fin (k0_t4_loop i).trips) (c0_i32_393 : BitVec 32) : Fin 3 → Nat :=
  let c0_i32_334 : BitVec 32 := 0#32
  let c1_i32_336 : BitVec 32 := 1#32
  let arg23 : BitVec 32 := Scf.iv c0_i32_334 c1_i32_336 k0_t4
  let c4_i32_359 : BitVec 32 := 4#32
  let v600 : BitVec 32 := Scalar.muli arg23 c4_i32_359
  let v731 : BitVec 32 := Scalar.addi v600 c0_i32_393
  let v732 : Index := Scalar.indexCast v731
  let c208 : Index := 208#32
  let c0_394 : Index := 0#32
  ![v732.toNat, 208, 0]
def k0_off27 (i : grid0.Coords) (k0_t4 : Fin (k0_t4_loop i).trips) (c0_i32_395 : BitVec 32) : Fin 3 → Nat :=
  let c0_i32_334 : BitVec 32 := 0#32
  let c1_i32_336 : BitVec 32 := 1#32
  let arg23 : BitVec 32 := Scf.iv c0_i32_334 c1_i32_336 k0_t4
  let c4_i32_359 : BitVec 32 := 4#32
  let v600 : BitVec 32 := Scalar.muli arg23 c4_i32_359
  let v741 : BitVec 32 := Scalar.addi v600 c0_i32_395
  let v742 : Index := Scalar.indexCast v741
  let c224_396 : Index := 224#32
  let c0_397 : Index := 0#32
  ![v742.toNat, 224, 0]
def k0_off28 (i : grid0.Coords) (k0_t4 : Fin (k0_t4_loop i).trips) (c0_i32_398 : BitVec 32) : Fin 3 → Nat :=
  let c0_i32_334 : BitVec 32 := 0#32
  let c1_i32_336 : BitVec 32 := 1#32
  let arg23 : BitVec 32 := Scf.iv c0_i32_334 c1_i32_336 k0_t4
  let c4_i32_359 : BitVec 32 := 4#32
  let v600 : BitVec 32 := Scalar.muli arg23 c4_i32_359
  let v751 : BitVec 32 := Scalar.addi v600 c0_i32_398
  let v752 : Index := Scalar.indexCast v751
  let c240 : Index := 240#32
  let c0_399 : Index := 0#32
  ![v752.toNat, 240, 0]
def k0_off29 (i : grid0.Coords) (k0_t4 : Fin (k0_t4_loop i).trips) (c0_i32_400 : BitVec 32) : Fin 3 → Nat :=
  let c0_i32_334 : BitVec 32 := 0#32
  let c1_i32_336 : BitVec 32 := 1#32
  let arg23 : BitVec 32 := Scf.iv c0_i32_334 c1_i32_336 k0_t4
  let c4_i32_359 : BitVec 32 := 4#32
  let v600 : BitVec 32 := Scalar.muli arg23 c4_i32_359
  let v761 : BitVec 32 := Scalar.addi v600 c0_i32_400
  let v762 : Index := Scalar.indexCast v761
  let c256_401 : Index := 256#32
  let c0_402 : Index := 0#32
  ![v762.toNat, 256, 0]
def k0_off30 (i : grid0.Coords) (k0_t4 : Fin (k0_t4_loop i).trips) (c0_i32_403 : BitVec 32) : Fin 3 → Nat :=
  let c0_i32_334 : BitVec 32 := 0#32
  let c1_i32_336 : BitVec 32 := 1#32
  let arg23 : BitVec 32 := Scf.iv c0_i32_334 c1_i32_336 k0_t4
  let c4_i32_359 : BitVec 32 := 4#32
  let v600 : BitVec 32 := Scalar.muli arg23 c4_i32_359
  let v771 : BitVec 32 := Scalar.addi v600 c0_i32_403
  let v772 : Index := Scalar.indexCast v771
  let c272 : Index := 272#32
  let c0_404 : Index := 0#32
  ![v772.toNat, 272, 0]
def k0_off31 (i : grid0.Coords) (k0_t4 : Fin (k0_t4_loop i).trips) (c0_i32_405 : BitVec 32) : Fin 3 → Nat :=
  let c0_i32_334 : BitVec 32 := 0#32
  let c1_i32_336 : BitVec 32 := 1#32
  let arg23 : BitVec 32 := Scf.iv c0_i32_334 c1_i32_336 k0_t4
  let c4_i32_359 : BitVec 32 := 4#32
  let v600 : BitVec 32 := Scalar.muli arg23 c4_i32_359
  let v781 : BitVec 32 := Scalar.addi v600 c0_i32_405
  let v782 : Index := Scalar.indexCast v781
  let c288 : Index := 288#32
  let c0_406 : Index := 0#32
  ![v782.toNat, 288, 0]
def k0_off32 (i : grid0.Coords) (k0_t4 : Fin (k0_t4_loop i).trips) (c0_i32_407 : BitVec 32) : Fin 3 → Nat :=
  let c0_i32_334 : BitVec 32 := 0#32
  let c1_i32_336 : BitVec 32 := 1#32
  let arg23 : BitVec 32 := Scf.iv c0_i32_334 c1_i32_336 k0_t4
  let c4_i32_359 : BitVec 32 := 4#32
  let v600 : BitVec 32 := Scalar.muli arg23 c4_i32_359
  let v791 : BitVec 32 := Scalar.addi v600 c0_i32_407
  let v792 : Index := Scalar.indexCast v791
  let c304 : Index := 304#32
  let c0_408 : Index := 0#32
  ![v792.toNat, 304, 0]
def k0_off33 (i : grid0.Coords) (k0_t4 : Fin (k0_t4_loop i).trips) (c0_i32_409 : BitVec 32) : Fin 3 → Nat :=
  let c0_i32_334 : BitVec 32 := 0#32
  let c1_i32_336 : BitVec 32 := 1#32
  let arg23 : BitVec 32 := Scf.iv c0_i32_334 c1_i32_336 k0_t4
  let c4_i32_359 : BitVec 32 := 4#32
  let v600 : BitVec 32 := Scalar.muli arg23 c4_i32_359
  let v801 : BitVec 32 := Scalar.addi v600 c0_i32_409
  let v802 : Index := Scalar.indexCast v801
  let c320_410 : Index := 320#32
  let c0_411 : Index := 0#32
  ![v802.toNat, 320, 0]
def k0_off34 (i : grid0.Coords) (k0_t4 : Fin (k0_t4_loop i).trips) (c0_i32_412 : BitVec 32) : Fin 3 → Nat :=
  let c0_i32_334 : BitVec 32 := 0#32
  let c1_i32_336 : BitVec 32 := 1#32
  let arg23 : BitVec 32 := Scf.iv c0_i32_334 c1_i32_336 k0_t4
  let c4_i32_359 : BitVec 32 := 4#32
  let v600 : BitVec 32 := Scalar.muli arg23 c4_i32_359
  let v811 : BitVec 32 := Scalar.addi v600 c0_i32_412
  let v812 : Index := Scalar.indexCast v811
  let c336 : Index := 336#32
  let c0_413 : Index := 0#32
  ![v812.toNat, 336, 0]
def k0_off35 (i : grid0.Coords) (k0_t4 : Fin (k0_t4_loop i).trips) (c0_i32_414 : BitVec 32) : Fin 3 → Nat :=
  let c0_i32_334 : BitVec 32 := 0#32
  let c1_i32_336 : BitVec 32 := 1#32
  let arg23 : BitVec 32 := Scf.iv c0_i32_334 c1_i32_336 k0_t4
  let c4_i32_359 : BitVec 32 := 4#32
  let v600 : BitVec 32 := Scalar.muli arg23 c4_i32_359
  let v821 : BitVec 32 := Scalar.addi v600 c0_i32_414
  let v822 : Index := Scalar.indexCast v821
  let c352 : Index := 352#32
  let c0_415 : Index := 0#32
  ![v822.toNat, 352, 0]
def k0_off36 (i : grid0.Coords) (k0_t4 : Fin (k0_t4_loop i).trips) (c0_i32_416 : BitVec 32) : Fin 3 → Nat :=
  let c0_i32_334 : BitVec 32 := 0#32
  let c1_i32_336 : BitVec 32 := 1#32
  let arg23 : BitVec 32 := Scf.iv c0_i32_334 c1_i32_336 k0_t4
  let c4_i32_359 : BitVec 32 := 4#32
  let v600 : BitVec 32 := Scalar.muli arg23 c4_i32_359
  let v831 : BitVec 32 := Scalar.addi v600 c0_i32_416
  let v832 : Index := Scalar.indexCast v831
  let c368 : Index := 368#32
  let c0_417 : Index := 0#32
  ![v832.toNat, 368, 0]
def k0_off37 (i : grid0.Coords) (k0_t4 : Fin (k0_t4_loop i).trips) (c0_i32_418 : BitVec 32) : Fin 3 → Nat :=
  let c0_i32_334 : BitVec 32 := 0#32
  let c1_i32_336 : BitVec 32 := 1#32
  let arg23 : BitVec 32 := Scf.iv c0_i32_334 c1_i32_336 k0_t4
  let c4_i32_359 : BitVec 32 := 4#32
  let v600 : BitVec 32 := Scalar.muli arg23 c4_i32_359
  let v841 : BitVec 32 := Scalar.addi v600 c0_i32_418
  let v842 : Index := Scalar.indexCast v841
  let c384_419 : Index := 384#32
  let c0_420 : Index := 0#32
  ![v842.toNat, 384, 0]
def k0_off38 (i : grid0.Coords) (k0_t4 : Fin (k0_t4_loop i).trips) (c0_i32_421 : BitVec 32) : Fin 3 → Nat :=
  let c0_i32_334 : BitVec 32 := 0#32
  let c1_i32_336 : BitVec 32 := 1#32
  let arg23 : BitVec 32 := Scf.iv c0_i32_334 c1_i32_336 k0_t4
  let c4_i32_359 : BitVec 32 := 4#32
  let v600 : BitVec 32 := Scalar.muli arg23 c4_i32_359
  let v851 : BitVec 32 := Scalar.addi v600 c0_i32_421
  let v852 : Index := Scalar.indexCast v851
  let c400 : Index := 400#32
  let c0_422 : Index := 0#32
  ![v852.toNat, 400, 0]
def k0_off39 (i : grid0.Coords) (k0_t4 : Fin (k0_t4_loop i).trips) (c0_i32_423 : BitVec 32) : Fin 3 → Nat :=
  let c0_i32_334 : BitVec 32 := 0#32
  let c1_i32_336 : BitVec 32 := 1#32
  let arg23 : BitVec 32 := Scf.iv c0_i32_334 c1_i32_336 k0_t4
  let c4_i32_359 : BitVec 32 := 4#32
  let v600 : BitVec 32 := Scalar.muli arg23 c4_i32_359
  let v861 : BitVec 32 := Scalar.addi v600 c0_i32_423
  let v862 : Index := Scalar.indexCast v861
  let c416 : Index := 416#32
  let c0_424 : Index := 0#32
  ![v862.toNat, 416, 0]
def k0_off40 (i : grid0.Coords) (k0_t4 : Fin (k0_t4_loop i).trips) (c0_i32_425 : BitVec 32) : Fin 3 → Nat :=
  let c0_i32_334 : BitVec 32 := 0#32
  let c1_i32_336 : BitVec 32 := 1#32
  let arg23 : BitVec 32 := Scf.iv c0_i32_334 c1_i32_336 k0_t4
  let c4_i32_359 : BitVec 32 := 4#32
  let v600 : BitVec 32 := Scalar.muli arg23 c4_i32_359
  let v871 : BitVec 32 := Scalar.addi v600 c0_i32_425
  let v872 : Index := Scalar.indexCast v871
  let c432 : Index := 432#32
  let c0_426 : Index := 0#32
  ![v872.toNat, 432, 0]
def k0_off41 (i : grid0.Coords) (k0_t4 : Fin (k0_t4_loop i).trips) (c0_i32_427 : BitVec 32) : Fin 3 → Nat :=
  let c0_i32_334 : BitVec 32 := 0#32
  let c1_i32_336 : BitVec 32 := 1#32
  let arg23 : BitVec 32 := Scf.iv c0_i32_334 c1_i32_336 k0_t4
  let c4_i32_359 : BitVec 32 := 4#32
  let v600 : BitVec 32 := Scalar.muli arg23 c4_i32_359
  let v881 : BitVec 32 := Scalar.addi v600 c0_i32_427
  let v882 : Index := Scalar.indexCast v881
  let c448_428 : Index := 448#32
  let c0_429 : Index := 0#32
  ![v882.toNat, 448, 0]
def k0_off42 (i : grid0.Coords) (k0_t4 : Fin (k0_t4_loop i).trips) (c0_i32_430 : BitVec 32) : Fin 3 → Nat :=
  let c0_i32_334 : BitVec 32 := 0#32
  let c1_i32_336 : BitVec 32 := 1#32
  let arg23 : BitVec 32 := Scf.iv c0_i32_334 c1_i32_336 k0_t4
  let c4_i32_359 : BitVec 32 := 4#32
  let v600 : BitVec 32 := Scalar.muli arg23 c4_i32_359
  let v891 : BitVec 32 := Scalar.addi v600 c0_i32_430
  let v892 : Index := Scalar.indexCast v891
  let c464 : Index := 464#32
  let c0_431 : Index := 0#32
  ![v892.toNat, 464, 0]
def k0_off43 (i : grid0.Coords) (k0_t4 : Fin (k0_t4_loop i).trips) (c0_i32_432 : BitVec 32) : Fin 3 → Nat :=
  let c0_i32_334 : BitVec 32 := 0#32
  let c1_i32_336 : BitVec 32 := 1#32
  let arg23 : BitVec 32 := Scf.iv c0_i32_334 c1_i32_336 k0_t4
  let c4_i32_359 : BitVec 32 := 4#32
  let v600 : BitVec 32 := Scalar.muli arg23 c4_i32_359
  let v901 : BitVec 32 := Scalar.addi v600 c0_i32_432
  let v902 : Index := Scalar.indexCast v901
  let c480 : Index := 480#32
  let c0_433 : Index := 0#32
  ![v902.toNat, 480, 0]
def k0_off44 (i : grid0.Coords) (k0_t4 : Fin (k0_t4_loop i).trips) (c0_i32_434 : BitVec 32) : Fin 3 → Nat :=
  let c0_i32_334 : BitVec 32 := 0#32
  let c1_i32_336 : BitVec 32 := 1#32
  let arg23 : BitVec 32 := Scf.iv c0_i32_334 c1_i32_336 k0_t4
  let c4_i32_359 : BitVec 32 := 4#32
  let v600 : BitVec 32 := Scalar.muli arg23 c4_i32_359
  let v911 : BitVec 32 := Scalar.addi v600 c0_i32_434
  let v912 : Index := Scalar.indexCast v911
  let c496 : Index := 496#32
  let c0_435 : Index := 0#32
  ![v912.toNat, 496, 0]
@[reducible] def k0_t5_loop (i : grid0.Coords) : Scf.Loop 32 :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let v549 : BitVec 32 := Scalar.addi c0_i32_334 v548
  let c1_i32_337 : BitVec 32 := 1#32
  ⟨v552, v549, c1_i32_337⟩
def k0_off45 (i : grid0.Coords) (k0_t5 : Fin (k0_t5_loop i).trips) (c0_i32_360 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t5
  let c4_i32_359 : BitVec 32 := 4#32
  let v600 : BitVec 32 := Scalar.muli arg23 c4_i32_359
  let v601 : BitVec 32 := Scalar.addi v600 c0_i32_360
  let v602 : Index := Scalar.indexCast v601
  let c0_361 : Index := 0#32
  let c0_362 : Index := 0#32
  ![v602.toNat, 0, 0]
def k0_off46 (i : grid0.Coords) (k0_t5 : Fin (k0_t5_loop i).trips) (c0_i32_363 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t5
  let c4_i32_359 : BitVec 32 := 4#32
  let v600 : BitVec 32 := Scalar.muli arg23 c4_i32_359
  let v611 : BitVec 32 := Scalar.addi v600 c0_i32_363
  let v612 : Index := Scalar.indexCast v611
  let c16 : Index := 16#32
  let c0_364 : Index := 0#32
  ![v612.toNat, 16, 0]
def k0_off47 (i : grid0.Coords) (k0_t5 : Fin (k0_t5_loop i).trips) (c0_i32_365 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t5
  let c4_i32_359 : BitVec 32 := 4#32
  let v600 : BitVec 32 := Scalar.muli arg23 c4_i32_359
  let v621 : BitVec 32 := Scalar.addi v600 c0_i32_365
  let v622 : Index := Scalar.indexCast v621
  let c32_366 : Index := 32#32
  let c0_367 : Index := 0#32
  ![v622.toNat, 32, 0]
def k0_off48 (i : grid0.Coords) (k0_t5 : Fin (k0_t5_loop i).trips) (c0_i32_368 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t5
  let c4_i32_359 : BitVec 32 := 4#32
  let v600 : BitVec 32 := Scalar.muli arg23 c4_i32_359
  let v631 : BitVec 32 := Scalar.addi v600 c0_i32_368
  let v632 : Index := Scalar.indexCast v631
  let c48 : Index := 48#32
  let c0_369 : Index := 0#32
  ![v632.toNat, 48, 0]
def k0_off49 (i : grid0.Coords) (k0_t5 : Fin (k0_t5_loop i).trips) (c0_i32_370 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t5
  let c4_i32_359 : BitVec 32 := 4#32
  let v600 : BitVec 32 := Scalar.muli arg23 c4_i32_359
  let v641 : BitVec 32 := Scalar.addi v600 c0_i32_370
  let v642 : Index := Scalar.indexCast v641
  let c64_371 : Index := 64#32
  let c0_372 : Index := 0#32
  ![v642.toNat, 64, 0]
def k0_off50 (i : grid0.Coords) (k0_t5 : Fin (k0_t5_loop i).trips) (c0_i32_373 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t5
  let c4_i32_359 : BitVec 32 := 4#32
  let v600 : BitVec 32 := Scalar.muli arg23 c4_i32_359
  let v651 : BitVec 32 := Scalar.addi v600 c0_i32_373
  let v652 : Index := Scalar.indexCast v651
  let c80 : Index := 80#32
  let c0_374 : Index := 0#32
  ![v652.toNat, 80, 0]
def k0_off51 (i : grid0.Coords) (k0_t5 : Fin (k0_t5_loop i).trips) (c0_i32_375 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t5
  let c4_i32_359 : BitVec 32 := 4#32
  let v600 : BitVec 32 := Scalar.muli arg23 c4_i32_359
  let v661 : BitVec 32 := Scalar.addi v600 c0_i32_375
  let v662 : Index := Scalar.indexCast v661
  let c96_376 : Index := 96#32
  let c0_377 : Index := 0#32
  ![v662.toNat, 96, 0]
def k0_off52 (i : grid0.Coords) (k0_t5 : Fin (k0_t5_loop i).trips) (c0_i32_378 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t5
  let c4_i32_359 : BitVec 32 := 4#32
  let v600 : BitVec 32 := Scalar.muli arg23 c4_i32_359
  let v671 : BitVec 32 := Scalar.addi v600 c0_i32_378
  let v672 : Index := Scalar.indexCast v671
  let c112 : Index := 112#32
  let c0_379 : Index := 0#32
  ![v672.toNat, 112, 0]
def k0_off53 (i : grid0.Coords) (k0_t5 : Fin (k0_t5_loop i).trips) (c0_i32_380 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t5
  let c4_i32_359 : BitVec 32 := 4#32
  let v600 : BitVec 32 := Scalar.muli arg23 c4_i32_359
  let v681 : BitVec 32 := Scalar.addi v600 c0_i32_380
  let v682 : Index := Scalar.indexCast v681
  let c128_381 : Index := 128#32
  let c0_382 : Index := 0#32
  ![v682.toNat, 128, 0]
def k0_off54 (i : grid0.Coords) (k0_t5 : Fin (k0_t5_loop i).trips) (c0_i32_383 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t5
  let c4_i32_359 : BitVec 32 := 4#32
  let v600 : BitVec 32 := Scalar.muli arg23 c4_i32_359
  let v691 : BitVec 32 := Scalar.addi v600 c0_i32_383
  let v692 : Index := Scalar.indexCast v691
  let c144 : Index := 144#32
  let c0_384 : Index := 0#32
  ![v692.toNat, 144, 0]
def k0_off55 (i : grid0.Coords) (k0_t5 : Fin (k0_t5_loop i).trips) (c0_i32_385 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t5
  let c4_i32_359 : BitVec 32 := 4#32
  let v600 : BitVec 32 := Scalar.muli arg23 c4_i32_359
  let v701 : BitVec 32 := Scalar.addi v600 c0_i32_385
  let v702 : Index := Scalar.indexCast v701
  let c160_386 : Index := 160#32
  let c0_387 : Index := 0#32
  ![v702.toNat, 160, 0]
def k0_off56 (i : grid0.Coords) (k0_t5 : Fin (k0_t5_loop i).trips) (c0_i32_388 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t5
  let c4_i32_359 : BitVec 32 := 4#32
  let v600 : BitVec 32 := Scalar.muli arg23 c4_i32_359
  let v711 : BitVec 32 := Scalar.addi v600 c0_i32_388
  let v712 : Index := Scalar.indexCast v711
  let c176 : Index := 176#32
  let c0_389 : Index := 0#32
  ![v712.toNat, 176, 0]
def k0_off57 (i : grid0.Coords) (k0_t5 : Fin (k0_t5_loop i).trips) (c0_i32_390 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t5
  let c4_i32_359 : BitVec 32 := 4#32
  let v600 : BitVec 32 := Scalar.muli arg23 c4_i32_359
  let v721 : BitVec 32 := Scalar.addi v600 c0_i32_390
  let v722 : Index := Scalar.indexCast v721
  let c192_391 : Index := 192#32
  let c0_392 : Index := 0#32
  ![v722.toNat, 192, 0]
def k0_off58 (i : grid0.Coords) (k0_t5 : Fin (k0_t5_loop i).trips) (c0_i32_393 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t5
  let c4_i32_359 : BitVec 32 := 4#32
  let v600 : BitVec 32 := Scalar.muli arg23 c4_i32_359
  let v731 : BitVec 32 := Scalar.addi v600 c0_i32_393
  let v732 : Index := Scalar.indexCast v731
  let c208 : Index := 208#32
  let c0_394 : Index := 0#32
  ![v732.toNat, 208, 0]
def k0_off59 (i : grid0.Coords) (k0_t5 : Fin (k0_t5_loop i).trips) (c0_i32_395 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t5
  let c4_i32_359 : BitVec 32 := 4#32
  let v600 : BitVec 32 := Scalar.muli arg23 c4_i32_359
  let v741 : BitVec 32 := Scalar.addi v600 c0_i32_395
  let v742 : Index := Scalar.indexCast v741
  let c224_396 : Index := 224#32
  let c0_397 : Index := 0#32
  ![v742.toNat, 224, 0]
def k0_off60 (i : grid0.Coords) (k0_t5 : Fin (k0_t5_loop i).trips) (c0_i32_398 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t5
  let c4_i32_359 : BitVec 32 := 4#32
  let v600 : BitVec 32 := Scalar.muli arg23 c4_i32_359
  let v751 : BitVec 32 := Scalar.addi v600 c0_i32_398
  let v752 : Index := Scalar.indexCast v751
  let c240 : Index := 240#32
  let c0_399 : Index := 0#32
  ![v752.toNat, 240, 0]
def k0_off61 (i : grid0.Coords) (k0_t5 : Fin (k0_t5_loop i).trips) (c0_i32_400 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t5
  let c4_i32_359 : BitVec 32 := 4#32
  let v600 : BitVec 32 := Scalar.muli arg23 c4_i32_359
  let v761 : BitVec 32 := Scalar.addi v600 c0_i32_400
  let v762 : Index := Scalar.indexCast v761
  let c256_401 : Index := 256#32
  let c0_402 : Index := 0#32
  ![v762.toNat, 256, 0]
def k0_off62 (i : grid0.Coords) (k0_t5 : Fin (k0_t5_loop i).trips) (c0_i32_403 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t5
  let c4_i32_359 : BitVec 32 := 4#32
  let v600 : BitVec 32 := Scalar.muli arg23 c4_i32_359
  let v771 : BitVec 32 := Scalar.addi v600 c0_i32_403
  let v772 : Index := Scalar.indexCast v771
  let c272 : Index := 272#32
  let c0_404 : Index := 0#32
  ![v772.toNat, 272, 0]
def k0_off63 (i : grid0.Coords) (k0_t5 : Fin (k0_t5_loop i).trips) (c0_i32_405 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t5
  let c4_i32_359 : BitVec 32 := 4#32
  let v600 : BitVec 32 := Scalar.muli arg23 c4_i32_359
  let v781 : BitVec 32 := Scalar.addi v600 c0_i32_405
  let v782 : Index := Scalar.indexCast v781
  let c288 : Index := 288#32
  let c0_406 : Index := 0#32
  ![v782.toNat, 288, 0]
def k0_off64 (i : grid0.Coords) (k0_t5 : Fin (k0_t5_loop i).trips) (c0_i32_407 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t5
  let c4_i32_359 : BitVec 32 := 4#32
  let v600 : BitVec 32 := Scalar.muli arg23 c4_i32_359
  let v791 : BitVec 32 := Scalar.addi v600 c0_i32_407
  let v792 : Index := Scalar.indexCast v791
  let c304 : Index := 304#32
  let c0_408 : Index := 0#32
  ![v792.toNat, 304, 0]
def k0_off65 (i : grid0.Coords) (k0_t5 : Fin (k0_t5_loop i).trips) (c0_i32_409 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t5
  let c4_i32_359 : BitVec 32 := 4#32
  let v600 : BitVec 32 := Scalar.muli arg23 c4_i32_359
  let v801 : BitVec 32 := Scalar.addi v600 c0_i32_409
  let v802 : Index := Scalar.indexCast v801
  let c320_410 : Index := 320#32
  let c0_411 : Index := 0#32
  ![v802.toNat, 320, 0]
def k0_off66 (i : grid0.Coords) (k0_t5 : Fin (k0_t5_loop i).trips) (c0_i32_412 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t5
  let c4_i32_359 : BitVec 32 := 4#32
  let v600 : BitVec 32 := Scalar.muli arg23 c4_i32_359
  let v811 : BitVec 32 := Scalar.addi v600 c0_i32_412
  let v812 : Index := Scalar.indexCast v811
  let c336 : Index := 336#32
  let c0_413 : Index := 0#32
  ![v812.toNat, 336, 0]
def k0_off67 (i : grid0.Coords) (k0_t5 : Fin (k0_t5_loop i).trips) (c0_i32_414 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t5
  let c4_i32_359 : BitVec 32 := 4#32
  let v600 : BitVec 32 := Scalar.muli arg23 c4_i32_359
  let v821 : BitVec 32 := Scalar.addi v600 c0_i32_414
  let v822 : Index := Scalar.indexCast v821
  let c352 : Index := 352#32
  let c0_415 : Index := 0#32
  ![v822.toNat, 352, 0]
def k0_off68 (i : grid0.Coords) (k0_t5 : Fin (k0_t5_loop i).trips) (c0_i32_416 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t5
  let c4_i32_359 : BitVec 32 := 4#32
  let v600 : BitVec 32 := Scalar.muli arg23 c4_i32_359
  let v831 : BitVec 32 := Scalar.addi v600 c0_i32_416
  let v832 : Index := Scalar.indexCast v831
  let c368 : Index := 368#32
  let c0_417 : Index := 0#32
  ![v832.toNat, 368, 0]
def k0_off69 (i : grid0.Coords) (k0_t5 : Fin (k0_t5_loop i).trips) (c0_i32_418 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t5
  let c4_i32_359 : BitVec 32 := 4#32
  let v600 : BitVec 32 := Scalar.muli arg23 c4_i32_359
  let v841 : BitVec 32 := Scalar.addi v600 c0_i32_418
  let v842 : Index := Scalar.indexCast v841
  let c384_419 : Index := 384#32
  let c0_420 : Index := 0#32
  ![v842.toNat, 384, 0]
def k0_off70 (i : grid0.Coords) (k0_t5 : Fin (k0_t5_loop i).trips) (c0_i32_421 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t5
  let c4_i32_359 : BitVec 32 := 4#32
  let v600 : BitVec 32 := Scalar.muli arg23 c4_i32_359
  let v851 : BitVec 32 := Scalar.addi v600 c0_i32_421
  let v852 : Index := Scalar.indexCast v851
  let c400 : Index := 400#32
  let c0_422 : Index := 0#32
  ![v852.toNat, 400, 0]
def k0_off71 (i : grid0.Coords) (k0_t5 : Fin (k0_t5_loop i).trips) (c0_i32_423 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t5
  let c4_i32_359 : BitVec 32 := 4#32
  let v600 : BitVec 32 := Scalar.muli arg23 c4_i32_359
  let v861 : BitVec 32 := Scalar.addi v600 c0_i32_423
  let v862 : Index := Scalar.indexCast v861
  let c416 : Index := 416#32
  let c0_424 : Index := 0#32
  ![v862.toNat, 416, 0]
def k0_off72 (i : grid0.Coords) (k0_t5 : Fin (k0_t5_loop i).trips) (c0_i32_425 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t5
  let c4_i32_359 : BitVec 32 := 4#32
  let v600 : BitVec 32 := Scalar.muli arg23 c4_i32_359
  let v871 : BitVec 32 := Scalar.addi v600 c0_i32_425
  let v872 : Index := Scalar.indexCast v871
  let c432 : Index := 432#32
  let c0_426 : Index := 0#32
  ![v872.toNat, 432, 0]
def k0_off73 (i : grid0.Coords) (k0_t5 : Fin (k0_t5_loop i).trips) (c0_i32_427 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t5
  let c4_i32_359 : BitVec 32 := 4#32
  let v600 : BitVec 32 := Scalar.muli arg23 c4_i32_359
  let v881 : BitVec 32 := Scalar.addi v600 c0_i32_427
  let v882 : Index := Scalar.indexCast v881
  let c448_428 : Index := 448#32
  let c0_429 : Index := 0#32
  ![v882.toNat, 448, 0]
def k0_off74 (i : grid0.Coords) (k0_t5 : Fin (k0_t5_loop i).trips) (c0_i32_430 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t5
  let c4_i32_359 : BitVec 32 := 4#32
  let v600 : BitVec 32 := Scalar.muli arg23 c4_i32_359
  let v891 : BitVec 32 := Scalar.addi v600 c0_i32_430
  let v892 : Index := Scalar.indexCast v891
  let c464 : Index := 464#32
  let c0_431 : Index := 0#32
  ![v892.toNat, 464, 0]
def k0_off75 (i : grid0.Coords) (k0_t5 : Fin (k0_t5_loop i).trips) (c0_i32_432 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t5
  let c4_i32_359 : BitVec 32 := 4#32
  let v600 : BitVec 32 := Scalar.muli arg23 c4_i32_359
  let v901 : BitVec 32 := Scalar.addi v600 c0_i32_432
  let v902 : Index := Scalar.indexCast v901
  let c480 : Index := 480#32
  let c0_433 : Index := 0#32
  ![v902.toNat, 480, 0]
def k0_off76 (i : grid0.Coords) (k0_t5 : Fin (k0_t5_loop i).trips) (c0_i32_434 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t5
  let c4_i32_359 : BitVec 32 := 4#32
  let v600 : BitVec 32 := Scalar.muli arg23 c4_i32_359
  let v911 : BitVec 32 := Scalar.addi v600 c0_i32_434
  let v912 : Index := Scalar.indexCast v911
  let c496 : Index := 496#32
  let c0_435 : Index := 0#32
  ![v912.toNat, 496, 0]
def k0_cond4 (i : grid0.Coords) : BitVec 1 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c2_i32_346 : BitVec 32 := 2#32
  let v573 : BitVec 32 := Scalar.andi v20 c2_i32_346
  let c0_i32_347 : BitVec 32 := 0#32
  let v574 : BitVec 1 := Scalar.cmpi .ne v573 c0_i32_347
  let v575 : BitVec 32 := Scalar.extui v574
  let c0_i32_350 : BitVec 32 := 0#32
  let v576 : BitVec 1 := Scalar.cmpi .ne v575 c0_i32_350
  v576

def k0_off77 (i : grid0.Coords) (c0_i32_359 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v600 : BitVec 32 := Scalar.addi v572 c0_i32_359
  let v601 : Index := Scalar.indexCast v600
  let c0_360 : Index := 0#32
  let c0_361 : Index := 0#32
  ![v601.toNat, 0, 0]
def k0_off78 (i : grid0.Coords) (c0_i32_362 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v610 : BitVec 32 := Scalar.addi v572 c0_i32_362
  let v611 : Index := Scalar.indexCast v610
  let c16 : Index := 16#32
  let c0_363 : Index := 0#32
  ![v611.toNat, 16, 0]
def k0_off79 (i : grid0.Coords) (c0_i32_364 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v620 : BitVec 32 := Scalar.addi v572 c0_i32_364
  let v621 : Index := Scalar.indexCast v620
  let c32_365 : Index := 32#32
  let c0_366 : Index := 0#32
  ![v621.toNat, 32, 0]
def k0_off80 (i : grid0.Coords) (c0_i32_367 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v630 : BitVec 32 := Scalar.addi v572 c0_i32_367
  let v631 : Index := Scalar.indexCast v630
  let c48 : Index := 48#32
  let c0_368 : Index := 0#32
  ![v631.toNat, 48, 0]
def k0_off81 (i : grid0.Coords) (c0_i32_369 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v640 : BitVec 32 := Scalar.addi v572 c0_i32_369
  let v641 : Index := Scalar.indexCast v640
  let c64_370 : Index := 64#32
  let c0_371 : Index := 0#32
  ![v641.toNat, 64, 0]
def k0_off82 (i : grid0.Coords) (c0_i32_372 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v650 : BitVec 32 := Scalar.addi v572 c0_i32_372
  let v651 : Index := Scalar.indexCast v650
  let c80 : Index := 80#32
  let c0_373 : Index := 0#32
  ![v651.toNat, 80, 0]
def k0_off83 (i : grid0.Coords) (c0_i32_374 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v660 : BitVec 32 := Scalar.addi v572 c0_i32_374
  let v661 : Index := Scalar.indexCast v660
  let c96_375 : Index := 96#32
  let c0_376 : Index := 0#32
  ![v661.toNat, 96, 0]
def k0_off84 (i : grid0.Coords) (c0_i32_377 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v670 : BitVec 32 := Scalar.addi v572 c0_i32_377
  let v671 : Index := Scalar.indexCast v670
  let c112 : Index := 112#32
  let c0_378 : Index := 0#32
  ![v671.toNat, 112, 0]
def k0_off85 (i : grid0.Coords) (c0_i32_379 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v680 : BitVec 32 := Scalar.addi v572 c0_i32_379
  let v681 : Index := Scalar.indexCast v680
  let c128_380 : Index := 128#32
  let c0_381 : Index := 0#32
  ![v681.toNat, 128, 0]
def k0_off86 (i : grid0.Coords) (c0_i32_382 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v690 : BitVec 32 := Scalar.addi v572 c0_i32_382
  let v691 : Index := Scalar.indexCast v690
  let c144 : Index := 144#32
  let c0_383 : Index := 0#32
  ![v691.toNat, 144, 0]
def k0_off87 (i : grid0.Coords) (c0_i32_384 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v700 : BitVec 32 := Scalar.addi v572 c0_i32_384
  let v701 : Index := Scalar.indexCast v700
  let c160_385 : Index := 160#32
  let c0_386 : Index := 0#32
  ![v701.toNat, 160, 0]
def k0_off88 (i : grid0.Coords) (c0_i32_387 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v710 : BitVec 32 := Scalar.addi v572 c0_i32_387
  let v711 : Index := Scalar.indexCast v710
  let c176 : Index := 176#32
  let c0_388 : Index := 0#32
  ![v711.toNat, 176, 0]
def k0_off89 (i : grid0.Coords) (c0_i32_389 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v720 : BitVec 32 := Scalar.addi v572 c0_i32_389
  let v721 : Index := Scalar.indexCast v720
  let c192_390 : Index := 192#32
  let c0_391 : Index := 0#32
  ![v721.toNat, 192, 0]
def k0_off90 (i : grid0.Coords) (c0_i32_392 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v730 : BitVec 32 := Scalar.addi v572 c0_i32_392
  let v731 : Index := Scalar.indexCast v730
  let c208 : Index := 208#32
  let c0_393 : Index := 0#32
  ![v731.toNat, 208, 0]
def k0_off91 (i : grid0.Coords) (c0_i32_394 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v740 : BitVec 32 := Scalar.addi v572 c0_i32_394
  let v741 : Index := Scalar.indexCast v740
  let c224_395 : Index := 224#32
  let c0_396 : Index := 0#32
  ![v741.toNat, 224, 0]
def k0_off92 (i : grid0.Coords) (c0_i32_397 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v750 : BitVec 32 := Scalar.addi v572 c0_i32_397
  let v751 : Index := Scalar.indexCast v750
  let c240 : Index := 240#32
  let c0_398 : Index := 0#32
  ![v751.toNat, 240, 0]
def k0_off93 (i : grid0.Coords) (c0_i32_399 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v760 : BitVec 32 := Scalar.addi v572 c0_i32_399
  let v761 : Index := Scalar.indexCast v760
  let c256_400 : Index := 256#32
  let c0_401 : Index := 0#32
  ![v761.toNat, 256, 0]
def k0_off94 (i : grid0.Coords) (c0_i32_402 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v770 : BitVec 32 := Scalar.addi v572 c0_i32_402
  let v771 : Index := Scalar.indexCast v770
  let c272 : Index := 272#32
  let c0_403 : Index := 0#32
  ![v771.toNat, 272, 0]
def k0_off95 (i : grid0.Coords) (c0_i32_404 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v780 : BitVec 32 := Scalar.addi v572 c0_i32_404
  let v781 : Index := Scalar.indexCast v780
  let c288 : Index := 288#32
  let c0_405 : Index := 0#32
  ![v781.toNat, 288, 0]
def k0_off96 (i : grid0.Coords) (c0_i32_406 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v790 : BitVec 32 := Scalar.addi v572 c0_i32_406
  let v791 : Index := Scalar.indexCast v790
  let c304 : Index := 304#32
  let c0_407 : Index := 0#32
  ![v791.toNat, 304, 0]
def k0_off97 (i : grid0.Coords) (c0_i32_408 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v800 : BitVec 32 := Scalar.addi v572 c0_i32_408
  let v801 : Index := Scalar.indexCast v800
  let c320_409 : Index := 320#32
  let c0_410 : Index := 0#32
  ![v801.toNat, 320, 0]
def k0_off98 (i : grid0.Coords) (c0_i32_411 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v810 : BitVec 32 := Scalar.addi v572 c0_i32_411
  let v811 : Index := Scalar.indexCast v810
  let c336 : Index := 336#32
  let c0_412 : Index := 0#32
  ![v811.toNat, 336, 0]
def k0_off99 (i : grid0.Coords) (c0_i32_413 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v820 : BitVec 32 := Scalar.addi v572 c0_i32_413
  let v821 : Index := Scalar.indexCast v820
  let c352 : Index := 352#32
  let c0_414 : Index := 0#32
  ![v821.toNat, 352, 0]
def k0_off100 (i : grid0.Coords) (c0_i32_415 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v830 : BitVec 32 := Scalar.addi v572 c0_i32_415
  let v831 : Index := Scalar.indexCast v830
  let c368 : Index := 368#32
  let c0_416 : Index := 0#32
  ![v831.toNat, 368, 0]
def k0_off101 (i : grid0.Coords) (c0_i32_417 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v840 : BitVec 32 := Scalar.addi v572 c0_i32_417
  let v841 : Index := Scalar.indexCast v840
  let c384_418 : Index := 384#32
  let c0_419 : Index := 0#32
  ![v841.toNat, 384, 0]
def k0_off102 (i : grid0.Coords) (c0_i32_420 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v850 : BitVec 32 := Scalar.addi v572 c0_i32_420
  let v851 : Index := Scalar.indexCast v850
  let c400 : Index := 400#32
  let c0_421 : Index := 0#32
  ![v851.toNat, 400, 0]
def k0_off103 (i : grid0.Coords) (c0_i32_422 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v860 : BitVec 32 := Scalar.addi v572 c0_i32_422
  let v861 : Index := Scalar.indexCast v860
  let c416 : Index := 416#32
  let c0_423 : Index := 0#32
  ![v861.toNat, 416, 0]
def k0_off104 (i : grid0.Coords) (c0_i32_424 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v870 : BitVec 32 := Scalar.addi v572 c0_i32_424
  let v871 : Index := Scalar.indexCast v870
  let c432 : Index := 432#32
  let c0_425 : Index := 0#32
  ![v871.toNat, 432, 0]
def k0_off105 (i : grid0.Coords) (c0_i32_426 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v880 : BitVec 32 := Scalar.addi v572 c0_i32_426
  let v881 : Index := Scalar.indexCast v880
  let c448_427 : Index := 448#32
  let c0_428 : Index := 0#32
  ![v881.toNat, 448, 0]
def k0_off106 (i : grid0.Coords) (c0_i32_429 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v890 : BitVec 32 := Scalar.addi v572 c0_i32_429
  let v891 : Index := Scalar.indexCast v890
  let c464 : Index := 464#32
  let c0_430 : Index := 0#32
  ![v891.toNat, 464, 0]
def k0_off107 (i : grid0.Coords) (c0_i32_431 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v900 : BitVec 32 := Scalar.addi v572 c0_i32_431
  let v901 : Index := Scalar.indexCast v900
  let c480 : Index := 480#32
  let c0_432 : Index := 0#32
  ![v901.toNat, 480, 0]
def k0_off108 (i : grid0.Coords) (c0_i32_433 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v910 : BitVec 32 := Scalar.addi v572 c0_i32_433
  let v911 : Index := Scalar.indexCast v910
  let c496 : Index := 496#32
  let c0_434 : Index := 0#32
  ![v911.toNat, 496, 0]
def k0_cond5 (i : grid0.Coords) : BitVec 1 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_353 : BitVec 32 := 1#32
  let v580 : BitVec 32 := Scalar.andi v20 c1_i32_353
  let c0_i32_354 : BitVec 32 := 0#32
  let v581 : BitVec 1 := Scalar.cmpi .ne v580 c0_i32_354
  let v582 : BitVec 32 := Scalar.extui v581
  let c0_i32_357 : BitVec 32 := 0#32
  let v583 : BitVec 1 := Scalar.cmpi .ne v582 c0_i32_357
  v583

def k0_off109 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_359 : BitVec 32 := 0#32
  let v600 : BitVec 32 := Scalar.addi v579 c0_i32_359
  let v601 : Index := Scalar.indexCast v600
  let c0_360 : Index := 0#32
  let c0_361 : Index := 0#32
  ![v601.toNat, 0, 0]
def k0_off110 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_362 : BitVec 32 := 0#32
  let v610 : BitVec 32 := Scalar.addi v579 c0_i32_362
  let v611 : Index := Scalar.indexCast v610
  let c16 : Index := 16#32
  let c0_363 : Index := 0#32
  ![v611.toNat, 16, 0]
def k0_off111 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_364 : BitVec 32 := 0#32
  let v620 : BitVec 32 := Scalar.addi v579 c0_i32_364
  let v621 : Index := Scalar.indexCast v620
  let c32_365 : Index := 32#32
  let c0_366 : Index := 0#32
  ![v621.toNat, 32, 0]
def k0_off112 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_367 : BitVec 32 := 0#32
  let v630 : BitVec 32 := Scalar.addi v579 c0_i32_367
  let v631 : Index := Scalar.indexCast v630
  let c48 : Index := 48#32
  let c0_368 : Index := 0#32
  ![v631.toNat, 48, 0]
def k0_off113 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_369 : BitVec 32 := 0#32
  let v640 : BitVec 32 := Scalar.addi v579 c0_i32_369
  let v641 : Index := Scalar.indexCast v640
  let c64_370 : Index := 64#32
  let c0_371 : Index := 0#32
  ![v641.toNat, 64, 0]
def k0_off114 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_372 : BitVec 32 := 0#32
  let v650 : BitVec 32 := Scalar.addi v579 c0_i32_372
  let v651 : Index := Scalar.indexCast v650
  let c80 : Index := 80#32
  let c0_373 : Index := 0#32
  ![v651.toNat, 80, 0]
def k0_off115 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_374 : BitVec 32 := 0#32
  let v660 : BitVec 32 := Scalar.addi v579 c0_i32_374
  let v661 : Index := Scalar.indexCast v660
  let c96_375 : Index := 96#32
  let c0_376 : Index := 0#32
  ![v661.toNat, 96, 0]
def k0_off116 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_377 : BitVec 32 := 0#32
  let v670 : BitVec 32 := Scalar.addi v579 c0_i32_377
  let v671 : Index := Scalar.indexCast v670
  let c112 : Index := 112#32
  let c0_378 : Index := 0#32
  ![v671.toNat, 112, 0]
def k0_off117 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_379 : BitVec 32 := 0#32
  let v680 : BitVec 32 := Scalar.addi v579 c0_i32_379
  let v681 : Index := Scalar.indexCast v680
  let c128_380 : Index := 128#32
  let c0_381 : Index := 0#32
  ![v681.toNat, 128, 0]
def k0_off118 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_382 : BitVec 32 := 0#32
  let v690 : BitVec 32 := Scalar.addi v579 c0_i32_382
  let v691 : Index := Scalar.indexCast v690
  let c144 : Index := 144#32
  let c0_383 : Index := 0#32
  ![v691.toNat, 144, 0]
def k0_off119 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_384 : BitVec 32 := 0#32
  let v700 : BitVec 32 := Scalar.addi v579 c0_i32_384
  let v701 : Index := Scalar.indexCast v700
  let c160_385 : Index := 160#32
  let c0_386 : Index := 0#32
  ![v701.toNat, 160, 0]
def k0_off120 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_387 : BitVec 32 := 0#32
  let v710 : BitVec 32 := Scalar.addi v579 c0_i32_387
  let v711 : Index := Scalar.indexCast v710
  let c176 : Index := 176#32
  let c0_388 : Index := 0#32
  ![v711.toNat, 176, 0]
def k0_off121 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_389 : BitVec 32 := 0#32
  let v720 : BitVec 32 := Scalar.addi v579 c0_i32_389
  let v721 : Index := Scalar.indexCast v720
  let c192_390 : Index := 192#32
  let c0_391 : Index := 0#32
  ![v721.toNat, 192, 0]
def k0_off122 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_392 : BitVec 32 := 0#32
  let v730 : BitVec 32 := Scalar.addi v579 c0_i32_392
  let v731 : Index := Scalar.indexCast v730
  let c208 : Index := 208#32
  let c0_393 : Index := 0#32
  ![v731.toNat, 208, 0]
def k0_off123 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_394 : BitVec 32 := 0#32
  let v740 : BitVec 32 := Scalar.addi v579 c0_i32_394
  let v741 : Index := Scalar.indexCast v740
  let c224_395 : Index := 224#32
  let c0_396 : Index := 0#32
  ![v741.toNat, 224, 0]
def k0_off124 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_397 : BitVec 32 := 0#32
  let v750 : BitVec 32 := Scalar.addi v579 c0_i32_397
  let v751 : Index := Scalar.indexCast v750
  let c240 : Index := 240#32
  let c0_398 : Index := 0#32
  ![v751.toNat, 240, 0]
def k0_off125 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_399 : BitVec 32 := 0#32
  let v760 : BitVec 32 := Scalar.addi v579 c0_i32_399
  let v761 : Index := Scalar.indexCast v760
  let c256_400 : Index := 256#32
  let c0_401 : Index := 0#32
  ![v761.toNat, 256, 0]
def k0_off126 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_402 : BitVec 32 := 0#32
  let v770 : BitVec 32 := Scalar.addi v579 c0_i32_402
  let v771 : Index := Scalar.indexCast v770
  let c272 : Index := 272#32
  let c0_403 : Index := 0#32
  ![v771.toNat, 272, 0]
def k0_off127 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_404 : BitVec 32 := 0#32
  let v780 : BitVec 32 := Scalar.addi v579 c0_i32_404
  let v781 : Index := Scalar.indexCast v780
  let c288 : Index := 288#32
  let c0_405 : Index := 0#32
  ![v781.toNat, 288, 0]
def k0_off128 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_406 : BitVec 32 := 0#32
  let v790 : BitVec 32 := Scalar.addi v579 c0_i32_406
  let v791 : Index := Scalar.indexCast v790
  let c304 : Index := 304#32
  let c0_407 : Index := 0#32
  ![v791.toNat, 304, 0]
def k0_off129 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_408 : BitVec 32 := 0#32
  let v800 : BitVec 32 := Scalar.addi v579 c0_i32_408
  let v801 : Index := Scalar.indexCast v800
  let c320_409 : Index := 320#32
  let c0_410 : Index := 0#32
  ![v801.toNat, 320, 0]
def k0_off130 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_411 : BitVec 32 := 0#32
  let v810 : BitVec 32 := Scalar.addi v579 c0_i32_411
  let v811 : Index := Scalar.indexCast v810
  let c336 : Index := 336#32
  let c0_412 : Index := 0#32
  ![v811.toNat, 336, 0]
def k0_off131 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_413 : BitVec 32 := 0#32
  let v820 : BitVec 32 := Scalar.addi v579 c0_i32_413
  let v821 : Index := Scalar.indexCast v820
  let c352 : Index := 352#32
  let c0_414 : Index := 0#32
  ![v821.toNat, 352, 0]
def k0_off132 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_415 : BitVec 32 := 0#32
  let v830 : BitVec 32 := Scalar.addi v579 c0_i32_415
  let v831 : Index := Scalar.indexCast v830
  let c368 : Index := 368#32
  let c0_416 : Index := 0#32
  ![v831.toNat, 368, 0]
def k0_off133 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_417 : BitVec 32 := 0#32
  let v840 : BitVec 32 := Scalar.addi v579 c0_i32_417
  let v841 : Index := Scalar.indexCast v840
  let c384_418 : Index := 384#32
  let c0_419 : Index := 0#32
  ![v841.toNat, 384, 0]
def k0_off134 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_420 : BitVec 32 := 0#32
  let v850 : BitVec 32 := Scalar.addi v579 c0_i32_420
  let v851 : Index := Scalar.indexCast v850
  let c400 : Index := 400#32
  let c0_421 : Index := 0#32
  ![v851.toNat, 400, 0]
def k0_off135 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_422 : BitVec 32 := 0#32
  let v860 : BitVec 32 := Scalar.addi v579 c0_i32_422
  let v861 : Index := Scalar.indexCast v860
  let c416 : Index := 416#32
  let c0_423 : Index := 0#32
  ![v861.toNat, 416, 0]
def k0_off136 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_424 : BitVec 32 := 0#32
  let v870 : BitVec 32 := Scalar.addi v579 c0_i32_424
  let v871 : Index := Scalar.indexCast v870
  let c432 : Index := 432#32
  let c0_425 : Index := 0#32
  ![v871.toNat, 432, 0]
def k0_off137 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_426 : BitVec 32 := 0#32
  let v880 : BitVec 32 := Scalar.addi v579 c0_i32_426
  let v881 : Index := Scalar.indexCast v880
  let c448_427 : Index := 448#32
  let c0_428 : Index := 0#32
  ![v881.toNat, 448, 0]
def k0_off138 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_429 : BitVec 32 := 0#32
  let v890 : BitVec 32 := Scalar.addi v579 c0_i32_429
  let v891 : Index := Scalar.indexCast v890
  let c464 : Index := 464#32
  let c0_430 : Index := 0#32
  ![v891.toNat, 464, 0]
def k0_off139 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_431 : BitVec 32 := 0#32
  let v900 : BitVec 32 := Scalar.addi v579 c0_i32_431
  let v901 : Index := Scalar.indexCast v900
  let c480 : Index := 480#32
  let c0_432 : Index := 0#32
  ![v901.toNat, 480, 0]
def k0_off140 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_433 : BitVec 32 := 0#32
  let v910 : BitVec 32 := Scalar.addi v579 c0_i32_433
  let v911 : Index := Scalar.indexCast v910
  let c496 : Index := 496#32
  let c0_434 : Index := 0#32
  ![v911.toNat, 496, 0]
@[reducible] def k0_t6_loop (i : grid0.Coords) : Scf.Loop 32 :=
  let c0_i32_279 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v471 : BitVec 32 := Scalar.subi v20 c0_i32_279
  let c1_i32_280 : BitVec 32 := 1#32
  let v473 : BitVec 32 := Scalar.divsi v471 c1_i32_280
  let v474 : BitVec 32 := Scalar.muli v473 c1_i32_280
  let v475 : BitVec 32 := Scalar.addi c0_i32_279 v474
  let c1_i32_281 : BitVec 32 := 1#32
  ⟨c0_i32_279, v475, c1_i32_281⟩
def k0_off141 (i : grid0.Coords) (k0_t6 : Fin (k0_t6_loop i).trips) : Fin 3 → Nat :=
  let c0_i32_279 : BitVec 32 := 0#32
  let c1_i32_281 : BitVec 32 := 1#32
  let arg19 : BitVec 32 := Scf.iv c0_i32_279 c1_i32_281 k0_t6
  let v520 : Index := Scalar.indexCast arg19
  let c0_320 : Index := 0#32
  let c0_321 : Index := 0#32
  ![v520.toNat, 0, 0]
@[reducible] def k0_t7_loop (i : grid0.Coords) : Scf.Loop 32 :=
  let c0_i32_279 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v471 : BitVec 32 := Scalar.subi v20 c0_i32_279
  let c1_i32_280 : BitVec 32 := 1#32
  let v473 : BitVec 32 := Scalar.divsi v471 c1_i32_280
  let v474 : BitVec 32 := Scalar.muli v473 c1_i32_280
  let v475 : BitVec 32 := Scalar.addi c0_i32_279 v474
  let v472 : BitVec 32 := Scalar.addi c0_i32_279 v471
  let c1_i32_282 : BitVec 32 := 1#32
  ⟨v475, v472, c1_i32_282⟩
def k0_off142 (i : grid0.Coords) (k0_t7 : Fin (k0_t7_loop i).trips) : Fin 3 → Nat :=
  let c0_i32_279 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v471 : BitVec 32 := Scalar.subi v20 c0_i32_279
  let c1_i32_280 : BitVec 32 := 1#32
  let v473 : BitVec 32 := Scalar.divsi v471 c1_i32_280
  let v474 : BitVec 32 := Scalar.muli v473 c1_i32_280
  let v475 : BitVec 32 := Scalar.addi c0_i32_279 v474
  let c1_i32_282 : BitVec 32 := 1#32
  let arg19 : BitVec 32 := Scf.iv v475 c1_i32_282 k0_t7
  let v520 : Index := Scalar.indexCast arg19
  let c0_320 : Index := 0#32
  let c0_321 : Index := 0#32
  ![v520.toNat, 0, 0]
@[reducible] def k0_t8_loop : Scf.Loop 32 :=
  let c0_i32_283 : BitVec 32 := 0#32
  let c11_i32 : BitVec 32 := 11#32
  let v476 : BitVec 32 := Scalar.addi c0_i32_283 c11_i32
  let c1_i32_284 : BitVec 32 := 1#32
  ⟨c0_i32_283, v476, c1_i32_284⟩
@[reducible] def k0_t9_loop (i : grid0.Coords) : Scf.Loop 32 :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_336 : BitVec 32 := 1#32
  ⟨c0_i32_334, v552, c1_i32_336⟩
def k0_off143 (i : grid0.Coords) (k0_t9 : Fin (k0_t9_loop i).trips) (c0_i32_360 : BitVec 32) : Fin 3 → Nat :=
  let c0_i32_334 : BitVec 32 := 0#32
  let c1_i32_336 : BitVec 32 := 1#32
  let arg23 : BitVec 32 := Scf.iv c0_i32_334 c1_i32_336 k0_t9
  let c4_i32_359 : BitVec 32 := 4#32
  let v600 : BitVec 32 := Scalar.muli arg23 c4_i32_359
  let v601 : BitVec 32 := Scalar.addi v600 c0_i32_360
  let v602 : Index := Scalar.indexCast v601
  let c0_361 : Index := 0#32
  let c0_362 : Index := 0#32
  ![v602.toNat, 0, 0]
def k0_off144 (i : grid0.Coords) (k0_t9 : Fin (k0_t9_loop i).trips) (c0_i32_363 : BitVec 32) : Fin 3 → Nat :=
  let c0_i32_334 : BitVec 32 := 0#32
  let c1_i32_336 : BitVec 32 := 1#32
  let arg23 : BitVec 32 := Scf.iv c0_i32_334 c1_i32_336 k0_t9
  let c4_i32_359 : BitVec 32 := 4#32
  let v600 : BitVec 32 := Scalar.muli arg23 c4_i32_359
  let v611 : BitVec 32 := Scalar.addi v600 c0_i32_363
  let v612 : Index := Scalar.indexCast v611
  let c16 : Index := 16#32
  let c0_364 : Index := 0#32
  ![v612.toNat, 16, 0]
def k0_off145 (i : grid0.Coords) (k0_t9 : Fin (k0_t9_loop i).trips) (c0_i32_365 : BitVec 32) : Fin 3 → Nat :=
  let c0_i32_334 : BitVec 32 := 0#32
  let c1_i32_336 : BitVec 32 := 1#32
  let arg23 : BitVec 32 := Scf.iv c0_i32_334 c1_i32_336 k0_t9
  let c4_i32_359 : BitVec 32 := 4#32
  let v600 : BitVec 32 := Scalar.muli arg23 c4_i32_359
  let v621 : BitVec 32 := Scalar.addi v600 c0_i32_365
  let v622 : Index := Scalar.indexCast v621
  let c32_366 : Index := 32#32
  let c0_367 : Index := 0#32
  ![v622.toNat, 32, 0]
def k0_off146 (i : grid0.Coords) (k0_t9 : Fin (k0_t9_loop i).trips) (c0_i32_368 : BitVec 32) : Fin 3 → Nat :=
  let c0_i32_334 : BitVec 32 := 0#32
  let c1_i32_336 : BitVec 32 := 1#32
  let arg23 : BitVec 32 := Scf.iv c0_i32_334 c1_i32_336 k0_t9
  let c4_i32_359 : BitVec 32 := 4#32
  let v600 : BitVec 32 := Scalar.muli arg23 c4_i32_359
  let v631 : BitVec 32 := Scalar.addi v600 c0_i32_368
  let v632 : Index := Scalar.indexCast v631
  let c48 : Index := 48#32
  let c0_369 : Index := 0#32
  ![v632.toNat, 48, 0]
def k0_off147 (i : grid0.Coords) (k0_t9 : Fin (k0_t9_loop i).trips) (c0_i32_370 : BitVec 32) : Fin 3 → Nat :=
  let c0_i32_334 : BitVec 32 := 0#32
  let c1_i32_336 : BitVec 32 := 1#32
  let arg23 : BitVec 32 := Scf.iv c0_i32_334 c1_i32_336 k0_t9
  let c4_i32_359 : BitVec 32 := 4#32
  let v600 : BitVec 32 := Scalar.muli arg23 c4_i32_359
  let v641 : BitVec 32 := Scalar.addi v600 c0_i32_370
  let v642 : Index := Scalar.indexCast v641
  let c64_371 : Index := 64#32
  let c0_372 : Index := 0#32
  ![v642.toNat, 64, 0]
def k0_off148 (i : grid0.Coords) (k0_t9 : Fin (k0_t9_loop i).trips) (c0_i32_373 : BitVec 32) : Fin 3 → Nat :=
  let c0_i32_334 : BitVec 32 := 0#32
  let c1_i32_336 : BitVec 32 := 1#32
  let arg23 : BitVec 32 := Scf.iv c0_i32_334 c1_i32_336 k0_t9
  let c4_i32_359 : BitVec 32 := 4#32
  let v600 : BitVec 32 := Scalar.muli arg23 c4_i32_359
  let v651 : BitVec 32 := Scalar.addi v600 c0_i32_373
  let v652 : Index := Scalar.indexCast v651
  let c80 : Index := 80#32
  let c0_374 : Index := 0#32
  ![v652.toNat, 80, 0]
def k0_off149 (i : grid0.Coords) (k0_t9 : Fin (k0_t9_loop i).trips) (c0_i32_375 : BitVec 32) : Fin 3 → Nat :=
  let c0_i32_334 : BitVec 32 := 0#32
  let c1_i32_336 : BitVec 32 := 1#32
  let arg23 : BitVec 32 := Scf.iv c0_i32_334 c1_i32_336 k0_t9
  let c4_i32_359 : BitVec 32 := 4#32
  let v600 : BitVec 32 := Scalar.muli arg23 c4_i32_359
  let v661 : BitVec 32 := Scalar.addi v600 c0_i32_375
  let v662 : Index := Scalar.indexCast v661
  let c96_376 : Index := 96#32
  let c0_377 : Index := 0#32
  ![v662.toNat, 96, 0]
def k0_off150 (i : grid0.Coords) (k0_t9 : Fin (k0_t9_loop i).trips) (c0_i32_378 : BitVec 32) : Fin 3 → Nat :=
  let c0_i32_334 : BitVec 32 := 0#32
  let c1_i32_336 : BitVec 32 := 1#32
  let arg23 : BitVec 32 := Scf.iv c0_i32_334 c1_i32_336 k0_t9
  let c4_i32_359 : BitVec 32 := 4#32
  let v600 : BitVec 32 := Scalar.muli arg23 c4_i32_359
  let v671 : BitVec 32 := Scalar.addi v600 c0_i32_378
  let v672 : Index := Scalar.indexCast v671
  let c112 : Index := 112#32
  let c0_379 : Index := 0#32
  ![v672.toNat, 112, 0]
def k0_off151 (i : grid0.Coords) (k0_t9 : Fin (k0_t9_loop i).trips) (c0_i32_380 : BitVec 32) : Fin 3 → Nat :=
  let c0_i32_334 : BitVec 32 := 0#32
  let c1_i32_336 : BitVec 32 := 1#32
  let arg23 : BitVec 32 := Scf.iv c0_i32_334 c1_i32_336 k0_t9
  let c4_i32_359 : BitVec 32 := 4#32
  let v600 : BitVec 32 := Scalar.muli arg23 c4_i32_359
  let v681 : BitVec 32 := Scalar.addi v600 c0_i32_380
  let v682 : Index := Scalar.indexCast v681
  let c128_381 : Index := 128#32
  let c0_382 : Index := 0#32
  ![v682.toNat, 128, 0]
def k0_off152 (i : grid0.Coords) (k0_t9 : Fin (k0_t9_loop i).trips) (c0_i32_383 : BitVec 32) : Fin 3 → Nat :=
  let c0_i32_334 : BitVec 32 := 0#32
  let c1_i32_336 : BitVec 32 := 1#32
  let arg23 : BitVec 32 := Scf.iv c0_i32_334 c1_i32_336 k0_t9
  let c4_i32_359 : BitVec 32 := 4#32
  let v600 : BitVec 32 := Scalar.muli arg23 c4_i32_359
  let v691 : BitVec 32 := Scalar.addi v600 c0_i32_383
  let v692 : Index := Scalar.indexCast v691
  let c144 : Index := 144#32
  let c0_384 : Index := 0#32
  ![v692.toNat, 144, 0]
def k0_off153 (i : grid0.Coords) (k0_t9 : Fin (k0_t9_loop i).trips) (c0_i32_385 : BitVec 32) : Fin 3 → Nat :=
  let c0_i32_334 : BitVec 32 := 0#32
  let c1_i32_336 : BitVec 32 := 1#32
  let arg23 : BitVec 32 := Scf.iv c0_i32_334 c1_i32_336 k0_t9
  let c4_i32_359 : BitVec 32 := 4#32
  let v600 : BitVec 32 := Scalar.muli arg23 c4_i32_359
  let v701 : BitVec 32 := Scalar.addi v600 c0_i32_385
  let v702 : Index := Scalar.indexCast v701
  let c160_386 : Index := 160#32
  let c0_387 : Index := 0#32
  ![v702.toNat, 160, 0]
def k0_off154 (i : grid0.Coords) (k0_t9 : Fin (k0_t9_loop i).trips) (c0_i32_388 : BitVec 32) : Fin 3 → Nat :=
  let c0_i32_334 : BitVec 32 := 0#32
  let c1_i32_336 : BitVec 32 := 1#32
  let arg23 : BitVec 32 := Scf.iv c0_i32_334 c1_i32_336 k0_t9
  let c4_i32_359 : BitVec 32 := 4#32
  let v600 : BitVec 32 := Scalar.muli arg23 c4_i32_359
  let v711 : BitVec 32 := Scalar.addi v600 c0_i32_388
  let v712 : Index := Scalar.indexCast v711
  let c176 : Index := 176#32
  let c0_389 : Index := 0#32
  ![v712.toNat, 176, 0]
def k0_off155 (i : grid0.Coords) (k0_t9 : Fin (k0_t9_loop i).trips) (c0_i32_390 : BitVec 32) : Fin 3 → Nat :=
  let c0_i32_334 : BitVec 32 := 0#32
  let c1_i32_336 : BitVec 32 := 1#32
  let arg23 : BitVec 32 := Scf.iv c0_i32_334 c1_i32_336 k0_t9
  let c4_i32_359 : BitVec 32 := 4#32
  let v600 : BitVec 32 := Scalar.muli arg23 c4_i32_359
  let v721 : BitVec 32 := Scalar.addi v600 c0_i32_390
  let v722 : Index := Scalar.indexCast v721
  let c192_391 : Index := 192#32
  let c0_392 : Index := 0#32
  ![v722.toNat, 192, 0]
def k0_off156 (i : grid0.Coords) (k0_t9 : Fin (k0_t9_loop i).trips) (c0_i32_393 : BitVec 32) : Fin 3 → Nat :=
  let c0_i32_334 : BitVec 32 := 0#32
  let c1_i32_336 : BitVec 32 := 1#32
  let arg23 : BitVec 32 := Scf.iv c0_i32_334 c1_i32_336 k0_t9
  let c4_i32_359 : BitVec 32 := 4#32
  let v600 : BitVec 32 := Scalar.muli arg23 c4_i32_359
  let v731 : BitVec 32 := Scalar.addi v600 c0_i32_393
  let v732 : Index := Scalar.indexCast v731
  let c208 : Index := 208#32
  let c0_394 : Index := 0#32
  ![v732.toNat, 208, 0]
def k0_off157 (i : grid0.Coords) (k0_t9 : Fin (k0_t9_loop i).trips) (c0_i32_395 : BitVec 32) : Fin 3 → Nat :=
  let c0_i32_334 : BitVec 32 := 0#32
  let c1_i32_336 : BitVec 32 := 1#32
  let arg23 : BitVec 32 := Scf.iv c0_i32_334 c1_i32_336 k0_t9
  let c4_i32_359 : BitVec 32 := 4#32
  let v600 : BitVec 32 := Scalar.muli arg23 c4_i32_359
  let v741 : BitVec 32 := Scalar.addi v600 c0_i32_395
  let v742 : Index := Scalar.indexCast v741
  let c224_396 : Index := 224#32
  let c0_397 : Index := 0#32
  ![v742.toNat, 224, 0]
def k0_off158 (i : grid0.Coords) (k0_t9 : Fin (k0_t9_loop i).trips) (c0_i32_398 : BitVec 32) : Fin 3 → Nat :=
  let c0_i32_334 : BitVec 32 := 0#32
  let c1_i32_336 : BitVec 32 := 1#32
  let arg23 : BitVec 32 := Scf.iv c0_i32_334 c1_i32_336 k0_t9
  let c4_i32_359 : BitVec 32 := 4#32
  let v600 : BitVec 32 := Scalar.muli arg23 c4_i32_359
  let v751 : BitVec 32 := Scalar.addi v600 c0_i32_398
  let v752 : Index := Scalar.indexCast v751
  let c240 : Index := 240#32
  let c0_399 : Index := 0#32
  ![v752.toNat, 240, 0]
def k0_off159 (i : grid0.Coords) (k0_t9 : Fin (k0_t9_loop i).trips) (c0_i32_400 : BitVec 32) : Fin 3 → Nat :=
  let c0_i32_334 : BitVec 32 := 0#32
  let c1_i32_336 : BitVec 32 := 1#32
  let arg23 : BitVec 32 := Scf.iv c0_i32_334 c1_i32_336 k0_t9
  let c4_i32_359 : BitVec 32 := 4#32
  let v600 : BitVec 32 := Scalar.muli arg23 c4_i32_359
  let v761 : BitVec 32 := Scalar.addi v600 c0_i32_400
  let v762 : Index := Scalar.indexCast v761
  let c256_401 : Index := 256#32
  let c0_402 : Index := 0#32
  ![v762.toNat, 256, 0]
def k0_off160 (i : grid0.Coords) (k0_t9 : Fin (k0_t9_loop i).trips) (c0_i32_403 : BitVec 32) : Fin 3 → Nat :=
  let c0_i32_334 : BitVec 32 := 0#32
  let c1_i32_336 : BitVec 32 := 1#32
  let arg23 : BitVec 32 := Scf.iv c0_i32_334 c1_i32_336 k0_t9
  let c4_i32_359 : BitVec 32 := 4#32
  let v600 : BitVec 32 := Scalar.muli arg23 c4_i32_359
  let v771 : BitVec 32 := Scalar.addi v600 c0_i32_403
  let v772 : Index := Scalar.indexCast v771
  let c272 : Index := 272#32
  let c0_404 : Index := 0#32
  ![v772.toNat, 272, 0]
def k0_off161 (i : grid0.Coords) (k0_t9 : Fin (k0_t9_loop i).trips) (c0_i32_405 : BitVec 32) : Fin 3 → Nat :=
  let c0_i32_334 : BitVec 32 := 0#32
  let c1_i32_336 : BitVec 32 := 1#32
  let arg23 : BitVec 32 := Scf.iv c0_i32_334 c1_i32_336 k0_t9
  let c4_i32_359 : BitVec 32 := 4#32
  let v600 : BitVec 32 := Scalar.muli arg23 c4_i32_359
  let v781 : BitVec 32 := Scalar.addi v600 c0_i32_405
  let v782 : Index := Scalar.indexCast v781
  let c288 : Index := 288#32
  let c0_406 : Index := 0#32
  ![v782.toNat, 288, 0]
def k0_off162 (i : grid0.Coords) (k0_t9 : Fin (k0_t9_loop i).trips) (c0_i32_407 : BitVec 32) : Fin 3 → Nat :=
  let c0_i32_334 : BitVec 32 := 0#32
  let c1_i32_336 : BitVec 32 := 1#32
  let arg23 : BitVec 32 := Scf.iv c0_i32_334 c1_i32_336 k0_t9
  let c4_i32_359 : BitVec 32 := 4#32
  let v600 : BitVec 32 := Scalar.muli arg23 c4_i32_359
  let v791 : BitVec 32 := Scalar.addi v600 c0_i32_407
  let v792 : Index := Scalar.indexCast v791
  let c304 : Index := 304#32
  let c0_408 : Index := 0#32
  ![v792.toNat, 304, 0]
def k0_off163 (i : grid0.Coords) (k0_t9 : Fin (k0_t9_loop i).trips) (c0_i32_409 : BitVec 32) : Fin 3 → Nat :=
  let c0_i32_334 : BitVec 32 := 0#32
  let c1_i32_336 : BitVec 32 := 1#32
  let arg23 : BitVec 32 := Scf.iv c0_i32_334 c1_i32_336 k0_t9
  let c4_i32_359 : BitVec 32 := 4#32
  let v600 : BitVec 32 := Scalar.muli arg23 c4_i32_359
  let v801 : BitVec 32 := Scalar.addi v600 c0_i32_409
  let v802 : Index := Scalar.indexCast v801
  let c320_410 : Index := 320#32
  let c0_411 : Index := 0#32
  ![v802.toNat, 320, 0]
def k0_off164 (i : grid0.Coords) (k0_t9 : Fin (k0_t9_loop i).trips) (c0_i32_412 : BitVec 32) : Fin 3 → Nat :=
  let c0_i32_334 : BitVec 32 := 0#32
  let c1_i32_336 : BitVec 32 := 1#32
  let arg23 : BitVec 32 := Scf.iv c0_i32_334 c1_i32_336 k0_t9
  let c4_i32_359 : BitVec 32 := 4#32
  let v600 : BitVec 32 := Scalar.muli arg23 c4_i32_359
  let v811 : BitVec 32 := Scalar.addi v600 c0_i32_412
  let v812 : Index := Scalar.indexCast v811
  let c336 : Index := 336#32
  let c0_413 : Index := 0#32
  ![v812.toNat, 336, 0]
def k0_off165 (i : grid0.Coords) (k0_t9 : Fin (k0_t9_loop i).trips) (c0_i32_414 : BitVec 32) : Fin 3 → Nat :=
  let c0_i32_334 : BitVec 32 := 0#32
  let c1_i32_336 : BitVec 32 := 1#32
  let arg23 : BitVec 32 := Scf.iv c0_i32_334 c1_i32_336 k0_t9
  let c4_i32_359 : BitVec 32 := 4#32
  let v600 : BitVec 32 := Scalar.muli arg23 c4_i32_359
  let v821 : BitVec 32 := Scalar.addi v600 c0_i32_414
  let v822 : Index := Scalar.indexCast v821
  let c352 : Index := 352#32
  let c0_415 : Index := 0#32
  ![v822.toNat, 352, 0]
def k0_off166 (i : grid0.Coords) (k0_t9 : Fin (k0_t9_loop i).trips) (c0_i32_416 : BitVec 32) : Fin 3 → Nat :=
  let c0_i32_334 : BitVec 32 := 0#32
  let c1_i32_336 : BitVec 32 := 1#32
  let arg23 : BitVec 32 := Scf.iv c0_i32_334 c1_i32_336 k0_t9
  let c4_i32_359 : BitVec 32 := 4#32
  let v600 : BitVec 32 := Scalar.muli arg23 c4_i32_359
  let v831 : BitVec 32 := Scalar.addi v600 c0_i32_416
  let v832 : Index := Scalar.indexCast v831
  let c368 : Index := 368#32
  let c0_417 : Index := 0#32
  ![v832.toNat, 368, 0]
def k0_off167 (i : grid0.Coords) (k0_t9 : Fin (k0_t9_loop i).trips) (c0_i32_418 : BitVec 32) : Fin 3 → Nat :=
  let c0_i32_334 : BitVec 32 := 0#32
  let c1_i32_336 : BitVec 32 := 1#32
  let arg23 : BitVec 32 := Scf.iv c0_i32_334 c1_i32_336 k0_t9
  let c4_i32_359 : BitVec 32 := 4#32
  let v600 : BitVec 32 := Scalar.muli arg23 c4_i32_359
  let v841 : BitVec 32 := Scalar.addi v600 c0_i32_418
  let v842 : Index := Scalar.indexCast v841
  let c384_419 : Index := 384#32
  let c0_420 : Index := 0#32
  ![v842.toNat, 384, 0]
def k0_off168 (i : grid0.Coords) (k0_t9 : Fin (k0_t9_loop i).trips) (c0_i32_421 : BitVec 32) : Fin 3 → Nat :=
  let c0_i32_334 : BitVec 32 := 0#32
  let c1_i32_336 : BitVec 32 := 1#32
  let arg23 : BitVec 32 := Scf.iv c0_i32_334 c1_i32_336 k0_t9
  let c4_i32_359 : BitVec 32 := 4#32
  let v600 : BitVec 32 := Scalar.muli arg23 c4_i32_359
  let v851 : BitVec 32 := Scalar.addi v600 c0_i32_421
  let v852 : Index := Scalar.indexCast v851
  let c400 : Index := 400#32
  let c0_422 : Index := 0#32
  ![v852.toNat, 400, 0]
def k0_off169 (i : grid0.Coords) (k0_t9 : Fin (k0_t9_loop i).trips) (c0_i32_423 : BitVec 32) : Fin 3 → Nat :=
  let c0_i32_334 : BitVec 32 := 0#32
  let c1_i32_336 : BitVec 32 := 1#32
  let arg23 : BitVec 32 := Scf.iv c0_i32_334 c1_i32_336 k0_t9
  let c4_i32_359 : BitVec 32 := 4#32
  let v600 : BitVec 32 := Scalar.muli arg23 c4_i32_359
  let v861 : BitVec 32 := Scalar.addi v600 c0_i32_423
  let v862 : Index := Scalar.indexCast v861
  let c416 : Index := 416#32
  let c0_424 : Index := 0#32
  ![v862.toNat, 416, 0]
def k0_off170 (i : grid0.Coords) (k0_t9 : Fin (k0_t9_loop i).trips) (c0_i32_425 : BitVec 32) : Fin 3 → Nat :=
  let c0_i32_334 : BitVec 32 := 0#32
  let c1_i32_336 : BitVec 32 := 1#32
  let arg23 : BitVec 32 := Scf.iv c0_i32_334 c1_i32_336 k0_t9
  let c4_i32_359 : BitVec 32 := 4#32
  let v600 : BitVec 32 := Scalar.muli arg23 c4_i32_359
  let v871 : BitVec 32 := Scalar.addi v600 c0_i32_425
  let v872 : Index := Scalar.indexCast v871
  let c432 : Index := 432#32
  let c0_426 : Index := 0#32
  ![v872.toNat, 432, 0]
def k0_off171 (i : grid0.Coords) (k0_t9 : Fin (k0_t9_loop i).trips) (c0_i32_427 : BitVec 32) : Fin 3 → Nat :=
  let c0_i32_334 : BitVec 32 := 0#32
  let c1_i32_336 : BitVec 32 := 1#32
  let arg23 : BitVec 32 := Scf.iv c0_i32_334 c1_i32_336 k0_t9
  let c4_i32_359 : BitVec 32 := 4#32
  let v600 : BitVec 32 := Scalar.muli arg23 c4_i32_359
  let v881 : BitVec 32 := Scalar.addi v600 c0_i32_427
  let v882 : Index := Scalar.indexCast v881
  let c448_428 : Index := 448#32
  let c0_429 : Index := 0#32
  ![v882.toNat, 448, 0]
def k0_off172 (i : grid0.Coords) (k0_t9 : Fin (k0_t9_loop i).trips) (c0_i32_430 : BitVec 32) : Fin 3 → Nat :=
  let c0_i32_334 : BitVec 32 := 0#32
  let c1_i32_336 : BitVec 32 := 1#32
  let arg23 : BitVec 32 := Scf.iv c0_i32_334 c1_i32_336 k0_t9
  let c4_i32_359 : BitVec 32 := 4#32
  let v600 : BitVec 32 := Scalar.muli arg23 c4_i32_359
  let v891 : BitVec 32 := Scalar.addi v600 c0_i32_430
  let v892 : Index := Scalar.indexCast v891
  let c464 : Index := 464#32
  let c0_431 : Index := 0#32
  ![v892.toNat, 464, 0]
def k0_off173 (i : grid0.Coords) (k0_t9 : Fin (k0_t9_loop i).trips) (c0_i32_432 : BitVec 32) : Fin 3 → Nat :=
  let c0_i32_334 : BitVec 32 := 0#32
  let c1_i32_336 : BitVec 32 := 1#32
  let arg23 : BitVec 32 := Scf.iv c0_i32_334 c1_i32_336 k0_t9
  let c4_i32_359 : BitVec 32 := 4#32
  let v600 : BitVec 32 := Scalar.muli arg23 c4_i32_359
  let v901 : BitVec 32 := Scalar.addi v600 c0_i32_432
  let v902 : Index := Scalar.indexCast v901
  let c480 : Index := 480#32
  let c0_433 : Index := 0#32
  ![v902.toNat, 480, 0]
def k0_off174 (i : grid0.Coords) (k0_t9 : Fin (k0_t9_loop i).trips) (c0_i32_434 : BitVec 32) : Fin 3 → Nat :=
  let c0_i32_334 : BitVec 32 := 0#32
  let c1_i32_336 : BitVec 32 := 1#32
  let arg23 : BitVec 32 := Scf.iv c0_i32_334 c1_i32_336 k0_t9
  let c4_i32_359 : BitVec 32 := 4#32
  let v600 : BitVec 32 := Scalar.muli arg23 c4_i32_359
  let v911 : BitVec 32 := Scalar.addi v600 c0_i32_434
  let v912 : Index := Scalar.indexCast v911
  let c496 : Index := 496#32
  let c0_435 : Index := 0#32
  ![v912.toNat, 496, 0]
@[reducible] def k0_t10_loop (i : grid0.Coords) : Scf.Loop 32 :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let v549 : BitVec 32 := Scalar.addi c0_i32_334 v548
  let c1_i32_337 : BitVec 32 := 1#32
  ⟨v552, v549, c1_i32_337⟩
def k0_off175 (i : grid0.Coords) (k0_t10 : Fin (k0_t10_loop i).trips) (c0_i32_360 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t10
  let c4_i32_359 : BitVec 32 := 4#32
  let v600 : BitVec 32 := Scalar.muli arg23 c4_i32_359
  let v601 : BitVec 32 := Scalar.addi v600 c0_i32_360
  let v602 : Index := Scalar.indexCast v601
  let c0_361 : Index := 0#32
  let c0_362 : Index := 0#32
  ![v602.toNat, 0, 0]
def k0_off176 (i : grid0.Coords) (k0_t10 : Fin (k0_t10_loop i).trips) (c0_i32_363 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t10
  let c4_i32_359 : BitVec 32 := 4#32
  let v600 : BitVec 32 := Scalar.muli arg23 c4_i32_359
  let v611 : BitVec 32 := Scalar.addi v600 c0_i32_363
  let v612 : Index := Scalar.indexCast v611
  let c16 : Index := 16#32
  let c0_364 : Index := 0#32
  ![v612.toNat, 16, 0]
def k0_off177 (i : grid0.Coords) (k0_t10 : Fin (k0_t10_loop i).trips) (c0_i32_365 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t10
  let c4_i32_359 : BitVec 32 := 4#32
  let v600 : BitVec 32 := Scalar.muli arg23 c4_i32_359
  let v621 : BitVec 32 := Scalar.addi v600 c0_i32_365
  let v622 : Index := Scalar.indexCast v621
  let c32_366 : Index := 32#32
  let c0_367 : Index := 0#32
  ![v622.toNat, 32, 0]
def k0_off178 (i : grid0.Coords) (k0_t10 : Fin (k0_t10_loop i).trips) (c0_i32_368 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t10
  let c4_i32_359 : BitVec 32 := 4#32
  let v600 : BitVec 32 := Scalar.muli arg23 c4_i32_359
  let v631 : BitVec 32 := Scalar.addi v600 c0_i32_368
  let v632 : Index := Scalar.indexCast v631
  let c48 : Index := 48#32
  let c0_369 : Index := 0#32
  ![v632.toNat, 48, 0]
def k0_off179 (i : grid0.Coords) (k0_t10 : Fin (k0_t10_loop i).trips) (c0_i32_370 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t10
  let c4_i32_359 : BitVec 32 := 4#32
  let v600 : BitVec 32 := Scalar.muli arg23 c4_i32_359
  let v641 : BitVec 32 := Scalar.addi v600 c0_i32_370
  let v642 : Index := Scalar.indexCast v641
  let c64_371 : Index := 64#32
  let c0_372 : Index := 0#32
  ![v642.toNat, 64, 0]
def k0_off180 (i : grid0.Coords) (k0_t10 : Fin (k0_t10_loop i).trips) (c0_i32_373 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t10
  let c4_i32_359 : BitVec 32 := 4#32
  let v600 : BitVec 32 := Scalar.muli arg23 c4_i32_359
  let v651 : BitVec 32 := Scalar.addi v600 c0_i32_373
  let v652 : Index := Scalar.indexCast v651
  let c80 : Index := 80#32
  let c0_374 : Index := 0#32
  ![v652.toNat, 80, 0]
def k0_off181 (i : grid0.Coords) (k0_t10 : Fin (k0_t10_loop i).trips) (c0_i32_375 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t10
  let c4_i32_359 : BitVec 32 := 4#32
  let v600 : BitVec 32 := Scalar.muli arg23 c4_i32_359
  let v661 : BitVec 32 := Scalar.addi v600 c0_i32_375
  let v662 : Index := Scalar.indexCast v661
  let c96_376 : Index := 96#32
  let c0_377 : Index := 0#32
  ![v662.toNat, 96, 0]
def k0_off182 (i : grid0.Coords) (k0_t10 : Fin (k0_t10_loop i).trips) (c0_i32_378 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t10
  let c4_i32_359 : BitVec 32 := 4#32
  let v600 : BitVec 32 := Scalar.muli arg23 c4_i32_359
  let v671 : BitVec 32 := Scalar.addi v600 c0_i32_378
  let v672 : Index := Scalar.indexCast v671
  let c112 : Index := 112#32
  let c0_379 : Index := 0#32
  ![v672.toNat, 112, 0]
def k0_off183 (i : grid0.Coords) (k0_t10 : Fin (k0_t10_loop i).trips) (c0_i32_380 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t10
  let c4_i32_359 : BitVec 32 := 4#32
  let v600 : BitVec 32 := Scalar.muli arg23 c4_i32_359
  let v681 : BitVec 32 := Scalar.addi v600 c0_i32_380
  let v682 : Index := Scalar.indexCast v681
  let c128_381 : Index := 128#32
  let c0_382 : Index := 0#32
  ![v682.toNat, 128, 0]
def k0_off184 (i : grid0.Coords) (k0_t10 : Fin (k0_t10_loop i).trips) (c0_i32_383 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t10
  let c4_i32_359 : BitVec 32 := 4#32
  let v600 : BitVec 32 := Scalar.muli arg23 c4_i32_359
  let v691 : BitVec 32 := Scalar.addi v600 c0_i32_383
  let v692 : Index := Scalar.indexCast v691
  let c144 : Index := 144#32
  let c0_384 : Index := 0#32
  ![v692.toNat, 144, 0]
def k0_off185 (i : grid0.Coords) (k0_t10 : Fin (k0_t10_loop i).trips) (c0_i32_385 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t10
  let c4_i32_359 : BitVec 32 := 4#32
  let v600 : BitVec 32 := Scalar.muli arg23 c4_i32_359
  let v701 : BitVec 32 := Scalar.addi v600 c0_i32_385
  let v702 : Index := Scalar.indexCast v701
  let c160_386 : Index := 160#32
  let c0_387 : Index := 0#32
  ![v702.toNat, 160, 0]
def k0_off186 (i : grid0.Coords) (k0_t10 : Fin (k0_t10_loop i).trips) (c0_i32_388 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t10
  let c4_i32_359 : BitVec 32 := 4#32
  let v600 : BitVec 32 := Scalar.muli arg23 c4_i32_359
  let v711 : BitVec 32 := Scalar.addi v600 c0_i32_388
  let v712 : Index := Scalar.indexCast v711
  let c176 : Index := 176#32
  let c0_389 : Index := 0#32
  ![v712.toNat, 176, 0]
def k0_off187 (i : grid0.Coords) (k0_t10 : Fin (k0_t10_loop i).trips) (c0_i32_390 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t10
  let c4_i32_359 : BitVec 32 := 4#32
  let v600 : BitVec 32 := Scalar.muli arg23 c4_i32_359
  let v721 : BitVec 32 := Scalar.addi v600 c0_i32_390
  let v722 : Index := Scalar.indexCast v721
  let c192_391 : Index := 192#32
  let c0_392 : Index := 0#32
  ![v722.toNat, 192, 0]
def k0_off188 (i : grid0.Coords) (k0_t10 : Fin (k0_t10_loop i).trips) (c0_i32_393 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t10
  let c4_i32_359 : BitVec 32 := 4#32
  let v600 : BitVec 32 := Scalar.muli arg23 c4_i32_359
  let v731 : BitVec 32 := Scalar.addi v600 c0_i32_393
  let v732 : Index := Scalar.indexCast v731
  let c208 : Index := 208#32
  let c0_394 : Index := 0#32
  ![v732.toNat, 208, 0]
def k0_off189 (i : grid0.Coords) (k0_t10 : Fin (k0_t10_loop i).trips) (c0_i32_395 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t10
  let c4_i32_359 : BitVec 32 := 4#32
  let v600 : BitVec 32 := Scalar.muli arg23 c4_i32_359
  let v741 : BitVec 32 := Scalar.addi v600 c0_i32_395
  let v742 : Index := Scalar.indexCast v741
  let c224_396 : Index := 224#32
  let c0_397 : Index := 0#32
  ![v742.toNat, 224, 0]
def k0_off190 (i : grid0.Coords) (k0_t10 : Fin (k0_t10_loop i).trips) (c0_i32_398 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t10
  let c4_i32_359 : BitVec 32 := 4#32
  let v600 : BitVec 32 := Scalar.muli arg23 c4_i32_359
  let v751 : BitVec 32 := Scalar.addi v600 c0_i32_398
  let v752 : Index := Scalar.indexCast v751
  let c240 : Index := 240#32
  let c0_399 : Index := 0#32
  ![v752.toNat, 240, 0]
def k0_off191 (i : grid0.Coords) (k0_t10 : Fin (k0_t10_loop i).trips) (c0_i32_400 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t10
  let c4_i32_359 : BitVec 32 := 4#32
  let v600 : BitVec 32 := Scalar.muli arg23 c4_i32_359
  let v761 : BitVec 32 := Scalar.addi v600 c0_i32_400
  let v762 : Index := Scalar.indexCast v761
  let c256_401 : Index := 256#32
  let c0_402 : Index := 0#32
  ![v762.toNat, 256, 0]
def k0_off192 (i : grid0.Coords) (k0_t10 : Fin (k0_t10_loop i).trips) (c0_i32_403 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t10
  let c4_i32_359 : BitVec 32 := 4#32
  let v600 : BitVec 32 := Scalar.muli arg23 c4_i32_359
  let v771 : BitVec 32 := Scalar.addi v600 c0_i32_403
  let v772 : Index := Scalar.indexCast v771
  let c272 : Index := 272#32
  let c0_404 : Index := 0#32
  ![v772.toNat, 272, 0]
def k0_off193 (i : grid0.Coords) (k0_t10 : Fin (k0_t10_loop i).trips) (c0_i32_405 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t10
  let c4_i32_359 : BitVec 32 := 4#32
  let v600 : BitVec 32 := Scalar.muli arg23 c4_i32_359
  let v781 : BitVec 32 := Scalar.addi v600 c0_i32_405
  let v782 : Index := Scalar.indexCast v781
  let c288 : Index := 288#32
  let c0_406 : Index := 0#32
  ![v782.toNat, 288, 0]
def k0_off194 (i : grid0.Coords) (k0_t10 : Fin (k0_t10_loop i).trips) (c0_i32_407 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t10
  let c4_i32_359 : BitVec 32 := 4#32
  let v600 : BitVec 32 := Scalar.muli arg23 c4_i32_359
  let v791 : BitVec 32 := Scalar.addi v600 c0_i32_407
  let v792 : Index := Scalar.indexCast v791
  let c304 : Index := 304#32
  let c0_408 : Index := 0#32
  ![v792.toNat, 304, 0]
def k0_off195 (i : grid0.Coords) (k0_t10 : Fin (k0_t10_loop i).trips) (c0_i32_409 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t10
  let c4_i32_359 : BitVec 32 := 4#32
  let v600 : BitVec 32 := Scalar.muli arg23 c4_i32_359
  let v801 : BitVec 32 := Scalar.addi v600 c0_i32_409
  let v802 : Index := Scalar.indexCast v801
  let c320_410 : Index := 320#32
  let c0_411 : Index := 0#32
  ![v802.toNat, 320, 0]
def k0_off196 (i : grid0.Coords) (k0_t10 : Fin (k0_t10_loop i).trips) (c0_i32_412 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t10
  let c4_i32_359 : BitVec 32 := 4#32
  let v600 : BitVec 32 := Scalar.muli arg23 c4_i32_359
  let v811 : BitVec 32 := Scalar.addi v600 c0_i32_412
  let v812 : Index := Scalar.indexCast v811
  let c336 : Index := 336#32
  let c0_413 : Index := 0#32
  ![v812.toNat, 336, 0]
def k0_off197 (i : grid0.Coords) (k0_t10 : Fin (k0_t10_loop i).trips) (c0_i32_414 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t10
  let c4_i32_359 : BitVec 32 := 4#32
  let v600 : BitVec 32 := Scalar.muli arg23 c4_i32_359
  let v821 : BitVec 32 := Scalar.addi v600 c0_i32_414
  let v822 : Index := Scalar.indexCast v821
  let c352 : Index := 352#32
  let c0_415 : Index := 0#32
  ![v822.toNat, 352, 0]
def k0_off198 (i : grid0.Coords) (k0_t10 : Fin (k0_t10_loop i).trips) (c0_i32_416 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t10
  let c4_i32_359 : BitVec 32 := 4#32
  let v600 : BitVec 32 := Scalar.muli arg23 c4_i32_359
  let v831 : BitVec 32 := Scalar.addi v600 c0_i32_416
  let v832 : Index := Scalar.indexCast v831
  let c368 : Index := 368#32
  let c0_417 : Index := 0#32
  ![v832.toNat, 368, 0]
def k0_off199 (i : grid0.Coords) (k0_t10 : Fin (k0_t10_loop i).trips) (c0_i32_418 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t10
  let c4_i32_359 : BitVec 32 := 4#32
  let v600 : BitVec 32 := Scalar.muli arg23 c4_i32_359
  let v841 : BitVec 32 := Scalar.addi v600 c0_i32_418
  let v842 : Index := Scalar.indexCast v841
  let c384_419 : Index := 384#32
  let c0_420 : Index := 0#32
  ![v842.toNat, 384, 0]
def k0_off200 (i : grid0.Coords) (k0_t10 : Fin (k0_t10_loop i).trips) (c0_i32_421 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t10
  let c4_i32_359 : BitVec 32 := 4#32
  let v600 : BitVec 32 := Scalar.muli arg23 c4_i32_359
  let v851 : BitVec 32 := Scalar.addi v600 c0_i32_421
  let v852 : Index := Scalar.indexCast v851
  let c400 : Index := 400#32
  let c0_422 : Index := 0#32
  ![v852.toNat, 400, 0]
def k0_off201 (i : grid0.Coords) (k0_t10 : Fin (k0_t10_loop i).trips) (c0_i32_423 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t10
  let c4_i32_359 : BitVec 32 := 4#32
  let v600 : BitVec 32 := Scalar.muli arg23 c4_i32_359
  let v861 : BitVec 32 := Scalar.addi v600 c0_i32_423
  let v862 : Index := Scalar.indexCast v861
  let c416 : Index := 416#32
  let c0_424 : Index := 0#32
  ![v862.toNat, 416, 0]
def k0_off202 (i : grid0.Coords) (k0_t10 : Fin (k0_t10_loop i).trips) (c0_i32_425 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t10
  let c4_i32_359 : BitVec 32 := 4#32
  let v600 : BitVec 32 := Scalar.muli arg23 c4_i32_359
  let v871 : BitVec 32 := Scalar.addi v600 c0_i32_425
  let v872 : Index := Scalar.indexCast v871
  let c432 : Index := 432#32
  let c0_426 : Index := 0#32
  ![v872.toNat, 432, 0]
def k0_off203 (i : grid0.Coords) (k0_t10 : Fin (k0_t10_loop i).trips) (c0_i32_427 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t10
  let c4_i32_359 : BitVec 32 := 4#32
  let v600 : BitVec 32 := Scalar.muli arg23 c4_i32_359
  let v881 : BitVec 32 := Scalar.addi v600 c0_i32_427
  let v882 : Index := Scalar.indexCast v881
  let c448_428 : Index := 448#32
  let c0_429 : Index := 0#32
  ![v882.toNat, 448, 0]
def k0_off204 (i : grid0.Coords) (k0_t10 : Fin (k0_t10_loop i).trips) (c0_i32_430 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t10
  let c4_i32_359 : BitVec 32 := 4#32
  let v600 : BitVec 32 := Scalar.muli arg23 c4_i32_359
  let v891 : BitVec 32 := Scalar.addi v600 c0_i32_430
  let v892 : Index := Scalar.indexCast v891
  let c464 : Index := 464#32
  let c0_431 : Index := 0#32
  ![v892.toNat, 464, 0]
def k0_off205 (i : grid0.Coords) (k0_t10 : Fin (k0_t10_loop i).trips) (c0_i32_432 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t10
  let c4_i32_359 : BitVec 32 := 4#32
  let v600 : BitVec 32 := Scalar.muli arg23 c4_i32_359
  let v901 : BitVec 32 := Scalar.addi v600 c0_i32_432
  let v902 : Index := Scalar.indexCast v901
  let c480 : Index := 480#32
  let c0_433 : Index := 0#32
  ![v902.toNat, 480, 0]
def k0_off206 (i : grid0.Coords) (k0_t10 : Fin (k0_t10_loop i).trips) (c0_i32_434 : BitVec 32) : Fin 3 → Nat :=
  let c0_i32_334 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_326 : BitVec 32 := 0#32
  let v532 : BitVec 1 := Scalar.cmpi .sgt v20 c0_i32_326
  let v533 : BitVec 32 := Scalar.extui v532
  let c0_i32_327 : BitVec 32 := 0#32
  let v534 : BitVec 1 := Scalar.cmpi .slt v20 c0_i32_327
  let v535 : BitVec 32 := Scalar.extui v534
  let v536 : BitVec 32 := Scalar.subi v533 v535
  let c4_i32 : BitVec 32 := 4#32
  let c0_i32_328 : BitVec 32 := 0#32
  let v537 : BitVec 1 := Scalar.cmpi .sgt c4_i32 c0_i32_328
  let v538 : BitVec 32 := Scalar.extui v537
  let c0_i32_329 : BitVec 32 := 0#32
  let v539 : BitVec 1 := Scalar.cmpi .slt c4_i32 c0_i32_329
  let v540 : BitVec 32 := Scalar.extui v539
  let v541 : BitVec 32 := Scalar.subi v538 v540
  let v542 : BitVec 1 := Scalar.cmpi .ne v536 v541
  let v543 : BitVec 32 := Scalar.remsi v20 c4_i32
  let c0_i32_330 : BitVec 32 := 0#32
  let v544 : BitVec 1 := Scalar.cmpi .ne v543 c0_i32_330
  let v545 : BitVec 1 := Scalar.andi v542 v544
  let v531 : BitVec 32 := Scalar.divsi v20 c4_i32
  let c1_i32_331 : BitVec 32 := 1#32
  let v546 : BitVec 32 := Scalar.subi v531 c1_i32_331
  let v547 : BitVec 32 := Scalar.select v545 v546 v531
  let v548 : BitVec 32 := Scalar.subi v547 c0_i32_334
  let c1_i32_335 : BitVec 32 := 1#32
  let v550 : BitVec 32 := Scalar.divsi v548 c1_i32_335
  let v551 : BitVec 32 := Scalar.muli v550 c1_i32_335
  let v552 : BitVec 32 := Scalar.addi c0_i32_334 v551
  let c1_i32_337 : BitVec 32 := 1#32
  let arg23 : BitVec 32 := Scf.iv v552 c1_i32_337 k0_t10
  let c4_i32_359 : BitVec 32 := 4#32
  let v600 : BitVec 32 := Scalar.muli arg23 c4_i32_359
  let v911 : BitVec 32 := Scalar.addi v600 c0_i32_434
  let v912 : Index := Scalar.indexCast v911
  let c496 : Index := 496#32
  let c0_435 : Index := 0#32
  ![v912.toNat, 496, 0]
def k0_cond6 (i : grid0.Coords) : BitVec 1 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c2_i32_346 : BitVec 32 := 2#32
  let v573 : BitVec 32 := Scalar.andi v20 c2_i32_346
  let c0_i32_347 : BitVec 32 := 0#32
  let v574 : BitVec 1 := Scalar.cmpi .ne v573 c0_i32_347
  let v575 : BitVec 32 := Scalar.extui v574
  let c0_i32_350 : BitVec 32 := 0#32
  let v576 : BitVec 1 := Scalar.cmpi .ne v575 c0_i32_350
  v576

def k0_off207 (i : grid0.Coords) (c0_i32_359 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v600 : BitVec 32 := Scalar.addi v572 c0_i32_359
  let v601 : Index := Scalar.indexCast v600
  let c0_360 : Index := 0#32
  let c0_361 : Index := 0#32
  ![v601.toNat, 0, 0]
def k0_off208 (i : grid0.Coords) (c0_i32_362 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v610 : BitVec 32 := Scalar.addi v572 c0_i32_362
  let v611 : Index := Scalar.indexCast v610
  let c16 : Index := 16#32
  let c0_363 : Index := 0#32
  ![v611.toNat, 16, 0]
def k0_off209 (i : grid0.Coords) (c0_i32_364 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v620 : BitVec 32 := Scalar.addi v572 c0_i32_364
  let v621 : Index := Scalar.indexCast v620
  let c32_365 : Index := 32#32
  let c0_366 : Index := 0#32
  ![v621.toNat, 32, 0]
def k0_off210 (i : grid0.Coords) (c0_i32_367 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v630 : BitVec 32 := Scalar.addi v572 c0_i32_367
  let v631 : Index := Scalar.indexCast v630
  let c48 : Index := 48#32
  let c0_368 : Index := 0#32
  ![v631.toNat, 48, 0]
def k0_off211 (i : grid0.Coords) (c0_i32_369 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v640 : BitVec 32 := Scalar.addi v572 c0_i32_369
  let v641 : Index := Scalar.indexCast v640
  let c64_370 : Index := 64#32
  let c0_371 : Index := 0#32
  ![v641.toNat, 64, 0]
def k0_off212 (i : grid0.Coords) (c0_i32_372 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v650 : BitVec 32 := Scalar.addi v572 c0_i32_372
  let v651 : Index := Scalar.indexCast v650
  let c80 : Index := 80#32
  let c0_373 : Index := 0#32
  ![v651.toNat, 80, 0]
def k0_off213 (i : grid0.Coords) (c0_i32_374 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v660 : BitVec 32 := Scalar.addi v572 c0_i32_374
  let v661 : Index := Scalar.indexCast v660
  let c96_375 : Index := 96#32
  let c0_376 : Index := 0#32
  ![v661.toNat, 96, 0]
def k0_off214 (i : grid0.Coords) (c0_i32_377 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v670 : BitVec 32 := Scalar.addi v572 c0_i32_377
  let v671 : Index := Scalar.indexCast v670
  let c112 : Index := 112#32
  let c0_378 : Index := 0#32
  ![v671.toNat, 112, 0]
def k0_off215 (i : grid0.Coords) (c0_i32_379 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v680 : BitVec 32 := Scalar.addi v572 c0_i32_379
  let v681 : Index := Scalar.indexCast v680
  let c128_380 : Index := 128#32
  let c0_381 : Index := 0#32
  ![v681.toNat, 128, 0]
def k0_off216 (i : grid0.Coords) (c0_i32_382 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v690 : BitVec 32 := Scalar.addi v572 c0_i32_382
  let v691 : Index := Scalar.indexCast v690
  let c144 : Index := 144#32
  let c0_383 : Index := 0#32
  ![v691.toNat, 144, 0]
def k0_off217 (i : grid0.Coords) (c0_i32_384 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v700 : BitVec 32 := Scalar.addi v572 c0_i32_384
  let v701 : Index := Scalar.indexCast v700
  let c160_385 : Index := 160#32
  let c0_386 : Index := 0#32
  ![v701.toNat, 160, 0]
def k0_off218 (i : grid0.Coords) (c0_i32_387 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v710 : BitVec 32 := Scalar.addi v572 c0_i32_387
  let v711 : Index := Scalar.indexCast v710
  let c176 : Index := 176#32
  let c0_388 : Index := 0#32
  ![v711.toNat, 176, 0]
def k0_off219 (i : grid0.Coords) (c0_i32_389 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v720 : BitVec 32 := Scalar.addi v572 c0_i32_389
  let v721 : Index := Scalar.indexCast v720
  let c192_390 : Index := 192#32
  let c0_391 : Index := 0#32
  ![v721.toNat, 192, 0]
def k0_off220 (i : grid0.Coords) (c0_i32_392 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v730 : BitVec 32 := Scalar.addi v572 c0_i32_392
  let v731 : Index := Scalar.indexCast v730
  let c208 : Index := 208#32
  let c0_393 : Index := 0#32
  ![v731.toNat, 208, 0]
def k0_off221 (i : grid0.Coords) (c0_i32_394 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v740 : BitVec 32 := Scalar.addi v572 c0_i32_394
  let v741 : Index := Scalar.indexCast v740
  let c224_395 : Index := 224#32
  let c0_396 : Index := 0#32
  ![v741.toNat, 224, 0]
def k0_off222 (i : grid0.Coords) (c0_i32_397 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v750 : BitVec 32 := Scalar.addi v572 c0_i32_397
  let v751 : Index := Scalar.indexCast v750
  let c240 : Index := 240#32
  let c0_398 : Index := 0#32
  ![v751.toNat, 240, 0]
def k0_off223 (i : grid0.Coords) (c0_i32_399 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v760 : BitVec 32 := Scalar.addi v572 c0_i32_399
  let v761 : Index := Scalar.indexCast v760
  let c256_400 : Index := 256#32
  let c0_401 : Index := 0#32
  ![v761.toNat, 256, 0]
def k0_off224 (i : grid0.Coords) (c0_i32_402 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v770 : BitVec 32 := Scalar.addi v572 c0_i32_402
  let v771 : Index := Scalar.indexCast v770
  let c272 : Index := 272#32
  let c0_403 : Index := 0#32
  ![v771.toNat, 272, 0]
def k0_off225 (i : grid0.Coords) (c0_i32_404 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v780 : BitVec 32 := Scalar.addi v572 c0_i32_404
  let v781 : Index := Scalar.indexCast v780
  let c288 : Index := 288#32
  let c0_405 : Index := 0#32
  ![v781.toNat, 288, 0]
def k0_off226 (i : grid0.Coords) (c0_i32_406 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v790 : BitVec 32 := Scalar.addi v572 c0_i32_406
  let v791 : Index := Scalar.indexCast v790
  let c304 : Index := 304#32
  let c0_407 : Index := 0#32
  ![v791.toNat, 304, 0]
def k0_off227 (i : grid0.Coords) (c0_i32_408 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v800 : BitVec 32 := Scalar.addi v572 c0_i32_408
  let v801 : Index := Scalar.indexCast v800
  let c320_409 : Index := 320#32
  let c0_410 : Index := 0#32
  ![v801.toNat, 320, 0]
def k0_off228 (i : grid0.Coords) (c0_i32_411 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v810 : BitVec 32 := Scalar.addi v572 c0_i32_411
  let v811 : Index := Scalar.indexCast v810
  let c336 : Index := 336#32
  let c0_412 : Index := 0#32
  ![v811.toNat, 336, 0]
def k0_off229 (i : grid0.Coords) (c0_i32_413 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v820 : BitVec 32 := Scalar.addi v572 c0_i32_413
  let v821 : Index := Scalar.indexCast v820
  let c352 : Index := 352#32
  let c0_414 : Index := 0#32
  ![v821.toNat, 352, 0]
def k0_off230 (i : grid0.Coords) (c0_i32_415 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v830 : BitVec 32 := Scalar.addi v572 c0_i32_415
  let v831 : Index := Scalar.indexCast v830
  let c368 : Index := 368#32
  let c0_416 : Index := 0#32
  ![v831.toNat, 368, 0]
def k0_off231 (i : grid0.Coords) (c0_i32_417 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v840 : BitVec 32 := Scalar.addi v572 c0_i32_417
  let v841 : Index := Scalar.indexCast v840
  let c384_418 : Index := 384#32
  let c0_419 : Index := 0#32
  ![v841.toNat, 384, 0]
def k0_off232 (i : grid0.Coords) (c0_i32_420 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v850 : BitVec 32 := Scalar.addi v572 c0_i32_420
  let v851 : Index := Scalar.indexCast v850
  let c400 : Index := 400#32
  let c0_421 : Index := 0#32
  ![v851.toNat, 400, 0]
def k0_off233 (i : grid0.Coords) (c0_i32_422 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v860 : BitVec 32 := Scalar.addi v572 c0_i32_422
  let v861 : Index := Scalar.indexCast v860
  let c416 : Index := 416#32
  let c0_423 : Index := 0#32
  ![v861.toNat, 416, 0]
def k0_off234 (i : grid0.Coords) (c0_i32_424 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v870 : BitVec 32 := Scalar.addi v572 c0_i32_424
  let v871 : Index := Scalar.indexCast v870
  let c432 : Index := 432#32
  let c0_425 : Index := 0#32
  ![v871.toNat, 432, 0]
def k0_off235 (i : grid0.Coords) (c0_i32_426 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v880 : BitVec 32 := Scalar.addi v572 c0_i32_426
  let v881 : Index := Scalar.indexCast v880
  let c448_427 : Index := 448#32
  let c0_428 : Index := 0#32
  ![v881.toNat, 448, 0]
def k0_off236 (i : grid0.Coords) (c0_i32_429 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v890 : BitVec 32 := Scalar.addi v572 c0_i32_429
  let v891 : Index := Scalar.indexCast v890
  let c464 : Index := 464#32
  let c0_430 : Index := 0#32
  ![v891.toNat, 464, 0]
def k0_off237 (i : grid0.Coords) (c0_i32_431 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v900 : BitVec 32 := Scalar.addi v572 c0_i32_431
  let v901 : Index := Scalar.indexCast v900
  let c480 : Index := 480#32
  let c0_432 : Index := 0#32
  ![v901.toNat, 480, 0]
def k0_off238 (i : grid0.Coords) (c0_i32_433 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let v910 : BitVec 32 := Scalar.addi v572 c0_i32_433
  let v911 : Index := Scalar.indexCast v910
  let c496 : Index := 496#32
  let c0_434 : Index := 0#32
  ![v911.toNat, 496, 0]
def k0_cond7 (i : grid0.Coords) : BitVec 1 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_353 : BitVec 32 := 1#32
  let v580 : BitVec 32 := Scalar.andi v20 c1_i32_353
  let c0_i32_354 : BitVec 32 := 0#32
  let v581 : BitVec 1 := Scalar.cmpi .ne v580 c0_i32_354
  let v582 : BitVec 32 := Scalar.extui v581
  let c0_i32_357 : BitVec 32 := 0#32
  let v583 : BitVec 1 := Scalar.cmpi .ne v582 c0_i32_357
  v583

def k0_off239 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_359 : BitVec 32 := 0#32
  let v600 : BitVec 32 := Scalar.addi v579 c0_i32_359
  let v601 : Index := Scalar.indexCast v600
  let c0_360 : Index := 0#32
  let c0_361 : Index := 0#32
  ![v601.toNat, 0, 0]
def k0_off240 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_362 : BitVec 32 := 0#32
  let v610 : BitVec 32 := Scalar.addi v579 c0_i32_362
  let v611 : Index := Scalar.indexCast v610
  let c16 : Index := 16#32
  let c0_363 : Index := 0#32
  ![v611.toNat, 16, 0]
def k0_off241 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_364 : BitVec 32 := 0#32
  let v620 : BitVec 32 := Scalar.addi v579 c0_i32_364
  let v621 : Index := Scalar.indexCast v620
  let c32_365 : Index := 32#32
  let c0_366 : Index := 0#32
  ![v621.toNat, 32, 0]
def k0_off242 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_367 : BitVec 32 := 0#32
  let v630 : BitVec 32 := Scalar.addi v579 c0_i32_367
  let v631 : Index := Scalar.indexCast v630
  let c48 : Index := 48#32
  let c0_368 : Index := 0#32
  ![v631.toNat, 48, 0]
def k0_off243 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_369 : BitVec 32 := 0#32
  let v640 : BitVec 32 := Scalar.addi v579 c0_i32_369
  let v641 : Index := Scalar.indexCast v640
  let c64_370 : Index := 64#32
  let c0_371 : Index := 0#32
  ![v641.toNat, 64, 0]
def k0_off244 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_372 : BitVec 32 := 0#32
  let v650 : BitVec 32 := Scalar.addi v579 c0_i32_372
  let v651 : Index := Scalar.indexCast v650
  let c80 : Index := 80#32
  let c0_373 : Index := 0#32
  ![v651.toNat, 80, 0]
def k0_off245 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_374 : BitVec 32 := 0#32
  let v660 : BitVec 32 := Scalar.addi v579 c0_i32_374
  let v661 : Index := Scalar.indexCast v660
  let c96_375 : Index := 96#32
  let c0_376 : Index := 0#32
  ![v661.toNat, 96, 0]
def k0_off246 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_377 : BitVec 32 := 0#32
  let v670 : BitVec 32 := Scalar.addi v579 c0_i32_377
  let v671 : Index := Scalar.indexCast v670
  let c112 : Index := 112#32
  let c0_378 : Index := 0#32
  ![v671.toNat, 112, 0]
def k0_off247 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_379 : BitVec 32 := 0#32
  let v680 : BitVec 32 := Scalar.addi v579 c0_i32_379
  let v681 : Index := Scalar.indexCast v680
  let c128_380 : Index := 128#32
  let c0_381 : Index := 0#32
  ![v681.toNat, 128, 0]
def k0_off248 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_382 : BitVec 32 := 0#32
  let v690 : BitVec 32 := Scalar.addi v579 c0_i32_382
  let v691 : Index := Scalar.indexCast v690
  let c144 : Index := 144#32
  let c0_383 : Index := 0#32
  ![v691.toNat, 144, 0]
def k0_off249 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_384 : BitVec 32 := 0#32
  let v700 : BitVec 32 := Scalar.addi v579 c0_i32_384
  let v701 : Index := Scalar.indexCast v700
  let c160_385 : Index := 160#32
  let c0_386 : Index := 0#32
  ![v701.toNat, 160, 0]
def k0_off250 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_387 : BitVec 32 := 0#32
  let v710 : BitVec 32 := Scalar.addi v579 c0_i32_387
  let v711 : Index := Scalar.indexCast v710
  let c176 : Index := 176#32
  let c0_388 : Index := 0#32
  ![v711.toNat, 176, 0]
def k0_off251 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_389 : BitVec 32 := 0#32
  let v720 : BitVec 32 := Scalar.addi v579 c0_i32_389
  let v721 : Index := Scalar.indexCast v720
  let c192_390 : Index := 192#32
  let c0_391 : Index := 0#32
  ![v721.toNat, 192, 0]
def k0_off252 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_392 : BitVec 32 := 0#32
  let v730 : BitVec 32 := Scalar.addi v579 c0_i32_392
  let v731 : Index := Scalar.indexCast v730
  let c208 : Index := 208#32
  let c0_393 : Index := 0#32
  ![v731.toNat, 208, 0]
def k0_off253 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_394 : BitVec 32 := 0#32
  let v740 : BitVec 32 := Scalar.addi v579 c0_i32_394
  let v741 : Index := Scalar.indexCast v740
  let c224_395 : Index := 224#32
  let c0_396 : Index := 0#32
  ![v741.toNat, 224, 0]
def k0_off254 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_397 : BitVec 32 := 0#32
  let v750 : BitVec 32 := Scalar.addi v579 c0_i32_397
  let v751 : Index := Scalar.indexCast v750
  let c240 : Index := 240#32
  let c0_398 : Index := 0#32
  ![v751.toNat, 240, 0]
def k0_off255 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_399 : BitVec 32 := 0#32
  let v760 : BitVec 32 := Scalar.addi v579 c0_i32_399
  let v761 : Index := Scalar.indexCast v760
  let c256_400 : Index := 256#32
  let c0_401 : Index := 0#32
  ![v761.toNat, 256, 0]
def k0_off256 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_402 : BitVec 32 := 0#32
  let v770 : BitVec 32 := Scalar.addi v579 c0_i32_402
  let v771 : Index := Scalar.indexCast v770
  let c272 : Index := 272#32
  let c0_403 : Index := 0#32
  ![v771.toNat, 272, 0]
def k0_off257 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_404 : BitVec 32 := 0#32
  let v780 : BitVec 32 := Scalar.addi v579 c0_i32_404
  let v781 : Index := Scalar.indexCast v780
  let c288 : Index := 288#32
  let c0_405 : Index := 0#32
  ![v781.toNat, 288, 0]
def k0_off258 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_406 : BitVec 32 := 0#32
  let v790 : BitVec 32 := Scalar.addi v579 c0_i32_406
  let v791 : Index := Scalar.indexCast v790
  let c304 : Index := 304#32
  let c0_407 : Index := 0#32
  ![v791.toNat, 304, 0]
def k0_off259 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_408 : BitVec 32 := 0#32
  let v800 : BitVec 32 := Scalar.addi v579 c0_i32_408
  let v801 : Index := Scalar.indexCast v800
  let c320_409 : Index := 320#32
  let c0_410 : Index := 0#32
  ![v801.toNat, 320, 0]
def k0_off260 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_411 : BitVec 32 := 0#32
  let v810 : BitVec 32 := Scalar.addi v579 c0_i32_411
  let v811 : Index := Scalar.indexCast v810
  let c336 : Index := 336#32
  let c0_412 : Index := 0#32
  ![v811.toNat, 336, 0]
def k0_off261 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_413 : BitVec 32 := 0#32
  let v820 : BitVec 32 := Scalar.addi v579 c0_i32_413
  let v821 : Index := Scalar.indexCast v820
  let c352 : Index := 352#32
  let c0_414 : Index := 0#32
  ![v821.toNat, 352, 0]
def k0_off262 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_415 : BitVec 32 := 0#32
  let v830 : BitVec 32 := Scalar.addi v579 c0_i32_415
  let v831 : Index := Scalar.indexCast v830
  let c368 : Index := 368#32
  let c0_416 : Index := 0#32
  ![v831.toNat, 368, 0]
def k0_off263 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_417 : BitVec 32 := 0#32
  let v840 : BitVec 32 := Scalar.addi v579 c0_i32_417
  let v841 : Index := Scalar.indexCast v840
  let c384_418 : Index := 384#32
  let c0_419 : Index := 0#32
  ![v841.toNat, 384, 0]
def k0_off264 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_420 : BitVec 32 := 0#32
  let v850 : BitVec 32 := Scalar.addi v579 c0_i32_420
  let v851 : Index := Scalar.indexCast v850
  let c400 : Index := 400#32
  let c0_421 : Index := 0#32
  ![v851.toNat, 400, 0]
def k0_off265 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_422 : BitVec 32 := 0#32
  let v860 : BitVec 32 := Scalar.addi v579 c0_i32_422
  let v861 : Index := Scalar.indexCast v860
  let c416 : Index := 416#32
  let c0_423 : Index := 0#32
  ![v861.toNat, 416, 0]
def k0_off266 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_424 : BitVec 32 := 0#32
  let v870 : BitVec 32 := Scalar.addi v579 c0_i32_424
  let v871 : Index := Scalar.indexCast v870
  let c432 : Index := 432#32
  let c0_425 : Index := 0#32
  ![v871.toNat, 432, 0]
def k0_off267 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_426 : BitVec 32 := 0#32
  let v880 : BitVec 32 := Scalar.addi v579 c0_i32_426
  let v881 : Index := Scalar.indexCast v880
  let c448_427 : Index := 448#32
  let c0_428 : Index := 0#32
  ![v881.toNat, 448, 0]
def k0_off268 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_429 : BitVec 32 := 0#32
  let v890 : BitVec 32 := Scalar.addi v579 c0_i32_429
  let v891 : Index := Scalar.indexCast v890
  let c464 : Index := 464#32
  let c0_430 : Index := 0#32
  ![v891.toNat, 464, 0]
def k0_off269 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_431 : BitVec 32 := 0#32
  let v900 : BitVec 32 := Scalar.addi v579 c0_i32_431
  let v901 : Index := Scalar.indexCast v900
  let c480 : Index := 480#32
  let c0_432 : Index := 0#32
  ![v901.toNat, 480, 0]
def k0_off270 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_339 : BitVec 32 := 0#32
  let v556 : BitVec 1 := Scalar.cmpi .sgt v20 c0_i32_339
  let v557 : BitVec 32 := Scalar.extui v556
  let c0_i32_340 : BitVec 32 := 0#32
  let v558 : BitVec 1 := Scalar.cmpi .slt v20 c0_i32_340
  let v559 : BitVec 32 := Scalar.extui v558
  let v560 : BitVec 32 := Scalar.subi v557 v559
  let c4_i32_338 : BitVec 32 := 4#32
  let c0_i32_341 : BitVec 32 := 0#32
  let v561 : BitVec 1 := Scalar.cmpi .sgt c4_i32_338 c0_i32_341
  let v562 : BitVec 32 := Scalar.extui v561
  let c0_i32_342 : BitVec 32 := 0#32
  let v563 : BitVec 1 := Scalar.cmpi .slt c4_i32_338 c0_i32_342
  let v564 : BitVec 32 := Scalar.extui v563
  let v565 : BitVec 32 := Scalar.subi v562 v564
  let v566 : BitVec 1 := Scalar.cmpi .ne v560 v565
  let v567 : BitVec 32 := Scalar.remsi v20 c4_i32_338
  let c0_i32_343 : BitVec 32 := 0#32
  let v568 : BitVec 1 := Scalar.cmpi .ne v567 c0_i32_343
  let v569 : BitVec 1 := Scalar.andi v566 v568
  let v555 : BitVec 32 := Scalar.divsi v20 c4_i32_338
  let c1_i32_344 : BitVec 32 := 1#32
  let v570 : BitVec 32 := Scalar.subi v555 c1_i32_344
  let v571 : BitVec 32 := Scalar.select v569 v570 v555
  let c4_i32_345 : BitVec 32 := 4#32
  let v572 : BitVec 32 := Scalar.muli v571 c4_i32_345
  let c2_i32_346 : BitVec 32 := 2#32
  let v573 : BitVec 32 := Scalar.andi v20 c2_i32_346
  let c0_i32_347 : BitVec 32 := 0#32
  let v574 : BitVec 1 := Scalar.cmpi .ne v573 c0_i32_347
  let c2_i32_351 : BitVec 32 := 2#32
  let c0_i32_352 : BitVec 32 := 0#32
  let v578 : BitVec 32 := Scalar.select v574 c2_i32_351 c0_i32_352
  let v579 : BitVec 32 := Scalar.addi v572 v578
  let c0_i32_433 : BitVec 32 := 0#32
  let v910 : BitVec 32 := Scalar.addi v579 c0_i32_433
  let v911 : Index := Scalar.indexCast v910
  let c496 : Index := 496#32
  let c0_434 : Index := 0#32
  ![v911.toNat, 496, 0]
@[reducible] def k0_t11_loop : Scf.Loop 32 :=
  let c0_i32_329 : BitVec 32 := 0#32
  let c5_i32 : BitVec 32 := 5#32
  let v526 : BitVec 32 := Scalar.addi c0_i32_329 c5_i32
  let c1_i32_330 : BitVec 32 := 1#32
  ⟨c0_i32_329, v526, c1_i32_330⟩
@[reducible] def k0_t12_loop (i : grid0.Coords) : Scf.Loop 32 :=
  let c0_i32_356 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_348 : BitVec 32 := 0#32
  let v549 : BitVec 1 := Scalar.cmpi .sgt v20 c0_i32_348
  let v550 : BitVec 32 := Scalar.extui v549
  let c0_i32_349 : BitVec 32 := 0#32
  let v551 : BitVec 1 := Scalar.cmpi .slt v20 c0_i32_349
  let v552 : BitVec 32 := Scalar.extui v551
  let v553 : BitVec 32 := Scalar.subi v550 v552
  let c4_i32_347 : BitVec 32 := 4#32
  let c0_i32_350 : BitVec 32 := 0#32
  let v554 : BitVec 1 := Scalar.cmpi .sgt c4_i32_347 c0_i32_350
  let v555 : BitVec 32 := Scalar.extui v554
  let c0_i32_351 : BitVec 32 := 0#32
  let v556 : BitVec 1 := Scalar.cmpi .slt c4_i32_347 c0_i32_351
  let v557 : BitVec 32 := Scalar.extui v556
  let v558 : BitVec 32 := Scalar.subi v555 v557
  let v559 : BitVec 1 := Scalar.cmpi .ne v553 v558
  let v560 : BitVec 32 := Scalar.remsi v20 c4_i32_347
  let c0_i32_352 : BitVec 32 := 0#32
  let v561 : BitVec 1 := Scalar.cmpi .ne v560 c0_i32_352
  let v562 : BitVec 1 := Scalar.andi v559 v561
  let v548 : BitVec 32 := Scalar.divsi v20 c4_i32_347
  let c1_i32_353 : BitVec 32 := 1#32
  let v563 : BitVec 32 := Scalar.subi v548 c1_i32_353
  let v564 : BitVec 32 := Scalar.select v562 v563 v548
  let v565 : BitVec 32 := Scalar.subi v564 c0_i32_356
  let c1_i32_357 : BitVec 32 := 1#32
  let v567 : BitVec 32 := Scalar.divsi v565 c1_i32_357
  let v568 : BitVec 32 := Scalar.muli v567 c1_i32_357
  let v569 : BitVec 32 := Scalar.addi c0_i32_356 v568
  let c1_i32_358 : BitVec 32 := 1#32
  ⟨c0_i32_356, v569, c1_i32_358⟩
def k0_off271 (i : grid0.Coords) (k0_t12 : Fin (k0_t12_loop i).trips) (c0_i32_382 : BitVec 32) : Fin 3 → Nat :=
  let c0_i32_356 : BitVec 32 := 0#32
  let c1_i32_358 : BitVec 32 := 1#32
  let arg23 : BitVec 32 := Scf.iv c0_i32_356 c1_i32_358 k0_t12
  let c4_i32_381 : BitVec 32 := 4#32
  let v617 : BitVec 32 := Scalar.muli arg23 c4_i32_381
  let v618 : BitVec 32 := Scalar.addi v617 c0_i32_382
  let v619 : Index := Scalar.indexCast v618
  let c0_383 : Index := 0#32
  let c0_384 : Index := 0#32
  ![v619.toNat, 0, 0]
def k0_off272 (i : grid0.Coords) (k0_t12 : Fin (k0_t12_loop i).trips) (c0_i32_385 : BitVec 32) : Fin 3 → Nat :=
  let c0_i32_356 : BitVec 32 := 0#32
  let c1_i32_358 : BitVec 32 := 1#32
  let arg23 : BitVec 32 := Scf.iv c0_i32_356 c1_i32_358 k0_t12
  let c4_i32_381 : BitVec 32 := 4#32
  let v617 : BitVec 32 := Scalar.muli arg23 c4_i32_381
  let v628 : BitVec 32 := Scalar.addi v617 c0_i32_385
  let v629 : Index := Scalar.indexCast v628
  let c16 : Index := 16#32
  let c0_386 : Index := 0#32
  ![v629.toNat, 16, 0]
def k0_off273 (i : grid0.Coords) (k0_t12 : Fin (k0_t12_loop i).trips) (c0_i32_387 : BitVec 32) : Fin 3 → Nat :=
  let c0_i32_356 : BitVec 32 := 0#32
  let c1_i32_358 : BitVec 32 := 1#32
  let arg23 : BitVec 32 := Scf.iv c0_i32_356 c1_i32_358 k0_t12
  let c4_i32_381 : BitVec 32 := 4#32
  let v617 : BitVec 32 := Scalar.muli arg23 c4_i32_381
  let v638 : BitVec 32 := Scalar.addi v617 c0_i32_387
  let v639 : Index := Scalar.indexCast v638
  let c32_388 : Index := 32#32
  let c0_389 : Index := 0#32
  ![v639.toNat, 32, 0]
def k0_off274 (i : grid0.Coords) (k0_t12 : Fin (k0_t12_loop i).trips) (c0_i32_390 : BitVec 32) : Fin 3 → Nat :=
  let c0_i32_356 : BitVec 32 := 0#32
  let c1_i32_358 : BitVec 32 := 1#32
  let arg23 : BitVec 32 := Scf.iv c0_i32_356 c1_i32_358 k0_t12
  let c4_i32_381 : BitVec 32 := 4#32
  let v617 : BitVec 32 := Scalar.muli arg23 c4_i32_381
  let v648 : BitVec 32 := Scalar.addi v617 c0_i32_390
  let v649 : Index := Scalar.indexCast v648
  let c48 : Index := 48#32
  let c0_391 : Index := 0#32
  ![v649.toNat, 48, 0]
def k0_off275 (i : grid0.Coords) (k0_t12 : Fin (k0_t12_loop i).trips) (c0_i32_392 : BitVec 32) : Fin 3 → Nat :=
  let c0_i32_356 : BitVec 32 := 0#32
  let c1_i32_358 : BitVec 32 := 1#32
  let arg23 : BitVec 32 := Scf.iv c0_i32_356 c1_i32_358 k0_t12
  let c4_i32_381 : BitVec 32 := 4#32
  let v617 : BitVec 32 := Scalar.muli arg23 c4_i32_381
  let v658 : BitVec 32 := Scalar.addi v617 c0_i32_392
  let v659 : Index := Scalar.indexCast v658
  let c64_393 : Index := 64#32
  let c0_394 : Index := 0#32
  ![v659.toNat, 64, 0]
def k0_off276 (i : grid0.Coords) (k0_t12 : Fin (k0_t12_loop i).trips) (c0_i32_395 : BitVec 32) : Fin 3 → Nat :=
  let c0_i32_356 : BitVec 32 := 0#32
  let c1_i32_358 : BitVec 32 := 1#32
  let arg23 : BitVec 32 := Scf.iv c0_i32_356 c1_i32_358 k0_t12
  let c4_i32_381 : BitVec 32 := 4#32
  let v617 : BitVec 32 := Scalar.muli arg23 c4_i32_381
  let v668 : BitVec 32 := Scalar.addi v617 c0_i32_395
  let v669 : Index := Scalar.indexCast v668
  let c80 : Index := 80#32
  let c0_396 : Index := 0#32
  ![v669.toNat, 80, 0]
def k0_off277 (i : grid0.Coords) (k0_t12 : Fin (k0_t12_loop i).trips) (c0_i32_397 : BitVec 32) : Fin 3 → Nat :=
  let c0_i32_356 : BitVec 32 := 0#32
  let c1_i32_358 : BitVec 32 := 1#32
  let arg23 : BitVec 32 := Scf.iv c0_i32_356 c1_i32_358 k0_t12
  let c4_i32_381 : BitVec 32 := 4#32
  let v617 : BitVec 32 := Scalar.muli arg23 c4_i32_381
  let v678 : BitVec 32 := Scalar.addi v617 c0_i32_397
  let v679 : Index := Scalar.indexCast v678
  let c96_398 : Index := 96#32
  let c0_399 : Index := 0#32
  ![v679.toNat, 96, 0]
def k0_off278 (i : grid0.Coords) (k0_t12 : Fin (k0_t12_loop i).trips) (c0_i32_400 : BitVec 32) : Fin 3 → Nat :=
  let c0_i32_356 : BitVec 32 := 0#32
  let c1_i32_358 : BitVec 32 := 1#32
  let arg23 : BitVec 32 := Scf.iv c0_i32_356 c1_i32_358 k0_t12
  let c4_i32_381 : BitVec 32 := 4#32
  let v617 : BitVec 32 := Scalar.muli arg23 c4_i32_381
  let v688 : BitVec 32 := Scalar.addi v617 c0_i32_400
  let v689 : Index := Scalar.indexCast v688
  let c112 : Index := 112#32
  let c0_401 : Index := 0#32
  ![v689.toNat, 112, 0]
def k0_off279 (i : grid0.Coords) (k0_t12 : Fin (k0_t12_loop i).trips) (c0_i32_402 : BitVec 32) : Fin 3 → Nat :=
  let c0_i32_356 : BitVec 32 := 0#32
  let c1_i32_358 : BitVec 32 := 1#32
  let arg23 : BitVec 32 := Scf.iv c0_i32_356 c1_i32_358 k0_t12
  let c4_i32_381 : BitVec 32 := 4#32
  let v617 : BitVec 32 := Scalar.muli arg23 c4_i32_381
  let v698 : BitVec 32 := Scalar.addi v617 c0_i32_402
  let v699 : Index := Scalar.indexCast v698
  let c128_403 : Index := 128#32
  let c0_404 : Index := 0#32
  ![v699.toNat, 128, 0]
def k0_off280 (i : grid0.Coords) (k0_t12 : Fin (k0_t12_loop i).trips) (c0_i32_405 : BitVec 32) : Fin 3 → Nat :=
  let c0_i32_356 : BitVec 32 := 0#32
  let c1_i32_358 : BitVec 32 := 1#32
  let arg23 : BitVec 32 := Scf.iv c0_i32_356 c1_i32_358 k0_t12
  let c4_i32_381 : BitVec 32 := 4#32
  let v617 : BitVec 32 := Scalar.muli arg23 c4_i32_381
  let v708 : BitVec 32 := Scalar.addi v617 c0_i32_405
  let v709 : Index := Scalar.indexCast v708
  let c144 : Index := 144#32
  let c0_406 : Index := 0#32
  ![v709.toNat, 144, 0]
def k0_off281 (i : grid0.Coords) (k0_t12 : Fin (k0_t12_loop i).trips) (c0_i32_407 : BitVec 32) : Fin 3 → Nat :=
  let c0_i32_356 : BitVec 32 := 0#32
  let c1_i32_358 : BitVec 32 := 1#32
  let arg23 : BitVec 32 := Scf.iv c0_i32_356 c1_i32_358 k0_t12
  let c4_i32_381 : BitVec 32 := 4#32
  let v617 : BitVec 32 := Scalar.muli arg23 c4_i32_381
  let v718 : BitVec 32 := Scalar.addi v617 c0_i32_407
  let v719 : Index := Scalar.indexCast v718
  let c160_408 : Index := 160#32
  let c0_409 : Index := 0#32
  ![v719.toNat, 160, 0]
def k0_off282 (i : grid0.Coords) (k0_t12 : Fin (k0_t12_loop i).trips) (c0_i32_410 : BitVec 32) : Fin 3 → Nat :=
  let c0_i32_356 : BitVec 32 := 0#32
  let c1_i32_358 : BitVec 32 := 1#32
  let arg23 : BitVec 32 := Scf.iv c0_i32_356 c1_i32_358 k0_t12
  let c4_i32_381 : BitVec 32 := 4#32
  let v617 : BitVec 32 := Scalar.muli arg23 c4_i32_381
  let v728 : BitVec 32 := Scalar.addi v617 c0_i32_410
  let v729 : Index := Scalar.indexCast v728
  let c176 : Index := 176#32
  let c0_411 : Index := 0#32
  ![v729.toNat, 176, 0]
def k0_off283 (i : grid0.Coords) (k0_t12 : Fin (k0_t12_loop i).trips) (c0_i32_412 : BitVec 32) : Fin 3 → Nat :=
  let c0_i32_356 : BitVec 32 := 0#32
  let c1_i32_358 : BitVec 32 := 1#32
  let arg23 : BitVec 32 := Scf.iv c0_i32_356 c1_i32_358 k0_t12
  let c4_i32_381 : BitVec 32 := 4#32
  let v617 : BitVec 32 := Scalar.muli arg23 c4_i32_381
  let v738 : BitVec 32 := Scalar.addi v617 c0_i32_412
  let v739 : Index := Scalar.indexCast v738
  let c192_413 : Index := 192#32
  let c0_414 : Index := 0#32
  ![v739.toNat, 192, 0]
def k0_off284 (i : grid0.Coords) (k0_t12 : Fin (k0_t12_loop i).trips) (c0_i32_415 : BitVec 32) : Fin 3 → Nat :=
  let c0_i32_356 : BitVec 32 := 0#32
  let c1_i32_358 : BitVec 32 := 1#32
  let arg23 : BitVec 32 := Scf.iv c0_i32_356 c1_i32_358 k0_t12
  let c4_i32_381 : BitVec 32 := 4#32
  let v617 : BitVec 32 := Scalar.muli arg23 c4_i32_381
  let v748 : BitVec 32 := Scalar.addi v617 c0_i32_415
  let v749 : Index := Scalar.indexCast v748
  let c208 : Index := 208#32
  let c0_416 : Index := 0#32
  ![v749.toNat, 208, 0]
def k0_off285 (i : grid0.Coords) (k0_t12 : Fin (k0_t12_loop i).trips) (c0_i32_417 : BitVec 32) : Fin 3 → Nat :=
  let c0_i32_356 : BitVec 32 := 0#32
  let c1_i32_358 : BitVec 32 := 1#32
  let arg23 : BitVec 32 := Scf.iv c0_i32_356 c1_i32_358 k0_t12
  let c4_i32_381 : BitVec 32 := 4#32
  let v617 : BitVec 32 := Scalar.muli arg23 c4_i32_381
  let v758 : BitVec 32 := Scalar.addi v617 c0_i32_417
  let v759 : Index := Scalar.indexCast v758
  let c224_418 : Index := 224#32
  let c0_419 : Index := 0#32
  ![v759.toNat, 224, 0]
def k0_off286 (i : grid0.Coords) (k0_t12 : Fin (k0_t12_loop i).trips) (c0_i32_420 : BitVec 32) : Fin 3 → Nat :=
  let c0_i32_356 : BitVec 32 := 0#32
  let c1_i32_358 : BitVec 32 := 1#32
  let arg23 : BitVec 32 := Scf.iv c0_i32_356 c1_i32_358 k0_t12
  let c4_i32_381 : BitVec 32 := 4#32
  let v617 : BitVec 32 := Scalar.muli arg23 c4_i32_381
  let v768 : BitVec 32 := Scalar.addi v617 c0_i32_420
  let v769 : Index := Scalar.indexCast v768
  let c240 : Index := 240#32
  let c0_421 : Index := 0#32
  ![v769.toNat, 240, 0]
def k0_off287 (i : grid0.Coords) (k0_t12 : Fin (k0_t12_loop i).trips) (c0_i32_422 : BitVec 32) : Fin 3 → Nat :=
  let c0_i32_356 : BitVec 32 := 0#32
  let c1_i32_358 : BitVec 32 := 1#32
  let arg23 : BitVec 32 := Scf.iv c0_i32_356 c1_i32_358 k0_t12
  let c4_i32_381 : BitVec 32 := 4#32
  let v617 : BitVec 32 := Scalar.muli arg23 c4_i32_381
  let v778 : BitVec 32 := Scalar.addi v617 c0_i32_422
  let v779 : Index := Scalar.indexCast v778
  let c256_423 : Index := 256#32
  let c0_424 : Index := 0#32
  ![v779.toNat, 256, 0]
def k0_off288 (i : grid0.Coords) (k0_t12 : Fin (k0_t12_loop i).trips) (c0_i32_425 : BitVec 32) : Fin 3 → Nat :=
  let c0_i32_356 : BitVec 32 := 0#32
  let c1_i32_358 : BitVec 32 := 1#32
  let arg23 : BitVec 32 := Scf.iv c0_i32_356 c1_i32_358 k0_t12
  let c4_i32_381 : BitVec 32 := 4#32
  let v617 : BitVec 32 := Scalar.muli arg23 c4_i32_381
  let v788 : BitVec 32 := Scalar.addi v617 c0_i32_425
  let v789 : Index := Scalar.indexCast v788
  let c272 : Index := 272#32
  let c0_426 : Index := 0#32
  ![v789.toNat, 272, 0]
def k0_off289 (i : grid0.Coords) (k0_t12 : Fin (k0_t12_loop i).trips) (c0_i32_427 : BitVec 32) : Fin 3 → Nat :=
  let c0_i32_356 : BitVec 32 := 0#32
  let c1_i32_358 : BitVec 32 := 1#32
  let arg23 : BitVec 32 := Scf.iv c0_i32_356 c1_i32_358 k0_t12
  let c4_i32_381 : BitVec 32 := 4#32
  let v617 : BitVec 32 := Scalar.muli arg23 c4_i32_381
  let v798 : BitVec 32 := Scalar.addi v617 c0_i32_427
  let v799 : Index := Scalar.indexCast v798
  let c288 : Index := 288#32
  let c0_428 : Index := 0#32
  ![v799.toNat, 288, 0]
def k0_off290 (i : grid0.Coords) (k0_t12 : Fin (k0_t12_loop i).trips) (c0_i32_429 : BitVec 32) : Fin 3 → Nat :=
  let c0_i32_356 : BitVec 32 := 0#32
  let c1_i32_358 : BitVec 32 := 1#32
  let arg23 : BitVec 32 := Scf.iv c0_i32_356 c1_i32_358 k0_t12
  let c4_i32_381 : BitVec 32 := 4#32
  let v617 : BitVec 32 := Scalar.muli arg23 c4_i32_381
  let v808 : BitVec 32 := Scalar.addi v617 c0_i32_429
  let v809 : Index := Scalar.indexCast v808
  let c304 : Index := 304#32
  let c0_430 : Index := 0#32
  ![v809.toNat, 304, 0]
def k0_off291 (i : grid0.Coords) (k0_t12 : Fin (k0_t12_loop i).trips) (c0_i32_431 : BitVec 32) : Fin 3 → Nat :=
  let c0_i32_356 : BitVec 32 := 0#32
  let c1_i32_358 : BitVec 32 := 1#32
  let arg23 : BitVec 32 := Scf.iv c0_i32_356 c1_i32_358 k0_t12
  let c4_i32_381 : BitVec 32 := 4#32
  let v617 : BitVec 32 := Scalar.muli arg23 c4_i32_381
  let v818 : BitVec 32 := Scalar.addi v617 c0_i32_431
  let v819 : Index := Scalar.indexCast v818
  let c320_432 : Index := 320#32
  let c0_433 : Index := 0#32
  ![v819.toNat, 320, 0]
def k0_off292 (i : grid0.Coords) (k0_t12 : Fin (k0_t12_loop i).trips) (c0_i32_434 : BitVec 32) : Fin 3 → Nat :=
  let c0_i32_356 : BitVec 32 := 0#32
  let c1_i32_358 : BitVec 32 := 1#32
  let arg23 : BitVec 32 := Scf.iv c0_i32_356 c1_i32_358 k0_t12
  let c4_i32_381 : BitVec 32 := 4#32
  let v617 : BitVec 32 := Scalar.muli arg23 c4_i32_381
  let v828 : BitVec 32 := Scalar.addi v617 c0_i32_434
  let v829 : Index := Scalar.indexCast v828
  let c336 : Index := 336#32
  let c0_435 : Index := 0#32
  ![v829.toNat, 336, 0]
def k0_off293 (i : grid0.Coords) (k0_t12 : Fin (k0_t12_loop i).trips) (c0_i32_436 : BitVec 32) : Fin 3 → Nat :=
  let c0_i32_356 : BitVec 32 := 0#32
  let c1_i32_358 : BitVec 32 := 1#32
  let arg23 : BitVec 32 := Scf.iv c0_i32_356 c1_i32_358 k0_t12
  let c4_i32_381 : BitVec 32 := 4#32
  let v617 : BitVec 32 := Scalar.muli arg23 c4_i32_381
  let v838 : BitVec 32 := Scalar.addi v617 c0_i32_436
  let v839 : Index := Scalar.indexCast v838
  let c352 : Index := 352#32
  let c0_437 : Index := 0#32
  ![v839.toNat, 352, 0]
def k0_off294 (i : grid0.Coords) (k0_t12 : Fin (k0_t12_loop i).trips) (c0_i32_438 : BitVec 32) : Fin 3 → Nat :=
  let c0_i32_356 : BitVec 32 := 0#32
  let c1_i32_358 : BitVec 32 := 1#32
  let arg23 : BitVec 32 := Scf.iv c0_i32_356 c1_i32_358 k0_t12
  let c4_i32_381 : BitVec 32 := 4#32
  let v617 : BitVec 32 := Scalar.muli arg23 c4_i32_381
  let v848 : BitVec 32 := Scalar.addi v617 c0_i32_438
  let v849 : Index := Scalar.indexCast v848
  let c368 : Index := 368#32
  let c0_439 : Index := 0#32
  ![v849.toNat, 368, 0]
def k0_off295 (i : grid0.Coords) (k0_t12 : Fin (k0_t12_loop i).trips) (c0_i32_440 : BitVec 32) : Fin 3 → Nat :=
  let c0_i32_356 : BitVec 32 := 0#32
  let c1_i32_358 : BitVec 32 := 1#32
  let arg23 : BitVec 32 := Scf.iv c0_i32_356 c1_i32_358 k0_t12
  let c4_i32_381 : BitVec 32 := 4#32
  let v617 : BitVec 32 := Scalar.muli arg23 c4_i32_381
  let v858 : BitVec 32 := Scalar.addi v617 c0_i32_440
  let v859 : Index := Scalar.indexCast v858
  let c384_441 : Index := 384#32
  let c0_442 : Index := 0#32
  ![v859.toNat, 384, 0]
def k0_off296 (i : grid0.Coords) (k0_t12 : Fin (k0_t12_loop i).trips) (c0_i32_443 : BitVec 32) : Fin 3 → Nat :=
  let c0_i32_356 : BitVec 32 := 0#32
  let c1_i32_358 : BitVec 32 := 1#32
  let arg23 : BitVec 32 := Scf.iv c0_i32_356 c1_i32_358 k0_t12
  let c4_i32_381 : BitVec 32 := 4#32
  let v617 : BitVec 32 := Scalar.muli arg23 c4_i32_381
  let v868 : BitVec 32 := Scalar.addi v617 c0_i32_443
  let v869 : Index := Scalar.indexCast v868
  let c400 : Index := 400#32
  let c0_444 : Index := 0#32
  ![v869.toNat, 400, 0]
def k0_off297 (i : grid0.Coords) (k0_t12 : Fin (k0_t12_loop i).trips) (c0_i32_445 : BitVec 32) : Fin 3 → Nat :=
  let c0_i32_356 : BitVec 32 := 0#32
  let c1_i32_358 : BitVec 32 := 1#32
  let arg23 : BitVec 32 := Scf.iv c0_i32_356 c1_i32_358 k0_t12
  let c4_i32_381 : BitVec 32 := 4#32
  let v617 : BitVec 32 := Scalar.muli arg23 c4_i32_381
  let v878 : BitVec 32 := Scalar.addi v617 c0_i32_445
  let v879 : Index := Scalar.indexCast v878
  let c416 : Index := 416#32
  let c0_446 : Index := 0#32
  ![v879.toNat, 416, 0]
def k0_off298 (i : grid0.Coords) (k0_t12 : Fin (k0_t12_loop i).trips) (c0_i32_447 : BitVec 32) : Fin 3 → Nat :=
  let c0_i32_356 : BitVec 32 := 0#32
  let c1_i32_358 : BitVec 32 := 1#32
  let arg23 : BitVec 32 := Scf.iv c0_i32_356 c1_i32_358 k0_t12
  let c4_i32_381 : BitVec 32 := 4#32
  let v617 : BitVec 32 := Scalar.muli arg23 c4_i32_381
  let v888 : BitVec 32 := Scalar.addi v617 c0_i32_447
  let v889 : Index := Scalar.indexCast v888
  let c432 : Index := 432#32
  let c0_448 : Index := 0#32
  ![v889.toNat, 432, 0]
def k0_off299 (i : grid0.Coords) (k0_t12 : Fin (k0_t12_loop i).trips) (c0_i32_449 : BitVec 32) : Fin 3 → Nat :=
  let c0_i32_356 : BitVec 32 := 0#32
  let c1_i32_358 : BitVec 32 := 1#32
  let arg23 : BitVec 32 := Scf.iv c0_i32_356 c1_i32_358 k0_t12
  let c4_i32_381 : BitVec 32 := 4#32
  let v617 : BitVec 32 := Scalar.muli arg23 c4_i32_381
  let v898 : BitVec 32 := Scalar.addi v617 c0_i32_449
  let v899 : Index := Scalar.indexCast v898
  let c448_450 : Index := 448#32
  let c0_451 : Index := 0#32
  ![v899.toNat, 448, 0]
def k0_off300 (i : grid0.Coords) (k0_t12 : Fin (k0_t12_loop i).trips) (c0_i32_452 : BitVec 32) : Fin 3 → Nat :=
  let c0_i32_356 : BitVec 32 := 0#32
  let c1_i32_358 : BitVec 32 := 1#32
  let arg23 : BitVec 32 := Scf.iv c0_i32_356 c1_i32_358 k0_t12
  let c4_i32_381 : BitVec 32 := 4#32
  let v617 : BitVec 32 := Scalar.muli arg23 c4_i32_381
  let v908 : BitVec 32 := Scalar.addi v617 c0_i32_452
  let v909 : Index := Scalar.indexCast v908
  let c464 : Index := 464#32
  let c0_453 : Index := 0#32
  ![v909.toNat, 464, 0]
def k0_off301 (i : grid0.Coords) (k0_t12 : Fin (k0_t12_loop i).trips) (c0_i32_454 : BitVec 32) : Fin 3 → Nat :=
  let c0_i32_356 : BitVec 32 := 0#32
  let c1_i32_358 : BitVec 32 := 1#32
  let arg23 : BitVec 32 := Scf.iv c0_i32_356 c1_i32_358 k0_t12
  let c4_i32_381 : BitVec 32 := 4#32
  let v617 : BitVec 32 := Scalar.muli arg23 c4_i32_381
  let v918 : BitVec 32 := Scalar.addi v617 c0_i32_454
  let v919 : Index := Scalar.indexCast v918
  let c480 : Index := 480#32
  let c0_455 : Index := 0#32
  ![v919.toNat, 480, 0]
def k0_off302 (i : grid0.Coords) (k0_t12 : Fin (k0_t12_loop i).trips) (c0_i32_456 : BitVec 32) : Fin 3 → Nat :=
  let c0_i32_356 : BitVec 32 := 0#32
  let c1_i32_358 : BitVec 32 := 1#32
  let arg23 : BitVec 32 := Scf.iv c0_i32_356 c1_i32_358 k0_t12
  let c4_i32_381 : BitVec 32 := 4#32
  let v617 : BitVec 32 := Scalar.muli arg23 c4_i32_381
  let v928 : BitVec 32 := Scalar.addi v617 c0_i32_456
  let v929 : Index := Scalar.indexCast v928
  let c496 : Index := 496#32
  let c0_457 : Index := 0#32
  ![v929.toNat, 496, 0]
@[reducible] def k0_t13_loop (i : grid0.Coords) : Scf.Loop 32 :=
  let c0_i32_356 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_348 : BitVec 32 := 0#32
  let v549 : BitVec 1 := Scalar.cmpi .sgt v20 c0_i32_348
  let v550 : BitVec 32 := Scalar.extui v549
  let c0_i32_349 : BitVec 32 := 0#32
  let v551 : BitVec 1 := Scalar.cmpi .slt v20 c0_i32_349
  let v552 : BitVec 32 := Scalar.extui v551
  let v553 : BitVec 32 := Scalar.subi v550 v552
  let c4_i32_347 : BitVec 32 := 4#32
  let c0_i32_350 : BitVec 32 := 0#32
  let v554 : BitVec 1 := Scalar.cmpi .sgt c4_i32_347 c0_i32_350
  let v555 : BitVec 32 := Scalar.extui v554
  let c0_i32_351 : BitVec 32 := 0#32
  let v556 : BitVec 1 := Scalar.cmpi .slt c4_i32_347 c0_i32_351
  let v557 : BitVec 32 := Scalar.extui v556
  let v558 : BitVec 32 := Scalar.subi v555 v557
  let v559 : BitVec 1 := Scalar.cmpi .ne v553 v558
  let v560 : BitVec 32 := Scalar.remsi v20 c4_i32_347
  let c0_i32_352 : BitVec 32 := 0#32
  let v561 : BitVec 1 := Scalar.cmpi .ne v560 c0_i32_352
  let v562 : BitVec 1 := Scalar.andi v559 v561
  let v548 : BitVec 32 := Scalar.divsi v20 c4_i32_347
  let c1_i32_353 : BitVec 32 := 1#32
  let v563 : BitVec 32 := Scalar.subi v548 c1_i32_353
  let v564 : BitVec 32 := Scalar.select v562 v563 v548
  let v565 : BitVec 32 := Scalar.subi v564 c0_i32_356
  let c1_i32_357 : BitVec 32 := 1#32
  let v567 : BitVec 32 := Scalar.divsi v565 c1_i32_357
  let v568 : BitVec 32 := Scalar.muli v567 c1_i32_357
  let v569 : BitVec 32 := Scalar.addi c0_i32_356 v568
  let v566 : BitVec 32 := Scalar.addi c0_i32_356 v565
  let c1_i32_359 : BitVec 32 := 1#32
  ⟨v569, v566, c1_i32_359⟩
def k0_off303 (i : grid0.Coords) (k0_t13 : Fin (k0_t13_loop i).trips) (c0_i32_382 : BitVec 32) : Fin 3 → Nat :=
  let c0_i32_356 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_348 : BitVec 32 := 0#32
  let v549 : BitVec 1 := Scalar.cmpi .sgt v20 c0_i32_348
  let v550 : BitVec 32 := Scalar.extui v549
  let c0_i32_349 : BitVec 32 := 0#32
  let v551 : BitVec 1 := Scalar.cmpi .slt v20 c0_i32_349
  let v552 : BitVec 32 := Scalar.extui v551
  let v553 : BitVec 32 := Scalar.subi v550 v552
  let c4_i32_347 : BitVec 32 := 4#32
  let c0_i32_350 : BitVec 32 := 0#32
  let v554 : BitVec 1 := Scalar.cmpi .sgt c4_i32_347 c0_i32_350
  let v555 : BitVec 32 := Scalar.extui v554
  let c0_i32_351 : BitVec 32 := 0#32
  let v556 : BitVec 1 := Scalar.cmpi .slt c4_i32_347 c0_i32_351
  let v557 : BitVec 32 := Scalar.extui v556
  let v558 : BitVec 32 := Scalar.subi v555 v557
  let v559 : BitVec 1 := Scalar.cmpi .ne v553 v558
  let v560 : BitVec 32 := Scalar.remsi v20 c4_i32_347
  let c0_i32_352 : BitVec 32 := 0#32
  let v561 : BitVec 1 := Scalar.cmpi .ne v560 c0_i32_352
  let v562 : BitVec 1 := Scalar.andi v559 v561
  let v548 : BitVec 32 := Scalar.divsi v20 c4_i32_347
  let c1_i32_353 : BitVec 32 := 1#32
  let v563 : BitVec 32 := Scalar.subi v548 c1_i32_353
  let v564 : BitVec 32 := Scalar.select v562 v563 v548
  let v565 : BitVec 32 := Scalar.subi v564 c0_i32_356
  let c1_i32_357 : BitVec 32 := 1#32
  let v567 : BitVec 32 := Scalar.divsi v565 c1_i32_357
  let v568 : BitVec 32 := Scalar.muli v567 c1_i32_357
  let v569 : BitVec 32 := Scalar.addi c0_i32_356 v568
  let c1_i32_359 : BitVec 32 := 1#32
  let arg23 : BitVec 32 := Scf.iv v569 c1_i32_359 k0_t13
  let c4_i32_381 : BitVec 32 := 4#32
  let v617 : BitVec 32 := Scalar.muli arg23 c4_i32_381
  let v618 : BitVec 32 := Scalar.addi v617 c0_i32_382
  let v619 : Index := Scalar.indexCast v618
  let c0_383 : Index := 0#32
  let c0_384 : Index := 0#32
  ![v619.toNat, 0, 0]
def k0_off304 (i : grid0.Coords) (k0_t13 : Fin (k0_t13_loop i).trips) (c0_i32_385 : BitVec 32) : Fin 3 → Nat :=
  let c0_i32_356 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_348 : BitVec 32 := 0#32
  let v549 : BitVec 1 := Scalar.cmpi .sgt v20 c0_i32_348
  let v550 : BitVec 32 := Scalar.extui v549
  let c0_i32_349 : BitVec 32 := 0#32
  let v551 : BitVec 1 := Scalar.cmpi .slt v20 c0_i32_349
  let v552 : BitVec 32 := Scalar.extui v551
  let v553 : BitVec 32 := Scalar.subi v550 v552
  let c4_i32_347 : BitVec 32 := 4#32
  let c0_i32_350 : BitVec 32 := 0#32
  let v554 : BitVec 1 := Scalar.cmpi .sgt c4_i32_347 c0_i32_350
  let v555 : BitVec 32 := Scalar.extui v554
  let c0_i32_351 : BitVec 32 := 0#32
  let v556 : BitVec 1 := Scalar.cmpi .slt c4_i32_347 c0_i32_351
  let v557 : BitVec 32 := Scalar.extui v556
  let v558 : BitVec 32 := Scalar.subi v555 v557
  let v559 : BitVec 1 := Scalar.cmpi .ne v553 v558
  let v560 : BitVec 32 := Scalar.remsi v20 c4_i32_347
  let c0_i32_352 : BitVec 32 := 0#32
  let v561 : BitVec 1 := Scalar.cmpi .ne v560 c0_i32_352
  let v562 : BitVec 1 := Scalar.andi v559 v561
  let v548 : BitVec 32 := Scalar.divsi v20 c4_i32_347
  let c1_i32_353 : BitVec 32 := 1#32
  let v563 : BitVec 32 := Scalar.subi v548 c1_i32_353
  let v564 : BitVec 32 := Scalar.select v562 v563 v548
  let v565 : BitVec 32 := Scalar.subi v564 c0_i32_356
  let c1_i32_357 : BitVec 32 := 1#32
  let v567 : BitVec 32 := Scalar.divsi v565 c1_i32_357
  let v568 : BitVec 32 := Scalar.muli v567 c1_i32_357
  let v569 : BitVec 32 := Scalar.addi c0_i32_356 v568
  let c1_i32_359 : BitVec 32 := 1#32
  let arg23 : BitVec 32 := Scf.iv v569 c1_i32_359 k0_t13
  let c4_i32_381 : BitVec 32 := 4#32
  let v617 : BitVec 32 := Scalar.muli arg23 c4_i32_381
  let v628 : BitVec 32 := Scalar.addi v617 c0_i32_385
  let v629 : Index := Scalar.indexCast v628
  let c16 : Index := 16#32
  let c0_386 : Index := 0#32
  ![v629.toNat, 16, 0]
def k0_off305 (i : grid0.Coords) (k0_t13 : Fin (k0_t13_loop i).trips) (c0_i32_387 : BitVec 32) : Fin 3 → Nat :=
  let c0_i32_356 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_348 : BitVec 32 := 0#32
  let v549 : BitVec 1 := Scalar.cmpi .sgt v20 c0_i32_348
  let v550 : BitVec 32 := Scalar.extui v549
  let c0_i32_349 : BitVec 32 := 0#32
  let v551 : BitVec 1 := Scalar.cmpi .slt v20 c0_i32_349
  let v552 : BitVec 32 := Scalar.extui v551
  let v553 : BitVec 32 := Scalar.subi v550 v552
  let c4_i32_347 : BitVec 32 := 4#32
  let c0_i32_350 : BitVec 32 := 0#32
  let v554 : BitVec 1 := Scalar.cmpi .sgt c4_i32_347 c0_i32_350
  let v555 : BitVec 32 := Scalar.extui v554
  let c0_i32_351 : BitVec 32 := 0#32
  let v556 : BitVec 1 := Scalar.cmpi .slt c4_i32_347 c0_i32_351
  let v557 : BitVec 32 := Scalar.extui v556
  let v558 : BitVec 32 := Scalar.subi v555 v557
  let v559 : BitVec 1 := Scalar.cmpi .ne v553 v558
  let v560 : BitVec 32 := Scalar.remsi v20 c4_i32_347
  let c0_i32_352 : BitVec 32 := 0#32
  let v561 : BitVec 1 := Scalar.cmpi .ne v560 c0_i32_352
  let v562 : BitVec 1 := Scalar.andi v559 v561
  let v548 : BitVec 32 := Scalar.divsi v20 c4_i32_347
  let c1_i32_353 : BitVec 32 := 1#32
  let v563 : BitVec 32 := Scalar.subi v548 c1_i32_353
  let v564 : BitVec 32 := Scalar.select v562 v563 v548
  let v565 : BitVec 32 := Scalar.subi v564 c0_i32_356
  let c1_i32_357 : BitVec 32 := 1#32
  let v567 : BitVec 32 := Scalar.divsi v565 c1_i32_357
  let v568 : BitVec 32 := Scalar.muli v567 c1_i32_357
  let v569 : BitVec 32 := Scalar.addi c0_i32_356 v568
  let c1_i32_359 : BitVec 32 := 1#32
  let arg23 : BitVec 32 := Scf.iv v569 c1_i32_359 k0_t13
  let c4_i32_381 : BitVec 32 := 4#32
  let v617 : BitVec 32 := Scalar.muli arg23 c4_i32_381
  let v638 : BitVec 32 := Scalar.addi v617 c0_i32_387
  let v639 : Index := Scalar.indexCast v638
  let c32_388 : Index := 32#32
  let c0_389 : Index := 0#32
  ![v639.toNat, 32, 0]
def k0_off306 (i : grid0.Coords) (k0_t13 : Fin (k0_t13_loop i).trips) (c0_i32_390 : BitVec 32) : Fin 3 → Nat :=
  let c0_i32_356 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_348 : BitVec 32 := 0#32
  let v549 : BitVec 1 := Scalar.cmpi .sgt v20 c0_i32_348
  let v550 : BitVec 32 := Scalar.extui v549
  let c0_i32_349 : BitVec 32 := 0#32
  let v551 : BitVec 1 := Scalar.cmpi .slt v20 c0_i32_349
  let v552 : BitVec 32 := Scalar.extui v551
  let v553 : BitVec 32 := Scalar.subi v550 v552
  let c4_i32_347 : BitVec 32 := 4#32
  let c0_i32_350 : BitVec 32 := 0#32
  let v554 : BitVec 1 := Scalar.cmpi .sgt c4_i32_347 c0_i32_350
  let v555 : BitVec 32 := Scalar.extui v554
  let c0_i32_351 : BitVec 32 := 0#32
  let v556 : BitVec 1 := Scalar.cmpi .slt c4_i32_347 c0_i32_351
  let v557 : BitVec 32 := Scalar.extui v556
  let v558 : BitVec 32 := Scalar.subi v555 v557
  let v559 : BitVec 1 := Scalar.cmpi .ne v553 v558
  let v560 : BitVec 32 := Scalar.remsi v20 c4_i32_347
  let c0_i32_352 : BitVec 32 := 0#32
  let v561 : BitVec 1 := Scalar.cmpi .ne v560 c0_i32_352
  let v562 : BitVec 1 := Scalar.andi v559 v561
  let v548 : BitVec 32 := Scalar.divsi v20 c4_i32_347
  let c1_i32_353 : BitVec 32 := 1#32
  let v563 : BitVec 32 := Scalar.subi v548 c1_i32_353
  let v564 : BitVec 32 := Scalar.select v562 v563 v548
  let v565 : BitVec 32 := Scalar.subi v564 c0_i32_356
  let c1_i32_357 : BitVec 32 := 1#32
  let v567 : BitVec 32 := Scalar.divsi v565 c1_i32_357
  let v568 : BitVec 32 := Scalar.muli v567 c1_i32_357
  let v569 : BitVec 32 := Scalar.addi c0_i32_356 v568
  let c1_i32_359 : BitVec 32 := 1#32
  let arg23 : BitVec 32 := Scf.iv v569 c1_i32_359 k0_t13
  let c4_i32_381 : BitVec 32 := 4#32
  let v617 : BitVec 32 := Scalar.muli arg23 c4_i32_381
  let v648 : BitVec 32 := Scalar.addi v617 c0_i32_390
  let v649 : Index := Scalar.indexCast v648
  let c48 : Index := 48#32
  let c0_391 : Index := 0#32
  ![v649.toNat, 48, 0]
def k0_off307 (i : grid0.Coords) (k0_t13 : Fin (k0_t13_loop i).trips) (c0_i32_392 : BitVec 32) : Fin 3 → Nat :=
  let c0_i32_356 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_348 : BitVec 32 := 0#32
  let v549 : BitVec 1 := Scalar.cmpi .sgt v20 c0_i32_348
  let v550 : BitVec 32 := Scalar.extui v549
  let c0_i32_349 : BitVec 32 := 0#32
  let v551 : BitVec 1 := Scalar.cmpi .slt v20 c0_i32_349
  let v552 : BitVec 32 := Scalar.extui v551
  let v553 : BitVec 32 := Scalar.subi v550 v552
  let c4_i32_347 : BitVec 32 := 4#32
  let c0_i32_350 : BitVec 32 := 0#32
  let v554 : BitVec 1 := Scalar.cmpi .sgt c4_i32_347 c0_i32_350
  let v555 : BitVec 32 := Scalar.extui v554
  let c0_i32_351 : BitVec 32 := 0#32
  let v556 : BitVec 1 := Scalar.cmpi .slt c4_i32_347 c0_i32_351
  let v557 : BitVec 32 := Scalar.extui v556
  let v558 : BitVec 32 := Scalar.subi v555 v557
  let v559 : BitVec 1 := Scalar.cmpi .ne v553 v558
  let v560 : BitVec 32 := Scalar.remsi v20 c4_i32_347
  let c0_i32_352 : BitVec 32 := 0#32
  let v561 : BitVec 1 := Scalar.cmpi .ne v560 c0_i32_352
  let v562 : BitVec 1 := Scalar.andi v559 v561
  let v548 : BitVec 32 := Scalar.divsi v20 c4_i32_347
  let c1_i32_353 : BitVec 32 := 1#32
  let v563 : BitVec 32 := Scalar.subi v548 c1_i32_353
  let v564 : BitVec 32 := Scalar.select v562 v563 v548
  let v565 : BitVec 32 := Scalar.subi v564 c0_i32_356
  let c1_i32_357 : BitVec 32 := 1#32
  let v567 : BitVec 32 := Scalar.divsi v565 c1_i32_357
  let v568 : BitVec 32 := Scalar.muli v567 c1_i32_357
  let v569 : BitVec 32 := Scalar.addi c0_i32_356 v568
  let c1_i32_359 : BitVec 32 := 1#32
  let arg23 : BitVec 32 := Scf.iv v569 c1_i32_359 k0_t13
  let c4_i32_381 : BitVec 32 := 4#32
  let v617 : BitVec 32 := Scalar.muli arg23 c4_i32_381
  let v658 : BitVec 32 := Scalar.addi v617 c0_i32_392
  let v659 : Index := Scalar.indexCast v658
  let c64_393 : Index := 64#32
  let c0_394 : Index := 0#32
  ![v659.toNat, 64, 0]
def k0_off308 (i : grid0.Coords) (k0_t13 : Fin (k0_t13_loop i).trips) (c0_i32_395 : BitVec 32) : Fin 3 → Nat :=
  let c0_i32_356 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_348 : BitVec 32 := 0#32
  let v549 : BitVec 1 := Scalar.cmpi .sgt v20 c0_i32_348
  let v550 : BitVec 32 := Scalar.extui v549
  let c0_i32_349 : BitVec 32 := 0#32
  let v551 : BitVec 1 := Scalar.cmpi .slt v20 c0_i32_349
  let v552 : BitVec 32 := Scalar.extui v551
  let v553 : BitVec 32 := Scalar.subi v550 v552
  let c4_i32_347 : BitVec 32 := 4#32
  let c0_i32_350 : BitVec 32 := 0#32
  let v554 : BitVec 1 := Scalar.cmpi .sgt c4_i32_347 c0_i32_350
  let v555 : BitVec 32 := Scalar.extui v554
  let c0_i32_351 : BitVec 32 := 0#32
  let v556 : BitVec 1 := Scalar.cmpi .slt c4_i32_347 c0_i32_351
  let v557 : BitVec 32 := Scalar.extui v556
  let v558 : BitVec 32 := Scalar.subi v555 v557
  let v559 : BitVec 1 := Scalar.cmpi .ne v553 v558
  let v560 : BitVec 32 := Scalar.remsi v20 c4_i32_347
  let c0_i32_352 : BitVec 32 := 0#32
  let v561 : BitVec 1 := Scalar.cmpi .ne v560 c0_i32_352
  let v562 : BitVec 1 := Scalar.andi v559 v561
  let v548 : BitVec 32 := Scalar.divsi v20 c4_i32_347
  let c1_i32_353 : BitVec 32 := 1#32
  let v563 : BitVec 32 := Scalar.subi v548 c1_i32_353
  let v564 : BitVec 32 := Scalar.select v562 v563 v548
  let v565 : BitVec 32 := Scalar.subi v564 c0_i32_356
  let c1_i32_357 : BitVec 32 := 1#32
  let v567 : BitVec 32 := Scalar.divsi v565 c1_i32_357
  let v568 : BitVec 32 := Scalar.muli v567 c1_i32_357
  let v569 : BitVec 32 := Scalar.addi c0_i32_356 v568
  let c1_i32_359 : BitVec 32 := 1#32
  let arg23 : BitVec 32 := Scf.iv v569 c1_i32_359 k0_t13
  let c4_i32_381 : BitVec 32 := 4#32
  let v617 : BitVec 32 := Scalar.muli arg23 c4_i32_381
  let v668 : BitVec 32 := Scalar.addi v617 c0_i32_395
  let v669 : Index := Scalar.indexCast v668
  let c80 : Index := 80#32
  let c0_396 : Index := 0#32
  ![v669.toNat, 80, 0]
def k0_off309 (i : grid0.Coords) (k0_t13 : Fin (k0_t13_loop i).trips) (c0_i32_397 : BitVec 32) : Fin 3 → Nat :=
  let c0_i32_356 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_348 : BitVec 32 := 0#32
  let v549 : BitVec 1 := Scalar.cmpi .sgt v20 c0_i32_348
  let v550 : BitVec 32 := Scalar.extui v549
  let c0_i32_349 : BitVec 32 := 0#32
  let v551 : BitVec 1 := Scalar.cmpi .slt v20 c0_i32_349
  let v552 : BitVec 32 := Scalar.extui v551
  let v553 : BitVec 32 := Scalar.subi v550 v552
  let c4_i32_347 : BitVec 32 := 4#32
  let c0_i32_350 : BitVec 32 := 0#32
  let v554 : BitVec 1 := Scalar.cmpi .sgt c4_i32_347 c0_i32_350
  let v555 : BitVec 32 := Scalar.extui v554
  let c0_i32_351 : BitVec 32 := 0#32
  let v556 : BitVec 1 := Scalar.cmpi .slt c4_i32_347 c0_i32_351
  let v557 : BitVec 32 := Scalar.extui v556
  let v558 : BitVec 32 := Scalar.subi v555 v557
  let v559 : BitVec 1 := Scalar.cmpi .ne v553 v558
  let v560 : BitVec 32 := Scalar.remsi v20 c4_i32_347
  let c0_i32_352 : BitVec 32 := 0#32
  let v561 : BitVec 1 := Scalar.cmpi .ne v560 c0_i32_352
  let v562 : BitVec 1 := Scalar.andi v559 v561
  let v548 : BitVec 32 := Scalar.divsi v20 c4_i32_347
  let c1_i32_353 : BitVec 32 := 1#32
  let v563 : BitVec 32 := Scalar.subi v548 c1_i32_353
  let v564 : BitVec 32 := Scalar.select v562 v563 v548
  let v565 : BitVec 32 := Scalar.subi v564 c0_i32_356
  let c1_i32_357 : BitVec 32 := 1#32
  let v567 : BitVec 32 := Scalar.divsi v565 c1_i32_357
  let v568 : BitVec 32 := Scalar.muli v567 c1_i32_357
  let v569 : BitVec 32 := Scalar.addi c0_i32_356 v568
  let c1_i32_359 : BitVec 32 := 1#32
  let arg23 : BitVec 32 := Scf.iv v569 c1_i32_359 k0_t13
  let c4_i32_381 : BitVec 32 := 4#32
  let v617 : BitVec 32 := Scalar.muli arg23 c4_i32_381
  let v678 : BitVec 32 := Scalar.addi v617 c0_i32_397
  let v679 : Index := Scalar.indexCast v678
  let c96_398 : Index := 96#32
  let c0_399 : Index := 0#32
  ![v679.toNat, 96, 0]
def k0_off310 (i : grid0.Coords) (k0_t13 : Fin (k0_t13_loop i).trips) (c0_i32_400 : BitVec 32) : Fin 3 → Nat :=
  let c0_i32_356 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_348 : BitVec 32 := 0#32
  let v549 : BitVec 1 := Scalar.cmpi .sgt v20 c0_i32_348
  let v550 : BitVec 32 := Scalar.extui v549
  let c0_i32_349 : BitVec 32 := 0#32
  let v551 : BitVec 1 := Scalar.cmpi .slt v20 c0_i32_349
  let v552 : BitVec 32 := Scalar.extui v551
  let v553 : BitVec 32 := Scalar.subi v550 v552
  let c4_i32_347 : BitVec 32 := 4#32
  let c0_i32_350 : BitVec 32 := 0#32
  let v554 : BitVec 1 := Scalar.cmpi .sgt c4_i32_347 c0_i32_350
  let v555 : BitVec 32 := Scalar.extui v554
  let c0_i32_351 : BitVec 32 := 0#32
  let v556 : BitVec 1 := Scalar.cmpi .slt c4_i32_347 c0_i32_351
  let v557 : BitVec 32 := Scalar.extui v556
  let v558 : BitVec 32 := Scalar.subi v555 v557
  let v559 : BitVec 1 := Scalar.cmpi .ne v553 v558
  let v560 : BitVec 32 := Scalar.remsi v20 c4_i32_347
  let c0_i32_352 : BitVec 32 := 0#32
  let v561 : BitVec 1 := Scalar.cmpi .ne v560 c0_i32_352
  let v562 : BitVec 1 := Scalar.andi v559 v561
  let v548 : BitVec 32 := Scalar.divsi v20 c4_i32_347
  let c1_i32_353 : BitVec 32 := 1#32
  let v563 : BitVec 32 := Scalar.subi v548 c1_i32_353
  let v564 : BitVec 32 := Scalar.select v562 v563 v548
  let v565 : BitVec 32 := Scalar.subi v564 c0_i32_356
  let c1_i32_357 : BitVec 32 := 1#32
  let v567 : BitVec 32 := Scalar.divsi v565 c1_i32_357
  let v568 : BitVec 32 := Scalar.muli v567 c1_i32_357
  let v569 : BitVec 32 := Scalar.addi c0_i32_356 v568
  let c1_i32_359 : BitVec 32 := 1#32
  let arg23 : BitVec 32 := Scf.iv v569 c1_i32_359 k0_t13
  let c4_i32_381 : BitVec 32 := 4#32
  let v617 : BitVec 32 := Scalar.muli arg23 c4_i32_381
  let v688 : BitVec 32 := Scalar.addi v617 c0_i32_400
  let v689 : Index := Scalar.indexCast v688
  let c112 : Index := 112#32
  let c0_401 : Index := 0#32
  ![v689.toNat, 112, 0]
def k0_off311 (i : grid0.Coords) (k0_t13 : Fin (k0_t13_loop i).trips) (c0_i32_402 : BitVec 32) : Fin 3 → Nat :=
  let c0_i32_356 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_348 : BitVec 32 := 0#32
  let v549 : BitVec 1 := Scalar.cmpi .sgt v20 c0_i32_348
  let v550 : BitVec 32 := Scalar.extui v549
  let c0_i32_349 : BitVec 32 := 0#32
  let v551 : BitVec 1 := Scalar.cmpi .slt v20 c0_i32_349
  let v552 : BitVec 32 := Scalar.extui v551
  let v553 : BitVec 32 := Scalar.subi v550 v552
  let c4_i32_347 : BitVec 32 := 4#32
  let c0_i32_350 : BitVec 32 := 0#32
  let v554 : BitVec 1 := Scalar.cmpi .sgt c4_i32_347 c0_i32_350
  let v555 : BitVec 32 := Scalar.extui v554
  let c0_i32_351 : BitVec 32 := 0#32
  let v556 : BitVec 1 := Scalar.cmpi .slt c4_i32_347 c0_i32_351
  let v557 : BitVec 32 := Scalar.extui v556
  let v558 : BitVec 32 := Scalar.subi v555 v557
  let v559 : BitVec 1 := Scalar.cmpi .ne v553 v558
  let v560 : BitVec 32 := Scalar.remsi v20 c4_i32_347
  let c0_i32_352 : BitVec 32 := 0#32
  let v561 : BitVec 1 := Scalar.cmpi .ne v560 c0_i32_352
  let v562 : BitVec 1 := Scalar.andi v559 v561
  let v548 : BitVec 32 := Scalar.divsi v20 c4_i32_347
  let c1_i32_353 : BitVec 32 := 1#32
  let v563 : BitVec 32 := Scalar.subi v548 c1_i32_353
  let v564 : BitVec 32 := Scalar.select v562 v563 v548
  let v565 : BitVec 32 := Scalar.subi v564 c0_i32_356
  let c1_i32_357 : BitVec 32 := 1#32
  let v567 : BitVec 32 := Scalar.divsi v565 c1_i32_357
  let v568 : BitVec 32 := Scalar.muli v567 c1_i32_357
  let v569 : BitVec 32 := Scalar.addi c0_i32_356 v568
  let c1_i32_359 : BitVec 32 := 1#32
  let arg23 : BitVec 32 := Scf.iv v569 c1_i32_359 k0_t13
  let c4_i32_381 : BitVec 32 := 4#32
  let v617 : BitVec 32 := Scalar.muli arg23 c4_i32_381
  let v698 : BitVec 32 := Scalar.addi v617 c0_i32_402
  let v699 : Index := Scalar.indexCast v698
  let c128_403 : Index := 128#32
  let c0_404 : Index := 0#32
  ![v699.toNat, 128, 0]
def k0_off312 (i : grid0.Coords) (k0_t13 : Fin (k0_t13_loop i).trips) (c0_i32_405 : BitVec 32) : Fin 3 → Nat :=
  let c0_i32_356 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_348 : BitVec 32 := 0#32
  let v549 : BitVec 1 := Scalar.cmpi .sgt v20 c0_i32_348
  let v550 : BitVec 32 := Scalar.extui v549
  let c0_i32_349 : BitVec 32 := 0#32
  let v551 : BitVec 1 := Scalar.cmpi .slt v20 c0_i32_349
  let v552 : BitVec 32 := Scalar.extui v551
  let v553 : BitVec 32 := Scalar.subi v550 v552
  let c4_i32_347 : BitVec 32 := 4#32
  let c0_i32_350 : BitVec 32 := 0#32
  let v554 : BitVec 1 := Scalar.cmpi .sgt c4_i32_347 c0_i32_350
  let v555 : BitVec 32 := Scalar.extui v554
  let c0_i32_351 : BitVec 32 := 0#32
  let v556 : BitVec 1 := Scalar.cmpi .slt c4_i32_347 c0_i32_351
  let v557 : BitVec 32 := Scalar.extui v556
  let v558 : BitVec 32 := Scalar.subi v555 v557
  let v559 : BitVec 1 := Scalar.cmpi .ne v553 v558
  let v560 : BitVec 32 := Scalar.remsi v20 c4_i32_347
  let c0_i32_352 : BitVec 32 := 0#32
  let v561 : BitVec 1 := Scalar.cmpi .ne v560 c0_i32_352
  let v562 : BitVec 1 := Scalar.andi v559 v561
  let v548 : BitVec 32 := Scalar.divsi v20 c4_i32_347
  let c1_i32_353 : BitVec 32 := 1#32
  let v563 : BitVec 32 := Scalar.subi v548 c1_i32_353
  let v564 : BitVec 32 := Scalar.select v562 v563 v548
  let v565 : BitVec 32 := Scalar.subi v564 c0_i32_356
  let c1_i32_357 : BitVec 32 := 1#32
  let v567 : BitVec 32 := Scalar.divsi v565 c1_i32_357
  let v568 : BitVec 32 := Scalar.muli v567 c1_i32_357
  let v569 : BitVec 32 := Scalar.addi c0_i32_356 v568
  let c1_i32_359 : BitVec 32 := 1#32
  let arg23 : BitVec 32 := Scf.iv v569 c1_i32_359 k0_t13
  let c4_i32_381 : BitVec 32 := 4#32
  let v617 : BitVec 32 := Scalar.muli arg23 c4_i32_381
  let v708 : BitVec 32 := Scalar.addi v617 c0_i32_405
  let v709 : Index := Scalar.indexCast v708
  let c144 : Index := 144#32
  let c0_406 : Index := 0#32
  ![v709.toNat, 144, 0]
def k0_off313 (i : grid0.Coords) (k0_t13 : Fin (k0_t13_loop i).trips) (c0_i32_407 : BitVec 32) : Fin 3 → Nat :=
  let c0_i32_356 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_348 : BitVec 32 := 0#32
  let v549 : BitVec 1 := Scalar.cmpi .sgt v20 c0_i32_348
  let v550 : BitVec 32 := Scalar.extui v549
  let c0_i32_349 : BitVec 32 := 0#32
  let v551 : BitVec 1 := Scalar.cmpi .slt v20 c0_i32_349
  let v552 : BitVec 32 := Scalar.extui v551
  let v553 : BitVec 32 := Scalar.subi v550 v552
  let c4_i32_347 : BitVec 32 := 4#32
  let c0_i32_350 : BitVec 32 := 0#32
  let v554 : BitVec 1 := Scalar.cmpi .sgt c4_i32_347 c0_i32_350
  let v555 : BitVec 32 := Scalar.extui v554
  let c0_i32_351 : BitVec 32 := 0#32
  let v556 : BitVec 1 := Scalar.cmpi .slt c4_i32_347 c0_i32_351
  let v557 : BitVec 32 := Scalar.extui v556
  let v558 : BitVec 32 := Scalar.subi v555 v557
  let v559 : BitVec 1 := Scalar.cmpi .ne v553 v558
  let v560 : BitVec 32 := Scalar.remsi v20 c4_i32_347
  let c0_i32_352 : BitVec 32 := 0#32
  let v561 : BitVec 1 := Scalar.cmpi .ne v560 c0_i32_352
  let v562 : BitVec 1 := Scalar.andi v559 v561
  let v548 : BitVec 32 := Scalar.divsi v20 c4_i32_347
  let c1_i32_353 : BitVec 32 := 1#32
  let v563 : BitVec 32 := Scalar.subi v548 c1_i32_353
  let v564 : BitVec 32 := Scalar.select v562 v563 v548
  let v565 : BitVec 32 := Scalar.subi v564 c0_i32_356
  let c1_i32_357 : BitVec 32 := 1#32
  let v567 : BitVec 32 := Scalar.divsi v565 c1_i32_357
  let v568 : BitVec 32 := Scalar.muli v567 c1_i32_357
  let v569 : BitVec 32 := Scalar.addi c0_i32_356 v568
  let c1_i32_359 : BitVec 32 := 1#32
  let arg23 : BitVec 32 := Scf.iv v569 c1_i32_359 k0_t13
  let c4_i32_381 : BitVec 32 := 4#32
  let v617 : BitVec 32 := Scalar.muli arg23 c4_i32_381
  let v718 : BitVec 32 := Scalar.addi v617 c0_i32_407
  let v719 : Index := Scalar.indexCast v718
  let c160_408 : Index := 160#32
  let c0_409 : Index := 0#32
  ![v719.toNat, 160, 0]
def k0_off314 (i : grid0.Coords) (k0_t13 : Fin (k0_t13_loop i).trips) (c0_i32_410 : BitVec 32) : Fin 3 → Nat :=
  let c0_i32_356 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_348 : BitVec 32 := 0#32
  let v549 : BitVec 1 := Scalar.cmpi .sgt v20 c0_i32_348
  let v550 : BitVec 32 := Scalar.extui v549
  let c0_i32_349 : BitVec 32 := 0#32
  let v551 : BitVec 1 := Scalar.cmpi .slt v20 c0_i32_349
  let v552 : BitVec 32 := Scalar.extui v551
  let v553 : BitVec 32 := Scalar.subi v550 v552
  let c4_i32_347 : BitVec 32 := 4#32
  let c0_i32_350 : BitVec 32 := 0#32
  let v554 : BitVec 1 := Scalar.cmpi .sgt c4_i32_347 c0_i32_350
  let v555 : BitVec 32 := Scalar.extui v554
  let c0_i32_351 : BitVec 32 := 0#32
  let v556 : BitVec 1 := Scalar.cmpi .slt c4_i32_347 c0_i32_351
  let v557 : BitVec 32 := Scalar.extui v556
  let v558 : BitVec 32 := Scalar.subi v555 v557
  let v559 : BitVec 1 := Scalar.cmpi .ne v553 v558
  let v560 : BitVec 32 := Scalar.remsi v20 c4_i32_347
  let c0_i32_352 : BitVec 32 := 0#32
  let v561 : BitVec 1 := Scalar.cmpi .ne v560 c0_i32_352
  let v562 : BitVec 1 := Scalar.andi v559 v561
  let v548 : BitVec 32 := Scalar.divsi v20 c4_i32_347
  let c1_i32_353 : BitVec 32 := 1#32
  let v563 : BitVec 32 := Scalar.subi v548 c1_i32_353
  let v564 : BitVec 32 := Scalar.select v562 v563 v548
  let v565 : BitVec 32 := Scalar.subi v564 c0_i32_356
  let c1_i32_357 : BitVec 32 := 1#32
  let v567 : BitVec 32 := Scalar.divsi v565 c1_i32_357
  let v568 : BitVec 32 := Scalar.muli v567 c1_i32_357
  let v569 : BitVec 32 := Scalar.addi c0_i32_356 v568
  let c1_i32_359 : BitVec 32 := 1#32
  let arg23 : BitVec 32 := Scf.iv v569 c1_i32_359 k0_t13
  let c4_i32_381 : BitVec 32 := 4#32
  let v617 : BitVec 32 := Scalar.muli arg23 c4_i32_381
  let v728 : BitVec 32 := Scalar.addi v617 c0_i32_410
  let v729 : Index := Scalar.indexCast v728
  let c176 : Index := 176#32
  let c0_411 : Index := 0#32
  ![v729.toNat, 176, 0]
def k0_off315 (i : grid0.Coords) (k0_t13 : Fin (k0_t13_loop i).trips) (c0_i32_412 : BitVec 32) : Fin 3 → Nat :=
  let c0_i32_356 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_348 : BitVec 32 := 0#32
  let v549 : BitVec 1 := Scalar.cmpi .sgt v20 c0_i32_348
  let v550 : BitVec 32 := Scalar.extui v549
  let c0_i32_349 : BitVec 32 := 0#32
  let v551 : BitVec 1 := Scalar.cmpi .slt v20 c0_i32_349
  let v552 : BitVec 32 := Scalar.extui v551
  let v553 : BitVec 32 := Scalar.subi v550 v552
  let c4_i32_347 : BitVec 32 := 4#32
  let c0_i32_350 : BitVec 32 := 0#32
  let v554 : BitVec 1 := Scalar.cmpi .sgt c4_i32_347 c0_i32_350
  let v555 : BitVec 32 := Scalar.extui v554
  let c0_i32_351 : BitVec 32 := 0#32
  let v556 : BitVec 1 := Scalar.cmpi .slt c4_i32_347 c0_i32_351
  let v557 : BitVec 32 := Scalar.extui v556
  let v558 : BitVec 32 := Scalar.subi v555 v557
  let v559 : BitVec 1 := Scalar.cmpi .ne v553 v558
  let v560 : BitVec 32 := Scalar.remsi v20 c4_i32_347
  let c0_i32_352 : BitVec 32 := 0#32
  let v561 : BitVec 1 := Scalar.cmpi .ne v560 c0_i32_352
  let v562 : BitVec 1 := Scalar.andi v559 v561
  let v548 : BitVec 32 := Scalar.divsi v20 c4_i32_347
  let c1_i32_353 : BitVec 32 := 1#32
  let v563 : BitVec 32 := Scalar.subi v548 c1_i32_353
  let v564 : BitVec 32 := Scalar.select v562 v563 v548
  let v565 : BitVec 32 := Scalar.subi v564 c0_i32_356
  let c1_i32_357 : BitVec 32 := 1#32
  let v567 : BitVec 32 := Scalar.divsi v565 c1_i32_357
  let v568 : BitVec 32 := Scalar.muli v567 c1_i32_357
  let v569 : BitVec 32 := Scalar.addi c0_i32_356 v568
  let c1_i32_359 : BitVec 32 := 1#32
  let arg23 : BitVec 32 := Scf.iv v569 c1_i32_359 k0_t13
  let c4_i32_381 : BitVec 32 := 4#32
  let v617 : BitVec 32 := Scalar.muli arg23 c4_i32_381
  let v738 : BitVec 32 := Scalar.addi v617 c0_i32_412
  let v739 : Index := Scalar.indexCast v738
  let c192_413 : Index := 192#32
  let c0_414 : Index := 0#32
  ![v739.toNat, 192, 0]
def k0_off316 (i : grid0.Coords) (k0_t13 : Fin (k0_t13_loop i).trips) (c0_i32_415 : BitVec 32) : Fin 3 → Nat :=
  let c0_i32_356 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_348 : BitVec 32 := 0#32
  let v549 : BitVec 1 := Scalar.cmpi .sgt v20 c0_i32_348
  let v550 : BitVec 32 := Scalar.extui v549
  let c0_i32_349 : BitVec 32 := 0#32
  let v551 : BitVec 1 := Scalar.cmpi .slt v20 c0_i32_349
  let v552 : BitVec 32 := Scalar.extui v551
  let v553 : BitVec 32 := Scalar.subi v550 v552
  let c4_i32_347 : BitVec 32 := 4#32
  let c0_i32_350 : BitVec 32 := 0#32
  let v554 : BitVec 1 := Scalar.cmpi .sgt c4_i32_347 c0_i32_350
  let v555 : BitVec 32 := Scalar.extui v554
  let c0_i32_351 : BitVec 32 := 0#32
  let v556 : BitVec 1 := Scalar.cmpi .slt c4_i32_347 c0_i32_351
  let v557 : BitVec 32 := Scalar.extui v556
  let v558 : BitVec 32 := Scalar.subi v555 v557
  let v559 : BitVec 1 := Scalar.cmpi .ne v553 v558
  let v560 : BitVec 32 := Scalar.remsi v20 c4_i32_347
  let c0_i32_352 : BitVec 32 := 0#32
  let v561 : BitVec 1 := Scalar.cmpi .ne v560 c0_i32_352
  let v562 : BitVec 1 := Scalar.andi v559 v561
  let v548 : BitVec 32 := Scalar.divsi v20 c4_i32_347
  let c1_i32_353 : BitVec 32 := 1#32
  let v563 : BitVec 32 := Scalar.subi v548 c1_i32_353
  let v564 : BitVec 32 := Scalar.select v562 v563 v548
  let v565 : BitVec 32 := Scalar.subi v564 c0_i32_356
  let c1_i32_357 : BitVec 32 := 1#32
  let v567 : BitVec 32 := Scalar.divsi v565 c1_i32_357
  let v568 : BitVec 32 := Scalar.muli v567 c1_i32_357
  let v569 : BitVec 32 := Scalar.addi c0_i32_356 v568
  let c1_i32_359 : BitVec 32 := 1#32
  let arg23 : BitVec 32 := Scf.iv v569 c1_i32_359 k0_t13
  let c4_i32_381 : BitVec 32 := 4#32
  let v617 : BitVec 32 := Scalar.muli arg23 c4_i32_381
  let v748 : BitVec 32 := Scalar.addi v617 c0_i32_415
  let v749 : Index := Scalar.indexCast v748
  let c208 : Index := 208#32
  let c0_416 : Index := 0#32
  ![v749.toNat, 208, 0]
def k0_off317 (i : grid0.Coords) (k0_t13 : Fin (k0_t13_loop i).trips) (c0_i32_417 : BitVec 32) : Fin 3 → Nat :=
  let c0_i32_356 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_348 : BitVec 32 := 0#32
  let v549 : BitVec 1 := Scalar.cmpi .sgt v20 c0_i32_348
  let v550 : BitVec 32 := Scalar.extui v549
  let c0_i32_349 : BitVec 32 := 0#32
  let v551 : BitVec 1 := Scalar.cmpi .slt v20 c0_i32_349
  let v552 : BitVec 32 := Scalar.extui v551
  let v553 : BitVec 32 := Scalar.subi v550 v552
  let c4_i32_347 : BitVec 32 := 4#32
  let c0_i32_350 : BitVec 32 := 0#32
  let v554 : BitVec 1 := Scalar.cmpi .sgt c4_i32_347 c0_i32_350
  let v555 : BitVec 32 := Scalar.extui v554
  let c0_i32_351 : BitVec 32 := 0#32
  let v556 : BitVec 1 := Scalar.cmpi .slt c4_i32_347 c0_i32_351
  let v557 : BitVec 32 := Scalar.extui v556
  let v558 : BitVec 32 := Scalar.subi v555 v557
  let v559 : BitVec 1 := Scalar.cmpi .ne v553 v558
  let v560 : BitVec 32 := Scalar.remsi v20 c4_i32_347
  let c0_i32_352 : BitVec 32 := 0#32
  let v561 : BitVec 1 := Scalar.cmpi .ne v560 c0_i32_352
  let v562 : BitVec 1 := Scalar.andi v559 v561
  let v548 : BitVec 32 := Scalar.divsi v20 c4_i32_347
  let c1_i32_353 : BitVec 32 := 1#32
  let v563 : BitVec 32 := Scalar.subi v548 c1_i32_353
  let v564 : BitVec 32 := Scalar.select v562 v563 v548
  let v565 : BitVec 32 := Scalar.subi v564 c0_i32_356
  let c1_i32_357 : BitVec 32 := 1#32
  let v567 : BitVec 32 := Scalar.divsi v565 c1_i32_357
  let v568 : BitVec 32 := Scalar.muli v567 c1_i32_357
  let v569 : BitVec 32 := Scalar.addi c0_i32_356 v568
  let c1_i32_359 : BitVec 32 := 1#32
  let arg23 : BitVec 32 := Scf.iv v569 c1_i32_359 k0_t13
  let c4_i32_381 : BitVec 32 := 4#32
  let v617 : BitVec 32 := Scalar.muli arg23 c4_i32_381
  let v758 : BitVec 32 := Scalar.addi v617 c0_i32_417
  let v759 : Index := Scalar.indexCast v758
  let c224_418 : Index := 224#32
  let c0_419 : Index := 0#32
  ![v759.toNat, 224, 0]
def k0_off318 (i : grid0.Coords) (k0_t13 : Fin (k0_t13_loop i).trips) (c0_i32_420 : BitVec 32) : Fin 3 → Nat :=
  let c0_i32_356 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_348 : BitVec 32 := 0#32
  let v549 : BitVec 1 := Scalar.cmpi .sgt v20 c0_i32_348
  let v550 : BitVec 32 := Scalar.extui v549
  let c0_i32_349 : BitVec 32 := 0#32
  let v551 : BitVec 1 := Scalar.cmpi .slt v20 c0_i32_349
  let v552 : BitVec 32 := Scalar.extui v551
  let v553 : BitVec 32 := Scalar.subi v550 v552
  let c4_i32_347 : BitVec 32 := 4#32
  let c0_i32_350 : BitVec 32 := 0#32
  let v554 : BitVec 1 := Scalar.cmpi .sgt c4_i32_347 c0_i32_350
  let v555 : BitVec 32 := Scalar.extui v554
  let c0_i32_351 : BitVec 32 := 0#32
  let v556 : BitVec 1 := Scalar.cmpi .slt c4_i32_347 c0_i32_351
  let v557 : BitVec 32 := Scalar.extui v556
  let v558 : BitVec 32 := Scalar.subi v555 v557
  let v559 : BitVec 1 := Scalar.cmpi .ne v553 v558
  let v560 : BitVec 32 := Scalar.remsi v20 c4_i32_347
  let c0_i32_352 : BitVec 32 := 0#32
  let v561 : BitVec 1 := Scalar.cmpi .ne v560 c0_i32_352
  let v562 : BitVec 1 := Scalar.andi v559 v561
  let v548 : BitVec 32 := Scalar.divsi v20 c4_i32_347
  let c1_i32_353 : BitVec 32 := 1#32
  let v563 : BitVec 32 := Scalar.subi v548 c1_i32_353
  let v564 : BitVec 32 := Scalar.select v562 v563 v548
  let v565 : BitVec 32 := Scalar.subi v564 c0_i32_356
  let c1_i32_357 : BitVec 32 := 1#32
  let v567 : BitVec 32 := Scalar.divsi v565 c1_i32_357
  let v568 : BitVec 32 := Scalar.muli v567 c1_i32_357
  let v569 : BitVec 32 := Scalar.addi c0_i32_356 v568
  let c1_i32_359 : BitVec 32 := 1#32
  let arg23 : BitVec 32 := Scf.iv v569 c1_i32_359 k0_t13
  let c4_i32_381 : BitVec 32 := 4#32
  let v617 : BitVec 32 := Scalar.muli arg23 c4_i32_381
  let v768 : BitVec 32 := Scalar.addi v617 c0_i32_420
  let v769 : Index := Scalar.indexCast v768
  let c240 : Index := 240#32
  let c0_421 : Index := 0#32
  ![v769.toNat, 240, 0]
def k0_off319 (i : grid0.Coords) (k0_t13 : Fin (k0_t13_loop i).trips) (c0_i32_422 : BitVec 32) : Fin 3 → Nat :=
  let c0_i32_356 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_348 : BitVec 32 := 0#32
  let v549 : BitVec 1 := Scalar.cmpi .sgt v20 c0_i32_348
  let v550 : BitVec 32 := Scalar.extui v549
  let c0_i32_349 : BitVec 32 := 0#32
  let v551 : BitVec 1 := Scalar.cmpi .slt v20 c0_i32_349
  let v552 : BitVec 32 := Scalar.extui v551
  let v553 : BitVec 32 := Scalar.subi v550 v552
  let c4_i32_347 : BitVec 32 := 4#32
  let c0_i32_350 : BitVec 32 := 0#32
  let v554 : BitVec 1 := Scalar.cmpi .sgt c4_i32_347 c0_i32_350
  let v555 : BitVec 32 := Scalar.extui v554
  let c0_i32_351 : BitVec 32 := 0#32
  let v556 : BitVec 1 := Scalar.cmpi .slt c4_i32_347 c0_i32_351
  let v557 : BitVec 32 := Scalar.extui v556
  let v558 : BitVec 32 := Scalar.subi v555 v557
  let v559 : BitVec 1 := Scalar.cmpi .ne v553 v558
  let v560 : BitVec 32 := Scalar.remsi v20 c4_i32_347
  let c0_i32_352 : BitVec 32 := 0#32
  let v561 : BitVec 1 := Scalar.cmpi .ne v560 c0_i32_352
  let v562 : BitVec 1 := Scalar.andi v559 v561
  let v548 : BitVec 32 := Scalar.divsi v20 c4_i32_347
  let c1_i32_353 : BitVec 32 := 1#32
  let v563 : BitVec 32 := Scalar.subi v548 c1_i32_353
  let v564 : BitVec 32 := Scalar.select v562 v563 v548
  let v565 : BitVec 32 := Scalar.subi v564 c0_i32_356
  let c1_i32_357 : BitVec 32 := 1#32
  let v567 : BitVec 32 := Scalar.divsi v565 c1_i32_357
  let v568 : BitVec 32 := Scalar.muli v567 c1_i32_357
  let v569 : BitVec 32 := Scalar.addi c0_i32_356 v568
  let c1_i32_359 : BitVec 32 := 1#32
  let arg23 : BitVec 32 := Scf.iv v569 c1_i32_359 k0_t13
  let c4_i32_381 : BitVec 32 := 4#32
  let v617 : BitVec 32 := Scalar.muli arg23 c4_i32_381
  let v778 : BitVec 32 := Scalar.addi v617 c0_i32_422
  let v779 : Index := Scalar.indexCast v778
  let c256_423 : Index := 256#32
  let c0_424 : Index := 0#32
  ![v779.toNat, 256, 0]
def k0_off320 (i : grid0.Coords) (k0_t13 : Fin (k0_t13_loop i).trips) (c0_i32_425 : BitVec 32) : Fin 3 → Nat :=
  let c0_i32_356 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_348 : BitVec 32 := 0#32
  let v549 : BitVec 1 := Scalar.cmpi .sgt v20 c0_i32_348
  let v550 : BitVec 32 := Scalar.extui v549
  let c0_i32_349 : BitVec 32 := 0#32
  let v551 : BitVec 1 := Scalar.cmpi .slt v20 c0_i32_349
  let v552 : BitVec 32 := Scalar.extui v551
  let v553 : BitVec 32 := Scalar.subi v550 v552
  let c4_i32_347 : BitVec 32 := 4#32
  let c0_i32_350 : BitVec 32 := 0#32
  let v554 : BitVec 1 := Scalar.cmpi .sgt c4_i32_347 c0_i32_350
  let v555 : BitVec 32 := Scalar.extui v554
  let c0_i32_351 : BitVec 32 := 0#32
  let v556 : BitVec 1 := Scalar.cmpi .slt c4_i32_347 c0_i32_351
  let v557 : BitVec 32 := Scalar.extui v556
  let v558 : BitVec 32 := Scalar.subi v555 v557
  let v559 : BitVec 1 := Scalar.cmpi .ne v553 v558
  let v560 : BitVec 32 := Scalar.remsi v20 c4_i32_347
  let c0_i32_352 : BitVec 32 := 0#32
  let v561 : BitVec 1 := Scalar.cmpi .ne v560 c0_i32_352
  let v562 : BitVec 1 := Scalar.andi v559 v561
  let v548 : BitVec 32 := Scalar.divsi v20 c4_i32_347
  let c1_i32_353 : BitVec 32 := 1#32
  let v563 : BitVec 32 := Scalar.subi v548 c1_i32_353
  let v564 : BitVec 32 := Scalar.select v562 v563 v548
  let v565 : BitVec 32 := Scalar.subi v564 c0_i32_356
  let c1_i32_357 : BitVec 32 := 1#32
  let v567 : BitVec 32 := Scalar.divsi v565 c1_i32_357
  let v568 : BitVec 32 := Scalar.muli v567 c1_i32_357
  let v569 : BitVec 32 := Scalar.addi c0_i32_356 v568
  let c1_i32_359 : BitVec 32 := 1#32
  let arg23 : BitVec 32 := Scf.iv v569 c1_i32_359 k0_t13
  let c4_i32_381 : BitVec 32 := 4#32
  let v617 : BitVec 32 := Scalar.muli arg23 c4_i32_381
  let v788 : BitVec 32 := Scalar.addi v617 c0_i32_425
  let v789 : Index := Scalar.indexCast v788
  let c272 : Index := 272#32
  let c0_426 : Index := 0#32
  ![v789.toNat, 272, 0]
def k0_off321 (i : grid0.Coords) (k0_t13 : Fin (k0_t13_loop i).trips) (c0_i32_427 : BitVec 32) : Fin 3 → Nat :=
  let c0_i32_356 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_348 : BitVec 32 := 0#32
  let v549 : BitVec 1 := Scalar.cmpi .sgt v20 c0_i32_348
  let v550 : BitVec 32 := Scalar.extui v549
  let c0_i32_349 : BitVec 32 := 0#32
  let v551 : BitVec 1 := Scalar.cmpi .slt v20 c0_i32_349
  let v552 : BitVec 32 := Scalar.extui v551
  let v553 : BitVec 32 := Scalar.subi v550 v552
  let c4_i32_347 : BitVec 32 := 4#32
  let c0_i32_350 : BitVec 32 := 0#32
  let v554 : BitVec 1 := Scalar.cmpi .sgt c4_i32_347 c0_i32_350
  let v555 : BitVec 32 := Scalar.extui v554
  let c0_i32_351 : BitVec 32 := 0#32
  let v556 : BitVec 1 := Scalar.cmpi .slt c4_i32_347 c0_i32_351
  let v557 : BitVec 32 := Scalar.extui v556
  let v558 : BitVec 32 := Scalar.subi v555 v557
  let v559 : BitVec 1 := Scalar.cmpi .ne v553 v558
  let v560 : BitVec 32 := Scalar.remsi v20 c4_i32_347
  let c0_i32_352 : BitVec 32 := 0#32
  let v561 : BitVec 1 := Scalar.cmpi .ne v560 c0_i32_352
  let v562 : BitVec 1 := Scalar.andi v559 v561
  let v548 : BitVec 32 := Scalar.divsi v20 c4_i32_347
  let c1_i32_353 : BitVec 32 := 1#32
  let v563 : BitVec 32 := Scalar.subi v548 c1_i32_353
  let v564 : BitVec 32 := Scalar.select v562 v563 v548
  let v565 : BitVec 32 := Scalar.subi v564 c0_i32_356
  let c1_i32_357 : BitVec 32 := 1#32
  let v567 : BitVec 32 := Scalar.divsi v565 c1_i32_357
  let v568 : BitVec 32 := Scalar.muli v567 c1_i32_357
  let v569 : BitVec 32 := Scalar.addi c0_i32_356 v568
  let c1_i32_359 : BitVec 32 := 1#32
  let arg23 : BitVec 32 := Scf.iv v569 c1_i32_359 k0_t13
  let c4_i32_381 : BitVec 32 := 4#32
  let v617 : BitVec 32 := Scalar.muli arg23 c4_i32_381
  let v798 : BitVec 32 := Scalar.addi v617 c0_i32_427
  let v799 : Index := Scalar.indexCast v798
  let c288 : Index := 288#32
  let c0_428 : Index := 0#32
  ![v799.toNat, 288, 0]
def k0_off322 (i : grid0.Coords) (k0_t13 : Fin (k0_t13_loop i).trips) (c0_i32_429 : BitVec 32) : Fin 3 → Nat :=
  let c0_i32_356 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_348 : BitVec 32 := 0#32
  let v549 : BitVec 1 := Scalar.cmpi .sgt v20 c0_i32_348
  let v550 : BitVec 32 := Scalar.extui v549
  let c0_i32_349 : BitVec 32 := 0#32
  let v551 : BitVec 1 := Scalar.cmpi .slt v20 c0_i32_349
  let v552 : BitVec 32 := Scalar.extui v551
  let v553 : BitVec 32 := Scalar.subi v550 v552
  let c4_i32_347 : BitVec 32 := 4#32
  let c0_i32_350 : BitVec 32 := 0#32
  let v554 : BitVec 1 := Scalar.cmpi .sgt c4_i32_347 c0_i32_350
  let v555 : BitVec 32 := Scalar.extui v554
  let c0_i32_351 : BitVec 32 := 0#32
  let v556 : BitVec 1 := Scalar.cmpi .slt c4_i32_347 c0_i32_351
  let v557 : BitVec 32 := Scalar.extui v556
  let v558 : BitVec 32 := Scalar.subi v555 v557
  let v559 : BitVec 1 := Scalar.cmpi .ne v553 v558
  let v560 : BitVec 32 := Scalar.remsi v20 c4_i32_347
  let c0_i32_352 : BitVec 32 := 0#32
  let v561 : BitVec 1 := Scalar.cmpi .ne v560 c0_i32_352
  let v562 : BitVec 1 := Scalar.andi v559 v561
  let v548 : BitVec 32 := Scalar.divsi v20 c4_i32_347
  let c1_i32_353 : BitVec 32 := 1#32
  let v563 : BitVec 32 := Scalar.subi v548 c1_i32_353
  let v564 : BitVec 32 := Scalar.select v562 v563 v548
  let v565 : BitVec 32 := Scalar.subi v564 c0_i32_356
  let c1_i32_357 : BitVec 32 := 1#32
  let v567 : BitVec 32 := Scalar.divsi v565 c1_i32_357
  let v568 : BitVec 32 := Scalar.muli v567 c1_i32_357
  let v569 : BitVec 32 := Scalar.addi c0_i32_356 v568
  let c1_i32_359 : BitVec 32 := 1#32
  let arg23 : BitVec 32 := Scf.iv v569 c1_i32_359 k0_t13
  let c4_i32_381 : BitVec 32 := 4#32
  let v617 : BitVec 32 := Scalar.muli arg23 c4_i32_381
  let v808 : BitVec 32 := Scalar.addi v617 c0_i32_429
  let v809 : Index := Scalar.indexCast v808
  let c304 : Index := 304#32
  let c0_430 : Index := 0#32
  ![v809.toNat, 304, 0]
def k0_off323 (i : grid0.Coords) (k0_t13 : Fin (k0_t13_loop i).trips) (c0_i32_431 : BitVec 32) : Fin 3 → Nat :=
  let c0_i32_356 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_348 : BitVec 32 := 0#32
  let v549 : BitVec 1 := Scalar.cmpi .sgt v20 c0_i32_348
  let v550 : BitVec 32 := Scalar.extui v549
  let c0_i32_349 : BitVec 32 := 0#32
  let v551 : BitVec 1 := Scalar.cmpi .slt v20 c0_i32_349
  let v552 : BitVec 32 := Scalar.extui v551
  let v553 : BitVec 32 := Scalar.subi v550 v552
  let c4_i32_347 : BitVec 32 := 4#32
  let c0_i32_350 : BitVec 32 := 0#32
  let v554 : BitVec 1 := Scalar.cmpi .sgt c4_i32_347 c0_i32_350
  let v555 : BitVec 32 := Scalar.extui v554
  let c0_i32_351 : BitVec 32 := 0#32
  let v556 : BitVec 1 := Scalar.cmpi .slt c4_i32_347 c0_i32_351
  let v557 : BitVec 32 := Scalar.extui v556
  let v558 : BitVec 32 := Scalar.subi v555 v557
  let v559 : BitVec 1 := Scalar.cmpi .ne v553 v558
  let v560 : BitVec 32 := Scalar.remsi v20 c4_i32_347
  let c0_i32_352 : BitVec 32 := 0#32
  let v561 : BitVec 1 := Scalar.cmpi .ne v560 c0_i32_352
  let v562 : BitVec 1 := Scalar.andi v559 v561
  let v548 : BitVec 32 := Scalar.divsi v20 c4_i32_347
  let c1_i32_353 : BitVec 32 := 1#32
  let v563 : BitVec 32 := Scalar.subi v548 c1_i32_353
  let v564 : BitVec 32 := Scalar.select v562 v563 v548
  let v565 : BitVec 32 := Scalar.subi v564 c0_i32_356
  let c1_i32_357 : BitVec 32 := 1#32
  let v567 : BitVec 32 := Scalar.divsi v565 c1_i32_357
  let v568 : BitVec 32 := Scalar.muli v567 c1_i32_357
  let v569 : BitVec 32 := Scalar.addi c0_i32_356 v568
  let c1_i32_359 : BitVec 32 := 1#32
  let arg23 : BitVec 32 := Scf.iv v569 c1_i32_359 k0_t13
  let c4_i32_381 : BitVec 32 := 4#32
  let v617 : BitVec 32 := Scalar.muli arg23 c4_i32_381
  let v818 : BitVec 32 := Scalar.addi v617 c0_i32_431
  let v819 : Index := Scalar.indexCast v818
  let c320_432 : Index := 320#32
  let c0_433 : Index := 0#32
  ![v819.toNat, 320, 0]
def k0_off324 (i : grid0.Coords) (k0_t13 : Fin (k0_t13_loop i).trips) (c0_i32_434 : BitVec 32) : Fin 3 → Nat :=
  let c0_i32_356 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_348 : BitVec 32 := 0#32
  let v549 : BitVec 1 := Scalar.cmpi .sgt v20 c0_i32_348
  let v550 : BitVec 32 := Scalar.extui v549
  let c0_i32_349 : BitVec 32 := 0#32
  let v551 : BitVec 1 := Scalar.cmpi .slt v20 c0_i32_349
  let v552 : BitVec 32 := Scalar.extui v551
  let v553 : BitVec 32 := Scalar.subi v550 v552
  let c4_i32_347 : BitVec 32 := 4#32
  let c0_i32_350 : BitVec 32 := 0#32
  let v554 : BitVec 1 := Scalar.cmpi .sgt c4_i32_347 c0_i32_350
  let v555 : BitVec 32 := Scalar.extui v554
  let c0_i32_351 : BitVec 32 := 0#32
  let v556 : BitVec 1 := Scalar.cmpi .slt c4_i32_347 c0_i32_351
  let v557 : BitVec 32 := Scalar.extui v556
  let v558 : BitVec 32 := Scalar.subi v555 v557
  let v559 : BitVec 1 := Scalar.cmpi .ne v553 v558
  let v560 : BitVec 32 := Scalar.remsi v20 c4_i32_347
  let c0_i32_352 : BitVec 32 := 0#32
  let v561 : BitVec 1 := Scalar.cmpi .ne v560 c0_i32_352
  let v562 : BitVec 1 := Scalar.andi v559 v561
  let v548 : BitVec 32 := Scalar.divsi v20 c4_i32_347
  let c1_i32_353 : BitVec 32 := 1#32
  let v563 : BitVec 32 := Scalar.subi v548 c1_i32_353
  let v564 : BitVec 32 := Scalar.select v562 v563 v548
  let v565 : BitVec 32 := Scalar.subi v564 c0_i32_356
  let c1_i32_357 : BitVec 32 := 1#32
  let v567 : BitVec 32 := Scalar.divsi v565 c1_i32_357
  let v568 : BitVec 32 := Scalar.muli v567 c1_i32_357
  let v569 : BitVec 32 := Scalar.addi c0_i32_356 v568
  let c1_i32_359 : BitVec 32 := 1#32
  let arg23 : BitVec 32 := Scf.iv v569 c1_i32_359 k0_t13
  let c4_i32_381 : BitVec 32 := 4#32
  let v617 : BitVec 32 := Scalar.muli arg23 c4_i32_381
  let v828 : BitVec 32 := Scalar.addi v617 c0_i32_434
  let v829 : Index := Scalar.indexCast v828
  let c336 : Index := 336#32
  let c0_435 : Index := 0#32
  ![v829.toNat, 336, 0]
def k0_off325 (i : grid0.Coords) (k0_t13 : Fin (k0_t13_loop i).trips) (c0_i32_436 : BitVec 32) : Fin 3 → Nat :=
  let c0_i32_356 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_348 : BitVec 32 := 0#32
  let v549 : BitVec 1 := Scalar.cmpi .sgt v20 c0_i32_348
  let v550 : BitVec 32 := Scalar.extui v549
  let c0_i32_349 : BitVec 32 := 0#32
  let v551 : BitVec 1 := Scalar.cmpi .slt v20 c0_i32_349
  let v552 : BitVec 32 := Scalar.extui v551
  let v553 : BitVec 32 := Scalar.subi v550 v552
  let c4_i32_347 : BitVec 32 := 4#32
  let c0_i32_350 : BitVec 32 := 0#32
  let v554 : BitVec 1 := Scalar.cmpi .sgt c4_i32_347 c0_i32_350
  let v555 : BitVec 32 := Scalar.extui v554
  let c0_i32_351 : BitVec 32 := 0#32
  let v556 : BitVec 1 := Scalar.cmpi .slt c4_i32_347 c0_i32_351
  let v557 : BitVec 32 := Scalar.extui v556
  let v558 : BitVec 32 := Scalar.subi v555 v557
  let v559 : BitVec 1 := Scalar.cmpi .ne v553 v558
  let v560 : BitVec 32 := Scalar.remsi v20 c4_i32_347
  let c0_i32_352 : BitVec 32 := 0#32
  let v561 : BitVec 1 := Scalar.cmpi .ne v560 c0_i32_352
  let v562 : BitVec 1 := Scalar.andi v559 v561
  let v548 : BitVec 32 := Scalar.divsi v20 c4_i32_347
  let c1_i32_353 : BitVec 32 := 1#32
  let v563 : BitVec 32 := Scalar.subi v548 c1_i32_353
  let v564 : BitVec 32 := Scalar.select v562 v563 v548
  let v565 : BitVec 32 := Scalar.subi v564 c0_i32_356
  let c1_i32_357 : BitVec 32 := 1#32
  let v567 : BitVec 32 := Scalar.divsi v565 c1_i32_357
  let v568 : BitVec 32 := Scalar.muli v567 c1_i32_357
  let v569 : BitVec 32 := Scalar.addi c0_i32_356 v568
  let c1_i32_359 : BitVec 32 := 1#32
  let arg23 : BitVec 32 := Scf.iv v569 c1_i32_359 k0_t13
  let c4_i32_381 : BitVec 32 := 4#32
  let v617 : BitVec 32 := Scalar.muli arg23 c4_i32_381
  let v838 : BitVec 32 := Scalar.addi v617 c0_i32_436
  let v839 : Index := Scalar.indexCast v838
  let c352 : Index := 352#32
  let c0_437 : Index := 0#32
  ![v839.toNat, 352, 0]
def k0_off326 (i : grid0.Coords) (k0_t13 : Fin (k0_t13_loop i).trips) (c0_i32_438 : BitVec 32) : Fin 3 → Nat :=
  let c0_i32_356 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_348 : BitVec 32 := 0#32
  let v549 : BitVec 1 := Scalar.cmpi .sgt v20 c0_i32_348
  let v550 : BitVec 32 := Scalar.extui v549
  let c0_i32_349 : BitVec 32 := 0#32
  let v551 : BitVec 1 := Scalar.cmpi .slt v20 c0_i32_349
  let v552 : BitVec 32 := Scalar.extui v551
  let v553 : BitVec 32 := Scalar.subi v550 v552
  let c4_i32_347 : BitVec 32 := 4#32
  let c0_i32_350 : BitVec 32 := 0#32
  let v554 : BitVec 1 := Scalar.cmpi .sgt c4_i32_347 c0_i32_350
  let v555 : BitVec 32 := Scalar.extui v554
  let c0_i32_351 : BitVec 32 := 0#32
  let v556 : BitVec 1 := Scalar.cmpi .slt c4_i32_347 c0_i32_351
  let v557 : BitVec 32 := Scalar.extui v556
  let v558 : BitVec 32 := Scalar.subi v555 v557
  let v559 : BitVec 1 := Scalar.cmpi .ne v553 v558
  let v560 : BitVec 32 := Scalar.remsi v20 c4_i32_347
  let c0_i32_352 : BitVec 32 := 0#32
  let v561 : BitVec 1 := Scalar.cmpi .ne v560 c0_i32_352
  let v562 : BitVec 1 := Scalar.andi v559 v561
  let v548 : BitVec 32 := Scalar.divsi v20 c4_i32_347
  let c1_i32_353 : BitVec 32 := 1#32
  let v563 : BitVec 32 := Scalar.subi v548 c1_i32_353
  let v564 : BitVec 32 := Scalar.select v562 v563 v548
  let v565 : BitVec 32 := Scalar.subi v564 c0_i32_356
  let c1_i32_357 : BitVec 32 := 1#32
  let v567 : BitVec 32 := Scalar.divsi v565 c1_i32_357
  let v568 : BitVec 32 := Scalar.muli v567 c1_i32_357
  let v569 : BitVec 32 := Scalar.addi c0_i32_356 v568
  let c1_i32_359 : BitVec 32 := 1#32
  let arg23 : BitVec 32 := Scf.iv v569 c1_i32_359 k0_t13
  let c4_i32_381 : BitVec 32 := 4#32
  let v617 : BitVec 32 := Scalar.muli arg23 c4_i32_381
  let v848 : BitVec 32 := Scalar.addi v617 c0_i32_438
  let v849 : Index := Scalar.indexCast v848
  let c368 : Index := 368#32
  let c0_439 : Index := 0#32
  ![v849.toNat, 368, 0]
def k0_off327 (i : grid0.Coords) (k0_t13 : Fin (k0_t13_loop i).trips) (c0_i32_440 : BitVec 32) : Fin 3 → Nat :=
  let c0_i32_356 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_348 : BitVec 32 := 0#32
  let v549 : BitVec 1 := Scalar.cmpi .sgt v20 c0_i32_348
  let v550 : BitVec 32 := Scalar.extui v549
  let c0_i32_349 : BitVec 32 := 0#32
  let v551 : BitVec 1 := Scalar.cmpi .slt v20 c0_i32_349
  let v552 : BitVec 32 := Scalar.extui v551
  let v553 : BitVec 32 := Scalar.subi v550 v552
  let c4_i32_347 : BitVec 32 := 4#32
  let c0_i32_350 : BitVec 32 := 0#32
  let v554 : BitVec 1 := Scalar.cmpi .sgt c4_i32_347 c0_i32_350
  let v555 : BitVec 32 := Scalar.extui v554
  let c0_i32_351 : BitVec 32 := 0#32
  let v556 : BitVec 1 := Scalar.cmpi .slt c4_i32_347 c0_i32_351
  let v557 : BitVec 32 := Scalar.extui v556
  let v558 : BitVec 32 := Scalar.subi v555 v557
  let v559 : BitVec 1 := Scalar.cmpi .ne v553 v558
  let v560 : BitVec 32 := Scalar.remsi v20 c4_i32_347
  let c0_i32_352 : BitVec 32 := 0#32
  let v561 : BitVec 1 := Scalar.cmpi .ne v560 c0_i32_352
  let v562 : BitVec 1 := Scalar.andi v559 v561
  let v548 : BitVec 32 := Scalar.divsi v20 c4_i32_347
  let c1_i32_353 : BitVec 32 := 1#32
  let v563 : BitVec 32 := Scalar.subi v548 c1_i32_353
  let v564 : BitVec 32 := Scalar.select v562 v563 v548
  let v565 : BitVec 32 := Scalar.subi v564 c0_i32_356
  let c1_i32_357 : BitVec 32 := 1#32
  let v567 : BitVec 32 := Scalar.divsi v565 c1_i32_357
  let v568 : BitVec 32 := Scalar.muli v567 c1_i32_357
  let v569 : BitVec 32 := Scalar.addi c0_i32_356 v568
  let c1_i32_359 : BitVec 32 := 1#32
  let arg23 : BitVec 32 := Scf.iv v569 c1_i32_359 k0_t13
  let c4_i32_381 : BitVec 32 := 4#32
  let v617 : BitVec 32 := Scalar.muli arg23 c4_i32_381
  let v858 : BitVec 32 := Scalar.addi v617 c0_i32_440
  let v859 : Index := Scalar.indexCast v858
  let c384_441 : Index := 384#32
  let c0_442 : Index := 0#32
  ![v859.toNat, 384, 0]
def k0_off328 (i : grid0.Coords) (k0_t13 : Fin (k0_t13_loop i).trips) (c0_i32_443 : BitVec 32) : Fin 3 → Nat :=
  let c0_i32_356 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_348 : BitVec 32 := 0#32
  let v549 : BitVec 1 := Scalar.cmpi .sgt v20 c0_i32_348
  let v550 : BitVec 32 := Scalar.extui v549
  let c0_i32_349 : BitVec 32 := 0#32
  let v551 : BitVec 1 := Scalar.cmpi .slt v20 c0_i32_349
  let v552 : BitVec 32 := Scalar.extui v551
  let v553 : BitVec 32 := Scalar.subi v550 v552
  let c4_i32_347 : BitVec 32 := 4#32
  let c0_i32_350 : BitVec 32 := 0#32
  let v554 : BitVec 1 := Scalar.cmpi .sgt c4_i32_347 c0_i32_350
  let v555 : BitVec 32 := Scalar.extui v554
  let c0_i32_351 : BitVec 32 := 0#32
  let v556 : BitVec 1 := Scalar.cmpi .slt c4_i32_347 c0_i32_351
  let v557 : BitVec 32 := Scalar.extui v556
  let v558 : BitVec 32 := Scalar.subi v555 v557
  let v559 : BitVec 1 := Scalar.cmpi .ne v553 v558
  let v560 : BitVec 32 := Scalar.remsi v20 c4_i32_347
  let c0_i32_352 : BitVec 32 := 0#32
  let v561 : BitVec 1 := Scalar.cmpi .ne v560 c0_i32_352
  let v562 : BitVec 1 := Scalar.andi v559 v561
  let v548 : BitVec 32 := Scalar.divsi v20 c4_i32_347
  let c1_i32_353 : BitVec 32 := 1#32
  let v563 : BitVec 32 := Scalar.subi v548 c1_i32_353
  let v564 : BitVec 32 := Scalar.select v562 v563 v548
  let v565 : BitVec 32 := Scalar.subi v564 c0_i32_356
  let c1_i32_357 : BitVec 32 := 1#32
  let v567 : BitVec 32 := Scalar.divsi v565 c1_i32_357
  let v568 : BitVec 32 := Scalar.muli v567 c1_i32_357
  let v569 : BitVec 32 := Scalar.addi c0_i32_356 v568
  let c1_i32_359 : BitVec 32 := 1#32
  let arg23 : BitVec 32 := Scf.iv v569 c1_i32_359 k0_t13
  let c4_i32_381 : BitVec 32 := 4#32
  let v617 : BitVec 32 := Scalar.muli arg23 c4_i32_381
  let v868 : BitVec 32 := Scalar.addi v617 c0_i32_443
  let v869 : Index := Scalar.indexCast v868
  let c400 : Index := 400#32
  let c0_444 : Index := 0#32
  ![v869.toNat, 400, 0]
def k0_off329 (i : grid0.Coords) (k0_t13 : Fin (k0_t13_loop i).trips) (c0_i32_445 : BitVec 32) : Fin 3 → Nat :=
  let c0_i32_356 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_348 : BitVec 32 := 0#32
  let v549 : BitVec 1 := Scalar.cmpi .sgt v20 c0_i32_348
  let v550 : BitVec 32 := Scalar.extui v549
  let c0_i32_349 : BitVec 32 := 0#32
  let v551 : BitVec 1 := Scalar.cmpi .slt v20 c0_i32_349
  let v552 : BitVec 32 := Scalar.extui v551
  let v553 : BitVec 32 := Scalar.subi v550 v552
  let c4_i32_347 : BitVec 32 := 4#32
  let c0_i32_350 : BitVec 32 := 0#32
  let v554 : BitVec 1 := Scalar.cmpi .sgt c4_i32_347 c0_i32_350
  let v555 : BitVec 32 := Scalar.extui v554
  let c0_i32_351 : BitVec 32 := 0#32
  let v556 : BitVec 1 := Scalar.cmpi .slt c4_i32_347 c0_i32_351
  let v557 : BitVec 32 := Scalar.extui v556
  let v558 : BitVec 32 := Scalar.subi v555 v557
  let v559 : BitVec 1 := Scalar.cmpi .ne v553 v558
  let v560 : BitVec 32 := Scalar.remsi v20 c4_i32_347
  let c0_i32_352 : BitVec 32 := 0#32
  let v561 : BitVec 1 := Scalar.cmpi .ne v560 c0_i32_352
  let v562 : BitVec 1 := Scalar.andi v559 v561
  let v548 : BitVec 32 := Scalar.divsi v20 c4_i32_347
  let c1_i32_353 : BitVec 32 := 1#32
  let v563 : BitVec 32 := Scalar.subi v548 c1_i32_353
  let v564 : BitVec 32 := Scalar.select v562 v563 v548
  let v565 : BitVec 32 := Scalar.subi v564 c0_i32_356
  let c1_i32_357 : BitVec 32 := 1#32
  let v567 : BitVec 32 := Scalar.divsi v565 c1_i32_357
  let v568 : BitVec 32 := Scalar.muli v567 c1_i32_357
  let v569 : BitVec 32 := Scalar.addi c0_i32_356 v568
  let c1_i32_359 : BitVec 32 := 1#32
  let arg23 : BitVec 32 := Scf.iv v569 c1_i32_359 k0_t13
  let c4_i32_381 : BitVec 32 := 4#32
  let v617 : BitVec 32 := Scalar.muli arg23 c4_i32_381
  let v878 : BitVec 32 := Scalar.addi v617 c0_i32_445
  let v879 : Index := Scalar.indexCast v878
  let c416 : Index := 416#32
  let c0_446 : Index := 0#32
  ![v879.toNat, 416, 0]
def k0_off330 (i : grid0.Coords) (k0_t13 : Fin (k0_t13_loop i).trips) (c0_i32_447 : BitVec 32) : Fin 3 → Nat :=
  let c0_i32_356 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_348 : BitVec 32 := 0#32
  let v549 : BitVec 1 := Scalar.cmpi .sgt v20 c0_i32_348
  let v550 : BitVec 32 := Scalar.extui v549
  let c0_i32_349 : BitVec 32 := 0#32
  let v551 : BitVec 1 := Scalar.cmpi .slt v20 c0_i32_349
  let v552 : BitVec 32 := Scalar.extui v551
  let v553 : BitVec 32 := Scalar.subi v550 v552
  let c4_i32_347 : BitVec 32 := 4#32
  let c0_i32_350 : BitVec 32 := 0#32
  let v554 : BitVec 1 := Scalar.cmpi .sgt c4_i32_347 c0_i32_350
  let v555 : BitVec 32 := Scalar.extui v554
  let c0_i32_351 : BitVec 32 := 0#32
  let v556 : BitVec 1 := Scalar.cmpi .slt c4_i32_347 c0_i32_351
  let v557 : BitVec 32 := Scalar.extui v556
  let v558 : BitVec 32 := Scalar.subi v555 v557
  let v559 : BitVec 1 := Scalar.cmpi .ne v553 v558
  let v560 : BitVec 32 := Scalar.remsi v20 c4_i32_347
  let c0_i32_352 : BitVec 32 := 0#32
  let v561 : BitVec 1 := Scalar.cmpi .ne v560 c0_i32_352
  let v562 : BitVec 1 := Scalar.andi v559 v561
  let v548 : BitVec 32 := Scalar.divsi v20 c4_i32_347
  let c1_i32_353 : BitVec 32 := 1#32
  let v563 : BitVec 32 := Scalar.subi v548 c1_i32_353
  let v564 : BitVec 32 := Scalar.select v562 v563 v548
  let v565 : BitVec 32 := Scalar.subi v564 c0_i32_356
  let c1_i32_357 : BitVec 32 := 1#32
  let v567 : BitVec 32 := Scalar.divsi v565 c1_i32_357
  let v568 : BitVec 32 := Scalar.muli v567 c1_i32_357
  let v569 : BitVec 32 := Scalar.addi c0_i32_356 v568
  let c1_i32_359 : BitVec 32 := 1#32
  let arg23 : BitVec 32 := Scf.iv v569 c1_i32_359 k0_t13
  let c4_i32_381 : BitVec 32 := 4#32
  let v617 : BitVec 32 := Scalar.muli arg23 c4_i32_381
  let v888 : BitVec 32 := Scalar.addi v617 c0_i32_447
  let v889 : Index := Scalar.indexCast v888
  let c432 : Index := 432#32
  let c0_448 : Index := 0#32
  ![v889.toNat, 432, 0]
def k0_off331 (i : grid0.Coords) (k0_t13 : Fin (k0_t13_loop i).trips) (c0_i32_449 : BitVec 32) : Fin 3 → Nat :=
  let c0_i32_356 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_348 : BitVec 32 := 0#32
  let v549 : BitVec 1 := Scalar.cmpi .sgt v20 c0_i32_348
  let v550 : BitVec 32 := Scalar.extui v549
  let c0_i32_349 : BitVec 32 := 0#32
  let v551 : BitVec 1 := Scalar.cmpi .slt v20 c0_i32_349
  let v552 : BitVec 32 := Scalar.extui v551
  let v553 : BitVec 32 := Scalar.subi v550 v552
  let c4_i32_347 : BitVec 32 := 4#32
  let c0_i32_350 : BitVec 32 := 0#32
  let v554 : BitVec 1 := Scalar.cmpi .sgt c4_i32_347 c0_i32_350
  let v555 : BitVec 32 := Scalar.extui v554
  let c0_i32_351 : BitVec 32 := 0#32
  let v556 : BitVec 1 := Scalar.cmpi .slt c4_i32_347 c0_i32_351
  let v557 : BitVec 32 := Scalar.extui v556
  let v558 : BitVec 32 := Scalar.subi v555 v557
  let v559 : BitVec 1 := Scalar.cmpi .ne v553 v558
  let v560 : BitVec 32 := Scalar.remsi v20 c4_i32_347
  let c0_i32_352 : BitVec 32 := 0#32
  let v561 : BitVec 1 := Scalar.cmpi .ne v560 c0_i32_352
  let v562 : BitVec 1 := Scalar.andi v559 v561
  let v548 : BitVec 32 := Scalar.divsi v20 c4_i32_347
  let c1_i32_353 : BitVec 32 := 1#32
  let v563 : BitVec 32 := Scalar.subi v548 c1_i32_353
  let v564 : BitVec 32 := Scalar.select v562 v563 v548
  let v565 : BitVec 32 := Scalar.subi v564 c0_i32_356
  let c1_i32_357 : BitVec 32 := 1#32
  let v567 : BitVec 32 := Scalar.divsi v565 c1_i32_357
  let v568 : BitVec 32 := Scalar.muli v567 c1_i32_357
  let v569 : BitVec 32 := Scalar.addi c0_i32_356 v568
  let c1_i32_359 : BitVec 32 := 1#32
  let arg23 : BitVec 32 := Scf.iv v569 c1_i32_359 k0_t13
  let c4_i32_381 : BitVec 32 := 4#32
  let v617 : BitVec 32 := Scalar.muli arg23 c4_i32_381
  let v898 : BitVec 32 := Scalar.addi v617 c0_i32_449
  let v899 : Index := Scalar.indexCast v898
  let c448_450 : Index := 448#32
  let c0_451 : Index := 0#32
  ![v899.toNat, 448, 0]
def k0_off332 (i : grid0.Coords) (k0_t13 : Fin (k0_t13_loop i).trips) (c0_i32_452 : BitVec 32) : Fin 3 → Nat :=
  let c0_i32_356 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_348 : BitVec 32 := 0#32
  let v549 : BitVec 1 := Scalar.cmpi .sgt v20 c0_i32_348
  let v550 : BitVec 32 := Scalar.extui v549
  let c0_i32_349 : BitVec 32 := 0#32
  let v551 : BitVec 1 := Scalar.cmpi .slt v20 c0_i32_349
  let v552 : BitVec 32 := Scalar.extui v551
  let v553 : BitVec 32 := Scalar.subi v550 v552
  let c4_i32_347 : BitVec 32 := 4#32
  let c0_i32_350 : BitVec 32 := 0#32
  let v554 : BitVec 1 := Scalar.cmpi .sgt c4_i32_347 c0_i32_350
  let v555 : BitVec 32 := Scalar.extui v554
  let c0_i32_351 : BitVec 32 := 0#32
  let v556 : BitVec 1 := Scalar.cmpi .slt c4_i32_347 c0_i32_351
  let v557 : BitVec 32 := Scalar.extui v556
  let v558 : BitVec 32 := Scalar.subi v555 v557
  let v559 : BitVec 1 := Scalar.cmpi .ne v553 v558
  let v560 : BitVec 32 := Scalar.remsi v20 c4_i32_347
  let c0_i32_352 : BitVec 32 := 0#32
  let v561 : BitVec 1 := Scalar.cmpi .ne v560 c0_i32_352
  let v562 : BitVec 1 := Scalar.andi v559 v561
  let v548 : BitVec 32 := Scalar.divsi v20 c4_i32_347
  let c1_i32_353 : BitVec 32 := 1#32
  let v563 : BitVec 32 := Scalar.subi v548 c1_i32_353
  let v564 : BitVec 32 := Scalar.select v562 v563 v548
  let v565 : BitVec 32 := Scalar.subi v564 c0_i32_356
  let c1_i32_357 : BitVec 32 := 1#32
  let v567 : BitVec 32 := Scalar.divsi v565 c1_i32_357
  let v568 : BitVec 32 := Scalar.muli v567 c1_i32_357
  let v569 : BitVec 32 := Scalar.addi c0_i32_356 v568
  let c1_i32_359 : BitVec 32 := 1#32
  let arg23 : BitVec 32 := Scf.iv v569 c1_i32_359 k0_t13
  let c4_i32_381 : BitVec 32 := 4#32
  let v617 : BitVec 32 := Scalar.muli arg23 c4_i32_381
  let v908 : BitVec 32 := Scalar.addi v617 c0_i32_452
  let v909 : Index := Scalar.indexCast v908
  let c464 : Index := 464#32
  let c0_453 : Index := 0#32
  ![v909.toNat, 464, 0]
def k0_off333 (i : grid0.Coords) (k0_t13 : Fin (k0_t13_loop i).trips) (c0_i32_454 : BitVec 32) : Fin 3 → Nat :=
  let c0_i32_356 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_348 : BitVec 32 := 0#32
  let v549 : BitVec 1 := Scalar.cmpi .sgt v20 c0_i32_348
  let v550 : BitVec 32 := Scalar.extui v549
  let c0_i32_349 : BitVec 32 := 0#32
  let v551 : BitVec 1 := Scalar.cmpi .slt v20 c0_i32_349
  let v552 : BitVec 32 := Scalar.extui v551
  let v553 : BitVec 32 := Scalar.subi v550 v552
  let c4_i32_347 : BitVec 32 := 4#32
  let c0_i32_350 : BitVec 32 := 0#32
  let v554 : BitVec 1 := Scalar.cmpi .sgt c4_i32_347 c0_i32_350
  let v555 : BitVec 32 := Scalar.extui v554
  let c0_i32_351 : BitVec 32 := 0#32
  let v556 : BitVec 1 := Scalar.cmpi .slt c4_i32_347 c0_i32_351
  let v557 : BitVec 32 := Scalar.extui v556
  let v558 : BitVec 32 := Scalar.subi v555 v557
  let v559 : BitVec 1 := Scalar.cmpi .ne v553 v558
  let v560 : BitVec 32 := Scalar.remsi v20 c4_i32_347
  let c0_i32_352 : BitVec 32 := 0#32
  let v561 : BitVec 1 := Scalar.cmpi .ne v560 c0_i32_352
  let v562 : BitVec 1 := Scalar.andi v559 v561
  let v548 : BitVec 32 := Scalar.divsi v20 c4_i32_347
  let c1_i32_353 : BitVec 32 := 1#32
  let v563 : BitVec 32 := Scalar.subi v548 c1_i32_353
  let v564 : BitVec 32 := Scalar.select v562 v563 v548
  let v565 : BitVec 32 := Scalar.subi v564 c0_i32_356
  let c1_i32_357 : BitVec 32 := 1#32
  let v567 : BitVec 32 := Scalar.divsi v565 c1_i32_357
  let v568 : BitVec 32 := Scalar.muli v567 c1_i32_357
  let v569 : BitVec 32 := Scalar.addi c0_i32_356 v568
  let c1_i32_359 : BitVec 32 := 1#32
  let arg23 : BitVec 32 := Scf.iv v569 c1_i32_359 k0_t13
  let c4_i32_381 : BitVec 32 := 4#32
  let v617 : BitVec 32 := Scalar.muli arg23 c4_i32_381
  let v918 : BitVec 32 := Scalar.addi v617 c0_i32_454
  let v919 : Index := Scalar.indexCast v918
  let c480 : Index := 480#32
  let c0_455 : Index := 0#32
  ![v919.toNat, 480, 0]
def k0_off334 (i : grid0.Coords) (k0_t13 : Fin (k0_t13_loop i).trips) (c0_i32_456 : BitVec 32) : Fin 3 → Nat :=
  let c0_i32_356 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_348 : BitVec 32 := 0#32
  let v549 : BitVec 1 := Scalar.cmpi .sgt v20 c0_i32_348
  let v550 : BitVec 32 := Scalar.extui v549
  let c0_i32_349 : BitVec 32 := 0#32
  let v551 : BitVec 1 := Scalar.cmpi .slt v20 c0_i32_349
  let v552 : BitVec 32 := Scalar.extui v551
  let v553 : BitVec 32 := Scalar.subi v550 v552
  let c4_i32_347 : BitVec 32 := 4#32
  let c0_i32_350 : BitVec 32 := 0#32
  let v554 : BitVec 1 := Scalar.cmpi .sgt c4_i32_347 c0_i32_350
  let v555 : BitVec 32 := Scalar.extui v554
  let c0_i32_351 : BitVec 32 := 0#32
  let v556 : BitVec 1 := Scalar.cmpi .slt c4_i32_347 c0_i32_351
  let v557 : BitVec 32 := Scalar.extui v556
  let v558 : BitVec 32 := Scalar.subi v555 v557
  let v559 : BitVec 1 := Scalar.cmpi .ne v553 v558
  let v560 : BitVec 32 := Scalar.remsi v20 c4_i32_347
  let c0_i32_352 : BitVec 32 := 0#32
  let v561 : BitVec 1 := Scalar.cmpi .ne v560 c0_i32_352
  let v562 : BitVec 1 := Scalar.andi v559 v561
  let v548 : BitVec 32 := Scalar.divsi v20 c4_i32_347
  let c1_i32_353 : BitVec 32 := 1#32
  let v563 : BitVec 32 := Scalar.subi v548 c1_i32_353
  let v564 : BitVec 32 := Scalar.select v562 v563 v548
  let v565 : BitVec 32 := Scalar.subi v564 c0_i32_356
  let c1_i32_357 : BitVec 32 := 1#32
  let v567 : BitVec 32 := Scalar.divsi v565 c1_i32_357
  let v568 : BitVec 32 := Scalar.muli v567 c1_i32_357
  let v569 : BitVec 32 := Scalar.addi c0_i32_356 v568
  let c1_i32_359 : BitVec 32 := 1#32
  let arg23 : BitVec 32 := Scf.iv v569 c1_i32_359 k0_t13
  let c4_i32_381 : BitVec 32 := 4#32
  let v617 : BitVec 32 := Scalar.muli arg23 c4_i32_381
  let v928 : BitVec 32 := Scalar.addi v617 c0_i32_456
  let v929 : Index := Scalar.indexCast v928
  let c496 : Index := 496#32
  let c0_457 : Index := 0#32
  ![v929.toNat, 496, 0]
def k0_cond9 (i : grid0.Coords) : BitVec 1 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c2_i32_368 : BitVec 32 := 2#32
  let v590 : BitVec 32 := Scalar.andi v20 c2_i32_368
  let c0_i32_369 : BitVec 32 := 0#32
  let v591 : BitVec 1 := Scalar.cmpi .ne v590 c0_i32_369
  let v592 : BitVec 32 := Scalar.extui v591
  let c0_i32_372 : BitVec 32 := 0#32
  let v593 : BitVec 1 := Scalar.cmpi .ne v592 c0_i32_372
  v593

def k0_off335 (i : grid0.Coords) (c0_i32_381 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let v617 : BitVec 32 := Scalar.addi v589 c0_i32_381
  let v618 : Index := Scalar.indexCast v617
  let c0_382 : Index := 0#32
  let c0_383 : Index := 0#32
  ![v618.toNat, 0, 0]
def k0_off336 (i : grid0.Coords) (c0_i32_384 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let v627 : BitVec 32 := Scalar.addi v589 c0_i32_384
  let v628 : Index := Scalar.indexCast v627
  let c16 : Index := 16#32
  let c0_385 : Index := 0#32
  ![v628.toNat, 16, 0]
def k0_off337 (i : grid0.Coords) (c0_i32_386 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let v637 : BitVec 32 := Scalar.addi v589 c0_i32_386
  let v638 : Index := Scalar.indexCast v637
  let c32_387 : Index := 32#32
  let c0_388 : Index := 0#32
  ![v638.toNat, 32, 0]
def k0_off338 (i : grid0.Coords) (c0_i32_389 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let v647 : BitVec 32 := Scalar.addi v589 c0_i32_389
  let v648 : Index := Scalar.indexCast v647
  let c48 : Index := 48#32
  let c0_390 : Index := 0#32
  ![v648.toNat, 48, 0]
def k0_off339 (i : grid0.Coords) (c0_i32_391 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let v657 : BitVec 32 := Scalar.addi v589 c0_i32_391
  let v658 : Index := Scalar.indexCast v657
  let c64_392 : Index := 64#32
  let c0_393 : Index := 0#32
  ![v658.toNat, 64, 0]
def k0_off340 (i : grid0.Coords) (c0_i32_394 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let v667 : BitVec 32 := Scalar.addi v589 c0_i32_394
  let v668 : Index := Scalar.indexCast v667
  let c80 : Index := 80#32
  let c0_395 : Index := 0#32
  ![v668.toNat, 80, 0]
def k0_off341 (i : grid0.Coords) (c0_i32_396 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let v677 : BitVec 32 := Scalar.addi v589 c0_i32_396
  let v678 : Index := Scalar.indexCast v677
  let c96_397 : Index := 96#32
  let c0_398 : Index := 0#32
  ![v678.toNat, 96, 0]
def k0_off342 (i : grid0.Coords) (c0_i32_399 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let v687 : BitVec 32 := Scalar.addi v589 c0_i32_399
  let v688 : Index := Scalar.indexCast v687
  let c112 : Index := 112#32
  let c0_400 : Index := 0#32
  ![v688.toNat, 112, 0]
def k0_off343 (i : grid0.Coords) (c0_i32_401 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let v697 : BitVec 32 := Scalar.addi v589 c0_i32_401
  let v698 : Index := Scalar.indexCast v697
  let c128_402 : Index := 128#32
  let c0_403 : Index := 0#32
  ![v698.toNat, 128, 0]
def k0_off344 (i : grid0.Coords) (c0_i32_404 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let v707 : BitVec 32 := Scalar.addi v589 c0_i32_404
  let v708 : Index := Scalar.indexCast v707
  let c144 : Index := 144#32
  let c0_405 : Index := 0#32
  ![v708.toNat, 144, 0]
def k0_off345 (i : grid0.Coords) (c0_i32_406 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let v717 : BitVec 32 := Scalar.addi v589 c0_i32_406
  let v718 : Index := Scalar.indexCast v717
  let c160_407 : Index := 160#32
  let c0_408 : Index := 0#32
  ![v718.toNat, 160, 0]
def k0_off346 (i : grid0.Coords) (c0_i32_409 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let v727 : BitVec 32 := Scalar.addi v589 c0_i32_409
  let v728 : Index := Scalar.indexCast v727
  let c176 : Index := 176#32
  let c0_410 : Index := 0#32
  ![v728.toNat, 176, 0]
def k0_off347 (i : grid0.Coords) (c0_i32_411 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let v737 : BitVec 32 := Scalar.addi v589 c0_i32_411
  let v738 : Index := Scalar.indexCast v737
  let c192_412 : Index := 192#32
  let c0_413 : Index := 0#32
  ![v738.toNat, 192, 0]
def k0_off348 (i : grid0.Coords) (c0_i32_414 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let v747 : BitVec 32 := Scalar.addi v589 c0_i32_414
  let v748 : Index := Scalar.indexCast v747
  let c208 : Index := 208#32
  let c0_415 : Index := 0#32
  ![v748.toNat, 208, 0]
def k0_off349 (i : grid0.Coords) (c0_i32_416 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let v757 : BitVec 32 := Scalar.addi v589 c0_i32_416
  let v758 : Index := Scalar.indexCast v757
  let c224_417 : Index := 224#32
  let c0_418 : Index := 0#32
  ![v758.toNat, 224, 0]
def k0_off350 (i : grid0.Coords) (c0_i32_419 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let v767 : BitVec 32 := Scalar.addi v589 c0_i32_419
  let v768 : Index := Scalar.indexCast v767
  let c240 : Index := 240#32
  let c0_420 : Index := 0#32
  ![v768.toNat, 240, 0]
def k0_off351 (i : grid0.Coords) (c0_i32_421 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let v777 : BitVec 32 := Scalar.addi v589 c0_i32_421
  let v778 : Index := Scalar.indexCast v777
  let c256_422 : Index := 256#32
  let c0_423 : Index := 0#32
  ![v778.toNat, 256, 0]
def k0_off352 (i : grid0.Coords) (c0_i32_424 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let v787 : BitVec 32 := Scalar.addi v589 c0_i32_424
  let v788 : Index := Scalar.indexCast v787
  let c272 : Index := 272#32
  let c0_425 : Index := 0#32
  ![v788.toNat, 272, 0]
def k0_off353 (i : grid0.Coords) (c0_i32_426 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let v797 : BitVec 32 := Scalar.addi v589 c0_i32_426
  let v798 : Index := Scalar.indexCast v797
  let c288 : Index := 288#32
  let c0_427 : Index := 0#32
  ![v798.toNat, 288, 0]
def k0_off354 (i : grid0.Coords) (c0_i32_428 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let v807 : BitVec 32 := Scalar.addi v589 c0_i32_428
  let v808 : Index := Scalar.indexCast v807
  let c304 : Index := 304#32
  let c0_429 : Index := 0#32
  ![v808.toNat, 304, 0]
def k0_off355 (i : grid0.Coords) (c0_i32_430 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let v817 : BitVec 32 := Scalar.addi v589 c0_i32_430
  let v818 : Index := Scalar.indexCast v817
  let c320_431 : Index := 320#32
  let c0_432 : Index := 0#32
  ![v818.toNat, 320, 0]
def k0_off356 (i : grid0.Coords) (c0_i32_433 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let v827 : BitVec 32 := Scalar.addi v589 c0_i32_433
  let v828 : Index := Scalar.indexCast v827
  let c336 : Index := 336#32
  let c0_434 : Index := 0#32
  ![v828.toNat, 336, 0]
def k0_off357 (i : grid0.Coords) (c0_i32_435 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let v837 : BitVec 32 := Scalar.addi v589 c0_i32_435
  let v838 : Index := Scalar.indexCast v837
  let c352 : Index := 352#32
  let c0_436 : Index := 0#32
  ![v838.toNat, 352, 0]
def k0_off358 (i : grid0.Coords) (c0_i32_437 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let v847 : BitVec 32 := Scalar.addi v589 c0_i32_437
  let v848 : Index := Scalar.indexCast v847
  let c368 : Index := 368#32
  let c0_438 : Index := 0#32
  ![v848.toNat, 368, 0]
def k0_off359 (i : grid0.Coords) (c0_i32_439 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let v857 : BitVec 32 := Scalar.addi v589 c0_i32_439
  let v858 : Index := Scalar.indexCast v857
  let c384_440 : Index := 384#32
  let c0_441 : Index := 0#32
  ![v858.toNat, 384, 0]
def k0_off360 (i : grid0.Coords) (c0_i32_442 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let v867 : BitVec 32 := Scalar.addi v589 c0_i32_442
  let v868 : Index := Scalar.indexCast v867
  let c400 : Index := 400#32
  let c0_443 : Index := 0#32
  ![v868.toNat, 400, 0]
def k0_off361 (i : grid0.Coords) (c0_i32_444 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let v877 : BitVec 32 := Scalar.addi v589 c0_i32_444
  let v878 : Index := Scalar.indexCast v877
  let c416 : Index := 416#32
  let c0_445 : Index := 0#32
  ![v878.toNat, 416, 0]
def k0_off362 (i : grid0.Coords) (c0_i32_446 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let v887 : BitVec 32 := Scalar.addi v589 c0_i32_446
  let v888 : Index := Scalar.indexCast v887
  let c432 : Index := 432#32
  let c0_447 : Index := 0#32
  ![v888.toNat, 432, 0]
def k0_off363 (i : grid0.Coords) (c0_i32_448 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let v897 : BitVec 32 := Scalar.addi v589 c0_i32_448
  let v898 : Index := Scalar.indexCast v897
  let c448_449 : Index := 448#32
  let c0_450 : Index := 0#32
  ![v898.toNat, 448, 0]
def k0_off364 (i : grid0.Coords) (c0_i32_451 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let v907 : BitVec 32 := Scalar.addi v589 c0_i32_451
  let v908 : Index := Scalar.indexCast v907
  let c464 : Index := 464#32
  let c0_452 : Index := 0#32
  ![v908.toNat, 464, 0]
def k0_off365 (i : grid0.Coords) (c0_i32_453 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let v917 : BitVec 32 := Scalar.addi v589 c0_i32_453
  let v918 : Index := Scalar.indexCast v917
  let c480 : Index := 480#32
  let c0_454 : Index := 0#32
  ![v918.toNat, 480, 0]
def k0_off366 (i : grid0.Coords) (c0_i32_455 : BitVec 32) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let v927 : BitVec 32 := Scalar.addi v589 c0_i32_455
  let v928 : Index := Scalar.indexCast v927
  let c496 : Index := 496#32
  let c0_456 : Index := 0#32
  ![v928.toNat, 496, 0]
def k0_cond10 (i : grid0.Coords) : BitVec 1 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_375 : BitVec 32 := 1#32
  let v597 : BitVec 32 := Scalar.andi v20 c1_i32_375
  let c0_i32_376 : BitVec 32 := 0#32
  let v598 : BitVec 1 := Scalar.cmpi .ne v597 c0_i32_376
  let v599 : BitVec 32 := Scalar.extui v598
  let c0_i32_379 : BitVec 32 := 0#32
  let v600 : BitVec 1 := Scalar.cmpi .ne v599 c0_i32_379
  v600

def k0_off367 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let c2_i32_368 : BitVec 32 := 2#32
  let v590 : BitVec 32 := Scalar.andi v20 c2_i32_368
  let c0_i32_369 : BitVec 32 := 0#32
  let v591 : BitVec 1 := Scalar.cmpi .ne v590 c0_i32_369
  let c2_i32_373 : BitVec 32 := 2#32
  let c0_i32_374 : BitVec 32 := 0#32
  let v595 : BitVec 32 := Scalar.select v591 c2_i32_373 c0_i32_374
  let v596 : BitVec 32 := Scalar.addi v589 v595
  let c0_i32_381 : BitVec 32 := 0#32
  let v617 : BitVec 32 := Scalar.addi v596 c0_i32_381
  let v618 : Index := Scalar.indexCast v617
  let c0_382 : Index := 0#32
  let c0_383 : Index := 0#32
  ![v618.toNat, 0, 0]
def k0_off368 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let c2_i32_368 : BitVec 32 := 2#32
  let v590 : BitVec 32 := Scalar.andi v20 c2_i32_368
  let c0_i32_369 : BitVec 32 := 0#32
  let v591 : BitVec 1 := Scalar.cmpi .ne v590 c0_i32_369
  let c2_i32_373 : BitVec 32 := 2#32
  let c0_i32_374 : BitVec 32 := 0#32
  let v595 : BitVec 32 := Scalar.select v591 c2_i32_373 c0_i32_374
  let v596 : BitVec 32 := Scalar.addi v589 v595
  let c0_i32_384 : BitVec 32 := 0#32
  let v627 : BitVec 32 := Scalar.addi v596 c0_i32_384
  let v628 : Index := Scalar.indexCast v627
  let c16 : Index := 16#32
  let c0_385 : Index := 0#32
  ![v628.toNat, 16, 0]
def k0_off369 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let c2_i32_368 : BitVec 32 := 2#32
  let v590 : BitVec 32 := Scalar.andi v20 c2_i32_368
  let c0_i32_369 : BitVec 32 := 0#32
  let v591 : BitVec 1 := Scalar.cmpi .ne v590 c0_i32_369
  let c2_i32_373 : BitVec 32 := 2#32
  let c0_i32_374 : BitVec 32 := 0#32
  let v595 : BitVec 32 := Scalar.select v591 c2_i32_373 c0_i32_374
  let v596 : BitVec 32 := Scalar.addi v589 v595
  let c0_i32_386 : BitVec 32 := 0#32
  let v637 : BitVec 32 := Scalar.addi v596 c0_i32_386
  let v638 : Index := Scalar.indexCast v637
  let c32_387 : Index := 32#32
  let c0_388 : Index := 0#32
  ![v638.toNat, 32, 0]
def k0_off370 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let c2_i32_368 : BitVec 32 := 2#32
  let v590 : BitVec 32 := Scalar.andi v20 c2_i32_368
  let c0_i32_369 : BitVec 32 := 0#32
  let v591 : BitVec 1 := Scalar.cmpi .ne v590 c0_i32_369
  let c2_i32_373 : BitVec 32 := 2#32
  let c0_i32_374 : BitVec 32 := 0#32
  let v595 : BitVec 32 := Scalar.select v591 c2_i32_373 c0_i32_374
  let v596 : BitVec 32 := Scalar.addi v589 v595
  let c0_i32_389 : BitVec 32 := 0#32
  let v647 : BitVec 32 := Scalar.addi v596 c0_i32_389
  let v648 : Index := Scalar.indexCast v647
  let c48 : Index := 48#32
  let c0_390 : Index := 0#32
  ![v648.toNat, 48, 0]
def k0_off371 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let c2_i32_368 : BitVec 32 := 2#32
  let v590 : BitVec 32 := Scalar.andi v20 c2_i32_368
  let c0_i32_369 : BitVec 32 := 0#32
  let v591 : BitVec 1 := Scalar.cmpi .ne v590 c0_i32_369
  let c2_i32_373 : BitVec 32 := 2#32
  let c0_i32_374 : BitVec 32 := 0#32
  let v595 : BitVec 32 := Scalar.select v591 c2_i32_373 c0_i32_374
  let v596 : BitVec 32 := Scalar.addi v589 v595
  let c0_i32_391 : BitVec 32 := 0#32
  let v657 : BitVec 32 := Scalar.addi v596 c0_i32_391
  let v658 : Index := Scalar.indexCast v657
  let c64_392 : Index := 64#32
  let c0_393 : Index := 0#32
  ![v658.toNat, 64, 0]
def k0_off372 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let c2_i32_368 : BitVec 32 := 2#32
  let v590 : BitVec 32 := Scalar.andi v20 c2_i32_368
  let c0_i32_369 : BitVec 32 := 0#32
  let v591 : BitVec 1 := Scalar.cmpi .ne v590 c0_i32_369
  let c2_i32_373 : BitVec 32 := 2#32
  let c0_i32_374 : BitVec 32 := 0#32
  let v595 : BitVec 32 := Scalar.select v591 c2_i32_373 c0_i32_374
  let v596 : BitVec 32 := Scalar.addi v589 v595
  let c0_i32_394 : BitVec 32 := 0#32
  let v667 : BitVec 32 := Scalar.addi v596 c0_i32_394
  let v668 : Index := Scalar.indexCast v667
  let c80 : Index := 80#32
  let c0_395 : Index := 0#32
  ![v668.toNat, 80, 0]
def k0_off373 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let c2_i32_368 : BitVec 32 := 2#32
  let v590 : BitVec 32 := Scalar.andi v20 c2_i32_368
  let c0_i32_369 : BitVec 32 := 0#32
  let v591 : BitVec 1 := Scalar.cmpi .ne v590 c0_i32_369
  let c2_i32_373 : BitVec 32 := 2#32
  let c0_i32_374 : BitVec 32 := 0#32
  let v595 : BitVec 32 := Scalar.select v591 c2_i32_373 c0_i32_374
  let v596 : BitVec 32 := Scalar.addi v589 v595
  let c0_i32_396 : BitVec 32 := 0#32
  let v677 : BitVec 32 := Scalar.addi v596 c0_i32_396
  let v678 : Index := Scalar.indexCast v677
  let c96_397 : Index := 96#32
  let c0_398 : Index := 0#32
  ![v678.toNat, 96, 0]
def k0_off374 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let c2_i32_368 : BitVec 32 := 2#32
  let v590 : BitVec 32 := Scalar.andi v20 c2_i32_368
  let c0_i32_369 : BitVec 32 := 0#32
  let v591 : BitVec 1 := Scalar.cmpi .ne v590 c0_i32_369
  let c2_i32_373 : BitVec 32 := 2#32
  let c0_i32_374 : BitVec 32 := 0#32
  let v595 : BitVec 32 := Scalar.select v591 c2_i32_373 c0_i32_374
  let v596 : BitVec 32 := Scalar.addi v589 v595
  let c0_i32_399 : BitVec 32 := 0#32
  let v687 : BitVec 32 := Scalar.addi v596 c0_i32_399
  let v688 : Index := Scalar.indexCast v687
  let c112 : Index := 112#32
  let c0_400 : Index := 0#32
  ![v688.toNat, 112, 0]
def k0_off375 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let c2_i32_368 : BitVec 32 := 2#32
  let v590 : BitVec 32 := Scalar.andi v20 c2_i32_368
  let c0_i32_369 : BitVec 32 := 0#32
  let v591 : BitVec 1 := Scalar.cmpi .ne v590 c0_i32_369
  let c2_i32_373 : BitVec 32 := 2#32
  let c0_i32_374 : BitVec 32 := 0#32
  let v595 : BitVec 32 := Scalar.select v591 c2_i32_373 c0_i32_374
  let v596 : BitVec 32 := Scalar.addi v589 v595
  let c0_i32_401 : BitVec 32 := 0#32
  let v697 : BitVec 32 := Scalar.addi v596 c0_i32_401
  let v698 : Index := Scalar.indexCast v697
  let c128_402 : Index := 128#32
  let c0_403 : Index := 0#32
  ![v698.toNat, 128, 0]
def k0_off376 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let c2_i32_368 : BitVec 32 := 2#32
  let v590 : BitVec 32 := Scalar.andi v20 c2_i32_368
  let c0_i32_369 : BitVec 32 := 0#32
  let v591 : BitVec 1 := Scalar.cmpi .ne v590 c0_i32_369
  let c2_i32_373 : BitVec 32 := 2#32
  let c0_i32_374 : BitVec 32 := 0#32
  let v595 : BitVec 32 := Scalar.select v591 c2_i32_373 c0_i32_374
  let v596 : BitVec 32 := Scalar.addi v589 v595
  let c0_i32_404 : BitVec 32 := 0#32
  let v707 : BitVec 32 := Scalar.addi v596 c0_i32_404
  let v708 : Index := Scalar.indexCast v707
  let c144 : Index := 144#32
  let c0_405 : Index := 0#32
  ![v708.toNat, 144, 0]
def k0_off377 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let c2_i32_368 : BitVec 32 := 2#32
  let v590 : BitVec 32 := Scalar.andi v20 c2_i32_368
  let c0_i32_369 : BitVec 32 := 0#32
  let v591 : BitVec 1 := Scalar.cmpi .ne v590 c0_i32_369
  let c2_i32_373 : BitVec 32 := 2#32
  let c0_i32_374 : BitVec 32 := 0#32
  let v595 : BitVec 32 := Scalar.select v591 c2_i32_373 c0_i32_374
  let v596 : BitVec 32 := Scalar.addi v589 v595
  let c0_i32_406 : BitVec 32 := 0#32
  let v717 : BitVec 32 := Scalar.addi v596 c0_i32_406
  let v718 : Index := Scalar.indexCast v717
  let c160_407 : Index := 160#32
  let c0_408 : Index := 0#32
  ![v718.toNat, 160, 0]
def k0_off378 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let c2_i32_368 : BitVec 32 := 2#32
  let v590 : BitVec 32 := Scalar.andi v20 c2_i32_368
  let c0_i32_369 : BitVec 32 := 0#32
  let v591 : BitVec 1 := Scalar.cmpi .ne v590 c0_i32_369
  let c2_i32_373 : BitVec 32 := 2#32
  let c0_i32_374 : BitVec 32 := 0#32
  let v595 : BitVec 32 := Scalar.select v591 c2_i32_373 c0_i32_374
  let v596 : BitVec 32 := Scalar.addi v589 v595
  let c0_i32_409 : BitVec 32 := 0#32
  let v727 : BitVec 32 := Scalar.addi v596 c0_i32_409
  let v728 : Index := Scalar.indexCast v727
  let c176 : Index := 176#32
  let c0_410 : Index := 0#32
  ![v728.toNat, 176, 0]
def k0_off379 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let c2_i32_368 : BitVec 32 := 2#32
  let v590 : BitVec 32 := Scalar.andi v20 c2_i32_368
  let c0_i32_369 : BitVec 32 := 0#32
  let v591 : BitVec 1 := Scalar.cmpi .ne v590 c0_i32_369
  let c2_i32_373 : BitVec 32 := 2#32
  let c0_i32_374 : BitVec 32 := 0#32
  let v595 : BitVec 32 := Scalar.select v591 c2_i32_373 c0_i32_374
  let v596 : BitVec 32 := Scalar.addi v589 v595
  let c0_i32_411 : BitVec 32 := 0#32
  let v737 : BitVec 32 := Scalar.addi v596 c0_i32_411
  let v738 : Index := Scalar.indexCast v737
  let c192_412 : Index := 192#32
  let c0_413 : Index := 0#32
  ![v738.toNat, 192, 0]
def k0_off380 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let c2_i32_368 : BitVec 32 := 2#32
  let v590 : BitVec 32 := Scalar.andi v20 c2_i32_368
  let c0_i32_369 : BitVec 32 := 0#32
  let v591 : BitVec 1 := Scalar.cmpi .ne v590 c0_i32_369
  let c2_i32_373 : BitVec 32 := 2#32
  let c0_i32_374 : BitVec 32 := 0#32
  let v595 : BitVec 32 := Scalar.select v591 c2_i32_373 c0_i32_374
  let v596 : BitVec 32 := Scalar.addi v589 v595
  let c0_i32_414 : BitVec 32 := 0#32
  let v747 : BitVec 32 := Scalar.addi v596 c0_i32_414
  let v748 : Index := Scalar.indexCast v747
  let c208 : Index := 208#32
  let c0_415 : Index := 0#32
  ![v748.toNat, 208, 0]
def k0_off381 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let c2_i32_368 : BitVec 32 := 2#32
  let v590 : BitVec 32 := Scalar.andi v20 c2_i32_368
  let c0_i32_369 : BitVec 32 := 0#32
  let v591 : BitVec 1 := Scalar.cmpi .ne v590 c0_i32_369
  let c2_i32_373 : BitVec 32 := 2#32
  let c0_i32_374 : BitVec 32 := 0#32
  let v595 : BitVec 32 := Scalar.select v591 c2_i32_373 c0_i32_374
  let v596 : BitVec 32 := Scalar.addi v589 v595
  let c0_i32_416 : BitVec 32 := 0#32
  let v757 : BitVec 32 := Scalar.addi v596 c0_i32_416
  let v758 : Index := Scalar.indexCast v757
  let c224_417 : Index := 224#32
  let c0_418 : Index := 0#32
  ![v758.toNat, 224, 0]
def k0_off382 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let c2_i32_368 : BitVec 32 := 2#32
  let v590 : BitVec 32 := Scalar.andi v20 c2_i32_368
  let c0_i32_369 : BitVec 32 := 0#32
  let v591 : BitVec 1 := Scalar.cmpi .ne v590 c0_i32_369
  let c2_i32_373 : BitVec 32 := 2#32
  let c0_i32_374 : BitVec 32 := 0#32
  let v595 : BitVec 32 := Scalar.select v591 c2_i32_373 c0_i32_374
  let v596 : BitVec 32 := Scalar.addi v589 v595
  let c0_i32_419 : BitVec 32 := 0#32
  let v767 : BitVec 32 := Scalar.addi v596 c0_i32_419
  let v768 : Index := Scalar.indexCast v767
  let c240 : Index := 240#32
  let c0_420 : Index := 0#32
  ![v768.toNat, 240, 0]
def k0_off383 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let c2_i32_368 : BitVec 32 := 2#32
  let v590 : BitVec 32 := Scalar.andi v20 c2_i32_368
  let c0_i32_369 : BitVec 32 := 0#32
  let v591 : BitVec 1 := Scalar.cmpi .ne v590 c0_i32_369
  let c2_i32_373 : BitVec 32 := 2#32
  let c0_i32_374 : BitVec 32 := 0#32
  let v595 : BitVec 32 := Scalar.select v591 c2_i32_373 c0_i32_374
  let v596 : BitVec 32 := Scalar.addi v589 v595
  let c0_i32_421 : BitVec 32 := 0#32
  let v777 : BitVec 32 := Scalar.addi v596 c0_i32_421
  let v778 : Index := Scalar.indexCast v777
  let c256_422 : Index := 256#32
  let c0_423 : Index := 0#32
  ![v778.toNat, 256, 0]
def k0_off384 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let c2_i32_368 : BitVec 32 := 2#32
  let v590 : BitVec 32 := Scalar.andi v20 c2_i32_368
  let c0_i32_369 : BitVec 32 := 0#32
  let v591 : BitVec 1 := Scalar.cmpi .ne v590 c0_i32_369
  let c2_i32_373 : BitVec 32 := 2#32
  let c0_i32_374 : BitVec 32 := 0#32
  let v595 : BitVec 32 := Scalar.select v591 c2_i32_373 c0_i32_374
  let v596 : BitVec 32 := Scalar.addi v589 v595
  let c0_i32_424 : BitVec 32 := 0#32
  let v787 : BitVec 32 := Scalar.addi v596 c0_i32_424
  let v788 : Index := Scalar.indexCast v787
  let c272 : Index := 272#32
  let c0_425 : Index := 0#32
  ![v788.toNat, 272, 0]
def k0_off385 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let c2_i32_368 : BitVec 32 := 2#32
  let v590 : BitVec 32 := Scalar.andi v20 c2_i32_368
  let c0_i32_369 : BitVec 32 := 0#32
  let v591 : BitVec 1 := Scalar.cmpi .ne v590 c0_i32_369
  let c2_i32_373 : BitVec 32 := 2#32
  let c0_i32_374 : BitVec 32 := 0#32
  let v595 : BitVec 32 := Scalar.select v591 c2_i32_373 c0_i32_374
  let v596 : BitVec 32 := Scalar.addi v589 v595
  let c0_i32_426 : BitVec 32 := 0#32
  let v797 : BitVec 32 := Scalar.addi v596 c0_i32_426
  let v798 : Index := Scalar.indexCast v797
  let c288 : Index := 288#32
  let c0_427 : Index := 0#32
  ![v798.toNat, 288, 0]
def k0_off386 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let c2_i32_368 : BitVec 32 := 2#32
  let v590 : BitVec 32 := Scalar.andi v20 c2_i32_368
  let c0_i32_369 : BitVec 32 := 0#32
  let v591 : BitVec 1 := Scalar.cmpi .ne v590 c0_i32_369
  let c2_i32_373 : BitVec 32 := 2#32
  let c0_i32_374 : BitVec 32 := 0#32
  let v595 : BitVec 32 := Scalar.select v591 c2_i32_373 c0_i32_374
  let v596 : BitVec 32 := Scalar.addi v589 v595
  let c0_i32_428 : BitVec 32 := 0#32
  let v807 : BitVec 32 := Scalar.addi v596 c0_i32_428
  let v808 : Index := Scalar.indexCast v807
  let c304 : Index := 304#32
  let c0_429 : Index := 0#32
  ![v808.toNat, 304, 0]
def k0_off387 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let c2_i32_368 : BitVec 32 := 2#32
  let v590 : BitVec 32 := Scalar.andi v20 c2_i32_368
  let c0_i32_369 : BitVec 32 := 0#32
  let v591 : BitVec 1 := Scalar.cmpi .ne v590 c0_i32_369
  let c2_i32_373 : BitVec 32 := 2#32
  let c0_i32_374 : BitVec 32 := 0#32
  let v595 : BitVec 32 := Scalar.select v591 c2_i32_373 c0_i32_374
  let v596 : BitVec 32 := Scalar.addi v589 v595
  let c0_i32_430 : BitVec 32 := 0#32
  let v817 : BitVec 32 := Scalar.addi v596 c0_i32_430
  let v818 : Index := Scalar.indexCast v817
  let c320_431 : Index := 320#32
  let c0_432 : Index := 0#32
  ![v818.toNat, 320, 0]
def k0_off388 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let c2_i32_368 : BitVec 32 := 2#32
  let v590 : BitVec 32 := Scalar.andi v20 c2_i32_368
  let c0_i32_369 : BitVec 32 := 0#32
  let v591 : BitVec 1 := Scalar.cmpi .ne v590 c0_i32_369
  let c2_i32_373 : BitVec 32 := 2#32
  let c0_i32_374 : BitVec 32 := 0#32
  let v595 : BitVec 32 := Scalar.select v591 c2_i32_373 c0_i32_374
  let v596 : BitVec 32 := Scalar.addi v589 v595
  let c0_i32_433 : BitVec 32 := 0#32
  let v827 : BitVec 32 := Scalar.addi v596 c0_i32_433
  let v828 : Index := Scalar.indexCast v827
  let c336 : Index := 336#32
  let c0_434 : Index := 0#32
  ![v828.toNat, 336, 0]
def k0_off389 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let c2_i32_368 : BitVec 32 := 2#32
  let v590 : BitVec 32 := Scalar.andi v20 c2_i32_368
  let c0_i32_369 : BitVec 32 := 0#32
  let v591 : BitVec 1 := Scalar.cmpi .ne v590 c0_i32_369
  let c2_i32_373 : BitVec 32 := 2#32
  let c0_i32_374 : BitVec 32 := 0#32
  let v595 : BitVec 32 := Scalar.select v591 c2_i32_373 c0_i32_374
  let v596 : BitVec 32 := Scalar.addi v589 v595
  let c0_i32_435 : BitVec 32 := 0#32
  let v837 : BitVec 32 := Scalar.addi v596 c0_i32_435
  let v838 : Index := Scalar.indexCast v837
  let c352 : Index := 352#32
  let c0_436 : Index := 0#32
  ![v838.toNat, 352, 0]
def k0_off390 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let c2_i32_368 : BitVec 32 := 2#32
  let v590 : BitVec 32 := Scalar.andi v20 c2_i32_368
  let c0_i32_369 : BitVec 32 := 0#32
  let v591 : BitVec 1 := Scalar.cmpi .ne v590 c0_i32_369
  let c2_i32_373 : BitVec 32 := 2#32
  let c0_i32_374 : BitVec 32 := 0#32
  let v595 : BitVec 32 := Scalar.select v591 c2_i32_373 c0_i32_374
  let v596 : BitVec 32 := Scalar.addi v589 v595
  let c0_i32_437 : BitVec 32 := 0#32
  let v847 : BitVec 32 := Scalar.addi v596 c0_i32_437
  let v848 : Index := Scalar.indexCast v847
  let c368 : Index := 368#32
  let c0_438 : Index := 0#32
  ![v848.toNat, 368, 0]
def k0_off391 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let c2_i32_368 : BitVec 32 := 2#32
  let v590 : BitVec 32 := Scalar.andi v20 c2_i32_368
  let c0_i32_369 : BitVec 32 := 0#32
  let v591 : BitVec 1 := Scalar.cmpi .ne v590 c0_i32_369
  let c2_i32_373 : BitVec 32 := 2#32
  let c0_i32_374 : BitVec 32 := 0#32
  let v595 : BitVec 32 := Scalar.select v591 c2_i32_373 c0_i32_374
  let v596 : BitVec 32 := Scalar.addi v589 v595
  let c0_i32_439 : BitVec 32 := 0#32
  let v857 : BitVec 32 := Scalar.addi v596 c0_i32_439
  let v858 : Index := Scalar.indexCast v857
  let c384_440 : Index := 384#32
  let c0_441 : Index := 0#32
  ![v858.toNat, 384, 0]
def k0_off392 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let c2_i32_368 : BitVec 32 := 2#32
  let v590 : BitVec 32 := Scalar.andi v20 c2_i32_368
  let c0_i32_369 : BitVec 32 := 0#32
  let v591 : BitVec 1 := Scalar.cmpi .ne v590 c0_i32_369
  let c2_i32_373 : BitVec 32 := 2#32
  let c0_i32_374 : BitVec 32 := 0#32
  let v595 : BitVec 32 := Scalar.select v591 c2_i32_373 c0_i32_374
  let v596 : BitVec 32 := Scalar.addi v589 v595
  let c0_i32_442 : BitVec 32 := 0#32
  let v867 : BitVec 32 := Scalar.addi v596 c0_i32_442
  let v868 : Index := Scalar.indexCast v867
  let c400 : Index := 400#32
  let c0_443 : Index := 0#32
  ![v868.toNat, 400, 0]
def k0_off393 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let c2_i32_368 : BitVec 32 := 2#32
  let v590 : BitVec 32 := Scalar.andi v20 c2_i32_368
  let c0_i32_369 : BitVec 32 := 0#32
  let v591 : BitVec 1 := Scalar.cmpi .ne v590 c0_i32_369
  let c2_i32_373 : BitVec 32 := 2#32
  let c0_i32_374 : BitVec 32 := 0#32
  let v595 : BitVec 32 := Scalar.select v591 c2_i32_373 c0_i32_374
  let v596 : BitVec 32 := Scalar.addi v589 v595
  let c0_i32_444 : BitVec 32 := 0#32
  let v877 : BitVec 32 := Scalar.addi v596 c0_i32_444
  let v878 : Index := Scalar.indexCast v877
  let c416 : Index := 416#32
  let c0_445 : Index := 0#32
  ![v878.toNat, 416, 0]
def k0_off394 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let c2_i32_368 : BitVec 32 := 2#32
  let v590 : BitVec 32 := Scalar.andi v20 c2_i32_368
  let c0_i32_369 : BitVec 32 := 0#32
  let v591 : BitVec 1 := Scalar.cmpi .ne v590 c0_i32_369
  let c2_i32_373 : BitVec 32 := 2#32
  let c0_i32_374 : BitVec 32 := 0#32
  let v595 : BitVec 32 := Scalar.select v591 c2_i32_373 c0_i32_374
  let v596 : BitVec 32 := Scalar.addi v589 v595
  let c0_i32_446 : BitVec 32 := 0#32
  let v887 : BitVec 32 := Scalar.addi v596 c0_i32_446
  let v888 : Index := Scalar.indexCast v887
  let c432 : Index := 432#32
  let c0_447 : Index := 0#32
  ![v888.toNat, 432, 0]
def k0_off395 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let c2_i32_368 : BitVec 32 := 2#32
  let v590 : BitVec 32 := Scalar.andi v20 c2_i32_368
  let c0_i32_369 : BitVec 32 := 0#32
  let v591 : BitVec 1 := Scalar.cmpi .ne v590 c0_i32_369
  let c2_i32_373 : BitVec 32 := 2#32
  let c0_i32_374 : BitVec 32 := 0#32
  let v595 : BitVec 32 := Scalar.select v591 c2_i32_373 c0_i32_374
  let v596 : BitVec 32 := Scalar.addi v589 v595
  let c0_i32_448 : BitVec 32 := 0#32
  let v897 : BitVec 32 := Scalar.addi v596 c0_i32_448
  let v898 : Index := Scalar.indexCast v897
  let c448_449 : Index := 448#32
  let c0_450 : Index := 0#32
  ![v898.toNat, 448, 0]
def k0_off396 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let c2_i32_368 : BitVec 32 := 2#32
  let v590 : BitVec 32 := Scalar.andi v20 c2_i32_368
  let c0_i32_369 : BitVec 32 := 0#32
  let v591 : BitVec 1 := Scalar.cmpi .ne v590 c0_i32_369
  let c2_i32_373 : BitVec 32 := 2#32
  let c0_i32_374 : BitVec 32 := 0#32
  let v595 : BitVec 32 := Scalar.select v591 c2_i32_373 c0_i32_374
  let v596 : BitVec 32 := Scalar.addi v589 v595
  let c0_i32_451 : BitVec 32 := 0#32
  let v907 : BitVec 32 := Scalar.addi v596 c0_i32_451
  let v908 : Index := Scalar.indexCast v907
  let c464 : Index := 464#32
  let c0_452 : Index := 0#32
  ![v908.toNat, 464, 0]
def k0_off397 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let c2_i32_368 : BitVec 32 := 2#32
  let v590 : BitVec 32 := Scalar.andi v20 c2_i32_368
  let c0_i32_369 : BitVec 32 := 0#32
  let v591 : BitVec 1 := Scalar.cmpi .ne v590 c0_i32_369
  let c2_i32_373 : BitVec 32 := 2#32
  let c0_i32_374 : BitVec 32 := 0#32
  let v595 : BitVec 32 := Scalar.select v591 c2_i32_373 c0_i32_374
  let v596 : BitVec 32 := Scalar.addi v589 v595
  let c0_i32_453 : BitVec 32 := 0#32
  let v917 : BitVec 32 := Scalar.addi v596 c0_i32_453
  let v918 : Index := Scalar.indexCast v917
  let c480 : Index := 480#32
  let c0_454 : Index := 0#32
  ![v918.toNat, 480, 0]
def k0_off398 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_361 : BitVec 32 := 0#32
  let v573 : BitVec 1 := Scalar.cmpi .sgt v20 c0_i32_361
  let v574 : BitVec 32 := Scalar.extui v573
  let c0_i32_362 : BitVec 32 := 0#32
  let v575 : BitVec 1 := Scalar.cmpi .slt v20 c0_i32_362
  let v576 : BitVec 32 := Scalar.extui v575
  let v577 : BitVec 32 := Scalar.subi v574 v576
  let c4_i32_360 : BitVec 32 := 4#32
  let c0_i32_363 : BitVec 32 := 0#32
  let v578 : BitVec 1 := Scalar.cmpi .sgt c4_i32_360 c0_i32_363
  let v579 : BitVec 32 := Scalar.extui v578
  let c0_i32_364 : BitVec 32 := 0#32
  let v580 : BitVec 1 := Scalar.cmpi .slt c4_i32_360 c0_i32_364
  let v581 : BitVec 32 := Scalar.extui v580
  let v582 : BitVec 32 := Scalar.subi v579 v581
  let v583 : BitVec 1 := Scalar.cmpi .ne v577 v582
  let v584 : BitVec 32 := Scalar.remsi v20 c4_i32_360
  let c0_i32_365 : BitVec 32 := 0#32
  let v585 : BitVec 1 := Scalar.cmpi .ne v584 c0_i32_365
  let v586 : BitVec 1 := Scalar.andi v583 v585
  let v572 : BitVec 32 := Scalar.divsi v20 c4_i32_360
  let c1_i32_366 : BitVec 32 := 1#32
  let v587 : BitVec 32 := Scalar.subi v572 c1_i32_366
  let v588 : BitVec 32 := Scalar.select v586 v587 v572
  let c4_i32_367 : BitVec 32 := 4#32
  let v589 : BitVec 32 := Scalar.muli v588 c4_i32_367
  let c2_i32_368 : BitVec 32 := 2#32
  let v590 : BitVec 32 := Scalar.andi v20 c2_i32_368
  let c0_i32_369 : BitVec 32 := 0#32
  let v591 : BitVec 1 := Scalar.cmpi .ne v590 c0_i32_369
  let c2_i32_373 : BitVec 32 := 2#32
  let c0_i32_374 : BitVec 32 := 0#32
  let v595 : BitVec 32 := Scalar.select v591 c2_i32_373 c0_i32_374
  let v596 : BitVec 32 := Scalar.addi v589 v595
  let c0_i32_455 : BitVec 32 := 0#32
  let v927 : BitVec 32 := Scalar.addi v596 c0_i32_455
  let v928 : Index := Scalar.indexCast v927
  let c496 : Index := 496#32
  let c0_456 : Index := 0#32
  ![v928.toNat, 496, 0]
@[reducible] def k0_t14_loop (i : grid0.Coords) : Scf.Loop 32 :=
  let c0_i32_276 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v471 : BitVec 32 := Scalar.subi v20 c0_i32_276
  let c1_i32_277 : BitVec 32 := 1#32
  let v473 : BitVec 32 := Scalar.divsi v471 c1_i32_277
  let v474 : BitVec 32 := Scalar.muli v473 c1_i32_277
  let v475 : BitVec 32 := Scalar.addi c0_i32_276 v474
  let c1_i32_278 : BitVec 32 := 1#32
  ⟨c0_i32_276, v475, c1_i32_278⟩
def k0_off399 (i : grid0.Coords) (k0_t14 : Fin (k0_t14_loop i).trips) : Fin 3 → Nat :=
  let c0_i32_276 : BitVec 32 := 0#32
  let c1_i32_278 : BitVec 32 := 1#32
  let arg19 : BitVec 32 := Scf.iv c0_i32_276 c1_i32_278 k0_t14
  let v478 : Index := Scalar.indexCast arg19
  let c0_280 : Index := 0#32
  let c0_281 : Index := 0#32
  ![v478.toNat, 0, 0]
@[reducible] def k0_t15_loop (i : grid0.Coords) : Scf.Loop 32 :=
  let c0_i32_276 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v471 : BitVec 32 := Scalar.subi v20 c0_i32_276
  let c1_i32_277 : BitVec 32 := 1#32
  let v473 : BitVec 32 := Scalar.divsi v471 c1_i32_277
  let v474 : BitVec 32 := Scalar.muli v473 c1_i32_277
  let v475 : BitVec 32 := Scalar.addi c0_i32_276 v474
  let v472 : BitVec 32 := Scalar.addi c0_i32_276 v471
  let c1_i32_279 : BitVec 32 := 1#32
  ⟨v475, v472, c1_i32_279⟩
def k0_off400 (i : grid0.Coords) (k0_t15 : Fin (k0_t15_loop i).trips) : Fin 3 → Nat :=
  let c0_i32_276 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v471 : BitVec 32 := Scalar.subi v20 c0_i32_276
  let c1_i32_277 : BitVec 32 := 1#32
  let v473 : BitVec 32 := Scalar.divsi v471 c1_i32_277
  let v474 : BitVec 32 := Scalar.muli v473 c1_i32_277
  let v475 : BitVec 32 := Scalar.addi c0_i32_276 v474
  let c1_i32_279 : BitVec 32 := 1#32
  let arg19 : BitVec 32 := Scf.iv v475 c1_i32_279 k0_t15
  let v478 : Index := Scalar.indexCast arg19
  let c0_280 : Index := 0#32
  let c0_281 : Index := 0#32
  ![v478.toNat, 0, 0]
def k0_mult7 : BitVec 32 :=
  let c0_i32_195 : BitVec 32 := 0#32
  c0_i32_195
@[reducible] def k0_t16_loop (i : grid0.Coords) : Scf.Loop 32 :=
  let c0_i32_222 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_212 : BitVec 32 := 0#32
  let v368 : BitVec 1 := Scalar.cmpi .sgt v20 c0_i32_212
  let v369 : BitVec 32 := Scalar.extui v368
  let c0_i32_213 : BitVec 32 := 0#32
  let v370 : BitVec 1 := Scalar.cmpi .slt v20 c0_i32_213
  let v371 : BitVec 32 := Scalar.extui v370
  let v372 : BitVec 32 := Scalar.subi v369 v371
  let c2_i32_211 : BitVec 32 := 2#32
  let c0_i32_214 : BitVec 32 := 0#32
  let v373 : BitVec 1 := Scalar.cmpi .sgt c2_i32_211 c0_i32_214
  let v374 : BitVec 32 := Scalar.extui v373
  let c0_i32_215 : BitVec 32 := 0#32
  let v375 : BitVec 1 := Scalar.cmpi .slt c2_i32_211 c0_i32_215
  let v376 : BitVec 32 := Scalar.extui v375
  let v377 : BitVec 32 := Scalar.subi v374 v376
  let v378 : BitVec 1 := Scalar.cmpi .ne v372 v377
  let v379 : BitVec 32 := Scalar.remsi v20 c2_i32_211
  let c0_i32_216 : BitVec 32 := 0#32
  let v380 : BitVec 1 := Scalar.cmpi .ne v379 c0_i32_216
  let v381 : BitVec 1 := Scalar.andi v378 v380
  let v367 : BitVec 32 := Scalar.divsi v20 c2_i32_211
  let c1_i32_217 : BitVec 32 := 1#32
  let v382 : BitVec 32 := Scalar.subi v367 c1_i32_217
  let v383 : BitVec 32 := Scalar.select v381 v382 v367
  let v388 : BitVec 32 := Scalar.subi v383 c0_i32_222
  let c1_i32_223 : BitVec 32 := 1#32
  let v390 : BitVec 32 := Scalar.divsi v388 c1_i32_223
  let v391 : BitVec 32 := Scalar.muli v390 c1_i32_223
  let v392 : BitVec 32 := Scalar.addi c0_i32_222 v391
  let c1_i32_224 : BitVec 32 := 1#32
  ⟨c0_i32_222, v392, c1_i32_224⟩
def k0_mult8 (i : grid0.Coords) (k0_t16 : Fin (k0_t16_loop i).trips) : BitVec 32 :=
  let c2_i32_271 : BitVec 32 := 2#32
  let c0_i32_222 : BitVec 32 := 0#32
  let c1_i32_224 : BitVec 32 := 1#32
  let arg19 : BitVec 32 := Scf.iv c0_i32_222 c1_i32_224 k0_t16
  let v462 : BitVec 32 := Scalar.muli c2_i32_271 arg19
  let c1_i32_272 : BitVec 32 := 1#32
  let v463 : BitVec 32 := Scalar.addi v462 c1_i32_272
  let c512_i32_273 : BitVec 32 := 512#32
  let v464 : BitVec 32 := Scalar.muli v463 c512_i32_273
  v464
def k0_off401 (i : grid0.Coords) (k0_t16 : Fin (k0_t16_loop i).trips) : Fin 3 → Nat :=
  let c2_i32_271 : BitVec 32 := 2#32
  let c0_i32_222 : BitVec 32 := 0#32
  let c1_i32_224 : BitVec 32 := 1#32
  let arg19 : BitVec 32 := Scf.iv c0_i32_222 c1_i32_224 k0_t16
  let v462 : BitVec 32 := Scalar.muli c2_i32_271 arg19
  let c1_i32_272 : BitVec 32 := 1#32
  let v463 : BitVec 32 := Scalar.addi v462 c1_i32_272
  let v466 : Index := Scalar.indexCast v463
  let c0_274 : Index := 0#32
  let c0_275 : Index := 0#32
  ![v466.toNat, 0, 0]
def k0_off402 (i : grid0.Coords) (k0_t16 : Fin (k0_t16_loop i).trips) : Fin 3 → Nat :=
  let c0_280 : Index := 0#32
  let c2_i32_271 : BitVec 32 := 2#32
  let c0_i32_222 : BitVec 32 := 0#32
  let c1_i32_224 : BitVec 32 := 1#32
  let arg19 : BitVec 32 := Scf.iv c0_i32_222 c1_i32_224 k0_t16
  let v462 : BitVec 32 := Scalar.muli c2_i32_271 arg19
  let c1_i32_272 : BitVec 32 := 1#32
  let v463 : BitVec 32 := Scalar.addi v462 c1_i32_272
  let c512_i32_273 : BitVec 32 := 512#32
  let v464 : BitVec 32 := Scalar.muli v463 c512_i32_273
  let v465 : BitVec 32 := v464
  let v483 : Index := Scalar.indexCast v465
  let c0_281 : Index := 0#32
  ![0, v483.toNat, 0]
def k0_off403 (i : grid0.Coords) (k0_t16 : Fin (k0_t16_loop i).trips) : Fin 4 → Nat :=
  let c0_282 : Index := 0#32
  let c2_i32_270 : BitVec 32 := 2#32
  let c0_i32_222 : BitVec 32 := 0#32
  let c1_i32_224 : BitVec 32 := 1#32
  let arg19 : BitVec 32 := Scf.iv c0_i32_222 c1_i32_224 k0_t16
  let v461 : BitVec 32 := Scalar.muli c2_i32_270 arg19
  let v487 : Index := Scalar.indexCast v461
  let c0_283 : Index := 0#32
  let c0_284 : Index := 0#32
  ![0, v487.toNat, 0, 0]
def k0_mult9 (i : grid0.Coords) (k0_t16 : Fin (k0_t16_loop i).trips) : BitVec 32 :=
  let c2_i32_339 : BitVec 32 := 2#32
  let c0_i32_222 : BitVec 32 := 0#32
  let c1_i32_224 : BitVec 32 := 1#32
  let arg19 : BitVec 32 := Scf.iv c0_i32_222 c1_i32_224 k0_t16
  let v584 : BitVec 32 := Scalar.muli c2_i32_339 arg19
  let c2_i32_340 : BitVec 32 := 2#32
  let v585 : BitVec 32 := Scalar.addi v584 c2_i32_340
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_194 : BitVec 32 := 1#32
  let v341 : BitVec 32 := Scalar.subi v20 c1_i32_194
  let v586 : BitVec 32 := Scalar.minsi v585 v341
  let c512_i32_341 : BitVec 32 := 512#32
  let v587 : BitVec 32 := Scalar.muli v586 c512_i32_341
  v587
def k0_off404 (i : grid0.Coords) (k0_t16 : Fin (k0_t16_loop i).trips) : Fin 3 → Nat :=
  let c2_i32_339 : BitVec 32 := 2#32
  let c0_i32_222 : BitVec 32 := 0#32
  let c1_i32_224 : BitVec 32 := 1#32
  let arg19 : BitVec 32 := Scf.iv c0_i32_222 c1_i32_224 k0_t16
  let v584 : BitVec 32 := Scalar.muli c2_i32_339 arg19
  let c2_i32_340 : BitVec 32 := 2#32
  let v585 : BitVec 32 := Scalar.addi v584 c2_i32_340
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_194 : BitVec 32 := 1#32
  let v341 : BitVec 32 := Scalar.subi v20 c1_i32_194
  let v586 : BitVec 32 := Scalar.minsi v585 v341
  let v589 : Index := Scalar.indexCast v586
  let c0_342 : Index := 0#32
  let c0_343 : Index := 0#32
  ![v589.toNat, 0, 0]
def k0_off405 (i : grid0.Coords) (k0_t16 : Fin (k0_t16_loop i).trips) : Fin 3 → Nat :=
  let c0_348 : Index := 0#32
  let c2_i32_339 : BitVec 32 := 2#32
  let c0_i32_222 : BitVec 32 := 0#32
  let c1_i32_224 : BitVec 32 := 1#32
  let arg19 : BitVec 32 := Scf.iv c0_i32_222 c1_i32_224 k0_t16
  let v584 : BitVec 32 := Scalar.muli c2_i32_339 arg19
  let c2_i32_340 : BitVec 32 := 2#32
  let v585 : BitVec 32 := Scalar.addi v584 c2_i32_340
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_194 : BitVec 32 := 1#32
  let v341 : BitVec 32 := Scalar.subi v20 c1_i32_194
  let v586 : BitVec 32 := Scalar.minsi v585 v341
  let c512_i32_341 : BitVec 32 := 512#32
  let v587 : BitVec 32 := Scalar.muli v586 c512_i32_341
  let v588 : BitVec 32 := v587
  let v606 : Index := Scalar.indexCast v588
  let c0_349 : Index := 0#32
  ![0, v606.toNat, 0]
def k0_off406 (i : grid0.Coords) (k0_t16 : Fin (k0_t16_loop i).trips) : Fin 4 → Nat :=
  let c0_350 : Index := 0#32
  let c2_i32_337 : BitVec 32 := 2#32
  let c0_i32_222 : BitVec 32 := 0#32
  let c1_i32_224 : BitVec 32 := 1#32
  let arg19 : BitVec 32 := Scf.iv c0_i32_222 c1_i32_224 k0_t16
  let v582 : BitVec 32 := Scalar.muli c2_i32_337 arg19
  let c1_i32_338 : BitVec 32 := 1#32
  let v583 : BitVec 32 := Scalar.addi v582 c1_i32_338
  let v610 : Index := Scalar.indexCast v583
  let c0_351 : Index := 0#32
  let c0_352 : Index := 0#32
  ![0, v610.toNat, 0, 0]
@[reducible] def k0_t17_loop (i : grid0.Coords) : Scf.Loop 32 :=
  let c0_i32_222 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_212 : BitVec 32 := 0#32
  let v368 : BitVec 1 := Scalar.cmpi .sgt v20 c0_i32_212
  let v369 : BitVec 32 := Scalar.extui v368
  let c0_i32_213 : BitVec 32 := 0#32
  let v370 : BitVec 1 := Scalar.cmpi .slt v20 c0_i32_213
  let v371 : BitVec 32 := Scalar.extui v370
  let v372 : BitVec 32 := Scalar.subi v369 v371
  let c2_i32_211 : BitVec 32 := 2#32
  let c0_i32_214 : BitVec 32 := 0#32
  let v373 : BitVec 1 := Scalar.cmpi .sgt c2_i32_211 c0_i32_214
  let v374 : BitVec 32 := Scalar.extui v373
  let c0_i32_215 : BitVec 32 := 0#32
  let v375 : BitVec 1 := Scalar.cmpi .slt c2_i32_211 c0_i32_215
  let v376 : BitVec 32 := Scalar.extui v375
  let v377 : BitVec 32 := Scalar.subi v374 v376
  let v378 : BitVec 1 := Scalar.cmpi .ne v372 v377
  let v379 : BitVec 32 := Scalar.remsi v20 c2_i32_211
  let c0_i32_216 : BitVec 32 := 0#32
  let v380 : BitVec 1 := Scalar.cmpi .ne v379 c0_i32_216
  let v381 : BitVec 1 := Scalar.andi v378 v380
  let v367 : BitVec 32 := Scalar.divsi v20 c2_i32_211
  let c1_i32_217 : BitVec 32 := 1#32
  let v382 : BitVec 32 := Scalar.subi v367 c1_i32_217
  let v383 : BitVec 32 := Scalar.select v381 v382 v367
  let v388 : BitVec 32 := Scalar.subi v383 c0_i32_222
  let c1_i32_223 : BitVec 32 := 1#32
  let v390 : BitVec 32 := Scalar.divsi v388 c1_i32_223
  let v391 : BitVec 32 := Scalar.muli v390 c1_i32_223
  let v392 : BitVec 32 := Scalar.addi c0_i32_222 v391
  let v389 : BitVec 32 := Scalar.addi c0_i32_222 v388
  let c1_i32_225 : BitVec 32 := 1#32
  ⟨v392, v389, c1_i32_225⟩
def k0_mult10 (i : grid0.Coords) (k0_t17 : Fin (k0_t17_loop i).trips) : BitVec 32 :=
  let c2_i32_271 : BitVec 32 := 2#32
  let c0_i32_222 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_212 : BitVec 32 := 0#32
  let v368 : BitVec 1 := Scalar.cmpi .sgt v20 c0_i32_212
  let v369 : BitVec 32 := Scalar.extui v368
  let c0_i32_213 : BitVec 32 := 0#32
  let v370 : BitVec 1 := Scalar.cmpi .slt v20 c0_i32_213
  let v371 : BitVec 32 := Scalar.extui v370
  let v372 : BitVec 32 := Scalar.subi v369 v371
  let c2_i32_211 : BitVec 32 := 2#32
  let c0_i32_214 : BitVec 32 := 0#32
  let v373 : BitVec 1 := Scalar.cmpi .sgt c2_i32_211 c0_i32_214
  let v374 : BitVec 32 := Scalar.extui v373
  let c0_i32_215 : BitVec 32 := 0#32
  let v375 : BitVec 1 := Scalar.cmpi .slt c2_i32_211 c0_i32_215
  let v376 : BitVec 32 := Scalar.extui v375
  let v377 : BitVec 32 := Scalar.subi v374 v376
  let v378 : BitVec 1 := Scalar.cmpi .ne v372 v377
  let v379 : BitVec 32 := Scalar.remsi v20 c2_i32_211
  let c0_i32_216 : BitVec 32 := 0#32
  let v380 : BitVec 1 := Scalar.cmpi .ne v379 c0_i32_216
  let v381 : BitVec 1 := Scalar.andi v378 v380
  let v367 : BitVec 32 := Scalar.divsi v20 c2_i32_211
  let c1_i32_217 : BitVec 32 := 1#32
  let v382 : BitVec 32 := Scalar.subi v367 c1_i32_217
  let v383 : BitVec 32 := Scalar.select v381 v382 v367
  let v388 : BitVec 32 := Scalar.subi v383 c0_i32_222
  let c1_i32_223 : BitVec 32 := 1#32
  let v390 : BitVec 32 := Scalar.divsi v388 c1_i32_223
  let v391 : BitVec 32 := Scalar.muli v390 c1_i32_223
  let v392 : BitVec 32 := Scalar.addi c0_i32_222 v391
  let c1_i32_225 : BitVec 32 := 1#32
  let arg19 : BitVec 32 := Scf.iv v392 c1_i32_225 k0_t17
  let v462 : BitVec 32 := Scalar.muli c2_i32_271 arg19
  let c1_i32_272 : BitVec 32 := 1#32
  let v463 : BitVec 32 := Scalar.addi v462 c1_i32_272
  let c512_i32_273 : BitVec 32 := 512#32
  let v464 : BitVec 32 := Scalar.muli v463 c512_i32_273
  v464
def k0_off407 (i : grid0.Coords) (k0_t17 : Fin (k0_t17_loop i).trips) : Fin 3 → Nat :=
  let c2_i32_271 : BitVec 32 := 2#32
  let c0_i32_222 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_212 : BitVec 32 := 0#32
  let v368 : BitVec 1 := Scalar.cmpi .sgt v20 c0_i32_212
  let v369 : BitVec 32 := Scalar.extui v368
  let c0_i32_213 : BitVec 32 := 0#32
  let v370 : BitVec 1 := Scalar.cmpi .slt v20 c0_i32_213
  let v371 : BitVec 32 := Scalar.extui v370
  let v372 : BitVec 32 := Scalar.subi v369 v371
  let c2_i32_211 : BitVec 32 := 2#32
  let c0_i32_214 : BitVec 32 := 0#32
  let v373 : BitVec 1 := Scalar.cmpi .sgt c2_i32_211 c0_i32_214
  let v374 : BitVec 32 := Scalar.extui v373
  let c0_i32_215 : BitVec 32 := 0#32
  let v375 : BitVec 1 := Scalar.cmpi .slt c2_i32_211 c0_i32_215
  let v376 : BitVec 32 := Scalar.extui v375
  let v377 : BitVec 32 := Scalar.subi v374 v376
  let v378 : BitVec 1 := Scalar.cmpi .ne v372 v377
  let v379 : BitVec 32 := Scalar.remsi v20 c2_i32_211
  let c0_i32_216 : BitVec 32 := 0#32
  let v380 : BitVec 1 := Scalar.cmpi .ne v379 c0_i32_216
  let v381 : BitVec 1 := Scalar.andi v378 v380
  let v367 : BitVec 32 := Scalar.divsi v20 c2_i32_211
  let c1_i32_217 : BitVec 32 := 1#32
  let v382 : BitVec 32 := Scalar.subi v367 c1_i32_217
  let v383 : BitVec 32 := Scalar.select v381 v382 v367
  let v388 : BitVec 32 := Scalar.subi v383 c0_i32_222
  let c1_i32_223 : BitVec 32 := 1#32
  let v390 : BitVec 32 := Scalar.divsi v388 c1_i32_223
  let v391 : BitVec 32 := Scalar.muli v390 c1_i32_223
  let v392 : BitVec 32 := Scalar.addi c0_i32_222 v391
  let c1_i32_225 : BitVec 32 := 1#32
  let arg19 : BitVec 32 := Scf.iv v392 c1_i32_225 k0_t17
  let v462 : BitVec 32 := Scalar.muli c2_i32_271 arg19
  let c1_i32_272 : BitVec 32 := 1#32
  let v463 : BitVec 32 := Scalar.addi v462 c1_i32_272
  let v466 : Index := Scalar.indexCast v463
  let c0_274 : Index := 0#32
  let c0_275 : Index := 0#32
  ![v466.toNat, 0, 0]
def k0_off408 (i : grid0.Coords) (k0_t17 : Fin (k0_t17_loop i).trips) : Fin 3 → Nat :=
  let c0_280 : Index := 0#32
  let c2_i32_271 : BitVec 32 := 2#32
  let c0_i32_222 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_212 : BitVec 32 := 0#32
  let v368 : BitVec 1 := Scalar.cmpi .sgt v20 c0_i32_212
  let v369 : BitVec 32 := Scalar.extui v368
  let c0_i32_213 : BitVec 32 := 0#32
  let v370 : BitVec 1 := Scalar.cmpi .slt v20 c0_i32_213
  let v371 : BitVec 32 := Scalar.extui v370
  let v372 : BitVec 32 := Scalar.subi v369 v371
  let c2_i32_211 : BitVec 32 := 2#32
  let c0_i32_214 : BitVec 32 := 0#32
  let v373 : BitVec 1 := Scalar.cmpi .sgt c2_i32_211 c0_i32_214
  let v374 : BitVec 32 := Scalar.extui v373
  let c0_i32_215 : BitVec 32 := 0#32
  let v375 : BitVec 1 := Scalar.cmpi .slt c2_i32_211 c0_i32_215
  let v376 : BitVec 32 := Scalar.extui v375
  let v377 : BitVec 32 := Scalar.subi v374 v376
  let v378 : BitVec 1 := Scalar.cmpi .ne v372 v377
  let v379 : BitVec 32 := Scalar.remsi v20 c2_i32_211
  let c0_i32_216 : BitVec 32 := 0#32
  let v380 : BitVec 1 := Scalar.cmpi .ne v379 c0_i32_216
  let v381 : BitVec 1 := Scalar.andi v378 v380
  let v367 : BitVec 32 := Scalar.divsi v20 c2_i32_211
  let c1_i32_217 : BitVec 32 := 1#32
  let v382 : BitVec 32 := Scalar.subi v367 c1_i32_217
  let v383 : BitVec 32 := Scalar.select v381 v382 v367
  let v388 : BitVec 32 := Scalar.subi v383 c0_i32_222
  let c1_i32_223 : BitVec 32 := 1#32
  let v390 : BitVec 32 := Scalar.divsi v388 c1_i32_223
  let v391 : BitVec 32 := Scalar.muli v390 c1_i32_223
  let v392 : BitVec 32 := Scalar.addi c0_i32_222 v391
  let c1_i32_225 : BitVec 32 := 1#32
  let arg19 : BitVec 32 := Scf.iv v392 c1_i32_225 k0_t17
  let v462 : BitVec 32 := Scalar.muli c2_i32_271 arg19
  let c1_i32_272 : BitVec 32 := 1#32
  let v463 : BitVec 32 := Scalar.addi v462 c1_i32_272
  let c512_i32_273 : BitVec 32 := 512#32
  let v464 : BitVec 32 := Scalar.muli v463 c512_i32_273
  let v465 : BitVec 32 := v464
  let v483 : Index := Scalar.indexCast v465
  let c0_281 : Index := 0#32
  ![0, v483.toNat, 0]
def k0_off409 (i : grid0.Coords) (k0_t17 : Fin (k0_t17_loop i).trips) : Fin 4 → Nat :=
  let c0_282 : Index := 0#32
  let c2_i32_270 : BitVec 32 := 2#32
  let c0_i32_222 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_212 : BitVec 32 := 0#32
  let v368 : BitVec 1 := Scalar.cmpi .sgt v20 c0_i32_212
  let v369 : BitVec 32 := Scalar.extui v368
  let c0_i32_213 : BitVec 32 := 0#32
  let v370 : BitVec 1 := Scalar.cmpi .slt v20 c0_i32_213
  let v371 : BitVec 32 := Scalar.extui v370
  let v372 : BitVec 32 := Scalar.subi v369 v371
  let c2_i32_211 : BitVec 32 := 2#32
  let c0_i32_214 : BitVec 32 := 0#32
  let v373 : BitVec 1 := Scalar.cmpi .sgt c2_i32_211 c0_i32_214
  let v374 : BitVec 32 := Scalar.extui v373
  let c0_i32_215 : BitVec 32 := 0#32
  let v375 : BitVec 1 := Scalar.cmpi .slt c2_i32_211 c0_i32_215
  let v376 : BitVec 32 := Scalar.extui v375
  let v377 : BitVec 32 := Scalar.subi v374 v376
  let v378 : BitVec 1 := Scalar.cmpi .ne v372 v377
  let v379 : BitVec 32 := Scalar.remsi v20 c2_i32_211
  let c0_i32_216 : BitVec 32 := 0#32
  let v380 : BitVec 1 := Scalar.cmpi .ne v379 c0_i32_216
  let v381 : BitVec 1 := Scalar.andi v378 v380
  let v367 : BitVec 32 := Scalar.divsi v20 c2_i32_211
  let c1_i32_217 : BitVec 32 := 1#32
  let v382 : BitVec 32 := Scalar.subi v367 c1_i32_217
  let v383 : BitVec 32 := Scalar.select v381 v382 v367
  let v388 : BitVec 32 := Scalar.subi v383 c0_i32_222
  let c1_i32_223 : BitVec 32 := 1#32
  let v390 : BitVec 32 := Scalar.divsi v388 c1_i32_223
  let v391 : BitVec 32 := Scalar.muli v390 c1_i32_223
  let v392 : BitVec 32 := Scalar.addi c0_i32_222 v391
  let c1_i32_225 : BitVec 32 := 1#32
  let arg19 : BitVec 32 := Scf.iv v392 c1_i32_225 k0_t17
  let v461 : BitVec 32 := Scalar.muli c2_i32_270 arg19
  let v487 : Index := Scalar.indexCast v461
  let c0_283 : Index := 0#32
  let c0_284 : Index := 0#32
  ![0, v487.toNat, 0, 0]
def k0_mult11 (i : grid0.Coords) (k0_t17 : Fin (k0_t17_loop i).trips) : BitVec 32 :=
  let c2_i32_339 : BitVec 32 := 2#32
  let c0_i32_222 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_212 : BitVec 32 := 0#32
  let v368 : BitVec 1 := Scalar.cmpi .sgt v20 c0_i32_212
  let v369 : BitVec 32 := Scalar.extui v368
  let c0_i32_213 : BitVec 32 := 0#32
  let v370 : BitVec 1 := Scalar.cmpi .slt v20 c0_i32_213
  let v371 : BitVec 32 := Scalar.extui v370
  let v372 : BitVec 32 := Scalar.subi v369 v371
  let c2_i32_211 : BitVec 32 := 2#32
  let c0_i32_214 : BitVec 32 := 0#32
  let v373 : BitVec 1 := Scalar.cmpi .sgt c2_i32_211 c0_i32_214
  let v374 : BitVec 32 := Scalar.extui v373
  let c0_i32_215 : BitVec 32 := 0#32
  let v375 : BitVec 1 := Scalar.cmpi .slt c2_i32_211 c0_i32_215
  let v376 : BitVec 32 := Scalar.extui v375
  let v377 : BitVec 32 := Scalar.subi v374 v376
  let v378 : BitVec 1 := Scalar.cmpi .ne v372 v377
  let v379 : BitVec 32 := Scalar.remsi v20 c2_i32_211
  let c0_i32_216 : BitVec 32 := 0#32
  let v380 : BitVec 1 := Scalar.cmpi .ne v379 c0_i32_216
  let v381 : BitVec 1 := Scalar.andi v378 v380
  let v367 : BitVec 32 := Scalar.divsi v20 c2_i32_211
  let c1_i32_217 : BitVec 32 := 1#32
  let v382 : BitVec 32 := Scalar.subi v367 c1_i32_217
  let v383 : BitVec 32 := Scalar.select v381 v382 v367
  let v388 : BitVec 32 := Scalar.subi v383 c0_i32_222
  let c1_i32_223 : BitVec 32 := 1#32
  let v390 : BitVec 32 := Scalar.divsi v388 c1_i32_223
  let v391 : BitVec 32 := Scalar.muli v390 c1_i32_223
  let v392 : BitVec 32 := Scalar.addi c0_i32_222 v391
  let c1_i32_225 : BitVec 32 := 1#32
  let arg19 : BitVec 32 := Scf.iv v392 c1_i32_225 k0_t17
  let v584 : BitVec 32 := Scalar.muli c2_i32_339 arg19
  let c2_i32_340 : BitVec 32 := 2#32
  let v585 : BitVec 32 := Scalar.addi v584 c2_i32_340
  let c1_i32_194 : BitVec 32 := 1#32
  let v341 : BitVec 32 := Scalar.subi v20 c1_i32_194
  let v586 : BitVec 32 := Scalar.minsi v585 v341
  let c512_i32_341 : BitVec 32 := 512#32
  let v587 : BitVec 32 := Scalar.muli v586 c512_i32_341
  v587
def k0_off410 (i : grid0.Coords) (k0_t17 : Fin (k0_t17_loop i).trips) : Fin 3 → Nat :=
  let c2_i32_339 : BitVec 32 := 2#32
  let c0_i32_222 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_212 : BitVec 32 := 0#32
  let v368 : BitVec 1 := Scalar.cmpi .sgt v20 c0_i32_212
  let v369 : BitVec 32 := Scalar.extui v368
  let c0_i32_213 : BitVec 32 := 0#32
  let v370 : BitVec 1 := Scalar.cmpi .slt v20 c0_i32_213
  let v371 : BitVec 32 := Scalar.extui v370
  let v372 : BitVec 32 := Scalar.subi v369 v371
  let c2_i32_211 : BitVec 32 := 2#32
  let c0_i32_214 : BitVec 32 := 0#32
  let v373 : BitVec 1 := Scalar.cmpi .sgt c2_i32_211 c0_i32_214
  let v374 : BitVec 32 := Scalar.extui v373
  let c0_i32_215 : BitVec 32 := 0#32
  let v375 : BitVec 1 := Scalar.cmpi .slt c2_i32_211 c0_i32_215
  let v376 : BitVec 32 := Scalar.extui v375
  let v377 : BitVec 32 := Scalar.subi v374 v376
  let v378 : BitVec 1 := Scalar.cmpi .ne v372 v377
  let v379 : BitVec 32 := Scalar.remsi v20 c2_i32_211
  let c0_i32_216 : BitVec 32 := 0#32
  let v380 : BitVec 1 := Scalar.cmpi .ne v379 c0_i32_216
  let v381 : BitVec 1 := Scalar.andi v378 v380
  let v367 : BitVec 32 := Scalar.divsi v20 c2_i32_211
  let c1_i32_217 : BitVec 32 := 1#32
  let v382 : BitVec 32 := Scalar.subi v367 c1_i32_217
  let v383 : BitVec 32 := Scalar.select v381 v382 v367
  let v388 : BitVec 32 := Scalar.subi v383 c0_i32_222
  let c1_i32_223 : BitVec 32 := 1#32
  let v390 : BitVec 32 := Scalar.divsi v388 c1_i32_223
  let v391 : BitVec 32 := Scalar.muli v390 c1_i32_223
  let v392 : BitVec 32 := Scalar.addi c0_i32_222 v391
  let c1_i32_225 : BitVec 32 := 1#32
  let arg19 : BitVec 32 := Scf.iv v392 c1_i32_225 k0_t17
  let v584 : BitVec 32 := Scalar.muli c2_i32_339 arg19
  let c2_i32_340 : BitVec 32 := 2#32
  let v585 : BitVec 32 := Scalar.addi v584 c2_i32_340
  let c1_i32_194 : BitVec 32 := 1#32
  let v341 : BitVec 32 := Scalar.subi v20 c1_i32_194
  let v586 : BitVec 32 := Scalar.minsi v585 v341
  let v589 : Index := Scalar.indexCast v586
  let c0_342 : Index := 0#32
  let c0_343 : Index := 0#32
  ![v589.toNat, 0, 0]
def k0_off411 (i : grid0.Coords) (k0_t17 : Fin (k0_t17_loop i).trips) : Fin 3 → Nat :=
  let c0_348 : Index := 0#32
  let c2_i32_339 : BitVec 32 := 2#32
  let c0_i32_222 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_212 : BitVec 32 := 0#32
  let v368 : BitVec 1 := Scalar.cmpi .sgt v20 c0_i32_212
  let v369 : BitVec 32 := Scalar.extui v368
  let c0_i32_213 : BitVec 32 := 0#32
  let v370 : BitVec 1 := Scalar.cmpi .slt v20 c0_i32_213
  let v371 : BitVec 32 := Scalar.extui v370
  let v372 : BitVec 32 := Scalar.subi v369 v371
  let c2_i32_211 : BitVec 32 := 2#32
  let c0_i32_214 : BitVec 32 := 0#32
  let v373 : BitVec 1 := Scalar.cmpi .sgt c2_i32_211 c0_i32_214
  let v374 : BitVec 32 := Scalar.extui v373
  let c0_i32_215 : BitVec 32 := 0#32
  let v375 : BitVec 1 := Scalar.cmpi .slt c2_i32_211 c0_i32_215
  let v376 : BitVec 32 := Scalar.extui v375
  let v377 : BitVec 32 := Scalar.subi v374 v376
  let v378 : BitVec 1 := Scalar.cmpi .ne v372 v377
  let v379 : BitVec 32 := Scalar.remsi v20 c2_i32_211
  let c0_i32_216 : BitVec 32 := 0#32
  let v380 : BitVec 1 := Scalar.cmpi .ne v379 c0_i32_216
  let v381 : BitVec 1 := Scalar.andi v378 v380
  let v367 : BitVec 32 := Scalar.divsi v20 c2_i32_211
  let c1_i32_217 : BitVec 32 := 1#32
  let v382 : BitVec 32 := Scalar.subi v367 c1_i32_217
  let v383 : BitVec 32 := Scalar.select v381 v382 v367
  let v388 : BitVec 32 := Scalar.subi v383 c0_i32_222
  let c1_i32_223 : BitVec 32 := 1#32
  let v390 : BitVec 32 := Scalar.divsi v388 c1_i32_223
  let v391 : BitVec 32 := Scalar.muli v390 c1_i32_223
  let v392 : BitVec 32 := Scalar.addi c0_i32_222 v391
  let c1_i32_225 : BitVec 32 := 1#32
  let arg19 : BitVec 32 := Scf.iv v392 c1_i32_225 k0_t17
  let v584 : BitVec 32 := Scalar.muli c2_i32_339 arg19
  let c2_i32_340 : BitVec 32 := 2#32
  let v585 : BitVec 32 := Scalar.addi v584 c2_i32_340
  let c1_i32_194 : BitVec 32 := 1#32
  let v341 : BitVec 32 := Scalar.subi v20 c1_i32_194
  let v586 : BitVec 32 := Scalar.minsi v585 v341
  let c512_i32_341 : BitVec 32 := 512#32
  let v587 : BitVec 32 := Scalar.muli v586 c512_i32_341
  let v588 : BitVec 32 := v587
  let v606 : Index := Scalar.indexCast v588
  let c0_349 : Index := 0#32
  ![0, v606.toNat, 0]
def k0_off412 (i : grid0.Coords) (k0_t17 : Fin (k0_t17_loop i).trips) : Fin 4 → Nat :=
  let c0_350 : Index := 0#32
  let c2_i32_337 : BitVec 32 := 2#32
  let c0_i32_222 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_212 : BitVec 32 := 0#32
  let v368 : BitVec 1 := Scalar.cmpi .sgt v20 c0_i32_212
  let v369 : BitVec 32 := Scalar.extui v368
  let c0_i32_213 : BitVec 32 := 0#32
  let v370 : BitVec 1 := Scalar.cmpi .slt v20 c0_i32_213
  let v371 : BitVec 32 := Scalar.extui v370
  let v372 : BitVec 32 := Scalar.subi v369 v371
  let c2_i32_211 : BitVec 32 := 2#32
  let c0_i32_214 : BitVec 32 := 0#32
  let v373 : BitVec 1 := Scalar.cmpi .sgt c2_i32_211 c0_i32_214
  let v374 : BitVec 32 := Scalar.extui v373
  let c0_i32_215 : BitVec 32 := 0#32
  let v375 : BitVec 1 := Scalar.cmpi .slt c2_i32_211 c0_i32_215
  let v376 : BitVec 32 := Scalar.extui v375
  let v377 : BitVec 32 := Scalar.subi v374 v376
  let v378 : BitVec 1 := Scalar.cmpi .ne v372 v377
  let v379 : BitVec 32 := Scalar.remsi v20 c2_i32_211
  let c0_i32_216 : BitVec 32 := 0#32
  let v380 : BitVec 1 := Scalar.cmpi .ne v379 c0_i32_216
  let v381 : BitVec 1 := Scalar.andi v378 v380
  let v367 : BitVec 32 := Scalar.divsi v20 c2_i32_211
  let c1_i32_217 : BitVec 32 := 1#32
  let v382 : BitVec 32 := Scalar.subi v367 c1_i32_217
  let v383 : BitVec 32 := Scalar.select v381 v382 v367
  let v388 : BitVec 32 := Scalar.subi v383 c0_i32_222
  let c1_i32_223 : BitVec 32 := 1#32
  let v390 : BitVec 32 := Scalar.divsi v388 c1_i32_223
  let v391 : BitVec 32 := Scalar.muli v390 c1_i32_223
  let v392 : BitVec 32 := Scalar.addi c0_i32_222 v391
  let c1_i32_225 : BitVec 32 := 1#32
  let arg19 : BitVec 32 := Scf.iv v392 c1_i32_225 k0_t17
  let v582 : BitVec 32 := Scalar.muli c2_i32_337 arg19
  let c1_i32_338 : BitVec 32 := 1#32
  let v583 : BitVec 32 := Scalar.addi v582 c1_i32_338
  let v610 : Index := Scalar.indexCast v583
  let c0_351 : Index := 0#32
  let c0_352 : Index := 0#32
  ![0, v610.toNat, 0, 0]
def k0_cond12 (i : grid0.Coords) : BitVec 1 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c2_i32_226 : BitVec 32 := 2#32
  let c0_i32_227 : BitVec 32 := 0#32
  let v395 : BitVec 1 := Scalar.cmpi .eq c2_i32_226 c0_i32_227
  let c1_i32_228 : BitVec 32 := 1#32
  let v396 : BitVec 32 := Scalar.select v395 c1_i32_228 c2_i32_226
  let v397 : BitVec 32 := Scalar.remsi v20 v396
  let c0_i32_230 : BitVec 32 := 0#32
  let v399 : BitVec 1 := Scalar.cmpi .slt v397 c0_i32_230
  let c0_i32_231 : BitVec 32 := 0#32
  let v400 : BitVec 1 := Scalar.cmpi .slt v396 c0_i32_231
  let v401 : BitVec 1 := Scalar.xori v399 v400
  let c0_i32_229 : BitVec 32 := 0#32
  let v398 : BitVec 1 := Scalar.cmpi .ne v397 c0_i32_229
  let v402 : BitVec 1 := Scalar.andi v401 v398
  let v403 : BitVec 32 := Scalar.addi v397 v396
  let v404 : BitVec 32 := Scalar.select v402 v403 v397
  let c1_i32_232 : BitVec 32 := 1#32
  let v405 : BitVec 1 := Scalar.cmpi .eq v404 c1_i32_232
  let v406 : BitVec 32 := Scalar.extui v405
  let c0_i32_233 : BitVec 32 := 0#32
  let v407 : BitVec 1 := Scalar.cmpi .ne v406 c0_i32_233
  v407

def k0_off413 (i : grid0.Coords) : Fin 4 → Nat :=
  let c0_270 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_194 : BitVec 32 := 1#32
  let v341 : BitVec 32 := Scalar.subi v20 c1_i32_194
  let v461 : Index := Scalar.indexCast v341
  let c0_271 : Index := 0#32
  let c0_272 : Index := 0#32
  ![0, v461.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16x72x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8192x32 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Ffn.lean ====
abbrev S8x8192x1024 : Shape := ⟨3, ![8, 8192, 1024]⟩
abbrev S1024 : Shape := ⟨1, ![1024]⟩
abbrev S1024x2816 : Shape := ⟨2, ![1024, 2816]⟩
abbrev S2816x1024 : Shape := ⟨2, ![2816, 1024]⟩
abbrev S65536x1024 : Shape := ⟨2, ![65536, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 11
  | .vmem => 8
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S65536x1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S8x8192x1024 : Shape := ⟨3, ![8, 8192, 1024]⟩
abbrev S1024 : Shape := ⟨1, ![1024]⟩
abbrev S1024x2816 : Shape := ⟨2, ![1024, 2816]⟩
abbrev S2816x1024 : Shape := ⟨2, ![2816, 1024]⟩
abbrev S65536x1024 : Shape := ⟨2, ![65536, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x2816 : Shape := ⟨2, ![65536, 2816]⟩

abbrev nBuf : Space → Nat
  | .hbm => 39
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S65536x1024, .f32⟩
  | .hbm, ⟨6, _⟩ => ⟨S65536x1024, .f32⟩
  | .hbm, ⟨7, _⟩ => ⟨S_, .f32⟩
  | .hbm, ⟨8, _⟩ => ⟨S65536, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S_, .f32⟩
  | .hbm, ⟨14, _⟩ => ⟨S65536x1, .f32⟩
  | .hbm, ⟨15, _⟩ => ⟨S65536x1, .f32⟩
  | .hbm, ⟨16, _⟩ => ⟨S65536x1, .f32⟩
  | .hbm, ⟨17, _⟩ => ⟨S65536x1024, .f32⟩
  | .hbm, ⟨18, _⟩ => ⟨S65536x1024, .f32⟩
  | .hbm, ⟨19, _⟩ => ⟨S1x1024, .f32⟩
  | .hbm, ⟨20, _⟩ => ⟨S65536x1024, .f32⟩
  | .hbm, ⟨21, _⟩ => ⟨S65536x1024, .f32⟩
  | .hbm, ⟨22, _⟩ => ⟨S65536x2816, .f32⟩
  | .hbm, ⟨23, _⟩ => ⟨S65536x2816, .f32⟩
  | .hbm, ⟨24, _⟩ => ⟨S65536x2816, .f32⟩
  | .hbm, ⟨25, _⟩ => ⟨S_, .f32⟩
  | .hbm, ⟨26, _⟩ => ⟨S65536x2816, .f32⟩
  | .hbm, ⟨27, _⟩ => ⟨S65536x2816, .f32⟩
  | .hbm, ⟨28, _⟩ => ⟨S_, .f32⟩
  | .hbm, ⟨29, _⟩ => ⟨S65536x2816, .f32⟩
  | .hbm, ⟨30, _⟩ => ⟨S65536x2816, .f32⟩
  | .hbm, ⟨31, _⟩ => ⟨S65536x2816, .f32⟩
  | .hbm, ⟨32, _⟩ => ⟨S65536x2816, .f32⟩
  | .hbm, ⟨33, _⟩ => ⟨S65536x2816, .f32⟩
  | .hbm, ⟨34, _⟩ => ⟨S65536x1024, .f32⟩
  | .hbm, ⟨35, _⟩ => ⟨S_, .f32⟩
  | .hbm, ⟨36, _⟩ => ⟨S65536x1024, .f32⟩
  | .hbm, ⟨37, _⟩ => ⟨S65536x1024, .f32⟩
  | .hbm, ⟨38, _⟩ => ⟨S65536x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]
-- ==== Mixed.lean ====
abbrev S65536x1024 : Shape := ⟨2, ![65536, 1024]⟩
abbrev S8x8192x512 : Shape := ⟨3, ![8, 8192, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S65536x512 : Shape := ⟨2, ![65536, 512]⟩
abbrev S512x1024 : Shape := ⟨2, ![512, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩
abbrev S512x2816 : Shape := ⟨2, ![512, 2816]⟩

abbrev nBuf : Space → Nat
  | .hbm => 18
  | .vmem => 14
  | .smem => 0
  | _ => 0

abbrev bufTy : (tb : Table) → Fin (tcTables nBuf tb) → BufTy
  | .hbm, ⟨0, _⟩ => ⟨S65536x1024, .f32⟩
  | .hbm, ⟨1, _⟩ => ⟨S8x8192x512, .bf16⟩
  | .hbm, ⟨2, _⟩ => ⟨S8x8192x512, .bf16⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024x1024, .bf16⟩
  | .hbm, ⟨9, _⟩ => ⟨S65536x512, .bf16⟩
  | .hbm, ⟨10, _⟩ => ⟨S512x1024, .bf16⟩
  | .hbm, ⟨11, _⟩ => ⟨S65536x512, .bf16⟩
  | .hbm, ⟨12, _⟩ => ⟨S512x1024, .bf16⟩
  | .hbm, ⟨13, _⟩ => ⟨S1x1024, .f32⟩
  | .hbm, ⟨14, _⟩ => ⟨S1024x2816, .bf16⟩
  | .hbm, ⟨15, _⟩ => ⟨S1024x2816, .bf16⟩
  | .hbm, ⟨16, _⟩ => ⟨S2816x1024, .bf16⟩
  | .hbm, ⟨17, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x512, .bf16⟩
  | .local _ .vmem, ⟨6, _⟩ => ⟨S512x512, .bf16⟩
  | .local _ .vmem, ⟨7, _⟩ => ⟨S512x1024, .bf16⟩
  | .local _ .vmem, ⟨8, _⟩ => ⟨S1x1024, .f32⟩
  | .local _ .vmem, ⟨9, _⟩ => ⟨S1024x2816, .bf16⟩
  | .local _ .vmem, ⟨10, _⟩ => ⟨S1024x2816, .bf16⟩
  | .local _ .vmem, ⟨11, _⟩ => ⟨S2816x1024, .bf16⟩
  | .local _ .vmem, ⟨12, _⟩ => ⟨S512x1024, .f32⟩
  | .local _ .vmem, ⟨13, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixedRefIdeal.lean ====
abbrev S65536x1024 : Shape := ⟨2, ![65536, 1024]⟩
abbrev S8x8192x512 : Shape := ⟨3, ![8, 8192, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S8x8192x1024 : Shape := ⟨3, ![8, 8192, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x2816 : Shape := ⟨2, ![65536, 2816]⟩

abbrev nBuf : Space → Nat
  | .hbm => 47
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S8x8192x512, .bf16⟩
  | .hbm, ⟨2, _⟩ => ⟨S8x8192x512, .bf16⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S8x8192x512, .f32⟩
  | .hbm, ⟨9, _⟩ => ⟨S8x8192x512, .f32⟩
  | .hbm, ⟨10, _⟩ => ⟨S8x8192x1024, .f32⟩
  | .hbm, ⟨11, _⟩ => ⟨S65536x1024, .f32⟩
  | .hbm, ⟨12, _⟩ => ⟨S65536x1024, .f32⟩
  | .hbm, ⟨13, _⟩ => ⟨S65536x1024, .f32⟩
  | .hbm, ⟨14, _⟩ => ⟨S65536x1024, .f32⟩
  | .hbm, ⟨15, _⟩ => ⟨S_, .f32⟩
  | .hbm, ⟨16, _⟩ => ⟨S65536, .f32⟩
  | .hbm, ⟨17, _⟩ => ⟨S65536x1, .f32⟩
  | .hbm, ⟨18, _⟩ => ⟨S_, .f32⟩
  | .hbm, ⟨19, _⟩ => ⟨S65536x1, .f32⟩
  | .hbm, ⟨20, _⟩ => ⟨S65536x1, .f32⟩
  | .hbm, ⟨21, _⟩ => ⟨S_, .f32⟩
  | .hbm, ⟨22, _⟩ => ⟨S65536x1, .f32⟩
  | .hbm, ⟨23, _⟩ => ⟨S65536x1, .f32⟩
  | .hbm, ⟨24, _⟩ => ⟨S65536x1, .f32⟩
  | .hbm, ⟨25, _⟩ => ⟨S65536x1024, .f32⟩
  | .hbm, ⟨26, _⟩ => ⟨S65536x1024, .f32⟩
  | .hbm, ⟨27, _⟩ => ⟨S1x1024, .f32⟩
  | .hbm, ⟨28, _⟩ => ⟨S65536x1024, .f32⟩
  | .hbm, ⟨29, _⟩ => ⟨S65536x1024, .f32⟩
  | .hbm, ⟨30, _⟩ => ⟨S65536x2816, .f32⟩
  | .hbm, ⟨31, _⟩ => ⟨S65536x2816, .f32⟩
  | .hbm, ⟨32, _⟩ => ⟨S65536x2816, .f32⟩
  | .hbm, ⟨33, _⟩ => ⟨S_, .f32⟩
  | .hbm, ⟨34, _⟩ => ⟨S65536x2816, .f32⟩
  | .hbm, ⟨35, _⟩ => ⟨S65536x2816, .f32⟩
  | .hbm, ⟨36, _⟩ => ⟨S_, .f32⟩
  | .hbm, ⟨37, _⟩ => ⟨S65536x2816, .f32⟩
  | .hbm, ⟨38, _⟩ => ⟨S65536x2816, .f32⟩
  | .hbm, ⟨39, _⟩ => ⟨S65536x2816, .f32⟩
  | .hbm, ⟨40, _⟩ => ⟨S65536x2816, .f32⟩
  | .hbm, ⟨41, _⟩ => ⟨S65536x2816, .f32⟩
  | .hbm, ⟨42, _⟩ => ⟨S65536x1024, .f32⟩
  | .hbm, ⟨43, _⟩ => ⟨S_, .f32⟩
  | .hbm, ⟨44, _⟩ => ⟨S65536x1024, .f32⟩
  | .hbm, ⟨45, _⟩ => ⟨S65536x1024, .f32⟩
  | .hbm, ⟨46, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_2 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩

abbrev nD : Nat := 1
abbrev τ : Topo := Topo.v7x

variable {F : FTy → Type} [FloatOps F]
-- ==== Last.lean ====
abbrev S65536x1024 : Shape := ⟨2, ![65536, 1024]⟩
abbrev S8x8192x1024 : Shape := ⟨3, ![8, 8192, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 18
  | .vmem => 13
  | .smem => 0
  | _ => 0

abbrev bufTy : (tb : Table) → Fin (tcTables nBuf tb) → BufTy
  | .hbm, ⟨0, _⟩ => ⟨S65536x1024, .f32⟩
  | .hbm, ⟨1, _⟩ => ⟨S8x8192x1024, .bf16⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024, .f32⟩
  | .hbm, ⟨9, _⟩ => ⟨S65536x1024, .bf16⟩
  | .hbm, ⟨10, _⟩ => ⟨S1024x1024, .bf16⟩
  | .hbm, ⟨11, _⟩ => ⟨S1x1024, .f32⟩
  | .hbm, ⟨12, _⟩ => ⟨S1024x2816, .bf16⟩
  | .hbm, ⟨13, _⟩ => ⟨S1024x2816, .bf16⟩
  | .hbm, ⟨14, _⟩ => ⟨S2816x1024, .bf16⟩
  | .hbm, ⟨15, _⟩ => ⟨S1x1024, .f32⟩
  | .hbm, ⟨16, _⟩ => ⟨S1x1024, .f32⟩
  | .hbm, ⟨17, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1024x2816, .bf16⟩
  | .local _ .vmem, ⟨8, _⟩ => ⟨S1024x2816, .bf16⟩
  | .local _ .vmem, ⟨9, _⟩ => ⟨S2816x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== LastRefIdeal.lean ====
abbrev S65536x1024 : Shape := ⟨2, ![65536, 1024]⟩
abbrev S8x8192x1024 : Shape := ⟨3, ![8, 8192, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S_ : Shape := ⟨0, ![]⟩
abbrev S65536 : Shape := ⟨1, ![65536]⟩
abbrev S65536x1 : Shape := ⟨2, ![65536, 1]⟩
abbrev S65536x2816 : Shape := ⟨2, ![65536, 2816]⟩

abbrev nBuf : Space → Nat
  | .hbm => 65
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S8x8192x1024, .bf16⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024, .f32⟩
  | .hbm, ⟨9, _⟩ => ⟨S8x8192x1024, .f32⟩
  | .hbm, ⟨10, _⟩ => ⟨S65536x1024, .f32⟩
  | .hbm, ⟨11, _⟩ => ⟨S65536x1024, .f32⟩
  | .hbm, ⟨12, _⟩ => ⟨S1x1024, .f32⟩
  | .hbm, ⟨13, _⟩ => ⟨S65536x1024, .f32⟩
  | .hbm, ⟨14, _⟩ => ⟨S65536x1024, .f32⟩
  | .hbm, ⟨15, _⟩ => ⟨S65536x1024, .f32⟩
  | .hbm, ⟨16, _⟩ => ⟨S65536x1024, .f32⟩
  | .hbm, ⟨17, _⟩ => ⟨S_, .f32⟩
  | .hbm, ⟨18, _⟩ => ⟨S65536, .f32⟩
  | .hbm, ⟨19, _⟩ => ⟨S65536x1, .f32⟩
  | .hbm, ⟨20, _⟩ => ⟨S_, .f32⟩
  | .hbm, ⟨21, _⟩ => ⟨S65536x1, .f32⟩
  | .hbm, ⟨22, _⟩ => ⟨S65536x1, .f32⟩
  | .hbm, ⟨23, _⟩ => ⟨S_, .f32⟩
  | .hbm, ⟨24, _⟩ => ⟨S65536x1, .f32⟩
  | .hbm, ⟨25, _⟩ => ⟨S65536x1, .f32⟩
  | .hbm, ⟨26, _⟩ => ⟨S65536x1, .f32⟩
  | .hbm, ⟨27, _⟩ => ⟨S65536x1024, .f32⟩
  | .hbm, ⟨28, _⟩ => ⟨S65536x1024, .f32⟩
  | .hbm, ⟨29, _⟩ => ⟨S1x1024, .f32⟩
  | .hbm, ⟨30, _⟩ => ⟨S65536x1024, .f32⟩
  | .hbm, ⟨31, _⟩ => ⟨S65536x1024, .f32⟩
  | .hbm, ⟨32, _⟩ => ⟨S65536x2816, .f32⟩
  | .hbm, ⟨33, _⟩ => ⟨S65536x2816, .f32⟩
  | .hbm, ⟨34, _⟩ => ⟨S65536x2816, .f32⟩
  | .hbm, ⟨35, _⟩ => ⟨S_, .f32⟩
  | .hbm, ⟨36, _⟩ => ⟨S65536x2816, .f32⟩
  | .hbm, ⟨37, _⟩ => ⟨S65536x2816, .f32⟩
  | .hbm, ⟨38, _⟩ => ⟨S_, .f32⟩
  | .hbm, ⟨39, _⟩ => ⟨S65536x2816, .f32⟩
  | .hbm, ⟨40, _⟩ => ⟨S65536x2816, .f32⟩
  | .hbm, ⟨41, _⟩ => ⟨S65536x2816, .f32⟩
  | .hbm, ⟨42, _⟩ => ⟨S65536x2816, .f32⟩
  | .hbm, ⟨43, _⟩ => ⟨S65536x2816, .f32⟩
  | .hbm, ⟨44, _⟩ => ⟨S65536x1024, .f32⟩
  | .hbm, ⟨45, _⟩ => ⟨S_, .f32⟩
  | .hbm, ⟨46, _⟩ => ⟨S65536x1024, .f32⟩
  | .hbm, ⟨47, _⟩ => ⟨S65536x1024, .f32⟩
  | .hbm, ⟨48, _⟩ => ⟨S65536x1024, .f32⟩
  | .hbm, ⟨49, _⟩ => ⟨S65536x1024, .f32⟩
  | .hbm, ⟨50, _⟩ => ⟨S_, .f32⟩
  | .hbm, ⟨51, _⟩ => ⟨S65536, .f32⟩
  | .hbm, ⟨52, _⟩ => ⟨S65536x1, .f32⟩
  | .hbm, ⟨53, _⟩ => ⟨S_, .f32⟩
  | .hbm, ⟨54, _⟩ => ⟨S65536x1, .f32⟩
  | .hbm, ⟨55, _⟩ => ⟨S65536x1, .f32⟩
  | .hbm, ⟨56, _⟩ => ⟨S_, .f32⟩
  | .hbm, ⟨57, _⟩ => ⟨S65536x1, .f32⟩
  | .hbm, ⟨58, _⟩ => ⟨S65536x1, .f32⟩
  | .hbm, ⟨59, _⟩ => ⟨S65536x1, .f32⟩
  | .hbm, ⟨60, _⟩ => ⟨S65536x1024, .f32⟩
  | .hbm, ⟨61, _⟩ => ⟨S65536x1024, .f32⟩
  | .hbm, ⟨62, _⟩ => ⟨S1x1024, .f32⟩
  | .hbm, ⟨63, _⟩ => ⟨S65536x1024, .f32⟩
  | .hbm, ⟨64, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_2 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_3 : Ref sig .tc := ⟨.hbm, 50, rfl⟩
abbrev main_v29 : Ref sig .tc := ⟨.hbm, 51, rfl⟩
abbrev main_v30 : Ref sig .tc := ⟨.hbm, 52, rfl⟩
abbrev main_cst_4 : Ref sig .tc := ⟨.hbm, 53, rfl⟩
abbrev main_v31 : Ref sig .tc := ⟨.hbm, 54, rfl⟩
abbrev main_v32 : Ref sig .tc := ⟨.hbm, 55, rfl⟩
abbrev main_cst_5 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩

abbrev nD : Nat := 1
abbrev τ : Topo := Topo.v7x

variable {F : FTy → Type} [FloatOps F]
-- ==== Conf.lean ====
abbrev S8x8192x1024 : Shape := ⟨3, ![8, 8192, 1024]⟩
abbrev S1024 : Shape := ⟨1, ![1024]⟩
abbrev S1024x2048 : Shape := ⟨2, ![1024, 2048]⟩
abbrev S2048 : Shape := ⟨1, ![2048]⟩
abbrev S31x1024 : Shape := ⟨2, ![31, 1024]⟩
abbrev S1x1024 : Shape := ⟨2, ![1, 1024]⟩
abbrev S1x2048 : Shape := ⟨2, ![1, 2048]⟩
abbrev S1x256x1024 : Shape := ⟨3, ![1, 256, 1024]⟩
abbrev S288x1024 : Shape := ⟨2, ![288, 1024]⟩
abbrev S7x280x1024 : Shape := ⟨3, ![7, 280, 1024]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩
abbrev S32x1024 : Shape := ⟨2, ![32, 1024]⟩
abbrev S280x1024 : Shape := ⟨2, ![280, 1024]⟩
abbrev S1x280x1024 : Shape := ⟨3, ![1, 280, 1024]⟩

abbrev nBuf : Space → Nat
  | .hbm => 15
  | .vmem => 13
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x2048, .f32⟩
  | .hbm, ⟨3, _⟩ => ⟨S2048, .f32⟩
  | .hbm, ⟨4, _⟩ => ⟨S31x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1x1024, .f32⟩
  | .hbm, ⟨9, _⟩ => ⟨S1024x2048, .bf16⟩
  | .hbm, ⟨10, _⟩ => ⟨S1x2048, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S8x8192x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x2048, .bf16⟩
  | .local _ .vmem, ⟨4, _⟩ => ⟨S1x2048, .f32⟩
  | .local _ .vmem, ⟨5, _⟩ => ⟨S31x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x256x1024, .bf16⟩
  | .local _ .vmem, ⟨10, _⟩ => ⟨S1x256x1024, .bf16⟩
  | .local _ .vmem, ⟨11, _⟩ => ⟨S288x1024, .f32⟩
  | .local _ .vmem, ⟨12, _⟩ => ⟨S7x280x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![8, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S31x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ConfRefIdeal.lean ====
abbrev S8x8192x1024 : Shape := ⟨3, ![8, 8192, 1024]⟩
abbrev S1024 : Shape := ⟨1, ![1024]⟩
abbrev S1024x2048 : Shape := ⟨2, ![1024, 2048]⟩
abbrev S2048 : Shape := ⟨1, ![2048]⟩
abbrev S31x1024 : Shape := ⟨2, ![31, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x2048 : Shape := ⟨3, ![8, 8192, 2048]⟩
abbrev S1x1x2048 : Shape := ⟨3, ![1, 1, 2048]⟩
abbrev S8x8222x1024 : Shape := ⟨3, ![8, 8222, 1024]⟩
abbrev S1x1024 : Shape := ⟨2, ![1, 1024]⟩

abbrev nBuf : Space → Nat
  | .hbm => 298
  | .vmem => 0
  | .smem => 0
  | _ => 0

abbrev hbmTy0_0 (i : Nat) : BufTy := match i % 128 with
  | 0 => ⟨S8x8192x1024, .f32⟩
  | 1 => ⟨S1024, .f32⟩
  | 2 => ⟨S1024x2048, .f32⟩
  | 3 => ⟨S2048, .f32⟩
  | 4 => ⟨S31x1024, .f32⟩
  | 5 => ⟨S1024, .f32⟩
  | 6 => ⟨S1024, .f32⟩
  | 7 => ⟨S1024, .f32⟩
  | 8 => ⟨S8x8192x1024, .f32⟩
  | 9 => ⟨S_, .f32⟩
  | 10 => ⟨S8x8192, .f32⟩
  | 11 => ⟨S8x8192x1, .f32⟩
  | 12 => ⟨S_, .f32⟩
  | 13 => ⟨S8x8192x1, .f32⟩
  | 14 => ⟨S8x8192x1, .f32⟩
  | 15 => ⟨S_, .f32⟩
  | 16 => ⟨S8x8192x1, .f32⟩
  | 17 => ⟨S8x8192x1, .f32⟩
  | 18 => ⟨S8x8192x1, .f32⟩
  | 19 => ⟨S8x8192x1024, .f32⟩
  | 20 => ⟨S8x8192x1024, .f32⟩
  | 21 => ⟨S1x1x1024, .f32⟩
  | 22 => ⟨S8x8192x1024, .f32⟩
  | 23 => ⟨S8x8192x1024, .f32⟩
  | 24 => ⟨S8x8192x2048, .f32⟩
  | 25 => ⟨S1x1x2048, .f32⟩
  | 26 => ⟨S8x8192x2048, .f32⟩
  | 27 => ⟨S8x8192x2048, .f32⟩
  | 28 => ⟨S8x8192x1024, .f32⟩
  | 29 => ⟨S8x8192x1024, .f32⟩
  | 30 => ⟨S8x8192x1024, .f32⟩
  | 31 => ⟨S8x8192x1024, .f32⟩
  | 32 => ⟨S_, .f32⟩
  | 33 => ⟨S8x8192x1024, .f32⟩
  | 34 => ⟨S8x8192x1024, .f32⟩
  | 35 => ⟨S_, .f32⟩
  | 36 => ⟨S8x8192x1024, .f32⟩
  | 37 => ⟨S8x8192x1024, .f32⟩
  | 38 => ⟨S8x8192x1024, .f32⟩
  | 39 => ⟨S_, .i32⟩
  | 40 => ⟨S_, .f32⟩
  | 41 => ⟨S8x8222x1024, .f32⟩
  | 42 => ⟨S8x8192x1024, .f32⟩
  | 43 => ⟨S1x1024, .f32⟩
  | 44 => ⟨S1024, .f32⟩
  | 45 => ⟨S1x1x1024, .f32⟩
  | 46 => ⟨S8x8192x1024, .f32⟩
  | 47 => ⟨S8x8192x1024, .f32⟩
  | 48 => ⟨S8x8192x1024, .f32⟩
  | 49 => ⟨S1x1024, .f32⟩
  | 50 => ⟨S1024, .f32⟩
  | 51 => ⟨S1x1x1024, .f32⟩
  | 52 => ⟨S8x8192x1024, .f32⟩
  | 53 => ⟨S8x8192x1024, .f32⟩
  | 54 => ⟨S8x8192x1024, .f32⟩
  | 55 => ⟨S8x8192x1024, .f32⟩
  | 56 => ⟨S1x1024, .f32⟩
  | 57 => ⟨S1024, .f32⟩
  | 58 => ⟨S1x1x1024, .f32⟩
  | 59 => ⟨S8x8192x1024, .f32⟩
  | 60 => ⟨S8x8192x1024, .f32⟩
  | 61 => ⟨S8x8192x1024, .f32⟩
  | 62 => ⟨S8x8192x1024, .f32⟩
  | 63 => ⟨S1x1024, .f32⟩
  | 64 => ⟨S1024, .f32⟩
  | 65 => ⟨S1x1x1024, .f32⟩
  | 66 => ⟨S8x8192x1024, .f32⟩
  | 67 => ⟨S8x8192x1024, .f32⟩
  | 68 => ⟨S8x8192x1024, .f32⟩
  | 69 => ⟨S8x8192x1024, .f32⟩
  | 70 => ⟨S1x1024, .f32⟩
  | 71 => ⟨S1024, .f32⟩
  | 72 => ⟨S1x1x1024, .f32⟩
  | 73 => ⟨S8x8192x1024, .f32⟩
  | 74 => ⟨S8x8192x1024, .f32⟩
  | 75 => ⟨S8x8192x1024, .f32⟩
  | 76 => ⟨S8x8192x1024, .f32⟩
  | 77 => ⟨S1x1024, .f32⟩
  | 78 => ⟨S1024, .f32⟩
  | 79 => ⟨S1x1x1024, .f32⟩
  | 80 => ⟨S8x8192x1024, .f32⟩
  | 81 => ⟨S8x8192x1024, .f32⟩
  | 82 => ⟨S8x8192x1024, .f32⟩
  | 83 => ⟨S8x8192x1024, .f32⟩
  | 84 => ⟨S1x1024, .f32⟩
  | 85 => ⟨S1024, .f32⟩
  | 86 => ⟨S1x1x1024, .f32⟩
  | 87 => ⟨S8x8192x1024, .f32⟩
  | 88 => ⟨S8x8192x1024, .f32⟩
  | 89 => ⟨S8x8192x1024, .f32⟩
  | 90 => ⟨S8x8192x1024, .f32⟩
  | 91 => ⟨S1x1024, .f32⟩
  | 92 => ⟨S1024, .f32⟩
  | 93 => ⟨S1x1x1024, .f32⟩
  | 94 => ⟨S8x8192x1024, .f32⟩
  | 95 => ⟨S8x8192x1024, .f32⟩
  | 96 => ⟨S8x8192x1024, .f32⟩
  | 97 => ⟨S8x8192x1024, .f32⟩
  | 98 => ⟨S1x1024, .f32⟩
  | 99 => ⟨S1024, .f32⟩
  | 100 => ⟨S1x1x1024, .f32⟩
  | 101 => ⟨S8x8192x1024, .f32⟩
  | 102 => ⟨S8x8192x1024, .f32⟩
  | 103 => ⟨S8x8192x1024, .f32⟩
  | 104 => ⟨S8x8192x1024, .f32⟩
  | 105 => ⟨S1x1024, .f32⟩
  | 106 => ⟨S1024, .f32⟩
  | 107 => ⟨S1x1x1024, .f32⟩
  | 108 => ⟨S8x8192x1024, .f32⟩
  | 109 => ⟨S8x8192x1024, .f32⟩
  | 110 => ⟨S8x8192x1024, .f32⟩
  | 111 => ⟨S8x8192x1024, .f32⟩
  | 112 => ⟨S1x1024, .f32⟩
  | 113 => ⟨S1024, .f32⟩
  | 114 => ⟨S1x1x1024, .f32⟩
  | 115 => ⟨S8x8192x1024, .f32⟩
  | 116 => ⟨S8x8192x1024, .f32⟩
  | 117 => ⟨S8x8192x1024, .f32⟩
  | 118 => ⟨S8x8192x1024, .f32⟩
  | 119 => ⟨S1x1024, .f32⟩
  | 120 => ⟨S1024, .f32⟩
  | 121 => ⟨S1x1x1024, .f32⟩
  | 122 => ⟨S8x8192x1024, .f32⟩
  | 123 => ⟨S8x8192x1024, .f32⟩
  | 124 => ⟨S8x8192x1024, .f32⟩
  | 125 => ⟨S8x8192x1024, .f32⟩
  | 126 => ⟨S1x1024, .f32⟩
  | 127 => ⟨S1024, .f32⟩
  | _ => ⟨S8x8192x1024, .f32⟩

abbrev hbmTy0_1 (i : Nat) : BufTy := match i % 128 with
  | 0 => ⟨S1x1x1024, .f32⟩
  | 1 => ⟨S8x8192x1024, .f32⟩
  | 2 => ⟨S8x8192x1024, .f32⟩
  | 3 => ⟨S8x8192x1024, .f32⟩
  | 4 => ⟨S8x8192x1024, .f32⟩
  | 5 => ⟨S1x1024, .f32⟩
  | 6 => ⟨S1024, .f32⟩
  | 7 => ⟨S1x1x1024, .f32⟩
  | 8 => ⟨S8x8192x1024, .f32⟩
  | 9 => ⟨S8x8192x1024, .f32⟩
  | 10 => ⟨S8x8192x1024, .f32⟩
  | 11 => ⟨S8x8192x1024, .f32⟩
  | 12 => ⟨S1x1024, .f32⟩
  | 13 => ⟨S1024, .f32⟩
  | 14 => ⟨S1x1x1024, .f32⟩
  | 15 => ⟨S8x8192x1024, .f32⟩
  | 16 => ⟨S8x8192x1024, .f32⟩
  | 17 => ⟨S8x8192x1024, .f32⟩
  | 18 => ⟨S8x8192x1024, .f32⟩
  | 19 => ⟨S1x1024, .f32⟩
  | 20 => ⟨S1024, .f32⟩
  | 21 => ⟨S1x1x1024, .f32⟩
  | 22 => ⟨S8x8192x1024, .f32⟩
  | 23 => ⟨S8x8192x1024, .f32⟩
  | 24 => ⟨S8x8192x1024, .f32⟩
  | 25 => ⟨S8x8192x1024, .f32⟩
  | 26 => ⟨S1x1024, .f32⟩
  | 27 => ⟨S1024, .f32⟩
  | 28 => ⟨S1x1x1024, .f32⟩
  | 29 => ⟨S8x8192x1024, .f32⟩
  | 30 => ⟨S8x8192x1024, .f32⟩
  | 31 => ⟨S8x8192x1024, .f32⟩
  | 32 => ⟨S8x8192x1024, .f32⟩
  | 33 => ⟨S1x1024, .f32⟩
  | 34 => ⟨S1024, .f32⟩
  | 35 => ⟨S1x1x1024, .f32⟩
  | 36 => ⟨S8x8192x1024, .f32⟩
  | 37 => ⟨S8x8192x1024, .f32⟩
  | 38 => ⟨S8x8192x1024, .f32⟩
  | 39 => ⟨S8x8192x1024, .f32⟩
  | 40 => ⟨S1x1024, .f32⟩
  | 41 => ⟨S1024, .f32⟩
  | 42 => ⟨S1x1x1024, .f32⟩
  | 43 => ⟨S8x8192x1024, .f32⟩
  | 44 => ⟨S8x8192x1024, .f32⟩
  | 45 => ⟨S8x8192x1024, .f32⟩
  | 46 => ⟨S8x8192x1024, .f32⟩
  | 47 => ⟨S1x1024, .f32⟩
  | 48 => ⟨S1024, .f32⟩
  | 49 => ⟨S1x1x1024, .f32⟩
  | 50 => ⟨S8x8192x1024, .f32⟩
  | 51 => ⟨S8x8192x1024, .f32⟩
  | 52 => ⟨S8x8192x1024, .f32⟩
  | 53 => ⟨S8x8192x1024, .f32⟩
  | 54 => ⟨S1x1024, .f32⟩
  | 55 => ⟨S1024, .f32⟩
  | 56 => ⟨S1x1x1024, .f32⟩
  | 57 => ⟨S8x8192x1024, .f32⟩
  | 58 => ⟨S8x8192x1024, .f32⟩
  | 59 => ⟨S8x8192x1024, .f32⟩
  | 60 => ⟨S8x8192x1024, .f32⟩
  | 61 => ⟨S1x1024, .f32⟩
  | 62 => ⟨S1024, .f32⟩
  | 63 => ⟨S1x1x1024, .f32⟩
  | 64 => ⟨S8x8192x1024, .f32⟩
  | 65 => ⟨S8x8192x1024, .f32⟩
  | 66 => ⟨S8x8192x1024, .f32⟩
  | 67 => ⟨S8x8192x1024, .f32⟩
  | 68 => ⟨S1x1024, .f32⟩
  | 69 => ⟨S1024, .f32⟩
  | 70 => ⟨S1x1x1024, .f32⟩
  | 71 => ⟨S8x8192x1024, .f32⟩
  | 72 => ⟨S8x8192x1024, .f32⟩
  | 73 => ⟨S8x8192x1024, .f32⟩
  | 74 => ⟨S8x8192x1024, .f32⟩
  | 75 => ⟨S1x1024, .f32⟩
  | 76 => ⟨S1024, .f32⟩
  | 77 => ⟨S1x1x1024, .f32⟩
  | 78 => ⟨S8x8192x1024, .f32⟩
  | 79 => ⟨S8x8192x1024, .f32⟩
  | 80 => ⟨S8x8192x1024, .f32⟩
  | 81 => ⟨S8x8192x1024, .f32⟩
  | 82 => ⟨S1x1024, .f32⟩
  | 83 => ⟨S1024, .f32⟩
  | 84 => ⟨S1x1x1024, .f32⟩
  | 85 => ⟨S8x8192x1024, .f32⟩
  | 86 => ⟨S8x8192x1024, .f32⟩
  | 87 => ⟨S8x8192x1024, .f32⟩
  | 88 => ⟨S8x8192x1024, .f32⟩
  | 89 => ⟨S1x1024, .f32⟩
  | 90 => ⟨S1024, .f32⟩
  | 91 => ⟨S1x1x1024, .f32⟩
  | 92 => ⟨S8x8192x1024, .f32⟩
  | 93 => ⟨S8x8192x1024, .f32⟩
  | 94 => ⟨S8x8192x1024, .f32⟩
  | 95 => ⟨S8x8192x1024, .f32⟩
  | 96 => ⟨S1x1024, .f32⟩
  | 97 => ⟨S1024, .f32⟩
  | 98 => ⟨S1x1x1024, .f32⟩
  | 99 => ⟨S8x8192x1024, .f32⟩
  | 100 => ⟨S8x8192x1024, .f32⟩
  | 101 => ⟨S8x8192x1024, .f32⟩
  | 102 => ⟨S8x8192x1024, .f32⟩
  | 103 => ⟨S1x1024, .f32⟩
  | 104 => ⟨S1024, .f32⟩
  | 105 => ⟨S1x1x1024, .f32⟩
  | 106 => ⟨S8x8192x1024, .f32⟩
  | 107 => ⟨S8x8192x1024, .f32⟩
  | 108 => ⟨S8x8192x1024, .f32⟩
  | 109 => ⟨S8x8192x1024, .f32⟩
  | 110 => ⟨S1x1024, .f32⟩
  | 111 => ⟨S1024, .f32⟩
  | 112 => ⟨S1x1x1024, .f32⟩
  | 113 => ⟨S8x8192x1024, .f32⟩
  | 114 => ⟨S8x8192x1024, .f32⟩
  | 115 => ⟨S8x8192x1024, .f32⟩
  | 116 => ⟨S8x8192x1024, .f32⟩
  | 117 => ⟨S1x1024, .f32⟩
  | 118 => ⟨S1024, .f32⟩
  | 119 => ⟨S1x1x1024, .f32⟩
  | 120 => ⟨S8x8192x1024, .f32⟩
  | 121 => ⟨S8x8192x1024, .f32⟩
  | 122 => ⟨S8x8192x1024, .f32⟩
  | 123 => ⟨S8x8192x1024, .f32⟩
  | 124 => ⟨S1x1024, .f32⟩
  | 125 => ⟨S1024, .f32⟩
  | 126 => ⟨S1x1x1024, .f32⟩
  | 127 => ⟨S8x8192x1024, .f32⟩
  | _ => ⟨S8x8192x1024, .f32⟩

abbrev hbmTy0_2 (i : Nat) : BufTy := match i % 128 with
  | 0 => ⟨S8x8192x1024, .f32⟩
  | 1 => ⟨S8x8192x1024, .f32⟩
  | 2 => ⟨S1x1x1024, .f32⟩
  | 3 => ⟨S8x8192x1024, .f32⟩
  | 4 => ⟨S8x8192x1024, .f32⟩
  | 5 => ⟨S_, .f32⟩
  | 6 => ⟨S8x8192, .f32⟩
  | 7 => ⟨S8x8192x1, .f32⟩
  | 8 => ⟨S_, .f32⟩
  | 9 => ⟨S8x8192x1, .f32⟩
  | 10 => ⟨S8x8192x1, .f32⟩
  | 11 => ⟨S8x8192x1024, .f32⟩
  | 12 => ⟨S8x8192x1024, .f32⟩
  | 13 => ⟨S8x8192x1024, .f32⟩
  | 14 => ⟨S_, .f32⟩
  | 15 => ⟨S8x8192, .f32⟩
  | 16 => ⟨S8x8192x1, .f32⟩
  | 17 => ⟨S_, .f32⟩
  | 18 => ⟨S8x8192x1, .f32⟩
  | 19 => ⟨S8x8192x1, .f32⟩
  | 20 => ⟨S_, .f32⟩
  | 21 => ⟨S8x8192x1, .f32⟩
  | 22 => ⟨S8x8192x1, .f32⟩
  | 23 => ⟨S8x8192x1, .f32⟩
  | 24 => ⟨S8x8192x1024, .f32⟩
  | 25 => ⟨S8x8192x1024, .f32⟩
  | 26 => ⟨S1x1x1024, .f32⟩
  | 27 => ⟨S8x8192x1024, .f32⟩
  | 28 => ⟨S8x8192x1024, .f32⟩
  | 29 => ⟨S1x1x1024, .f32⟩
  | 30 => ⟨S8x8192x1024, .f32⟩
  | 31 => ⟨S8x8192x1024, .f32⟩
  | 32 => ⟨S8x8192x1024, .f32⟩
  | 33 => ⟨S8x8192x1024, .f32⟩
  | 34 => ⟨S_, .f32⟩
  | 35 => ⟨S8x8192x1024, .f32⟩
  | 36 => ⟨S8x8192x1024, .f32⟩
  | 37 => ⟨S_, .f32⟩
  | 38 => ⟨S8x8192x1024, .f32⟩
  | 39 => ⟨S8x8192x1024, .f32⟩
  | 40 => ⟨S8x8192x1024, .f32⟩
  | 41 => ⟨S8x8192x1024, .bf16⟩
  | _ => ⟨S8x8192x1024, .f32⟩

abbrev hbmTy (i : Nat) : BufTy := match i / 128 with
  | 0 => hbmTy0_0 i
  | 1 => hbmTy0_1 i
  | 2 => hbmTy0_2 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c : Ref sig .tc := ⟨.hbm, 39, rfl⟩
abbrev main_call0_v0 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_v154 : Ref sig .tc := ⟨.hbm, 169, rfl⟩
abbrev main_v155 : Ref sig .tc := ⟨.hbm, 170, rfl⟩
abbrev main_v156 : Ref sig .tc := ⟨.hbm, 171, rfl⟩
abbrev main_v157 : Ref sig .tc := ⟨.hbm, 172, rfl⟩
abbrev main_v158 : Ref sig .tc := ⟨.hbm, 173, rfl⟩
abbrev main_v159 : Ref sig .tc := ⟨.hbm, 174, rfl⟩
abbrev main_v160 : Ref sig .tc := ⟨.hbm, 175, rfl⟩
abbrev main_v161 : Ref sig .tc := ⟨.hbm, 176, rfl⟩
abbrev main_v162 : Ref sig .tc := ⟨.hbm, 177, rfl⟩
abbrev main_v163 : Ref sig .tc := ⟨.hbm, 178, rfl⟩
abbrev main_v164 : Ref sig .tc := ⟨.hbm, 179, rfl⟩
abbrev main_v165 : Ref sig .tc := ⟨.hbm, 180, rfl⟩
abbrev main_v166 : Ref sig .tc := ⟨.hbm, 181, rfl⟩
abbrev main_v167 : Ref sig .tc := ⟨.hbm, 182, rfl⟩
abbrev main_v168 : Ref sig .tc := ⟨.hbm, 183, rfl⟩
abbrev main_v169 : Ref sig .tc := ⟨.hbm, 184, rfl⟩
abbrev main_v170 : Ref sig .tc := ⟨.hbm, 185, rfl⟩
abbrev main_v171 : Ref sig .tc := ⟨.hbm, 186, rfl⟩
abbrev main_v172 : Ref sig .tc := ⟨.hbm, 187, rfl⟩
abbrev main_v173 : Ref sig .tc := ⟨.hbm, 188, rfl⟩
abbrev main_v174 : Ref sig .tc := ⟨.hbm, 189, rfl⟩
abbrev main_v175 : Ref sig .tc := ⟨.hbm, 190, rfl⟩
abbrev main_v176 : Ref sig .tc := ⟨.hbm, 191, rfl⟩
abbrev main_v177 : Ref sig .tc := ⟨.hbm, 192, rfl⟩
abbrev main_v178 : Ref sig .tc := ⟨.hbm, 193, rfl⟩
abbrev main_v179 : Ref sig .tc := ⟨.hbm, 194, rfl⟩
abbrev main_v180 : Ref sig .tc := ⟨.hbm, 195, rfl⟩
abbrev main_v181 : Ref sig .tc := ⟨.hbm, 196, rfl⟩
abbrev main_v182 : Ref sig .tc := ⟨.hbm, 197, rfl⟩
abbrev main_v183 : Ref sig .tc := ⟨.hbm, 198, rfl⟩
abbrev main_v184 : Ref sig .tc := ⟨.hbm, 199, rfl⟩
abbrev main_v185 : Ref sig .tc := ⟨.hbm, 200, rfl⟩
abbrev main_v186 : Ref sig .tc := ⟨.hbm, 201, rfl⟩
abbrev main_v187 : Ref sig .tc := ⟨.hbm, 202, rfl⟩
abbrev main_v188 : Ref sig .tc := ⟨.hbm, 203, rfl⟩
abbrev main_v189 : Ref sig .tc := ⟨.hbm, 204, rfl⟩
abbrev main_v190 : Ref sig .tc := ⟨.hbm, 205, rfl⟩
abbrev main_v191 : Ref sig .tc := ⟨.hbm, 206, rfl⟩
abbrev main_v192 : Ref sig .tc := ⟨.hbm, 207, rfl⟩
abbrev main_v193 : Ref sig .tc := ⟨.hbm, 208, rfl⟩
abbrev main_v194 : Ref sig .tc := ⟨.hbm, 209, rfl⟩
abbrev main_v195 : Ref sig .tc := ⟨.hbm, 210, rfl⟩
abbrev main_v196 : Ref sig .tc := ⟨.hbm, 211, rfl⟩
abbrev main_v197 : Ref sig .tc := ⟨.hbm, 212, rfl⟩
abbrev main_v198 : Ref sig .tc := ⟨.hbm, 213, rfl⟩
abbrev main_v199 : Ref sig .tc := ⟨.hbm, 214, rfl⟩
abbrev main_v200 : Ref sig .tc := ⟨.hbm, 215, rfl⟩
abbrev main_v201 : Ref sig .tc := ⟨.hbm, 216, rfl⟩
abbrev main_v202 : Ref sig .tc := ⟨.hbm, 217, rfl⟩
abbrev main_v203 : Ref sig .tc := ⟨.hbm, 218, rfl⟩
abbrev main_v204 : Ref sig .tc := ⟨.hbm, 219, rfl⟩
abbrev main_v205 : Ref sig .tc := ⟨.hbm, 220, rfl⟩
abbrev main_v206 : Ref sig .tc := ⟨.hbm, 221, rfl⟩
abbrev main_v207 : Ref sig .tc := ⟨.hbm, 222, rfl⟩
abbrev main_v208 : Ref sig .tc := ⟨.hbm, 223, rfl⟩
abbrev main_v209 : Ref sig .tc := ⟨.hbm, 224, rfl⟩
abbrev main_v210 : Ref sig .tc := ⟨.hbm, 225, rfl⟩
abbrev main_v211 : Ref sig .tc := ⟨.hbm, 226, rfl⟩
abbrev main_v212 : Ref sig .tc := ⟨.hbm, 227, rfl⟩
abbrev main_v213 : Ref sig .tc := ⟨.hbm, 228, rfl⟩
abbrev main_v214 : Ref sig .tc := ⟨.hbm, 229, rfl⟩
abbrev main_v215 : Ref sig .tc := ⟨.hbm, 230, rfl⟩
abbrev main_v216 : Ref sig .tc := ⟨.hbm, 231, rfl⟩
abbrev main_v217 : Ref sig .tc := ⟨.hbm, 232, rfl⟩
abbrev main_v218 : Ref sig .tc := ⟨.hbm, 233, rfl⟩
abbrev main_v219 : Ref sig .tc := ⟨.hbm, 234, rfl⟩
abbrev main_v220 : Ref sig .tc := ⟨.hbm, 235, rfl⟩
abbrev main_v221 : Ref sig .tc := ⟨.hbm, 236, rfl⟩
abbrev main_v222 : Ref sig .tc := ⟨.hbm, 237, rfl⟩
abbrev main_v223 : Ref sig .tc := ⟨.hbm, 238, rfl⟩
abbrev main_v224 : Ref sig .tc := ⟨.hbm, 239, rfl⟩
abbrev main_v225 : Ref sig .tc := ⟨.hbm, 240, rfl⟩
abbrev main_v226 : Ref sig .tc := ⟨.hbm, 241, rfl⟩
abbrev main_v227 : Ref sig .tc := ⟨.hbm, 242, rfl⟩
abbrev main_v228 : Ref sig .tc := ⟨.hbm, 243, rfl⟩
abbrev main_v229 : Ref sig .tc := ⟨.hbm, 244, rfl⟩
abbrev main_v230 : Ref sig .tc := ⟨.hbm, 245, rfl⟩
abbrev main_v231 : Ref sig .tc := ⟨.hbm, 246, rfl⟩
abbrev main_v232 : Ref sig .tc := ⟨.hbm, 247, rfl⟩
abbrev main_v233 : Ref sig .tc := ⟨.hbm, 248, rfl⟩
abbrev main_v234 : Ref sig .tc := ⟨.hbm, 249, rfl⟩
abbrev main_v235 : Ref sig .tc := ⟨.hbm, 250, rfl⟩
abbrev main_v236 : Ref sig .tc := ⟨.hbm, 251, rfl⟩
abbrev main_v237 : Ref sig .tc := ⟨.hbm, 252, rfl⟩
abbrev main_v238 : Ref sig .tc := ⟨.hbm, 253, rfl⟩
abbrev main_v239 : Ref sig .tc := ⟨.hbm, 254, rfl⟩
abbrev main_v240 : Ref sig .tc := ⟨.hbm, 255, rfl⟩
abbrev main_v241 : Ref sig .tc := ⟨.hbm, 256, rfl⟩
abbrev main_v242 : Ref sig .tc := ⟨.hbm, 257, rfl⟩
abbrev main_v243 : Ref sig .tc := ⟨.hbm, 258, rfl⟩
abbrev main_v244 : Ref sig .tc := ⟨.hbm, 259, rfl⟩
abbrev main_v245 : Ref sig .tc := ⟨.hbm, 260, rfl⟩
abbrev main_cst_4 : Ref sig .tc := ⟨.hbm, 261, rfl⟩
abbrev main_v246 : Ref sig .tc := ⟨.hbm, 262, rfl⟩
abbrev main_v247 : Ref sig .tc := ⟨.hbm, 263, rfl⟩
abbrev main_cst_5 : Ref sig .tc := ⟨.hbm, 264, rfl⟩
abbrev main_v248 : Ref sig .tc := ⟨.hbm, 265, rfl⟩
abbrev main_v249 : Ref sig .tc := ⟨.hbm, 266, rfl⟩
abbrev main_v250 : Ref sig .tc := ⟨.hbm, 267, rfl⟩
abbrev main_v251 : Ref sig .tc := ⟨.hbm, 268, rfl⟩
abbrev main_v252 : Ref sig .tc := ⟨.hbm, 269, rfl⟩
abbrev main_cst_6 : Ref sig .tc := ⟨.hbm, 270, rfl⟩
abbrev main_v253 : Ref sig .tc := ⟨.hbm, 271, rfl⟩
abbrev main_v254 : Ref sig .tc := ⟨.hbm, 272, rfl⟩
abbrev main_cst_7 : Ref sig .tc := ⟨.hbm, 273, rfl⟩
abbrev main_v255 : Ref sig .tc := ⟨.hbm, 274, rfl⟩
abbrev main_v256 : Ref sig .tc := ⟨.hbm, 275, rfl⟩
abbrev main_cst_8 : Ref sig .tc := ⟨.hbm, 276, rfl⟩
abbrev main_v257 : Ref sig .tc := ⟨.hbm, 277, rfl⟩
abbrev main_v258 : Ref sig .tc := ⟨.hbm, 278, rfl⟩
abbrev main_v259 : Ref sig .tc := ⟨.hbm, 279, rfl⟩
abbrev main_v260 : Ref sig .tc := ⟨.hbm, 280, rfl⟩
abbrev main_v261 : Ref sig .tc := ⟨.hbm, 281, rfl⟩
abbrev main_v262 : Ref sig .tc := ⟨.hbm, 282, rfl⟩
abbrev main_v263 : Ref sig .tc := ⟨.hbm, 283, rfl⟩
abbrev main_v264 : Ref sig .tc := ⟨.hbm, 284, rfl⟩
abbrev main_v265 : Ref sig .tc := ⟨.hbm, 285, rfl⟩
abbrev main_v266 : Ref sig .tc := ⟨.hbm, 286, rfl⟩
abbrev main_v267 : Ref sig .tc := ⟨.hbm, 287, rfl⟩
abbrev main_call1_v0 : Ref sig .tc := ⟨.hbm, 288, rfl⟩
abbrev main_call1_v1 : Ref sig .tc := ⟨.hbm, 289, rfl⟩
abbrev main_call1_cst : Ref sig .tc := ⟨.hbm, 290, rfl⟩
abbrev main_call1_v2 : Ref sig .tc := ⟨.hbm, 291, rfl⟩
abbrev main_call1_v3 : Ref sig .tc := ⟨.hbm, 292, rfl⟩
abbrev main_call1_cst_0 : Ref sig .tc := ⟨.hbm, 293, rfl⟩
abbrev main_call1_v4 : Ref sig .tc := ⟨.hbm, 294, rfl⟩
abbrev main_call1_v5 : Ref sig .tc := ⟨.hbm, 295, rfl⟩
abbrev main_v268 : Ref sig .tc := ⟨.hbm, 296, rfl⟩
abbrev main_v269 : Ref sig .tc := ⟨.hbm, 297, rfl⟩

abbrev nD : Nat := 1
abbrev τ : Topo := Topo.v7x

variable {F : FTy → Type} [FloatOps F]
-- ==== Mix.lean ====
abbrev S8x8192x1024 : Shape := ⟨3, ![8, 8192, 1024]⟩
abbrev S1024 : Shape := ⟨1, ![1024]⟩
abbrev S1024x2472 : Shape := ⟨2, ![1024, 2472]⟩
abbrev S3x512 : Shape := ⟨2, ![3, 512]⟩
abbrev S8192x512 : Shape := ⟨2, ![8192, 512]⟩
abbrev S1024x512 : Shape := ⟨2, ![1024, 512]⟩
abbrev S1024x64 : Shape := ⟨2, ![1024, 64]⟩
abbrev S1024x256 : Shape := ⟨2, ![1024, 256]⟩
abbrev S1024x32 : Shape := ⟨2, ![1024, 32]⟩
abbrev S1024x8 : Shape := ⟨2, ![1024, 8]⟩
abbrev S_ : Shape := ⟨0, ![]⟩
abbrev S1024x128 : Shape := ⟨2, ![1024, 128]⟩
abbrev S1024x1024 : Shape := ⟨2, ![1024, 1024]⟩
abbrev S1024x72 : Shape := ⟨2, ![1024, 72]⟩
abbrev S72x1024 : Shape := ⟨2, ![72, 1024]⟩
abbrev S1024x1536 : Shape := ⟨2, ![1024, 1536]⟩
abbrev S1x1024 : Shape := ⟨2, ![1, 1024]⟩
abbrev S8x8192x512 : Shape := ⟨3, ![8, 8192, 512]⟩
abbrev S8x8192x256 : Shape := ⟨3, ![8, 8192, 256]⟩
abbrev S8x8192x128 : Shape := ⟨3, ![8, 8192, 128]⟩
abbrev S8x16x72x512 : Shape := ⟨4, ![8, 16, 72, 512]⟩
abbrev S8x8192x32 : Shape := ⟨3, ![8, 8192, 32]⟩
abbrev S8x8x8192 : Shape := ⟨3, ![8, 8, 8192]⟩
abbrev S1x512x1024 : Shape := ⟨3, ![1, 512, 1024]⟩
abbrev S512x512 : Shape := ⟨2, ![512, 512]⟩
abbrev S1x512x512 : Shape := ⟨3, ![1, 512, 512]⟩
abbrev S1x512x256 : Shape := ⟨3, ![1, 512, 256]⟩
abbrev S1x512x128 : Shape := ⟨3, ![1, 512, 128]⟩
abbrev S1x1x72x512 : Shape := ⟨4, ![1, 1, 72, 512]⟩
abbrev S1x512x32 : Shape := ⟨3, ![1, 512, 32]⟩
abbrev S1x8x512 : Shape := ⟨3, ![1, 8, 512]⟩
abbrev S520x512 : Shape := ⟨2, ![520, 512]⟩
abbrev S8x8x512 : Shape := ⟨3, ![8, 8, 512]⟩
abbrev S512x1024 : Shape := ⟨2, ![512, 1024]⟩
abbrev S512 : Shape := ⟨1, ![512]⟩
abbrev S512x1 : Shape := ⟨2, ![512, 1]⟩
abbrev S512x128 : Shape := ⟨2, ![512, 128]⟩
abbrev S512x256 : Shape := ⟨2, ![512, 256]⟩
abbrev S512x32 : Shape := ⟨2, ![512, 32]⟩
abbrev S72x512 : Shape := ⟨2, ![72, 512]⟩
abbrev S8x512 : Shape := ⟨2, ![8, 512]⟩
abbrev S512x1536 : Shape := ⟨2, ![512, 1536]⟩
abbrev S1x512 : Shape := ⟨2, ![1, 512]⟩

abbrev nBuf : Space → Nat
  | .hbm => 32
  | .vmem => 25
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x2472, .f32⟩
  | .hbm, ⟨3, _⟩ => ⟨S3x512, .f32⟩
  | .hbm, ⟨4, _⟩ => ⟨S8192x512, .f32⟩
  | .hbm, ⟨5, _⟩ => ⟨S1024x512, .f32⟩
  | .hbm, ⟨6, _⟩ => ⟨S1024x64, .f32⟩
  | .hbm, ⟨7, _⟩ => ⟨S1024x64, .f32⟩
  | .hbm, ⟨8, _⟩ => ⟨S1024x256, .f32⟩
  | .hbm, ⟨9, _⟩ => ⟨S1024x32, .f32⟩
  | .hbm, ⟨10, _⟩ => ⟨S1024x8, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S_, .i32⟩
  | .hbm, ⟨15, _⟩ => ⟨S_, .f32⟩
  | .hbm, ⟨16, _⟩ => ⟨S1024x128, .f32⟩
  | .hbm, ⟨17, _⟩ => ⟨S1024x1024, .f32⟩
  | .hbm, ⟨18, _⟩ => ⟨S1024x72, .f32⟩
  | .hbm, ⟨19, _⟩ => ⟨S72x1024, .f32⟩
  | .hbm, ⟨20, _⟩ => ⟨S1024x1024, .bf16⟩
  | .hbm, ⟨21, _⟩ => ⟨S72x1024, .bf16⟩
  | .hbm, ⟨22, _⟩ => ⟨S1024x1536, .f32⟩
  | .hbm, ⟨23, _⟩ => ⟨S1024x1536, .bf16⟩
  | .hbm, ⟨24, _⟩ => ⟨S1x1024, .f32⟩
  | .hbm, ⟨25, _⟩ => ⟨S8x8192x512, .bf16⟩
  | .hbm, ⟨26, _⟩ => ⟨S8x8192x256, .bf16⟩
  | .hbm, ⟨27, _⟩ => ⟨S8x8192x128, .bf16⟩
  | .hbm, ⟨28, _⟩ => ⟨S8x16x72x512, .bf16⟩
  | .hbm, ⟨29, _⟩ => ⟨S8x8192x32, .bf16⟩
  | .hbm, ⟨30, _⟩ => ⟨S8x8x8192, .f32⟩
  | .hbm, ⟨31, _⟩ => ⟨S8x8192x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x1024, .bf16⟩
  | .local _ .vmem, ⟨4, _⟩ => ⟨S72x1024, .bf16⟩
  | .local _ .vmem, ⟨5, _⟩ => ⟨S1024x1536, .bf16⟩
  | .local _ .vmem, ⟨6, _⟩ => ⟨S3x512, .f32⟩
  | .local _ .vmem, ⟨7, _⟩ => ⟨S512x512, .f32⟩
  | .local _ .vmem, ⟨8, _⟩ => ⟨S512x512, .f32⟩
  | .local _ .vmem, ⟨9, _⟩ => ⟨S1x512x512, .bf16⟩
  | .local _ .vmem, ⟨10, _⟩ => ⟨S1x512x512, .bf16⟩
  | .local _ .vmem, ⟨11, _⟩ => ⟨S1x512x256, .bf16⟩
  | .local _ .vmem, ⟨12, _⟩ => ⟨S1x512x256, .bf16⟩
  | .local _ .vmem, ⟨13, _⟩ => ⟨S1x512x128, .bf16⟩
  | .local _ .vmem, ⟨14, _⟩ => ⟨S1x512x128, .bf16⟩
  | .local _ .vmem, ⟨15, _⟩ => ⟨S1x1x72x512, .bf16⟩
  | .local _ .vmem, ⟨16, _⟩ => ⟨S1x1x72x512, .bf16⟩
  | .local _ .vmem, ⟨17, _⟩ => ⟨S1x512x32, .bf16⟩
  | .local _ .vmem, ⟨18, _⟩ => ⟨S1x512x32, .bf16⟩
  | .local _ .vmem, ⟨19, _⟩ => ⟨S1x8x512, .f32⟩
  | .local _ .vmem, ⟨20, _⟩ => ⟨S1x8x512, .f32⟩
  | .local _ .vmem, ⟨21, _⟩ => ⟨S1x512x512, .bf16⟩
  | .local _ .vmem, ⟨22, _⟩ => ⟨S1x512x512, .bf16⟩
  | .local _ .vmem, ⟨23, _⟩ => ⟨S520x512, .f32⟩
  | .local _ .vmem, ⟨24, _⟩ => ⟨S8x8x512, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_c_0 : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev main_v16_3 : Ref sig .tc := ⟨.hbm, 28, rfl⟩
abbrev main_v16_4 : Ref sig .tc := ⟨.hbm, 29, rfl⟩
abbrev main_v16_5 : Ref sig .tc := ⟨.hbm, 30, rfl⟩
abbrev main_v16_6 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg0 : BitVec 32 := BitVec.ofNat 32 (i 0).val
  let c0_i32_53 : BitVec 32 := 0#32
  let v127 : BitVec 1 := Scalar.cmpi .sgt arg0 c0_i32_53
  let v128 : BitVec 32 := Scalar.extui v127
  let c0_i32_54 : BitVec 32 := 0#32
  let v129 : BitVec 1 := Scalar.cmpi .ne v128 c0_i32_54
  v129

def k0_off1 (i : grid0.Coords) : Fin 3 → Nat :=
  let arg1 : BitVec 32 := BitVec.ofNat 32 (i 1).val
  let v156 : Index := Scalar.indexCast arg1
  let c0_67 : Index := 0#32
  let c0_68 : Index := 0#32
  ![v156.toNat, 0, 0]
def k0_off2 (i : grid0.Coords) : Fin 3 → Nat :=
  let arg1 : BitVec 32 := BitVec.ofNat 32 (i 1).val
  let v134 : Index := Scalar.indexCast arg1
  let c0_56 : Index := 0#32
  let c0_57 : Index := 0#32
  ![v134.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S72x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x72x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x32 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== MixRefIdeal.lean ====
abbrev S8x8192x1024 : Shape := ⟨3, ![8, 8192, 1024]⟩
abbrev S1024 : Shape := ⟨1, ![1024]⟩
abbrev S1024x2472 : Shape := ⟨2, ![1024, 2472]⟩
abbrev S3x512 : Shape := ⟨2, ![3, 512]⟩
abbrev S8192x512 : Shape := ⟨2, ![8192, 512]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x2472 : Shape := ⟨3, ![8, 8192, 2472]⟩
abbrev S8x8192x1536 : Shape := ⟨3, ![8, 8192, 1536]⟩
abbrev S8x8192x512 : Shape := ⟨3, ![8, 8192, 512]⟩
abbrev S8x8194x512 : Shape := ⟨3, ![8, 8194, 512]⟩
abbrev S1x512 : Shape := ⟨2, ![1, 512]⟩
abbrev S512 : Shape := ⟨1, ![512]⟩
abbrev S1x1x512 : Shape := ⟨3, ![1, 1, 512]⟩

abbrev nBuf : Space → Nat
  | .hbm => 52
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x2472, .f32⟩
  | .hbm, ⟨3, _⟩ => ⟨S3x512, .f32⟩
  | .hbm, ⟨4, _⟩ => ⟨S8192x512, .f32⟩
  | .hbm, ⟨5, _⟩ => ⟨S8x8192x1024, .f32⟩
  | .hbm, ⟨6, _⟩ => ⟨S_, .f32⟩
  | .hbm, ⟨7, _⟩ => ⟨S8x8192, .f32⟩
  | .hbm, ⟨8, _⟩ => ⟨S8x8192x1, .f32⟩
  | .hbm, ⟨9, _⟩ => ⟨S_, .f32⟩
  | .hbm, ⟨10, _⟩ => ⟨S8x8192x1, .f32⟩
  | .hbm, ⟨11, _⟩ => ⟨S8x8192x1, .f32⟩
  | .hbm, ⟨12, _⟩ => ⟨S_, .f32⟩
  | .hbm, ⟨13, _⟩ => ⟨S8x8192x1, .f32⟩
  | .hbm, ⟨14, _⟩ => ⟨S8x8192x1, .f32⟩
  | .hbm, ⟨15, _⟩ => ⟨S8x8192x1, .f32⟩
  | .hbm, ⟨16, _⟩ => ⟨S8x8192x1024, .f32⟩
  | .hbm, ⟨17, _⟩ => ⟨S8x8192x1024, .f32⟩
  | .hbm, ⟨18, _⟩ => ⟨S1x1x1024, .f32⟩
  | .hbm, ⟨19, _⟩ => ⟨S8x8192x1024, .f32⟩
  | .hbm, ⟨20, _⟩ => ⟨S8x8192x1024, .f32⟩
  | .hbm, ⟨21, _⟩ => ⟨S8x8192x2472, .f32⟩
  | .hbm, ⟨22, _⟩ => ⟨S8x8192x1536, .f32⟩
  | .hbm, ⟨23, _⟩ => ⟨S8x8192x512, .f32⟩
  | .hbm, ⟨24, _⟩ => ⟨S8x8192x512, .f32⟩
  | .hbm, ⟨25, _⟩ => ⟨S8x8192x512, .f32⟩
  | .hbm, ⟨26, _⟩ => ⟨S8x8192x512, .f32⟩
  | .hbm, ⟨27, _⟩ => ⟨S_, .i32⟩
  | .hbm, ⟨28, _⟩ => ⟨S_, .f32⟩
  | .hbm, ⟨29, _⟩ => ⟨S8x8194x512, .f32⟩
  | .hbm, ⟨30, _⟩ => ⟨S8x8192x512, .f32⟩
  | .hbm, ⟨31, _⟩ => ⟨S1x512, .f32⟩
  | .hbm, ⟨32, _⟩ => ⟨S512, .f32⟩
  | .hbm, ⟨33, _⟩ => ⟨S1x1x512, .f32⟩
  | .hbm, ⟨34, _⟩ => ⟨S8x8192x512, .f32⟩
  | .hbm, ⟨35, _⟩ => ⟨S8x8192x512, .f32⟩
  | .hbm, ⟨36, _⟩ => ⟨S8x8192x512, .f32⟩
  | .hbm, ⟨37, _⟩ => ⟨S1x512, .f32⟩
  | .hbm, ⟨38, _⟩ => ⟨S512, .f32⟩
  | .hbm, ⟨39, _⟩ => ⟨S1x1x512, .f32⟩
  | .hbm, ⟨40, _⟩ => ⟨S8x8192x512, .f32⟩
  | .hbm, ⟨41, _⟩ => ⟨S8x8192x512, .f32⟩
  | .hbm, ⟨42, _⟩ => ⟨S8x8192x512, .f32⟩
  | .hbm, ⟨43, _⟩ => ⟨S8x8192x512, .f32⟩
  | .hbm, ⟨44, _⟩ => ⟨S1x512, .f32⟩
  | .hbm, ⟨45, _⟩ => ⟨S512, .f32⟩
  | .hbm, ⟨46, _⟩ => ⟨S1x1x512, .f32⟩
  | .hbm, ⟨47, _⟩ => ⟨S8x8192x512, .f32⟩
  | .hbm, ⟨48, _⟩ => ⟨S8x8192x512, .f32⟩
  | .hbm, ⟨49, _⟩ => ⟨S8x8192x512, .f32⟩
  | .hbm, ⟨50, _⟩ => ⟨S8x8192x512, .f32⟩
  | .hbm, ⟨51, _⟩ => ⟨S8x8192x512, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c : Ref sig .tc := ⟨.hbm, 27, rfl⟩
abbrev main_call0_v0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩

abbrev nD : Nat := 1
abbrev τ : Topo := Topo.v7x

variable {F : FTy → Type} [FloatOps F]
-- ==== Proof.Calm.lean ====
/- Programs that only load and store in buffers they are permitted to touch, whatever the values: the notion a frame
   claim needs. Nothing is said of what a load reads or a store writes, so a branch may be taken either way and a loop
   may carry anything. -/
module

public import Idealize.ShloMosaic.Adequacy
public import Idealize.ShloMosaic.Lib.Scf

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-! ## Every effect of a program is permitted -/

section Calm

variable {Ef : Type → Type} {α β : Type}

/-- Every effect the program may come to, on every path, is one that `ok` permits. -/
def Calm (ok : ∀ ⦃β : Type⦄, Ef β → Prop) : Prog Ef α → Prop
  | .ret _ => True
  | .op e k => ok e ∧ ∀ x, Calm ok (k x)

variable {ok : ∀ ⦃β : Type⦄, Ef β → Prop}

/-- A program without effects. -/
theorem Calm.pure (a : α) : Calm ok (Pure.pure a : Prog Ef α) := trivial

/-- One permitted effect. -/
theorem Calm.lift {e : Ef β} (h : ok e) : Calm ok (Prog.lift e) := ⟨h, fun _ => trivial⟩

/-- One program after another. -/
theorem Calm.bind {p : Prog Ef β} {k : β → Prog Ef α} (hp : Calm ok p) (hk : ∀ x, Calm ok (k x)) :
    Calm ok (p >>= k) := by
  induction p with
  | ret a => exact hk a
  | op e c ih => exact ⟨hp.1, fun x => ih x (hp.2 x)⟩

/-- A permitted effect, then the rest. -/
theorem Calm.step {e : Ef β} {k : β → Prog Ef α} (h : ok e) (hk : ∀ x, Calm ok (k x)) :
    Calm ok (Prog.lift e >>= k) := ⟨h, hk⟩

/-- A branch whose condition the taken side may use. -/
theorem Calm.dite {c : Prop} [Decidable c] {p : c → Prog Ef α} {q : ¬c → Prog Ef α}
    (hp : ∀ h, Calm ok (p h)) (hq : ∀ h, Calm ok (q h)) : Calm ok (if h : c then p h else q h) := by
  by_cases h : c
  · rw [dif_pos h]; exact hp h
  · rw [dif_neg h]; exact hq h

/-- A branch. -/
theorem Calm.ite {c : Prop} [Decidable c] {p q : Prog Ef α} (hp : Calm ok p) (hq : Calm ok q) :
    Calm ok (if c then p else q) := by
  by_cases h : c
  · rw [if_pos h]; exact hp
  · rw [if_neg h]; exact hq

/-- A counted loop whose every trip is calm, whatever it is handed. -/
theorem Calm.loop {w : Nat} {lb ub st : BitVec w} {hok : Scf.OK lb ub st} {init : α}
    {body : Fin (Scf.trips lb ub st) → α → Prog Ef α} (h : ∀ k a, Calm ok (body k a)) :
    Calm ok (Scf.for lb ub st hok init body) := by
  rw [Scf.for_eq]
  generalize List.finRange (Scf.trips lb ub st) = ks
  induction ks generalizing init with
  | nil => trivial
  | cons k ks ih => exact Calm.bind (h k init) fun _ => ih

end Calm

/-! ## Loads and stores -/

section Buffers

variable {nD : Nat} {τ : Topo} {sig : RefSig} {Val : EltTy → Type} {Λ : Labels} {p : Proc τ} {α : Type}

/-- Every load of the memref is permitted. -/
class Reads (ok : ∀ ⦃β : Type⦄, TpuEff nD τ sig Val Λ p β → Prop) {cs : CoreSpace} {s : Shape} {e : EltTy}
    (m : Memref sig p.kind cs s e) : Prop where
  load : ∀ (r : LoadRect s) (h : m.view.LoadsAt r), ok (.load m r h)

/-- Every store into the memref is permitted. -/
class Writes (ok : ∀ ⦃β : Type⦄, TpuEff nD τ sig Val Λ p β → Prop) {cs : CoreSpace} {s : Shape} {e : EltTy}
    (m : Memref sig p.kind cs s e) : Prop where
  store : ∀ (r : Rect s) (w : r.shape.Idx → Val e) (M : Finset r.shape.Idx) (h : (m.access r).Stores M)
    (hm : M = Finset.univ ∨ ∀ a, r.stride a = 1), ok (.store m r w M h hm)

variable {ok : ∀ ⦃β : Type⦄, TpuEff nD τ sig Val Λ p β → Prop} {cs : CoreSpace} {s : Shape} {e : EltTy}
  {m : Memref sig p.kind cs s e}

/-- A permitted load, then the rest. -/
theorem Calm.load [hm : Reads ok m] {r : LoadRect s} {h : m.view.LoadsAt r}
    {k : (r.shape.Idx → Val e) → Prog (TpuEff nD τ sig Val Λ p) α} (hk : ∀ x, Calm ok (k x)) :
    Calm ok (Prog.lift (.load m r h) >>= k) := Calm.step (hm.load r h) hk

/-- A permitted store, then the rest. -/
theorem Calm.store [hm : Writes ok m] {r : Rect s} {w : r.shape.Idx → Val e} {M : Finset r.shape.Idx}
    {h : (m.access r).Stores M} {hu : M = Finset.univ ∨ ∀ a, r.stride a = 1}
    {k : PUnit → Prog (TpuEff nD τ sig Val Λ p) α} (hk : ∀ x, Calm ok (k x)) :
    Calm ok (Prog.lift (.store m r w M h hu) >>= k) := Calm.step (hm.store r w M h hu) hk

/-- A permitted load at the end. -/
theorem Calm.load_end [hm : Reads ok m] {r : LoadRect s} {h : m.view.LoadsAt r} :
    Calm ok (Prog.lift (.load m r h)) := Calm.lift (hm.load r h)

/-- A permitted store at the end. -/
theorem Calm.store_end [hm : Writes ok m] {r : Rect s} {w : r.shape.Idx → Val e} {M : Finset r.shape.Idx}
    {h : (m.access r).Stores M} {hu : M = Finset.univ ∨ ∀ a, r.stride a = 1} :
    Calm ok (Prog.lift (.store m r w M h hu)) := Calm.lift (hm.store r w M h hu)

end Buffers

end Cert.Proof

end
-- ==== Proof.DsaPartsA.lean ====
/- The parts of the attention call's body, one to 133: each only loads and stores in the buffers it is handed. -/
module

public import proofs.«01_k».proof.Dsa
public import proofs.«01_k».proof.Proof.Calm

@[expose] public section

noncomputable section

namespace Cert.Proof.Dsa

open Cert.Dsa
open Idealize.ShloMosaic Idealize.SL.Sem

variable {F : FTy → Type} [BitOps F] [Cert.Dsa.Facts]
variable {ok : ∀ ⦃β : Type⦄, TpuEff nD τ sig (Elt F) Λ₀ .tc β → Prop} {i : grid0.Coords}
variable {arg2 : Memref sig .tc .vmem S1x128x512 .bf16} {harg2 : arg2.IsWhole} [Reads ok arg2]
variable {arg3 : Memref sig .tc .vmem S1x128x256 .bf16} {harg3 : arg3.IsWhole} [Reads ok arg3]
variable {arg4 : Memref sig .tc .vmem S1x8x128 .f32} {harg4 : arg4.IsWhole} [Reads ok arg4]
variable {arg5 : Memref sig .tc .vmem S1x8192x128 .bf16} {harg5 : arg5.IsWhole} [Reads ok arg5]
variable {arg6 : Memref sig .tc .vmem S1x16x72x512 .bf16} {harg6 : arg6.IsWhole} [Reads ok arg6]
variable {arg7 : Memref sig .tc .vmem S1x8192x32 .bf16} {harg7 : arg7.IsWhole} [Reads ok arg7]
variable {arg8 : Memref sig .tc .vmem S1x128x512 .bf16} {harg8 : arg8.IsWhole} [Reads ok arg8] [Writes ok arg8]
variable {arg9 : Memref sig .tc .vmem S1024x256 .bf16} {harg9 : arg9.IsWhole} [Reads ok arg9] [Writes ok arg9]
variable {arg10 : Memref sig .tc .vmem S1024x32 .bf16} {harg10 : arg10.IsWhole} [Reads ok arg10] [Writes ok arg10]
variable {arg11 : Memref sig .tc .vmem S16x512x128 .i16} {harg11 : arg11.IsWhole} [Reads ok arg11] [Writes ok arg11]
variable {arg12 : Memref sig .tc .vmem S16x512x128 .i16} {harg12 : arg12.IsWhole} [Reads ok arg12] [Writes ok arg12]
variable {arg13 : Memref sig .tc .vmem S16x512x128 .i16} {harg13 : arg13.IsWhole} [Reads ok arg13] [Writes ok arg13]
variable {arg14 : Memref sig .tc .vmem S2x1x128 .i32} {harg14 : arg14.IsWhole} [Reads ok arg14] [Writes ok arg14]
variable {arg15 : Memref sig .tc .vmem S2x1x128 .f32} {harg15 : arg15.IsWhole} [Reads ok arg15] [Writes ok arg15]
variable {arg16 : Memref sig .tc .vmem S72x1024 .f32} {harg16 : arg16.IsWhole} [Reads ok arg16] [Writes ok arg16]
variable {arg17 : Memref sig .tc .vmem S512x1024 .f32} {harg17 : arg17.IsWhole} [Reads ok arg17] [Writes ok arg17]
variable {arg18 : Memref sig .tc .vmem S512x1024 .f32} {harg18 : arg18.IsWhole} [Reads ok arg18] [Writes ok arg18]

theorem part1 : ∀ a0 a1 a2 a3, Calm ok (Cert.Dsa.k0_part1 i _ harg2 _ harg3 _ harg4 _ harg5 _ harg6 _ harg7 _ harg8 _ harg9 _ harg10 _ harg11 _ harg12 _ harg13 _ harg14 _ harg15 _ harg16 _ harg17 _ harg18 a0 a1 a2 a3) := by
  intros
  unfold Cert.Dsa.k0_part1
  repeat' with_reducible first | exact Calm.pure _ | refine Calm.load fun _ => ?_ | refine Calm.store fun _ => ?_ | exact Calm.load_end | exact Calm.store_end

theorem part2 : ∀ a0 a1 a2 a3 a4 a5, Calm ok (Cert.Dsa.k0_part2 i _ harg2 _ harg3 _ harg4 _ harg5 _ harg6 _ harg7 _ harg8 _ harg9 _ harg10 _ harg11 _ harg12 _ harg13 _ harg14 _ harg15 _ harg16 _ harg17 _ harg18 a0 a1 a2 a3 a4 a5) := by
  intros
  unfold Cert.Dsa.k0_part2
  repeat' with_reducible first | exact Calm.pure _ | refine Calm.load fun _ => ?_ | refine Calm.store fun _ => ?_ | exact Calm.load_end | exact Calm.store_end

theorem part3 : ∀ a0 a1 a2 a3 a4 a5, Calm ok (Cert.Dsa.k0_part3 i _ harg2 _ harg3 _ harg4 _ harg5 _ harg6 _ harg7 _ harg8 _ harg9 _ harg10 _ harg11 _ harg12 _ harg13 _ harg14 _ harg15 _ harg16 _ harg17 _ harg18 a0 a1 a2 a3 a4 a5) := by
  intros
  unfold Cert.Dsa.k0_part3
  repeat' with_reducible first | exact Calm.pure _ | refine Calm.load fun _ => ?_ | refine Calm.store fun _ => ?_ | exact Calm.load_end | exact Calm.store_end

theorem part4 : ∀ a0 a1 a2 a3 a4, Calm ok (Cert.Dsa.k0_part4 i _ harg2 _ harg3 _ harg4 _ harg5 _ harg6 _ harg7 _ harg8 _ harg9 _ harg10 _ harg11 _ harg12 _ harg13 _ harg14 _ harg15 _ harg16 _ harg17 _ harg18 a0 a1 a2 a3 a4) := by
  intros
  unfold Cert.Dsa.k0_part4
  repeat' with_reducible first | exact Calm.pure _ | refine Calm.load fun _ => ?_ | refine Calm.store fun _ => ?_ | exact Calm.load_end | exact Calm.store_end

theorem part5 : ∀ a0 a1 a2 a3, Calm ok (Cert.Dsa.k0_part5 i _ harg2 _ harg3 _ harg4 _ harg5 _ harg6 _ harg7 _ harg8 _ harg9 _ harg10 _ harg11 _ harg12 _ harg13 _ harg14 _ harg15 _ harg16 _ harg17 _ harg18 a0 a1 a2 a3) := by
  intros
  unfold Cert.Dsa.k0_part5
  repeat' with_reducible first | exact Calm.pure _ | refine Calm.load fun _ => ?_ | refine Calm.store fun _ => ?_ | exact Calm.load_end | exact Calm.store_end

theorem part6 : ∀ a0 a1 a2 a3 a4 a5, Calm ok (Cert.Dsa.k0_part6 i _ harg2 _ harg3 _ harg4 _ harg5 _ harg6 _ harg7 _ harg8 _ harg9 _ harg10 _ harg11 _ harg12 _ harg13 _ harg14 _ harg15 _ harg16 _ harg17 _ harg18 a0 a1 a2 a3 a4 a5) := by
  intros
  unfold Cert.Dsa.k0_part6
  repeat' with_reducible first | exact Calm.pure _ | refine Calm.load fun _ => ?_ | refine Calm.store fun _ => ?_ | exact Calm.load_end | exact Calm.store_end

theorem part7 : ∀ a0 a1 a2 a3 a4 a5, Calm ok (Cert.Dsa.k0_part7 i _ harg2 _ harg3 _ harg4 _ harg5 _ harg6 _ harg7 _ harg8 _ harg9 _ harg10 _ harg11 _ harg12 _ harg13 _ harg14 _ harg15 _ harg16 _ harg17 _ harg18 a0 a1 a2 a3 a4 a5) := by
  intros
  unfold Cert.Dsa.k0_part7
  repeat' with_reducible first | exact Calm.pure _ | refine Calm.load fun _ => ?_ | refine Calm.store fun _ => ?_ | exact Calm.load_end | exact Calm.store_end

theorem part8 : ∀ a0 a1 a2 a3 a4, Calm ok (Cert.Dsa.k0_part8 i _ harg2 _ harg3 _ harg4 _ harg5 _ harg6 _ harg7 _ harg8 _ harg9 _ harg10 _ harg11 _ harg12 _ harg13 _ harg14 _ harg15 _ harg16 _ harg17 _ harg18 a0 a1 a2 a3 a4) := by
  intros
  unfold Cert.Dsa.k0_part8
  repeat' with_reducible first | exact Calm.pure _ | refine Calm.load fun _ => ?_ | refine Calm.store fun _ => ?_ | exact Calm.load_end | exact Calm.store_end

theorem part9 : ∀ a0 a1 a2, Calm ok (Cert.Dsa.k0_part9 i _ harg2 _ harg3 _ harg4 _ harg5 _ harg6 _ harg7 _ harg8 _ harg9 _ harg10 _ harg11 _ harg12 _ harg13 _ harg14 _ harg15 _ harg16 _ harg17 _ harg18 a0 a1 a2) := by
  intros
  unfold Cert.Dsa.k0_part9
  repeat' with_reducible first | exact Calm.pure _ | refine Calm.load fun _ => ?_ | refine Calm.store fun _ => ?_ | exact Calm.load_end | exact Calm.store_end

theorem part10 : ∀ a0 a1 a2 a3 a4 a5 a6, Calm ok (Cert.Dsa.k0_part10 i _ harg2 _ harg3 _ harg4 _ harg5 _ harg6 _ harg7 _ harg8 _ harg9 _ harg10 _ harg11 _ harg12 _ harg13 _ harg14 _ harg15 _ harg16 _ harg17 _ harg18 a0 a1 a2 a3 a4 a5 a6) := by
  intros
  unfold Cert.Dsa.k0_part10
  repeat' with_reducible first | exact Calm.pure _ | refine Calm.load fun _ => ?_ | refine Calm.store fun _ => ?_ | exact Calm.load_end | exact Calm.store_end

theorem part11 : ∀ a0 a1 a2 a3 a4 a5 a6 a7 a8 a9 a10, Calm ok (Cert.Dsa.k0_part11 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part11
  repeat' with_reducible first | exact Calm.pure _ | refine Calm.load fun _ => ?_ | refine Calm.store fun _ => ?_ | exact Calm.load_end | exact Calm.store_end

theorem part12 : ∀ a0 a1 a2 a3 a4 a5 a6 a7 a8 a9, Calm ok (Cert.Dsa.k0_part12 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part12
  repeat' with_reducible first | exact Calm.pure _ | refine Calm.load fun _ => ?_ | refine Calm.store fun _ => ?_ | exact Calm.load_end | exact Calm.store_end

theorem part13 : ∀ a0 a1 a2 a3 a4 a5 a6 a7 a8 a9, Calm ok (Cert.Dsa.k0_part13 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part13
  repeat' with_reducible first | exact Calm.pure _ | refine Calm.load fun _ => ?_ | refine Calm.store fun _ => ?_ | exact Calm.load_end | exact Calm.store_end

theorem part14 : ∀ a0 a1 a2 a3 a4 a5 a6 a7 a8 a9 a10 a11, Calm ok (Cert.Dsa.k0_part14 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10 a11) := by
  intros
  unfold Cert.Dsa.k0_part14
  repeat' with_reducible first | exact Calm.pure _ | refine Calm.load fun _ => ?_ | refine Calm.store fun _ => ?_ | exact Calm.load_end | exact Calm.store_end

theorem part15 : ∀ a0 a1 a2 a3 a4 a5 a6 a7 a8 a9, Calm ok (Cert.Dsa.k0_part15 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part15
  repeat' with_reducible first | exact Calm.pure _ | refine Calm.load fun _ => ?_ | refine Calm.store fun _ => ?_ | exact Calm.load_end | exact Calm.store_end

theorem part16 : ∀ a0 a1 a2 a3 a4 a5 a6 a7 a8 a9 a10 a11 a12, Calm ok (Cert.Dsa.k0_part16 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10 a11 a12) := by
  intros
  unfold Cert.Dsa.k0_part16
  repeat' with_reducible first | exact Calm.pure _ | refine Calm.load fun _ => ?_ | refine Calm.store fun _ => ?_ | exact Calm.load_end | exact Calm.store_end

theorem part17 : ∀ a0 a1 a2 a3 a4 a5 a6 a7 a8 a9 a10, Calm ok (Cert.Dsa.k0_part17 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part17
  repeat' with_reducible first | exact Calm.pure _ | refine Calm.load fun _ => ?_ | refine Calm.store fun _ => ?_ | exact Calm.load_end | exact Calm.store_end

theorem part18 : ∀ a0 a1 a2 a3 a4 a5 a6 a7 a8 a9 a10, Calm ok (Cert.Dsa.k0_part18 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part18
  repeat' with_reducible first | exact Calm.pure _ | refine Calm.load fun _ => ?_ | refine Calm.store fun _ => ?_ | exact Calm.load_end | exact Calm.store_end

theorem part19 : ∀ a0 a1 a2 a3 a4 a5 a6 a7 a8 a9 a10, Calm ok (Cert.Dsa.k0_part19 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part19
  repeat' with_reducible first | exact Calm.pure _ | refine Calm.load fun _ => ?_ | refine Calm.store fun _ => ?_ | exact Calm.load_end | exact Calm.store_end

theorem part20 : ∀ a0 a1 a2 a3 a4 a5 a6 a7 a8 a9, Calm ok (Cert.Dsa.k0_part20 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part20
  repeat' with_reducible first | exact Calm.pure _ | refine Calm.load fun _ => ?_ | refine Calm.store fun _ => ?_ | exact Calm.load_end | exact Calm.store_end

theorem part21 : ∀ a0 a1 a2 a3 a4 a5 a6 a7 a8 a9 a10, Calm ok (Cert.Dsa.k0_part21 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part21
  repeat' with_reducible first | exact Calm.pure _ | refine Calm.load fun _ => ?_ | refine Calm.store fun _ => ?_ | exact Calm.load_end | exact Calm.store_end

theorem part22 : ∀ a0 a1 a2 a3 a4 a5 a6 a7 a8 a9 a10, Calm ok (Cert.Dsa.k0_part22 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part22
  repeat' with_reducible first | exact Calm.pure _ | refine Calm.load fun _ => ?_ | refine Calm.store fun _ => ?_ | exact Calm.load_end | exact Calm.store_end

theorem part23 : ∀ a0 a1 a2 a3 a4 a5 a6 a7 a8 a9 a10, Calm ok (Cert.Dsa.k0_part23 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part23
  repeat' with_reducible first | exact Calm.pure _ | refine Calm.load fun _ => ?_ | refine Calm.store fun _ => ?_ | exact Calm.load_end | exact Calm.store_end

theorem part24 : ∀ a0 a1 a2 a3 a4 a5 a6 a7 a8 a9 a10 a11, Calm ok (Cert.Dsa.k0_part24 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10 a11) := by
  intros
  unfold Cert.Dsa.k0_part24
  repeat' with_reducible first | exact Calm.pure _ | refine Calm.load fun _ => ?_ | refine Calm.store fun _ => ?_ | exact Calm.load_end | exact Calm.store_end

theorem part25 : ∀ a0 a1 a2 a3 a4 a5 a6 a7 a8 a9, Calm ok (Cert.Dsa.k0_part25 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part25
  repeat' with_reducible first | exact Calm.pure _ | refine Calm.load fun _ => ?_ | refine Calm.store fun _ => ?_ | exact Calm.load_end | exact Calm.store_end

theorem part26 : ∀ a0 a1 a2 a3 a4 a5 a6 a7 a8 a9, Calm ok (Cert.Dsa.k0_part26 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part26
  repeat' with_reducible first | exact Calm.pure _ | refine Calm.load fun _ => ?_ | refine Calm.store fun _ => ?_ | exact Calm.load_end | exact Calm.store_end

theorem part27 : ∀ a0 a1 a2 a3 a4 a5 a6 a7 a8 a9 a10 a11, Calm ok (Cert.Dsa.k0_part27 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10 a11) := by
  intros
  unfold Cert.Dsa.k0_part27
  repeat' with_reducible first | exact Calm.pure _ | refine Calm.load fun _ => ?_ | refine Calm.store fun _ => ?_ | exact Calm.load_end | exact Calm.store_end

theorem part28 : ∀ a0 a1 a2 a3 a4 a5 a6 a7 a8 a9, Calm ok (Cert.Dsa.k0_part28 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part28
  repeat' with_reducible first | exact Calm.pure _ | refine Calm.load fun _ => ?_ | refine Calm.store fun _ => ?_ | exact Calm.load_end | exact Calm.store_end

theorem part29 : ∀ a0 a1 a2 a3 a4 a5 a6 a7 a8 a9 a10 a11 a12, Calm ok (Cert.Dsa.k0_part29 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10 a11 a12) := by
  intros
  unfold Cert.Dsa.k0_part29
  repeat' with_reducible first | exact Calm.pure _ | refine Calm.load fun _ => ?_ | refine Calm.store fun _ => ?_ | exact Calm.load_end | exact Calm.store_end

theorem part30 : ∀ a0 a1 a2 a3 a4 a5 a6 a7 a8 a9 a10, Calm ok (Cert.Dsa.k0_part30 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part30
  repeat' with_reducible first | exact Calm.pure _ | refine Calm.load fun _ => ?_ | refine Calm.store fun _ => ?_ | exact Calm.load_end | exact Calm.store_end

theorem part31 : ∀ a0 a1 a2 a3 a4 a5 a6 a7 a8 a9 a10, Calm ok (Cert.Dsa.k0_part31 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part31
  repeat' with_reducible first | exact Calm.pure _ | refine Calm.load fun _ => ?_ | refine Calm.store fun _ => ?_ | exact Calm.load_end | exact Calm.store_end

theorem part32 : ∀ a0 a1 a2 a3 a4 a5 a6 a7 a8 a9 a10, Calm ok (Cert.Dsa.k0_part32 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part32
  repeat' with_reducible first | exact Calm.pure _ | refine Calm.load fun _ => ?_ | refine Calm.store fun _ => ?_ | exact Calm.load_end | exact Calm.store_end

theorem part33 : ∀ a0 a1 a2 a3 a4 a5 a6 a7 a8 a9, Calm ok (Cert.Dsa.k0_part33 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part33
  repeat' with_reducible first | exact Calm.pure _ | refine Calm.load fun _ => ?_ | refine Calm.store fun _ => ?_ | exact Calm.load_end | exact Calm.store_end

theorem part34 : ∀ a0 a1 a2 a3 a4 a5 a6 a7 a8 a9 a10, Calm ok (Cert.Dsa.k0_part34 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part34
  repeat' with_reducible first | exact Calm.pure _ | refine Calm.load fun _ => ?_ | refine Calm.store fun _ => ?_ | exact Calm.load_end | exact Calm.store_end

theorem part35 : ∀ a0 a1 a2 a3 a4 a5 a6 a7 a8 a9 a10, Calm ok (Cert.Dsa.k0_part35 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part35
  repeat' with_reducible first | exact Calm.pure _ | refine Calm.load fun _ => ?_ | refine Calm.store fun _ => ?_ | exact Calm.load_end | exact Calm.store_end

theorem part36 : ∀ a0 a1 a2 a3 a4 a5 a6 a7 a8 a9 a10, Calm ok (Cert.Dsa.k0_part36 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part36
  repeat' with_reducible first | exact Calm.pure _ | refine Calm.load fun _ => ?_ | refine Calm.store fun _ => ?_ | exact Calm.load_end | exact Calm.store_end

theorem part37 : ∀ a0 a1 a2 a3 a4 a5 a6 a7 a8 a9 a10 a11, Calm ok (Cert.Dsa.k0_part37 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10 a11) := by
  intros
  unfold Cert.Dsa.k0_part37
  repeat' with_reducible first | exact Calm.pure _ | refine Calm.load fun _ => ?_ | refine Calm.store fun _ => ?_ | exact Calm.load_end | exact Calm.store_end

theorem part38 : ∀ a0 a1 a2 a3 a4 a5 a6 a7 a8 a9 a10, Calm ok (Cert.Dsa.k0_part38 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part38
  repeat' with_reducible first | exact Calm.pure _ | refine Calm.load fun _ => ?_ | refine Calm.store fun _ => ?_ | exact Calm.load_end | exact Calm.store_end | apply part11 | apply part12 | apply part13 | apply part14 | apply part15 | apply part16 | apply part17 | apply part18 | apply part19 | apply part20 | apply part21 | apply part22 | apply part23 | apply part24 | apply part25 | apply part26 | apply part27 | apply part28 | apply part29 | apply part30 | apply part31 | apply part32 | apply part33 | apply part34 | apply part35 | apply part36 | apply part37 | refine Calm.bind ?_ fun _ => ?_

theorem part39 : ∀ a0 a1 a2 a3 a4 a5 a6 a7 a8 a9 a10, Calm ok (Cert.Dsa.k0_part39 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part39
  repeat' with_reducible first | exact Calm.pure _ | refine Calm.load fun _ => ?_ | refine Calm.store fun _ => ?_ | exact Calm.load_end | exact Calm.store_end

theorem part40 : ∀ a0 a1 a2 a3 a4 a5 a6 a7 a8 a9, Calm ok (Cert.Dsa.k0_part40 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part40
  repeat' with_reducible first | exact Calm.pure _ | refine Calm.load fun _ => ?_ | refine Calm.store fun _ => ?_ | exact Calm.load_end | exact Calm.store_end

theorem part41 : ∀ a0 a1 a2 a3 a4 a5 a6 a7 a8 a9, Calm ok (Cert.Dsa.k0_part41 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part41
  repeat' with_reducible first | exact Calm.pure _ | refine Calm.load fun _ => ?_ | refine Calm.store fun _ => ?_ | exact Calm.load_end | exact Calm.store_end

theorem part42 : ∀ a0 a1 a2 a3 a4 a5 a6 a7 a8 a9 a10 a11, Calm ok (Cert.Dsa.k0_part42 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10 a11) := by
  intros
  unfold Cert.Dsa.k0_part42
  repeat' with_reducible first | exact Calm.pure _ | refine Calm.load fun _ => ?_ | refine Calm.store fun _ => ?_ | exact Calm.load_end | exact Calm.store_end

theorem part43 : ∀ a0 a1 a2 a3 a4 a5 a6 a7 a8 a9, Calm ok (Cert.Dsa.k0_part43 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part43
  repeat' with_reducible first | exact Calm.pure _ | refine Calm.load fun _ => ?_ | refine Calm.store fun _ => ?_ | exact Calm.load_end | exact Calm.store_end

theorem part44 : ∀ a0 a1 a2 a3 a4 a5 a6 a7 a8 a9 a10 a11 a12, Calm ok (Cert.Dsa.k0_part44 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10 a11 a12) := by
  intros
  unfold Cert.Dsa.k0_part44
  repeat' with_reducible first | exact Calm.pure _ | refine Calm.load fun _ => ?_ | refine Calm.store fun _ => ?_ | exact Calm.load_end | exact Calm.store_end

theorem part45 : ∀ a0 a1 a2 a3 a4 a5 a6 a7 a8 a9 a10, Calm ok (Cert.Dsa.k0_part45 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part45
  repeat' with_reducible first | exact Calm.pure _ | refine Calm.load fun _ => ?_ | refine Calm.store fun _ => ?_ | exact Calm.load_end | exact Calm.store_end

theorem part46 : ∀ a0 a1 a2 a3 a4 a5 a6 a7 a8 a9 a10, Calm ok (Cert.Dsa.k0_part46 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part46
  repeat' with_reducible first | exact Calm.pure _ | refine Calm.load fun _ => ?_ | refine Calm.store fun _ => ?_ | exact Calm.load_end | exact Calm.store_end

theorem part47 : ∀ a0 a1 a2 a3 a4 a5 a6 a7 a8 a9 a10, Calm ok (Cert.Dsa.k0_part47 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part47
  repeat' with_reducible first | exact Calm.pure _ | refine Calm.load fun _ => ?_ | refine Calm.store fun _ => ?_ | exact Calm.load_end | exact Calm.store_end

theorem part48 : ∀ a0 a1 a2 a3 a4 a5 a6 a7 a8 a9, Calm ok (Cert.Dsa.k0_part48 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part48
  repeat' with_reducible first | exact Calm.pure _ | refine Calm.load fun _ => ?_ | refine Calm.store fun _ => ?_ | exact Calm.load_end | exact Calm.store_end

theorem part49 : ∀ a0 a1 a2 a3 a4 a5 a6 a7 a8 a9 a10, Calm ok (Cert.Dsa.k0_part49 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part49
  repeat' with_reducible first | exact Calm.pure _ | refine Calm.load fun _ => ?_ | refine Calm.store fun _ => ?_ | exact Calm.load_end | exact Calm.store_end

theorem part50 : ∀ a0 a1 a2 a3 a4 a5 a6 a7 a8 a9 a10, Calm ok (Cert.Dsa.k0_part50 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part50
  repeat' with_reducible first | exact Calm.pure _ | refine Calm.load fun _ => ?_ | refine Calm.store fun _ => ?_ | exact Calm.load_end | exact Calm.store_end

theorem part51 : ∀ a0 a1 a2 a3 a4 a5 a6 a7 a8 a9 a10, Calm ok (Cert.Dsa.k0_part51 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part51
  repeat' with_reducible first | exact Calm.pure _ | refine Calm.load fun _ => ?_ | refine Calm.store fun _ => ?_ | exact Calm.load_end | exact Calm.store_end

theorem part52 : ∀ a0 a1 a2 a3 a4 a5 a6 a7 a8 a9 a10 a11, Calm ok (Cert.Dsa.k0_part52 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10 a11) := by
  intros
  unfold Cert.Dsa.k0_part52
  repeat' with_reducible first | exact Calm.pure _ | refine Calm.load fun _ => ?_ | refine Calm.store fun _ => ?_ | exact Calm.load_end | exact Calm.store_end

theorem part53 : ∀ a0 a1 a2 a3 a4 a5 a6 a7 a8 a9, Calm ok (Cert.Dsa.k0_part53 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part53
  repeat' with_reducible first | exact Calm.pure _ | refine Calm.load fun _ => ?_ | refine Calm.store fun _ => ?_ | exact Calm.load_end | exact Calm.store_end

theorem part54 : ∀ a0 a1 a2 a3 a4 a5 a6 a7 a8 a9, Calm ok (Cert.Dsa.k0_part54 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part54
  repeat' with_reducible first | exact Calm.pure _ | refine Calm.load fun _ => ?_ | refine Calm.store fun _ => ?_ | exact Calm.load_end | exact Calm.store_end

theorem part55 : ∀ a0 a1 a2 a3 a4 a5 a6 a7 a8 a9 a10 a11, Calm ok (Cert.Dsa.k0_part55 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10 a11) := by
  intros
  unfold Cert.Dsa.k0_part55
  repeat' with_reducible first | exact Calm.pure _ | refine Calm.load fun _ => ?_ | refine Calm.store fun _ => ?_ | exact Calm.load_end | exact Calm.store_end

theorem part56 : ∀ a0 a1 a2 a3 a4 a5 a6 a7 a8 a9, Calm ok (Cert.Dsa.k0_part56 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part56
  repeat' with_reducible first | exact Calm.pure _ | refine Calm.load fun _ => ?_ | refine Calm.store fun _ => ?_ | exact Calm.load_end | exact Calm.store_end

theorem part57 : ∀ a0 a1 a2 a3 a4 a5 a6 a7 a8 a9 a10 a11 a12, Calm ok (Cert.Dsa.k0_part57 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10 a11 a12) := by
  intros
  unfold Cert.Dsa.k0_part57
  repeat' with_reducible first | exact Calm.pure _ | refine Calm.load fun _ => ?_ | refine Calm.store fun _ => ?_ | exact Calm.load_end | exact Calm.store_end

theorem part58 : ∀ a0 a1 a2 a3 a4 a5 a6 a7 a8 a9 a10, Calm ok (Cert.Dsa.k0_part58 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part58
  repeat' with_reducible first | exact Calm.pure _ | refine Calm.load fun _ => ?_ | refine Calm.store fun _ => ?_ | exact Calm.load_end | exact Calm.store_end

theorem part59 : ∀ a0 a1 a2 a3 a4 a5 a6 a7 a8 a9 a10, Calm ok (Cert.Dsa.k0_part59 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part59
  repeat' with_reducible first | exact Calm.pure _ | refine Calm.load fun _ => ?_ | refine Calm.store fun _ => ?_ | exact Calm.load_end | exact Calm.store_end

theorem part60 : ∀ a0 a1 a2 a3 a4 a5 a6 a7 a8 a9 a10, Calm ok (Cert.Dsa.k0_part60 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part60
  repeat' with_reducible first | exact Calm.pure _ | refine Calm.load fun _ => ?_ | refine Calm.store fun _ => ?_ | exact Calm.load_end | exact Calm.store_end

theorem part61 : ∀ a0 a1 a2 a3 a4 a5 a6 a7 a8 a9, Calm ok (Cert.Dsa.k0_part61 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part61
  repeat' with_reducible first | exact Calm.pure _ | refine Calm.load fun _ => ?_ | refine Calm.store fun _ => ?_ | exact Calm.load_end | exact Calm.store_end

theorem part62 : ∀ a0 a1 a2 a3 a4 a5 a6 a7 a8 a9 a10, Calm ok (Cert.Dsa.k0_part62 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part62
  repeat' with_reducible first | exact Calm.pure _ | refine Calm.load fun _ => ?_ | refine Calm.store fun _ => ?_ | exact Calm.load_end | exact Calm.store_end

theorem part63 : ∀ a0 a1 a2 a3 a4 a5 a6 a7 a8 a9 a10, Calm ok (Cert.Dsa.k0_part63 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part63
  repeat' with_reducible first | exact Calm.pure _ | refine Calm.load fun _ => ?_ | refine Calm.store fun _ => ?_ | exact Calm.load_end | exact Calm.store_end

theorem part64 : ∀ a0 a1 a2 a3 a4 a5 a6 a7 a8 a9 a10, Calm ok (Cert.Dsa.k0_part64 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part64
  repeat' with_reducible first | exact Calm.pure _ | refine Calm.load fun _ => ?_ | refine Calm.store fun _ => ?_ | exact Calm.load_end | exact Calm.store_end

theorem part65 : ∀ a0 a1 a2 a3 a4 a5 a6 a7 a8 a9 a10 a11, Calm ok (Cert.Dsa.k0_part65 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10 a11) := by
  intros
  unfold Cert.Dsa.k0_part65
  repeat' with_reducible first | exact Calm.pure _ | refine Calm.load fun _ => ?_ | refine Calm.store fun _ => ?_ | exact Calm.load_end | exact Calm.store_end

theorem part66 : ∀ a0 a1 a2 a3 a4 a5 a6 a7 a8 a9 a10, Calm ok (Cert.Dsa.k0_part66 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part66
  repeat' with_reducible first | exact Calm.pure _ | refine Calm.load fun _ => ?_ | refine Calm.store fun _ => ?_ | exact Calm.load_end | exact Calm.store_end | apply part39 | apply part40 | apply part41 | apply part42 | apply part43 | apply part44 | apply part45 | apply part46 | apply part47 | apply part48 | apply part49 | apply part50 | apply part51 | apply part52 | apply part53 | apply part54 | apply part55 | apply part56 | apply part57 | apply part58 | apply part59 | apply part60 | apply part61 | apply part62 | apply part63 | apply part64 | apply part65 | refine Calm.bind ?_ fun _ => ?_

theorem part67 : ∀ a0 a1 a2 a3 a4 a5 a6 a7 a8 a9, Calm ok (Cert.Dsa.k0_part67 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part67
  repeat' with_reducible first | exact Calm.pure _ | refine Calm.load fun _ => ?_ | refine Calm.store fun _ => ?_ | exact Calm.load_end | exact Calm.store_end

theorem part68 : ∀ a0 a1 a2 a3 a4 a5 a6 a7 a8 a9 a10 a11, Calm ok (Cert.Dsa.k0_part68 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10 a11) := by
  intros
  unfold Cert.Dsa.k0_part68
  repeat' with_reducible first | exact Calm.pure _ | refine Calm.load fun _ => ?_ | refine Calm.store fun _ => ?_ | exact Calm.load_end | exact Calm.store_end

theorem part69 : ∀ a0 a1 a2 a3 a4 a5 a6 a7 a8 a9, Calm ok (Cert.Dsa.k0_part69 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part69
  repeat' with_reducible first | exact Calm.pure _ | refine Calm.load fun _ => ?_ | refine Calm.store fun _ => ?_ | exact Calm.load_end | exact Calm.store_end

theorem part70 : ∀ a0 a1 a2 a3 a4 a5 a6 a7 a8 a9 a10 a11 a12, Calm ok (Cert.Dsa.k0_part70 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10 a11 a12) := by
  intros
  unfold Cert.Dsa.k0_part70
  repeat' with_reducible first | exact Calm.pure _ | refine Calm.load fun _ => ?_ | refine Calm.store fun _ => ?_ | exact Calm.load_end | exact Calm.store_end

theorem part71 : ∀ a0 a1 a2 a3 a4 a5 a6 a7 a8 a9 a10, Calm ok (Cert.Dsa.k0_part71 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part71
  repeat' with_reducible first | exact Calm.pure _ | refine Calm.load fun _ => ?_ | refine Calm.store fun _ => ?_ | exact Calm.load_end | exact Calm.store_end

theorem part72 : ∀ a0 a1 a2 a3 a4 a5 a6 a7 a8 a9 a10, Calm ok (Cert.Dsa.k0_part72 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part72
  repeat' with_reducible first | exact Calm.pure _ | refine Calm.load fun _ => ?_ | refine Calm.store fun _ => ?_ | exact Calm.load_end | exact Calm.store_end

theorem part73 : ∀ a0 a1 a2 a3 a4 a5 a6 a7 a8 a9 a10, Calm ok (Cert.Dsa.k0_part73 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part73
  repeat' with_reducible first | exact Calm.pure _ | refine Calm.load fun _ => ?_ | refine Calm.store fun _ => ?_ | exact Calm.load_end | exact Calm.store_end

theorem part74 : ∀ a0 a1 a2 a3 a4 a5 a6 a7 a8 a9, Calm ok (Cert.Dsa.k0_part74 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part74
  repeat' with_reducible first | exact Calm.pure _ | refine Calm.load fun _ => ?_ | refine Calm.store fun _ => ?_ | exact Calm.load_end | exact Calm.store_end

theorem part75 : ∀ a0 a1 a2 a3 a4 a5 a6 a7 a8 a9 a10, Calm ok (Cert.Dsa.k0_part75 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part75
  repeat' with_reducible first | exact Calm.pure _ | refine Calm.load fun _ => ?_ | refine Calm.store fun _ => ?_ | exact Calm.load_end | exact Calm.store_end

theorem part76 : ∀ a0 a1 a2 a3 a4 a5 a6 a7 a8 a9 a10, Calm ok (Cert.Dsa.k0_part76 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part76
  repeat' with_reducible first | exact Calm.pure _ | refine Calm.load fun _ => ?_ | refine Calm.store fun _ => ?_ | exact Calm.load_end | exact Calm.store_end

theorem part77 : ∀ a0 a1 a2 a3 a4 a5 a6 a7 a8 a9 a10, Calm ok (Cert.Dsa.k0_part77 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part77
  repeat' with_reducible first | exact Calm.pure _ | refine Calm.load fun _ => ?_ | refine Calm.store fun _ => ?_ | exact Calm.load_end | exact Calm.store_end

theorem part78 : ∀ a0 a1 a2 a3 a4 a5 a6 a7 a8 a9 a10 a11, Calm ok (Cert.Dsa.k0_part78 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10 a11) := by
  intros
  unfold Cert.Dsa.k0_part78
  repeat' with_reducible first | exact Calm.pure _ | refine Calm.load fun _ => ?_ | refine Calm.store fun _ => ?_ | exact Calm.load_end | exact Calm.store_end

theorem part79 : ∀ a0 a1 a2 a3 a4 a5 a6 a7 a8 a9, Calm ok (Cert.Dsa.k0_part79 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part79
  repeat' with_reducible first | exact Calm.pure _ | refine Calm.load fun _ => ?_ | refine Calm.store fun _ => ?_ | exact Calm.load_end | exact Calm.store_end

theorem part80 : ∀ a0 a1 a2 a3 a4 a5 a6 a7 a8 a9, Calm ok (Cert.Dsa.k0_part80 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part80
  repeat' with_reducible first | exact Calm.pure _ | refine Calm.load fun _ => ?_ | refine Calm.store fun _ => ?_ | exact Calm.load_end | exact Calm.store_end | apply part67 | apply part68 | apply part69 | apply part70 | apply part71 | apply part72 | apply part73 | apply part74 | apply part75 | apply part76 | apply part77 | apply part78 | apply part79 | refine Calm.bind ?_ fun _ => ?_

theorem part81 : ∀ a0 a1 a2 a3 a4 a5 a6 a7 a8 a9, Calm ok (Cert.Dsa.k0_part81 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part81
  repeat' with_reducible first | exact Calm.pure _ | refine Calm.load fun _ => ?_ | refine Calm.store fun _ => ?_ | exact Calm.load_end | exact Calm.store_end

theorem part82 : ∀ a0 a1 a2 a3 a4 a5 a6 a7 a8 a9 a10 a11, Calm ok (Cert.Dsa.k0_part82 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10 a11) := by
  intros
  unfold Cert.Dsa.k0_part82
  repeat' with_reducible first | exact Calm.pure _ | refine Calm.load fun _ => ?_ | refine Calm.store fun _ => ?_ | exact Calm.load_end | exact Calm.store_end

theorem part83 : ∀ a0 a1 a2 a3 a4 a5 a6 a7 a8 a9, Calm ok (Cert.Dsa.k0_part83 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part83
  repeat' with_reducible first | exact Calm.pure _ | refine Calm.load fun _ => ?_ | refine Calm.store fun _ => ?_ | exact Calm.load_end | exact Calm.store_end

theorem part84 : ∀ a0 a1 a2 a3 a4 a5 a6 a7 a8 a9 a10 a11 a12, Calm ok (Cert.Dsa.k0_part84 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10 a11 a12) := by
  intros
  unfold Cert.Dsa.k0_part84
  repeat' with_reducible first | exact Calm.pure _ | refine Calm.load fun _ => ?_ | refine Calm.store fun _ => ?_ | exact Calm.load_end | exact Calm.store_end

theorem part85 : ∀ a0 a1 a2 a3 a4 a5 a6 a7 a8 a9 a10, Calm ok (Cert.Dsa.k0_part85 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part85
  repeat' with_reducible first | exact Calm.pure _ | refine Calm.load fun _ => ?_ | refine Calm.store fun _ => ?_ | exact Calm.load_end | exact Calm.store_end

theorem part86 : ∀ a0 a1 a2 a3 a4 a5 a6 a7 a8 a9 a10, Calm ok (Cert.Dsa.k0_part86 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part86
  repeat' with_reducible first | exact Calm.pure _ | refine Calm.load fun _ => ?_ | refine Calm.store fun _ => ?_ | exact Calm.load_end | exact Calm.store_end

theorem part87 : ∀ a0 a1 a2 a3 a4 a5 a6 a7 a8 a9, Calm ok (Cert.Dsa.k0_part87 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part87
  repeat' with_reducible first | exact Calm.pure _ | refine Calm.load fun _ => ?_ | refine Calm.store fun _ => ?_ | exact Calm.load_end | exact Calm.store_end | apply part81 | apply part82 | apply part83 | apply part84 | apply part85 | apply part86 | refine Calm.bind ?_ fun _ => ?_

theorem part88 : ∀ a0 a1 a2 a3 a4 a5, Calm ok (Cert.Dsa.k0_part88 i _ harg2 _ harg3 _ harg4 _ harg5 _ harg6 _ harg7 _ harg8 _ harg9 _ harg10 _ harg11 _ harg12 _ harg13 _ harg14 _ harg15 _ harg16 _ harg17 _ harg18 a0 a1 a2 a3 a4 a5) := by
  intros
  unfold Cert.Dsa.k0_part88
  repeat' with_reducible first | exact Calm.pure _ | refine Calm.load fun _ => ?_ | refine Calm.store fun _ => ?_ | exact Calm.load_end | exact Calm.store_end | apply part38 | apply part66 | refine Calm.loop fun _ _ => ?_ | refine Calm.bind ?_ fun _ => ?_

theorem part89 : ∀ a0 a1 a2 a3 a4 a5 a6 a7 a8 a9 a10 a11 a12 a13, Calm ok (Cert.Dsa.k0_part89 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10 a11 a12 a13) := by
  intros
  unfold Cert.Dsa.k0_part89
  repeat' with_reducible first | exact Calm.pure _ | refine Calm.load fun _ => ?_ | refine Calm.store fun _ => ?_ | exact Calm.load_end | exact Calm.store_end | apply part80 | apply part87 | refine Calm.dite (fun _ => ?_) (fun _ => ?_) | refine Calm.ite ?_ ?_ | refine Calm.bind ?_ fun _ => ?_

theorem part90 : ∀ a0 a1 a2 a3 a4 a5 a6 a7 a8 a9 a10, Calm ok (Cert.Dsa.k0_part90 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part90
  repeat' with_reducible first | exact Calm.pure _ | refine Calm.load fun _ => ?_ | refine Calm.store fun _ => ?_ | exact Calm.load_end | exact Calm.store_end

theorem part91 : ∀ a0 a1 a2 a3 a4 a5 a6 a7 a8 a9, Calm ok (Cert.Dsa.k0_part91 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part91
  repeat' with_reducible first | exact Calm.pure _ | refine Calm.load fun _ => ?_ | refine Calm.store fun _ => ?_ | exact Calm.load_end | exact Calm.store_end

theorem part92 : ∀ a0 a1 a2 a3 a4 a5 a6 a7 a8 a9, Calm ok (Cert.Dsa.k0_part92 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part92
  repeat' with_reducible first | exact Calm.pure _ | refine Calm.load fun _ => ?_ | refine Calm.store fun _ => ?_ | exact Calm.load_end | exact Calm.store_end

theorem part93 : ∀ a0 a1 a2 a3 a4 a5 a6 a7 a8 a9 a10 a11, Calm ok (Cert.Dsa.k0_part93 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10 a11) := by
  intros
  unfold Cert.Dsa.k0_part93
  repeat' with_reducible first | exact Calm.pure _ | refine Calm.load fun _ => ?_ | refine Calm.store fun _ => ?_ | exact Calm.load_end | exact Calm.store_end

theorem part94 : ∀ a0 a1 a2 a3 a4 a5 a6 a7 a8 a9, Calm ok (Cert.Dsa.k0_part94 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part94
  repeat' with_reducible first | exact Calm.pure _ | refine Calm.load fun _ => ?_ | refine Calm.store fun _ => ?_ | exact Calm.load_end | exact Calm.store_end

theorem part95 : ∀ a0 a1 a2 a3 a4 a5 a6 a7 a8 a9 a10 a11 a12, Calm ok (Cert.Dsa.k0_part95 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10 a11 a12) := by
  intros
  unfold Cert.Dsa.k0_part95
  repeat' with_reducible first | exact Calm.pure _ | refine Calm.load fun _ => ?_ | refine Calm.store fun _ => ?_ | exact Calm.load_end | exact Calm.store_end

theorem part96 : ∀ a0 a1 a2 a3 a4 a5 a6 a7 a8 a9 a10, Calm ok (Cert.Dsa.k0_part96 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part96
  repeat' with_reducible first | exact Calm.pure _ | refine Calm.load fun _ => ?_ | refine Calm.store fun _ => ?_ | exact Calm.load_end | exact Calm.store_end

theorem part97 : ∀ a0 a1 a2 a3 a4 a5 a6 a7 a8 a9 a10, Calm ok (Cert.Dsa.k0_part97 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part97
  repeat' with_reducible first | exact Calm.pure _ | refine Calm.load fun _ => ?_ | refine Calm.store fun _ => ?_ | exact Calm.load_end | exact Calm.store_end

theorem part98 : ∀ a0 a1 a2 a3 a4 a5 a6 a7 a8 a9 a10, Calm ok (Cert.Dsa.k0_part98 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part98
  repeat' with_reducible first | exact Calm.pure _ | refine Calm.load fun _ => ?_ | refine Calm.store fun _ => ?_ | exact Calm.load_end | exact Calm.store_end

theorem part99 : ∀ a0 a1 a2 a3 a4 a5 a6 a7 a8 a9, Calm ok (Cert.Dsa.k0_part99 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part99
  repeat' with_reducible first | exact Calm.pure _ | refine Calm.load fun _ => ?_ | refine Calm.store fun _ => ?_ | exact Calm.load_end | exact Calm.store_end

theorem part100 : ∀ a0 a1 a2 a3 a4 a5 a6 a7 a8 a9 a10, Calm ok (Cert.Dsa.k0_part100 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part100
  repeat' with_reducible first | exact Calm.pure _ | refine Calm.load fun _ => ?_ | refine Calm.store fun _ => ?_ | exact Calm.load_end | exact Calm.store_end

theorem part101 : ∀ a0 a1 a2 a3 a4 a5 a6 a7 a8 a9 a10, Calm ok (Cert.Dsa.k0_part101 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part101
  repeat' with_reducible first | exact Calm.pure _ | refine Calm.load fun _ => ?_ | refine Calm.store fun _ => ?_ | exact Calm.load_end | exact Calm.store_end

theorem part102 : ∀ a0 a1 a2 a3 a4 a5 a6 a7 a8 a9 a10, Calm ok (Cert.Dsa.k0_part102 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part102
  repeat' with_reducible first | exact Calm.pure _ | refine Calm.load fun _ => ?_ | refine Calm.store fun _ => ?_ | exact Calm.load_end | exact Calm.store_end

theorem part103 : ∀ a0 a1 a2 a3 a4 a5 a6 a7 a8 a9 a10 a11, Calm ok (Cert.Dsa.k0_part103 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10 a11) := by
  intros
  unfold Cert.Dsa.k0_part103
  repeat' with_reducible first | exact Calm.pure _ | refine Calm.load fun _ => ?_ | refine Calm.store fun _ => ?_ | exact Calm.load_end | exact Calm.store_end

theorem part104 : ∀ a0 a1 a2 a3 a4 a5 a6 a7 a8 a9, Calm ok (Cert.Dsa.k0_part104 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part104
  repeat' with_reducible first | exact Calm.pure _ | refine Calm.load fun _ => ?_ | refine Calm.store fun _ => ?_ | exact Calm.load_end | exact Calm.store_end

theorem part105 : ∀ a0 a1 a2 a3 a4 a5 a6 a7 a8 a9, Calm ok (Cert.Dsa.k0_part105 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part105
  repeat' with_reducible first | exact Calm.pure _ | refine Calm.load fun _ => ?_ | refine Calm.store fun _ => ?_ | exact Calm.load_end | exact Calm.store_end

theorem part106 : ∀ a0 a1 a2 a3 a4 a5 a6 a7 a8 a9 a10 a11, Calm ok (Cert.Dsa.k0_part106 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10 a11) := by
  intros
  unfold Cert.Dsa.k0_part106
  repeat' with_reducible first | exact Calm.pure _ | refine Calm.load fun _ => ?_ | refine Calm.store fun _ => ?_ | exact Calm.load_end | exact Calm.store_end

theorem part107 : ∀ a0 a1 a2 a3 a4 a5 a6 a7 a8 a9, Calm ok (Cert.Dsa.k0_part107 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part107
  repeat' with_reducible first | exact Calm.pure _ | refine Calm.load fun _ => ?_ | refine Calm.store fun _ => ?_ | exact Calm.load_end | exact Calm.store_end

theorem part108 : ∀ a0 a1 a2 a3 a4 a5 a6 a7 a8 a9 a10 a11 a12, Calm ok (Cert.Dsa.k0_part108 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10 a11 a12) := by
  intros
  unfold Cert.Dsa.k0_part108
  repeat' with_reducible first | exact Calm.pure _ | refine Calm.load fun _ => ?_ | refine Calm.store fun _ => ?_ | exact Calm.load_end | exact Calm.store_end

theorem part109 : ∀ a0 a1 a2 a3 a4 a5 a6 a7 a8 a9 a10, Calm ok (Cert.Dsa.k0_part109 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part109
  repeat' with_reducible first | exact Calm.pure _ | refine Calm.load fun _ => ?_ | refine Calm.store fun _ => ?_ | exact Calm.load_end | exact Calm.store_end

theorem part110 : ∀ a0 a1 a2 a3 a4 a5 a6 a7 a8 a9 a10, Calm ok (Cert.Dsa.k0_part110 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part110
  repeat' with_reducible first | exact Calm.pure _ | refine Calm.load fun _ => ?_ | refine Calm.store fun _ => ?_ | exact Calm.load_end | exact Calm.store_end

theorem part111 : ∀ a0 a1 a2 a3 a4 a5 a6 a7 a8 a9 a10, Calm ok (Cert.Dsa.k0_part111 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part111
  repeat' with_reducible first | exact Calm.pure _ | refine Calm.load fun _ => ?_ | refine Calm.store fun _ => ?_ | exact Calm.load_end | exact Calm.store_end

theorem part112 : ∀ a0 a1 a2 a3 a4 a5 a6 a7 a8 a9, Calm ok (Cert.Dsa.k0_part112 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part112
  repeat' with_reducible first | exact Calm.pure _ | refine Calm.load fun _ => ?_ | refine Calm.store fun _ => ?_ | exact Calm.load_end | exact Calm.store_end

theorem part113 : ∀ a0 a1 a2 a3 a4 a5 a6 a7 a8 a9 a10, Calm ok (Cert.Dsa.k0_part113 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part113
  repeat' with_reducible first | exact Calm.pure _ | refine Calm.load fun _ => ?_ | refine Calm.store fun _ => ?_ | exact Calm.load_end | exact Calm.store_end

theorem part114 : ∀ a0 a1 a2 a3 a4 a5 a6 a7 a8 a9 a10, Calm ok (Cert.Dsa.k0_part114 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part114
  repeat' with_reducible first | exact Calm.pure _ | refine Calm.load fun _ => ?_ | refine Calm.store fun _ => ?_ | exact Calm.load_end | exact Calm.store_end

theorem part115 : ∀ a0 a1 a2 a3 a4 a5 a6 a7 a8 a9 a10, Calm ok (Cert.Dsa.k0_part115 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part115
  repeat' with_reducible first | exact Calm.pure _ | refine Calm.load fun _ => ?_ | refine Calm.store fun _ => ?_ | exact Calm.load_end | exact Calm.store_end

theorem part116 : ∀ a0 a1 a2 a3 a4 a5 a6 a7 a8 a9 a10 a11, Calm ok (Cert.Dsa.k0_part116 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10 a11) := by
  intros
  unfold Cert.Dsa.k0_part116
  repeat' with_reducible first | exact Calm.pure _ | refine Calm.load fun _ => ?_ | refine Calm.store fun _ => ?_ | exact Calm.load_end | exact Calm.store_end

theorem part117 : ∀ a0 a1 a2 a3 a4 a5 a6 a7 a8 a9 a10, Calm ok (Cert.Dsa.k0_part117 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part117
  repeat' with_reducible first | exact Calm.pure _ | refine Calm.load fun _ => ?_ | refine Calm.store fun _ => ?_ | exact Calm.load_end | exact Calm.store_end | apply part90 | apply part91 | apply part92 | apply part93 | apply part94 | apply part95 | apply part96 | apply part97 | apply part98 | apply part99 | apply part100 | apply part101 | apply part102 | apply part103 | apply part104 | apply part105 | apply part106 | apply part107 | apply part108 | apply part109 | apply part110 | apply part111 | apply part112 | apply part113 | apply part114 | apply part115 | apply part116 | refine Calm.bind ?_ fun _ => ?_

theorem part118 : ∀ a0 a1 a2 a3 a4 a5 a6 a7 a8 a9 a10, Calm ok (Cert.Dsa.k0_part118 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part118
  repeat' with_reducible first | exact Calm.pure _ | refine Calm.load fun _ => ?_ | refine Calm.store fun _ => ?_ | exact Calm.load_end | exact Calm.store_end

theorem part119 : ∀ a0 a1 a2 a3 a4 a5 a6 a7 a8 a9, Calm ok (Cert.Dsa.k0_part119 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part119
  repeat' with_reducible first | exact Calm.pure _ | refine Calm.load fun _ => ?_ | refine Calm.store fun _ => ?_ | exact Calm.load_end | exact Calm.store_end

theorem part120 : ∀ a0 a1 a2 a3 a4 a5 a6 a7 a8 a9, Calm ok (Cert.Dsa.k0_part120 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part120
  repeat' with_reducible first | exact Calm.pure _ | refine Calm.load fun _ => ?_ | refine Calm.store fun _ => ?_ | exact Calm.load_end | exact Calm.store_end

theorem part121 : ∀ a0 a1 a2 a3 a4 a5 a6 a7 a8 a9 a10 a11, Calm ok (Cert.Dsa.k0_part121 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10 a11) := by
  intros
  unfold Cert.Dsa.k0_part121
  repeat' with_reducible first | exact Calm.pure _ | refine Calm.load fun _ => ?_ | refine Calm.store fun _ => ?_ | exact Calm.load_end | exact Calm.store_end

theorem part122 : ∀ a0 a1 a2 a3 a4 a5 a6 a7 a8 a9, Calm ok (Cert.Dsa.k0_part122 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part122
  repeat' with_reducible first | exact Calm.pure _ | refine Calm.load fun _ => ?_ | refine Calm.store fun _ => ?_ | exact Calm.load_end | exact Calm.store_end

theorem part123 : ∀ a0 a1 a2 a3 a4 a5 a6 a7 a8 a9 a10 a11 a12, Calm ok (Cert.Dsa.k0_part123 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10 a11 a12) := by
  intros
  unfold Cert.Dsa.k0_part123
  repeat' with_reducible first | exact Calm.pure _ | refine Calm.load fun _ => ?_ | refine Calm.store fun _ => ?_ | exact Calm.load_end | exact Calm.store_end

theorem part124 : ∀ a0 a1 a2 a3 a4 a5 a6 a7 a8 a9 a10, Calm ok (Cert.Dsa.k0_part124 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part124
  repeat' with_reducible first | exact Calm.pure _ | refine Calm.load fun _ => ?_ | refine Calm.store fun _ => ?_ | exact Calm.load_end | exact Calm.store_end

theorem part125 : ∀ a0 a1 a2 a3 a4 a5 a6 a7 a8 a9 a10, Calm ok (Cert.Dsa.k0_part125 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part125
  repeat' with_reducible first | exact Calm.pure _ | refine Calm.load fun _ => ?_ | refine Calm.store fun _ => ?_ | exact Calm.load_end | exact Calm.store_end

theorem part126 : ∀ a0 a1 a2 a3 a4 a5 a6 a7 a8 a9 a10, Calm ok (Cert.Dsa.k0_part126 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part126
  repeat' with_reducible first | exact Calm.pure _ | refine Calm.load fun _ => ?_ | refine Calm.store fun _ => ?_ | exact Calm.load_end | exact Calm.store_end

theorem part127 : ∀ a0 a1 a2 a3 a4 a5 a6 a7 a8 a9, Calm ok (Cert.Dsa.k0_part127 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part127
  repeat' with_reducible first | exact Calm.pure _ | refine Calm.load fun _ => ?_ | refine Calm.store fun _ => ?_ | exact Calm.load_end | exact Calm.store_end

theorem part128 : ∀ a0 a1 a2 a3 a4 a5 a6 a7 a8 a9 a10, Calm ok (Cert.Dsa.k0_part128 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part128
  repeat' with_reducible first | exact Calm.pure _ | refine Calm.load fun _ => ?_ | refine Calm.store fun _ => ?_ | exact Calm.load_end | exact Calm.store_end

theorem part129 : ∀ a0 a1 a2 a3 a4 a5 a6 a7 a8 a9 a10, Calm ok (Cert.Dsa.k0_part129 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part129
  repeat' with_reducible first | exact Calm.pure _ | refine Calm.load fun _ => ?_ | refine Calm.store fun _ => ?_ | exact Calm.load_end | exact Calm.store_end

theorem part130 : ∀ a0 a1 a2 a3 a4 a5 a6 a7 a8 a9 a10, Calm ok (Cert.Dsa.k0_part130 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part130
  repeat' with_reducible first | exact Calm.pure _ | refine Calm.load fun _ => ?_ | refine Calm.store fun _ => ?_ | exact Calm.load_end | exact Calm.store_end

theorem part131 : ∀ a0 a1 a2 a3 a4 a5 a6 a7 a8 a9 a10 a11, Calm ok (Cert.Dsa.k0_part131 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10 a11) := by
  intros
  unfold Cert.Dsa.k0_part131
  repeat' with_reducible first | exact Calm.pure _ | refine Calm.load fun _ => ?_ | refine Calm.store fun _ => ?_ | exact Calm.load_end | exact Calm.store_end

theorem part132 : ∀ a0 a1 a2 a3 a4 a5 a6 a7 a8 a9, Calm ok (Cert.Dsa.k0_part132 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part132
  repeat' with_reducible first | exact Calm.pure _ | refine Calm.load fun _ => ?_ | refine Calm.store fun _ => ?_ | exact Calm.load_end | exact Calm.store_end

theorem part133 : ∀ a0 a1 a2 a3 a4 a5 a6 a7 a8 a9, Calm ok (Cert.Dsa.k0_part133 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part133
  repeat' with_reducible first | exact Calm.pure _ | refine Calm.load fun _ => ?_ | refine Calm.store fun _ => ?_ | exact Calm.load_end | exact Calm.store_end

end Cert.Proof.Dsa

end
-- ==== Proof.DsaPartsB.lean ====
/- The parts of the attention call's body, from 134 on, and the body: each only loads and stores in the buffers
   it is handed. -/
module

public import proofs.«01_k».proof.Proof.DsaPartsA

@[expose] public section

noncomputable section

namespace Cert.Proof.Dsa

open Cert.Dsa
open Idealize.ShloMosaic Idealize.SL.Sem

variable {F : FTy → Type} [BitOps F] [Cert.Dsa.Facts]
variable {ok : ∀ ⦃β : Type⦄, TpuEff nD τ sig (Elt F) Λ₀ .tc β → Prop} {i : grid0.Coords}
variable {arg2 : Memref sig .tc .vmem S1x128x512 .bf16} {harg2 : arg2.IsWhole} [Reads ok arg2]
variable {arg3 : Memref sig .tc .vmem S1x128x256 .bf16} {harg3 : arg3.IsWhole} [Reads ok arg3]
variable {arg4 : Memref sig .tc .vmem S1x8x128 .f32} {harg4 : arg4.IsWhole} [Reads ok arg4]
variable {arg5 : Memref sig .tc .vmem S1x8192x128 .bf16} {harg5 : arg5.IsWhole} [Reads ok arg5]
variable {arg6 : Memref sig .tc .vmem S1x16x72x512 .bf16} {harg6 : arg6.IsWhole} [Reads ok arg6]
variable {arg7 : Memref sig .tc .vmem S1x8192x32 .bf16} {harg7 : arg7.IsWhole} [Reads ok arg7]
variable {arg8 : Memref sig .tc .vmem S1x128x512 .bf16} {harg8 : arg8.IsWhole} [Reads ok arg8] [Writes ok arg8]
variable {arg9 : Memref sig .tc .vmem S1024x256 .bf16} {harg9 : arg9.IsWhole} [Reads ok arg9] [Writes ok arg9]
variable {arg10 : Memref sig .tc .vmem S1024x32 .bf16} {harg10 : arg10.IsWhole} [Reads ok arg10] [Writes ok arg10]
variable {arg11 : Memref sig .tc .vmem S16x512x128 .i16} {harg11 : arg11.IsWhole} [Reads ok arg11] [Writes ok arg11]
variable {arg12 : Memref sig .tc .vmem S16x512x128 .i16} {harg12 : arg12.IsWhole} [Reads ok arg12] [Writes ok arg12]
variable {arg13 : Memref sig .tc .vmem S16x512x128 .i16} {harg13 : arg13.IsWhole} [Reads ok arg13] [Writes ok arg13]
variable {arg14 : Memref sig .tc .vmem S2x1x128 .i32} {harg14 : arg14.IsWhole} [Reads ok arg14] [Writes ok arg14]
variable {arg15 : Memref sig .tc .vmem S2x1x128 .f32} {harg15 : arg15.IsWhole} [Reads ok arg15] [Writes ok arg15]
variable {arg16 : Memref sig .tc .vmem S72x1024 .f32} {harg16 : arg16.IsWhole} [Reads ok arg16] [Writes ok arg16]
variable {arg17 : Memref sig .tc .vmem S512x1024 .f32} {harg17 : arg17.IsWhole} [Reads ok arg17] [Writes ok arg17]
variable {arg18 : Memref sig .tc .vmem S512x1024 .f32} {harg18 : arg18.IsWhole} [Reads ok arg18] [Writes ok arg18]

theorem part134 : ∀ a0 a1 a2 a3 a4 a5 a6 a7 a8 a9 a10 a11, Calm ok (Cert.Dsa.k0_part134 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10 a11) := by
  intros
  unfold Cert.Dsa.k0_part134
  repeat' with_reducible first | exact Calm.pure _ | refine Calm.load fun _ => ?_ | refine Calm.store fun _ => ?_ | exact Calm.load_end | exact Calm.store_end

theorem part135 : ∀ a0 a1 a2 a3 a4 a5 a6 a7 a8 a9, Calm ok (Cert.Dsa.k0_part135 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part135
  repeat' with_reducible first | exact Calm.pure _ | refine Calm.load fun _ => ?_ | refine Calm.store fun _ => ?_ | exact Calm.load_end | exact Calm.store_end

theorem part136 : ∀ a0 a1 a2 a3 a4 a5 a6 a7 a8 a9 a10 a11 a12, Calm ok (Cert.Dsa.k0_part136 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10 a11 a12) := by
  intros
  unfold Cert.Dsa.k0_part136
  repeat' with_reducible first | exact Calm.pure _ | refine Calm.load fun _ => ?_ | refine Calm.store fun _ => ?_ | exact Calm.load_end | exact Calm.store_end

theorem part137 : ∀ a0 a1 a2 a3 a4 a5 a6 a7 a8 a9 a10, Calm ok (Cert.Dsa.k0_part137 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part137
  repeat' with_reducible first | exact Calm.pure _ | refine Calm.load fun _ => ?_ | refine Calm.store fun _ => ?_ | exact Calm.load_end | exact Calm.store_end

theorem part138 : ∀ a0 a1 a2 a3 a4 a5 a6 a7 a8 a9 a10, Calm ok (Cert.Dsa.k0_part138 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part138
  repeat' with_reducible first | exact Calm.pure _ | refine Calm.load fun _ => ?_ | refine Calm.store fun _ => ?_ | exact Calm.load_end | exact Calm.store_end

theorem part139 : ∀ a0 a1 a2 a3 a4 a5 a6 a7 a8 a9 a10, Calm ok (Cert.Dsa.k0_part139 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part139
  repeat' with_reducible first | exact Calm.pure _ | refine Calm.load fun _ => ?_ | refine Calm.store fun _ => ?_ | exact Calm.load_end | exact Calm.store_end

theorem part140 : ∀ a0 a1 a2 a3 a4 a5 a6 a7 a8 a9, Calm ok (Cert.Dsa.k0_part140 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part140
  repeat' with_reducible first | exact Calm.pure _ | refine Calm.load fun _ => ?_ | refine Calm.store fun _ => ?_ | exact Calm.load_end | exact Calm.store_end

theorem part141 : ∀ a0 a1 a2 a3 a4 a5 a6 a7 a8 a9 a10, Calm ok (Cert.Dsa.k0_part141 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part141
  repeat' with_reducible first | exact Calm.pure _ | refine Calm.load fun _ => ?_ | refine Calm.store fun _ => ?_ | exact Calm.load_end | exact Calm.store_end

theorem part142 : ∀ a0 a1 a2 a3 a4 a5 a6 a7 a8 a9 a10, Calm ok (Cert.Dsa.k0_part142 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part142
  repeat' with_reducible first | exact Calm.pure _ | refine Calm.load fun _ => ?_ | refine Calm.store fun _ => ?_ | exact Calm.load_end | exact Calm.store_end

theorem part143 : ∀ a0 a1 a2 a3 a4 a5 a6 a7 a8 a9 a10, Calm ok (Cert.Dsa.k0_part143 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part143
  repeat' with_reducible first | exact Calm.pure _ | refine Calm.load fun _ => ?_ | refine Calm.store fun _ => ?_ | exact Calm.load_end | exact Calm.store_end

theorem part144 : ∀ a0 a1 a2 a3 a4 a5 a6 a7 a8 a9 a10 a11, Calm ok (Cert.Dsa.k0_part144 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10 a11) := by
  intros
  unfold Cert.Dsa.k0_part144
  repeat' with_reducible first | exact Calm.pure _ | refine Calm.load fun _ => ?_ | refine Calm.store fun _ => ?_ | exact Calm.load_end | exact Calm.store_end

theorem part145 : ∀ a0 a1 a2 a3 a4 a5 a6 a7 a8 a9 a10, Calm ok (Cert.Dsa.k0_part145 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part145
  repeat' with_reducible first | exact Calm.pure _ | refine Calm.load fun _ => ?_ | refine Calm.store fun _ => ?_ | exact Calm.load_end | exact Calm.store_end | apply part118 | apply part119 | apply part120 | apply part121 | apply part122 | apply part123 | apply part124 | apply part125 | apply part126 | apply part127 | apply part128 | apply part129 | apply part130 | apply part131 | apply part132 | apply part133 | apply part134 | apply part135 | apply part136 | apply part137 | apply part138 | apply part139 | apply part140 | apply part141 | apply part142 | apply part143 | apply part144 | refine Calm.bind ?_ fun _ => ?_

theorem part146 : ∀ a0 a1 a2 a3 a4 a5 a6 a7 a8 a9, Calm ok (Cert.Dsa.k0_part146 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part146
  repeat' with_reducible first | exact Calm.pure _ | refine Calm.load fun _ => ?_ | refine Calm.store fun _ => ?_ | exact Calm.load_end | exact Calm.store_end

theorem part147 : ∀ a0 a1 a2 a3 a4 a5 a6 a7 a8 a9 a10 a11, Calm ok (Cert.Dsa.k0_part147 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10 a11) := by
  intros
  unfold Cert.Dsa.k0_part147
  repeat' with_reducible first | exact Calm.pure _ | refine Calm.load fun _ => ?_ | refine Calm.store fun _ => ?_ | exact Calm.load_end | exact Calm.store_end

theorem part148 : ∀ a0 a1 a2 a3 a4 a5 a6 a7 a8 a9, Calm ok (Cert.Dsa.k0_part148 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part148
  repeat' with_reducible first | exact Calm.pure _ | refine Calm.load fun _ => ?_ | refine Calm.store fun _ => ?_ | exact Calm.load_end | exact Calm.store_end

theorem part149 : ∀ a0 a1 a2 a3 a4 a5 a6 a7 a8 a9 a10 a11 a12, Calm ok (Cert.Dsa.k0_part149 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10 a11 a12) := by
  intros
  unfold Cert.Dsa.k0_part149
  repeat' with_reducible first | exact Calm.pure _ | refine Calm.load fun _ => ?_ | refine Calm.store fun _ => ?_ | exact Calm.load_end | exact Calm.store_end

theorem part150 : ∀ a0 a1 a2 a3 a4 a5 a6 a7 a8 a9 a10, Calm ok (Cert.Dsa.k0_part150 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part150
  repeat' with_reducible first | exact Calm.pure _ | refine Calm.load fun _ => ?_ | refine Calm.store fun _ => ?_ | exact Calm.load_end | exact Calm.store_end

theorem part151 : ∀ a0 a1 a2 a3 a4 a5 a6 a7 a8 a9 a10, Calm ok (Cert.Dsa.k0_part151 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part151
  repeat' with_reducible first | exact Calm.pure _ | refine Calm.load fun _ => ?_ | refine Calm.store fun _ => ?_ | exact Calm.load_end | exact Calm.store_end

theorem part152 : ∀ a0 a1 a2 a3 a4 a5 a6 a7 a8 a9 a10, Calm ok (Cert.Dsa.k0_part152 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part152
  repeat' with_reducible first | exact Calm.pure _ | refine Calm.load fun _ => ?_ | refine Calm.store fun _ => ?_ | exact Calm.load_end | exact Calm.store_end

theorem part153 : ∀ a0 a1 a2 a3 a4 a5 a6 a7 a8 a9, Calm ok (Cert.Dsa.k0_part153 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part153
  repeat' with_reducible first | exact Calm.pure _ | refine Calm.load fun _ => ?_ | refine Calm.store fun _ => ?_ | exact Calm.load_end | exact Calm.store_end

theorem part154 : ∀ a0 a1 a2 a3 a4 a5 a6 a7 a8 a9 a10, Calm ok (Cert.Dsa.k0_part154 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part154
  repeat' with_reducible first | exact Calm.pure _ | refine Calm.load fun _ => ?_ | refine Calm.store fun _ => ?_ | exact Calm.load_end | exact Calm.store_end

theorem part155 : ∀ a0 a1 a2 a3 a4 a5 a6 a7 a8 a9 a10, Calm ok (Cert.Dsa.k0_part155 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part155
  repeat' with_reducible first | exact Calm.pure _ | refine Calm.load fun _ => ?_ | refine Calm.store fun _ => ?_ | exact Calm.load_end | exact Calm.store_end

theorem part156 : ∀ a0 a1 a2 a3 a4 a5 a6 a7 a8 a9 a10, Calm ok (Cert.Dsa.k0_part156 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part156
  repeat' with_reducible first | exact Calm.pure _ | refine Calm.load fun _ => ?_ | refine Calm.store fun _ => ?_ | exact Calm.load_end | exact Calm.store_end

theorem part157 : ∀ a0 a1 a2 a3 a4 a5 a6 a7 a8 a9 a10 a11, Calm ok (Cert.Dsa.k0_part157 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10 a11) := by
  intros
  unfold Cert.Dsa.k0_part157
  repeat' with_reducible first | exact Calm.pure _ | refine Calm.load fun _ => ?_ | refine Calm.store fun _ => ?_ | exact Calm.load_end | exact Calm.store_end

theorem part158 : ∀ a0 a1 a2 a3 a4 a5 a6 a7 a8 a9, Calm ok (Cert.Dsa.k0_part158 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part158
  repeat' with_reducible first | exact Calm.pure _ | refine Calm.load fun _ => ?_ | refine Calm.store fun _ => ?_ | exact Calm.load_end | exact Calm.store_end

theorem part159 : ∀ a0 a1 a2 a3 a4 a5 a6 a7 a8 a9, Calm ok (Cert.Dsa.k0_part159 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part159
  repeat' with_reducible first | exact Calm.pure _ | refine Calm.load fun _ => ?_ | refine Calm.store fun _ => ?_ | exact Calm.load_end | exact Calm.store_end | apply part146 | apply part147 | apply part148 | apply part149 | apply part150 | apply part151 | apply part152 | apply part153 | apply part154 | apply part155 | apply part156 | apply part157 | apply part158 | refine Calm.bind ?_ fun _ => ?_

theorem part160 : ∀ a0 a1 a2 a3 a4 a5 a6 a7 a8 a9, Calm ok (Cert.Dsa.k0_part160 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part160
  repeat' with_reducible first | exact Calm.pure _ | refine Calm.load fun _ => ?_ | refine Calm.store fun _ => ?_ | exact Calm.load_end | exact Calm.store_end

theorem part161 : ∀ a0 a1 a2 a3 a4 a5 a6 a7 a8 a9 a10 a11, Calm ok (Cert.Dsa.k0_part161 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10 a11) := by
  intros
  unfold Cert.Dsa.k0_part161
  repeat' with_reducible first | exact Calm.pure _ | refine Calm.load fun _ => ?_ | refine Calm.store fun _ => ?_ | exact Calm.load_end | exact Calm.store_end

theorem part162 : ∀ a0 a1 a2 a3 a4 a5 a6 a7 a8 a9, Calm ok (Cert.Dsa.k0_part162 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part162
  repeat' with_reducible first | exact Calm.pure _ | refine Calm.load fun _ => ?_ | refine Calm.store fun _ => ?_ | exact Calm.load_end | exact Calm.store_end

theorem part163 : ∀ a0 a1 a2 a3 a4 a5 a6 a7 a8 a9 a10 a11 a12, Calm ok (Cert.Dsa.k0_part163 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10 a11 a12) := by
  intros
  unfold Cert.Dsa.k0_part163
  repeat' with_reducible first | exact Calm.pure _ | refine Calm.load fun _ => ?_ | refine Calm.store fun _ => ?_ | exact Calm.load_end | exact Calm.store_end

theorem part164 : ∀ a0 a1 a2 a3 a4 a5 a6 a7 a8 a9 a10, Calm ok (Cert.Dsa.k0_part164 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part164
  repeat' with_reducible first | exact Calm.pure _ | refine Calm.load fun _ => ?_ | refine Calm.store fun _ => ?_ | exact Calm.load_end | exact Calm.store_end

theorem part165 : ∀ a0 a1 a2 a3 a4 a5 a6 a7 a8 a9 a10, Calm ok (Cert.Dsa.k0_part165 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part165
  repeat' with_reducible first | exact Calm.pure _ | refine Calm.load fun _ => ?_ | refine Calm.store fun _ => ?_ | exact Calm.load_end | exact Calm.store_end

theorem part166 : ∀ a0 a1 a2 a3 a4 a5 a6 a7 a8 a9, Calm ok (Cert.Dsa.k0_part166 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part166
  repeat' with_reducible first | exact Calm.pure _ | refine Calm.load fun _ => ?_ | refine Calm.store fun _ => ?_ | exact Calm.load_end | exact Calm.store_end | apply part160 | apply part161 | apply part162 | apply part163 | apply part164 | apply part165 | refine Calm.bind ?_ fun _ => ?_

theorem part167 : ∀ a0 a1 a2 a3 a4 a5, Calm ok (Cert.Dsa.k0_part167 i _ harg2 _ harg3 _ harg4 _ harg5 _ harg6 _ harg7 _ harg8 _ harg9 _ harg10 _ harg11 _ harg12 _ harg13 _ harg14 _ harg15 _ harg16 _ harg17 _ harg18 a0 a1 a2 a3 a4 a5) := by
  intros
  unfold Cert.Dsa.k0_part167
  repeat' with_reducible first | exact Calm.pure _ | refine Calm.load fun _ => ?_ | refine Calm.store fun _ => ?_ | exact Calm.load_end | exact Calm.store_end | apply part117 | apply part145 | refine Calm.loop fun _ _ => ?_ | refine Calm.bind ?_ fun _ => ?_

theorem part168 : ∀ a0 a1 a2 a3 a4 a5 a6 a7 a8 a9 a10 a11 a12 a13, Calm ok (Cert.Dsa.k0_part168 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10 a11 a12 a13) := by
  intros
  unfold Cert.Dsa.k0_part168
  repeat' with_reducible first | exact Calm.pure _ | refine Calm.load fun _ => ?_ | refine Calm.store fun _ => ?_ | exact Calm.load_end | exact Calm.store_end | apply part159 | apply part166 | refine Calm.dite (fun _ => ?_) (fun _ => ?_) | refine Calm.ite ?_ ?_ | refine Calm.bind ?_ fun _ => ?_

theorem part169 : ∀ a0 a1 a2 a3 a4 a5 a6 a7 a8 a9 a10, Calm ok (Cert.Dsa.k0_part169 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part169
  repeat' with_reducible first | exact Calm.pure _ | refine Calm.load fun _ => ?_ | refine Calm.store fun _ => ?_ | exact Calm.load_end | exact Calm.store_end

theorem part170 : ∀ a0 a1 a2 a3 a4 a5 a6 a7 a8 a9, Calm ok (Cert.Dsa.k0_part170 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part170
  repeat' with_reducible first | exact Calm.pure _ | refine Calm.load fun _ => ?_ | refine Calm.store fun _ => ?_ | exact Calm.load_end | exact Calm.store_end

theorem part171 : ∀ a0 a1 a2 a3 a4 a5 a6 a7 a8 a9, Calm ok (Cert.Dsa.k0_part171 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part171
  repeat' with_reducible first | exact Calm.pure _ | refine Calm.load fun _ => ?_ | refine Calm.store fun _ => ?_ | exact Calm.load_end | exact Calm.store_end

theorem part172 : ∀ a0 a1 a2 a3 a4 a5 a6 a7 a8 a9 a10 a11, Calm ok (Cert.Dsa.k0_part172 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10 a11) := by
  intros
  unfold Cert.Dsa.k0_part172
  repeat' with_reducible first | exact Calm.pure _ | refine Calm.load fun _ => ?_ | refine Calm.store fun _ => ?_ | exact Calm.load_end | exact Calm.store_end

theorem part173 : ∀ a0 a1 a2 a3 a4 a5 a6 a7 a8 a9, Calm ok (Cert.Dsa.k0_part173 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part173
  repeat' with_reducible first | exact Calm.pure _ | refine Calm.load fun _ => ?_ | refine Calm.store fun _ => ?_ | exact Calm.load_end | exact Calm.store_end

theorem part174 : ∀ a0 a1 a2 a3 a4 a5 a6 a7 a8 a9 a10 a11 a12, Calm ok (Cert.Dsa.k0_part174 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10 a11 a12) := by
  intros
  unfold Cert.Dsa.k0_part174
  repeat' with_reducible first | exact Calm.pure _ | refine Calm.load fun _ => ?_ | refine Calm.store fun _ => ?_ | exact Calm.load_end | exact Calm.store_end

theorem part175 : ∀ a0 a1 a2 a3 a4 a5 a6 a7 a8 a9 a10, Calm ok (Cert.Dsa.k0_part175 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part175
  repeat' with_reducible first | exact Calm.pure _ | refine Calm.load fun _ => ?_ | refine Calm.store fun _ => ?_ | exact Calm.load_end | exact Calm.store_end

theorem part176 : ∀ a0 a1 a2 a3 a4 a5 a6 a7 a8 a9 a10, Calm ok (Cert.Dsa.k0_part176 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part176
  repeat' with_reducible first | exact Calm.pure _ | refine Calm.load fun _ => ?_ | refine Calm.store fun _ => ?_ | exact Calm.load_end | exact Calm.store_end

theorem part177 : ∀ a0 a1 a2 a3 a4 a5 a6 a7 a8 a9 a10, Calm ok (Cert.Dsa.k0_part177 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part177
  repeat' with_reducible first | exact Calm.pure _ | refine Calm.load fun _ => ?_ | refine Calm.store fun _ => ?_ | exact Calm.load_end | exact Calm.store_end

theorem part178 : ∀ a0 a1 a2 a3 a4 a5 a6 a7 a8 a9, Calm ok (Cert.Dsa.k0_part178 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part178
  repeat' with_reducible first | exact Calm.pure _ | refine Calm.load fun _ => ?_ | refine Calm.store fun _ => ?_ | exact Calm.load_end | exact Calm.store_end

theorem part179 : ∀ a0 a1 a2 a3 a4 a5 a6 a7 a8 a9 a10, Calm ok (Cert.Dsa.k0_part179 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part179
  repeat' with_reducible first | exact Calm.pure _ | refine Calm.load fun _ => ?_ | refine Calm.store fun _ => ?_ | exact Calm.load_end | exact Calm.store_end

theorem part180 : ∀ a0 a1 a2 a3 a4 a5 a6 a7 a8 a9 a10, Calm ok (Cert.Dsa.k0_part180 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part180
  repeat' with_reducible first | exact Calm.pure _ | refine Calm.load fun _ => ?_ | refine Calm.store fun _ => ?_ | exact Calm.load_end | exact Calm.store_end

theorem part181 : ∀ a0 a1 a2 a3 a4 a5 a6 a7 a8 a9 a10, Calm ok (Cert.Dsa.k0_part181 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part181
  repeat' with_reducible first | exact Calm.pure _ | refine Calm.load fun _ => ?_ | refine Calm.store fun _ => ?_ | exact Calm.load_end | exact Calm.store_end

theorem part182 : ∀ a0 a1 a2 a3 a4 a5 a6 a7 a8 a9 a10 a11, Calm ok (Cert.Dsa.k0_part182 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10 a11) := by
  intros
  unfold Cert.Dsa.k0_part182
  repeat' with_reducible first | exact Calm.pure _ | refine Calm.load fun _ => ?_ | refine Calm.store fun _ => ?_ | exact Calm.load_end | exact Calm.store_end

theorem part183 : ∀ a0 a1 a2 a3 a4 a5 a6 a7 a8 a9, Calm ok (Cert.Dsa.k0_part183 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part183
  repeat' with_reducible first | exact Calm.pure _ | refine Calm.load fun _ => ?_ | refine Calm.store fun _ => ?_ | exact Calm.load_end | exact Calm.store_end

theorem part184 : ∀ a0 a1 a2 a3 a4 a5 a6 a7 a8 a9, Calm ok (Cert.Dsa.k0_part184 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part184
  repeat' with_reducible first | exact Calm.pure _ | refine Calm.load fun _ => ?_ | refine Calm.store fun _ => ?_ | exact Calm.load_end | exact Calm.store_end

theorem part185 : ∀ a0 a1 a2 a3 a4 a5 a6 a7 a8 a9 a10 a11, Calm ok (Cert.Dsa.k0_part185 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10 a11) := by
  intros
  unfold Cert.Dsa.k0_part185
  repeat' with_reducible first | exact Calm.pure _ | refine Calm.load fun _ => ?_ | refine Calm.store fun _ => ?_ | exact Calm.load_end | exact Calm.store_end

theorem part186 : ∀ a0 a1 a2 a3 a4 a5 a6 a7 a8 a9, Calm ok (Cert.Dsa.k0_part186 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part186
  repeat' with_reducible first | exact Calm.pure _ | refine Calm.load fun _ => ?_ | refine Calm.store fun _ => ?_ | exact Calm.load_end | exact Calm.store_end

theorem part187 : ∀ a0 a1 a2 a3 a4 a5 a6 a7 a8 a9 a10 a11 a12, Calm ok (Cert.Dsa.k0_part187 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10 a11 a12) := by
  intros
  unfold Cert.Dsa.k0_part187
  repeat' with_reducible first | exact Calm.pure _ | refine Calm.load fun _ => ?_ | refine Calm.store fun _ => ?_ | exact Calm.load_end | exact Calm.store_end

theorem part188 : ∀ a0 a1 a2 a3 a4 a5 a6 a7 a8 a9 a10, Calm ok (Cert.Dsa.k0_part188 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part188
  repeat' with_reducible first | exact Calm.pure _ | refine Calm.load fun _ => ?_ | refine Calm.store fun _ => ?_ | exact Calm.load_end | exact Calm.store_end

theorem part189 : ∀ a0 a1 a2 a3 a4 a5 a6 a7 a8 a9 a10, Calm ok (Cert.Dsa.k0_part189 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part189
  repeat' with_reducible first | exact Calm.pure _ | refine Calm.load fun _ => ?_ | refine Calm.store fun _ => ?_ | exact Calm.load_end | exact Calm.store_end

theorem part190 : ∀ a0 a1 a2 a3 a4 a5 a6 a7 a8 a9 a10, Calm ok (Cert.Dsa.k0_part190 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part190
  repeat' with_reducible first | exact Calm.pure _ | refine Calm.load fun _ => ?_ | refine Calm.store fun _ => ?_ | exact Calm.load_end | exact Calm.store_end

theorem part191 : ∀ a0 a1 a2 a3 a4 a5 a6 a7 a8 a9, Calm ok (Cert.Dsa.k0_part191 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part191
  repeat' with_reducible first | exact Calm.pure _ | refine Calm.load fun _ => ?_ | refine Calm.store fun _ => ?_ | exact Calm.load_end | exact Calm.store_end

theorem part192 : ∀ a0 a1 a2 a3 a4 a5 a6 a7 a8 a9 a10, Calm ok (Cert.Dsa.k0_part192 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part192
  repeat' with_reducible first | exact Calm.pure _ | refine Calm.load fun _ => ?_ | refine Calm.store fun _ => ?_ | exact Calm.load_end | exact Calm.store_end

theorem part193 : ∀ a0 a1 a2 a3 a4 a5 a6 a7 a8 a9 a10, Calm ok (Cert.Dsa.k0_part193 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part193
  repeat' with_reducible first | exact Calm.pure _ | refine Calm.load fun _ => ?_ | refine Calm.store fun _ => ?_ | exact Calm.load_end | exact Calm.store_end

theorem part194 : ∀ a0 a1 a2 a3 a4 a5 a6 a7 a8 a9 a10, Calm ok (Cert.Dsa.k0_part194 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part194
  repeat' with_reducible first | exact Calm.pure _ | refine Calm.load fun _ => ?_ | refine Calm.store fun _ => ?_ | exact Calm.load_end | exact Calm.store_end

theorem part195 : ∀ a0 a1 a2 a3 a4 a5 a6 a7 a8 a9 a10 a11, Calm ok (Cert.Dsa.k0_part195 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10 a11) := by
  intros
  unfold Cert.Dsa.k0_part195
  repeat' with_reducible first | exact Calm.pure _ | refine Calm.load fun _ => ?_ | refine Calm.store fun _ => ?_ | exact Calm.load_end | exact Calm.store_end

theorem part196 : ∀ a0 a1 a2 a3 a4 a5 a6 a7 a8 a9 a10, Calm ok (Cert.Dsa.k0_part196 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part196
  repeat' with_reducible first | exact Calm.pure _ | refine Calm.load fun _ => ?_ | refine Calm.store fun _ => ?_ | exact Calm.load_end | exact Calm.store_end | apply part169 | apply part170 | apply part171 | apply part172 | apply part173 | apply part174 | apply part175 | apply part176 | apply part177 | apply part178 | apply part179 | apply part180 | apply part181 | apply part182 | apply part183 | apply part184 | apply part185 | apply part186 | apply part187 | apply part188 | apply part189 | apply part190 | apply part191 | apply part192 | apply part193 | apply part194 | apply part195 | refine Calm.bind ?_ fun _ => ?_

theorem part197 : ∀ a0 a1 a2 a3 a4 a5 a6 a7 a8 a9 a10, Calm ok (Cert.Dsa.k0_part197 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part197
  repeat' with_reducible first | exact Calm.pure _ | refine Calm.load fun _ => ?_ | refine Calm.store fun _ => ?_ | exact Calm.load_end | exact Calm.store_end

theorem part198 : ∀ a0 a1 a2 a3 a4 a5 a6 a7 a8 a9, Calm ok (Cert.Dsa.k0_part198 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part198
  repeat' with_reducible first | exact Calm.pure _ | refine Calm.load fun _ => ?_ | refine Calm.store fun _ => ?_ | exact Calm.load_end | exact Calm.store_end

theorem part199 : ∀ a0 a1 a2 a3 a4 a5 a6 a7 a8 a9, Calm ok (Cert.Dsa.k0_part199 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part199
  repeat' with_reducible first | exact Calm.pure _ | refine Calm.load fun _ => ?_ | refine Calm.store fun _ => ?_ | exact Calm.load_end | exact Calm.store_end

theorem part200 : ∀ a0 a1 a2 a3 a4 a5 a6 a7 a8 a9 a10 a11, Calm ok (Cert.Dsa.k0_part200 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10 a11) := by
  intros
  unfold Cert.Dsa.k0_part200
  repeat' with_reducible first | exact Calm.pure _ | refine Calm.load fun _ => ?_ | refine Calm.store fun _ => ?_ | exact Calm.load_end | exact Calm.store_end

theorem part201 : ∀ a0 a1 a2 a3 a4 a5 a6 a7 a8 a9, Calm ok (Cert.Dsa.k0_part201 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part201
  repeat' with_reducible first | exact Calm.pure _ | refine Calm.load fun _ => ?_ | refine Calm.store fun _ => ?_ | exact Calm.load_end | exact Calm.store_end

theorem part202 : ∀ a0 a1 a2 a3 a4 a5 a6 a7 a8 a9 a10 a11 a12, Calm ok (Cert.Dsa.k0_part202 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10 a11 a12) := by
  intros
  unfold Cert.Dsa.k0_part202
  repeat' with_reducible first | exact Calm.pure _ | refine Calm.load fun _ => ?_ | refine Calm.store fun _ => ?_ | exact Calm.load_end | exact Calm.store_end

theorem part203 : ∀ a0 a1 a2 a3 a4 a5 a6 a7 a8 a9 a10, Calm ok (Cert.Dsa.k0_part203 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part203
  repeat' with_reducible first | exact Calm.pure _ | refine Calm.load fun _ => ?_ | refine Calm.store fun _ => ?_ | exact Calm.load_end | exact Calm.store_end

theorem part204 : ∀ a0 a1 a2 a3 a4 a5 a6 a7 a8 a9 a10, Calm ok (Cert.Dsa.k0_part204 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part204
  repeat' with_reducible first | exact Calm.pure _ | refine Calm.load fun _ => ?_ | refine Calm.store fun _ => ?_ | exact Calm.load_end | exact Calm.store_end

theorem part205 : ∀ a0 a1 a2 a3 a4 a5 a6 a7 a8 a9 a10, Calm ok (Cert.Dsa.k0_part205 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part205
  repeat' with_reducible first | exact Calm.pure _ | refine Calm.load fun _ => ?_ | refine Calm.store fun _ => ?_ | exact Calm.load_end | exact Calm.store_end

theorem part206 : ∀ a0 a1 a2 a3 a4 a5 a6 a7 a8 a9, Calm ok (Cert.Dsa.k0_part206 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part206
  repeat' with_reducible first | exact Calm.pure _ | refine Calm.load fun _ => ?_ | refine Calm.store fun _ => ?_ | exact Calm.load_end | exact Calm.store_end

theorem part207 : ∀ a0 a1 a2 a3 a4 a5 a6 a7 a8 a9 a10, Calm ok (Cert.Dsa.k0_part207 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part207
  repeat' with_reducible first | exact Calm.pure _ | refine Calm.load fun _ => ?_ | refine Calm.store fun _ => ?_ | exact Calm.load_end | exact Calm.store_end

theorem part208 : ∀ a0 a1 a2 a3 a4 a5 a6 a7 a8 a9 a10, Calm ok (Cert.Dsa.k0_part208 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part208
  repeat' with_reducible first | exact Calm.pure _ | refine Calm.load fun _ => ?_ | refine Calm.store fun _ => ?_ | exact Calm.load_end | exact Calm.store_end

theorem part209 : ∀ a0 a1 a2 a3 a4 a5 a6 a7 a8 a9 a10, Calm ok (Cert.Dsa.k0_part209 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part209
  repeat' with_reducible first | exact Calm.pure _ | refine Calm.load fun _ => ?_ | refine Calm.store fun _ => ?_ | exact Calm.load_end | exact Calm.store_end

theorem part210 : ∀ a0 a1 a2 a3 a4 a5 a6 a7 a8 a9 a10 a11, Calm ok (Cert.Dsa.k0_part210 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10 a11) := by
  intros
  unfold Cert.Dsa.k0_part210
  repeat' with_reducible first | exact Calm.pure _ | refine Calm.load fun _ => ?_ | refine Calm.store fun _ => ?_ | exact Calm.load_end | exact Calm.store_end

theorem part211 : ∀ a0 a1 a2 a3 a4 a5 a6 a7 a8 a9, Calm ok (Cert.Dsa.k0_part211 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part211
  repeat' with_reducible first | exact Calm.pure _ | refine Calm.load fun _ => ?_ | refine Calm.store fun _ => ?_ | exact Calm.load_end | exact Calm.store_end

theorem part212 : ∀ a0 a1 a2 a3 a4 a5 a6 a7 a8 a9, Calm ok (Cert.Dsa.k0_part212 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part212
  repeat' with_reducible first | exact Calm.pure _ | refine Calm.load fun _ => ?_ | refine Calm.store fun _ => ?_ | exact Calm.load_end | exact Calm.store_end

theorem part213 : ∀ a0 a1 a2 a3 a4 a5 a6 a7 a8 a9 a10 a11, Calm ok (Cert.Dsa.k0_part213 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10 a11) := by
  intros
  unfold Cert.Dsa.k0_part213
  repeat' with_reducible first | exact Calm.pure _ | refine Calm.load fun _ => ?_ | refine Calm.store fun _ => ?_ | exact Calm.load_end | exact Calm.store_end

theorem part214 : ∀ a0 a1 a2 a3 a4 a5 a6 a7 a8 a9, Calm ok (Cert.Dsa.k0_part214 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part214
  repeat' with_reducible first | exact Calm.pure _ | refine Calm.load fun _ => ?_ | refine Calm.store fun _ => ?_ | exact Calm.load_end | exact Calm.store_end

theorem part215 : ∀ a0 a1 a2 a3 a4 a5 a6 a7 a8 a9 a10 a11 a12, Calm ok (Cert.Dsa.k0_part215 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10 a11 a12) := by
  intros
  unfold Cert.Dsa.k0_part215
  repeat' with_reducible first | exact Calm.pure _ | refine Calm.load fun _ => ?_ | refine Calm.store fun _ => ?_ | exact Calm.load_end | exact Calm.store_end

theorem part216 : ∀ a0 a1 a2 a3 a4 a5 a6 a7 a8 a9 a10, Calm ok (Cert.Dsa.k0_part216 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part216
  repeat' with_reducible first | exact Calm.pure _ | refine Calm.load fun _ => ?_ | refine Calm.store fun _ => ?_ | exact Calm.load_end | exact Calm.store_end

theorem part217 : ∀ a0 a1 a2 a3 a4 a5 a6 a7 a8 a9 a10, Calm ok (Cert.Dsa.k0_part217 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part217
  repeat' with_reducible first | exact Calm.pure _ | refine Calm.load fun _ => ?_ | refine Calm.store fun _ => ?_ | exact Calm.load_end | exact Calm.store_end

theorem part218 : ∀ a0 a1 a2 a3 a4 a5 a6 a7 a8 a9 a10, Calm ok (Cert.Dsa.k0_part218 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part218
  repeat' with_reducible first | exact Calm.pure _ | refine Calm.load fun _ => ?_ | refine Calm.store fun _ => ?_ | exact Calm.load_end | exact Calm.store_end

theorem part219 : ∀ a0 a1 a2 a3 a4 a5 a6 a7 a8 a9, Calm ok (Cert.Dsa.k0_part219 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part219
  repeat' with_reducible first | exact Calm.pure _ | refine Calm.load fun _ => ?_ | refine Calm.store fun _ => ?_ | exact Calm.load_end | exact Calm.store_end

theorem part220 : ∀ a0 a1 a2 a3 a4 a5 a6 a7 a8 a9 a10, Calm ok (Cert.Dsa.k0_part220 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part220
  repeat' with_reducible first | exact Calm.pure _ | refine Calm.load fun _ => ?_ | refine Calm.store fun _ => ?_ | exact Calm.load_end | exact Calm.store_end

theorem part221 : ∀ a0 a1 a2 a3 a4 a5 a6 a7 a8 a9 a10, Calm ok (Cert.Dsa.k0_part221 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part221
  repeat' with_reducible first | exact Calm.pure _ | refine Calm.load fun _ => ?_ | refine Calm.store fun _ => ?_ | exact Calm.load_end | exact Calm.store_end

theorem part222 : ∀ a0 a1 a2 a3 a4 a5 a6 a7 a8 a9 a10, Calm ok (Cert.Dsa.k0_part222 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part222
  repeat' with_reducible first | exact Calm.pure _ | refine Calm.load fun _ => ?_ | refine Calm.store fun _ => ?_ | exact Calm.load_end | exact Calm.store_end

theorem part223 : ∀ a0 a1 a2 a3 a4 a5 a6 a7 a8 a9 a10 a11, Calm ok (Cert.Dsa.k0_part223 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10 a11) := by
  intros
  unfold Cert.Dsa.k0_part223
  repeat' with_reducible first | exact Calm.pure _ | refine Calm.load fun _ => ?_ | refine Calm.store fun _ => ?_ | exact Calm.load_end | exact Calm.store_end

theorem part224 : ∀ a0 a1 a2 a3 a4 a5 a6 a7 a8 a9 a10, Calm ok (Cert.Dsa.k0_part224 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part224
  repeat' with_reducible first | exact Calm.pure _ | refine Calm.load fun _ => ?_ | refine Calm.store fun _ => ?_ | exact Calm.load_end | exact Calm.store_end | apply part197 | apply part198 | apply part199 | apply part200 | apply part201 | apply part202 | apply part203 | apply part204 | apply part205 | apply part206 | apply part207 | apply part208 | apply part209 | apply part210 | apply part211 | apply part212 | apply part213 | apply part214 | apply part215 | apply part216 | apply part217 | apply part218 | apply part219 | apply part220 | apply part221 | apply part222 | apply part223 | refine Calm.bind ?_ fun _ => ?_

theorem part225 : ∀ a0 a1 a2 a3 a4 a5 a6 a7 a8 a9, Calm ok (Cert.Dsa.k0_part225 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part225
  repeat' with_reducible first | exact Calm.pure _ | refine Calm.load fun _ => ?_ | refine Calm.store fun _ => ?_ | exact Calm.load_end | exact Calm.store_end

theorem part226 : ∀ a0 a1 a2 a3 a4 a5 a6 a7 a8 a9 a10 a11, Calm ok (Cert.Dsa.k0_part226 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10 a11) := by
  intros
  unfold Cert.Dsa.k0_part226
  repeat' with_reducible first | exact Calm.pure _ | refine Calm.load fun _ => ?_ | refine Calm.store fun _ => ?_ | exact Calm.load_end | exact Calm.store_end

theorem part227 : ∀ a0 a1 a2 a3 a4 a5 a6 a7 a8 a9, Calm ok (Cert.Dsa.k0_part227 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part227
  repeat' with_reducible first | exact Calm.pure _ | refine Calm.load fun _ => ?_ | refine Calm.store fun _ => ?_ | exact Calm.load_end | exact Calm.store_end

theorem part228 : ∀ a0 a1 a2 a3 a4 a5 a6 a7 a8 a9 a10 a11 a12, Calm ok (Cert.Dsa.k0_part228 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10 a11 a12) := by
  intros
  unfold Cert.Dsa.k0_part228
  repeat' with_reducible first | exact Calm.pure _ | refine Calm.load fun _ => ?_ | refine Calm.store fun _ => ?_ | exact Calm.load_end | exact Calm.store_end

theorem part229 : ∀ a0 a1 a2 a3 a4 a5 a6 a7 a8 a9 a10, Calm ok (Cert.Dsa.k0_part229 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part229
  repeat' with_reducible first | exact Calm.pure _ | refine Calm.load fun _ => ?_ | refine Calm.store fun _ => ?_ | exact Calm.load_end | exact Calm.store_end

theorem part230 : ∀ a0 a1 a2 a3 a4 a5 a6 a7 a8 a9 a10, Calm ok (Cert.Dsa.k0_part230 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part230
  repeat' with_reducible first | exact Calm.pure _ | refine Calm.load fun _ => ?_ | refine Calm.store fun _ => ?_ | exact Calm.load_end | exact Calm.store_end

theorem part231 : ∀ a0 a1 a2 a3 a4 a5 a6 a7 a8 a9 a10, Calm ok (Cert.Dsa.k0_part231 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part231
  repeat' with_reducible first | exact Calm.pure _ | refine Calm.load fun _ => ?_ | refine Calm.store fun _ => ?_ | exact Calm.load_end | exact Calm.store_end

theorem part232 : ∀ a0 a1 a2 a3 a4 a5 a6 a7 a8 a9, Calm ok (Cert.Dsa.k0_part232 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part232
  repeat' with_reducible first | exact Calm.pure _ | refine Calm.load fun _ => ?_ | refine Calm.store fun _ => ?_ | exact Calm.load_end | exact Calm.store_end

theorem part233 : ∀ a0 a1 a2 a3 a4 a5 a6 a7 a8 a9 a10, Calm ok (Cert.Dsa.k0_part233 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part233
  repeat' with_reducible first | exact Calm.pure _ | refine Calm.load fun _ => ?_ | refine Calm.store fun _ => ?_ | exact Calm.load_end | exact Calm.store_end

theorem part234 : ∀ a0 a1 a2 a3 a4 a5 a6 a7 a8 a9 a10, Calm ok (Cert.Dsa.k0_part234 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part234
  repeat' with_reducible first | exact Calm.pure _ | refine Calm.load fun _ => ?_ | refine Calm.store fun _ => ?_ | exact Calm.load_end | exact Calm.store_end

theorem part235 : ∀ a0 a1 a2 a3 a4 a5 a6 a7 a8 a9 a10, Calm ok (Cert.Dsa.k0_part235 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part235
  repeat' with_reducible first | exact Calm.pure _ | refine Calm.load fun _ => ?_ | refine Calm.store fun _ => ?_ | exact Calm.load_end | exact Calm.store_end

theorem part236 : ∀ a0 a1 a2 a3 a4 a5 a6 a7 a8 a9 a10 a11, Calm ok (Cert.Dsa.k0_part236 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10 a11) := by
  intros
  unfold Cert.Dsa.k0_part236
  repeat' with_reducible first | exact Calm.pure _ | refine Calm.load fun _ => ?_ | refine Calm.store fun _ => ?_ | exact Calm.load_end | exact Calm.store_end

theorem part237 : ∀ a0 a1 a2 a3 a4 a5 a6 a7 a8 a9, Calm ok (Cert.Dsa.k0_part237 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part237
  repeat' with_reducible first | exact Calm.pure _ | refine Calm.load fun _ => ?_ | refine Calm.store fun _ => ?_ | exact Calm.load_end | exact Calm.store_end

theorem part238 : ∀ a0 a1 a2 a3 a4 a5 a6 a7 a8 a9, Calm ok (Cert.Dsa.k0_part238 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part238
  repeat' with_reducible first | exact Calm.pure _ | refine Calm.load fun _ => ?_ | refine Calm.store fun _ => ?_ | exact Calm.load_end | exact Calm.store_end | apply part225 | apply part226 | apply part227 | apply part228 | apply part229 | apply part230 | apply part231 | apply part232 | apply part233 | apply part234 | apply part235 | apply part236 | apply part237 | refine Calm.bind ?_ fun _ => ?_

theorem part239 : ∀ a0 a1 a2 a3 a4 a5 a6 a7 a8 a9, Calm ok (Cert.Dsa.k0_part239 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part239
  repeat' with_reducible first | exact Calm.pure _ | refine Calm.load fun _ => ?_ | refine Calm.store fun _ => ?_ | exact Calm.load_end | exact Calm.store_end

theorem part240 : ∀ a0 a1 a2 a3 a4 a5 a6 a7 a8 a9 a10 a11, Calm ok (Cert.Dsa.k0_part240 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10 a11) := by
  intros
  unfold Cert.Dsa.k0_part240
  repeat' with_reducible first | exact Calm.pure _ | refine Calm.load fun _ => ?_ | refine Calm.store fun _ => ?_ | exact Calm.load_end | exact Calm.store_end

theorem part241 : ∀ a0 a1 a2 a3 a4 a5 a6 a7 a8 a9, Calm ok (Cert.Dsa.k0_part241 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part241
  repeat' with_reducible first | exact Calm.pure _ | refine Calm.load fun _ => ?_ | refine Calm.store fun _ => ?_ | exact Calm.load_end | exact Calm.store_end

theorem part242 : ∀ a0 a1 a2 a3 a4 a5 a6 a7 a8 a9 a10 a11 a12, Calm ok (Cert.Dsa.k0_part242 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10 a11 a12) := by
  intros
  unfold Cert.Dsa.k0_part242
  repeat' with_reducible first | exact Calm.pure _ | refine Calm.load fun _ => ?_ | refine Calm.store fun _ => ?_ | exact Calm.load_end | exact Calm.store_end

theorem part243 : ∀ a0 a1 a2 a3 a4 a5 a6 a7 a8 a9 a10, Calm ok (Cert.Dsa.k0_part243 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part243
  repeat' with_reducible first | exact Calm.pure _ | refine Calm.load fun _ => ?_ | refine Calm.store fun _ => ?_ | exact Calm.load_end | exact Calm.store_end

theorem part244 : ∀ a0 a1 a2 a3 a4 a5 a6 a7 a8 a9 a10, Calm ok (Cert.Dsa.k0_part244 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10) := by
  intros
  unfold Cert.Dsa.k0_part244
  repeat' with_reducible first | exact Calm.pure _ | refine Calm.load fun _ => ?_ | refine Calm.store fun _ => ?_ | exact Calm.load_end | exact Calm.store_end

theorem part245 : ∀ a0 a1 a2 a3 a4 a5 a6 a7 a8 a9, Calm ok (Cert.Dsa.k0_part245 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9) := by
  intros
  unfold Cert.Dsa.k0_part245
  repeat' with_reducible first | exact Calm.pure _ | refine Calm.load fun _ => ?_ | refine Calm.store fun _ => ?_ | exact Calm.load_end | exact Calm.store_end | apply part239 | apply part240 | apply part241 | apply part242 | apply part243 | apply part244 | refine Calm.bind ?_ fun _ => ?_

set_option maxHeartbeats 4000000 in
theorem part246 : ∀ a0 a1 a2 a3 a4 a5, Calm ok (Cert.Dsa.k0_part246 i _ harg2 _ harg3 _ harg4 _ harg5 _ harg6 _ harg7 _ harg8 _ harg9 _ harg10 _ harg11 _ harg12 _ harg13 _ harg14 _ harg15 _ harg16 _ harg17 _ harg18 a0 a1 a2 a3 a4 a5) := by
  intros
  unfold Cert.Dsa.k0_part246
  repeat' with_reducible first | exact Calm.pure _ | refine Calm.load fun _ => ?_ | refine Calm.store fun _ => ?_ | exact Calm.load_end | exact Calm.store_end | apply part196 | apply part224 | refine Calm.loop fun _ _ => ?_ | refine Calm.bind ?_ fun _ => ?_

set_option maxHeartbeats 4000000 in
theorem part247 : ∀ a0 a1 a2 a3 a4 a5 a6 a7 a8 a9 a10 a11 a12 a13, Calm ok (Cert.Dsa.k0_part247 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8 a9 a10 a11 a12 a13) := by
  intros
  unfold Cert.Dsa.k0_part247
  repeat' with_reducible first | exact Calm.pure _ | refine Calm.load fun _ => ?_ | refine Calm.store fun _ => ?_ | exact Calm.load_end | exact Calm.store_end | apply part238 | apply part245 | refine Calm.dite (fun _ => ?_) (fun _ => ?_) | refine Calm.ite ?_ ?_ | refine Calm.bind ?_ fun _ => ?_

set_option maxHeartbeats 4000000 in
theorem part248 : ∀ a0 a1 a2, Calm ok (Cert.Dsa.k0_part248 i _ harg2 _ harg3 _ harg4 _ harg5 _ harg6 _ harg7 _ harg8 _ harg9 _ harg10 _ harg11 _ harg12 _ harg13 _ harg14 _ harg15 _ harg16 _ harg17 _ harg18 a0 a1 a2) := by
  intros
  unfold Cert.Dsa.k0_part248
  repeat' with_reducible first | exact Calm.pure _ | refine Calm.load fun _ => ?_ | refine Calm.store fun _ => ?_ | exact Calm.load_end | exact Calm.store_end | apply part88 | apply part89 | apply part167 | apply part168 | refine Calm.loop fun _ _ => ?_ | refine Calm.bind ?_ fun _ => ?_

set_option maxHeartbeats 4000000 in
theorem part249 : ∀ a0 a1 a2 a3 a4 a5, Calm ok (Cert.Dsa.k0_part249 i _ harg2 _ harg3 _ harg4 _ harg5 _ harg6 _ harg7 _ harg8 _ harg9 _ harg10 _ harg11 _ harg12 _ harg13 _ harg14 _ harg15 _ harg16 _ harg17 _ harg18 a0 a1 a2 a3 a4 a5) := by
  intros
  unfold Cert.Dsa.k0_part249
  repeat' with_reducible first | exact Calm.pure _ | refine Calm.load fun _ => ?_ | refine Calm.store fun _ => ?_ | exact Calm.load_end | exact Calm.store_end | apply part246 | apply part247 | refine Calm.loop fun _ _ => ?_ | refine Calm.dite (fun _ => ?_) (fun _ => ?_) | refine Calm.ite ?_ ?_ | refine Calm.bind ?_ fun _ => ?_

theorem part250 : ∀ a0 a1 a2 a3 a4, Calm ok (Cert.Dsa.k0_part250 i _ harg2 _ harg3 _ harg4 _ harg5 _ harg6 _ harg7 _ harg8 _ harg9 _ harg10 _ harg11 _ harg12 _ harg13 _ harg14 _ harg15 _ harg16 _ harg17 _ harg18 a0 a1 a2 a3 a4) := by
  intros
  unfold Cert.Dsa.k0_part250
  repeat' with_reducible first | exact Calm.pure _ | refine Calm.load fun _ => ?_ | refine Calm.store fun _ => ?_ | exact Calm.load_end | exact Calm.store_end

theorem part251 : ∀ a0 a1 a2 a3 a4, Calm ok (Cert.Dsa.k0_part251 i _ harg2 _ harg3 _ harg4 _ harg5 _ harg6 _ harg7 _ harg8 _ harg9 _ harg10 _ harg11 _ harg12 _ harg13 _ harg14 _ harg15 _ harg16 _ harg17 _ harg18 a0 a1 a2 a3 a4) := by
  intros
  unfold Cert.Dsa.k0_part251
  repeat' with_reducible first | exact Calm.pure _ | refine Calm.load fun _ => ?_ | refine Calm.store fun _ => ?_ | exact Calm.load_end | exact Calm.store_end

theorem part252 : ∀ a0 a1 a2 a3 a4, Calm ok (Cert.Dsa.k0_part252 i _ harg2 _ harg3 _ harg4 _ harg5 _ harg6 _ harg7 _ harg8 _ harg9 _ harg10 _ harg11 _ harg12 _ harg13 _ harg14 _ harg15 _ harg16 _ harg17 _ harg18 a0 a1 a2 a3 a4) := by
  intros
  unfold Cert.Dsa.k0_part252
  repeat' with_reducible first | exact Calm.pure _ | refine Calm.load fun _ => ?_ | refine Calm.store fun _ => ?_ | exact Calm.load_end | exact Calm.store_end

theorem part253 : ∀ a0 a1 a2 a3 a4 a5 a6 a7 a8, Calm ok (Cert.Dsa.k0_part253 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8) := by
  intros
  unfold Cert.Dsa.k0_part253
  repeat' with_reducible first | exact Calm.pure _ | refine Calm.load fun _ => ?_ | refine Calm.store fun _ => ?_ | exact Calm.load_end | exact Calm.store_end

theorem part254 : ∀ a0 a1 a2 a3, Calm ok (Cert.Dsa.k0_part254 i _ harg2 _ harg3 _ harg4 _ harg5 _ harg6 _ harg7 _ harg8 _ harg9 _ harg10 _ harg11 _ harg12 _ harg13 _ harg14 _ harg15 _ harg16 _ harg17 _ harg18 a0 a1 a2 a3) := by
  intros
  unfold Cert.Dsa.k0_part254
  repeat' with_reducible first | exact Calm.pure _ | refine Calm.load fun _ => ?_ | refine Calm.store fun _ => ?_ | exact Calm.load_end | exact Calm.store_end

theorem part255 : ∀ a0 a1 a2 a3 a4 a5, Calm ok (Cert.Dsa.k0_part255 i _ harg2 _ harg3 _ harg4 _ harg5 _ harg6 _ harg7 _ harg8 _ harg9 _ harg10 _ harg11 _ harg12 _ harg13 _ harg14 _ harg15 _ harg16 _ harg17 _ harg18 a0 a1 a2 a3 a4 a5) := by
  intros
  unfold Cert.Dsa.k0_part255
  repeat' with_reducible first | exact Calm.pure _ | refine Calm.load fun _ => ?_ | refine Calm.store fun _ => ?_ | exact Calm.load_end | exact Calm.store_end

theorem part256 : ∀ a0 a1 a2 a3 a4, Calm ok (Cert.Dsa.k0_part256 i _ harg2 _ harg3 _ harg4 _ harg5 _ harg6 _ harg7 _ harg8 _ harg9 _ harg10 _ harg11 _ harg12 _ harg13 _ harg14 _ harg15 _ harg16 _ harg17 _ harg18 a0 a1 a2 a3 a4) := by
  intros
  unfold Cert.Dsa.k0_part256
  repeat' with_reducible first | exact Calm.pure _ | refine Calm.load fun _ => ?_ | refine Calm.store fun _ => ?_ | exact Calm.load_end | exact Calm.store_end

theorem part257 : ∀ a0 a1 a2 a3 a4, Calm ok (Cert.Dsa.k0_part257 i _ harg2 _ harg3 _ harg4 _ harg5 _ harg6 _ harg7 _ harg8 _ harg9 _ harg10 _ harg11 _ harg12 _ harg13 _ harg14 _ harg15 _ harg16 _ harg17 _ harg18 a0 a1 a2 a3 a4) := by
  intros
  unfold Cert.Dsa.k0_part257
  repeat' with_reducible first | exact Calm.pure _ | refine Calm.load fun _ => ?_ | refine Calm.store fun _ => ?_ | exact Calm.load_end | exact Calm.store_end

theorem part258 : ∀ a0 a1 a2 a3 a4, Calm ok (Cert.Dsa.k0_part258 i _ harg2 _ harg3 _ harg4 _ harg5 _ harg6 _ harg7 _ harg8 _ harg9 _ harg10 _ harg11 _ harg12 _ harg13 _ harg14 _ harg15 _ harg16 _ harg17 _ harg18 a0 a1 a2 a3 a4) := by
  intros
  unfold Cert.Dsa.k0_part258
  repeat' with_reducible first | exact Calm.pure _ | refine Calm.load fun _ => ?_ | refine Calm.store fun _ => ?_ | exact Calm.load_end | exact Calm.store_end

theorem part259 : ∀ a0 a1 a2 a3 a4 a5 a6 a7 a8, Calm ok (Cert.Dsa.k0_part259 i _ harg2 _ harg3 _ harg4 _ harg5 _ harg6 _ harg7 _ harg8 _ harg9 _ harg10 _ harg11 _ harg12 _ harg13 _ harg14 _ harg15 _ harg16 _ harg17 _ harg18 a0 a1 a2 a3 a4 a5 a6 a7 a8) := by
  intros
  unfold Cert.Dsa.k0_part259
  repeat' with_reducible first | exact Calm.pure _ | refine Calm.load fun _ => ?_ | refine Calm.store fun _ => ?_ | exact Calm.load_end | exact Calm.store_end

theorem part260 : ∀ a0 a1 a2 a3, Calm ok (Cert.Dsa.k0_part260 i _ harg2 _ harg3 _ harg4 _ harg5 _ harg6 _ harg7 _ harg8 _ harg9 _ harg10 _ harg11 _ harg12 _ harg13 _ harg14 _ harg15 _ harg16 _ harg17 _ harg18 a0 a1 a2 a3) := by
  intros
  unfold Cert.Dsa.k0_part260
  repeat' with_reducible first | exact Calm.pure _ | refine Calm.load fun _ => ?_ | refine Calm.store fun _ => ?_ | exact Calm.load_end | exact Calm.store_end

theorem part261 : ∀ a0 a1 a2 a3 a4 a5, Calm ok (Cert.Dsa.k0_part261 i _ harg2 _ harg3 _ harg4 _ harg5 _ harg6 _ harg7 _ harg8 _ harg9 _ harg10 _ harg11 _ harg12 _ harg13 _ harg14 _ harg15 _ harg16 _ harg17 _ harg18 a0 a1 a2 a3 a4 a5) := by
  intros
  unfold Cert.Dsa.k0_part261
  repeat' with_reducible first | exact Calm.pure _ | refine Calm.load fun _ => ?_ | refine Calm.store fun _ => ?_ | exact Calm.load_end | exact Calm.store_end

theorem part262 : ∀ a0 a1 a2 a3, Calm ok (Cert.Dsa.k0_part262 i _ harg2 _ harg3 _ harg4 _ harg5 _ harg6 _ harg7 _ harg8 _ harg9 _ harg10 _ harg11 _ harg12 _ harg13 _ harg14 _ harg15 _ harg16 _ harg17 _ harg18 a0 a1 a2 a3) := by
  intros
  unfold Cert.Dsa.k0_part262
  repeat' with_reducible first | exact Calm.pure _ | refine Calm.load fun _ => ?_ | refine Calm.store fun _ => ?_ | exact Calm.load_end | exact Calm.store_end

theorem part263 : Calm ok (Cert.Dsa.k0_part263 i _ harg2 _ harg3 _ harg4 _ harg5 _ harg6 _ harg7 _ harg8 _ harg9 _ harg10 _ harg11 _ harg12 _ harg13 _ harg14 _ harg15 _ harg16 _ harg17 _ harg18) := by
  unfold Cert.Dsa.k0_part263
  repeat' with_reducible first | exact Calm.pure _ | refine Calm.load fun _ => ?_ | refine Calm.store fun _ => ?_ | exact Calm.load_end | exact Calm.store_end

theorem part264 : ∀ a0, Calm ok (Cert.Dsa.k0_part264 i _ harg2 _ harg3 _ harg4 _ harg5 _ harg6 _ harg7 _ harg8 _ harg9 _ harg10 _ harg11 _ harg12 _ harg13 _ harg14 _ harg15 _ harg16 _ harg17 _ harg18 a0) := by
  intros
  unfold Cert.Dsa.k0_part264
  repeat' with_reducible first | exact Calm.pure _ | refine Calm.load fun _ => ?_ | refine Calm.store fun _ => ?_ | exact Calm.load_end | exact Calm.store_end

theorem part265 : ∀ a0, Calm ok (Cert.Dsa.k0_part265 i _ harg2 _ harg3 _ harg4 _ harg5 _ harg6 _ harg7 _ harg8 _ harg9 _ harg10 _ harg11 _ harg12 _ harg13 _ harg14 _ harg15 _ harg16 _ harg17 _ harg18 a0) := by
  intros
  unfold Cert.Dsa.k0_part265
  repeat' with_reducible first | exact Calm.pure _ | refine Calm.load fun _ => ?_ | refine Calm.store fun _ => ?_ | exact Calm.load_end | exact Calm.store_end

theorem part266 : ∀ a0 a1, Calm ok (Cert.Dsa.k0_part266 i _ harg2 _ harg3 _ harg4 _ harg5 _ harg6 _ harg7 _ harg8 _ harg9 _ harg10 _ harg11 _ harg12 _ harg13 _ harg14 _ harg15 _ harg16 _ harg17 _ harg18 a0 a1) := by
  intros
  unfold Cert.Dsa.k0_part266
  repeat' with_reducible first | exact Calm.pure _ | refine Calm.load fun _ => ?_ | refine Calm.store fun _ => ?_ | exact Calm.load_end | exact Calm.store_end

theorem part267 : ∀ a0 a1 a2, Calm ok (Cert.Dsa.k0_part267 i _ harg2 _ harg3 _ harg4 _ harg5 _ harg6 _ harg7 _ harg8 _ harg9 _ harg10 _ harg11 _ harg12 _ harg13 _ harg14 _ harg15 _ harg16 _ harg17 _ harg18 a0 a1 a2) := by
  intros
  unfold Cert.Dsa.k0_part267
  repeat' with_reducible first | exact Calm.pure _ | refine Calm.load fun _ => ?_ | refine Calm.store fun _ => ?_ | exact Calm.load_end | exact Calm.store_end

theorem part268 : ∀ a0, Calm ok (Cert.Dsa.k0_part268 i _ harg2 _ harg3 _ harg4 _ harg5 _ harg6 _ harg7 _ harg8 _ harg9 _ harg10 _ harg11 _ harg12 _ harg13 _ harg14 _ harg15 _ harg16 _ harg17 _ harg18 a0) := by
  intros
  unfold Cert.Dsa.k0_part268
  repeat' with_reducible first | exact Calm.pure _ | refine Calm.load fun _ => ?_ | refine Calm.store fun _ => ?_ | exact Calm.load_end | exact Calm.store_end

set_option maxHeartbeats 4000000 in
theorem part269 : ∀ a0 a1, Calm ok (Cert.Dsa.k0_part269 i _ harg2 _ harg3 _ harg4 _ harg5 _ harg6 _ harg7 _ harg8 _ harg9 _ harg10 _ harg11 _ harg12 _ harg13 _ harg14 _ harg15 _ harg16 _ harg17 _ harg18 a0 a1) := by
  intros
  unfold Cert.Dsa.k0_part269
  repeat' with_reducible first | exact Calm.pure _ | refine Calm.load fun _ => ?_ | refine Calm.store fun _ => ?_ | exact Calm.load_end | exact Calm.store_end | apply part1 | apply part2 | apply part3 | apply part4 | apply part5 | apply part6 | apply part7 | apply part8 | refine Calm.loop fun _ _ => ?_ | refine Calm.bind ?_ fun _ => ?_

theorem part270 : ∀ a0 a1 a2 a3 a4, Calm ok (Cert.Dsa.k0_part270 i _ harg2 _ harg3 _ harg4 _ harg5 _ harg6 _ harg7 _ harg8 _ harg9 _ harg10 _ harg11 _ harg12 _ harg13 _ harg14 _ harg15 _ harg16 _ harg17 _ harg18 a0 a1 a2 a3 a4) := by
  intros
  unfold Cert.Dsa.k0_part270
  repeat' with_reducible first | exact Calm.pure _ | refine Calm.load fun _ => ?_ | refine Calm.store fun _ => ?_ | exact Calm.load_end | exact Calm.store_end

theorem part271 : ∀ a0 a1 a2 a3 a4 a5, Calm ok (Cert.Dsa.k0_part271 i _ harg2 _ harg3 _ harg4 _ harg5 _ harg6 _ harg7 _ harg8 _ harg9 _ harg10 _ harg11 _ harg12 _ harg13 _ harg14 _ harg15 _ harg16 _ harg17 _ harg18 a0 a1 a2 a3 a4 a5) := by
  intros
  unfold Cert.Dsa.k0_part271
  repeat' with_reducible first | exact Calm.pure _ | refine Calm.load fun _ => ?_ | refine Calm.store fun _ => ?_ | exact Calm.load_end | exact Calm.store_end

set_option maxHeartbeats 4000000 in
theorem part272 : ∀ a0 a1 a2 a3 a4 a5, Calm ok (Cert.Dsa.k0_part272 i _ harg2 _ harg3 _ harg4 _ harg5 _ harg6 _ harg7 _ harg8 _ harg9 _ harg10 _ harg11 _ harg12 _ harg13 _ harg14 _ harg15 _ harg16 _ harg17 _ harg18 a0 a1 a2 a3 a4 a5) := by
  intros
  unfold Cert.Dsa.k0_part272
  repeat' with_reducible first | exact Calm.pure _ | refine Calm.load fun _ => ?_ | refine Calm.store fun _ => ?_ | exact Calm.load_end | exact Calm.store_end | apply part9 | apply part10 | apply part248 | apply part249 | refine Calm.loop fun _ _ => ?_ | refine Calm.dite (fun _ => ?_) (fun _ => ?_) | refine Calm.ite ?_ ?_ | refine Calm.bind ?_ fun _ => ?_

set_option maxHeartbeats 4000000 in
theorem part273 : ∀ a0 a1 a2 a3, Calm ok (Cert.Dsa.k0_part273 i _ harg2 _ harg3 _ harg4 _ harg5 _ harg6 _ harg7 _ harg8 _ harg9 _ harg10 _ harg11 _ harg12 _ harg13 _ harg14 _ harg15 _ harg16 _ harg17 _ harg18 a0 a1 a2 a3) := by
  intros
  unfold Cert.Dsa.k0_part273
  repeat' with_reducible first | exact Calm.pure _ | refine Calm.load fun _ => ?_ | refine Calm.store fun _ => ?_ | exact Calm.load_end | exact Calm.store_end

set_option maxHeartbeats 4000000 in
theorem part274 : ∀ a0 a1 a2 a3 a4 a5 a6, Calm ok (Cert.Dsa.k0_part274 i _ harg2 _ harg3 _ harg4 _ harg5 _ harg6 _ harg7 _ harg8 _ harg9 _ harg10 _ harg11 _ harg12 _ harg13 _ harg14 _ harg15 _ harg16 _ harg17 _ harg18 a0 a1 a2 a3 a4 a5 a6) := by
  intros
  unfold Cert.Dsa.k0_part274
  repeat' with_reducible first | exact Calm.pure _ | refine Calm.load fun _ => ?_ | refine Calm.store fun _ => ?_ | exact Calm.load_end | exact Calm.store_end | apply part250 | apply part251 | apply part252 | apply part253 | apply part254 | apply part255 | apply part256 | apply part257 | apply part258 | apply part259 | apply part260 | apply part261 | apply part262 | refine Calm.loop fun _ _ => ?_ | refine Calm.dite (fun _ => ?_) (fun _ => ?_) | refine Calm.ite ?_ ?_ | refine Calm.bind ?_ fun _ => ?_

set_option maxHeartbeats 4000000 in
theorem part275 : ∀ a0 a1, Calm ok (Cert.Dsa.k0_part275 i _ harg2 _ harg3 _ harg4 _ harg5 _ harg6 _ harg7 _ harg8 _ harg9 _ harg10 _ harg11 _ harg12 _ harg13 _ harg14 _ harg15 _ harg16 _ harg17 _ harg18 a0 a1) := by
  intros
  unfold Cert.Dsa.k0_part275
  repeat' with_reducible first | exact Calm.pure _ | refine Calm.load fun _ => ?_ | refine Calm.store fun _ => ?_ | exact Calm.load_end | exact Calm.store_end

set_option maxHeartbeats 4000000 in
theorem cc0_dsa : Calm ok (Cert.Dsa.cc0_dsa i _ harg2 _ harg3 _ harg4 _ harg5 _ harg6 _ harg7 _ harg8 _ harg9 _ harg10 _ harg11 _ harg12 _ harg13 _ harg14 _ harg15 _ harg16 _ harg17 _ harg18) := by
  unfold Cert.Dsa.cc0_dsa
  repeat' with_reducible first | exact Calm.pure _ | refine Calm.load fun _ => ?_ | refine Calm.store fun _ => ?_ | exact Calm.load_end | exact Calm.store_end | apply part263 | apply part264 | apply part265 | apply part266 | apply part267 | apply part268 | apply part269 | apply part270 | apply part271 | apply part272 | apply part273 | apply part274 | apply part275 | refine Calm.bind ?_ fun _ => ?_

end Cert.Proof.Dsa

end
-- ==== Proof.CalmRun.lean ====
/- A calm program keeps the buffers it is permitted to touch, at some contents each: what a frame claim needs of a
   kernel's body, proved once for every body whose effects are loads and stores. -/
module

public import proofs.«01_k».proof.Proof.Calm
public import Idealize.ShloMosaic.Rules.Step
public import Idealize.ShloMosaic.Lib.Pipeline.Frame
public import Idealize.ShloMosaic.Lib.Tactic

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type} {Λ : Labels}

local notation "𝕄" => MT nD τ sig Unit Val ℕ (UR sig nD τ) ℕ

/-- The memref's buffer held whole, as far as the memref reaches, at contents nothing is said of. -/
def Held (c : Thread nD τ) {sp : Space} {s : Shape} {e : EltTy} (m : Memref sig c.2.kind sp s e) : sProp 𝕄 :=
  iprop(∃ f, m.view.loc c ↦[m.view.set]{fullShare} f)

/-- `A` can be taken out of `I` and put back. -/
def Within (I A : sProp 𝕄) : Prop := I ⊢ iprop(A ∗ (A -∗ I))

theorem Within.self {A : sProp 𝕄} : Within A A := by
  unfold Within
  iintro H; isplitl [H]; · iexact H
  iintro H; iexact H

theorem Within.head {A B : sProp 𝕄} : Within iprop(A ∗ B) A := by
  unfold Within
  iintro ⟨HA, HB⟩; isplitl [HA]; · iexact HA
  iintro HA; isplitl [HA]; · iexact HA
  iexact HB

theorem Within.tail {A B C : sProp 𝕄} (h : Within B A) : Within iprop(C ∗ B) A := by
  unfold Within at h ⊢
  iintro ⟨HC, HB⟩
  ihave ⟨HA, Hk⟩ := h $$ HB
  isplitl [HA]; · iexact HA
  iintro HA; isplitl [HC]; · iexact HC
  iapply Hk; iexact HA

/-- A buffer held at what is read of it is held. -/
theorem held_of_owns (c : Thread nD τ) {sp : Space} {s : Shape} {e : EltTy} (m : Memref sig c.2.kind sp s e)
    (X : s.Idx → Val e) : (owns c m fullShare X : sProp 𝕄) ⊢ Held c m := by
  unfold owns Held
  iintro ⟨%f, -, H⟩
  iexists f; iexact H

/-- A buffer held is held at something read of it. -/
theorem owns_of_held (c : Thread nD τ) {sp : Space} {s : Shape} {e : EltTy} (m : Memref sig c.2.kind sp s e) :
    (Held c m : sProp 𝕄) ⊢ iprop(∃ X, ⌜True⌝ ∗ owns c m fullShare X) := by
  unfold Held
  iintro ⟨%f, H⟩
  iexists m.view.read Val f
  isplitr; · ipureintro; trivial
  iapply (owns_intro c m fullShare f); iexact H

/-- A whole buffer held. -/
theorem held_whole (c : Thread nD τ) (b : Ref sig c.2.kind) :
    (Held c (Memref.whole b) : sProp 𝕄) = iprop(∃ f : Buf Val (c.loc b), (c.loc b) ↦{fullShare} f) := by
  unfold Held
  rw [show (Memref.whole b).view.set = Finset.univ from View.set_whole b]

section Run

variable {c : Thread nD τ} {defs : Defs nD τ sig Val Λ} {𝒱 : Variants} {bd : Option Nat} {E : Set ℕ}

/-- The effects that keep `I`: whatever comes after, it runs from `I` if it runs from `I` after the effect. -/
def Keeps (c : Thread nD τ) (defs : Defs nD τ sig Val Λ) (𝒱 : Variants) (E : Set ℕ) (I : sProp 𝕄) ⦃β : Type⦄
    (e : TpuEff nD τ sig Val Λ c.2 β) : Prop :=
  ∀ ⦃α : Type⦄ (k : β → Prog (TpuEff nD τ sig Val Λ c.2) α) (Q : α → sProp 𝕄),
    (∀ x, I ⊢ wp frame (wpE defs 𝒱 c none) E (k x) Q) → I ⊢ wp frame (wpE defs 𝒱 c none) E (.op e k) Q

/-- A calm program runs from `I` back to `I`. -/
theorem run_of_calm {I : sProp 𝕄} {α : Type} {p : Prog (TpuEff nD τ sig Val Λ c.2) α} (h : Calm (Keeps c defs 𝒱 E I) p) :
    I ⊢ wp frame (wpE defs 𝒱 c none) E p (fun _ => I) := by
  induction p with
  | ret a =>
    rw [wp_ret]
    iintro H; imodintro; iexact H
  | op e k ih => exact h.1 k _ fun x => ih x (h.2 x)

/-- Loads of a memref that `I` holds keep `I`. -/
theorem reads_of_within {I : sProp 𝕄} {cs : CoreSpace} {s : Shape} {e : EltTy} {m : Memref sig c.2.kind cs s e}
    (h : Within I (Held c m)) : Reads (Keeps c defs 𝒱 E I) m where
  load r hl α k Q hk := by
    unfold Within Held at h
    refine h.trans ?_
    iintro ⟨⟨%f, Hf⟩, Hback⟩
    iapply (wp_load (defs := defs) 𝒱 c none E (m := m) (r := r) (hl := hl) (k := k) (Q := Q) (f := f)
      (View.setOn_subset_set _ _)) $$ Hf
    iintro Hf
    iapply (hk _)
    iapply Hback
    iexists f; iexact Hf

/-- Stores into a memref that `I` holds keep `I`. -/
theorem writes_of_within {I : sProp 𝕄} {cs : CoreSpace} {s : Shape} {e : EltTy} {m : Memref sig c.2.kind cs s e}
    (h : Within I (Held c m)) : Writes (Keeps c defs 𝒱 E I) m where
  store r w M hx hm α k Q hk := by
    unfold Within Held at h
    refine h.trans ?_
    iintro ⟨⟨%f, Hf⟩, Hback⟩
    iapply (wp_store (defs := defs) 𝒱 c none E (m := m) (r := r) (w := w) (Mk := M) (hx := hx) (hm := hm) (k := k)
      (Q := Q) (S := m.view.set) (f := f) ((View.setOn_subset_set _ _).trans (View.set_slice_subset _ _))) $$ Hf
    iintro Hf
    iapply (hk _)
    iapply Hback
    iexists _; iexact Hf

end Run

end Cert.Proof

end
-- ==== Proof.DsaFrame.lean ====
/- The frame of the sparse attention call: run from any memory it ends, its six argument arrays are as they were, and
   every counter is at zero. The body is calm (`DsaPartsA`, `DsaPartsB`): it only loads and stores in the buffers it is
   handed, whichever way its branches go and whatever its loops carry. -/
module

public import proofs.«01_k».proof.Defs
public import proofs.«01_k».proof.Proof.Gen.Dsa.Frame
public import proofs.«01_k».proof.Proof.DsaPartsB
public import proofs.«01_k».proof.Proof.CalmRun

@[expose] public section

noncomputable section

namespace Cert.Proof.Dsa

open Cert.Dsa Cert.Dsa.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [BitOps F]

local notation "𝕄" => MT nD τ sig Unit (Elt F) ℕ (UR sig nD τ) ℕ

/-! ## What the body holds -/

/-- The seven staging buffers of point `t` and the ten scratch buffers, each at some contents. -/
def Own (c : Dev nD) (t : Fin cfg0.N) : sProp 𝕄 :=
  iprop(Held (c : Thread nD τ) (st0_0 t) ∗ Held (c : Thread nD τ) (st0_1 t) ∗ Held (c : Thread nD τ) (st0_2 t) ∗ Held (c : Thread nD τ) (st0_3 t) ∗ Held (c : Thread nD τ) (st0_4 t) ∗ Held (c : Thread nD τ) (st0_5 t) ∗ Held (c : Thread nD τ) (st0_6 t) ∗ Held (c : Thread nD τ) (Memref.whole cc0_scratch0) ∗ Held (c : Thread nD τ) (Memref.whole cc0_scratch1) ∗ Held (c : Thread nD τ) (Memref.whole cc0_scratch2) ∗ Held (c : Thread nD τ) (Memref.whole cc0_scratch3) ∗ Held (c : Thread nD τ) (Memref.whole cc0_scratch4) ∗ Held (c : Thread nD τ) (Memref.whole cc0_scratch5) ∗ Held (c : Thread nD τ) (Memref.whole cc0_scratch6) ∗ Held (c : Thread nD τ) (Memref.whole cc0_scratch7) ∗ Held (c : Thread nD τ) (Memref.whole cc0_scratch8) ∗ Held (c : Thread nD τ) (Memref.whole cc0_scratch9))

theorem within0 (c : Dev nD) (t : Fin cfg0.N) : Within (Own (F := F) c t) (Held (c : Thread nD τ) (st0_0 t)) := .head
theorem within1 (c : Dev nD) (t : Fin cfg0.N) : Within (Own (F := F) c t) (Held (c : Thread nD τ) (st0_1 t)) := .tail (.head)
theorem within2 (c : Dev nD) (t : Fin cfg0.N) : Within (Own (F := F) c t) (Held (c : Thread nD τ) (st0_2 t)) := .tail (.tail (.head))
theorem within3 (c : Dev nD) (t : Fin cfg0.N) : Within (Own (F := F) c t) (Held (c : Thread nD τ) (st0_3 t)) := .tail (.tail (.tail (.head)))
theorem within4 (c : Dev nD) (t : Fin cfg0.N) : Within (Own (F := F) c t) (Held (c : Thread nD τ) (st0_4 t)) := .tail (.tail (.tail (.tail (.head))))
theorem within5 (c : Dev nD) (t : Fin cfg0.N) : Within (Own (F := F) c t) (Held (c : Thread nD τ) (st0_5 t)) := .tail (.tail (.tail (.tail (.tail (.head)))))
theorem within6 (c : Dev nD) (t : Fin cfg0.N) : Within (Own (F := F) c t) (Held (c : Thread nD τ) (st0_6 t)) := .tail (.tail (.tail (.tail (.tail (.tail (.head))))))
theorem within7 (c : Dev nD) (t : Fin cfg0.N) : Within (Own (F := F) c t) (Held (c : Thread nD τ) (Memref.whole cc0_scratch0)) := .tail (.tail (.tail (.tail (.tail (.tail (.tail (.head)))))))
theorem within8 (c : Dev nD) (t : Fin cfg0.N) : Within (Own (F := F) c t) (Held (c : Thread nD τ) (Memref.whole cc0_scratch1)) := .tail (.tail (.tail (.tail (.tail (.tail (.tail (.tail (.head))))))))
theorem within9 (c : Dev nD) (t : Fin cfg0.N) : Within (Own (F := F) c t) (Held (c : Thread nD τ) (Memref.whole cc0_scratch2)) := .tail (.tail (.tail (.tail (.tail (.tail (.tail (.tail (.tail (.head)))))))))
theorem within10 (c : Dev nD) (t : Fin cfg0.N) : Within (Own (F := F) c t) (Held (c : Thread nD τ) (Memref.whole cc0_scratch3)) := .tail (.tail (.tail (.tail (.tail (.tail (.tail (.tail (.tail (.tail (.head))))))))))
theorem within11 (c : Dev nD) (t : Fin cfg0.N) : Within (Own (F := F) c t) (Held (c : Thread nD τ) (Memref.whole cc0_scratch4)) := .tail (.tail (.tail (.tail (.tail (.tail (.tail (.tail (.tail (.tail (.tail (.head)))))))))))
theorem within12 (c : Dev nD) (t : Fin cfg0.N) : Within (Own (F := F) c t) (Held (c : Thread nD τ) (Memref.whole cc0_scratch5)) := .tail (.tail (.tail (.tail (.tail (.tail (.tail (.tail (.tail (.tail (.tail (.tail (.head))))))))))))
theorem within13 (c : Dev nD) (t : Fin cfg0.N) : Within (Own (F := F) c t) (Held (c : Thread nD τ) (Memref.whole cc0_scratch6)) := .tail (.tail (.tail (.tail (.tail (.tail (.tail (.tail (.tail (.tail (.tail (.tail (.tail (.head)))))))))))))
theorem within14 (c : Dev nD) (t : Fin cfg0.N) : Within (Own (F := F) c t) (Held (c : Thread nD τ) (Memref.whole cc0_scratch7)) := .tail (.tail (.tail (.tail (.tail (.tail (.tail (.tail (.tail (.tail (.tail (.tail (.tail (.tail (.head))))))))))))))
theorem within15 (c : Dev nD) (t : Fin cfg0.N) : Within (Own (F := F) c t) (Held (c : Thread nD τ) (Memref.whole cc0_scratch8)) := .tail (.tail (.tail (.tail (.tail (.tail (.tail (.tail (.tail (.tail (.tail (.tail (.tail (.tail (.tail (.head)))))))))))))))
theorem within16 (c : Dev nD) (t : Fin cfg0.N) : Within (Own (F := F) c t) (Held (c : Thread nD τ) (Memref.whole cc0_scratch9)) := .tail (.tail (.tail (.tail (.tail (.tail (.tail (.tail (.tail (.tail (.tail (.tail (.tail (.tail (.tail (.tail (.self))))))))))))))))

/-- The body at point `t` runs from what it holds back to what it holds. -/
theorem body_runs (𝒱 : Variants) (E : Set ℕ) (c : Dev nD) (t : Fin cfg0.N) :
    Own (F := F) c t ⊢ wp frame (wpE (defs₀ (F := F)) 𝒱 (c : Thread nD τ) none) E (bodyAt0 (F := F) t) (fun _ => Own (F := F) c t) := by
  have r0 := reads_of_within (defs := defs₀ (F := F)) (𝒱 := 𝒱) (E := E) (within0 (F := F) c t)
  have r1 := reads_of_within (defs := defs₀ (F := F)) (𝒱 := 𝒱) (E := E) (within1 (F := F) c t)
  have r2 := reads_of_within (defs := defs₀ (F := F)) (𝒱 := 𝒱) (E := E) (within2 (F := F) c t)
  have r3 := reads_of_within (defs := defs₀ (F := F)) (𝒱 := 𝒱) (E := E) (within3 (F := F) c t)
  have r4 := reads_of_within (defs := defs₀ (F := F)) (𝒱 := 𝒱) (E := E) (within4 (F := F) c t)
  have r5 := reads_of_within (defs := defs₀ (F := F)) (𝒱 := 𝒱) (E := E) (within5 (F := F) c t)
  have r6 := reads_of_within (defs := defs₀ (F := F)) (𝒱 := 𝒱) (E := E) (within6 (F := F) c t)
  have w6 := writes_of_within (defs := defs₀ (F := F)) (𝒱 := 𝒱) (E := E) (within6 (F := F) c t)
  have r7 := reads_of_within (defs := defs₀ (F := F)) (𝒱 := 𝒱) (E := E) (within7 (F := F) c t)
  have w7 := writes_of_within (defs := defs₀ (F := F)) (𝒱 := 𝒱) (E := E) (within7 (F := F) c t)
  have r8 := reads_of_within (defs := defs₀ (F := F)) (𝒱 := 𝒱) (E := E) (within8 (F := F) c t)
  have w8 := writes_of_within (defs := defs₀ (F := F)) (𝒱 := 𝒱) (E := E) (within8 (F := F) c t)
  have r9 := reads_of_within (defs := defs₀ (F := F)) (𝒱 := 𝒱) (E := E) (within9 (F := F) c t)
  have w9 := writes_of_within (defs := defs₀ (F := F)) (𝒱 := 𝒱) (E := E) (within9 (F := F) c t)
  have r10 := reads_of_within (defs := defs₀ (F := F)) (𝒱 := 𝒱) (E := E) (within10 (F := F) c t)
  have w10 := writes_of_within (defs := defs₀ (F := F)) (𝒱 := 𝒱) (E := E) (within10 (F := F) c t)
  have r11 := reads_of_within (defs := defs₀ (F := F)) (𝒱 := 𝒱) (E := E) (within11 (F := F) c t)
  have w11 := writes_of_within (defs := defs₀ (F := F)) (𝒱 := 𝒱) (E := E) (within11 (F := F) c t)
  have r12 := reads_of_within (defs := defs₀ (F := F)) (𝒱 := 𝒱) (E := E) (within12 (F := F) c t)
  have w12 := writes_of_within (defs := defs₀ (F := F)) (𝒱 := 𝒱) (E := E) (within12 (F := F) c t)
  have r13 := reads_of_within (defs := defs₀ (F := F)) (𝒱 := 𝒱) (E := E) (within13 (F := F) c t)
  have w13 := writes_of_within (defs := defs₀ (F := F)) (𝒱 := 𝒱) (E := E) (within13 (F := F) c t)
  have r14 := reads_of_within (defs := defs₀ (F := F)) (𝒱 := 𝒱) (E := E) (within14 (F := F) c t)
  have w14 := writes_of_within (defs := defs₀ (F := F)) (𝒱 := 𝒱) (E := E) (within14 (F := F) c t)
  have r15 := reads_of_within (defs := defs₀ (F := F)) (𝒱 := 𝒱) (E := E) (within15 (F := F) c t)
  have w15 := writes_of_within (defs := defs₀ (F := F)) (𝒱 := 𝒱) (E := E) (within15 (F := F) c t)
  have r16 := reads_of_within (defs := defs₀ (F := F)) (𝒱 := 𝒱) (E := E) (within16 (F := F) c t)
  have w16 := writes_of_within (defs := defs₀ (F := F)) (𝒱 := 𝒱) (E := E) (within16 (F := F) c t)
  exact run_of_calm (cc0_dsa (ok := Keeps (c : Thread nD τ) (defs₀ (F := F)) 𝒱 E (Own (F := F) c t)))

/-! ## The launch -/

variable (m : (ℓ : Loc nD τ sig) → Buf (Elt F) ℓ) (ρ : Dev nD → PrngReg)

/-- Of what the body leaves in a buffer nothing is said; the scratch is held at some contents. -/
def data (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- What the body is handed is what it holds, and the generator's register and the owed tallies besides. -/
theorem enter (c : Dev nD) (t : Fin cfg0.N) (Y : (w : Fin cfg0.W) → (cfg0.win w).block.Idx → Elt F (cfg0.win w).elt) :
    iprop((data m c).Φ t.castSucc ∗ (data m c).owesAt () t.castSucc
        ∗ bigSep Finset.univ fun w : Fin 7 => owns (c : Thread nD τ) ((cfg0.win w).stage (cfg0.slots t w)) fullShare (Y w))
      ⊢ iprop(Own (F := F) c t ∗ ((∃ r, prngReg c r) ∗ (data m c).owesAt () t.castSucc)) := by
  rw [show (data m c).Φ t.castSucc = Pipeline.ΦA spec0 c from rfl]
  unfold Pipeline.ΦA Own
  rw [scopedRest0_eq, bigSep_W0]
  iintro ⟨⟨⟨S0, S1, S2, S3, S4, S5, S6, S7, S8, S9⟩, HP⟩, HO, H0, H1, H2, H3, H4, H5, H6⟩
  isplitr [HP HO]
  swap
  · isplitl [HP]; · iexact HP
    iexact HO
  isplitl [H0]; · iapply (held_of_owns _ _ _); iexact H0
  isplitl [H1]; · iapply (held_of_owns _ _ _); iexact H1
  isplitl [H2]; · iapply (held_of_owns _ _ _); iexact H2
  isplitl [H3]; · iapply (held_of_owns _ _ _); iexact H3
  isplitl [H4]; · iapply (held_of_owns _ _ _); iexact H4
  isplitl [H5]; · iapply (held_of_owns _ _ _); iexact H5
  isplitl [H6]; · iapply (held_of_owns _ _ _); iexact H6
  isplitl [S0]; · rw [held_whole]; iexact S0
  isplitl [S1]; · rw [held_whole]; iexact S1
  isplitl [S2]; · rw [held_whole]; iexact S2
  isplitl [S3]; · rw [held_whole]; iexact S3
  isplitl [S4]; · rw [held_whole]; iexact S4
  isplitl [S5]; · rw [held_whole]; iexact S5
  isplitl [S6]; · rw [held_whole]; iexact S6
  isplitl [S7]; · rw [held_whole]; iexact S7
  isplitl [S8]; · rw [held_whole]; iexact S8
  rw [held_whole]; iexact S9

/-- And it is handed back. -/
theorem leave (c : Dev nD) (t : Fin cfg0.N) (Y : (w : Fin cfg0.W) → (cfg0.win w).block.Idx → Elt F (cfg0.win w).elt) :
    iprop(Own (F := F) c t ∗ ((∃ r, prngReg c r) ∗ (data m c).owesAt () t.castSucc))
      ⊢ iprop((data m c).Φ t.succ ∗ (data m c).owesAt () t.succ
        ∗ bigSep Finset.univ fun w : Fin 7 => iprop(∃ X, ⌜(data m c).after w t (Y w) X⌝ ∗ owns (c : Thread nD τ) ((cfg0.win w).stage (cfg0.slots t w)) fullShare X)) := by
  rw [show (data m c).Φ t.succ = Pipeline.ΦA spec0 c from rfl,
    show (data m c).owesAt () t.succ = (data m c).owesAt () t.castSucc from rfl]
  unfold Pipeline.ΦA Own
  rw [scopedRest0_eq, bigSep_W0]
  simp only [held_whole]
  iintro ⟨⟨H0, H1, H2, H3, H4, H5, H6, S0, S1, S2, S3, S4, S5, S6, S7, S8, S9⟩, HP, HO⟩
  isplitr [H0 H1 H2 H3 H4 H5 H6 HO]
  · isplitr [HP]
    swap
    · iexact HP
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact S9
  isplitl [HO]; · iexact HO
  isplitl [H0]; · iapply (owns_of_held _ _); iexact H0
  isplitl [H1]; · iapply (owns_of_held _ _); iexact H1
  isplitl [H2]; · iapply (owns_of_held _ _); iexact H2
  isplitl [H3]; · iapply (owns_of_held _ _); iexact H3
  isplitl [H4]; · iapply (owns_of_held _ _); iexact H4
  isplitl [H5]; · iapply (owns_of_held _ _); iexact H5
  iapply (owns_of_held _ _); iexact H6

theorem body_obligation (c : Dev nD) : (data m c).BodyObligation defs₀ Variants.none () Set.univ := by
  intro t Y _
  refine (enter m c t Y).trans ?_
  refine (sep_mono_left (body_runs Variants.none Set.univ c t)).trans ?_
  refine (wp_frame_r _ _ _).trans ?_
  exact wp_mono _ _ _ fun _ => leave m c t Y

set_option backward.isDefEq.respectTransparency.types false in
set_option maxHeartbeats 800000 in
/-- The run, and every counter at zero at its end. -/
theorem run_quiescent : θ_run defs (onTc (τ := τ) (main (F := F))) ⟨m, fun _ => 0, ρ⟩
    (fun r => RDat.FramePost cfg0 (data m) (V m) r ∧ r.2.sem = fun _ => 0) :=
  Pipeline.RDat.θ_run_frame (Q' := _) cfgs (0 : Fin 1) launch0 defs₀ Variants.none (data m) m ρ main
    (hbody := body_obligation m) (hshare := fun c => (data m c).share_full fun _ => rfl)
    (howed := fun _ _ => rfl) (V := V m) (hmain := hmain m Variants.none) (hA := fun _ _ => rfl) (hΦ := fun _ _ => rfl)

/-- The arguments end as they were and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨h.1.arr_in c 0 rfl, h.1.arr_in c 1 rfl, h.1.arr_in c 2 rfl,
    h.1.arr_in c 3 rfl, h.1.arr_in c 4 rfl, h.1.arr_in c 5 rfl⟩, h.2⟩) (run_quiescent m ρ)

end Cert.Proof.Dsa

end
-- ==== Proof.FfnRow.lean ====
/-
  One row of the feed-forward half step, as a function of extended reals. Every row of the result is computed from the
  same row of the residual alone, so both the kernel (a block of 512 rows at a time) and the reference (all 65536 rows at
  once) are read, at one index, as the functions below.
-/
module

public import Idealize.ShloMosaic.Lib.Pointwise
public import Idealize.ShloMosaic.PureOps.Ideal.Laws

@[expose] public section

noncomputable section

namespace Cert.Proof.Row

open Idealize.ShloMosaic
open scoped BigOperators

/-- The constant `1024`, the number of columns the mean divides by. -/
abbrev width : EReal := Ideal.ofBits .f32 0x44800000#32
/-- The constant added to the mean square. -/
abbrev eps : EReal := Ideal.ofBits .f32 0x358637BD#32
/-- The constant `1/2`, the weight of the half step. -/
abbrev half : EReal := Ideal.ofBits .f32 0x3F000000#32

/-- Root-mean-square normalisation of a row `x` with gain `g`, at column `k`. -/
def rms (x g : Fin 1024 → EReal) (k : Fin 1024) : EReal :=
  x k * Ideal.rsqrt (Ideal.div (∑ j : Fin 1024, x j * x j) width + eps) * g k

/-- A row times a matrix, at column `f`. -/
def times {K N : Nat} (x : Fin K → EReal) (w : Fin K → Fin N → EReal) (f : Fin N) : EReal :=
  ∑ k : Fin K, x k * w k f

/-- `x * sigmoid x`. -/
def silu (x : EReal) : EReal := x * (Ideal.div 1 (1 + Ideal.exp (-x)))

/-- The half step on one row: `x + 1/2 * ((silu (xn Wg) * (xn Wu)) Wd)` with `xn` the normalised row, at column `c`. -/
def step (x g : Fin 1024 → EReal) (wg wu : Fin 1024 → Fin 2816 → EReal) (wd : Fin 2816 → Fin 1024 → EReal) (c : Fin 1024) : EReal :=
  x c + half * times (fun f => silu (times (rms x g) wg f) * times (rms x g) wu f) wd c

/-- The half step of rows and weights equal entry by entry. -/
theorem step_congr {x x' g g' : Fin 1024 → EReal} {wg wg' wu wu' : Fin 1024 → Fin 2816 → EReal} {wd wd' : Fin 2816 → Fin 1024 → EReal}
    (hx : ∀ k, x k = x' k) (hg : ∀ k, g k = g' k) (hwg : ∀ k f, wg k f = wg' k f) (hwu : ∀ k f, wu k f = wu' k f)
    (hwd : ∀ f j, wd f j = wd' f j) (c : Fin 1024) : step x g wg wu wd c = step x' g' wg' wu' wd' c := by
  obtain rfl : x = x' := funext hx
  obtain rfl : g = g' := funext hg
  obtain rfl : wg = wg' := funext fun k => funext (hwg k)
  obtain rfl : wu = wu' := funext fun k => funext (hwu k)
  obtain rfl : wd = wd' := funext fun k => funext (hwd k)
  rfl

/-- Row `r` of the flattened arrays is position `r % 8192` of sequence `r / 8192`. -/
abbrev batchOf (r : Fin 65536) : Fin 8 := ⟨r.val / 8192, by omega⟩
abbrev posOf (r : Fin 65536) : Fin 8192 := ⟨r.val % 8192, by omega⟩

/-- Normalised rows equal entry by entry. -/
theorem rms_congr {x x' g g' : Fin 1024 → EReal} (hx : ∀ k, x k = x' k) (hg : ∀ k, g k = g' k) (c : Fin 1024) : rms x g c = rms x' g' c := by
  obtain rfl : x = x' := funext hx
  obtain rfl : g = g' := funext hg
  rfl

/-- Products of rows and matrices equal entry by entry. -/
theorem times_congr {K N : Nat} {x x' : Fin K → EReal} {w w' : Fin K → Fin N → EReal} (hx : ∀ k, x k = x' k) (hw : ∀ k f, w k f = w' k f)
    (f : Fin N) : times x w f = times x' w' f := by
  obtain rfl : x = x' := funext hx
  obtain rfl : w = w' := funext fun k => funext (hw k)
  rfl

/-- The residual row plus the mixer's projection: the attention half `a` and the convolution half `b` of the mixer's row times the first
and the last 512 rows of the projection. -/
def mixRow (h : Fin 1024 → EReal) (a b : Fin 512 → EReal) (w : Fin 1024 → Fin 1024 → EReal) (k : Fin 1024) : EReal :=
  h k + (times a (fun j => w ⟨j.val, by omega⟩) k + times b (fun j => w ⟨512 + j.val, by omega⟩) k)

/-- The two halves laid side by side. -/
def join (a b : Fin 512 → EReal) (k : Fin 1024) : EReal := if h : k.val < 512 then a ⟨k.val, h⟩ else b ⟨k.val - 512, by omega⟩

/-- The row of the two halves side by side times the whole projection is the sum of the two halves' products. -/
theorem times_join (a b : Fin 512 → EReal) (w : Fin 1024 → Fin 1024 → EReal) (k : Fin 1024) :
    times (join a b) w k = times a (fun j => w ⟨j.val, by omega⟩) k + times b (fun j => w ⟨512 + j.val, by omega⟩) k := by
  show ∑ i : Fin (512 + 512), join a b i * w i k = _
  rw [Fin.sum_univ_add]
  refine congrArg₂ (· + ·) (Finset.sum_congr rfl fun j _ => ?_) (Finset.sum_congr rfl fun j _ => ?_)
  · have : (Fin.castAdd 512 j).val < 512 := j.isLt
    rw [join, dif_pos this]; rfl
  · have : ¬ (Fin.natAdd 512 j).val < 512 := by simp
    rw [join, dif_neg this]
    refine congrArg (· * _) (congrArg b (Fin.ext ?_))
    simp

/-- The residual row plus the convolution module's last projection with its bias. -/
def biasRow (h u : Fin 1024 → EReal) (w : Fin 1024 → Fin 1024 → EReal) (b : Fin 1024 → EReal) (k : Fin 1024) : EReal :=
  h k + (times u w k + b k)

end Cert.Proof.Row

end
-- ==== Proof.FfnValue.lean ====
/-
  The result array of the plain feed-forward kernel, index by index: at row `i` and column `j` it is the half step
  (FfnRow.lean `Row.step`) of row `i` of the residual. A grid point reads 512 rows of the residual and the whole of every
  weight, so the block it writes is a block of that one function, and the 128 blocks tile the array.
-/
module

public import proofs.«01_k».proof.Defs
public import proofs.«01_k».proof.Proof.FfnRow
public import proofs.«01_k».proof.Proof.Gen.FfnIdeal.Value
public import proofs.«01_k».proof.Proof.Gen.FfnIdeal.Skeleton
public import Idealize.ShloMosaic.Lib.Pointwise

@[expose] public section

noncomputable section

namespace Cert.Proof.Ffn

open Idealize.ShloMosaic Idealize.SL.Sem Cert.FfnIdeal Cert.FfnIdeal.Gen Idealize.ShloMosaic.TcCoe
open Idealize.ShloMosaic.Pipeline (Dat)
open Cert.Proof

/-- The body's stored value at row `r`, column `c` of the block. -/
theorem pay_apply (v0 : Vec Ideal S512x1024 .f32) (v2 : Vec Ideal S1x1024 .f32) (v17 : Vec Ideal S1024x2816 .bf16)
    (v20 : Vec Ideal S1024x2816 .bf16) (v33 : Vec Ideal S2816x1024 .bf16) (r : Fin 512) (c : Fin 1024) :
    k0_pay1 (F := Ideal) v0 v2 v17 v20 v33 (ix2 r c) = Row.step (fun k => v0 (ix2 r k)) (fun k => v2 (ix2 0 k)) (fun k f => v17 (ix2 k f))
      (fun k f => v20 (ix2 k f)) (fun f c => v33 (ix2 f c)) c := by
  pointwise [k0_pay1]
  simp only [zero_sub]
  rfl

variable (m : (ℓ : Loc nD τ sig) → Buf (Elt Ideal) ℓ) (c : Dev nD)

/-! ## The arrays the region finds: the host's reshapes and casts of the arguments -/

/-- The residual, its two leading axes flattened into one axis of rows. -/
theorem V_x : V m c main_v0 = shapeCast S65536x1024 (m ((c : Thread nD τ).loc main_arg0)) shapeCasts_S8x8192x1024_S65536x1024 := by
  dsimp only [V, hostOps0]; after_results; rfl
/-- The gain, as one row. -/
theorem V_g : V m c main_v1 = shapeCast S1x1024 (m ((c : Thread nD τ).loc main_arg1)) shapeCasts_S1024_S1x1024 := by
  dsimp only [V, hostOps0]; after_results; rfl
theorem V_g_apply (k : Fin 1024) : V m c main_v1 (ix2 0 k) = m ((c : Thread nD τ).loc main_arg1) (ix1 k) := by
  rw [V_g]; pointwise
/-- The weights: a cast changes nothing here. -/
theorem V_wg (i : S1024x2816.Idx) : V m c main_v2 i = m ((c : Thread nD τ).loc main_arg2) i := by
  dsimp only [V, hostOps0]; after_results; rfl
theorem V_wu (i : S1024x2816.Idx) : V m c main_v3 i = m ((c : Thread nD τ).loc main_arg3) i := by
  dsimp only [V, hostOps0]; after_results; rfl
theorem V_wd (i : S2816x1024.Idx) : V m c main_v4 i = m ((c : Thread nD τ).loc main_arg4) i := by
  dsimp only [V, hostOps0]; after_results; rfl

/-! ## Where each block lies in its array -/

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = t.val ∧ win0_5.index t (1 : Fin 2) = 0 := (by decide +kernel : ∀ t : Fin grid0.N, _)

theorem row_lt (t : Fin cfg0.N) (r : Fin 512) : t.val * 512 + r.val < 65536 := by
  have : t.val < 128 := t.isLt
  omega

/-- Row `r` of grid point `t`'s block, in the whole array. -/
abbrev rowOf (t : Fin cfg0.N) (r : Fin 512) : Fin 65536 := ⟨t.val * 512 + r.val, row_lt t r⟩

theorem blk_x (t : Fin cfg0.N) (r : Fin 512) (k : Fin 1024) : iblk m c 0 t (ix2 r k) = V m c main_v0 (ix2 (rowOf t r) k) := by
  obtain ⟨e0, e1⟩ := idx0 t
  refine congrArg (V m c main_v0) (funext fun a => Fin.ext ?_)
  match a with
  | ⟨0, _⟩ => show win0_0.index t (0 : Fin 2) * 512 + 1 * r.val = t.val * 512 + r.val; omega
  | ⟨1, _⟩ => show win0_0.index t (1 : Fin 2) * 1024 + 1 * k.val = k.val; omega
theorem blk_g (t : Fin cfg0.N) (j : S1x1024.Idx) : iblk m c 1 t j = V m c main_v1 j := by
  obtain ⟨e0, e1⟩ := idx1 t
  refine congrArg (V m c main_v1) (funext fun a => Fin.ext ?_)
  match a with
  | ⟨0, _⟩ => show win0_1.index t (0 : Fin 2) * 1 + 1 * (j 0).val = (j 0).val; omega
  | ⟨1, _⟩ => show win0_1.index t (1 : Fin 2) * 1024 + 1 * (j 1).val = (j 1).val; omega
theorem blk_wg (t : Fin cfg0.N) (j : S1024x2816.Idx) : iblk m c 2 t j = V m c main_v2 j := by
  obtain ⟨e0, e1⟩ := idx2 t
  refine congrArg (V m c main_v2) (funext fun a => Fin.ext ?_)
  match a with
  | ⟨0, _⟩ => show win0_2.index t (0 : Fin 2) * 1024 + 1 * (j 0).val = (j 0).val; omega
  | ⟨1, _⟩ => show win0_2.index t (1 : Fin 2) * 2816 + 1 * (j 1).val = (j 1).val; omega
theorem blk_wu (t : Fin cfg0.N) (j : S1024x2816.Idx) : iblk m c 3 t j = V m c main_v3 j := by
  obtain ⟨e0, e1⟩ := idx3 t
  refine congrArg (V m c main_v3) (funext fun a => Fin.ext ?_)
  match a with
  | ⟨0, _⟩ => show win0_3.index t (0 : Fin 2) * 1024 + 1 * (j 0).val = (j 0).val; omega
  | ⟨1, _⟩ => show win0_3.index t (1 : Fin 2) * 2816 + 1 * (j 1).val = (j 1).val; omega
theorem blk_wd (t : Fin cfg0.N) (j : S2816x1024.Idx) : iblk m c 4 t j = V m c main_v4 j := by
  obtain ⟨e0, e1⟩ := idx4 t
  refine congrArg (V m c main_v4) (funext fun a => Fin.ext ?_)
  match a with
  | ⟨0, _⟩ => show win0_4.index t (0 : Fin 2) * 2816 + 1 * (j 0).val = (j 0).val; omega
  | ⟨1, _⟩ => show win0_4.index t (1 : Fin 2) * 1024 + 1 * (j 1).val = (j 1).val; omega
theorem emb_out (t : Fin cfg0.N) (r : Fin 512) (k : Fin 1024) : ((cfg0.win 5).blk t).view.emb (ix2 r k) = ix2 (rowOf t r) k := by
  obtain ⟨e0, e1⟩ := idx5 t
  funext a; apply Fin.ext
  match a with
  | ⟨0, _⟩ => show win0_5.index t (0 : Fin 2) * 512 + 1 * r.val = t.val * 512 + r.val; omega
  | ⟨1, _⟩ => show win0_5.index t (1 : Fin 2) * 1024 + 1 * k.val = k.val; omega

/-! ## The result array -/

/-- The result array as one function of the five arguments. -/
def G (x : Vec Ideal S8x8192x1024 .f32) (g : Vec Ideal S1024 .f32) (wg wu : Vec Ideal S1024x2816 .f32) (wd : Vec Ideal S2816x1024 .f32) :
    Vec Ideal S65536x1024 .f32 := fun i =>
  Row.step (fun k => shapeCast S65536x1024 x shapeCasts_S8x8192x1024_S65536x1024 (ix2 (i 0) k)) (fun k => g (ix1 k))
    (fun k f => wg (ix2 k f)) (fun k f => wu (ix2 k f)) (fun f j => wd (ix2 f j)) (i 1)

/-- `G` of the arguments as launched. -/
abbrev final : Vec Ideal S65536x1024 .f32 :=
  G (m ((c : Thread nD τ).loc main_arg0)) (m ((c : Thread nD τ).loc main_arg1)) (m ((c : Thread nD τ).loc main_arg2))
    (m ((c : Thread nD τ).loc main_arg3)) (m ((c : Thread nD τ).loc main_arg4))

theorem zeros : (![0, 0] : Fin 2 → Nat) = fun _ => 0 := funext fun a => by fin_cases a <;> rfl

/-- The one store covers the block, and every load reads its whole block. -/
theorem out_eq (x0 : Vec Ideal S512x1024 .f32) (x1 : Vec Ideal S1x1024 .f32) (x2 x3 : Vec Ideal S1024x2816 .bf16) (x4 : Vec Ideal S2816x1024 .bf16) :
    out0_5 x0 x1 x2 x3 x4 = k0_pay1 x0 x1 x2 x3 x4 := by
  unfold out0_5
  rw [View.canon_unit_zero zeros, View.ld_unit_zero zeros, View.ld_unit_zero zeros, View.ld_unit_zero zeros, View.ld_unit_zero zeros,
    View.ld_unit_zero zeros]

theorem final_apply (q : Fin 65536) (k : Fin 1024) : final m c (ix2 q k)
    = Row.step (fun k => shapeCast S65536x1024 (m ((c : Thread nD τ).loc main_arg0)) shapeCasts_S8x8192x1024_S65536x1024 (ix2 q k))
        (fun k => m ((c : Thread nD τ).loc main_arg1) (ix1 k)) (fun k f => m ((c : Thread nD τ).loc main_arg2) (ix2 k f))
        (fun k f => m ((c : Thread nD τ).loc main_arg3) (ix2 k f)) (fun f j => m ((c : Thread nD τ).loc main_arg4) (ix2 f j)) k := rfl

/-- Cutting a block changes nothing: no block hangs over the array's end. -/
theorem cut_apply (t : Fin cfg0.N) (X : Vec Ideal S512x1024 .f32) (Y : Vec Ideal S65536x1024 .f32) (h : ∀ (r : Fin 512) (k : Fin 1024), X (ix2 r k) = Y (ix2 (rowOf t r) k)) :
    (cfg0.win 5).cut (grid0.coords t) X = ((cfg0.win 5).blk t).view.read (Elt Ideal) Y := by
  funext j
  obtain ⟨r, k, rfl⟩ : ∃ (r : Fin 512) (k : Fin 1024), j = ix2 r k := ⟨j 0, j 1, by funext a; match a with | ⟨0, _⟩ => rfl | ⟨1, _⟩ => rfl⟩
  show X (ix2 r k) = Y (((cfg0.win 5).blk t).view.emb (ix2 r k))
  rw [emb_out, h]

/-- What grid point `t` writes back is its block of `G`. -/
theorem flushed_eq (t : Fin cfg0.N) : (dats m 0 c).flushed 5 t = ((cfg0.win 5).blk t).view.read (Elt Ideal) (final m c) := by
  rw [Value.flushed5, out_eq]
  refine cut_apply t _ _ fun r k => ?_
  rw [pay_apply, final_apply]
  exact Row.step_congr (fun k => (blk_x m c t r k).trans (congrFun (V_x m c) _)) (fun k => (blk_g m c t _).trans (V_g_apply m c k))
    (fun _ _ => (blk_wg m c t _).trans (V_wg m c _)) (fun _ _ => (blk_wu m c t _).trans (V_wu m c _))
    (fun _ _ => (blk_wd m c t _).trans (V_wd m c _)) k

/-- The blocks tile the array. -/
theorem covered (i : S65536x1024.Idx) : ∃ t : Fin cfg0.N, (cfg0.win 5).flush t = true ∧ i ∈ ((cfg0.win 5).blk t).view.set := by
  obtain ⟨q, k, rfl⟩ : ∃ (q : Fin 65536) (k : Fin 1024), i = ix2 q k := ⟨i 0, i 1, by funext a; match a with | ⟨0, _⟩ => rfl | ⟨1, _⟩ => rfl⟩
  have hq := q.isLt
  let t : Fin cfg0.N := ⟨q.val / 512, by show _ < 128; omega⟩
  let r : Fin 512 := ⟨q.val % 512, by omega⟩
  refine ⟨t, flush0_5 _, ?_⟩
  have h := ((cfg0.win 5).blk t).view.emb_mem_set (ix2 r k)
  rw [emb_out] at h
  have e : rowOf t r = q := Fin.ext (by show q.val / 512 * 512 + q.val % 512 = q.val; omega)
  rwa [e] at h

/-- The result array after the run. -/
theorem final_eq : (dats m 0 c).arrAt 5 cfg0.N = final m c :=
  (dats m 0 c).arrAt_eq_of_cover 5 (final m c) (fun t _ => flushed_eq m c t) covered

end Cert.Proof.Ffn

end
-- ==== Proof.FfnRef.lean ====
/-
  The reference's half step read at an index: row `i` of the result is `Row.step` of row `i` of the residual.
-/
module

public import proofs.«01_k».proof.Defs
public import proofs.«01_k».proof.Proof.FfnRow
public import proofs.«01_k».proof.Proof.Gen.FfnRefIdeal.Read
public import Idealize.ShloMosaic.Lib.Pointwise

@[expose] public section

noncomputable section

namespace Cert.Proof.FfnRef

open Idealize.ShloMosaic Idealize.SL.Sem Cert.FfnRefIdeal Cert.FfnRefIdeal.Gen Cert.FfnRefIdeal.Read
open Cert.Proof

theorem apply (x0 : Vec Ideal S8x8192x1024 .f32) (x1 : Vec Ideal S1024 .f32) (x2 x3 : Vec Ideal S1024x2816 .f32) (x4 : Vec Ideal S2816x1024 .f32)
    (r : Fin 65536) (c : Fin 1024) :
    val_main_v21 (F := Ideal) x0 x1 x2 x3 x4 (ix2 r c)
      = Row.step (fun k => shapeCast S65536x1024 x0 shapeCasts_S8x8192x1024_S65536x1024 (ix2 r k)) (fun k => x1 (ix1 k))
          (fun k f => x2 (ix2 k f)) (fun k f => x3 (ix2 k f)) (fun f j => x4 (ix2 f j)) c := by
  unfold val_main_v21 val_main_v20 val_main_v19 val_main_v18 val_main_v17 val_main_v16 val_main_v15 val_main_call0_v5 val_main_call0_v4
    val_main_call0_v3 val_main_call0_v2 val_main_call0_v1 val_main_call0_v0 val_main_v14 val_main_v13 val_main_v12 val_main_v11
    val_main_v10 val_main_v9 val_main_v8 val_main_v7 val_main_v6 val_main_v5 val_main_v4 val_main_v3 val_main_v2 val_main_v1 val_main_v0
    val_main_cst val_main_cst_0 val_main_cst_1 val_main_cst_2 val_main_call0_cst val_main_call0_cst_0
  generalize shapeCast S65536x1024 x0 shapeCasts_S8x8192x1024_S65536x1024 = X
  pointwise
  rfl

end Cert.Proof.FfnRef

end
-- ==== Proof.FfnClaims.lean ====
/-
  The claims on the plain feed-forward kernel: its frames, and that it computes what the reference computes. Both sides'
  result arrays are `Row.step` row by row (FfnValue.lean, FfnRef.lean).
-/
module

public import proofs.«01_k».proof.Proof.FfnValue
public import proofs.«01_k».proof.Proof.FfnRef
public import proofs.«01_k».proof.Proof.Gen.Ffn.Frame
public import Idealize.ShloMosaic.Lib.Claim

@[expose] public section

noncomputable section

namespace Cert.Proof.Ffn

open Idealize.ShloMosaic Idealize.SL.Sem Idealize.ShloMosaic.TcCoe

theorem frame_kernel : Cert.quiescent_Ffn := fun m ρ _ => Cert.Ffn.Gen.frame m ρ
theorem frame_ideal : Cert.quiescent_FfnIdeal := fun m ρ _ => Cert.FfnIdeal.Gen.frame m ρ
/-- The reference is host operations alone: it declares no semaphore. -/
theorem frame_ref : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

theorem algebraic : Cert.algebraic_FfnIdeal_FfnRefIdeal := by
  intro m g m' g' _ hargs
  refine ⟨fun c => final m c, ?_, ?_⟩
  · exact (θ_run Cert.FfnIdeal.defs _ _).mono (fun r h c => ⟨(h c).1.trans (final_eq m c), (h c).2⟩)
      (Cert.FfnIdeal.Value.run_blocks (F := Ideal) m g)
  · refine (θ_run Cert.FfnRefIdeal.defs _ _).mono (fun r h c => ⟨(h c).1.trans ?_, (h c).2⟩) (Cert.FfnRefIdeal.Value.run (F := Ideal) m' g')
    obtain ⟨h0, h1, h2, h3, h4⟩ := hargs c
    rw [h0, h1, h2, h3, h4]
    rw [Cert.FfnRefIdeal.Read.val_main_v21_eq]
    funext i
    obtain ⟨q, k, rfl⟩ : ∃ (q : Fin 65536) (k : Fin 1024), i = ix2 q k := ⟨i 0, i 1, by funext a; match a with | ⟨0, _⟩ => rfl | ⟨1, _⟩ => rfl⟩
    exact FfnRef.apply _ _ _ _ _ q k

end Cert.Proof.Ffn

end
-- ==== Proof.MixedValue.lean ====
/-
  The result array of the feed-forward kernel that first adds the mixer's projected output, index by index: at row `i` and
  column `j` it is the half step (FfnRow.lean `Row.step`) of row `i` of the residual plus the two halves of the mixer's row
  times the two halves of the projection (`Row.mixRow`). A grid point reads 512 rows and the whole of every weight, so the
  block it writes is a block of that one function, and the 128 blocks tile the array.
-/
module

public import proofs.«01_k».proof.Defs
public import proofs.«01_k».proof.Proof.FfnRow
public import proofs.«01_k».proof.Proof.Gen.MixedIdeal.Value
public import proofs.«01_k».proof.Proof.Gen.MixedIdeal.Skeleton
public import Idealize.ShloMosaic.Lib.Pointwise

@[expose] public section

noncomputable section

namespace Cert.Proof.Mixed

open Idealize.ShloMosaic Idealize.SL.Sem Cert.MixedIdeal Cert.MixedIdeal.Gen Idealize.ShloMosaic.TcCoe
open Idealize.ShloMosaic.Pipeline (Dat)
open Cert.Proof

/-- The block's stored value, of the nine blocks. -/
def stored (x0 : Vec Ideal S512x1024 .f32) (x1 : Vec Ideal S512x512 .bf16) (x2 : Vec Ideal S512x1024 .bf16) (x3 : Vec Ideal S512x512 .bf16)
    (x4 : Vec Ideal S512x1024 .bf16) (x5 : Vec Ideal S1x1024 .f32) (x6 x7 : Vec Ideal S1024x2816 .bf16) (x8 : Vec Ideal S2816x1024 .bf16) :
    Vec Ideal S512x1024 .f32 :=
  k0_pay1 (k0_pay2 x0 x1 x2 x3 x4) (k0_pay4 x0 x1 x2 x3 x4 x5 x6) (k0_pay5 x0 x1 x2 x3 x4 x5 x7) (k0_pay6 (F := Ideal)) x8

/-- The row that enters the half step: the residual plus the two halves' products. -/
theorem pre_apply (x0 : Vec Ideal S512x1024 .f32) (x1 : Vec Ideal S512x512 .bf16) (x2 : Vec Ideal S512x1024 .bf16) (x3 : Vec Ideal S512x512 .bf16)
    (x4 : Vec Ideal S512x1024 .bf16) (r : Fin 512) (c : Fin 1024) :
    k0_pay2 (F := Ideal) x0 x1 x2 x3 x4 (ix2 r c) = x0 (ix2 r c) + (Row.times (fun k => x1 (ix2 r k)) (fun k f => x2 (ix2 k f)) c
      + Row.times (fun k => x3 (ix2 r k)) (fun k f => x4 (ix2 k f)) c) := by
  pointwise [k0_pay2]
  rfl

/-- The body's stored value at row `r`, column `c` of the block. -/
theorem stored_apply (x0 : Vec Ideal S512x1024 .f32) (x1 : Vec Ideal S512x512 .bf16) (x2 : Vec Ideal S512x1024 .bf16) (x3 : Vec Ideal S512x512 .bf16)
    (x4 : Vec Ideal S512x1024 .bf16) (x5 : Vec Ideal S1x1024 .f32) (x6 x7 : Vec Ideal S1024x2816 .bf16) (x8 : Vec Ideal S2816x1024 .bf16)
    (r : Fin 512) (c : Fin 1024) :
    stored x0 x1 x2 x3 x4 x5 x6 x7 x8 (ix2 r c) = Row.step (fun k => k0_pay2 (F := Ideal) x0 x1 x2 x3 x4 (ix2 r k)) (fun k => x5 (ix2 0 k)) (fun k f => x6 (ix2 k f))
      (fun k f => x7 (ix2 k f)) (fun f c => x8 (ix2 f c)) c := by
  unfold stored k0_pay1 k0_pay4 k0_pay5 k0_pay6 k0_pay3
  generalize k0_pay2 (F := Ideal) x0 x1 x2 x3 x4 = X
  pointwise
  simp only [zero_sub]
  rfl

variable (m : (ℓ : Loc nD τ sig) → Buf (Elt Ideal) ℓ) (c : Dev nD)

/-! ## The arrays the region finds: the host's reshapes, slices and casts of the arguments -/

/-- The residual is read as launched. -/
theorem V_h : V m c main_arg0 = m ((c : Thread nD τ).loc main_arg0) := by
  dsimp only [V, hostOps0]; after_results
/-- Row `r` of an array with its two leading axes flattened. -/
theorem flat_apply (x : Vec Ideal S8x8192x512 .bf16) (r : Fin 65536) (k : Fin 512) :
    shapeCast S65536x512 x shapeCasts_S8x8192x512_S65536x512 (ix2 r k) = x (ix3 (Row.batchOf r) (Row.posOf r) k) := by
  pointwise
/-- The two halves of the mixer's output, their two leading axes flattened into one axis of rows. -/
theorem V_a : V m c main_v1 = shapeCast S65536x512 (m ((c : Thread nD τ).loc main_arg1)) shapeCasts_S8x8192x512_S65536x512 := by
  dsimp only [V, hostOps0]; after_results; rfl
theorem V_a_apply (r : Fin 65536) (k : Fin 512) :
    V m c main_v1 (ix2 r k) = m ((c : Thread nD τ).loc main_arg1) (ix3 (Row.batchOf r) (Row.posOf r) k) := by
  exact (congrFun (V_a m c) _).trans (flat_apply _ r k)
theorem V_b : V m c main_v3 = shapeCast S65536x512 (m ((c : Thread nD τ).loc main_arg2)) shapeCasts_S8x8192x512_S65536x512 := by
  dsimp only [V, hostOps0]; after_results; rfl
theorem V_b_apply (r : Fin 65536) (k : Fin 512) :
    V m c main_v3 (ix2 r k) = m ((c : Thread nD τ).loc main_arg2) (ix3 (Row.batchOf r) (Row.posOf r) k) := by
  exact (congrFun (V_b m c) _).trans (flat_apply _ r k)
/-- The first and the last 512 rows of the projection. -/
theorem V_wa (k : Fin 512) (f : Fin 1024) : V m c main_v2 (ix2 k f) = m ((c : Thread nD τ).loc main_arg3) (ix2 (⟨k.val, by omega⟩ : Fin 1024) f) := by
  dsimp only [V, hostOps0]; after_results; pointwise
theorem V_wb (k : Fin 512) (f : Fin 1024) : V m c main_v4 (ix2 k f) = m ((c : Thread nD τ).loc main_arg3) (ix2 (⟨512 + k.val, by omega⟩ : Fin 1024) f) := by
  dsimp only [V, hostOps0]; after_results; pointwise
/-- The gain, as one row. -/
theorem V_g : V m c main_v5 = shapeCast S1x1024 (m ((c : Thread nD τ).loc main_arg4)) shapeCasts_S1024_S1x1024 := by
  dsimp only [V, hostOps0]; after_results; rfl
theorem V_g_apply (k : Fin 1024) : V m c main_v5 (ix2 0 k) = m ((c : Thread nD τ).loc main_arg4) (ix1 k) := by
  rw [V_g]; pointwise
/-- The weights: a cast changes nothing here. -/
theorem V_wg (i : S1024x2816.Idx) : V m c main_v6 i = m ((c : Thread nD τ).loc main_arg5) i := by
  dsimp only [V, hostOps0]; after_results; rfl
theorem V_wu (i : S1024x2816.Idx) : V m c main_v7 i = m ((c : Thread nD τ).loc main_arg6) i := by
  dsimp only [V, hostOps0]; after_results; rfl
theorem V_wd (i : S2816x1024.Idx) : V m c main_v8 i = m ((c : Thread nD τ).loc main_arg7) i := by
  dsimp only [V, hostOps0]; after_results; rfl

/-! ## Where each block lies in its array -/

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = t.val ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)
theorem idx7 : ∀ t : Fin cfg0.N, win0_7.index t (0 : Fin 2) = 0 ∧ win0_7.index t (1 : Fin 2) = 0 := (by decide +kernel : ∀ t : Fin grid0.N, _)
theorem idx8 : ∀ t : Fin cfg0.N, win0_8.index t (0 : Fin 2) = 0 ∧ win0_8.index t (1 : Fin 2) = 0 := (by decide +kernel : ∀ t : Fin grid0.N, _)
theorem idx9 : ∀ t : Fin cfg0.N, win0_9.index t (0 : Fin 2) = t.val ∧ win0_9.index t (1 : Fin 2) = 0 := (by decide +kernel : ∀ t : Fin grid0.N, _)

theorem row_lt (t : Fin cfg0.N) (r : Fin 512) : t.val * 512 + r.val < 65536 := by
  have : t.val < 128 := t.isLt
  omega

/-- Row `r` of grid point `t`'s block, in the whole array. -/
abbrev rowOf (t : Fin cfg0.N) (r : Fin 512) : Fin 65536 := ⟨t.val * 512 + r.val, row_lt t r⟩

theorem blk_h (t : Fin cfg0.N) (r : Fin 512) (k : Fin 1024) : iblk m c 0 t (ix2 r k) = V m c main_arg0 (ix2 (rowOf t r) k) := by
  obtain ⟨e0, e1⟩ := idx0 t
  refine congrArg (V m c main_arg0) (funext fun a => Fin.ext ?_)
  match a with
  | ⟨0, _⟩ => show win0_0.index t (0 : Fin 2) * 512 + 1 * r.val = t.val * 512 + r.val; omega
  | ⟨1, _⟩ => show win0_0.index t (1 : Fin 2) * 1024 + 1 * k.val = k.val; omega
theorem blk_a (t : Fin cfg0.N) (r : Fin 512) (k : Fin 512) : iblk m c 1 t (ix2 r k) = V m c main_v1 (ix2 (rowOf t r) k) := by
  obtain ⟨e0, e1⟩ := idx1 t
  refine congrArg (V m c main_v1) (funext fun a => Fin.ext ?_)
  match a with
  | ⟨0, _⟩ => show win0_1.index t (0 : Fin 2) * 512 + 1 * r.val = t.val * 512 + r.val; omega
  | ⟨1, _⟩ => show win0_1.index t (1 : Fin 2) * 512 + 1 * k.val = k.val; omega
theorem blk_wa (t : Fin cfg0.N) (j : S512x1024.Idx) : iblk m c 2 t j = V m c main_v2 j := by
  obtain ⟨e0, e1⟩ := idx2 t
  refine congrArg (V m c main_v2) (funext fun a => Fin.ext ?_)
  match a with
  | ⟨0, _⟩ => show win0_2.index t (0 : Fin 2) * 512 + 1 * (j 0).val = (j 0).val; omega
  | ⟨1, _⟩ => show win0_2.index t (1 : Fin 2) * 1024 + 1 * (j 1).val = (j 1).val; omega
theorem blk_b (t : Fin cfg0.N) (r : Fin 512) (k : Fin 512) : iblk m c 3 t (ix2 r k) = V m c main_v3 (ix2 (rowOf t r) k) := by
  obtain ⟨e0, e1⟩ := idx3 t
  refine congrArg (V m c main_v3) (funext fun a => Fin.ext ?_)
  match a with
  | ⟨0, _⟩ => show win0_3.index t (0 : Fin 2) * 512 + 1 * r.val = t.val * 512 + r.val; omega
  | ⟨1, _⟩ => show win0_3.index t (1 : Fin 2) * 512 + 1 * k.val = k.val; omega
theorem blk_wb (t : Fin cfg0.N) (j : S512x1024.Idx) : iblk m c 4 t j = V m c main_v4 j := by
  obtain ⟨e0, e1⟩ := idx4 t
  refine congrArg (V m c main_v4) (funext fun a => Fin.ext ?_)
  match a with
  | ⟨0, _⟩ => show win0_4.index t (0 : Fin 2) * 512 + 1 * (j 0).val = (j 0).val; omega
  | ⟨1, _⟩ => show win0_4.index t (1 : Fin 2) * 1024 + 1 * (j 1).val = (j 1).val; omega
theorem blk_g (t : Fin cfg0.N) (j : S1x1024.Idx) : iblk m c 5 t j = V m c main_v5 j := by
  obtain ⟨e0, e1⟩ := idx5 t
  refine congrArg (V m c main_v5) (funext fun a => Fin.ext ?_)
  match a with
  | ⟨0, _⟩ => show win0_5.index t (0 : Fin 2) * 1 + 1 * (j 0).val = (j 0).val; omega
  | ⟨1, _⟩ => show win0_5.index t (1 : Fin 2) * 1024 + 1 * (j 1).val = (j 1).val; omega
theorem blk_wg (t : Fin cfg0.N) (j : S1024x2816.Idx) : iblk m c 6 t j = V m c main_v6 j := by
  obtain ⟨e0, e1⟩ := idx6 t
  refine congrArg (V m c main_v6) (funext fun a => Fin.ext ?_)
  match a with
  | ⟨0, _⟩ => show win0_6.index t (0 : Fin 2) * 1024 + 1 * (j 0).val = (j 0).val; omega
  | ⟨1, _⟩ => show win0_6.index t (1 : Fin 2) * 2816 + 1 * (j 1).val = (j 1).val; omega
theorem blk_wu (t : Fin cfg0.N) (j : S1024x2816.Idx) : iblk m c 7 t j = V m c main_v7 j := by
  obtain ⟨e0, e1⟩ := idx7 t
  refine congrArg (V m c main_v7) (funext fun a => Fin.ext ?_)
  match a with
  | ⟨0, _⟩ => show win0_7.index t (0 : Fin 2) * 1024 + 1 * (j 0).val = (j 0).val; omega
  | ⟨1, _⟩ => show win0_7.index t (1 : Fin 2) * 2816 + 1 * (j 1).val = (j 1).val; omega
theorem blk_wd (t : Fin cfg0.N) (j : S2816x1024.Idx) : iblk m c 8 t j = V m c main_v8 j := by
  obtain ⟨e0, e1⟩ := idx8 t
  refine congrArg (V m c main_v8) (funext fun a => Fin.ext ?_)
  match a with
  | ⟨0, _⟩ => show win0_8.index t (0 : Fin 2) * 2816 + 1 * (j 0).val = (j 0).val; omega
  | ⟨1, _⟩ => show win0_8.index t (1 : Fin 2) * 1024 + 1 * (j 1).val = (j 1).val; omega
theorem emb_out (t : Fin cfg0.N) (r : Fin 512) (k : Fin 1024) : ((cfg0.win 9).blk t).view.emb (ix2 r k) = ix2 (rowOf t r) k := by
  obtain ⟨e0, e1⟩ := idx9 t
  funext a; apply Fin.ext
  match a with
  | ⟨0, _⟩ => show win0_9.index t (0 : Fin 2) * 512 + 1 * r.val = t.val * 512 + r.val; omega
  | ⟨1, _⟩ => show win0_9.index t (1 : Fin 2) * 1024 + 1 * k.val = k.val; omega

/-! ## The result array -/

/-- The result array as one function of the arguments. -/
def G (h : Vec Ideal S65536x1024 .f32) (a b : Vec Ideal S8x8192x512 .bf16) (w : Vec Ideal S1024x1024 .f32) (g : Vec Ideal S1024 .f32)
    (wg wu : Vec Ideal S1024x2816 .f32) (wd : Vec Ideal S2816x1024 .f32) :
    Vec Ideal S65536x1024 .f32 := fun i =>
  Row.step (Row.mixRow (fun k => h (ix2 (i 0) k)) (fun k => a (ix3 (Row.batchOf (i 0)) (Row.posOf (i 0)) k))
      (fun k => b (ix3 (Row.batchOf (i 0)) (Row.posOf (i 0)) k)) (fun k f => w (ix2 k f))) (fun k => g (ix1 k))
    (fun k f => wg (ix2 k f)) (fun k f => wu (ix2 k f)) (fun f j => wd (ix2 f j)) (i 1)

/-- `G` of the arguments as launched. -/
abbrev final : Vec Ideal S65536x1024 .f32 :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

theorem zeros : (![0, 0] : Fin 2 → Nat) = fun _ => 0 := funext fun a => by fin_cases a <;> rfl

/-- The one store covers the block, and every load reads its whole block. -/
theorem out_eq (x0 : Vec Ideal S512x1024 .f32) (x1 : Vec Ideal S512x512 .bf16) (x2 : Vec Ideal S512x1024 .bf16) (x3 : Vec Ideal S512x512 .bf16) (x4 : Vec Ideal S512x1024 .bf16) (x5 : Vec Ideal S1x1024 .f32) (x6 : Vec Ideal S1024x2816 .bf16) (x7 : Vec Ideal S1024x2816 .bf16) (x8 : Vec Ideal S2816x1024 .bf16) :
    out0_9 x0 x1 x2 x3 x4 x5 x6 x7 x8 = stored x0 x1 x2 x3 x4 x5 x6 x7 x8 := by
  unfold out0_9 stored
  rw [View.canon_unit_zero zeros]
  repeat rw [View.ld_unit_zero zeros]

/-- Cutting a block changes nothing: no block hangs over the array's end. -/
theorem cut_apply (t : Fin cfg0.N) (X : Vec Ideal S512x1024 .f32) (Y : Vec Ideal S65536x1024 .f32) (h : ∀ (r : Fin 512) (k : Fin 1024), X (ix2 r k) = Y (ix2 (rowOf t r) k)) :
    (cfg0.win 9).cut (grid0.coords t) X = ((cfg0.win 9).blk t).view.read (Elt Ideal) Y := by
  funext j
  obtain ⟨r, k, rfl⟩ : ∃ (r : Fin 512) (k : Fin 1024), j = ix2 r k := ⟨j 0, j 1, by funext a; match a with | ⟨0, _⟩ => rfl | ⟨1, _⟩ => rfl⟩
  show X (ix2 r k) = Y (((cfg0.win 9).blk t).view.emb (ix2 r k))
  rw [emb_out, h]

/-- The block grid point `t` stores, entry by entry, is its block of `G`. -/
theorem block_apply (t : Fin cfg0.N) (r : Fin 512) (k : Fin 1024) :
    stored (iblk m c 0 t) (iblk m c 1 t) (iblk m c 2 t) (iblk m c 3 t) (iblk m c 4 t) (iblk m c 5 t) (iblk m c 6 t) (iblk m c 7 t) (iblk m c 8 t) (ix2 r k) = final m c (ix2 (rowOf t r) k) := by
  rw [stored_apply]
  refine Row.step_congr (fun k => ?_) (fun k => (blk_g m c t _).trans (V_g_apply m c k)) (fun _ _ => (blk_wg m c t _).trans (V_wg m c _))
    (fun _ _ => (blk_wu m c t _).trans (V_wu m c _)) (fun _ _ => (blk_wd m c t _).trans (V_wd m c _)) k
  rw [pre_apply]
  exact congrArg₂ (· + ·) ((blk_h m c t r k).trans (congrFun (V_h m c) _)) (congrArg₂ (· + ·)
    (Row.times_congr (fun k => (blk_a m c t r k).trans (V_a_apply m c _ k)) (fun k f => (blk_wa m c t _).trans (V_wa m c k f)) k)
    (Row.times_congr (fun k => (blk_b m c t r k).trans (V_b_apply m c _ k)) (fun k f => (blk_wb m c t _).trans (V_wb m c k f)) k))

/-- What grid point `t` writes back is its block of `G`. -/
theorem flushed_eq (t : Fin cfg0.N) : (dats m 0 c).flushed 9 t = ((cfg0.win 9).blk t).view.read (Elt Ideal) (final m c) := by
  rw [Value.flushed9, out_eq]
  exact cut_apply t _ _ fun r k => block_apply m c t r k

/-- The blocks tile the array. -/
theorem covered (i : S65536x1024.Idx) : ∃ t : Fin cfg0.N, (cfg0.win 9).flush t = true ∧ i ∈ ((cfg0.win 9).blk t).view.set := by
  obtain ⟨q, k, rfl⟩ : ∃ (q : Fin 65536) (k : Fin 1024), i = ix2 q k := ⟨i 0, i 1, by funext a; match a with | ⟨0, _⟩ => rfl | ⟨1, _⟩ => rfl⟩
  have hq := q.isLt
  let t : Fin cfg0.N := ⟨q.val / 512, by show _ < 128; omega⟩
  let r : Fin 512 := ⟨q.val % 512, by omega⟩
  refine ⟨t, flush0_9 _, ?_⟩
  have h := ((cfg0.win 9).blk t).view.emb_mem_set (ix2 r k)
  rw [emb_out] at h
  have e : rowOf t r = q := Fin.ext (by show q.val / 512 * 512 + q.val % 512 = q.val; omega)
  rwa [e] at h

/-- The result array after the run. -/
theorem final_eq : (dats m 0 c).arrAt 9 cfg0.N = final m c :=
  (dats m 0 c).arrAt_eq_of_cover 9 (final m c) (fun t _ => flushed_eq m c t) covered

end Cert.Proof.Mixed

end
-- ==== Proof.MixedRef.lean ====
/-
  The reference's half step after the mixer read at an index: row `i` of the result is `Row.step` of row `i` of the residual
  plus the mixer's row, the two halves side by side, times the projection.
-/
module

public import proofs.«01_k».proof.Defs
public import proofs.«01_k».proof.Proof.FfnRow
public import proofs.«01_k».proof.Proof.Gen.MixedRefIdeal.Read
public import Idealize.ShloMosaic.Lib.Pointwise

@[expose] public section

noncomputable section

namespace Cert.Proof.MixedRef

open Idealize.ShloMosaic Idealize.SL.Sem Cert.MixedRefIdeal Cert.MixedRefIdeal.Gen Cert.MixedRefIdeal.Read
open Cert.Proof

/-- Entry `k` of row `r` of the mixer's output: the attention half's entry or the convolution half's. -/
theorem row_apply (x1 x2 : Vec Ideal S8x8192x512 .bf16) (r : Fin 65536) (k : Fin 1024) :
    val_main_v3 (F := Ideal) x1 x2 (ix2 r k) = Row.join (fun k => x1 (ix3 (Row.batchOf r) (Row.posOf r) k))
      (fun k => x2 (ix3 (Row.batchOf r) (Row.posOf r) k)) k := by
  unfold val_main_v3 val_main_v2 val_main_v1 val_main_v0 Row.join
  pointwise

/-- The row that enters the half step. -/
theorem pre_apply (x0 : Vec Ideal S65536x1024 .f32) (x1 x2 : Vec Ideal S8x8192x512 .bf16) (x3 : Vec Ideal S1024x1024 .f32) (r : Fin 65536) (c : Fin 1024) :
    val_main_v5 (F := Ideal) x0 x1 x2 x3 (ix2 r c)
      = Row.mixRow (fun k => x0 (ix2 r k)) (fun k => x1 (ix3 (Row.batchOf r) (Row.posOf r) k))
          (fun k => x2 (ix3 (Row.batchOf r) (Row.posOf r) k)) (fun k f => x3 (ix2 k f)) c := by
  refine Eq.trans ?_ (congrArg (x0 (ix2 r c) + ·) (Row.times_join _ _ (fun k f => x3 (ix2 k f)) c))
  unfold val_main_v5 val_main_v4
  pointwise
  exact congrArg (x0 (ix2 r c) + ·) (Finset.sum_congr rfl fun k _ => congrArg (· * x3 (ix2 k c)) (row_apply x1 x2 r k))

theorem apply (x0 : Vec Ideal S65536x1024 .f32) (x1 x2 : Vec Ideal S8x8192x512 .bf16) (x3 : Vec Ideal S1024x1024 .f32) (x4 : Vec Ideal S1024 .f32)
    (x5 x6 : Vec Ideal S1024x2816 .f32) (x7 : Vec Ideal S2816x1024 .f32)
    (r : Fin 65536) (c : Fin 1024) :
    val_main_v26 (F := Ideal) x0 x1 x2 x3 x4 x5 x6 x7 (ix2 r c)
      = Row.step (Row.mixRow (fun k => x0 (ix2 r k)) (fun k => x1 (ix3 (Row.batchOf r) (Row.posOf r) k))
            (fun k => x2 (ix3 (Row.batchOf r) (Row.posOf r) k)) (fun k f => x3 (ix2 k f))) (fun k => x4 (ix1 k))
          (fun k f => x5 (ix2 k f)) (fun k f => x6 (ix2 k f)) (fun f j => x7 (ix2 f j)) c := by
  refine Eq.trans ?_ (Row.step_congr (fun k => pre_apply x0 x1 x2 x3 r k) (fun _ => rfl) (fun _ _ => rfl) (fun _ _ => rfl) (fun _ _ => rfl) c)
  unfold val_main_v26 val_main_v25 val_main_v24 val_main_cst_2 val_main_v23 val_main_v22 val_main_v21 val_main_v20 val_main_call0_v5 val_main_call0_v4 val_main_call0_cst_0 val_main_call0_v3 val_main_call0_v2 val_main_call0_cst val_main_call0_v1 val_main_call0_v0 val_main_v19 val_main_v18 val_main_v17 val_main_v16 val_main_v15 val_main_v14 val_main_v13 val_main_v12 val_main_v11 val_main_cst_1 val_main_v10 val_main_v9 val_main_cst_0 val_main_v8 val_main_v7 val_main_cst val_main_v6
  generalize val_main_v5 (F := Ideal) x0 x1 x2 x3 = X
  pointwise
  rfl

end Cert.Proof.MixedRef

end
-- ==== Proof.MixedClaims.lean ====
/-
  The claims on the feed-forward kernel that first adds the mixer's projected output: its frames, and that it computes what the reference computes. Both sides'
  result arrays are the same function row by row (MixedValue.lean, MixedRef.lean).
-/
module

public import proofs.«01_k».proof.Proof.MixedValue
public import proofs.«01_k».proof.Proof.MixedRef
public import proofs.«01_k».proof.Proof.Gen.Mixed.Frame
public import Idealize.ShloMosaic.Lib.Claim

@[expose] public section

noncomputable section

namespace Cert.Proof.Mixed

open Idealize.ShloMosaic Idealize.SL.Sem Idealize.ShloMosaic.TcCoe

theorem frame_kernel : Cert.quiescent_Mixed := fun m ρ _ => Cert.Mixed.Gen.frame m ρ
theorem frame_ideal : Cert.quiescent_MixedIdeal := fun m ρ _ => Cert.MixedIdeal.Gen.frame m ρ
/-- The reference is host operations alone: it declares no semaphore. -/
theorem frame_ref : Cert.quiescent_MixedRefIdeal := fun m ρ _ =>
  (θ_run Cert.MixedRefIdeal.defs _ _).mono (fun r h => ⟨fun c => (h c).2, sem_eq_zero_of_no_sems (by decide) r.2⟩)
    (Cert.MixedRefIdeal.Value.run (F := Ideal) m ρ)

theorem algebraic : Cert.algebraic_MixedIdeal_MixedRefIdeal := by
  intro m g m' g' _ hargs
  refine ⟨fun c => final m c, ?_, ?_⟩
  · exact (θ_run Cert.MixedIdeal.defs _ _).mono (fun r h c => ⟨(h c).1.trans (final_eq m c), (h c).2⟩)
      (Cert.MixedIdeal.Value.run_blocks (F := Ideal) m g)
  · refine (θ_run Cert.MixedRefIdeal.defs _ _).mono (fun r h c => ⟨(h c).1.trans ?_, (h c).2⟩) (Cert.MixedRefIdeal.Value.run (F := Ideal) m' g')
    obtain ⟨h0, h1, h2, h3, h4, h5, h6, h7⟩ := hargs c
    rw [Cert.MixedRefIdeal.Read.val_main_v26_eq]
    rw [h0, h1, h2, h3, h4, h5, h6, h7]
    funext i
    obtain ⟨q, k, rfl⟩ : ∃ (q : Fin 65536) (k : Fin 1024), i = ix2 q k := ⟨i 0, i 1, by funext a; match a with | ⟨0, _⟩ => rfl | ⟨1, _⟩ => rfl⟩
    exact MixedRef.apply _ _ _ _ _ _ _ _ q k

end Cert.Proof.Mixed

end
-- ==== Proof.LastValue.lean ====
/-
  The result array of the layer's last feed-forward kernel, index by index: at row `i` and column `j` it is the final
  normalisation of the half step (FfnRow.lean `Row.rms`, `Row.step`) of row `i` of the residual plus the convolution module's
  row times its last projection plus the bias (`Row.biasRow`). A grid point reads 512 rows and the whole of every weight, so
  the block it writes is a block of that one function, and the 128 blocks tile the array.
-/
module

public import proofs.«01_k».proof.Defs
public import proofs.«01_k».proof.Proof.FfnRow
public import proofs.«01_k».proof.Proof.Gen.LastIdeal.Value
public import proofs.«01_k».proof.Proof.Gen.LastIdeal.Skeleton
public import Idealize.ShloMosaic.Lib.Pointwise

@[expose] public section

noncomputable section

namespace Cert.Proof.Last

open Idealize.ShloMosaic Idealize.SL.Sem Cert.LastIdeal Cert.LastIdeal.Gen Idealize.ShloMosaic.TcCoe
open Idealize.ShloMosaic.Pipeline (Dat)
open Cert.Proof

/-- The block's stored value, of the nine blocks. -/
def stored (x0 : Vec Ideal S512x1024 .f32) (x1 : Vec Ideal S512x1024 .bf16) (x2 : Vec Ideal S1024x1024 .bf16) (x3 x4 : Vec Ideal S1x1024 .f32)
    (x5 x6 : Vec Ideal S1024x2816 .bf16) (x7 : Vec Ideal S2816x1024 .bf16) (x8 : Vec Ideal S1x1024 .f32) :
    Vec Ideal S512x1024 .f32 :=
  k0_pay1 (k0_pay2 x0 x1 x2 x3) (k0_pay4 x0 x1 x2 x3 x4 x5) (k0_pay5 x0 x1 x2 x3 x4 x6) (k0_pay6 x0 x1 x2 x3 x4 x5) x7 x8

/-- The row that enters the half step: the residual plus the product and its bias. -/
theorem pre_apply (x0 : Vec Ideal S512x1024 .f32) (x1 : Vec Ideal S512x1024 .bf16) (x2 : Vec Ideal S1024x1024 .bf16) (x3 : Vec Ideal S1x1024 .f32)
    (r : Fin 512) (c : Fin 1024) :
    k0_pay2 (F := Ideal) x0 x1 x2 x3 (ix2 r c) = x0 (ix2 r c) + (Row.times (fun k => x1 (ix2 r k)) (fun k f => x2 (ix2 k f)) c + x3 (ix2 0 c)) := by
  pointwise [k0_pay2]
  rfl

/-- The body's stored value at row `r`, column `c` of the block. -/
theorem stored_apply (x0 : Vec Ideal S512x1024 .f32) (x1 : Vec Ideal S512x1024 .bf16) (x2 : Vec Ideal S1024x1024 .bf16) (x3 x4 : Vec Ideal S1x1024 .f32)
    (x5 x6 : Vec Ideal S1024x2816 .bf16) (x7 : Vec Ideal S2816x1024 .bf16) (x8 : Vec Ideal S1x1024 .f32)
    (r : Fin 512) (c : Fin 1024) :
    stored x0 x1 x2 x3 x4 x5 x6 x7 x8 (ix2 r c) = Row.rms (Row.step (fun k => k0_pay2 (F := Ideal) x0 x1 x2 x3 (ix2 r k)) (fun k => x4 (ix2 0 k)) (fun k f => x5 (ix2 k f))
      (fun k f => x6 (ix2 k f)) (fun f c => x7 (ix2 f c))) (fun k => x8 (ix2 0 k)) c := by
  unfold stored k0_pay1 k0_pay4 k0_pay5 k0_pay6 k0_pay4 k0_pay3
  generalize k0_pay2 (F := Ideal) x0 x1 x2 x3 = X
  pointwise
  simp only [zero_sub]
  rfl

variable (m : (ℓ : Loc nD τ sig) → Buf (Elt Ideal) ℓ) (c : Dev nD)

/-! ## The arrays the region finds: the host's reshapes, slices and casts of the arguments -/

/-- The residual is read as launched. -/
theorem V_h : V m c main_arg0 = m ((c : Thread nD τ).loc main_arg0) := by
  dsimp only [V, hostOps0]; after_results
/-- Row `r` of an array with its two leading axes flattened. -/
theorem flat_apply (x : Vec Ideal S8x8192x1024 .bf16) (r : Fin 65536) (k : Fin 1024) :
    shapeCast S65536x1024 x shapeCasts_S8x8192x1024_S65536x1024 (ix2 r k) = x (ix3 (Row.batchOf r) (Row.posOf r) k) := by
  pointwise
/-- The convolution module's activations, their two leading axes flattened into one axis of rows. -/
theorem V_u : V m c main_v0 = shapeCast S65536x1024 (m ((c : Thread nD τ).loc main_arg1)) shapeCasts_S8x8192x1024_S65536x1024 := by
  dsimp only [V, hostOps0]; after_results; rfl
theorem V_u_apply (r : Fin 65536) (k : Fin 1024) :
    V m c main_v0 (ix2 r k) = m ((c : Thread nD τ).loc main_arg1) (ix3 (Row.batchOf r) (Row.posOf r) k) := by
  exact (congrFun (V_u m c) _).trans (flat_apply _ r k)
/-- The weights: a cast changes nothing here. -/
theorem V_w (i : S1024x1024.Idx) : V m c main_v1 i = m ((c : Thread nD τ).loc main_arg2) i := by
  dsimp only [V, hostOps0]; after_results; rfl
theorem V_wg (i : S1024x2816.Idx) : V m c main_v3 i = m ((c : Thread nD τ).loc main_arg5) i := by
  dsimp only [V, hostOps0]; after_results; rfl
theorem V_wu (i : S1024x2816.Idx) : V m c main_v4 i = m ((c : Thread nD τ).loc main_arg6) i := by
  dsimp only [V, hostOps0]; after_results; rfl
theorem V_wd (i : S2816x1024.Idx) : V m c main_v5 i = m ((c : Thread nD τ).loc main_arg7) i := by
  dsimp only [V, hostOps0]; after_results; rfl
/-- The bias and the two gains, each as one row. -/
theorem V_b : V m c main_v6 = shapeCast S1x1024 (m ((c : Thread nD τ).loc main_arg3)) shapeCasts_S1024_S1x1024 := by
  dsimp only [V, hostOps0]; after_results; rfl
theorem V_b_apply (k : Fin 1024) : V m c main_v6 (ix2 0 k) = m ((c : Thread nD τ).loc main_arg3) (ix1 k) := by
  rw [V_b]; pointwise
theorem V_g : V m c main_v2 = shapeCast S1x1024 (m ((c : Thread nD τ).loc main_arg4)) shapeCasts_S1024_S1x1024 := by
  dsimp only [V, hostOps0]; after_results; rfl
theorem V_g_apply (k : Fin 1024) : V m c main_v2 (ix2 0 k) = m ((c : Thread nD τ).loc main_arg4) (ix1 k) := by
  rw [V_g]; pointwise
theorem V_gf : V m c main_v7 = shapeCast S1x1024 (m ((c : Thread nD τ).loc main_arg8)) shapeCasts_S1024_S1x1024 := by
  dsimp only [V, hostOps0]; after_results; rfl
theorem V_gf_apply (k : Fin 1024) : V m c main_v7 (ix2 0 k) = m ((c : Thread nD τ).loc main_arg8) (ix1 k) := by
  rw [V_gf]; pointwise

/-! ## Where each block lies in its array -/

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)
theorem idx7 : ∀ t : Fin cfg0.N, win0_7.index t (0 : Fin 2) = 0 ∧ win0_7.index t (1 : Fin 2) = 0 := (by decide +kernel : ∀ t : Fin grid0.N, _)
theorem idx8 : ∀ t : Fin cfg0.N, win0_8.index t (0 : Fin 2) = 0 ∧ win0_8.index t (1 : Fin 2) = 0 := (by decide +kernel : ∀ t : Fin grid0.N, _)
theorem idx9 : ∀ t : Fin cfg0.N, win0_9.index t (0 : Fin 2) = t.val ∧ win0_9.index t (1 : Fin 2) = 0 := (by decide +kernel : ∀ t : Fin grid0.N, _)

theorem row_lt (t : Fin cfg0.N) (r : Fin 512) : t.val * 512 + r.val < 65536 := by
  have : t.val < 128 := t.isLt
  omega

/-- Row `r` of grid point `t`'s block, in the whole array. -/
abbrev rowOf (t : Fin cfg0.N) (r : Fin 512) : Fin 65536 := ⟨t.val * 512 + r.val, row_lt t r⟩

theorem blk_h (t : Fin cfg0.N) (r : Fin 512) (k : Fin 1024) : iblk m c 0 t (ix2 r k) = V m c main_arg0 (ix2 (rowOf t r) k) := by
  obtain ⟨e0, e1⟩ := idx0 t
  refine congrArg (V m c main_arg0) (funext fun a => Fin.ext ?_)
  match a with
  | ⟨0, _⟩ => show win0_0.index t (0 : Fin 2) * 512 + 1 * r.val = t.val * 512 + r.val; omega
  | ⟨1, _⟩ => show win0_0.index t (1 : Fin 2) * 1024 + 1 * k.val = k.val; omega
theorem blk_u (t : Fin cfg0.N) (r : Fin 512) (k : Fin 1024) : iblk m c 1 t (ix2 r k) = V m c main_v0 (ix2 (rowOf t r) k) := by
  obtain ⟨e0, e1⟩ := idx1 t
  refine congrArg (V m c main_v0) (funext fun a => Fin.ext ?_)
  match a with
  | ⟨0, _⟩ => show win0_1.index t (0 : Fin 2) * 512 + 1 * r.val = t.val * 512 + r.val; omega
  | ⟨1, _⟩ => show win0_1.index t (1 : Fin 2) * 1024 + 1 * k.val = k.val; omega
theorem blk_w (t : Fin cfg0.N) (j : S1024x1024.Idx) : iblk m c 2 t j = V m c main_v1 j := by
  obtain ⟨e0, e1⟩ := idx2 t
  refine congrArg (V m c main_v1) (funext fun a => Fin.ext ?_)
  match a with
  | ⟨0, _⟩ => show win0_2.index t (0 : Fin 2) * 1024 + 1 * (j 0).val = (j 0).val; omega
  | ⟨1, _⟩ => show win0_2.index t (1 : Fin 2) * 1024 + 1 * (j 1).val = (j 1).val; omega
theorem blk_b (t : Fin cfg0.N) (j : S1x1024.Idx) : iblk m c 3 t j = V m c main_v6 j := by
  obtain ⟨e0, e1⟩ := idx3 t
  refine congrArg (V m c main_v6) (funext fun a => Fin.ext ?_)
  match a with
  | ⟨0, _⟩ => show win0_3.index t (0 : Fin 2) * 1 + 1 * (j 0).val = (j 0).val; omega
  | ⟨1, _⟩ => show win0_3.index t (1 : Fin 2) * 1024 + 1 * (j 1).val = (j 1).val; omega
theorem blk_g (t : Fin cfg0.N) (j : S1x1024.Idx) : iblk m c 4 t j = V m c main_v2 j := by
  obtain ⟨e0, e1⟩ := idx4 t
  refine congrArg (V m c main_v2) (funext fun a => Fin.ext ?_)
  match a with
  | ⟨0, _⟩ => show win0_4.index t (0 : Fin 2) * 1 + 1 * (j 0).val = (j 0).val; omega
  | ⟨1, _⟩ => show win0_4.index t (1 : Fin 2) * 1024 + 1 * (j 1).val = (j 1).val; omega
theorem blk_wg (t : Fin cfg0.N) (j : S1024x2816.Idx) : iblk m c 5 t j = V m c main_v3 j := by
  obtain ⟨e0, e1⟩ := idx5 t
  refine congrArg (V m c main_v3) (funext fun a => Fin.ext ?_)
  match a with
  | ⟨0, _⟩ => show win0_5.index t (0 : Fin 2) * 1024 + 1 * (j 0).val = (j 0).val; omega
  | ⟨1, _⟩ => show win0_5.index t (1 : Fin 2) * 2816 + 1 * (j 1).val = (j 1).val; omega
theorem blk_wu (t : Fin cfg0.N) (j : S1024x2816.Idx) : iblk m c 6 t j = V m c main_v4 j := by
  obtain ⟨e0, e1⟩ := idx6 t
  refine congrArg (V m c main_v4) (funext fun a => Fin.ext ?_)
  match a with
  | ⟨0, _⟩ => show win0_6.index t (0 : Fin 2) * 1024 + 1 * (j 0).val = (j 0).val; omega
  | ⟨1, _⟩ => show win0_6.index t (1 : Fin 2) * 2816 + 1 * (j 1).val = (j 1).val; omega
theorem blk_wd (t : Fin cfg0.N) (j : S2816x1024.Idx) : iblk m c 7 t j = V m c main_v5 j := by
  obtain ⟨e0, e1⟩ := idx7 t
  refine congrArg (V m c main_v5) (funext fun a => Fin.ext ?_)
  match a with
  | ⟨0, _⟩ => show win0_7.index t (0 : Fin 2) * 2816 + 1 * (j 0).val = (j 0).val; omega
  | ⟨1, _⟩ => show win0_7.index t (1 : Fin 2) * 1024 + 1 * (j 1).val = (j 1).val; omega
theorem blk_gf (t : Fin cfg0.N) (j : S1x1024.Idx) : iblk m c 8 t j = V m c main_v7 j := by
  obtain ⟨e0, e1⟩ := idx8 t
  refine congrArg (V m c main_v7) (funext fun a => Fin.ext ?_)
  match a with
  | ⟨0, _⟩ => show win0_8.index t (0 : Fin 2) * 1 + 1 * (j 0).val = (j 0).val; omega
  | ⟨1, _⟩ => show win0_8.index t (1 : Fin 2) * 1024 + 1 * (j 1).val = (j 1).val; omega
theorem emb_out (t : Fin cfg0.N) (r : Fin 512) (k : Fin 1024) : ((cfg0.win 9).blk t).view.emb (ix2 r k) = ix2 (rowOf t r) k := by
  obtain ⟨e0, e1⟩ := idx9 t
  funext a; apply Fin.ext
  match a with
  | ⟨0, _⟩ => show win0_9.index t (0 : Fin 2) * 512 + 1 * r.val = t.val * 512 + r.val; omega
  | ⟨1, _⟩ => show win0_9.index t (1 : Fin 2) * 1024 + 1 * k.val = k.val; omega

/-! ## The result array -/

/-- The result array as one function of the arguments. -/
def G (h : Vec Ideal S65536x1024 .f32) (u : Vec Ideal S8x8192x1024 .bf16) (w : Vec Ideal S1024x1024 .f32) (b g : Vec Ideal S1024 .f32)
    (wg wu : Vec Ideal S1024x2816 .f32) (wd : Vec Ideal S2816x1024 .f32) (gf : Vec Ideal S1024 .f32) :
    Vec Ideal S65536x1024 .f32 := fun i =>
  Row.rms (Row.step (Row.biasRow (fun k => h (ix2 (i 0) k)) (fun k => u (ix3 (Row.batchOf (i 0)) (Row.posOf (i 0)) k))
      (fun k f => w (ix2 k f)) (fun k => b (ix1 k))) (fun k => g (ix1 k))
    (fun k f => wg (ix2 k f)) (fun k f => wu (ix2 k f)) (fun f j => wd (ix2 f j))) (fun k => gf (ix1 k)) (i 1)

/-- `G` of the arguments as launched. -/
abbrev final : Vec Ideal S65536x1024 .f32 :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

theorem zeros : (![0, 0] : Fin 2 → Nat) = fun _ => 0 := funext fun a => by fin_cases a <;> rfl

/-- The one store covers the block, and every load reads its whole block. -/
theorem out_eq (x0 : Vec Ideal S512x1024 .f32) (x1 : Vec Ideal S512x1024 .bf16) (x2 : Vec Ideal S1024x1024 .bf16) (x3 : Vec Ideal S1x1024 .f32) (x4 : Vec Ideal S1x1024 .f32) (x5 : Vec Ideal S1024x2816 .bf16) (x6 : Vec Ideal S1024x2816 .bf16) (x7 : Vec Ideal S2816x1024 .bf16) (x8 : Vec Ideal S1x1024 .f32) :
    out0_9 x0 x1 x2 x3 x4 x5 x6 x7 x8 = stored x0 x1 x2 x3 x4 x5 x6 x7 x8 := by
  unfold out0_9 stored
  rw [View.canon_unit_zero zeros]
  repeat rw [View.ld_unit_zero zeros]

/-- Cutting a block changes nothing: no block hangs over the array's end. -/
theorem cut_apply (t : Fin cfg0.N) (X : Vec Ideal S512x1024 .f32) (Y : Vec Ideal S65536x1024 .f32) (h : ∀ (r : Fin 512) (k : Fin 1024), X (ix2 r k) = Y (ix2 (rowOf t r) k)) :
    (cfg0.win 9).cut (grid0.coords t) X = ((cfg0.win 9).blk t).view.read (Elt Ideal) Y := by
  funext j
  obtain ⟨r, k, rfl⟩ : ∃ (r : Fin 512) (k : Fin 1024), j = ix2 r k := ⟨j 0, j 1, by funext a; match a with | ⟨0, _⟩ => rfl | ⟨1, _⟩ => rfl⟩
  show X (ix2 r k) = Y (((cfg0.win 9).blk t).view.emb (ix2 r k))
  rw [emb_out, h]

/-- The block grid point `t` stores, entry by entry, is its block of `G`. -/
theorem block_apply (t : Fin cfg0.N) (r : Fin 512) (k : Fin 1024) :
    stored (iblk m c 0 t) (iblk m c 1 t) (iblk m c 2 t) (iblk m c 3 t) (iblk m c 4 t) (iblk m c 5 t) (iblk m c 6 t) (iblk m c 7 t) (iblk m c 8 t) (ix2 r k) = final m c (ix2 (rowOf t r) k) := by
  rw [stored_apply]
  refine Row.rms_congr (fun k => ?_) (fun k => (blk_gf m c t _).trans (V_gf_apply m c k)) k
  refine Row.step_congr (fun k => ?_) (fun k => (blk_g m c t _).trans (V_g_apply m c k)) (fun _ _ => (blk_wg m c t _).trans (V_wg m c _))
    (fun _ _ => (blk_wu m c t _).trans (V_wu m c _)) (fun _ _ => (blk_wd m c t _).trans (V_wd m c _)) k
  rw [pre_apply]
  exact congrArg₂ (· + ·) ((blk_h m c t r k).trans (congrFun (V_h m c) _)) (congrArg₂ (· + ·)
    (Row.times_congr (fun k => (blk_u m c t r k).trans (V_u_apply m c _ k)) (fun k f => (blk_w m c t _).trans (V_w m c _)) k)
    ((blk_b m c t _).trans (V_b_apply m c k)))

/-- What grid point `t` writes back is its block of `G`. -/
theorem flushed_eq (t : Fin cfg0.N) : (dats m 0 c).flushed 9 t = ((cfg0.win 9).blk t).view.read (Elt Ideal) (final m c) := by
  rw [Value.flushed9, out_eq]
  exact cut_apply t _ _ fun r k => block_apply m c t r k

/-- The blocks tile the array. -/
theorem covered (i : S65536x1024.Idx) : ∃ t : Fin cfg0.N, (cfg0.win 9).flush t = true ∧ i ∈ ((cfg0.win 9).blk t).view.set := by
  obtain ⟨q, k, rfl⟩ : ∃ (q : Fin 65536) (k : Fin 1024), i = ix2 q k := ⟨i 0, i 1, by funext a; match a with | ⟨0, _⟩ => rfl | ⟨1, _⟩ => rfl⟩
  have hq := q.isLt
  let t : Fin cfg0.N := ⟨q.val / 512, by show _ < 128; omega⟩
  let r : Fin 512 := ⟨q.val % 512, by omega⟩
  refine ⟨t, flush0_9 _, ?_⟩
  have h := ((cfg0.win 9).blk t).view.emb_mem_set (ix2 r k)
  rw [emb_out] at h
  have e : rowOf t r = q := Fin.ext (by show q.val / 512 * 512 + q.val % 512 = q.val; omega)
  rwa [e] at h

/-- The result array after the run. -/
theorem final_eq : (dats m 0 c).arrAt 9 cfg0.N = final m c :=
  (dats m 0 c).arrAt_eq_of_cover 9 (final m c) (fun t _ => flushed_eq m c t) covered

end Cert.Proof.Last

end
-- ==== Proof.LastRef.lean ====
/-
  The reference's last half step read at an index: row `i` of the result is the final normalisation of `Row.step` of row `i`
  of the residual plus the convolution module's row times its last projection plus the bias.
-/
module

public import proofs.«01_k».proof.Defs
public import proofs.«01_k».proof.Proof.FfnRow
public import proofs.«01_k».proof.Proof.Gen.LastRefIdeal.Read
public import Idealize.ShloMosaic.Lib.Pointwise

@[expose] public section

noncomputable section

namespace Cert.Proof.LastRef

open Idealize.ShloMosaic Idealize.SL.Sem Cert.LastRefIdeal Cert.LastRefIdeal.Gen Cert.LastRefIdeal.Read
open Cert.Proof

/-- The row that enters the half step. -/
theorem pre_apply (x0 : Vec Ideal S65536x1024 .f32) (x1 : Vec Ideal S8x8192x1024 .bf16) (x2 : Vec Ideal S1024x1024 .f32) (x3 : Vec Ideal S1024 .f32)
    (r : Fin 65536) (c : Fin 1024) :
    val_main_v6 (F := Ideal) x0 x1 x2 x3 (ix2 r c)
      = Row.biasRow (fun k => x0 (ix2 r k)) (fun k => x1 (ix3 (Row.batchOf r) (Row.posOf r) k))
          (fun k f => x2 (ix2 k f)) (fun k => x3 (ix1 k)) c := by
  unfold val_main_v6 val_main_v5 val_main_v4 val_main_v3 val_main_v2 val_main_v1 val_main_v0
  pointwise
  rfl

/-- The half step's row. -/
theorem step_apply (x0 : Vec Ideal S65536x1024 .f32) (x1 : Vec Ideal S8x8192x1024 .bf16) (x2 : Vec Ideal S1024x1024 .f32) (x3 x4 : Vec Ideal S1024 .f32)
    (x5 x6 : Vec Ideal S1024x2816 .f32) (x7 : Vec Ideal S2816x1024 .f32) (r : Fin 65536) (c : Fin 1024) :
    val_main_v27 (F := Ideal) x0 x1 x2 x3 x4 x5 x6 x7 (ix2 r c)
      = Row.step (Row.biasRow (fun k => x0 (ix2 r k)) (fun k => x1 (ix3 (Row.batchOf r) (Row.posOf r) k))
          (fun k f => x2 (ix2 k f)) (fun k => x3 (ix1 k))) (fun k => x4 (ix1 k))
          (fun k f => x5 (ix2 k f)) (fun k f => x6 (ix2 k f)) (fun f j => x7 (ix2 f j)) c := by
  refine Eq.trans ?_ (Row.step_congr (fun k => pre_apply x0 x1 x2 x3 r k) (fun _ => rfl) (fun _ _ => rfl) (fun _ _ => rfl) (fun _ _ => rfl) c)
  unfold val_main_v27 val_main_v26 val_main_v25 val_main_cst_2 val_main_v24 val_main_v23 val_main_v22 val_main_v21 val_main_call0_v5 val_main_call0_v4 val_main_call0_cst_0 val_main_call0_v3 val_main_call0_v2 val_main_call0_cst val_main_call0_v1 val_main_call0_v0 val_main_v20 val_main_v19 val_main_v18 val_main_v17 val_main_v16 val_main_v15 val_main_v14 val_main_v13 val_main_v12 val_main_cst_1 val_main_v11 val_main_v10 val_main_cst_0 val_main_v9 val_main_v8 val_main_cst val_main_v7
  generalize val_main_v6 (F := Ideal) x0 x1 x2 x3 = X
  pointwise
  rfl

theorem apply (x0 : Vec Ideal S65536x1024 .f32) (x1 : Vec Ideal S8x8192x1024 .bf16) (x2 : Vec Ideal S1024x1024 .f32) (x3 x4 : Vec Ideal S1024 .f32)
    (x5 x6 : Vec Ideal S1024x2816 .f32) (x7 : Vec Ideal S2816x1024 .f32) (x8 : Vec Ideal S1024 .f32) (r : Fin 65536) (c : Fin 1024) :
    val_main_v40 (F := Ideal) x0 x1 x2 x3 x4 x5 x6 x7 x8 (ix2 r c)
      = Row.rms (Row.step (Row.biasRow (fun k => x0 (ix2 r k)) (fun k => x1 (ix3 (Row.batchOf r) (Row.posOf r) k))
          (fun k f => x2 (ix2 k f)) (fun k => x3 (ix1 k))) (fun k => x4 (ix1 k))
          (fun k f => x5 (ix2 k f)) (fun k f => x6 (ix2 k f)) (fun f j => x7 (ix2 f j))) (fun k => x8 (ix1 k)) c := by
  refine Eq.trans ?_ (Row.rms_congr (fun k => step_apply x0 x1 x2 x3 x4 x5 x6 x7 r k) (fun _ => rfl) c)
  unfold val_main_v40 val_main_v39 val_main_v38 val_main_v37 val_main_v36 val_main_v35 val_main_v34 val_main_v33 val_main_v32 val_main_v31 val_main_v30 val_main_v29 val_main_v28 val_main_cst_5 val_main_cst_4 val_main_cst_3
  generalize val_main_v27 (F := Ideal) x0 x1 x2 x3 x4 x5 x6 x7 = X
  pointwise
  rfl

end Cert.Proof.LastRef

end
-- ==== Proof.LastClaims.lean ====
/-
  The claims on the layer's last feed-forward kernel: its frames, and that it computes what the reference computes. Both sides'
  result arrays are the same function row by row (LastValue.lean, LastRef.lean).
-/
module

public import proofs.«01_k».proof.Proof.LastValue
public import proofs.«01_k».proof.Proof.LastRef
public import proofs.«01_k».proof.Proof.Gen.Last.Frame
public import Idealize.ShloMosaic.Lib.Claim

@[expose] public section

noncomputable section

namespace Cert.Proof.Last

open Idealize.ShloMosaic Idealize.SL.Sem Idealize.ShloMosaic.TcCoe

theorem frame_kernel : Cert.quiescent_Last := fun m ρ _ => Cert.Last.Gen.frame m ρ
theorem frame_ideal : Cert.quiescent_LastIdeal := fun m ρ _ => Cert.LastIdeal.Gen.frame m ρ
/-- The reference is host operations alone: it declares no semaphore. -/
theorem frame_ref : Cert.quiescent_LastRefIdeal := fun m ρ _ =>
  (θ_run Cert.LastRefIdeal.defs _ _).mono (fun r h => ⟨fun c => (h c).2, sem_eq_zero_of_no_sems (by decide) r.2⟩)
    (Cert.LastRefIdeal.Value.run (F := Ideal) m ρ)

theorem algebraic : Cert.algebraic_LastIdeal_LastRefIdeal := by
  intro m g m' g' _ hargs
  refine ⟨fun c => final m c, ?_, ?_⟩
  · exact (θ_run Cert.LastIdeal.defs _ _).mono (fun r h c => ⟨(h c).1.trans (final_eq m c), (h c).2⟩)
      (Cert.LastIdeal.Value.run_blocks (F := Ideal) m g)
  · refine (θ_run Cert.LastRefIdeal.defs _ _).mono (fun r h c => ⟨(h c).1.trans ?_, (h c).2⟩) (Cert.LastRefIdeal.Value.run (F := Ideal) m' g')
    obtain ⟨h0, h1, h2, h3, h4, h5, h6, h7, h8⟩ := hargs c
    rw [Cert.LastRefIdeal.Read.val_main_v40_eq]
    rw [h0, h1, h2, h3, h4, h5, h6, h7, h8]
    funext i
    obtain ⟨q, k, rfl⟩ : ∃ (q : Fin 65536) (k : Fin 1024), i = ix2 q k := ⟨i 0, i 1, by funext a; match a with | ⟨0, _⟩ => rfl | ⟨1, _⟩ => rfl⟩
    exact LastRef.apply _ _ _ _ _ _ _ _ _ q k

end Cert.Proof.Last

end
-- ==== Proof.ConfRow.lean ====
/-
  One row of the convolution module, as functions of extended reals: the gated linear unit of a normalised row, the sum of the
  31 taps of the causal depthwise convolution, and the layer normalisation that follows it.
-/
module

public import proofs.«01_k».proof.Proof.FfnRow

@[expose] public section

noncomputable section

namespace Cert.Proof.Row

open Idealize.ShloMosaic
open scoped BigOperators

/-- The logistic function. -/
def sigm (x : EReal) : EReal := Ideal.div 1 (1 + Ideal.exp (-x))

/-- The gated linear unit of the normalised row: the product with the left half of the weights, times the logistic of the product with
the right half. -/
def glu (x g : Fin 1024 → EReal) (w : Fin 1024 → Fin 2048 → EReal) (b : Fin 2048 → EReal) (c : Fin 1024) : EReal :=
  (times (rms x g) w ⟨c.val, by omega⟩ + b ⟨c.val, by omega⟩)
    * sigm (times (rms x g) w ⟨1024 + c.val, by omega⟩ + b ⟨1024 + c.val, by omega⟩)

/-- The sum of 31 terms, first to last. -/
def sum31 (f : Fin 31 → EReal) : EReal :=
  f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30

/-- It is the sum over the index. -/
theorem sum31_eq (f : Fin 31 → EReal) : sum31 f = ∑ j : Fin 31, f j := by
  rw [sum31]
  repeat rw [Fin.sum_univ_castSucc]
  rw [Fin.sum_univ_zero, zero_add]
  rfl

/-- The last term and the bias may come first. -/
theorem sum31_last_first (f : Fin 31 → EReal) (b : EReal) :
    f 30 + b + f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 = sum31 f + b := by
  rw [sum31]
  abel

/-- The convolution at position `s`: 31 taps of the sequence `u` padded in front with 30 zeros, and the bias. -/
def conv (u : Fin 8192 → EReal) (w : Fin 31 → EReal) (b : EReal) (s : Fin 8192) : EReal :=
  sum31 (fun j => (if h : 30 ≤ s.val + j.val then u ⟨s.val + j.val - 30, by omega⟩ else 0) * w j) + b

/-- Layer normalisation of a row `x` with gain `g` and bias `b`, at column `c`. -/
def norm (x g b : Fin 1024 → EReal) (c : Fin 1024) : EReal :=
  (x c - Ideal.div (∑ k : Fin 1024, x k) width)
    * Ideal.rsqrt (Ideal.div (∑ k : Fin 1024, (x k - Ideal.div (∑ k : Fin 1024, x k) width) * (x k - Ideal.div (∑ k : Fin 1024, x k) width)) width + eps)
    * g c + b c

theorem glu_congr {x x' g g' : Fin 1024 → EReal} {w w' : Fin 1024 → Fin 2048 → EReal} {b b' : Fin 2048 → EReal}
    (hx : ∀ k, x k = x' k) (hg : ∀ k, g k = g' k) (hw : ∀ k f, w k f = w' k f) (hb : ∀ f, b f = b' f) (c : Fin 1024) :
    glu x g w b c = glu x' g' w' b' c := by
  obtain rfl : x = x' := funext hx
  obtain rfl : g = g' := funext hg
  obtain rfl : w = w' := funext fun k => funext (hw k)
  obtain rfl : b = b' := funext hb
  rfl

theorem norm_congr {x x' g g' b b' : Fin 1024 → EReal} (hx : ∀ k, x k = x' k) (hg : ∀ k, g k = g' k) (hb : ∀ k, b k = b' k)
    (c : Fin 1024) : norm x g b c = norm x' g' b' c := by
  obtain rfl : x = x' := funext hx
  obtain rfl : g = g' := funext hg
  obtain rfl : b = b' := funext hb
  rfl

/-- One position of the convolution module's inner activations, at column `c`. -/
def inner (h : Fin 8192 → Fin 1024 → EReal) (g : Fin 1024 → EReal) (w : Fin 1024 → Fin 2048 → EReal) (b : Fin 2048 → EReal)
    (cw : Fin 31 → Fin 1024 → EReal) (cb lg lb : Fin 1024 → EReal) (s : Fin 8192) (c : Fin 1024) : EReal :=
  silu (norm (fun k => conv (fun n => glu (h n) g w b k) (fun j => cw j k) (cb k) s) lg lb c)

end Cert.Proof.Row

end
-- ==== Proof.ConfBody.lean ====
/-
  The convolution kernel's body as a function of vectors. A grid point keeps its 256 rows of gated activations below the 32 rows
  that came before them in a buffer of 288 rows; tap `j` multiplies the 256 rows that start at row `j + 2` of that buffer by row `j` of
  the filter.
-/
module

public import proofs.«01_k».proof.Defs
public import proofs.«01_k».proof.Proof.ConfRow
public import proofs.«01_k».proof.Proof.Gen.ConfIdeal.Skeleton
public import Idealize.ShloMosaic.Lib.Pointwise

@[expose] public section

noncomputable section

namespace Cert.Proof.Conf

open Idealize.ShloMosaic Idealize.SL.Sem Cert.ConfIdeal Cert.ConfIdeal.Gen
open Cert.Proof

/-- Row `j` of the filter, as one row. -/
def row (x4 : Vec Ideal S31x1024 .f32) (j : Fin 31) : Vec Ideal S1x1024 .f32 := fun i => x4 (ix2 j (i 1))

/-- The 256 rows of the buffer that start at row `o`. -/
def win2 (W : Vec Ideal S288x1024 .f32) (o : Nat) (ho : o ≤ 32) : Vec Ideal S256x1024 .f32 := fun i =>
  W (ix2 ⟨o + (i 0).val, by have : (i 0).val < 256 := (i 0).isLt; omega⟩ (i 1))
/-- The same rows with a leading axis of extent one. -/
def win3 (W : Vec Ideal S288x1024 .f32) (o : Nat) (ho : o ≤ 32) : Vec Ideal S1x256x1024 .f32 := fun i =>
  W (ix2 ⟨o + (i 1).val, by have : (i 1).val < 256 := (i 1).isLt; omega⟩ (i 2))

/-- The convolution's partial sum after tap 1. -/
def part1 (u : Vec Ideal S256x1024 .f32) (W : Vec Ideal S288x1024 .f32) (x4 : Vec Ideal S31x1024 .f32) (x5 : Vec Ideal S1x1024 .f32) : Vec Ideal S256x1024 .f32 :=
  k0_pay13 u (row x4 30) x5 (win3 W 2 (by decide)) (row x4 0) (win3 W 3 (by decide)) (row x4 1)

/-- The convolution's partial sum after tap 7. -/
def part2 (u : Vec Ideal S256x1024 .f32) (W : Vec Ideal S288x1024 .f32) (x4 : Vec Ideal S31x1024 .f32) (x5 : Vec Ideal S1x1024 .f32) : Vec Ideal S256x1024 .f32 :=
  k0_pay15 (part1 u W x4 x5) (k0_pay14 (win3 W 4 (by decide))) (row x4 2) (win3 W 5 (by decide)) (row x4 3) (win3 W 6 (by decide)) (row x4 4) (win3 W 7 (by decide)) (row x4 5) (win2 W 8 (by decide)) (row x4 6) (win3 W 9 (by decide)) (row x4 7)

/-- The convolution's partial sum after tap 12. -/
def part3 (u : Vec Ideal S256x1024 .f32) (W : Vec Ideal S288x1024 .f32) (x4 : Vec Ideal S31x1024 .f32) (x5 : Vec Ideal S1x1024 .f32) : Vec Ideal S256x1024 .f32 :=
  k0_pay16 (part2 u W x4 x5) (win3 W 10 (by decide)) (row x4 8) (win3 W 11 (by decide)) (row x4 9) (win3 W 12 (by decide)) (row x4 10) (win3 W 13 (by decide)) (row x4 11) (win3 W 14 (by decide)) (row x4 12)

/-- The convolution's partial sum after tap 18. -/
def part4 (u : Vec Ideal S256x1024 .f32) (W : Vec Ideal S288x1024 .f32) (x4 : Vec Ideal S31x1024 .f32) (x5 : Vec Ideal S1x1024 .f32) : Vec Ideal S256x1024 .f32 :=
  k0_pay18 (part3 u W x4 x5) (k0_pay17 (win3 W 15 (by decide))) (row x4 13) (win2 W 16 (by decide)) (row x4 14) (win3 W 17 (by decide)) (row x4 15) (win3 W 18 (by decide)) (row x4 16) (win3 W 19 (by decide)) (row x4 17) (win3 W 20 (by decide)) (row x4 18)

/-- The convolution's partial sum after tap 24. -/
def part5 (u : Vec Ideal S256x1024 .f32) (W : Vec Ideal S288x1024 .f32) (x4 : Vec Ideal S31x1024 .f32) (x5 : Vec Ideal S1x1024 .f32) : Vec Ideal S256x1024 .f32 :=
  k0_pay19 (part4 u W x4 x5) (win3 W 21 (by decide)) (row x4 19) (win3 W 22 (by decide)) (row x4 20) (win3 W 23 (by decide)) (row x4 21) (win2 W 24 (by decide)) (row x4 22) (win3 W 25 (by decide)) (row x4 23) (win3 W 26 (by decide)) (row x4 24)

/-- The convolution's partial sum after tap 29. -/
def part6 (u : Vec Ideal S256x1024 .f32) (W : Vec Ideal S288x1024 .f32) (x4 : Vec Ideal S31x1024 .f32) (x5 : Vec Ideal S1x1024 .f32) : Vec Ideal S256x1024 .f32 :=
  k0_pay20 (part5 u W x4 x5) (win3 W 27 (by decide)) (row x4 25) (win3 W 28 (by decide)) (row x4 26) (win3 W 29 (by decide)) (row x4 27) (win3 W 30 (by decide)) (row x4 28) (win3 W 31 (by decide)) (row x4 29)

theorem part1_apply (u : Vec Ideal S256x1024 .f32) (W : Vec Ideal S288x1024 .f32) (x4 : Vec Ideal S31x1024 .f32) (x5 : Vec Ideal S1x1024 .f32) (r : Fin 256) (c : Fin 1024) :
    part1 u W x4 x5 (ix2 r c) = u (ix2 r c) * x4 (ix2 30 c) + x5 (ix2 0 c) + W (ix2 ⟨2 + r.val, by omega⟩ c) * x4 (ix2 0 c) + W (ix2 ⟨3 + r.val, by omega⟩ c) * x4 (ix2 1 c) := by
  unfold part1 k0_pay13
  pointwise
  rfl

theorem part2_apply (u : Vec Ideal S256x1024 .f32) (W : Vec Ideal S288x1024 .f32) (x4 : Vec Ideal S31x1024 .f32) (x5 : Vec Ideal S1x1024 .f32) (r : Fin 256) (c : Fin 1024) :
    part2 u W x4 x5 (ix2 r c) = part1 u W x4 x5 (ix2 r c) + W (ix2 ⟨4 + r.val, by omega⟩ c) * x4 (ix2 2 c) + W (ix2 ⟨5 + r.val, by omega⟩ c) * x4 (ix2 3 c) + W (ix2 ⟨6 + r.val, by omega⟩ c) * x4 (ix2 4 c) + W (ix2 ⟨7 + r.val, by omega⟩ c) * x4 (ix2 5 c) + W (ix2 ⟨8 + r.val, by omega⟩ c) * x4 (ix2 6 c) + W (ix2 ⟨9 + r.val, by omega⟩ c) * x4 (ix2 7 c) := by
  unfold part2 k0_pay15 k0_pay14
  generalize part1 u W x4 x5 = p
  pointwise
  rfl

theorem part3_apply (u : Vec Ideal S256x1024 .f32) (W : Vec Ideal S288x1024 .f32) (x4 : Vec Ideal S31x1024 .f32) (x5 : Vec Ideal S1x1024 .f32) (r : Fin 256) (c : Fin 1024) :
    part3 u W x4 x5 (ix2 r c) = part2 u W x4 x5 (ix2 r c) + W (ix2 ⟨10 + r.val, by omega⟩ c) * x4 (ix2 8 c) + W (ix2 ⟨11 + r.val, by omega⟩ c) * x4 (ix2 9 c) + W (ix2 ⟨12 + r.val, by omega⟩ c) * x4 (ix2 10 c) + W (ix2 ⟨13 + r.val, by omega⟩ c) * x4 (ix2 11 c) + W (ix2 ⟨14 + r.val, by omega⟩ c) * x4 (ix2 12 c) := by
  unfold part3 k0_pay16
  generalize part2 u W x4 x5 = p
  pointwise
  rfl

theorem part4_apply (u : Vec Ideal S256x1024 .f32) (W : Vec Ideal S288x1024 .f32) (x4 : Vec Ideal S31x1024 .f32) (x5 : Vec Ideal S1x1024 .f32) (r : Fin 256) (c : Fin 1024) :
    part4 u W x4 x5 (ix2 r c) = part3 u W x4 x5 (ix2 r c) + W (ix2 ⟨15 + r.val, by omega⟩ c) * x4 (ix2 13 c) + W (ix2 ⟨16 + r.val, by omega⟩ c) * x4 (ix2 14 c) + W (ix2 ⟨17 + r.val, by omega⟩ c) * x4 (ix2 15 c) + W (ix2 ⟨18 + r.val, by omega⟩ c) * x4 (ix2 16 c) + W (ix2 ⟨19 + r.val, by omega⟩ c) * x4 (ix2 17 c) + W (ix2 ⟨20 + r.val, by omega⟩ c) * x4 (ix2 18 c) := by
  unfold part4 k0_pay18 k0_pay17
  generalize part3 u W x4 x5 = p
  pointwise
  rfl

theorem part5_apply (u : Vec Ideal S256x1024 .f32) (W : Vec Ideal S288x1024 .f32) (x4 : Vec Ideal S31x1024 .f32) (x5 : Vec Ideal S1x1024 .f32) (r : Fin 256) (c : Fin 1024) :
    part5 u W x4 x5 (ix2 r c) = part4 u W x4 x5 (ix2 r c) + W (ix2 ⟨21 + r.val, by omega⟩ c) * x4 (ix2 19 c) + W (ix2 ⟨22 + r.val, by omega⟩ c) * x4 (ix2 20 c) + W (ix2 ⟨23 + r.val, by omega⟩ c) * x4 (ix2 21 c) + W (ix2 ⟨24 + r.val, by omega⟩ c) * x4 (ix2 22 c) + W (ix2 ⟨25 + r.val, by omega⟩ c) * x4 (ix2 23 c) + W (ix2 ⟨26 + r.val, by omega⟩ c) * x4 (ix2 24 c) := by
  unfold part5 k0_pay19
  generalize part4 u W x4 x5 = p
  pointwise
  rfl

theorem part6_apply (u : Vec Ideal S256x1024 .f32) (W : Vec Ideal S288x1024 .f32) (x4 : Vec Ideal S31x1024 .f32) (x5 : Vec Ideal S1x1024 .f32) (r : Fin 256) (c : Fin 1024) :
    part6 u W x4 x5 (ix2 r c) = part5 u W x4 x5 (ix2 r c) + W (ix2 ⟨27 + r.val, by omega⟩ c) * x4 (ix2 25 c) + W (ix2 ⟨28 + r.val, by omega⟩ c) * x4 (ix2 26 c) + W (ix2 ⟨29 + r.val, by omega⟩ c) * x4 (ix2 27 c) + W (ix2 ⟨30 + r.val, by omega⟩ c) * x4 (ix2 28 c) + W (ix2 ⟨31 + r.val, by omega⟩ c) * x4 (ix2 29 c) := by
  unfold part6 k0_pay20
  generalize part5 u W x4 x5 = p
  pointwise
  rfl

/-- The convolution at row `r`, column `c` of the block. -/
theorem conv_apply (u : Vec Ideal S256x1024 .f32) (W : Vec Ideal S288x1024 .f32) (x4 : Vec Ideal S31x1024 .f32) (x5 : Vec Ideal S1x1024 .f32) (r : Fin 256) (c : Fin 1024) (f : Fin 31 → EReal)
    (hf : ∀ j : Fin 31, (h : j.val < 30) → W (ix2 ⟨j.val + 2 + r.val, by omega⟩ c) * x4 (ix2 j c) = f j)
    (hl : u (ix2 r c) * x4 (ix2 30 c) = f 30) :
    part6 u W x4 x5 (ix2 r c) = Row.sum31 f + x5 (ix2 0 c) := by
  rw [part6_apply, part5_apply, part4_apply, part3_apply, part2_apply, part1_apply, hl, ← Row.sum31_last_first]
  rw [show W (ix2 ⟨2 + r.val, by omega⟩ c) * x4 (ix2 0 c) = f 0 from hf 0 (by decide)]
  rw [show W (ix2 ⟨3 + r.val, by omega⟩ c) * x4 (ix2 1 c) = f 1 from hf 1 (by decide)]
  rw [show W (ix2 ⟨4 + r.val, by omega⟩ c) * x4 (ix2 2 c) = f 2 from hf 2 (by decide)]
  rw [show W (ix2 ⟨5 + r.val, by omega⟩ c) * x4 (ix2 3 c) = f 3 from hf 3 (by decide)]
  rw [show W (ix2 ⟨6 + r.val, by omega⟩ c) * x4 (ix2 4 c) = f 4 from hf 4 (by decide)]
  rw [show W (ix2 ⟨7 + r.val, by omega⟩ c) * x4 (ix2 5 c) = f 5 from hf 5 (by decide)]
  rw [show W (ix2 ⟨8 + r.val, by omega⟩ c) * x4 (ix2 6 c) = f 6 from hf 6 (by decide)]
  rw [show W (ix2 ⟨9 + r.val, by omega⟩ c) * x4 (ix2 7 c) = f 7 from hf 7 (by decide)]
  rw [show W (ix2 ⟨10 + r.val, by omega⟩ c) * x4 (ix2 8 c) = f 8 from hf 8 (by decide)]
  rw [show W (ix2 ⟨11 + r.val, by omega⟩ c) * x4 (ix2 9 c) = f 9 from hf 9 (by decide)]
  rw [show W (ix2 ⟨12 + r.val, by omega⟩ c) * x4 (ix2 10 c) = f 10 from hf 10 (by decide)]
  rw [show W (ix2 ⟨13 + r.val, by omega⟩ c) * x4 (ix2 11 c) = f 11 from hf 11 (by decide)]
  rw [show W (ix2 ⟨14 + r.val, by omega⟩ c) * x4 (ix2 12 c) = f 12 from hf 12 (by decide)]
  rw [show W (ix2 ⟨15 + r.val, by omega⟩ c) * x4 (ix2 13 c) = f 13 from hf 13 (by decide)]
  rw [show W (ix2 ⟨16 + r.val, by omega⟩ c) * x4 (ix2 14 c) = f 14 from hf 14 (by decide)]
  rw [show W (ix2 ⟨17 + r.val, by omega⟩ c) * x4 (ix2 15 c) = f 15 from hf 15 (by decide)]
  rw [show W (ix2 ⟨18 + r.val, by omega⟩ c) * x4 (ix2 16 c) = f 16 from hf 16 (by decide)]
  rw [show W (ix2 ⟨19 + r.val, by omega⟩ c) * x4 (ix2 17 c) = f 17 from hf 17 (by decide)]
  rw [show W (ix2 ⟨20 + r.val, by omega⟩ c) * x4 (ix2 18 c) = f 18 from hf 18 (by decide)]
  rw [show W (ix2 ⟨21 + r.val, by omega⟩ c) * x4 (ix2 19 c) = f 19 from hf 19 (by decide)]
  rw [show W (ix2 ⟨22 + r.val, by omega⟩ c) * x4 (ix2 20 c) = f 20 from hf 20 (by decide)]
  rw [show W (ix2 ⟨23 + r.val, by omega⟩ c) * x4 (ix2 21 c) = f 21 from hf 21 (by decide)]
  rw [show W (ix2 ⟨24 + r.val, by omega⟩ c) * x4 (ix2 22 c) = f 22 from hf 22 (by decide)]
  rw [show W (ix2 ⟨25 + r.val, by omega⟩ c) * x4 (ix2 23 c) = f 23 from hf 23 (by decide)]
  rw [show W (ix2 ⟨26 + r.val, by omega⟩ c) * x4 (ix2 24 c) = f 24 from hf 24 (by decide)]
  rw [show W (ix2 ⟨27 + r.val, by omega⟩ c) * x4 (ix2 25 c) = f 25 from hf 25 (by decide)]
  rw [show W (ix2 ⟨28 + r.val, by omega⟩ c) * x4 (ix2 26 c) = f 26 from hf 26 (by decide)]
  rw [show W (ix2 ⟨29 + r.val, by omega⟩ c) * x4 (ix2 27 c) = f 27 from hf 27 (by decide)]
  rw [show W (ix2 ⟨30 + r.val, by omega⟩ c) * x4 (ix2 28 c) = f 28 from hf 28 (by decide)]
  rw [show W (ix2 ⟨31 + r.val, by omega⟩ c) * x4 (ix2 29 c) = f 29 from hf 29 (by decide)]

/-- The value the body stores, of the block's gated activations, the buffer, and the filter, bias and gain rows. -/
def stored (u : Vec Ideal S256x1024 .f32) (W : Vec Ideal S288x1024 .f32) (x4 : Vec Ideal S31x1024 .f32) (x5 : Vec Ideal S1x1024 .f32) (x6 x7 : Vec Ideal S1x1024 .f32) : Vec Ideal S1x256x1024 .bf16 :=
  k0_pay1 (part6 u W x4 x5) (k0_pay21 (part5 u W x4 x5) (win3 W 27 (by decide)) (row x4 25) (win3 W 28 (by decide)) (row x4 26) (win3 W 29 (by decide)) (row x4 27) (win3 W 30 (by decide)) (row x4 28) (win3 W 31 (by decide)) (row x4 29)) k0_pay22 x6 x7

/-- The stored value at row `r`, column `c` of the block. -/
theorem stored_apply (u : Vec Ideal S256x1024 .f32) (W : Vec Ideal S288x1024 .f32) (x4 : Vec Ideal S31x1024 .f32) (x5 : Vec Ideal S1x1024 .f32) (x6 x7 : Vec Ideal S1x1024 .f32) (r : Fin 256) (c : Fin 1024) :
    stored u W x4 x5 x6 x7 (ix3 0 r c)
      = Row.silu (Row.norm (fun k => part6 u W x4 x5 (ix2 r k)) (fun k => x6 (ix2 0 k)) (fun k => x7 (ix2 0 k)) c) := by
  unfold stored k0_pay1 k0_pay21 k0_pay22
  rw [show k0_pay20 (part5 u W x4 x5) (win3 W 27 (by decide)) (row x4 25) (win3 W 28 (by decide)) (row x4 26) (win3 W 29 (by decide)) (row x4 27) (win3 W 30 (by decide)) (row x4 28) (win3 W 31 (by decide)) (row x4 29) = part6 u W x4 x5 from rfl]
  generalize part6 u W x4 x5 = p
  pointwise
  simp only [zero_sub]
  rfl

/-- The gated activations of the block at row `r`, column `c`. -/
theorem gated_apply (x0 : Vec Ideal S1x256x1024 .f32) (x1 : Vec Ideal S1x1024 .f32) (x2 : Vec Ideal S1024x2048 .bf16) (x3 : Vec Ideal S1x2048 .f32)
    (r : Fin 256) (c : Fin 1024) :
    k0_pay2 (F := Ideal) x0 x1 x2 x3 (ix2 r c)
      = Row.glu (fun k => x0 (ix3 0 r k)) (fun k => x1 (ix2 0 k)) (fun k f => x2 (ix2 k f)) (fun f => x3 (ix2 0 f)) c := by
  pointwise [k0_pay2]
  simp only [zero_sub]
  rfl

end Cert.Proof.Conf

end
-- ==== Proof.ConfBuf.lean ====
/-
  The two buffers of the convolution kernel after a grid point's stores, and what a load of each reads: the buffer of 288 rows (32 rows of
  halo, then the point's 256 rows) and its seven copies, copy `s` shifted up by `s + 1` rows.
-/
module

public import proofs.«01_k».proof.Proof.ConfBody
public import proofs.«01_k».proof.Proof.Gen.ConfIdeal.Value

@[expose] public section

set_option maxRecDepth 16384

noncomputable section

namespace Cert.Proof.Conf

open Idealize.ShloMosaic Idealize.SL.Sem Cert.ConfIdeal Cert.ConfIdeal.Gen Idealize.ShloMosaic.TcCoe
open Cert.Proof

theorem zeros2 : (![0, 0] : Fin 2 → Nat) = fun _ => 0 := funext fun a => by fin_cases a <;> rfl
theorem zeros3 : (![0, 0, 0] : Fin 3 → Nat) = fun _ => 0 := funext fun a => by fin_cases a <;> rfl

/-- The buffer: the halo above the point's rows. -/
def buf (u : Vec Ideal S256x1024 .f32) (h : Vec Ideal S32x1024 .f32) : Vec Ideal S288x1024 .f32 := fun i =>
  if hi : 32 ≤ (i 0).val then u (ix2 ⟨(i 0).val - 32, by have : (i 0).val < 288 := (i 0).isLt; omega⟩ (i 1))
  else h (ix2 ⟨(i 0).val, by omega⟩ (i 1))

/-- The two stores into the buffer, last first. -/
abbrev bufPieces (u : Vec Ideal S256x1024 .f32) (h : Vec Ideal S32x1024 .f32) : List (View.Piece (Elt Ideal) S288x1024 .f32) :=
  [⟨Rect.unit ![32, 0] S256x1024.size inb_S288x1024_S256x1024_32_0, k0_pay5 (F := Ideal) u⟩, ⟨Rect.unit ![0, 0] S32x1024.size inb_S288x1024_S32x1024_0_0, h⟩]

/-- They cover it. -/
theorem cover_buf (u : Vec Ideal S256x1024 .f32) (h : Vec Ideal S32x1024 .f32) (y : S288x1024.Idx) : ∃ p ∈ bufPieces u h, y ∈ p.1.set := by
  have h0 : (y 0).val < 288 := (y 0).isLt
  have h1 : (y 1).val < 1024 := (y 1).isLt
  by_cases hy : 32 ≤ (y 0).val
  · have k : y ∈ (Rect.unit (s := S288x1024) ![32, 0] S256x1024.size inb_S288x1024_S256x1024_32_0).set := by
      refine Rect.mem_set_unit.mpr fun a => ?_
      match a with
      | ⟨0, _⟩ => exact ⟨hy, show (y 0).val < 32 + 256 by omega⟩
      | ⟨1, _⟩ => exact ⟨Nat.zero_le _, show (y 1).val < 0 + 1024 by omega⟩
    exact ⟨_, List.mem_cons_self, k⟩
  · have k : y ∈ (Rect.unit (s := S288x1024) ![0, 0] S32x1024.size inb_S288x1024_S32x1024_0_0).set := by
      refine Rect.mem_set_unit.mpr fun a => ?_
      match a with
      | ⟨0, _⟩ => exact ⟨Nat.zero_le _, show (y 0).val < 0 + 32 by omega⟩
      | ⟨1, _⟩ => exact ⟨Nat.zero_le _, show (y 1).val < 0 + 1024 by omega⟩
    exact ⟨_, List.mem_cons_of_mem _ List.mem_cons_self, k⟩

/-- And leave `buf`. -/
theorem canon_buf (u : Vec Ideal S256x1024 .f32) (h : Vec Ideal S32x1024 .f32) : View.canon (bufPieces u h) = buf u h := by
  funext y
  refine View.canon_apply_of_pieces (buf u h) _ (fun p hp x => ?_) y (cover_buf u h y)
  simp only [bufPieces, List.mem_cons, List.not_mem_nil, or_false] at hp
  rcases hp with rfl | rfl
  · have hx : (x 0).val < 256 := (x 0).isLt
    have e : k0_pay5 (F := Ideal) u = u := by unfold k0_pay5; exact shapeCast_self _ _
    show k0_pay5 (F := Ideal) u x = _
    rw [e]
    show u x = _
    unfold buf
    have h32 : 32 ≤ (((Rect.unit (s := S288x1024) ![32, 0] S256x1024.size inb_S288x1024_S256x1024_32_0).emb x) 0).val := by
      show 32 ≤ 32 + 1 * (x 0).val; omega
    rw [dif_pos h32]
    refine congrArg u (funext fun a => Fin.ext ?_)
    match a with
    | ⟨0, _⟩ => show (x 0).val = 32 + 1 * (x 0).val - 32; omega
    | ⟨1, _⟩ => show (x 1).val = 0 + 1 * (x 1).val; omega
  · have hx : (x 0).val < 32 := (x 0).isLt
    show h x = _
    unfold buf
    have h32 : ¬ 32 ≤ (((Rect.unit (s := S288x1024) ![0, 0] S32x1024.size inb_S288x1024_S32x1024_0_0).emb x) 0).val := by
      show ¬ 32 ≤ 0 + 1 * (x 0).val; omega
    rw [dif_neg h32]
    refine congrArg h (funext fun a => Fin.ext ?_)
    match a with
    | ⟨0, _⟩ => show (x 0).val = 0 + 1 * (x 0).val; omega
    | ⟨1, _⟩ => show (x 1).val = 0 + 1 * (x 1).val; omega

/-- The 280 rows of the buffer that start at row `o`. -/
def win280 (W : Vec Ideal S288x1024 .f32) (o : Nat) (ho : o ≤ 8) : Vec Ideal S280x1024 .f32 := fun i =>
  W (ix2 ⟨o + (i 0).val, by have : (i 0).val < 280 := (i 0).isLt; omega⟩ (i 1))

/-- A load of 280 rows of the buffer. -/
theorem read280 (v : View sig .tc .vmem S288x1024 .f32) (u : Vec Ideal S256x1024 .f32) (h : Vec Ideal S32x1024 .f32) (o : Nat) (ho : o ≤ 8)
    (inb : ∀ a, (![o, 0] : Fin 2 → Nat) a + S280x1024.size a ≤ S288x1024.size a) :
    v.readCov (bufPieces u h) (Rect.unit (s := S288x1024) ![o, 0] S280x1024.size inb).toLoadRect = win280 (buf u h) o ho := by
  rw [View.readCov_eq_canon_ld v _ _ (cover_buf u h), canon_buf]
  funext x
  refine congrArg (buf u h) (funext fun a => Fin.ext ?_)
  match a with
  | ⟨0, _⟩ => show o + 1 * (x 0).val = o + (x 0).val; omega
  | ⟨1, _⟩ => show 0 + 1 * (x 1).val = (x 1).val; omega

/-- A load of 256 rows of the buffer. -/
theorem read2 (v : View sig .tc .vmem S288x1024 .f32) (u : Vec Ideal S256x1024 .f32) (h : Vec Ideal S32x1024 .f32) (o : Nat) (ho : o ≤ 32)
    (inb : ∀ a, (![o, 0] : Fin 2 → Nat) a + S256x1024.size a ≤ S288x1024.size a) :
    v.readCov (bufPieces u h) (Rect.unit (s := S288x1024) ![o, 0] S256x1024.size inb).toLoadRect = win2 (buf u h) o ho := by
  rw [View.readCov_eq_canon_ld v _ _ (cover_buf u h), canon_buf]
  funext x
  refine congrArg (buf u h) (funext fun a => Fin.ext ?_)
  match a with
  | ⟨0, _⟩ => show o + 1 * (x 0).val = o + (x 0).val; omega
  | ⟨1, _⟩ => show 0 + 1 * (x 1).val = (x 1).val; omega

/-- The seven shifted copies. -/
def ring (W : Vec Ideal S288x1024 .f32) : Vec Ideal S7x280x1024 .f32 := fun i =>
  W (ix2 ⟨(i 0).val + 1 + (i 1).val, by have : (i 0).val < 7 := (i 0).isLt; have : (i 1).val < 280 := (i 1).isLt; omega⟩ (i 2))

/-- The seven stores into them, last first. -/
abbrev ringPieces (W : Vec Ideal S288x1024 .f32) : List (View.Piece (Elt Ideal) S7x280x1024 .f32) :=
  [⟨Rect.unit ![6, 0, 0] S1x280x1024.size inb_S7x280x1024_S1x280x1024_6_0_0, k0_pay12 (F := Ideal) (win280 W 7 (by decide))⟩,
    ⟨Rect.unit ![5, 0, 0] S1x280x1024.size inb_S7x280x1024_S1x280x1024_5_0_0, k0_pay11 (F := Ideal) (win280 W 6 (by decide))⟩,
    ⟨Rect.unit ![4, 0, 0] S1x280x1024.size inb_S7x280x1024_S1x280x1024_4_0_0, k0_pay10 (F := Ideal) (win280 W 5 (by decide))⟩,
    ⟨Rect.unit ![3, 0, 0] S1x280x1024.size inb_S7x280x1024_S1x280x1024_3_0_0, k0_pay9 (F := Ideal) (win280 W 4 (by decide))⟩,
    ⟨Rect.unit ![2, 0, 0] S1x280x1024.size inb_S7x280x1024_S1x280x1024_2_0_0, k0_pay8 (F := Ideal) (win280 W 3 (by decide))⟩,
    ⟨Rect.unit ![1, 0, 0] S1x280x1024.size inb_S7x280x1024_S1x280x1024_1_0_0, k0_pay7 (F := Ideal) (win280 W 2 (by decide))⟩,
    ⟨Rect.unit ![0, 0, 0] S1x280x1024.size inb_S7x280x1024_S1x280x1024_0_0_0, k0_pay6 (F := Ideal) (win280 W 1 (by decide))⟩]

theorem cover_ring (W : Vec Ideal S288x1024 .f32) (y : S7x280x1024.Idx) : ∃ p ∈ ringPieces W, y ∈ p.1.set := by
  have h0 : (y 0).val < 7 := (y 0).isLt
  have h1 : (y 1).val < 280 := (y 1).isLt
  have h2 : (y 2).val < 1024 := (y 2).isLt
  have key : ∀ (s : Nat) (inb : ∀ a, (![s, 0, 0] : Fin 3 → Nat) a + S1x280x1024.size a ≤ S7x280x1024.size a), (y 0).val = s →
      y ∈ (Rect.unit (s := S7x280x1024) ![s, 0, 0] S1x280x1024.size inb).set := by
    intro s inb hs
    refine Rect.mem_set_unit.mpr fun a => ?_
    match a with
    | ⟨0, _⟩ => exact ⟨show s ≤ (y 0).val by omega, show (y 0).val < s + 1 by omega⟩
    | ⟨1, _⟩ => exact ⟨Nat.zero_le _, show (y 1).val < 0 + 280 by omega⟩
    | ⟨2, _⟩ => exact ⟨Nat.zero_le _, show (y 2).val < 0 + 1024 by omega⟩
  have hc : (y 0).val = 6 ∨ (y 0).val = 5 ∨ (y 0).val = 4 ∨ (y 0).val = 3 ∨ (y 0).val = 2 ∨ (y 0).val = 1 ∨ (y 0).val = 0 := by omega
  rcases hc with hs | hs | hs | hs | hs | hs | hs
  · exact ⟨_, List.mem_cons_self, key 6 inb_S7x280x1024_S1x280x1024_6_0_0 hs⟩
  · exact ⟨_, List.mem_cons_of_mem _ List.mem_cons_self, key 5 inb_S7x280x1024_S1x280x1024_5_0_0 hs⟩
  · exact ⟨_, List.mem_cons_of_mem _ (List.mem_cons_of_mem _ List.mem_cons_self), key 4 inb_S7x280x1024_S1x280x1024_4_0_0 hs⟩
  · exact ⟨_, List.mem_cons_of_mem _ (List.mem_cons_of_mem _ (List.mem_cons_of_mem _ List.mem_cons_self)), key 3 inb_S7x280x1024_S1x280x1024_3_0_0 hs⟩
  · exact ⟨_, List.mem_cons_of_mem _ (List.mem_cons_of_mem _ (List.mem_cons_of_mem _ (List.mem_cons_of_mem _ List.mem_cons_self))), key 2 inb_S7x280x1024_S1x280x1024_2_0_0 hs⟩
  · exact ⟨_, List.mem_cons_of_mem _ (List.mem_cons_of_mem _ (List.mem_cons_of_mem _ (List.mem_cons_of_mem _ (List.mem_cons_of_mem _ List.mem_cons_self)))), key 1 inb_S7x280x1024_S1x280x1024_1_0_0 hs⟩
  · exact ⟨_, List.mem_cons_of_mem _ (List.mem_cons_of_mem _ (List.mem_cons_of_mem _ (List.mem_cons_of_mem _ (List.mem_cons_of_mem _ (List.mem_cons_of_mem _ List.mem_cons_self))))), key 0 inb_S7x280x1024_S1x280x1024_0_0_0 hs⟩

/-- Copy `s`'s store agrees with the copies at its place. -/
theorem ring_piece (W : Vec Ideal S288x1024 .f32) (s : Nat) (hs : s + 1 ≤ 8) (inb : ∀ a, (![s, 0, 0] : Fin 3 → Nat) a + S1x280x1024.size a ≤ S7x280x1024.size a)
    (w : Vec Ideal S1x280x1024 .f32) (hw : ∀ (r : Fin 280) (c : Fin 1024), w (ix3 0 r c) = win280 W (s + 1) hs (ix2 r c)) (x : S1x280x1024.Idx) :
    w x = ring W ((Rect.unit (s := S7x280x1024) ![s, 0, 0] S1x280x1024.size inb).emb x) := by
  obtain ⟨r, c, rfl⟩ : ∃ (r : Fin 280) (c : Fin 1024), x = ix3 0 r c := ⟨x 1, x 2, by
    funext a
    match a with
    | ⟨0, _⟩ => exact Fin.ext (show (x 0).val = 0 by have : (x 0).val < 1 := (x 0).isLt; omega)
    | ⟨1, _⟩ => rfl
    | ⟨2, _⟩ => rfl⟩
  rw [hw]
  refine congrArg W (funext fun a => Fin.ext ?_)
  match a with
  | ⟨0, _⟩ => show s + 1 + r.val = s + 1 * 0 + 1 + (0 + 1 * r.val); omega
  | ⟨1, _⟩ => show c.val = 0 + 1 * c.val; omega

theorem canon_ring (W : Vec Ideal S288x1024 .f32) : View.canon (ringPieces W) = ring W := by
  funext y
  refine View.canon_apply_of_pieces (ring W) _ (fun p hp x => ?_) y (cover_ring W y)
  simp only [ringPieces, List.mem_cons, List.not_mem_nil, or_false] at hp
  rcases hp with rfl | rfl | rfl | rfl | rfl | rfl | rfl
  · exact ring_piece W 6 (by decide) inb_S7x280x1024_S1x280x1024_6_0_0 (k0_pay12 (F := Ideal) (win280 W 7 (by decide))) (fun r c => by unfold k0_pay12; generalize win280 W 7 _ = z; pointwise) x
  · exact ring_piece W 5 (by decide) inb_S7x280x1024_S1x280x1024_5_0_0 (k0_pay11 (F := Ideal) (win280 W 6 (by decide))) (fun r c => by unfold k0_pay11; generalize win280 W 6 _ = z; pointwise) x
  · exact ring_piece W 4 (by decide) inb_S7x280x1024_S1x280x1024_4_0_0 (k0_pay10 (F := Ideal) (win280 W 5 (by decide))) (fun r c => by unfold k0_pay10; generalize win280 W 5 _ = z; pointwise) x
  · exact ring_piece W 3 (by decide) inb_S7x280x1024_S1x280x1024_3_0_0 (k0_pay9 (F := Ideal) (win280 W 4 (by decide))) (fun r c => by unfold k0_pay9; generalize win280 W 4 _ = z; pointwise) x
  · exact ring_piece W 2 (by decide) inb_S7x280x1024_S1x280x1024_2_0_0 (k0_pay8 (F := Ideal) (win280 W 3 (by decide))) (fun r c => by unfold k0_pay8; generalize win280 W 3 _ = z; pointwise) x
  · exact ring_piece W 1 (by decide) inb_S7x280x1024_S1x280x1024_1_0_0 (k0_pay7 (F := Ideal) (win280 W 2 (by decide))) (fun r c => by unfold k0_pay7; generalize win280 W 2 _ = z; pointwise) x
  · exact ring_piece W 0 (by decide) inb_S7x280x1024_S1x280x1024_0_0_0 (k0_pay6 (F := Ideal) (win280 W 1 (by decide))) (fun r c => by unfold k0_pay6; generalize win280 W 1 _ = z; pointwise) x

/-- A load of 256 rows of copy `s`, from its row `b`. -/
theorem read3 (v : View sig .tc .vmem S7x280x1024 .f32) (W : Vec Ideal S288x1024 .f32) (s b : Nat) (ho : b + (s + 1) ≤ 32)
    (inb : ∀ a, (![s, b, 0] : Fin 3 → Nat) a + S1x256x1024.size a ≤ S7x280x1024.size a) :
    v.readCov (ringPieces W) (Rect.unit (s := S7x280x1024) ![s, b, 0] S1x256x1024.size inb).toLoadRect = win3 W (b + (s + 1)) ho := by
  rw [View.readCov_eq_canon_ld v _ _ (cover_ring W), canon_ring]
  funext x
  have h0 : (x 0).val < 1 := (x 0).isLt
  refine congrArg W (funext fun a => Fin.ext ?_)
  match a with
  | ⟨0, _⟩ => show s + 1 * (x 0).val + 1 + (b + 1 * (x 1).val) = b + (s + 1) + (x 1).val; omega
  | ⟨1, _⟩ => show 0 + 1 * (x 2).val = (x 2).val; omega

/-- A load of one row of the filter. -/
theorem read_row (a : Memref sig .tc .vmem S31x1024 .f32) (ha : a.IsWhole) (x4 : Vec Ideal S31x1024 .f32) (j : Nat) (hj : j < 31)
    (inb : ∀ a, (![j, 0] : Fin 2 → Nat) a + S1x1024.size a ≤ S31x1024.size a) :
    View.readAt (Elt Ideal) a.view (Rect.unit (s := S31x1024) ![j, 0] S1x1024.size inb).toLoadRect (ha.unread x4) = row x4 ⟨j, hj⟩ := by
  rw [View.readAt_eq_ld, ha.read_unread]
  funext x
  have h0 : (x 0).val < 1 := (x 0).isLt
  refine congrArg x4 (funext fun a => Fin.ext ?_)
  match a with
  | ⟨0, _⟩ => show j + 1 * (x 0).val = j; omega
  | ⟨1, _⟩ => show 0 + 1 * (x 1).val = (x 1).val; omega

/-- The last 32 rows of a buffer. -/
def tail (W : Vec Ideal S288x1024 .f32) : Vec Ideal S32x1024 .f32 := fun i =>
  W (ix2 ⟨256 + (i 0).val, by have : (i 0).val < 32 := (i 0).isLt; omega⟩ (i 1))

/-- A load of them. -/
theorem read_tail (a : Memref sig .tc .vmem S288x1024 .f32) (ha : a.IsWhole) (W : Vec Ideal S288x1024 .f32)
    (inb : ∀ a, (![256, 0] : Fin 2 → Nat) a + S32x1024.size a ≤ S288x1024.size a) :
    k0_pay4 (View.readAt (Elt Ideal) a.view (Rect.unit (s := S288x1024) ![256, 0] S32x1024.size inb).toLoadRect (ha.unread W)) = tail W := by
  unfold k0_pay4
  rw [View.readAt_eq_ld, ha.read_unread]
  refine (shapeCast_self _ _).trans ?_
  funext x
  refine congrArg W (funext fun a => Fin.ext ?_)
  match a with
  | ⟨0, _⟩ => show 256 + 1 * (x 0).val = 256 + (x 0).val; omega
  | ⟨1, _⟩ => show 0 + 1 * (x 1).val = (x 1).val; omega

end Cert.Proof.Conf

end
-- ==== Proof.ConfRun.lean ====
/-
  What the convolution kernel's two paths leave: at the first block of a batch entry (path A) the halo is zeros, at a later block (path B)
  it is the last 32 rows of the buffer of the block before. Either way the block stored is `stored` of the gated rows and the buffer,
  and the buffer is `buf` of the gated rows and the halo.
-/
module

public import proofs.«01_k».proof.Proof.ConfBuf

@[expose] public section

set_option maxRecDepth 16384

noncomputable section

namespace Cert.Proof.Conf

open Idealize.ShloMosaic Idealize.SL.Sem Cert.ConfIdeal Cert.ConfIdeal.Gen Idealize.ShloMosaic.TcCoe
open Cert.Proof

/-- A load of a whole array of rank two reads it. -/
theorem read_all2 {m n : Nat} {e : EltTy} (a : Memref sig .tc .vmem ⟨2, ![m, n]⟩ e) (ha : a.IsWhole) (x : Vec Ideal ⟨2, ![m, n]⟩ e)
    (inb : ∀ a, (![0, 0] : Fin 2 → Nat) a + (![m, n] : Fin 2 → Nat) a ≤ (![m, n] : Fin 2 → Nat) a) :
    View.readAt (Elt Ideal) a.view (Rect.unit (s := ⟨2, ![m, n]⟩) ![0, 0] ![m, n] inb).toLoadRect (ha.unread x) = x := by
  rw [View.readAt_eq_ld, ha.read_unread]
  exact View.ld_unit_zero zeros2 _ _

/-- And of rank three. -/
theorem read_all3 {l m n : Nat} {e : EltTy} (a : Memref sig .tc .vmem ⟨3, ![l, m, n]⟩ e) (ha : a.IsWhole) (x : Vec Ideal ⟨3, ![l, m, n]⟩ e)
    (inb : ∀ a, (![0, 0, 0] : Fin 3 → Nat) a + (![l, m, n] : Fin 3 → Nat) a ≤ (![l, m, n] : Fin 3 → Nat) a) :
    View.readAt (Elt Ideal) a.view (Rect.unit (s := ⟨3, ![l, m, n]⟩) ![0, 0, 0] ![l, m, n] inb).toLoadRect (ha.unread x) = x := by
  rw [View.readAt_eq_ld, ha.read_unread]
  exact View.ld_unit_zero zeros3 _ _

section

variable (c : Dev nD) (i : grid0.Coords)
  (arg2 : Memref sig .tc .vmem S1x256x1024 .f32) (harg2 : arg2.IsWhole)
  (arg3 : Memref sig .tc .vmem S1x1024 .f32) (harg3 : arg3.IsWhole)
  (arg4 : Memref sig .tc .vmem S1024x2048 .bf16) (harg4 : arg4.IsWhole)
  (arg5 : Memref sig .tc .vmem S1x2048 .f32) (harg5 : arg5.IsWhole)
  (arg6 : Memref sig .tc .vmem S31x1024 .f32) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S1x1024 .f32) (harg9 : arg9.IsWhole)
  (arg10 : Memref sig .tc .vmem S1x256x1024 .bf16) (harg10 : arg10.IsWhole)
  (arg11 : Memref sig .tc .vmem S288x1024 .f32) (harg11 : arg11.IsWhole)
  (arg12 : Memref sig .tc .vmem S7x280x1024 .f32) (harg12 : arg12.IsWhole)
  (x0 : Vec Ideal S1x256x1024 .f32) (x1 : Vec Ideal S1x1024 .f32) (x2 : Vec Ideal S1024x2048 .bf16) (x3 : Vec Ideal S1x2048 .f32) (x4 : Vec Ideal S31x1024 .f32)
  (x5 x6 x7 : Vec Ideal S1x1024 .f32) (xs0 : Vec Ideal S288x1024 .f32)

/-- The gated rows of path A. -/
theorem gated_A : kernelRun0_A.sl.r (F := Ideal) c arg2 harg2 arg3 harg3 arg4 harg4 arg5 harg5 x0 x1 x2 x3 = (k0_pay2 (F := Ideal) x0 x1 x2 x3) := by
  unfold kernelRun0_A.sl.r
  exact congr (congr (congr (congrArg (k0_pay2 (F := Ideal)) (read_all3 arg2 harg2 x0 _)) (read_all2 arg3 harg3 x1 _)) (read_all2 arg4 harg4 x2 _)) (read_all2 arg5 harg5 x3 _)

/-- The stores into the buffer. -/
theorem pieces_A : kernelRun0_A.sl.HS0_2 (F := Ideal) c arg2 harg2 arg3 harg3 arg4 harg4 arg5 harg5 x0 x1 x2 x3 = bufPieces (k0_pay2 (F := Ideal) x0 x1 x2 x3) (k0_pay3 (F := Ideal)) := by
  unfold kernelRun0_A.sl.HS0_2
  rw [gated_A c arg2 harg2 arg3 harg3 arg4 harg4 arg5 harg5 x0 x1 x2 x3]

theorem A_v43 : kernelRun0_A.sl.v43 (F := Ideal) c arg2 harg2 arg3 harg3 arg4 harg4 arg5 harg5 arg11 x0 x1 x2 x3 = win280 (buf (k0_pay2 (F := Ideal) x0 x1 x2 x3) (k0_pay3 (F := Ideal))) 1 (by decide) := by
  unfold kernelRun0_A.sl.v43
  rw [pieces_A]
  exact read280 _ _ _ _ _ _

theorem A_v47 : kernelRun0_A.sl.v47 (F := Ideal) c arg2 harg2 arg3 harg3 arg4 harg4 arg5 harg5 arg11 x0 x1 x2 x3 = win280 (buf (k0_pay2 (F := Ideal) x0 x1 x2 x3) (k0_pay3 (F := Ideal))) 2 (by decide) := by
  unfold kernelRun0_A.sl.v47
  rw [pieces_A]
  exact read280 _ _ _ _ _ _

theorem A_v51 : kernelRun0_A.sl.v51 (F := Ideal) c arg2 harg2 arg3 harg3 arg4 harg4 arg5 harg5 arg11 x0 x1 x2 x3 = win280 (buf (k0_pay2 (F := Ideal) x0 x1 x2 x3) (k0_pay3 (F := Ideal))) 3 (by decide) := by
  unfold kernelRun0_A.sl.v51
  rw [pieces_A]
  exact read280 _ _ _ _ _ _

theorem A_v55 : kernelRun0_A.sl.v55 (F := Ideal) c arg2 harg2 arg3 harg3 arg4 harg4 arg5 harg5 arg11 x0 x1 x2 x3 = win280 (buf (k0_pay2 (F := Ideal) x0 x1 x2 x3) (k0_pay3 (F := Ideal))) 4 (by decide) := by
  unfold kernelRun0_A.sl.v55
  rw [pieces_A]
  exact read280 _ _ _ _ _ _

theorem A_v59 : kernelRun0_A.sl.v59 (F := Ideal) c arg2 harg2 arg3 harg3 arg4 harg4 arg5 harg5 arg11 x0 x1 x2 x3 = win280 (buf (k0_pay2 (F := Ideal) x0 x1 x2 x3) (k0_pay3 (F := Ideal))) 5 (by decide) := by
  unfold kernelRun0_A.sl.v59
  rw [pieces_A]
  exact read280 _ _ _ _ _ _

theorem A_v63 : kernelRun0_A.sl.v63 (F := Ideal) c arg2 harg2 arg3 harg3 arg4 harg4 arg5 harg5 arg11 x0 x1 x2 x3 = win280 (buf (k0_pay2 (F := Ideal) x0 x1 x2 x3) (k0_pay3 (F := Ideal))) 6 (by decide) := by
  unfold kernelRun0_A.sl.v63
  rw [pieces_A]
  exact read280 _ _ _ _ _ _

theorem A_v67 : kernelRun0_A.sl.v67 (F := Ideal) c arg2 harg2 arg3 harg3 arg4 harg4 arg5 harg5 arg11 x0 x1 x2 x3 = win280 (buf (k0_pay2 (F := Ideal) x0 x1 x2 x3) (k0_pay3 (F := Ideal))) 7 (by decide) := by
  unfold kernelRun0_A.sl.v67
  rw [pieces_A]
  exact read280 _ _ _ _ _ _

/-- The stores into the copies. -/
theorem copies_A : kernelRun0_A.sl.HS1_7 (F := Ideal) c arg2 harg2 arg3 harg3 arg4 harg4 arg5 harg5 arg11 x0 x1 x2 x3 = ringPieces (buf (k0_pay2 (F := Ideal) x0 x1 x2 x3) (k0_pay3 (F := Ideal))) := by
  unfold kernelRun0_A.sl.HS1_7
  rw [A_v67, A_v63, A_v59, A_v55, A_v51, A_v47, A_v43]

theorem A_v102 : kernelRun0_A.sl.v102 (F := Ideal) c arg2 harg2 arg3 harg3 arg4 harg4 arg5 harg5 arg11 arg12 x0 x1 x2 x3 = win3 (buf (k0_pay2 (F := Ideal) x0 x1 x2 x3) (k0_pay3 (F := Ideal))) 6 (by decide) := by
  unfold kernelRun0_A.sl.v102
  rw [copies_A]
  exact read3 _ _ 5 0 (by decide) _

theorem A_v108 : kernelRun0_A.sl.v108 (F := Ideal) c arg2 harg2 arg3 harg3 arg4 harg4 arg5 harg5 arg11 arg12 x0 x1 x2 x3 = win3 (buf (k0_pay2 (F := Ideal) x0 x1 x2 x3) (k0_pay3 (F := Ideal))) 7 (by decide) := by
  unfold kernelRun0_A.sl.v108
  rw [copies_A]
  exact read3 _ _ 6 0 (by decide) _

theorem A_v114 : kernelRun0_A.sl.v114 (F := Ideal) c arg2 harg2 arg3 harg3 arg4 harg4 arg5 harg5 arg11 x0 x1 x2 x3 = win2 (buf (k0_pay2 (F := Ideal) x0 x1 x2 x3) (k0_pay3 (F := Ideal))) 8 (by decide) := by
  unfold kernelRun0_A.sl.v114
  rw [pieces_A]
  exact read2 _ _ _ _ _ _

theorem A_v119 : kernelRun0_A.sl.v119 (F := Ideal) c arg2 harg2 arg3 harg3 arg4 harg4 arg5 harg5 arg11 arg12 x0 x1 x2 x3 = win3 (buf (k0_pay2 (F := Ideal) x0 x1 x2 x3) (k0_pay3 (F := Ideal))) 9 (by decide) := by
  unfold kernelRun0_A.sl.v119
  rw [copies_A]
  exact read3 _ _ 0 8 (by decide) _

theorem A_v125 : kernelRun0_A.sl.v125 (F := Ideal) c arg2 harg2 arg3 harg3 arg4 harg4 arg5 harg5 arg11 arg12 x0 x1 x2 x3 = win3 (buf (k0_pay2 (F := Ideal) x0 x1 x2 x3) (k0_pay3 (F := Ideal))) 10 (by decide) := by
  unfold kernelRun0_A.sl.v125
  rw [copies_A]
  exact read3 _ _ 1 8 (by decide) _

theorem A_v131 : kernelRun0_A.sl.v131 (F := Ideal) c arg2 harg2 arg3 harg3 arg4 harg4 arg5 harg5 arg11 arg12 x0 x1 x2 x3 = win3 (buf (k0_pay2 (F := Ideal) x0 x1 x2 x3) (k0_pay3 (F := Ideal))) 11 (by decide) := by
  unfold kernelRun0_A.sl.v131
  rw [copies_A]
  exact read3 _ _ 2 8 (by decide) _

theorem A_v137 : kernelRun0_A.sl.v137 (F := Ideal) c arg2 harg2 arg3 harg3 arg4 harg4 arg5 harg5 arg11 arg12 x0 x1 x2 x3 = win3 (buf (k0_pay2 (F := Ideal) x0 x1 x2 x3) (k0_pay3 (F := Ideal))) 12 (by decide) := by
  unfold kernelRun0_A.sl.v137
  rw [copies_A]
  exact read3 _ _ 3 8 (by decide) _

theorem A_v143 : kernelRun0_A.sl.v143 (F := Ideal) c arg2 harg2 arg3 harg3 arg4 harg4 arg5 harg5 arg11 arg12 x0 x1 x2 x3 = win3 (buf (k0_pay2 (F := Ideal) x0 x1 x2 x3) (k0_pay3 (F := Ideal))) 13 (by decide) := by
  unfold kernelRun0_A.sl.v143
  rw [copies_A]
  exact read3 _ _ 4 8 (by decide) _

theorem A_v149 : kernelRun0_A.sl.v149 (F := Ideal) c arg2 harg2 arg3 harg3 arg4 harg4 arg5 harg5 arg11 arg12 x0 x1 x2 x3 = win3 (buf (k0_pay2 (F := Ideal) x0 x1 x2 x3) (k0_pay3 (F := Ideal))) 14 (by decide) := by
  unfold kernelRun0_A.sl.v149
  rw [copies_A]
  exact read3 _ _ 5 8 (by decide) _

theorem A_v155 : kernelRun0_A.sl.v155 (F := Ideal) c arg2 harg2 arg3 harg3 arg4 harg4 arg5 harg5 arg11 arg12 x0 x1 x2 x3 = win3 (buf (k0_pay2 (F := Ideal) x0 x1 x2 x3) (k0_pay3 (F := Ideal))) 15 (by decide) := by
  unfold kernelRun0_A.sl.v155
  rw [copies_A]
  exact read3 _ _ 6 8 (by decide) _

theorem A_v161 : kernelRun0_A.sl.v161 (F := Ideal) c arg2 harg2 arg3 harg3 arg4 harg4 arg5 harg5 arg11 x0 x1 x2 x3 = win2 (buf (k0_pay2 (F := Ideal) x0 x1 x2 x3) (k0_pay3 (F := Ideal))) 16 (by decide) := by
  unfold kernelRun0_A.sl.v161
  rw [pieces_A]
  exact read2 _ _ _ _ _ _

theorem A_v166 : kernelRun0_A.sl.v166 (F := Ideal) c arg2 harg2 arg3 harg3 arg4 harg4 arg5 harg5 arg11 arg12 x0 x1 x2 x3 = win3 (buf (k0_pay2 (F := Ideal) x0 x1 x2 x3) (k0_pay3 (F := Ideal))) 17 (by decide) := by
  unfold kernelRun0_A.sl.v166
  rw [copies_A]
  exact read3 _ _ 0 16 (by decide) _

theorem A_v172 : kernelRun0_A.sl.v172 (F := Ideal) c arg2 harg2 arg3 harg3 arg4 harg4 arg5 harg5 arg11 arg12 x0 x1 x2 x3 = win3 (buf (k0_pay2 (F := Ideal) x0 x1 x2 x3) (k0_pay3 (F := Ideal))) 18 (by decide) := by
  unfold kernelRun0_A.sl.v172
  rw [copies_A]
  exact read3 _ _ 1 16 (by decide) _

theorem A_v178 : kernelRun0_A.sl.v178 (F := Ideal) c arg2 harg2 arg3 harg3 arg4 harg4 arg5 harg5 arg11 arg12 x0 x1 x2 x3 = win3 (buf (k0_pay2 (F := Ideal) x0 x1 x2 x3) (k0_pay3 (F := Ideal))) 19 (by decide) := by
  unfold kernelRun0_A.sl.v178
  rw [copies_A]
  exact read3 _ _ 2 16 (by decide) _

theorem A_v184 : kernelRun0_A.sl.v184 (F := Ideal) c arg2 harg2 arg3 harg3 arg4 harg4 arg5 harg5 arg11 arg12 x0 x1 x2 x3 = win3 (buf (k0_pay2 (F := Ideal) x0 x1 x2 x3) (k0_pay3 (F := Ideal))) 20 (by decide) := by
  unfold kernelRun0_A.sl.v184
  rw [copies_A]
  exact read3 _ _ 3 16 (by decide) _

theorem A_v190 : kernelRun0_A.sl.v190 (F := Ideal) c arg2 harg2 arg3 harg3 arg4 harg4 arg5 harg5 arg11 arg12 x0 x1 x2 x3 = win3 (buf (k0_pay2 (F := Ideal) x0 x1 x2 x3) (k0_pay3 (F := Ideal))) 21 (by decide) := by
  unfold kernelRun0_A.sl.v190
  rw [copies_A]
  exact read3 _ _ 4 16 (by decide) _

theorem A_v196 : kernelRun0_A.sl.v196 (F := Ideal) c arg2 harg2 arg3 harg3 arg4 harg4 arg5 harg5 arg11 arg12 x0 x1 x2 x3 = win3 (buf (k0_pay2 (F := Ideal) x0 x1 x2 x3) (k0_pay3 (F := Ideal))) 22 (by decide) := by
  unfold kernelRun0_A.sl.v196
  rw [copies_A]
  exact read3 _ _ 5 16 (by decide) _

theorem A_v202 : kernelRun0_A.sl.v202 (F := Ideal) c arg2 harg2 arg3 harg3 arg4 harg4 arg5 harg5 arg11 arg12 x0 x1 x2 x3 = win3 (buf (k0_pay2 (F := Ideal) x0 x1 x2 x3) (k0_pay3 (F := Ideal))) 23 (by decide) := by
  unfold kernelRun0_A.sl.v202
  rw [copies_A]
  exact read3 _ _ 6 16 (by decide) _

theorem A_v208 : kernelRun0_A.sl.v208 (F := Ideal) c arg2 harg2 arg3 harg3 arg4 harg4 arg5 harg5 arg11 x0 x1 x2 x3 = win2 (buf (k0_pay2 (F := Ideal) x0 x1 x2 x3) (k0_pay3 (F := Ideal))) 24 (by decide) := by
  unfold kernelRun0_A.sl.v208
  rw [pieces_A]
  exact read2 _ _ _ _ _ _

theorem A_v213 : kernelRun0_A.sl.v213 (F := Ideal) c arg2 harg2 arg3 harg3 arg4 harg4 arg5 harg5 arg11 arg12 x0 x1 x2 x3 = win3 (buf (k0_pay2 (F := Ideal) x0 x1 x2 x3) (k0_pay3 (F := Ideal))) 25 (by decide) := by
  unfold kernelRun0_A.sl.v213
  rw [copies_A]
  exact read3 _ _ 0 24 (by decide) _

theorem A_v219 : kernelRun0_A.sl.v219 (F := Ideal) c arg2 harg2 arg3 harg3 arg4 harg4 arg5 harg5 arg11 arg12 x0 x1 x2 x3 = win3 (buf (k0_pay2 (F := Ideal) x0 x1 x2 x3) (k0_pay3 (F := Ideal))) 26 (by decide) := by
  unfold kernelRun0_A.sl.v219
  rw [copies_A]
  exact read3 _ _ 1 24 (by decide) _

theorem A_v225 : kernelRun0_A.sl.v225 (F := Ideal) c arg2 harg2 arg3 harg3 arg4 harg4 arg5 harg5 arg11 arg12 x0 x1 x2 x3 = win3 (buf (k0_pay2 (F := Ideal) x0 x1 x2 x3) (k0_pay3 (F := Ideal))) 27 (by decide) := by
  unfold kernelRun0_A.sl.v225
  rw [copies_A]
  exact read3 _ _ 2 24 (by decide) _

theorem A_v231 : kernelRun0_A.sl.v231 (F := Ideal) c arg2 harg2 arg3 harg3 arg4 harg4 arg5 harg5 arg11 arg12 x0 x1 x2 x3 = win3 (buf (k0_pay2 (F := Ideal) x0 x1 x2 x3) (k0_pay3 (F := Ideal))) 28 (by decide) := by
  unfold kernelRun0_A.sl.v231
  rw [copies_A]
  exact read3 _ _ 3 24 (by decide) _

theorem A_v237 : kernelRun0_A.sl.v237 (F := Ideal) c arg2 harg2 arg3 harg3 arg4 harg4 arg5 harg5 arg11 arg12 x0 x1 x2 x3 = win3 (buf (k0_pay2 (F := Ideal) x0 x1 x2 x3) (k0_pay3 (F := Ideal))) 29 (by decide) := by
  unfold kernelRun0_A.sl.v237
  rw [copies_A]
  exact read3 _ _ 4 24 (by decide) _

theorem A_v243 : kernelRun0_A.sl.v243 (F := Ideal) c arg2 harg2 arg3 harg3 arg4 harg4 arg5 harg5 arg11 arg12 x0 x1 x2 x3 = win3 (buf (k0_pay2 (F := Ideal) x0 x1 x2 x3) (k0_pay3 (F := Ideal))) 30 (by decide) := by
  unfold kernelRun0_A.sl.v243
  rw [copies_A]
  exact read3 _ _ 5 24 (by decide) _

theorem A_v249 : kernelRun0_A.sl.v249 (F := Ideal) c arg2 harg2 arg3 harg3 arg4 harg4 arg5 harg5 arg11 arg12 x0 x1 x2 x3 = win3 (buf (k0_pay2 (F := Ideal) x0 x1 x2 x3) (k0_pay3 (F := Ideal))) 31 (by decide) := by
  unfold kernelRun0_A.sl.v249
  rw [copies_A]
  exact read3 _ _ 6 24 (by decide) _

theorem A_v78 : kernelRun0_A.sl.v78 (F := Ideal) c arg2 harg2 arg3 harg3 arg4 harg4 arg5 harg5 arg11 arg12 x0 x1 x2 x3 = win3 (buf (k0_pay2 (F := Ideal) x0 x1 x2 x3) (k0_pay3 (F := Ideal))) 2 (by decide) := by
  unfold kernelRun0_A.sl.v78
  rw [copies_A]
  exact read3 _ _ 1 0 (by decide) _

theorem A_v84 : kernelRun0_A.sl.v84 (F := Ideal) c arg2 harg2 arg3 harg3 arg4 harg4 arg5 harg5 arg11 arg12 x0 x1 x2 x3 = win3 (buf (k0_pay2 (F := Ideal) x0 x1 x2 x3) (k0_pay3 (F := Ideal))) 3 (by decide) := by
  unfold kernelRun0_A.sl.v84
  rw [copies_A]
  exact read3 _ _ 2 0 (by decide) _

theorem A_v90 : kernelRun0_A.sl.v90 (F := Ideal) c arg2 harg2 arg3 harg3 arg4 harg4 arg5 harg5 arg11 arg12 x0 x1 x2 x3 = win3 (buf (k0_pay2 (F := Ideal) x0 x1 x2 x3) (k0_pay3 (F := Ideal))) 4 (by decide) := by
  unfold kernelRun0_A.sl.v90
  rw [copies_A]
  exact read3 _ _ 3 0 (by decide) _

theorem A_v96 : kernelRun0_A.sl.v96 (F := Ideal) c arg2 harg2 arg3 harg3 arg4 harg4 arg5 harg5 arg11 arg12 x0 x1 x2 x3 = win3 (buf (k0_pay2 (F := Ideal) x0 x1 x2 x3) (k0_pay3 (F := Ideal))) 5 (by decide) := by
  unfold kernelRun0_A.sl.v96
  rw [copies_A]
  exact read3 _ _ 4 0 (by decide) _

theorem A_part1 : kernelRun0_A.sl.r_1 (F := Ideal) c arg2 harg2 arg3 harg3 arg4 harg4 arg5 harg5 arg6 harg6 arg7 harg7 arg11 arg12 x0 x1 x2 x3 x4 x5 = part1 (k0_pay2 (F := Ideal) x0 x1 x2 x3) (buf (k0_pay2 (F := Ideal) x0 x1 x2 x3) (k0_pay3 (F := Ideal))) x4 x5 := by
  unfold kernelRun0_A.sl.r_1 part1
  rw [gated_A, A_v78, A_v84]
  simp only [read_row arg6 harg6 x4 0 (by decide), read_row arg6 harg6 x4 1 (by decide), read_row arg6 harg6 x4 30 (by decide), read_all2 arg7 harg7 x5]
  rfl

theorem A_part2 : kernelRun0_A.sl.r_3 (F := Ideal) c arg2 harg2 arg3 harg3 arg4 harg4 arg5 harg5 arg6 harg6 arg7 harg7 arg11 arg12 x0 x1 x2 x3 x4 x5 = part2 (k0_pay2 (F := Ideal) x0 x1 x2 x3) (buf (k0_pay2 (F := Ideal) x0 x1 x2 x3) (k0_pay3 (F := Ideal))) x4 x5 := by
  unfold kernelRun0_A.sl.r_3 kernelRun0_A.sl.r_2 part2
  rw [A_part1, A_v96, A_v102, A_v108, A_v114, A_v119, A_v90]
  simp only [read_row arg6 harg6 x4 2 (by decide), read_row arg6 harg6 x4 3 (by decide), read_row arg6 harg6 x4 4 (by decide), read_row arg6 harg6 x4 5 (by decide), read_row arg6 harg6 x4 6 (by decide), read_row arg6 harg6 x4 7 (by decide)]
  rfl

theorem A_part3 : kernelRun0_A.sl.r_4 (F := Ideal) c arg2 harg2 arg3 harg3 arg4 harg4 arg5 harg5 arg6 harg6 arg7 harg7 arg11 arg12 x0 x1 x2 x3 x4 x5 = part3 (k0_pay2 (F := Ideal) x0 x1 x2 x3) (buf (k0_pay2 (F := Ideal) x0 x1 x2 x3) (k0_pay3 (F := Ideal))) x4 x5 := by
  unfold kernelRun0_A.sl.r_4 part3
  rw [A_part2, A_v125, A_v131, A_v137, A_v143, A_v149]
  simp only [read_row arg6 harg6 x4 8 (by decide), read_row arg6 harg6 x4 9 (by decide), read_row arg6 harg6 x4 10 (by decide), read_row arg6 harg6 x4 11 (by decide), read_row arg6 harg6 x4 12 (by decide)]
  rfl

theorem A_part4 : kernelRun0_A.sl.r_7 (F := Ideal) c arg2 harg2 arg3 harg3 arg4 harg4 arg5 harg5 arg6 harg6 arg7 harg7 arg11 arg12 x0 x1 x2 x3 x4 x5 = part4 (k0_pay2 (F := Ideal) x0 x1 x2 x3) (buf (k0_pay2 (F := Ideal) x0 x1 x2 x3) (k0_pay3 (F := Ideal))) x4 x5 := by
  unfold kernelRun0_A.sl.r_7 kernelRun0_A.sl.r_5 kernelRun0_A.sl.r_6 part4
  rw [A_part3, A_v161, A_v166, A_v172, A_v178, A_v184, A_v155]
  simp only [read_row arg6 harg6 x4 13 (by decide), read_row arg6 harg6 x4 14 (by decide), read_row arg6 harg6 x4 15 (by decide), read_row arg6 harg6 x4 16 (by decide), read_row arg6 harg6 x4 17 (by decide), read_row arg6 harg6 x4 18 (by decide)]
  rfl

theorem A_part5 : kernelRun0_A.sl.r_8 (F := Ideal) c arg2 harg2 arg3 harg3 arg4 harg4 arg5 harg5 arg6 harg6 arg7 harg7 arg11 arg12 x0 x1 x2 x3 x4 x5 = part5 (k0_pay2 (F := Ideal) x0 x1 x2 x3) (buf (k0_pay2 (F := Ideal) x0 x1 x2 x3) (k0_pay3 (F := Ideal))) x4 x5 := by
  unfold kernelRun0_A.sl.r_8 part5
  rw [A_part4, A_v190, A_v196, A_v202, A_v208, A_v213, A_v219]
  simp only [read_row arg6 harg6 x4 19 (by decide), read_row arg6 harg6 x4 20 (by decide), read_row arg6 harg6 x4 21 (by decide), read_row arg6 harg6 x4 22 (by decide), read_row arg6 harg6 x4 23 (by decide), read_row arg6 harg6 x4 24 (by decide)]
  rfl

theorem A_part6 : kernelRun0_A.sl.r_9 (F := Ideal) c arg2 harg2 arg3 harg3 arg4 harg4 arg5 harg5 arg6 harg6 arg7 harg7 arg11 arg12 x0 x1 x2 x3 x4 x5 = part6 (k0_pay2 (F := Ideal) x0 x1 x2 x3) (buf (k0_pay2 (F := Ideal) x0 x1 x2 x3) (k0_pay3 (F := Ideal))) x4 x5 := by
  unfold kernelRun0_A.sl.r_9 part6
  rw [A_part5, A_v225, A_v231, A_v237, A_v243, A_v249]
  simp only [read_row arg6 harg6 x4 25 (by decide), read_row arg6 harg6 x4 26 (by decide), read_row arg6 harg6 x4 27 (by decide), read_row arg6 harg6 x4 28 (by decide), read_row arg6 harg6 x4 29 (by decide)]
  rfl

theorem A_square : kernelRun0_A.sl.r_10 (F := Ideal) c arg2 harg2 arg3 harg3 arg4 harg4 arg5 harg5 arg6 harg6 arg7 harg7 arg11 arg12 x0 x1 x2 x3 x4 x5 = k0_pay21 (part5 (k0_pay2 (F := Ideal) x0 x1 x2 x3) (buf (k0_pay2 (F := Ideal) x0 x1 x2 x3) (k0_pay3 (F := Ideal))) x4 x5) (win3 (buf (k0_pay2 (F := Ideal) x0 x1 x2 x3) (k0_pay3 (F := Ideal))) 27 (by decide)) (row x4 25) (win3 (buf (k0_pay2 (F := Ideal) x0 x1 x2 x3) (k0_pay3 (F := Ideal))) 28 (by decide)) (row x4 26)
      (win3 (buf (k0_pay2 (F := Ideal) x0 x1 x2 x3) (k0_pay3 (F := Ideal))) 29 (by decide)) (row x4 27) (win3 (buf (k0_pay2 (F := Ideal) x0 x1 x2 x3) (k0_pay3 (F := Ideal))) 30 (by decide)) (row x4 28) (win3 (buf (k0_pay2 (F := Ideal) x0 x1 x2 x3) (k0_pay3 (F := Ideal))) 31 (by decide)) (row x4 29) := by
  unfold kernelRun0_A.sl.r_10
  rw [A_part5, A_v225, A_v231, A_v237, A_v243, A_v249]
  simp only [read_row arg6 harg6 x4 25 (by decide), read_row arg6 harg6 x4 26 (by decide), read_row arg6 harg6 x4 27 (by decide), read_row arg6 harg6 x4 28 (by decide), read_row arg6 harg6 x4 29 (by decide)]
  rfl

/-- The gated rows of path B. -/
theorem gated_B : kernelRun0_B.sl.r (F := Ideal) c arg2 harg2 arg3 harg3 arg4 harg4 arg5 harg5 x0 x1 x2 x3 = (k0_pay2 (F := Ideal) x0 x1 x2 x3) := by
  unfold kernelRun0_B.sl.r
  exact congr (congr (congr (congrArg (k0_pay2 (F := Ideal)) (read_all3 arg2 harg2 x0 _)) (read_all2 arg3 harg3 x1 _)) (read_all2 arg4 harg4 x2 _)) (read_all2 arg5 harg5 x3 _)

/-- The stores into the buffer. -/
theorem pieces_B : kernelRun0_B.sl.HS0_2 (F := Ideal) c arg2 harg2 arg3 harg3 arg4 harg4 arg5 harg5 arg11 harg11 x0 x1 x2 x3 xs0 = bufPieces (k0_pay2 (F := Ideal) x0 x1 x2 x3) (tail xs0) := by
  unfold kernelRun0_B.sl.HS0_2
  rw [gated_B c arg2 harg2 arg3 harg3 arg4 harg4 arg5 harg5 x0 x1 x2 x3, read_tail arg11 harg11 xs0]

theorem B_v43 : kernelRun0_B.sl.v43 (F := Ideal) c arg2 harg2 arg3 harg3 arg4 harg4 arg5 harg5 arg11 harg11 x0 x1 x2 x3 xs0 = win280 (buf (k0_pay2 (F := Ideal) x0 x1 x2 x3) (tail xs0)) 1 (by decide) := by
  unfold kernelRun0_B.sl.v43
  rw [pieces_B]
  exact read280 _ _ _ _ _ _

theorem B_v47 : kernelRun0_B.sl.v47 (F := Ideal) c arg2 harg2 arg3 harg3 arg4 harg4 arg5 harg5 arg11 harg11 x0 x1 x2 x3 xs0 = win280 (buf (k0_pay2 (F := Ideal) x0 x1 x2 x3) (tail xs0)) 2 (by decide) := by
  unfold kernelRun0_B.sl.v47
  rw [pieces_B]
  exact read280 _ _ _ _ _ _

theorem B_v51 : kernelRun0_B.sl.v51 (F := Ideal) c arg2 harg2 arg3 harg3 arg4 harg4 arg5 harg5 arg11 harg11 x0 x1 x2 x3 xs0 = win280 (buf (k0_pay2 (F := Ideal) x0 x1 x2 x3) (tail xs0)) 3 (by decide) := by
  unfold kernelRun0_B.sl.v51
  rw [pieces_B]
  exact read280 _ _ _ _ _ _

theorem B_v55 : kernelRun0_B.sl.v55 (F := Ideal) c arg2 harg2 arg3 harg3 arg4 harg4 arg5 harg5 arg11 harg11 x0 x1 x2 x3 xs0 = win280 (buf (k0_pay2 (F := Ideal) x0 x1 x2 x3) (tail xs0)) 4 (by decide) := by
  unfold kernelRun0_B.sl.v55
  rw [pieces_B]
  exact read280 _ _ _ _ _ _

theorem B_v59 : kernelRun0_B.sl.v59 (F := Ideal) c arg2 harg2 arg3 harg3 arg4 harg4 arg5 harg5 arg11 harg11 x0 x1 x2 x3 xs0 = win280 (buf (k0_pay2 (F := Ideal) x0 x1 x2 x3) (tail xs0)) 5 (by decide) := by
  unfold kernelRun0_B.sl.v59
  rw [pieces_B]
  exact read280 _ _ _ _ _ _

theorem B_v63 : kernelRun0_B.sl.v63 (F := Ideal) c arg2 harg2 arg3 harg3 arg4 harg4 arg5 harg5 arg11 harg11 x0 x1 x2 x3 xs0 = win280 (buf (k0_pay2 (F := Ideal) x0 x1 x2 x3) (tail xs0)) 6 (by decide) := by
  unfold kernelRun0_B.sl.v63
  rw [pieces_B]
  exact read280 _ _ _ _ _ _

theorem B_v67 : kernelRun0_B.sl.v67 (F := Ideal) c arg2 harg2 arg3 harg3 arg4 harg4 arg5 harg5 arg11 harg11 x0 x1 x2 x3 xs0 = win280 (buf (k0_pay2 (F := Ideal) x0 x1 x2 x3) (tail xs0)) 7 (by decide) := by
  unfold kernelRun0_B.sl.v67
  rw [pieces_B]
  exact read280 _ _ _ _ _ _

/-- The stores into the copies. -/
theorem copies_B : kernelRun0_B.sl.HS1_7 (F := Ideal) c arg2 harg2 arg3 harg3 arg4 harg4 arg5 harg5 arg11 harg11 x0 x1 x2 x3 xs0 = ringPieces (buf (k0_pay2 (F := Ideal) x0 x1 x2 x3) (tail xs0)) := by
  unfold kernelRun0_B.sl.HS1_7
  rw [B_v67, B_v63, B_v59, B_v55, B_v51, B_v47, B_v43]

theorem B_v102 : kernelRun0_B.sl.v102 (F := Ideal) c arg2 harg2 arg3 harg3 arg4 harg4 arg5 harg5 arg11 harg11 arg12 x0 x1 x2 x3 xs0 = win3 (buf (k0_pay2 (F := Ideal) x0 x1 x2 x3) (tail xs0)) 6 (by decide) := by
  unfold kernelRun0_B.sl.v102
  rw [copies_B]
  exact read3 _ _ 5 0 (by decide) _

theorem B_v108 : kernelRun0_B.sl.v108 (F := Ideal) c arg2 harg2 arg3 harg3 arg4 harg4 arg5 harg5 arg11 harg11 arg12 x0 x1 x2 x3 xs0 = win3 (buf (k0_pay2 (F := Ideal) x0 x1 x2 x3) (tail xs0)) 7 (by decide) := by
  unfold kernelRun0_B.sl.v108
  rw [copies_B]
  exact read3 _ _ 6 0 (by decide) _

theorem B_v114 : kernelRun0_B.sl.v114 (F := Ideal) c arg2 harg2 arg3 harg3 arg4 harg4 arg5 harg5 arg11 harg11 x0 x1 x2 x3 xs0 = win2 (buf (k0_pay2 (F := Ideal) x0 x1 x2 x3) (tail xs0)) 8 (by decide) := by
  unfold kernelRun0_B.sl.v114
  rw [pieces_B]
  exact read2 _ _ _ _ _ _

theorem B_v119 : kernelRun0_B.sl.v119 (F := Ideal) c arg2 harg2 arg3 harg3 arg4 harg4 arg5 harg5 arg11 harg11 arg12 x0 x1 x2 x3 xs0 = win3 (buf (k0_pay2 (F := Ideal) x0 x1 x2 x3) (tail xs0)) 9 (by decide) := by
  unfold kernelRun0_B.sl.v119
  rw [copies_B]
  exact read3 _ _ 0 8 (by decide) _

theorem B_v125 : kernelRun0_B.sl.v125 (F := Ideal) c arg2 harg2 arg3 harg3 arg4 harg4 arg5 harg5 arg11 harg11 arg12 x0 x1 x2 x3 xs0 = win3 (buf (k0_pay2 (F := Ideal) x0 x1 x2 x3) (tail xs0)) 10 (by decide) := by
  unfold kernelRun0_B.sl.v125
  rw [copies_B]
  exact read3 _ _ 1 8 (by decide) _

theorem B_v131 : kernelRun0_B.sl.v131 (F := Ideal) c arg2 harg2 arg3 harg3 arg4 harg4 arg5 harg5 arg11 harg11 arg12 x0 x1 x2 x3 xs0 = win3 (buf (k0_pay2 (F := Ideal) x0 x1 x2 x3) (tail xs0)) 11 (by decide) := by
  unfold kernelRun0_B.sl.v131
  rw [copies_B]
  exact read3 _ _ 2 8 (by decide) _

theorem B_v137 : kernelRun0_B.sl.v137 (F := Ideal) c arg2 harg2 arg3 harg3 arg4 harg4 arg5 harg5 arg11 harg11 arg12 x0 x1 x2 x3 xs0 = win3 (buf (k0_pay2 (F := Ideal) x0 x1 x2 x3) (tail xs0)) 12 (by decide) := by
  unfold kernelRun0_B.sl.v137
  rw [copies_B]
  exact read3 _ _ 3 8 (by decide) _

theorem B_v143 : kernelRun0_B.sl.v143 (F := Ideal) c arg2 harg2 arg3 harg3 arg4 harg4 arg5 harg5 arg11 harg11 arg12 x0 x1 x2 x3 xs0 = win3 (buf (k0_pay2 (F := Ideal) x0 x1 x2 x3) (tail xs0)) 13 (by decide) := by
  unfold kernelRun0_B.sl.v143
  rw [copies_B]
  exact read3 _ _ 4 8 (by decide) _

theorem B_v149 : kernelRun0_B.sl.v149 (F := Ideal) c arg2 harg2 arg3 harg3 arg4 harg4 arg5 harg5 arg11 harg11 arg12 x0 x1 x2 x3 xs0 = win3 (buf (k0_pay2 (F := Ideal) x0 x1 x2 x3) (tail xs0)) 14 (by decide) := by
  unfold kernelRun0_B.sl.v149
  rw [copies_B]
  exact read3 _ _ 5 8 (by decide) _

theorem B_v155 : kernelRun0_B.sl.v155 (F := Ideal) c arg2 harg2 arg3 harg3 arg4 harg4 arg5 harg5 arg11 harg11 arg12 x0 x1 x2 x3 xs0 = win3 (buf (k0_pay2 (F := Ideal) x0 x1 x2 x3) (tail xs0)) 15 (by decide) := by
  unfold kernelRun0_B.sl.v155
  rw [copies_B]
  exact read3 _ _ 6 8 (by decide) _

theorem B_v161 : kernelRun0_B.sl.v161 (F := Ideal) c arg2 harg2 arg3 harg3 arg4 harg4 arg5 harg5 arg11 harg11 x0 x1 x2 x3 xs0 = win2 (buf (k0_pay2 (F := Ideal) x0 x1 x2 x3) (tail xs0)) 16 (by decide) := by
  unfold kernelRun0_B.sl.v161
  rw [pieces_B]
  exact read2 _ _ _ _ _ _

theorem B_v166 : kernelRun0_B.sl.v166 (F := Ideal) c arg2 harg2 arg3 harg3 arg4 harg4 arg5 harg5 arg11 harg11 arg12 x0 x1 x2 x3 xs0 = win3 (buf (k0_pay2 (F := Ideal) x0 x1 x2 x3) (tail xs0)) 17 (by decide) := by
  unfold kernelRun0_B.sl.v166
  rw [copies_B]
  exact read3 _ _ 0 16 (by decide) _

theorem B_v172 : kernelRun0_B.sl.v172 (F := Ideal) c arg2 harg2 arg3 harg3 arg4 harg4 arg5 harg5 arg11 harg11 arg12 x0 x1 x2 x3 xs0 = win3 (buf (k0_pay2 (F := Ideal) x0 x1 x2 x3) (tail xs0)) 18 (by decide) := by
  unfold kernelRun0_B.sl.v172
  rw [copies_B]
  exact read3 _ _ 1 16 (by decide) _

theorem B_v178 : kernelRun0_B.sl.v178 (F := Ideal) c arg2 harg2 arg3 harg3 arg4 harg4 arg5 harg5 arg11 harg11 arg12 x0 x1 x2 x3 xs0 = win3 (buf (k0_pay2 (F := Ideal) x0 x1 x2 x3) (tail xs0)) 19 (by decide) := by
  unfold kernelRun0_B.sl.v178
  rw [copies_B]
  exact read3 _ _ 2 16 (by decide) _

theorem B_v184 : kernelRun0_B.sl.v184 (F := Ideal) c arg2 harg2 arg3 harg3 arg4 harg4 arg5 harg5 arg11 harg11 arg12 x0 x1 x2 x3 xs0 = win3 (buf (k0_pay2 (F := Ideal) x0 x1 x2 x3) (tail xs0)) 20 (by decide) := by
  unfold kernelRun0_B.sl.v184
  rw [copies_B]
  exact read3 _ _ 3 16 (by decide) _

theorem B_v190 : kernelRun0_B.sl.v190 (F := Ideal) c arg2 harg2 arg3 harg3 arg4 harg4 arg5 harg5 arg11 harg11 arg12 x0 x1 x2 x3 xs0 = win3 (buf (k0_pay2 (F := Ideal) x0 x1 x2 x3) (tail xs0)) 21 (by decide) := by
  unfold kernelRun0_B.sl.v190
  rw [copies_B]
  exact read3 _ _ 4 16 (by decide) _

theorem B_v196 : kernelRun0_B.sl.v196 (F := Ideal) c arg2 harg2 arg3 harg3 arg4 harg4 arg5 harg5 arg11 harg11 arg12 x0 x1 x2 x3 xs0 = win3 (buf (k0_pay2 (F := Ideal) x0 x1 x2 x3) (tail xs0)) 22 (by decide) := by
  unfold kernelRun0_B.sl.v196
  rw [copies_B]
  exact read3 _ _ 5 16 (by decide) _

theorem B_v202 : kernelRun0_B.sl.v202 (F := Ideal) c arg2 harg2 arg3 harg3 arg4 harg4 arg5 harg5 arg11 harg11 arg12 x0 x1 x2 x3 xs0 = win3 (buf (k0_pay2 (F := Ideal) x0 x1 x2 x3) (tail xs0)) 23 (by decide) := by
  unfold kernelRun0_B.sl.v202
  rw [copies_B]
  exact read3 _ _ 6 16 (by decide) _

theorem B_v208 : kernelRun0_B.sl.v208 (F := Ideal) c arg2 harg2 arg3 harg3 arg4 harg4 arg5 harg5 arg11 harg11 x0 x1 x2 x3 xs0 = win2 (buf (k0_pay2 (F := Ideal) x0 x1 x2 x3) (tail xs0)) 24 (by decide) := by
  unfold kernelRun0_B.sl.v208
  rw [pieces_B]
  exact read2 _ _ _ _ _ _

theorem B_v213 : kernelRun0_B.sl.v213 (F := Ideal) c arg2 harg2 arg3 harg3 arg4 harg4 arg5 harg5 arg11 harg11 arg12 x0 x1 x2 x3 xs0 = win3 (buf (k0_pay2 (F := Ideal) x0 x1 x2 x3) (tail xs0)) 25 (by decide) := by
  unfold kernelRun0_B.sl.v213
  rw [copies_B]
  exact read3 _ _ 0 24 (by decide) _

theorem B_v219 : kernelRun0_B.sl.v219 (F := Ideal) c arg2 harg2 arg3 harg3 arg4 harg4 arg5 harg5 arg11 harg11 arg12 x0 x1 x2 x3 xs0 = win3 (buf (k0_pay2 (F := Ideal) x0 x1 x2 x3) (tail xs0)) 26 (by decide) := by
  unfold kernelRun0_B.sl.v219
  rw [copies_B]
  exact read3 _ _ 1 24 (by decide) _

theorem B_v225 : kernelRun0_B.sl.v225 (F := Ideal) c arg2 harg2 arg3 harg3 arg4 harg4 arg5 harg5 arg11 harg11 arg12 x0 x1 x2 x3 xs0 = win3 (buf (k0_pay2 (F := Ideal) x0 x1 x2 x3) (tail xs0)) 27 (by decide) := by
  unfold kernelRun0_B.sl.v225
  rw [copies_B]
  exact read3 _ _ 2 24 (by decide) _

theorem B_v231 : kernelRun0_B.sl.v231 (F := Ideal) c arg2 harg2 arg3 harg3 arg4 harg4 arg5 harg5 arg11 harg11 arg12 x0 x1 x2 x3 xs0 = win3 (buf (k0_pay2 (F := Ideal) x0 x1 x2 x3) (tail xs0)) 28 (by decide) := by
  unfold kernelRun0_B.sl.v231
  rw [copies_B]
  exact read3 _ _ 3 24 (by decide) _

theorem B_v237 : kernelRun0_B.sl.v237 (F := Ideal) c arg2 harg2 arg3 harg3 arg4 harg4 arg5 harg5 arg11 harg11 arg12 x0 x1 x2 x3 xs0 = win3 (buf (k0_pay2 (F := Ideal) x0 x1 x2 x3) (tail xs0)) 29 (by decide) := by
  unfold kernelRun0_B.sl.v237
  rw [copies_B]
  exact read3 _ _ 4 24 (by decide) _

theorem B_v243 : kernelRun0_B.sl.v243 (F := Ideal) c arg2 harg2 arg3 harg3 arg4 harg4 arg5 harg5 arg11 harg11 arg12 x0 x1 x2 x3 xs0 = win3 (buf (k0_pay2 (F := Ideal) x0 x1 x2 x3) (tail xs0)) 30 (by decide) := by
  unfold kernelRun0_B.sl.v243
  rw [copies_B]
  exact read3 _ _ 5 24 (by decide) _

theorem B_v249 : kernelRun0_B.sl.v249 (F := Ideal) c arg2 harg2 arg3 harg3 arg4 harg4 arg5 harg5 arg11 harg11 arg12 x0 x1 x2 x3 xs0 = win3 (buf (k0_pay2 (F := Ideal) x0 x1 x2 x3) (tail xs0)) 31 (by decide) := by
  unfold kernelRun0_B.sl.v249
  rw [copies_B]
  exact read3 _ _ 6 24 (by decide) _

theorem B_v78 : kernelRun0_B.sl.v78 (F := Ideal) c arg2 harg2 arg3 harg3 arg4 harg4 arg5 harg5 arg11 harg11 arg12 x0 x1 x2 x3 xs0 = win3 (buf (k0_pay2 (F := Ideal) x0 x1 x2 x3) (tail xs0)) 2 (by decide) := by
  unfold kernelRun0_B.sl.v78
  rw [copies_B]
  exact read3 _ _ 1 0 (by decide) _

theorem B_v84 : kernelRun0_B.sl.v84 (F := Ideal) c arg2 harg2 arg3 harg3 arg4 harg4 arg5 harg5 arg11 harg11 arg12 x0 x1 x2 x3 xs0 = win3 (buf (k0_pay2 (F := Ideal) x0 x1 x2 x3) (tail xs0)) 3 (by decide) := by
  unfold kernelRun0_B.sl.v84
  rw [copies_B]
  exact read3 _ _ 2 0 (by decide) _

theorem B_v90 : kernelRun0_B.sl.v90 (F := Ideal) c arg2 harg2 arg3 harg3 arg4 harg4 arg5 harg5 arg11 harg11 arg12 x0 x1 x2 x3 xs0 = win3 (buf (k0_pay2 (F := Ideal) x0 x1 x2 x3) (tail xs0)) 4 (by decide) := by
  unfold kernelRun0_B.sl.v90
  rw [copies_B]
  exact read3 _ _ 3 0 (by decide) _

theorem B_v96 : kernelRun0_B.sl.v96 (F := Ideal) c arg2 harg2 arg3 harg3 arg4 harg4 arg5 harg5 arg11 harg11 arg12 x0 x1 x2 x3 xs0 = win3 (buf (k0_pay2 (F := Ideal) x0 x1 x2 x3) (tail xs0)) 5 (by decide) := by
  unfold kernelRun0_B.sl.v96
  rw [copies_B]
  exact read3 _ _ 4 0 (by decide) _

theorem B_part1 : kernelRun0_B.sl.r_1 (F := Ideal) c arg2 harg2 arg3 harg3 arg4 harg4 arg5 harg5 arg6 harg6 arg7 harg7 arg11 harg11 arg12 x0 x1 x2 x3 x4 x5 xs0 = part1 (k0_pay2 (F := Ideal) x0 x1 x2 x3) (buf (k0_pay2 (F := Ideal) x0 x1 x2 x3) (tail xs0)) x4 x5 := by
  unfold kernelRun0_B.sl.r_1 part1
  rw [gated_B, B_v78, B_v84]
  simp only [read_row arg6 harg6 x4 0 (by decide), read_row arg6 harg6 x4 1 (by decide), read_row arg6 harg6 x4 30 (by decide), read_all2 arg7 harg7 x5]
  rfl

theorem B_part2 : kernelRun0_B.sl.r_3 (F := Ideal) c arg2 harg2 arg3 harg3 arg4 harg4 arg5 harg5 arg6 harg6 arg7 harg7 arg11 harg11 arg12 x0 x1 x2 x3 x4 x5 xs0 = part2 (k0_pay2 (F := Ideal) x0 x1 x2 x3) (buf (k0_pay2 (F := Ideal) x0 x1 x2 x3) (tail xs0)) x4 x5 := by
  unfold kernelRun0_B.sl.r_3 kernelRun0_B.sl.r_2 part2
  rw [B_part1, B_v96, B_v102, B_v108, B_v114, B_v119, B_v90]
  simp only [read_row arg6 harg6 x4 2 (by decide), read_row arg6 harg6 x4 3 (by decide), read_row arg6 harg6 x4 4 (by decide), read_row arg6 harg6 x4 5 (by decide), read_row arg6 harg6 x4 6 (by decide), read_row arg6 harg6 x4 7 (by decide)]
  rfl

theorem B_part3 : kernelRun0_B.sl.r_4 (F := Ideal) c arg2 harg2 arg3 harg3 arg4 harg4 arg5 harg5 arg6 harg6 arg7 harg7 arg11 harg11 arg12 x0 x1 x2 x3 x4 x5 xs0 = part3 (k0_pay2 (F := Ideal) x0 x1 x2 x3) (buf (k0_pay2 (F := Ideal) x0 x1 x2 x3) (tail xs0)) x4 x5 := by
  unfold kernelRun0_B.sl.r_4 part3
  rw [B_part2, B_v125, B_v131, B_v137, B_v143, B_v149]
  simp only [read_row arg6 harg6 x4 8 (by decide), read_row arg6 harg6 x4 9 (by decide), read_row arg6 harg6 x4 10 (by decide), read_row arg6 harg6 x4 11 (by decide), read_row arg6 harg6 x4 12 (by decide)]
  rfl

theorem B_part4 : kernelRun0_B.sl.r_7 (F := Ideal) c arg2 harg2 arg3 harg3 arg4 harg4 arg5 harg5 arg6 harg6 arg7 harg7 arg11 harg11 arg12 x0 x1 x2 x3 x4 x5 xs0 = part4 (k0_pay2 (F := Ideal) x0 x1 x2 x3) (buf (k0_pay2 (F := Ideal) x0 x1 x2 x3) (tail xs0)) x4 x5 := by
  unfold kernelRun0_B.sl.r_7 kernelRun0_B.sl.r_5 kernelRun0_B.sl.r_6 part4
  rw [B_part3, B_v161, B_v166, B_v172, B_v178, B_v184, B_v155]
  simp only [read_row arg6 harg6 x4 13 (by decide), read_row arg6 harg6 x4 14 (by decide), read_row arg6 harg6 x4 15 (by decide), read_row arg6 harg6 x4 16 (by decide), read_row arg6 harg6 x4 17 (by decide), read_row arg6 harg6 x4 18 (by decide)]
  rfl

theorem B_part5 : kernelRun0_B.sl.r_8 (F := Ideal) c arg2 harg2 arg3 harg3 arg4 harg4 arg5 harg5 arg6 harg6 arg7 harg7 arg11 harg11 arg12 x0 x1 x2 x3 x4 x5 xs0 = part5 (k0_pay2 (F := Ideal) x0 x1 x2 x3) (buf (k0_pay2 (F := Ideal) x0 x1 x2 x3) (tail xs0)) x4 x5 := by
  unfold kernelRun0_B.sl.r_8 part5
  rw [B_part4, B_v190, B_v196, B_v202, B_v208, B_v213, B_v219]
  simp only [read_row arg6 harg6 x4 19 (by decide), read_row arg6 harg6 x4 20 (by decide), read_row arg6 harg6 x4 21 (by decide), read_row arg6 harg6 x4 22 (by decide), read_row arg6 harg6 x4 23 (by decide), read_row arg6 harg6 x4 24 (by decide)]
  rfl

theorem B_part6 : kernelRun0_B.sl.r_9 (F := Ideal) c arg2 harg2 arg3 harg3 arg4 harg4 arg5 harg5 arg6 harg6 arg7 harg7 arg11 harg11 arg12 x0 x1 x2 x3 x4 x5 xs0 = part6 (k0_pay2 (F := Ideal) x0 x1 x2 x3) (buf (k0_pay2 (F := Ideal) x0 x1 x2 x3) (tail xs0)) x4 x5 := by
  unfold kernelRun0_B.sl.r_9 part6
  rw [B_part5, B_v225, B_v231, B_v237, B_v243, B_v249]
  simp only [read_row arg6 harg6 x4 25 (by decide), read_row arg6 harg6 x4 26 (by decide), read_row arg6 harg6 x4 27 (by decide), read_row arg6 harg6 x4 28 (by decide), read_row arg6 harg6 x4 29 (by decide)]
  rfl

theorem B_square : kernelRun0_B.sl.r_10 (F := Ideal) c arg2 harg2 arg3 harg3 arg4 harg4 arg5 harg5 arg6 harg6 arg7 harg7 arg11 harg11 arg12 x0 x1 x2 x3 x4 x5 xs0 = k0_pay21 (part5 (k0_pay2 (F := Ideal) x0 x1 x2 x3) (buf (k0_pay2 (F := Ideal) x0 x1 x2 x3) (tail xs0)) x4 x5) (win3 (buf (k0_pay2 (F := Ideal) x0 x1 x2 x3) (tail xs0)) 27 (by decide)) (row x4 25) (win3 (buf (k0_pay2 (F := Ideal) x0 x1 x2 x3) (tail xs0)) 28 (by decide)) (row x4 26)
      (win3 (buf (k0_pay2 (F := Ideal) x0 x1 x2 x3) (tail xs0)) 29 (by decide)) (row x4 27) (win3 (buf (k0_pay2 (F := Ideal) x0 x1 x2 x3) (tail xs0)) 30 (by decide)) (row x4 28) (win3 (buf (k0_pay2 (F := Ideal) x0 x1 x2 x3) (tail xs0)) 31 (by decide)) (row x4 29) := by
  unfold kernelRun0_B.sl.r_10
  rw [B_part5, B_v225, B_v231, B_v237, B_v243, B_v249]
  simp only [read_row arg6 harg6 x4 25 (by decide), read_row arg6 harg6 x4 26 (by decide), read_row arg6 harg6 x4 27 (by decide), read_row arg6 harg6 x4 28 (by decide), read_row arg6 harg6 x4 29 (by decide)]
  rfl

/-- What path A stores in the result. -/
theorem out_A (hc0 : cond0_0 i) (hc1 : ¬cond0_1 i) :
    out0_A_8 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7
      = stored (k0_pay2 (F := Ideal) x0 x1 x2 x3) (buf (k0_pay2 (F := Ideal) x0 x1 x2 x3) (k0_pay3 (F := Ideal))) x4 x5 x6 x7 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 hc0 hc1 x0 x1 x2 x3 x4 x5 x6 x7)]
  unfold kernelRun0_A
  refine (View.canon_unit_zero zeros3 _ _).trans ?_
  unfold stored
  exact congr (congr (congr (congr (congrArg (k0_pay1 (F := Ideal)) (A_part6 ..)) (A_square ..)) rfl) (read_all2 arg8 harg8 x6 _)) (read_all2 arg9 harg9 x7 _)

/-- What it leaves in the buffer. -/
theorem carry_A (hc0 : cond0_0 i) (hc1 : ¬cond0_1 i) :
    sout0_A_0 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 = (buf (k0_pay2 (F := Ideal) x0 x1 x2 x3) (k0_pay3 (F := Ideal))) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7)]
  unfold kernelRun0_A
  exact (congrArg View.canon (pieces_A ..)).trans (canon_buf _ _)

/-- What path B stores in the result. -/
theorem out_B (hc0 : ¬cond0_0 i) (hc1 : cond0_1 i) :
    out0_B_8 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0
      = stored (k0_pay2 (F := Ideal) x0 x1 x2 x3) (buf (k0_pay2 (F := Ideal) x0 x1 x2 x3) (tail xs0)) x4 x5 x6 x7 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0)]
  unfold kernelRun0_B
  refine (View.canon_unit_zero zeros3 _ _).trans ?_
  unfold stored
  exact congr (congr (congr (congr (congrArg (k0_pay1 (F := Ideal)) (B_part6 ..)) (B_square ..)) rfl) (read_all2 arg8 harg8 x6 _)) (read_all2 arg9 harg9 x7 _)

/-- What it leaves in the buffer. -/
theorem carry_B (hc0 : ¬cond0_0 i) (hc1 : cond0_1 i) :
    sout0_B_0 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 = (buf (k0_pay2 (F := Ideal) x0 x1 x2 x3) (tail xs0)) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0)]
  unfold kernelRun0_B
  exact (congrArg View.canon (pieces_B ..)).trans (canon_buf _ _)

end

end Cert.Proof.Conf

end
-- ==== Proof.ConfValue.lean ====
/-
  The result array of the convolution kernel, index by index: at batch entry `b`, position `s` and column `c` it is `Row.inner` of the rows
  of the entry. Grid point `t` reads 256 positions of entry `t / 32` and keeps its gated rows in the buffer; the first block of an entry has
  zeros above them, a later one the last 32 rows of the block before, so the buffer always holds the 288 gated rows that end at the block.
-/
module

public import proofs.«01_k».proof.Defs
public import proofs.«01_k».proof.Proof.ConfRun
public import Idealize.ShloMosaic.Lib.Pointwise

@[expose] public section

set_option maxRecDepth 16384

noncomputable section

namespace Cert.Proof.Conf

open Idealize.ShloMosaic Idealize.SL.Sem Cert.ConfIdeal Cert.ConfIdeal.Gen Idealize.ShloMosaic.TcCoe
open Idealize.ShloMosaic.Pipeline (Dat)
open Cert.Proof

variable (m : (ℓ : Loc nD τ sig) → Buf (Elt Ideal) ℓ) (c : Dev nD)

/-! ## The arrays the region finds: the host's reshapes and cast of the arguments -/

theorem V_h : V m c main_arg0 = m ((c : Thread nD τ).loc main_arg0) := by
  dsimp only [V, hostOps0]; after_results
theorem V_cw : V m c main_arg4 = m ((c : Thread nD τ).loc main_arg4) := by
  dsimp only [V, hostOps0]; after_results
theorem V_g : V m c main_v0 = shapeCast S1x1024 (m ((c : Thread nD τ).loc main_arg1)) shapeCasts_S1024_S1x1024 := by
  dsimp only [V, hostOps0]; after_results; rfl
theorem V_g_apply (k : Fin 1024) : V m c main_v0 (ix2 0 k) = m ((c : Thread nD τ).loc main_arg1) (ix1 k) := by
  rw [V_g]; pointwise
theorem V_b : V m c main_v2 = shapeCast S1x2048 (m ((c : Thread nD τ).loc main_arg3)) shapeCasts_S2048_S1x2048 := by
  dsimp only [V, hostOps0]; after_results; rfl
theorem V_b_apply (k : Fin 2048) : V m c main_v2 (ix2 0 k) = m ((c : Thread nD τ).loc main_arg3) (ix1 k) := by
  rw [V_b]; pointwise
theorem V_cb : V m c main_v3 = shapeCast S1x1024 (m ((c : Thread nD τ).loc main_arg5)) shapeCasts_S1024_S1x1024 := by
  dsimp only [V, hostOps0]; after_results; rfl
theorem V_cb_apply (k : Fin 1024) : V m c main_v3 (ix2 0 k) = m ((c : Thread nD τ).loc main_arg5) (ix1 k) := by
  rw [V_cb]; pointwise
theorem V_lg : V m c main_v4 = shapeCast S1x1024 (m ((c : Thread nD τ).loc main_arg6)) shapeCasts_S1024_S1x1024 := by
  dsimp only [V, hostOps0]; after_results; rfl
theorem V_lg_apply (k : Fin 1024) : V m c main_v4 (ix2 0 k) = m ((c : Thread nD τ).loc main_arg6) (ix1 k) := by
  rw [V_lg]; pointwise
theorem V_lb : V m c main_v5 = shapeCast S1x1024 (m ((c : Thread nD τ).loc main_arg7)) shapeCasts_S1024_S1x1024 := by
  dsimp only [V, hostOps0]; after_results; rfl
theorem V_lb_apply (k : Fin 1024) : V m c main_v5 (ix2 0 k) = m ((c : Thread nD τ).loc main_arg7) (ix1 k) := by
  rw [V_lb]; pointwise
/-- The weights: a cast changes nothing here. -/
theorem V_w (i : S1024x2048.Idx) : V m c main_v1 i = m ((c : Thread nD τ).loc main_arg2) i := by
  dsimp only [V, hostOps0]; after_results; rfl

/-! ## Where each block lies in its array -/

theorem idx0 : ∀ t : Fin cfg0.N, win0_0.index t (0 : Fin 3) = t.val / 32 ∧ win0_0.index t (1 : Fin 3) = t.val % 32 ∧ win0_0.index t (2 : Fin 3) = 0 := (by decide +kernel : ∀ t : Fin grid0.N, _)
theorem idx8 : ∀ t : Fin cfg0.N, win0_8.index t (0 : Fin 3) = t.val / 32 ∧ win0_8.index t (1 : Fin 3) = t.val % 32 ∧ win0_8.index t (2 : Fin 3) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)
theorem idx7 : ∀ t : Fin cfg0.N, win0_7.index t (0 : Fin 2) = 0 ∧ win0_7.index t (1 : Fin 2) = 0 := (by decide +kernel : ∀ t : Fin grid0.N, _)

/-- The batch entry of grid point `t`. -/
abbrev bOf (t : Fin cfg0.N) : Fin 8 := ⟨t.val / 32, by have : t.val < 256 := t.isLt; omega⟩
/-- The position of row `r` of grid point `t`'s block. -/
abbrev pOf (t : Fin cfg0.N) (r : Fin 256) : Fin 8192 := ⟨t.val % 32 * 256 + r.val, by omega⟩

theorem blk_h (t : Fin cfg0.N) (r : Fin 256) (k : Fin 1024) : iblk m c 0 t (ix3 0 r k) = V m c main_arg0 (ix3 (bOf t) (pOf t r) k) := by
  obtain ⟨e0, e1, e2⟩ := idx0 t
  refine congrArg (V m c main_arg0) (funext fun a => Fin.ext ?_)
  match a with
  | ⟨0, _⟩ => show win0_0.index t (0 : Fin 3) * 1 + 1 * 0 = t.val / 32; omega
  | ⟨1, _⟩ => show win0_0.index t (1 : Fin 3) * 256 + 1 * r.val = t.val % 32 * 256 + r.val; omega
  | ⟨2, _⟩ => show win0_0.index t (2 : Fin 3) * 1024 + 1 * k.val = k.val; omega
theorem blk_g (t : Fin cfg0.N) (j : S1x1024.Idx) : iblk m c 1 t j = V m c main_v0 j := by
  obtain ⟨e0, e1⟩ := idx1 t
  refine congrArg (V m c main_v0) (funext fun a => Fin.ext ?_)
  match a with
  | ⟨0, _⟩ => show win0_1.index t (0 : Fin 2) * 1 + 1 * (j 0).val = (j 0).val; omega
  | ⟨1, _⟩ => show win0_1.index t (1 : Fin 2) * 1024 + 1 * (j 1).val = (j 1).val; omega
theorem blk_w (t : Fin cfg0.N) (j : S1024x2048.Idx) : iblk m c 2 t j = V m c main_v1 j := by
  obtain ⟨e0, e1⟩ := idx2 t
  refine congrArg (V m c main_v1) (funext fun a => Fin.ext ?_)
  match a with
  | ⟨0, _⟩ => show win0_2.index t (0 : Fin 2) * 1024 + 1 * (j 0).val = (j 0).val; omega
  | ⟨1, _⟩ => show win0_2.index t (1 : Fin 2) * 2048 + 1 * (j 1).val = (j 1).val; omega
theorem blk_b (t : Fin cfg0.N) (j : S1x2048.Idx) : iblk m c 3 t j = V m c main_v2 j := by
  obtain ⟨e0, e1⟩ := idx3 t
  refine congrArg (V m c main_v2) (funext fun a => Fin.ext ?_)
  match a with
  | ⟨0, _⟩ => show win0_3.index t (0 : Fin 2) * 1 + 1 * (j 0).val = (j 0).val; omega
  | ⟨1, _⟩ => show win0_3.index t (1 : Fin 2) * 2048 + 1 * (j 1).val = (j 1).val; omega
theorem blk_cw (t : Fin cfg0.N) (j : S31x1024.Idx) : iblk m c 4 t j = V m c main_arg4 j := by
  obtain ⟨e0, e1⟩ := idx4 t
  refine congrArg (V m c main_arg4) (funext fun a => Fin.ext ?_)
  match a with
  | ⟨0, _⟩ => show win0_4.index t (0 : Fin 2) * 31 + 1 * (j 0).val = (j 0).val; omega
  | ⟨1, _⟩ => show win0_4.index t (1 : Fin 2) * 1024 + 1 * (j 1).val = (j 1).val; omega
theorem blk_cb (t : Fin cfg0.N) (j : S1x1024.Idx) : iblk m c 5 t j = V m c main_v3 j := by
  obtain ⟨e0, e1⟩ := idx5 t
  refine congrArg (V m c main_v3) (funext fun a => Fin.ext ?_)
  match a with
  | ⟨0, _⟩ => show win0_5.index t (0 : Fin 2) * 1 + 1 * (j 0).val = (j 0).val; omega
  | ⟨1, _⟩ => show win0_5.index t (1 : Fin 2) * 1024 + 1 * (j 1).val = (j 1).val; omega
theorem blk_lg (t : Fin cfg0.N) (j : S1x1024.Idx) : iblk m c 6 t j = V m c main_v4 j := by
  obtain ⟨e0, e1⟩ := idx6 t
  refine congrArg (V m c main_v4) (funext fun a => Fin.ext ?_)
  match a with
  | ⟨0, _⟩ => show win0_6.index t (0 : Fin 2) * 1 + 1 * (j 0).val = (j 0).val; omega
  | ⟨1, _⟩ => show win0_6.index t (1 : Fin 2) * 1024 + 1 * (j 1).val = (j 1).val; omega
theorem blk_lb (t : Fin cfg0.N) (j : S1x1024.Idx) : iblk m c 7 t j = V m c main_v5 j := by
  obtain ⟨e0, e1⟩ := idx7 t
  refine congrArg (V m c main_v5) (funext fun a => Fin.ext ?_)
  match a with
  | ⟨0, _⟩ => show win0_7.index t (0 : Fin 2) * 1 + 1 * (j 0).val = (j 0).val; omega
  | ⟨1, _⟩ => show win0_7.index t (1 : Fin 2) * 1024 + 1 * (j 1).val = (j 1).val; omega
theorem emb_out (t : Fin cfg0.N) (r : Fin 256) (k : Fin 1024) : ((cfg0.win 8).blk t).view.emb (ix3 0 r k) = ix3 (bOf t) (pOf t r) k := by
  obtain ⟨e0, e1, e2⟩ := idx8 t
  funext a; apply Fin.ext
  match a with
  | ⟨0, _⟩ => show win0_8.index t (0 : Fin 3) * 1 + 1 * 0 = t.val / 32; omega
  | ⟨1, _⟩ => show win0_8.index t (1 : Fin 3) * 256 + 1 * r.val = t.val % 32 * 256 + r.val; omega
  | ⟨2, _⟩ => show win0_8.index t (2 : Fin 3) * 1024 + 1 * k.val = k.val; omega

/-! ## The result array -/

/-- The result array as one function of the arguments. -/
def G (h : Vec Ideal S8x8192x1024 .f32) (g : Vec Ideal S1024 .f32) (w : Vec Ideal S1024x2048 .f32) (b : Vec Ideal S2048 .f32)
    (cw : Vec Ideal S31x1024 .f32) (cb lg lb : Vec Ideal S1024 .f32) : Vec Ideal S8x8192x1024 .bf16 := fun i =>
  Row.inner (fun n k => h (ix3 (i 0) n k)) (fun k => g (ix1 k)) (fun k f => w (ix2 k f)) (fun f => b (ix1 f))
    (fun j k => cw (ix2 j k)) (fun k => cb (ix1 k)) (fun k => lg (ix1 k)) (fun k => lb (ix1 k)) (i 1) (i 2)

/-- `G` of the arguments as launched. -/
abbrev final : Vec Ideal S8x8192x1024 .bf16 :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- The gated row of batch entry `b` at position `s`, column `k`. -/
def gate (b : Fin 8) (s : Fin 8192) (k : Fin 1024) : EReal :=
  Row.glu (fun k => (m ((c : Thread nD τ).loc main_arg0)) (ix3 b s k)) (fun k => (m ((c : Thread nD τ).loc main_arg1)) (ix1 k)) (fun k f => (m ((c : Thread nD τ).loc main_arg2)) (ix2 k f)) (fun f => (m ((c : Thread nD τ).loc main_arg3)) (ix1 f)) k

/-- The gated rows of grid point `t`. -/
abbrev rows (t : Fin cfg0.N) : Vec Ideal S256x1024 .f32 := k0_pay2 (F := Ideal) (iblk m c 0 t) (iblk m c 1 t) (iblk m c 2 t) (iblk m c 3 t)

theorem rows_apply (t : Fin cfg0.N) (r : Fin 256) (k : Fin 1024) : rows m c t (ix2 r k) = gate m c (bOf t) (pOf t r) k := by
  refine (gated_apply _ _ _ _ r k).trans ?_
  exact Row.glu_congr (fun k => (blk_h m c t r k).trans (congrFun (V_h m c) _)) (fun k => (blk_g m c t _).trans (V_g_apply m c k))
    (fun _ _ => (blk_w m c t _).trans (V_w m c _)) (fun f => (blk_b m c t _).trans (V_b_apply m c f)) k

/-- The buffer after grid point `t`. -/
abbrev kept (t : Fin cfg0.N) : Vec Ideal S288x1024 .f32 := (outsAt0 m c t.val t.isLt).2

/-- The point before `t`. -/
abbrev prev (t : Fin cfg0.N) : Fin cfg0.N := ⟨t.val - 1, Nat.lt_of_le_of_lt (Nat.sub_le _ _) t.isLt⟩

theorem kept_A (t : Fin cfg0.N) (h0 : t.val % 32 = 0) : kept m c t = buf (rows m c t) (k0_pay3 (F := Ideal)) := by
  have h1 : ¬1 ≤ t.val % 32 := by omega
  unfold kept
  rw [outsAt0_A m c t h0 h1]
  dsimp only
  rw [carry_A]

theorem kept_B (t : Fin cfg0.N) (h0 : ¬t.val % 32 = 0) : kept m c t = buf (rows m c t) (tail (kept m c (prev t))) := by
  have h1 : 1 ≤ t.val % 32 := by omega
  unfold kept
  rw [outsAt0_B m c t h0 h1]
  dsimp only
  rw [carry_B]

/-- Its rows from 32 on are the point's gated rows. -/
theorem kept_low (t : Fin cfg0.N) (i : Fin 288) (hi : 32 ≤ i.val) (k : Fin 1024) :
    kept m c t (ix2 i k) = gate m c (bOf t) ⟨t.val % 32 * 256 + i.val - 32, by omega⟩ k := by
  have key : ∀ h, buf (rows m c t) h (ix2 i k) = gate m c (bOf t) ⟨t.val % 32 * 256 + i.val - 32, by omega⟩ k := by
    intro h
    unfold buf
    rw [dif_pos (show 32 ≤ ((ix2 i k : S288x1024.Idx) 0).val from hi)]
    refine (rows_apply m c t _ _).trans (congrArg (fun s => gate m c (bOf t) s k) (Fin.ext ?_))
    show t.val % 32 * 256 + (i.val - 32) = t.val % 32 * 256 + i.val - 32
    omega
  by_cases h0 : t.val % 32 = 0
  · rw [kept_A m c t h0]; exact key _
  · rw [kept_B m c t h0]; exact key _

/-- The buffer holds the 288 gated rows that end at the block, with zeros before the start of the batch entry. -/
theorem kept_apply (t : Fin cfg0.N) (i : Fin 288) (k : Fin 1024) :
    kept m c t (ix2 i k) = if h : 32 ≤ t.val % 32 * 256 + i.val then gate m c (bOf t) ⟨t.val % 32 * 256 + i.val - 32, by omega⟩ k else 0 := by
  by_cases hi : 32 ≤ i.val
  · rw [dif_pos (by omega)]
    exact kept_low m c t i hi k
  by_cases h0 : t.val % 32 = 0
  · rw [dif_neg (by omega), kept_A m c t h0]
    unfold buf
    rw [dif_neg (show ¬ 32 ≤ ((ix2 i k : S288x1024.Idx) 0).val from hi)]
    unfold k0_pay3
    pointwise
  · rw [dif_pos (by omega), kept_B m c t h0]
    unfold buf
    rw [dif_neg (show ¬ 32 ≤ ((ix2 i k : S288x1024.Idx) 0).val from hi)]
    have ht : t.val < 256 := t.isLt
    refine (kept_low m c (prev t) ⟨256 + i.val, by omega⟩ (show 32 ≤ 256 + i.val by omega) k).trans ?_
    refine congrArg₂ (fun b s => gate m c b s k) (Fin.ext ?_) (Fin.ext ?_)
    · show (t.val - 1) / 32 = t.val / 32; omega
    · show (t.val - 1) % 32 * 256 + (256 + i.val) - 32 = t.val % 32 * 256 + i.val - 32; omega

/-- What grid point `t` writes back. -/
theorem flushed_stored (t : Fin cfg0.N) : (dats m 0 c).flushed 8 t
    = (cfg0.win 8).cut (grid0.coords t) (stored (rows m c t) (kept m c t) (iblk m c 4 t) (iblk m c 5 t) (iblk m c 6 t) (iblk m c 7 t)) := by
  by_cases h0 : t.val % 32 = 0
  · have h1 : ¬1 ≤ t.val % 32 := by omega
    rw [kept_A m c t h0]
    rw [Value.flushed8_A m c t h0 h1, out_A]
  · have h1 : 1 ≤ t.val % 32 := by omega
    rw [kept_B m c t h0]
    rw [Value.flushed8_B m c t h0 h1, out_B]

/-- Cutting a block changes nothing: no block hangs over the array's end. -/
theorem cut_apply (t : Fin cfg0.N) (X : Vec Ideal S1x256x1024 .bf16) (Y : Vec Ideal S8x8192x1024 .bf16)
    (h : ∀ (r : Fin 256) (k : Fin 1024), X (ix3 0 r k) = Y (ix3 (bOf t) (pOf t r) k)) :
    (cfg0.win 8).cut (grid0.coords t) X = ((cfg0.win 8).blk t).view.read (Elt Ideal) Y := by
  funext j
  obtain ⟨r, k, rfl⟩ : ∃ (r : Fin 256) (k : Fin 1024), j = ix3 0 r k := ⟨j 1, j 2, by
    funext a
    match a with
    | ⟨0, _⟩ => exact Fin.ext (show (j 0).val = 0 by have : (j 0).val < 1 := (j 0).isLt; omega)
    | ⟨1, _⟩ => rfl
    | ⟨2, _⟩ => rfl⟩
  show X (ix3 0 r k) = Y (((cfg0.win 8).blk t).view.emb (ix3 0 r k))
  rw [emb_out, h]

/-- The convolution of grid point `t`, entry by entry. -/
theorem conv_block (t : Fin cfg0.N) (r : Fin 256) (k : Fin 1024) :
    part6 (rows m c t) (kept m c t) (iblk m c 4 t) (iblk m c 5 t) (ix2 r k)
      = Row.conv (fun n => gate m c (bOf t) n k) (fun j => (m ((c : Thread nD τ).loc main_arg4)) (ix2 j k)) ((m ((c : Thread nD τ).loc main_arg5)) (ix1 k)) (pOf t r) := by
  unfold Row.conv
  have hw : ∀ j, iblk m c 4 t (ix2 j k) = (m ((c : Thread nD τ).loc main_arg4)) (ix2 j k) := fun j => (blk_cw m c t _).trans (congrFun (V_cw m c) _)
  refine (conv_apply _ _ _ _ r k (fun j => (if h : 30 ≤ (pOf t r).val + j.val then gate m c (bOf t) ⟨(pOf t r).val + j.val - 30, by omega⟩ k else 0) * (m ((c : Thread nD τ).loc main_arg4)) (ix2 j k)) (fun j hj => ?_) ?_).trans
    (congrArg (fun z : EReal => Row.sum31 _ + z) ((blk_cb m c t _).trans (V_cb_apply m c k)))
  · refine congrArg₂ (fun a b : EReal => a * b) ((kept_apply m c t _ k).trans ?_) (hw j)
    show (if h : 32 ≤ t.val % 32 * 256 + (j.val + 2 + r.val) then _ else _) = if h : 30 ≤ t.val % 32 * 256 + r.val + j.val then _ else _
    by_cases h : 30 ≤ t.val % 32 * 256 + r.val + j.val
    · rw [dif_pos h, dif_pos (by omega)]
      exact congrArg (fun s => gate m c (bOf t) s k) (Fin.ext (show t.val % 32 * 256 + (j.val + 2 + r.val) - 32 = t.val % 32 * 256 + r.val + j.val - 30 by omega))
    · rw [dif_neg h, dif_neg (by omega)]
  · refine congrArg₂ (fun a b : EReal => a * b) ((rows_apply m c t r k).trans ?_) (hw 30)
    show _ = if h : 30 ≤ t.val % 32 * 256 + r.val + 30 then _ else _
    rw [dif_pos (by omega)]
    exact congrArg (fun s => gate m c (bOf t) s k) (Fin.ext (show t.val % 32 * 256 + r.val = t.val % 32 * 256 + r.val + 30 - 30 by omega))

/-- The block grid point `t` stores, entry by entry, is its block of `G`. -/
theorem block_apply (t : Fin cfg0.N) (r : Fin 256) (k : Fin 1024) :
    stored (rows m c t) (kept m c t) (iblk m c 4 t) (iblk m c 5 t) (iblk m c 6 t) (iblk m c 7 t) (ix3 0 r k) = final m c (ix3 (bOf t) (pOf t r) k) := by
  refine (stored_apply _ _ _ _ _ _ r k).trans (congrArg Row.silu ?_)
  exact Row.norm_congr (fun k => conv_block m c t r k) (fun k => (blk_lg m c t _).trans (V_lg_apply m c k))
    (fun k => (blk_lb m c t _).trans (V_lb_apply m c k)) k

/-- What grid point `t` writes back is its block of `G`. -/
theorem flushed_eq (t : Fin cfg0.N) : (dats m 0 c).flushed 8 t = ((cfg0.win 8).blk t).view.read (Elt Ideal) (final m c) := by
  rw [flushed_stored]
  exact cut_apply t _ _ fun r k => block_apply m c t r k

/-- The blocks tile the array. -/
theorem covered (i : S8x8192x1024.Idx) : ∃ t : Fin cfg0.N, (cfg0.win 8).flush t = true ∧ i ∈ ((cfg0.win 8).blk t).view.set := by
  obtain ⟨b, q, k, rfl⟩ : ∃ (b : Fin 8) (q : Fin 8192) (k : Fin 1024), i = ix3 b q k := ⟨i 0, i 1, i 2, by
    funext a
    match a with
    | ⟨0, _⟩ => rfl
    | ⟨1, _⟩ => rfl
    | ⟨2, _⟩ => rfl⟩
  have hb := b.isLt
  have hq := q.isLt
  let t : Fin cfg0.N := ⟨b.val * 32 + q.val / 256, by show _ < 256; omega⟩
  let r : Fin 256 := ⟨q.val % 256, by omega⟩
  refine ⟨t, flush0_8 _, ?_⟩
  have h := ((cfg0.win 8).blk t).view.emb_mem_set (ix3 0 r k)
  rw [emb_out] at h
  have e0 : bOf t = b := Fin.ext (by show (b.val * 32 + q.val / 256) / 32 = b.val; omega)
  have e1 : pOf t r = q := Fin.ext (by show (b.val * 32 + q.val / 256) % 32 * 256 + q.val % 256 = q.val; omega)
  rwa [e0, e1] at h

/-- The result array after the run. -/
theorem final_eq : (dats m 0 c).arrAt 8 cfg0.N = final m c :=
  (dats m 0 c).arrAt_eq_of_cover 8 (final m c) (fun t _ => flushed_eq m c t) covered

end Cert.Proof.Conf

end
-- ==== Proof.ConfRef.lean ====
/-
  The reference's convolution module read at an index: the gated linear unit of a row, 31 taps of it along the sequence with 30 rows of
  zeros in front, layer normalisation and silu, which is `Row.inner` of the batch entry's rows.
-/
module

public import proofs.«01_k».proof.Defs
public import proofs.«01_k».proof.Proof.ConfRow
public import proofs.«01_k».proof.Proof.Gen.ConfRefIdeal.Read
public import Idealize.ShloMosaic.Lib.Pointwise
public import Idealize.ShloMosaic.Lib.KernelVsHost

@[expose] public section

set_option maxRecDepth 16384

noncomputable section

namespace Cert.Proof.ConfRef

open Idealize.ShloMosaic Idealize.SL.Sem Cert.ConfRefIdeal Cert.ConfRefIdeal.Gen Cert.ConfRefIdeal.Read
open Cert.Proof

/-- The gated row. -/
theorem gated_apply (x0 : Vec Ideal S8x8192x1024 .f32) (x1 : Vec Ideal S1024 .f32) (x2 : Vec Ideal S1024x2048 .f32) (x3 : Vec Ideal S2048 .f32)
    (b : Fin 8) (s : Fin 8192) (c : Fin 1024) :
    val_main_v25 (F := Ideal) x0 x1 x2 x3 (ix3 b s c)
      = Row.glu (fun k => x0 (ix3 b s k)) (fun k => x1 (ix1 k)) (fun k f => x2 (ix2 k f)) (fun f => x3 (ix1 f)) c := by
  unfold val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst_3 val_main_cst_2 val_main_cst_1 val_main_cst_0 val_main_cst
  pointwise
  rfl

/-- The gated rows with 30 rows of zeros in front. -/
theorem padded_apply (x0 : Vec Ideal S8x8192x1024 .f32) (x1 : Vec Ideal S1024 .f32) (x2 : Vec Ideal S1024x2048 .f32) (x3 : Vec Ideal S2048 .f32)
    (b : Fin 8) (p : Fin 8222) (c : Fin 1024) :
    val_main_v26 (F := Ideal) x0 x1 x2 x3 (ix3 b p c)
      = if h : 30 ≤ p.val then val_main_v25 (F := Ideal) x0 x1 x2 x3 (ix3 b ⟨p.val - 30, by omega⟩ c) else 0 := by
  unfold val_main_v26
  generalize val_main_v25 (F := Ideal) x0 x1 x2 x3 = X
  by_cases h : 30 ≤ p.val
  · rw [dif_pos h]
    refine pad_apply_of_inside _ _ _ X _ _ _ _ (ix3 b ⟨p.val - 30, by omega⟩ c) fun a => ?_
    match a with
    | ⟨0, _⟩ => show b.val = 0 + b.val * (0 + 1); omega
    | ⟨1, _⟩ => show p.val = 30 + (p.val - 30) * (0 + 1); omega
    | ⟨2, _⟩ => show c.val = 0 + c.val * (0 + 1); omega
  · rw [dif_neg h]
    refine (pad_apply_of_not_inside _ _ _ X _ _ _ _ (1 : Fin 3) fun hin => ?_).trans ?_
    · have e : 30 ≤ p.val := hin.1
      exact h e
    · exact sitofp_zero (φ := .f32)

/-- Tap `j`'s rows. -/
theorem slice_apply (x0 : Vec Ideal S8x8192x1024 .f32) (x1 : Vec Ideal S1024 .f32) (x2 : Vec Ideal S1024x2048 .f32) (x3 : Vec Ideal S2048 .f32)
    (j : Nat) (hj : j < 31) (h : S8x8222x1024.Slices ![0, j, 0] S8x8192x1024) (b : Fin 8) (s : Fin 8192) (c : Fin 1024) :
    extractStridedSlice S8x8192x1024 ![0, j, 0] (val_main_v26 (F := Ideal) x0 x1 x2 x3) h (ix3 b s c)
      = if h : 30 ≤ s.val + j then val_main_v25 (F := Ideal) x0 x1 x2 x3 (ix3 b ⟨s.val + j - 30, by omega⟩ c) else 0 := by
  refine Eq.trans ?_ (padded_apply x0 x1 x2 x3 b ⟨s.val + j, by omega⟩ c)
  refine congrArg (val_main_v26 (F := Ideal) x0 x1 x2 x3) (funext fun a => Fin.ext ?_)
  match a with
  | ⟨0, _⟩ => show 0 + b.val = b.val; omega
  | ⟨1, _⟩ => show j + s.val = s.val + j; omega
  | ⟨2, _⟩ => show 0 + c.val = c.val; omega

/-- Tap `j`'s coefficients. -/
theorem coeff_apply (x4 : Vec Ideal S31x1024 .f32) (j : Nat) (hj : j < 31) (h : S31x1024.Slices ![j, 0] S1x1024)
    (b : Fin 8) (s : Fin 8192) (c : Fin 1024) :
    broadcastInDim S8x8192x1024 ![0, 1, 2] bcast_S1x1x1024_S8x8192x1024_0_1_2 (broadcastInDim S1x1x1024 ![2] bcast_S1024_S1x1x1024_2
      (shapeCast S1024 (extractStridedSlice S1x1024 ![j, 0] x4 h) shapeCasts_S1x1024_S1024)) (ix3 b s c) = x4 (ix2 ⟨j, hj⟩ c) := by
  have e : extractStridedSlice S1x1024 ![j, 0] x4 h = fun i => x4 (ix2 ⟨j, hj⟩ (i 1)) := by
    funext i
    have h0 : (i 0).val < 1 := (i 0).isLt
    refine congrArg x4 (funext fun a => Fin.ext ?_)
    match a with
    | ⟨0, _⟩ => show j + (i 0).val = j; omega
    | ⟨1, _⟩ => show 0 + (i 1).val = (i 1).val; omega
  rw [e]
  pointwise

theorem tap0 (x0 : Vec Ideal S8x8192x1024 .f32) (x1 : Vec Ideal S1024 .f32) (x2 : Vec Ideal S1024x2048 .f32) (x3 : Vec Ideal S2048 .f32) (x4 : Vec Ideal S31x1024 .f32)
    (b : Fin 8) (s : Fin 8192) (c : Fin 1024) :
    val_main_v32 (F := Ideal) x0 x1 x2 x3 x4 (ix3 b s c)
      = (if h : 30 ≤ s.val + 0 then val_main_v25 (F := Ideal) x0 x1 x2 x3 (ix3 b ⟨s.val + 0 - 30, by omega⟩ c) else 0) * x4 (ix2 0 c) := by
  unfold val_main_v32 val_main_v27 val_main_v31 val_main_v30 val_main_v29 val_main_v28
  exact congrArg₂ (fun a b : EReal => a * b) (slice_apply x0 x1 x2 x3 0 (by decide) _ b s c) (coeff_apply x4 0 (by decide) _ b s c)

theorem tap1 (x0 : Vec Ideal S8x8192x1024 .f32) (x1 : Vec Ideal S1024 .f32) (x2 : Vec Ideal S1024x2048 .f32) (x3 : Vec Ideal S2048 .f32) (x4 : Vec Ideal S31x1024 .f32)
    (b : Fin 8) (s : Fin 8192) (c : Fin 1024) :
    val_main_v38 (F := Ideal) x0 x1 x2 x3 x4 (ix3 b s c)
      = (if h : 30 ≤ s.val + 1 then val_main_v25 (F := Ideal) x0 x1 x2 x3 (ix3 b ⟨s.val + 1 - 30, by omega⟩ c) else 0) * x4 (ix2 1 c) := by
  unfold val_main_v38 val_main_v33 val_main_v37 val_main_v36 val_main_v35 val_main_v34
  exact congrArg₂ (fun a b : EReal => a * b) (slice_apply x0 x1 x2 x3 1 (by decide) _ b s c) (coeff_apply x4 1 (by decide) _ b s c)

theorem tap2 (x0 : Vec Ideal S8x8192x1024 .f32) (x1 : Vec Ideal S1024 .f32) (x2 : Vec Ideal S1024x2048 .f32) (x3 : Vec Ideal S2048 .f32) (x4 : Vec Ideal S31x1024 .f32)
    (b : Fin 8) (s : Fin 8192) (c : Fin 1024) :
    val_main_v45 (F := Ideal) x0 x1 x2 x3 x4 (ix3 b s c)
      = (if h : 30 ≤ s.val + 2 then val_main_v25 (F := Ideal) x0 x1 x2 x3 (ix3 b ⟨s.val + 2 - 30, by omega⟩ c) else 0) * x4 (ix2 2 c) := by
  unfold val_main_v45 val_main_v40 val_main_v44 val_main_v43 val_main_v42 val_main_v41
  exact congrArg₂ (fun a b : EReal => a * b) (slice_apply x0 x1 x2 x3 2 (by decide) _ b s c) (coeff_apply x4 2 (by decide) _ b s c)

theorem tap3 (x0 : Vec Ideal S8x8192x1024 .f32) (x1 : Vec Ideal S1024 .f32) (x2 : Vec Ideal S1024x2048 .f32) (x3 : Vec Ideal S2048 .f32) (x4 : Vec Ideal S31x1024 .f32)
    (b : Fin 8) (s : Fin 8192) (c : Fin 1024) :
    val_main_v52 (F := Ideal) x0 x1 x2 x3 x4 (ix3 b s c)
      = (if h : 30 ≤ s.val + 3 then val_main_v25 (F := Ideal) x0 x1 x2 x3 (ix3 b ⟨s.val + 3 - 30, by omega⟩ c) else 0) * x4 (ix2 3 c) := by
  unfold val_main_v52 val_main_v47 val_main_v51 val_main_v50 val_main_v49 val_main_v48
  exact congrArg₂ (fun a b : EReal => a * b) (slice_apply x0 x1 x2 x3 3 (by decide) _ b s c) (coeff_apply x4 3 (by decide) _ b s c)

theorem tap4 (x0 : Vec Ideal S8x8192x1024 .f32) (x1 : Vec Ideal S1024 .f32) (x2 : Vec Ideal S1024x2048 .f32) (x3 : Vec Ideal S2048 .f32) (x4 : Vec Ideal S31x1024 .f32)
    (b : Fin 8) (s : Fin 8192) (c : Fin 1024) :
    val_main_v59 (F := Ideal) x0 x1 x2 x3 x4 (ix3 b s c)
      = (if h : 30 ≤ s.val + 4 then val_main_v25 (F := Ideal) x0 x1 x2 x3 (ix3 b ⟨s.val + 4 - 30, by omega⟩ c) else 0) * x4 (ix2 4 c) := by
  unfold val_main_v59 val_main_v54 val_main_v58 val_main_v57 val_main_v56 val_main_v55
  exact congrArg₂ (fun a b : EReal => a * b) (slice_apply x0 x1 x2 x3 4 (by decide) _ b s c) (coeff_apply x4 4 (by decide) _ b s c)

theorem tap5 (x0 : Vec Ideal S8x8192x1024 .f32) (x1 : Vec Ideal S1024 .f32) (x2 : Vec Ideal S1024x2048 .f32) (x3 : Vec Ideal S2048 .f32) (x4 : Vec Ideal S31x1024 .f32)
    (b : Fin 8) (s : Fin 8192) (c : Fin 1024) :
    val_main_v66 (F := Ideal) x0 x1 x2 x3 x4 (ix3 b s c)
      = (if h : 30 ≤ s.val + 5 then val_main_v25 (F := Ideal) x0 x1 x2 x3 (ix3 b ⟨s.val + 5 - 30, by omega⟩ c) else 0) * x4 (ix2 5 c) := by
  unfold val_main_v66 val_main_v61 val_main_v65 val_main_v64 val_main_v63 val_main_v62
  exact congrArg₂ (fun a b : EReal => a * b) (slice_apply x0 x1 x2 x3 5 (by decide) _ b s c) (coeff_apply x4 5 (by decide) _ b s c)

theorem tap6 (x0 : Vec Ideal S8x8192x1024 .f32) (x1 : Vec Ideal S1024 .f32) (x2 : Vec Ideal S1024x2048 .f32) (x3 : Vec Ideal S2048 .f32) (x4 : Vec Ideal S31x1024 .f32)
    (b : Fin 8) (s : Fin 8192) (c : Fin 1024) :
    val_main_v73 (F := Ideal) x0 x1 x2 x3 x4 (ix3 b s c)
      = (if h : 30 ≤ s.val + 6 then val_main_v25 (F := Ideal) x0 x1 x2 x3 (ix3 b ⟨s.val + 6 - 30, by omega⟩ c) else 0) * x4 (ix2 6 c) := by
  unfold val_main_v73 val_main_v68 val_main_v72 val_main_v71 val_main_v70 val_main_v69
  exact congrArg₂ (fun a b : EReal => a * b) (slice_apply x0 x1 x2 x3 6 (by decide) _ b s c) (coeff_apply x4 6 (by decide) _ b s c)

theorem tap7 (x0 : Vec Ideal S8x8192x1024 .f32) (x1 : Vec Ideal S1024 .f32) (x2 : Vec Ideal S1024x2048 .f32) (x3 : Vec Ideal S2048 .f32) (x4 : Vec Ideal S31x1024 .f32)
    (b : Fin 8) (s : Fin 8192) (c : Fin 1024) :
    val_main_v80 (F := Ideal) x0 x1 x2 x3 x4 (ix3 b s c)
      = (if h : 30 ≤ s.val + 7 then val_main_v25 (F := Ideal) x0 x1 x2 x3 (ix3 b ⟨s.val + 7 - 30, by omega⟩ c) else 0) * x4 (ix2 7 c) := by
  unfold val_main_v80 val_main_v75 val_main_v79 val_main_v78 val_main_v77 val_main_v76
  exact congrArg₂ (fun a b : EReal => a * b) (slice_apply x0 x1 x2 x3 7 (by decide) _ b s c) (coeff_apply x4 7 (by decide) _ b s c)

theorem tap8 (x0 : Vec Ideal S8x8192x1024 .f32) (x1 : Vec Ideal S1024 .f32) (x2 : Vec Ideal S1024x2048 .f32) (x3 : Vec Ideal S2048 .f32) (x4 : Vec Ideal S31x1024 .f32)
    (b : Fin 8) (s : Fin 8192) (c : Fin 1024) :
    val_main_v87 (F := Ideal) x0 x1 x2 x3 x4 (ix3 b s c)
      = (if h : 30 ≤ s.val + 8 then val_main_v25 (F := Ideal) x0 x1 x2 x3 (ix3 b ⟨s.val + 8 - 30, by omega⟩ c) else 0) * x4 (ix2 8 c) := by
  unfold val_main_v87 val_main_v82 val_main_v86 val_main_v85 val_main_v84 val_main_v83
  exact congrArg₂ (fun a b : EReal => a * b) (slice_apply x0 x1 x2 x3 8 (by decide) _ b s c) (coeff_apply x4 8 (by decide) _ b s c)

theorem tap9 (x0 : Vec Ideal S8x8192x1024 .f32) (x1 : Vec Ideal S1024 .f32) (x2 : Vec Ideal S1024x2048 .f32) (x3 : Vec Ideal S2048 .f32) (x4 : Vec Ideal S31x1024 .f32)
    (b : Fin 8) (s : Fin 8192) (c : Fin 1024) :
    val_main_v94 (F := Ideal) x0 x1 x2 x3 x4 (ix3 b s c)
      = (if h : 30 ≤ s.val + 9 then val_main_v25 (F := Ideal) x0 x1 x2 x3 (ix3 b ⟨s.val + 9 - 30, by omega⟩ c) else 0) * x4 (ix2 9 c) := by
  unfold val_main_v94 val_main_v89 val_main_v93 val_main_v92 val_main_v91 val_main_v90
  exact congrArg₂ (fun a b : EReal => a * b) (slice_apply x0 x1 x2 x3 9 (by decide) _ b s c) (coeff_apply x4 9 (by decide) _ b s c)

theorem tap10 (x0 : Vec Ideal S8x8192x1024 .f32) (x1 : Vec Ideal S1024 .f32) (x2 : Vec Ideal S1024x2048 .f32) (x3 : Vec Ideal S2048 .f32) (x4 : Vec Ideal S31x1024 .f32)
    (b : Fin 8) (s : Fin 8192) (c : Fin 1024) :
    val_main_v101 (F := Ideal) x0 x1 x2 x3 x4 (ix3 b s c)
      = (if h : 30 ≤ s.val + 10 then val_main_v25 (F := Ideal) x0 x1 x2 x3 (ix3 b ⟨s.val + 10 - 30, by omega⟩ c) else 0) * x4 (ix2 10 c) := by
  unfold val_main_v101 val_main_v96 val_main_v100 val_main_v99 val_main_v98 val_main_v97
  exact congrArg₂ (fun a b : EReal => a * b) (slice_apply x0 x1 x2 x3 10 (by decide) _ b s c) (coeff_apply x4 10 (by decide) _ b s c)

theorem tap11 (x0 : Vec Ideal S8x8192x1024 .f32) (x1 : Vec Ideal S1024 .f32) (x2 : Vec Ideal S1024x2048 .f32) (x3 : Vec Ideal S2048 .f32) (x4 : Vec Ideal S31x1024 .f32)
    (b : Fin 8) (s : Fin 8192) (c : Fin 1024) :
    val_main_v108 (F := Ideal) x0 x1 x2 x3 x4 (ix3 b s c)
      = (if h : 30 ≤ s.val + 11 then val_main_v25 (F := Ideal) x0 x1 x2 x3 (ix3 b ⟨s.val + 11 - 30, by omega⟩ c) else 0) * x4 (ix2 11 c) := by
  unfold val_main_v108 val_main_v103 val_main_v107 val_main_v106 val_main_v105 val_main_v104
  exact congrArg₂ (fun a b : EReal => a * b) (slice_apply x0 x1 x2 x3 11 (by decide) _ b s c) (coeff_apply x4 11 (by decide) _ b s c)

theorem tap12 (x0 : Vec Ideal S8x8192x1024 .f32) (x1 : Vec Ideal S1024 .f32) (x2 : Vec Ideal S1024x2048 .f32) (x3 : Vec Ideal S2048 .f32) (x4 : Vec Ideal S31x1024 .f32)
    (b : Fin 8) (s : Fin 8192) (c : Fin 1024) :
    val_main_v115 (F := Ideal) x0 x1 x2 x3 x4 (ix3 b s c)
      = (if h : 30 ≤ s.val + 12 then val_main_v25 (F := Ideal) x0 x1 x2 x3 (ix3 b ⟨s.val + 12 - 30, by omega⟩ c) else 0) * x4 (ix2 12 c) := by
  unfold val_main_v115 val_main_v110 val_main_v114 val_main_v113 val_main_v112 val_main_v111
  exact congrArg₂ (fun a b : EReal => a * b) (slice_apply x0 x1 x2 x3 12 (by decide) _ b s c) (coeff_apply x4 12 (by decide) _ b s c)

theorem tap13 (x0 : Vec Ideal S8x8192x1024 .f32) (x1 : Vec Ideal S1024 .f32) (x2 : Vec Ideal S1024x2048 .f32) (x3 : Vec Ideal S2048 .f32) (x4 : Vec Ideal S31x1024 .f32)
    (b : Fin 8) (s : Fin 8192) (c : Fin 1024) :
    val_main_v122 (F := Ideal) x0 x1 x2 x3 x4 (ix3 b s c)
      = (if h : 30 ≤ s.val + 13 then val_main_v25 (F := Ideal) x0 x1 x2 x3 (ix3 b ⟨s.val + 13 - 30, by omega⟩ c) else 0) * x4 (ix2 13 c) := by
  unfold val_main_v122 val_main_v117 val_main_v121 val_main_v120 val_main_v119 val_main_v118
  exact congrArg₂ (fun a b : EReal => a * b) (slice_apply x0 x1 x2 x3 13 (by decide) _ b s c) (coeff_apply x4 13 (by decide) _ b s c)

theorem tap14 (x0 : Vec Ideal S8x8192x1024 .f32) (x1 : Vec Ideal S1024 .f32) (x2 : Vec Ideal S1024x2048 .f32) (x3 : Vec Ideal S2048 .f32) (x4 : Vec Ideal S31x1024 .f32)
    (b : Fin 8) (s : Fin 8192) (c : Fin 1024) :
    val_main_v129 (F := Ideal) x0 x1 x2 x3 x4 (ix3 b s c)
      = (if h : 30 ≤ s.val + 14 then val_main_v25 (F := Ideal) x0 x1 x2 x3 (ix3 b ⟨s.val + 14 - 30, by omega⟩ c) else 0) * x4 (ix2 14 c) := by
  unfold val_main_v129 val_main_v124 val_main_v128 val_main_v127 val_main_v126 val_main_v125
  exact congrArg₂ (fun a b : EReal => a * b) (slice_apply x0 x1 x2 x3 14 (by decide) _ b s c) (coeff_apply x4 14 (by decide) _ b s c)

theorem tap15 (x0 : Vec Ideal S8x8192x1024 .f32) (x1 : Vec Ideal S1024 .f32) (x2 : Vec Ideal S1024x2048 .f32) (x3 : Vec Ideal S2048 .f32) (x4 : Vec Ideal S31x1024 .f32)
    (b : Fin 8) (s : Fin 8192) (c : Fin 1024) :
    val_main_v136 (F := Ideal) x0 x1 x2 x3 x4 (ix3 b s c)
      = (if h : 30 ≤ s.val + 15 then val_main_v25 (F := Ideal) x0 x1 x2 x3 (ix3 b ⟨s.val + 15 - 30, by omega⟩ c) else 0) * x4 (ix2 15 c) := by
  unfold val_main_v136 val_main_v131 val_main_v135 val_main_v134 val_main_v133 val_main_v132
  exact congrArg₂ (fun a b : EReal => a * b) (slice_apply x0 x1 x2 x3 15 (by decide) _ b s c) (coeff_apply x4 15 (by decide) _ b s c)

theorem tap16 (x0 : Vec Ideal S8x8192x1024 .f32) (x1 : Vec Ideal S1024 .f32) (x2 : Vec Ideal S1024x2048 .f32) (x3 : Vec Ideal S2048 .f32) (x4 : Vec Ideal S31x1024 .f32)
    (b : Fin 8) (s : Fin 8192) (c : Fin 1024) :
    val_main_v143 (F := Ideal) x0 x1 x2 x3 x4 (ix3 b s c)
      = (if h : 30 ≤ s.val + 16 then val_main_v25 (F := Ideal) x0 x1 x2 x3 (ix3 b ⟨s.val + 16 - 30, by omega⟩ c) else 0) * x4 (ix2 16 c) := by
  unfold val_main_v143 val_main_v138 val_main_v142 val_main_v141 val_main_v140 val_main_v139
  exact congrArg₂ (fun a b : EReal => a * b) (slice_apply x0 x1 x2 x3 16 (by decide) _ b s c) (coeff_apply x4 16 (by decide) _ b s c)

theorem tap17 (x0 : Vec Ideal S8x8192x1024 .f32) (x1 : Vec Ideal S1024 .f32) (x2 : Vec Ideal S1024x2048 .f32) (x3 : Vec Ideal S2048 .f32) (x4 : Vec Ideal S31x1024 .f32)
    (b : Fin 8) (s : Fin 8192) (c : Fin 1024) :
    val_main_v150 (F := Ideal) x0 x1 x2 x3 x4 (ix3 b s c)
      = (if h : 30 ≤ s.val + 17 then val_main_v25 (F := Ideal) x0 x1 x2 x3 (ix3 b ⟨s.val + 17 - 30, by omega⟩ c) else 0) * x4 (ix2 17 c) := by
  unfold val_main_v150 val_main_v145 val_main_v149 val_main_v148 val_main_v147 val_main_v146
  exact congrArg₂ (fun a b : EReal => a * b) (slice_apply x0 x1 x2 x3 17 (by decide) _ b s c) (coeff_apply x4 17 (by decide) _ b s c)

theorem tap18 (x0 : Vec Ideal S8x8192x1024 .f32) (x1 : Vec Ideal S1024 .f32) (x2 : Vec Ideal S1024x2048 .f32) (x3 : Vec Ideal S2048 .f32) (x4 : Vec Ideal S31x1024 .f32)
    (b : Fin 8) (s : Fin 8192) (c : Fin 1024) :
    val_main_v157 (F := Ideal) x0 x1 x2 x3 x4 (ix3 b s c)
      = (if h : 30 ≤ s.val + 18 then val_main_v25 (F := Ideal) x0 x1 x2 x3 (ix3 b ⟨s.val + 18 - 30, by omega⟩ c) else 0) * x4 (ix2 18 c) := by
  unfold val_main_v157 val_main_v152 val_main_v156 val_main_v155 val_main_v154 val_main_v153
  exact congrArg₂ (fun a b : EReal => a * b) (slice_apply x0 x1 x2 x3 18 (by decide) _ b s c) (coeff_apply x4 18 (by decide) _ b s c)

theorem tap19 (x0 : Vec Ideal S8x8192x1024 .f32) (x1 : Vec Ideal S1024 .f32) (x2 : Vec Ideal S1024x2048 .f32) (x3 : Vec Ideal S2048 .f32) (x4 : Vec Ideal S31x1024 .f32)
    (b : Fin 8) (s : Fin 8192) (c : Fin 1024) :
    val_main_v164 (F := Ideal) x0 x1 x2 x3 x4 (ix3 b s c)
      = (if h : 30 ≤ s.val + 19 then val_main_v25 (F := Ideal) x0 x1 x2 x3 (ix3 b ⟨s.val + 19 - 30, by omega⟩ c) else 0) * x4 (ix2 19 c) := by
  unfold val_main_v164 val_main_v159 val_main_v163 val_main_v162 val_main_v161 val_main_v160
  exact congrArg₂ (fun a b : EReal => a * b) (slice_apply x0 x1 x2 x3 19 (by decide) _ b s c) (coeff_apply x4 19 (by decide) _ b s c)

theorem tap20 (x0 : Vec Ideal S8x8192x1024 .f32) (x1 : Vec Ideal S1024 .f32) (x2 : Vec Ideal S1024x2048 .f32) (x3 : Vec Ideal S2048 .f32) (x4 : Vec Ideal S31x1024 .f32)
    (b : Fin 8) (s : Fin 8192) (c : Fin 1024) :
    val_main_v171 (F := Ideal) x0 x1 x2 x3 x4 (ix3 b s c)
      = (if h : 30 ≤ s.val + 20 then val_main_v25 (F := Ideal) x0 x1 x2 x3 (ix3 b ⟨s.val + 20 - 30, by omega⟩ c) else 0) * x4 (ix2 20 c) := by
  unfold val_main_v171 val_main_v166 val_main_v170 val_main_v169 val_main_v168 val_main_v167
  exact congrArg₂ (fun a b : EReal => a * b) (slice_apply x0 x1 x2 x3 20 (by decide) _ b s c) (coeff_apply x4 20 (by decide) _ b s c)

theorem tap21 (x0 : Vec Ideal S8x8192x1024 .f32) (x1 : Vec Ideal S1024 .f32) (x2 : Vec Ideal S1024x2048 .f32) (x3 : Vec Ideal S2048 .f32) (x4 : Vec Ideal S31x1024 .f32)
    (b : Fin 8) (s : Fin 8192) (c : Fin 1024) :
    val_main_v178 (F := Ideal) x0 x1 x2 x3 x4 (ix3 b s c)
      = (if h : 30 ≤ s.val + 21 then val_main_v25 (F := Ideal) x0 x1 x2 x3 (ix3 b ⟨s.val + 21 - 30, by omega⟩ c) else 0) * x4 (ix2 21 c) := by
  unfold val_main_v178 val_main_v173 val_main_v177 val_main_v176 val_main_v175 val_main_v174
  exact congrArg₂ (fun a b : EReal => a * b) (slice_apply x0 x1 x2 x3 21 (by decide) _ b s c) (coeff_apply x4 21 (by decide) _ b s c)

theorem tap22 (x0 : Vec Ideal S8x8192x1024 .f32) (x1 : Vec Ideal S1024 .f32) (x2 : Vec Ideal S1024x2048 .f32) (x3 : Vec Ideal S2048 .f32) (x4 : Vec Ideal S31x1024 .f32)
    (b : Fin 8) (s : Fin 8192) (c : Fin 1024) :
    val_main_v185 (F := Ideal) x0 x1 x2 x3 x4 (ix3 b s c)
      = (if h : 30 ≤ s.val + 22 then val_main_v25 (F := Ideal) x0 x1 x2 x3 (ix3 b ⟨s.val + 22 - 30, by omega⟩ c) else 0) * x4 (ix2 22 c) := by
  unfold val_main_v185 val_main_v180 val_main_v184 val_main_v183 val_main_v182 val_main_v181
  exact congrArg₂ (fun a b : EReal => a * b) (slice_apply x0 x1 x2 x3 22 (by decide) _ b s c) (coeff_apply x4 22 (by decide) _ b s c)

theorem tap23 (x0 : Vec Ideal S8x8192x1024 .f32) (x1 : Vec Ideal S1024 .f32) (x2 : Vec Ideal S1024x2048 .f32) (x3 : Vec Ideal S2048 .f32) (x4 : Vec Ideal S31x1024 .f32)
    (b : Fin 8) (s : Fin 8192) (c : Fin 1024) :
    val_main_v192 (F := Ideal) x0 x1 x2 x3 x4 (ix3 b s c)
      = (if h : 30 ≤ s.val + 23 then val_main_v25 (F := Ideal) x0 x1 x2 x3 (ix3 b ⟨s.val + 23 - 30, by omega⟩ c) else 0) * x4 (ix2 23 c) := by
  unfold val_main_v192 val_main_v187 val_main_v191 val_main_v190 val_main_v189 val_main_v188
  exact congrArg₂ (fun a b : EReal => a * b) (slice_apply x0 x1 x2 x3 23 (by decide) _ b s c) (coeff_apply x4 23 (by decide) _ b s c)

theorem tap24 (x0 : Vec Ideal S8x8192x1024 .f32) (x1 : Vec Ideal S1024 .f32) (x2 : Vec Ideal S1024x2048 .f32) (x3 : Vec Ideal S2048 .f32) (x4 : Vec Ideal S31x1024 .f32)
    (b : Fin 8) (s : Fin 8192) (c : Fin 1024) :
    val_main_v199 (F := Ideal) x0 x1 x2 x3 x4 (ix3 b s c)
      = (if h : 30 ≤ s.val + 24 then val_main_v25 (F := Ideal) x0 x1 x2 x3 (ix3 b ⟨s.val + 24 - 30, by omega⟩ c) else 0) * x4 (ix2 24 c) := by
  unfold val_main_v199 val_main_v194 val_main_v198 val_main_v197 val_main_v196 val_main_v195
  exact congrArg₂ (fun a b : EReal => a * b) (slice_apply x0 x1 x2 x3 24 (by decide) _ b s c) (coeff_apply x4 24 (by decide) _ b s c)

theorem tap25 (x0 : Vec Ideal S8x8192x1024 .f32) (x1 : Vec Ideal S1024 .f32) (x2 : Vec Ideal S1024x2048 .f32) (x3 : Vec Ideal S2048 .f32) (x4 : Vec Ideal S31x1024 .f32)
    (b : Fin 8) (s : Fin 8192) (c : Fin 1024) :
    val_main_v206 (F := Ideal) x0 x1 x2 x3 x4 (ix3 b s c)
      = (if h : 30 ≤ s.val + 25 then val_main_v25 (F := Ideal) x0 x1 x2 x3 (ix3 b ⟨s.val + 25 - 30, by omega⟩ c) else 0) * x4 (ix2 25 c) := by
  unfold val_main_v206 val_main_v201 val_main_v205 val_main_v204 val_main_v203 val_main_v202
  exact congrArg₂ (fun a b : EReal => a * b) (slice_apply x0 x1 x2 x3 25 (by decide) _ b s c) (coeff_apply x4 25 (by decide) _ b s c)

theorem tap26 (x0 : Vec Ideal S8x8192x1024 .f32) (x1 : Vec Ideal S1024 .f32) (x2 : Vec Ideal S1024x2048 .f32) (x3 : Vec Ideal S2048 .f32) (x4 : Vec Ideal S31x1024 .f32)
    (b : Fin 8) (s : Fin 8192) (c : Fin 1024) :
    val_main_v213 (F := Ideal) x0 x1 x2 x3 x4 (ix3 b s c)
      = (if h : 30 ≤ s.val + 26 then val_main_v25 (F := Ideal) x0 x1 x2 x3 (ix3 b ⟨s.val + 26 - 30, by omega⟩ c) else 0) * x4 (ix2 26 c) := by
  unfold val_main_v213 val_main_v208 val_main_v212 val_main_v211 val_main_v210 val_main_v209
  exact congrArg₂ (fun a b : EReal => a * b) (slice_apply x0 x1 x2 x3 26 (by decide) _ b s c) (coeff_apply x4 26 (by decide) _ b s c)

theorem tap27 (x0 : Vec Ideal S8x8192x1024 .f32) (x1 : Vec Ideal S1024 .f32) (x2 : Vec Ideal S1024x2048 .f32) (x3 : Vec Ideal S2048 .f32) (x4 : Vec Ideal S31x1024 .f32)
    (b : Fin 8) (s : Fin 8192) (c : Fin 1024) :
    val_main_v220 (F := Ideal) x0 x1 x2 x3 x4 (ix3 b s c)
      = (if h : 30 ≤ s.val + 27 then val_main_v25 (F := Ideal) x0 x1 x2 x3 (ix3 b ⟨s.val + 27 - 30, by omega⟩ c) else 0) * x4 (ix2 27 c) := by
  unfold val_main_v220 val_main_v215 val_main_v219 val_main_v218 val_main_v217 val_main_v216
  exact congrArg₂ (fun a b : EReal => a * b) (slice_apply x0 x1 x2 x3 27 (by decide) _ b s c) (coeff_apply x4 27 (by decide) _ b s c)

theorem tap28 (x0 : Vec Ideal S8x8192x1024 .f32) (x1 : Vec Ideal S1024 .f32) (x2 : Vec Ideal S1024x2048 .f32) (x3 : Vec Ideal S2048 .f32) (x4 : Vec Ideal S31x1024 .f32)
    (b : Fin 8) (s : Fin 8192) (c : Fin 1024) :
    val_main_v227 (F := Ideal) x0 x1 x2 x3 x4 (ix3 b s c)
      = (if h : 30 ≤ s.val + 28 then val_main_v25 (F := Ideal) x0 x1 x2 x3 (ix3 b ⟨s.val + 28 - 30, by omega⟩ c) else 0) * x4 (ix2 28 c) := by
  unfold val_main_v227 val_main_v222 val_main_v226 val_main_v225 val_main_v224 val_main_v223
  exact congrArg₂ (fun a b : EReal => a * b) (slice_apply x0 x1 x2 x3 28 (by decide) _ b s c) (coeff_apply x4 28 (by decide) _ b s c)

theorem tap29 (x0 : Vec Ideal S8x8192x1024 .f32) (x1 : Vec Ideal S1024 .f32) (x2 : Vec Ideal S1024x2048 .f32) (x3 : Vec Ideal S2048 .f32) (x4 : Vec Ideal S31x1024 .f32)
    (b : Fin 8) (s : Fin 8192) (c : Fin 1024) :
    val_main_v234 (F := Ideal) x0 x1 x2 x3 x4 (ix3 b s c)
      = (if h : 30 ≤ s.val + 29 then val_main_v25 (F := Ideal) x0 x1 x2 x3 (ix3 b ⟨s.val + 29 - 30, by omega⟩ c) else 0) * x4 (ix2 29 c) := by
  unfold val_main_v234 val_main_v229 val_main_v233 val_main_v232 val_main_v231 val_main_v230
  exact congrArg₂ (fun a b : EReal => a * b) (slice_apply x0 x1 x2 x3 29 (by decide) _ b s c) (coeff_apply x4 29 (by decide) _ b s c)

theorem tap30 (x0 : Vec Ideal S8x8192x1024 .f32) (x1 : Vec Ideal S1024 .f32) (x2 : Vec Ideal S1024x2048 .f32) (x3 : Vec Ideal S2048 .f32) (x4 : Vec Ideal S31x1024 .f32)
    (b : Fin 8) (s : Fin 8192) (c : Fin 1024) :
    val_main_v241 (F := Ideal) x0 x1 x2 x3 x4 (ix3 b s c)
      = (if h : 30 ≤ s.val + 30 then val_main_v25 (F := Ideal) x0 x1 x2 x3 (ix3 b ⟨s.val + 30 - 30, by omega⟩ c) else 0) * x4 (ix2 30 c) := by
  unfold val_main_v241 val_main_v236 val_main_v240 val_main_v239 val_main_v238 val_main_v237
  exact congrArg₂ (fun a b : EReal => a * b) (slice_apply x0 x1 x2 x3 30 (by decide) _ b s c) (coeff_apply x4 30 (by decide) _ b s c)

/-- The convolution. -/
theorem conv_apply (x0 : Vec Ideal S8x8192x1024 .f32) (x1 : Vec Ideal S1024 .f32) (x2 : Vec Ideal S1024x2048 .f32) (x3 : Vec Ideal S2048 .f32) (x4 : Vec Ideal S31x1024 .f32) (x5 : Vec Ideal S1024 .f32)
    (b : Fin 8) (s : Fin 8192) (c : Fin 1024) :
    val_main_v245 (F := Ideal) x0 x1 x2 x3 x4 x5 (ix3 b s c)
      = Row.conv (fun n => val_main_v25 (F := Ideal) x0 x1 x2 x3 (ix3 b n c)) (fun j => x4 (ix2 j c)) (x5 (ix1 c)) s := by
  have hb : val_main_v244 (F := Ideal) x5 (ix3 b s c) = x5 (ix1 c) := by
    unfold val_main_v244 val_main_v243
    pointwise
  unfold Row.conv Row.sum31
  refine (val_main_v245_apply (F := Ideal) x0 x1 x2 x3 x4 x5 (ix3 b s c)).trans (congrArg₂ (fun a b : EReal => a + b) ?_ hb)
  refine (val_main_v242_apply (F := Ideal) x0 x1 x2 x3 x4 (ix3 b s c)).trans (congrArg₂ (fun a b : EReal => a + b) ?_ (tap30 x0 x1 x2 x3 x4 b s c))
  refine (val_main_v235_apply (F := Ideal) x0 x1 x2 x3 x4 (ix3 b s c)).trans (congrArg₂ (fun a b : EReal => a + b) ?_ (tap29 x0 x1 x2 x3 x4 b s c))
  refine (val_main_v228_apply (F := Ideal) x0 x1 x2 x3 x4 (ix3 b s c)).trans (congrArg₂ (fun a b : EReal => a + b) ?_ (tap28 x0 x1 x2 x3 x4 b s c))
  refine (val_main_v221_apply (F := Ideal) x0 x1 x2 x3 x4 (ix3 b s c)).trans (congrArg₂ (fun a b : EReal => a + b) ?_ (tap27 x0 x1 x2 x3 x4 b s c))
  refine (val_main_v214_apply (F := Ideal) x0 x1 x2 x3 x4 (ix3 b s c)).trans (congrArg₂ (fun a b : EReal => a + b) ?_ (tap26 x0 x1 x2 x3 x4 b s c))
  refine (val_main_v207_apply (F := Ideal) x0 x1 x2 x3 x4 (ix3 b s c)).trans (congrArg₂ (fun a b : EReal => a + b) ?_ (tap25 x0 x1 x2 x3 x4 b s c))
  refine (val_main_v200_apply (F := Ideal) x0 x1 x2 x3 x4 (ix3 b s c)).trans (congrArg₂ (fun a b : EReal => a + b) ?_ (tap24 x0 x1 x2 x3 x4 b s c))
  refine (val_main_v193_apply (F := Ideal) x0 x1 x2 x3 x4 (ix3 b s c)).trans (congrArg₂ (fun a b : EReal => a + b) ?_ (tap23 x0 x1 x2 x3 x4 b s c))
  refine (val_main_v186_apply (F := Ideal) x0 x1 x2 x3 x4 (ix3 b s c)).trans (congrArg₂ (fun a b : EReal => a + b) ?_ (tap22 x0 x1 x2 x3 x4 b s c))
  refine (val_main_v179_apply (F := Ideal) x0 x1 x2 x3 x4 (ix3 b s c)).trans (congrArg₂ (fun a b : EReal => a + b) ?_ (tap21 x0 x1 x2 x3 x4 b s c))
  refine (val_main_v172_apply (F := Ideal) x0 x1 x2 x3 x4 (ix3 b s c)).trans (congrArg₂ (fun a b : EReal => a + b) ?_ (tap20 x0 x1 x2 x3 x4 b s c))
  refine (val_main_v165_apply (F := Ideal) x0 x1 x2 x3 x4 (ix3 b s c)).trans (congrArg₂ (fun a b : EReal => a + b) ?_ (tap19 x0 x1 x2 x3 x4 b s c))
  refine (val_main_v158_apply (F := Ideal) x0 x1 x2 x3 x4 (ix3 b s c)).trans (congrArg₂ (fun a b : EReal => a + b) ?_ (tap18 x0 x1 x2 x3 x4 b s c))
  refine (val_main_v151_apply (F := Ideal) x0 x1 x2 x3 x4 (ix3 b s c)).trans (congrArg₂ (fun a b : EReal => a + b) ?_ (tap17 x0 x1 x2 x3 x4 b s c))
  refine (val_main_v144_apply (F := Ideal) x0 x1 x2 x3 x4 (ix3 b s c)).trans (congrArg₂ (fun a b : EReal => a + b) ?_ (tap16 x0 x1 x2 x3 x4 b s c))
  refine (val_main_v137_apply (F := Ideal) x0 x1 x2 x3 x4 (ix3 b s c)).trans (congrArg₂ (fun a b : EReal => a + b) ?_ (tap15 x0 x1 x2 x3 x4 b s c))
  refine (val_main_v130_apply (F := Ideal) x0 x1 x2 x3 x4 (ix3 b s c)).trans (congrArg₂ (fun a b : EReal => a + b) ?_ (tap14 x0 x1 x2 x3 x4 b s c))
  refine (val_main_v123_apply (F := Ideal) x0 x1 x2 x3 x4 (ix3 b s c)).trans (congrArg₂ (fun a b : EReal => a + b) ?_ (tap13 x0 x1 x2 x3 x4 b s c))
  refine (val_main_v116_apply (F := Ideal) x0 x1 x2 x3 x4 (ix3 b s c)).trans (congrArg₂ (fun a b : EReal => a + b) ?_ (tap12 x0 x1 x2 x3 x4 b s c))
  refine (val_main_v109_apply (F := Ideal) x0 x1 x2 x3 x4 (ix3 b s c)).trans (congrArg₂ (fun a b : EReal => a + b) ?_ (tap11 x0 x1 x2 x3 x4 b s c))
  refine (val_main_v102_apply (F := Ideal) x0 x1 x2 x3 x4 (ix3 b s c)).trans (congrArg₂ (fun a b : EReal => a + b) ?_ (tap10 x0 x1 x2 x3 x4 b s c))
  refine (val_main_v95_apply (F := Ideal) x0 x1 x2 x3 x4 (ix3 b s c)).trans (congrArg₂ (fun a b : EReal => a + b) ?_ (tap9 x0 x1 x2 x3 x4 b s c))
  refine (val_main_v88_apply (F := Ideal) x0 x1 x2 x3 x4 (ix3 b s c)).trans (congrArg₂ (fun a b : EReal => a + b) ?_ (tap8 x0 x1 x2 x3 x4 b s c))
  refine (val_main_v81_apply (F := Ideal) x0 x1 x2 x3 x4 (ix3 b s c)).trans (congrArg₂ (fun a b : EReal => a + b) ?_ (tap7 x0 x1 x2 x3 x4 b s c))
  refine (val_main_v74_apply (F := Ideal) x0 x1 x2 x3 x4 (ix3 b s c)).trans (congrArg₂ (fun a b : EReal => a + b) ?_ (tap6 x0 x1 x2 x3 x4 b s c))
  refine (val_main_v67_apply (F := Ideal) x0 x1 x2 x3 x4 (ix3 b s c)).trans (congrArg₂ (fun a b : EReal => a + b) ?_ (tap5 x0 x1 x2 x3 x4 b s c))
  refine (val_main_v60_apply (F := Ideal) x0 x1 x2 x3 x4 (ix3 b s c)).trans (congrArg₂ (fun a b : EReal => a + b) ?_ (tap4 x0 x1 x2 x3 x4 b s c))
  refine (val_main_v53_apply (F := Ideal) x0 x1 x2 x3 x4 (ix3 b s c)).trans (congrArg₂ (fun a b : EReal => a + b) ?_ (tap3 x0 x1 x2 x3 x4 b s c))
  refine (val_main_v46_apply (F := Ideal) x0 x1 x2 x3 x4 (ix3 b s c)).trans (congrArg₂ (fun a b : EReal => a + b) ?_ (tap2 x0 x1 x2 x3 x4 b s c))
  refine (val_main_v39_apply (F := Ideal) x0 x1 x2 x3 x4 (ix3 b s c)).trans (congrArg₂ (fun a b : EReal => a + b) ?_ (tap1 x0 x1 x2 x3 x4 b s c))
  exact tap0 x0 x1 x2 x3 x4 b s c

/-- The result. -/
theorem apply (x0 : Vec Ideal S8x8192x1024 .f32) (x1 : Vec Ideal S1024 .f32) (x2 : Vec Ideal S1024x2048 .f32) (x3 : Vec Ideal S2048 .f32) (x4 : Vec Ideal S31x1024 .f32)
    (x5 x6 x7 : Vec Ideal S1024 .f32) (b : Fin 8) (s : Fin 8192) (c : Fin 1024) :
    val_main_v269 (F := Ideal) x0 x1 x2 x3 x4 x5 x6 x7 (ix3 b s c)
      = Row.inner (fun n k => x0 (ix3 b n k)) (fun k => x1 (ix1 k)) (fun k f => x2 (ix2 k f)) (fun f => x3 (ix1 f))
          (fun j k => x4 (ix2 j k)) (fun k => x5 (ix1 k)) (fun k => x6 (ix1 k)) (fun k => x7 (ix1 k)) s c := by
  have e : ∀ k, val_main_v245 (F := Ideal) x0 x1 x2 x3 x4 x5 (ix3 b s k)
      = Row.conv (fun n => Row.glu (fun k => x0 (ix3 b n k)) (fun k => x1 (ix1 k)) (fun k f => x2 (ix2 k f)) (fun f => x3 (ix1 f)) k)
          (fun j => x4 (ix2 j k)) (x5 (ix1 k)) s := fun k =>
    (conv_apply x0 x1 x2 x3 x4 x5 b s k).trans
      (congrArg (fun u => Row.conv u (fun j => x4 (ix2 j k)) (x5 (ix1 k)) s) (funext fun n => gated_apply x0 x1 x2 x3 b n k))
  unfold Row.inner
  refine Eq.trans ?_ (congrArg Row.silu (Row.norm_congr e (fun _ => rfl) (fun _ => rfl) c))
  unfold val_main_v269 val_main_v268 val_main_call1_v5 val_main_call1_v4 val_main_call1_v3 val_main_call1_v2 val_main_call1_v1 val_main_call1_v0 val_main_call1_cst_0 val_main_call1_cst val_main_v267 val_main_v266 val_main_v265 val_main_v264 val_main_v263 val_main_v262 val_main_v261 val_main_v260 val_main_v259 val_main_v258 val_main_v257 val_main_v256 val_main_v255 val_main_v254 val_main_v253 val_main_v252 val_main_v251 val_main_v250 val_main_v249 val_main_v248 val_main_v247 val_main_v246 val_main_cst_8 val_main_cst_7 val_main_cst_6 val_main_cst_5 val_main_cst_4
  generalize val_main_v245 (F := Ideal) x0 x1 x2 x3 x4 x5 = X
  pointwise
  rfl

end Cert.Proof.ConfRef

end
-- ==== Proof.ConfClaims.lean ====
/-
  The claims on the layer's last feed-forward kernel: its frames, and that it computes what the reference computes. Both sides'
  result arrays are the same function row by row (ConfValue.lean, ConfRef.lean).
-/
module

public import proofs.«01_k».proof.Proof.ConfValue
public import proofs.«01_k».proof.Proof.ConfRef
public import proofs.«01_k».proof.Proof.Gen.Conf.Frame
public import Idealize.ShloMosaic.Lib.Claim

@[expose] public section

noncomputable section

namespace Cert.Proof.Conf

open Idealize.ShloMosaic Idealize.SL.Sem Idealize.ShloMosaic.TcCoe

theorem frame_kernel : Cert.quiescent_Conf := fun m ρ _ => Cert.Conf.Gen.frame m ρ
theorem frame_ideal : Cert.quiescent_ConfIdeal := fun m ρ _ => Cert.ConfIdeal.Gen.frame m ρ
/-- The reference is host operations alone: it declares no semaphore. -/
theorem frame_ref : Cert.quiescent_ConfRefIdeal := fun m ρ _ =>
  (θ_run Cert.ConfRefIdeal.defs _ _).mono (fun r h => ⟨fun c => (h c).2, sem_eq_zero_of_no_sems (by decide) r.2⟩)
    (Cert.ConfRefIdeal.Value.run (F := Ideal) m ρ)

theorem algebraic : Cert.algebraic_ConfIdeal_ConfRefIdeal := by
  intro m g m' g' _ hargs
  refine ⟨fun c => final m c, ?_, ?_⟩
  · exact (θ_run Cert.ConfIdeal.defs _ _).mono (fun r h c => ⟨(h c).1.trans (final_eq m c), (h c).2⟩)
      (Cert.ConfIdeal.Value.run_blocks (F := Ideal) m g)
  · refine (θ_run Cert.ConfRefIdeal.defs _ _).mono (fun r h c => ⟨(h c).1.trans ?_, (h c).2⟩) (Cert.ConfRefIdeal.Value.run (F := Ideal) m' g')
    obtain ⟨h0, h1, h2, h3, h4, h5, h6, h7⟩ := hargs c
    rw [Cert.ConfRefIdeal.Read.val_main_v269_eq]
    show Cert.ConfRefIdeal.Read.val_main_v269 (F := Ideal) (m' ((c : Thread Cert.ConfRefIdeal.nD Cert.ConfRefIdeal.τ).loc Cert.ConfRefIdeal.main_arg0)) (m' ((c : Thread Cert.ConfRefIdeal.nD Cert.ConfRefIdeal.τ).loc Cert.ConfRefIdeal.main_arg1)) (m' ((c : Thread Cert.ConfRefIdeal.nD Cert.ConfRefIdeal.τ).loc Cert.ConfRefIdeal.main_arg2)) (m' ((c : Thread Cert.ConfRefIdeal.nD Cert.ConfRefIdeal.τ).loc Cert.ConfRefIdeal.main_arg3)) (m' ((c : Thread Cert.ConfRefIdeal.nD Cert.ConfRefIdeal.τ).loc Cert.ConfRefIdeal.main_arg4)) (m' ((c : Thread Cert.ConfRefIdeal.nD Cert.ConfRefIdeal.τ).loc Cert.ConfRefIdeal.main_arg5)) (m' ((c : Thread Cert.ConfRefIdeal.nD Cert.ConfRefIdeal.τ).loc Cert.ConfRefIdeal.main_arg6)) (m' ((c : Thread Cert.ConfRefIdeal.nD Cert.ConfRefIdeal.τ).loc Cert.ConfRefIdeal.main_arg7)) = _
    rw [h0, h1, h2, h3, h4, h5, h6, h7]
    funext i
    obtain ⟨b, q, k, rfl⟩ : ∃ (b : Fin 8) (q : Fin 8192) (k : Fin 1024), i = ix3 b q k := ⟨i 0, i 1, i 2, by
      funext a
      match a with
      | ⟨0, _⟩ => rfl
      | ⟨1, _⟩ => rfl
      | ⟨2, _⟩ => rfl⟩
    exact ConfRef.apply _ _ _ _ _ _ _ _ b q k

end Cert.Proof.Conf

end
-- ==== Proof.MixRow.lean ====
/-
  One row of the mixer's convolution branch, as functions of extended reals: the last 1536 columns of the projected row are a gate, and
  two factors whose product is convolved along the sequence with three taps.
-/
module

public import proofs.«01_k».proof.Proof.FfnRow

@[expose] public section

noncomputable section

namespace Cert.Proof.Row

open Idealize.ShloMosaic
open scoped BigOperators

/-- A column of the normalised row times the last 1536 columns of the weights. -/
def proj (x g : Fin 1024 → EReal) (w : Fin 1024 → Fin 1536 → EReal) (f : Fin 1536) : EReal := times (rms x g) w f

/-- The product the convolution runs over. -/
def factor (x g : Fin 1024 → EReal) (w : Fin 1024 → Fin 1536 → EReal) (c : Fin 512) : EReal :=
  proj x g w ⟨512 + c.val, by omega⟩ * proj x g w ⟨1024 + c.val, by omega⟩

/-- Tap `j` at position `s`: the row `2 - j` positions before, zero before the start. -/
def tap (u : Fin 8192 → EReal) (w : Fin 3 → EReal) (s : Fin 8192) (j : Fin 3) : EReal :=
  (if h : 2 ≤ s.val + j.val then u ⟨s.val + j.val - 2, by omega⟩ else 0) * w j

/-- The causal convolution with three taps. -/
def conv3 (u : Fin 8192 → EReal) (w : Fin 3 → EReal) (s : Fin 8192) : EReal := tap u w s 0 + tap u w s 1 + tap u w s 2

/-- The last tap may come first. -/
theorem conv3_last_first (u : Fin 8192 → EReal) (w : Fin 3 → EReal) (s : Fin 8192) :
    tap u w s 2 + tap u w s 0 + tap u w s 1 = conv3 u w s := by
  rw [conv3]; abel

/-- The convolution branch at position `s`, column `c`, of the rows of a batch entry. -/
def branch (h : Fin 8192 → Fin 1024 → EReal) (g : Fin 1024 → EReal) (w : Fin 1024 → Fin 1536 → EReal) (cw : Fin 3 → Fin 512 → EReal)
    (s : Fin 8192) (c : Fin 512) : EReal :=
  proj (h s) g w ⟨c.val, by omega⟩ * conv3 (fun n => factor (h n) g w c) (fun j => cw j c) s

/-- Projected rows of rows and weights equal entry by entry. -/
theorem proj_congr {x x' g g' : Fin 1024 → EReal} {w w' : Fin 1024 → Fin 1536 → EReal} (hx : ∀ k, x k = x' k) (hg : ∀ k, g k = g' k)
    (hw : ∀ k f, w k f = w' k f) (f : Fin 1536) : proj x g w f = proj x' g' w' f := by
  obtain rfl : x = x' := funext hx
  obtain rfl : g = g' := funext hg
  obtain rfl : w = w' := funext fun k => funext (hw k)
  rfl

end Cert.Proof.Row

end
-- ==== Proof.MixIdealRun.lean ====
/-
  The mixing kernel's body, run once at any buffers: which pieces its stores leave in each buffer, when the grid point is the first of its
  batch entry (case A, zeros above the block) and when it is a later one (case B, the rows kept for the entry above it).
-/
module

public import proofs.«01_k».proof.Defs
public import proofs.«01_k».proof.Proof.Gen.MixIdeal.Frame
public import proofs.«01_k».proof.Proof.Gen.MixIdeal.Skeleton
public import Idealize.ShloMosaic.Lib.Claim

@[expose] public section

set_option maxRecDepth 16384

noncomputable section

namespace Cert.Proof.MixIdeal

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's first condition: the first block of a batch entry. -/
abbrev cond0 (i : grid0.Coords) : Prop := (Scalar.cmpi .ne (Scalar.extui (Scalar.cmpi .eq (BitVec.ofNat 32 (i 0).val) 0#32)) 0#32) = 1#1
theorem hcond0 : ∀ t : Fin cfg0.N, cond0 (grid0.coords t) ↔ t.val < 8 :=
  (by decide +kernel : ∀ t : Fin grid0.N, cond0 (grid0.coords t) ↔ t.val < 8)
/-- The body's second condition: a later block of a batch entry. -/
abbrev cond1 (i : grid0.Coords) : Prop := k0_cond2 i = 1#1
theorem hcond1 : ∀ t : Fin cfg0.N, cond1 (grid0.coords t) ↔ 8 ≤ t.val :=
  (by decide +kernel : ∀ t : Fin grid0.N, cond1 (grid0.coords t) ↔ 8 ≤ t.val)
/-- Where the point keeps its last rows: at its batch entry. -/
theorem keepOff : ∀ t : Fin cfg0.N, k0_off2 (grid0.coords t) = ![t.val % 8, 0, 0] :=
  (by decide +kernel : ∀ t : Fin grid0.N, k0_off2 (grid0.coords t) = ![t.val % 8, 0, 0])
theorem readOff : ∀ t : Fin cfg0.N, k0_off1 (grid0.coords t) = ![t.val % 8, 0, 0] :=
  (by decide +kernel : ∀ t : Fin grid0.N, k0_off1 (grid0.coords t) = ![t.val % 8, 0, 0])

set_option maxHeartbeats 4000000 in
/-- Case A: the pieces, and the body's run to them. -/
noncomputable def runA (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S72x1024 .bf16) (harg5 : arg5.IsWhole) (arg6 : Memref sig .tc .vmem S1024x1536 .bf16) (harg6 : arg6.IsWhole) (arg7 : Memref sig .tc .vmem S3x512 .f32) (harg7 : arg7.IsWhole) (arg8 : Memref sig .tc .vmem S512x512 .f32) (harg8 : arg8.IsWhole) (arg9 : Memref sig .tc .vmem S1x512x512 .bf16) (harg9 : arg9.IsWhole) (arg10 : Memref sig .tc .vmem S1x512x256 .bf16) (harg10 : arg10.IsWhole) (arg11 : Memref sig .tc .vmem S1x512x128 .bf16) (harg11 : arg11.IsWhole) (arg12 : Memref sig .tc .vmem S1x1x72x512 .bf16) (harg12 : arg12.IsWhole) (arg13 : Memref sig .tc .vmem S1x512x32 .bf16) (harg13 : arg13.IsWhole) (arg14 : Memref sig .tc .vmem S1x8x512 .f32) (harg14 : arg14.IsWhole) (arg15 : Memref sig .tc .vmem S1x512x512 .bf16) (harg15 : arg15.IsWhole) (arg16 : Memref sig .tc .vmem S520x512 .f32) (harg16 : arg16.IsWhole) (arg17 : Memref sig .tc .vmem S8x8x512 .f32) (harg17 : arg17.IsWhole) (hc0 : cond0 i) (hc1 : ¬cond1 i)
    (x0 : Vec F S1x512x1024 .f32) (x1 : Vec F S1x1024 .f32) (x2 : Vec F S1024x1024 .bf16) (x3 : Vec F S72x1024 .bf16) (x4 : Vec F S1024x1536 .bf16) (x5 : Vec F S3x512 .f32) (x6 : Vec F S512x512 .f32) (xs : Vec F S8x8x512 .f32) :
    Σ' (L7 : List (View.Piece (Elt F) S1x512x512 .bf16)), Σ' (L8 : List (View.Piece (Elt F) S1x512x256 .bf16)), Σ' (L9 : List (View.Piece (Elt F) S1x512x128 .bf16)), Σ' (L10 : List (View.Piece (Elt F) S1x1x72x512 .bf16)), Σ' (L11 : List (View.Piece (Elt F) S1x512x32 .bf16)), Σ' (L12 : List (View.Piece (Elt F) S1x8x512 .f32)), Σ' (L13 : List (View.Piece (Elt F) S1x512x512 .bf16)), Σ' (LT : List (View.Piece (Elt F) S520x512 .f32)), { LS : List (View.Piece (Elt F) S8x8x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f LT) ∗ arg17.view.loc (c : Thread nD τ) ↦[arg17.view.set]{fullShare} arg17.view.writes (Elt F) (harg17.unread xs) LS) -∗ K ⟨⟩))
          ⊢ wp frame (wpE (defs₀ (F := F)) Variants.none c none) E (cc0_mix_in i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, ?_, ?_, fun E K => ?run⟩
  case run =>
    simp only [cc0_mix_in_eq_skeleton]; unfold cc0_mix_in_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg17.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [HS0]; · iexists _; iexact HS0
    iexact HS1

set_option maxHeartbeats 4000000 in
/-- Case B: the pieces, and the body's run to them. -/
noncomputable def runB (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S72x1024 .bf16) (harg5 : arg5.IsWhole) (arg6 : Memref sig .tc .vmem S1024x1536 .bf16) (harg6 : arg6.IsWhole) (arg7 : Memref sig .tc .vmem S3x512 .f32) (harg7 : arg7.IsWhole) (arg8 : Memref sig .tc .vmem S512x512 .f32) (harg8 : arg8.IsWhole) (arg9 : Memref sig .tc .vmem S1x512x512 .bf16) (harg9 : arg9.IsWhole) (arg10 : Memref sig .tc .vmem S1x512x256 .bf16) (harg10 : arg10.IsWhole) (arg11 : Memref sig .tc .vmem S1x512x128 .bf16) (harg11 : arg11.IsWhole) (arg12 : Memref sig .tc .vmem S1x1x72x512 .bf16) (harg12 : arg12.IsWhole) (arg13 : Memref sig .tc .vmem S1x512x32 .bf16) (harg13 : arg13.IsWhole) (arg14 : Memref sig .tc .vmem S1x8x512 .f32) (harg14 : arg14.IsWhole) (arg15 : Memref sig .tc .vmem S1x512x512 .bf16) (harg15 : arg15.IsWhole) (arg16 : Memref sig .tc .vmem S520x512 .f32) (harg16 : arg16.IsWhole) (arg17 : Memref sig .tc .vmem S8x8x512 .f32) (harg17 : arg17.IsWhole) (hc0 : ¬cond0 i) (hc1 : cond1 i)
    (x0 : Vec F S1x512x1024 .f32) (x1 : Vec F S1x1024 .f32) (x2 : Vec F S1024x1024 .bf16) (x3 : Vec F S72x1024 .bf16) (x4 : Vec F S1024x1536 .bf16) (x5 : Vec F S3x512 .f32) (x6 : Vec F S512x512 .f32) (xs : Vec F S8x8x512 .f32) :
    Σ' (L7 : List (View.Piece (Elt F) S1x512x512 .bf16)), Σ' (L8 : List (View.Piece (Elt F) S1x512x256 .bf16)), Σ' (L9 : List (View.Piece (Elt F) S1x512x128 .bf16)), Σ' (L10 : List (View.Piece (Elt F) S1x1x72x512 .bf16)), Σ' (L11 : List (View.Piece (Elt F) S1x512x32 .bf16)), Σ' (L12 : List (View.Piece (Elt F) S1x8x512 .f32)), Σ' (L13 : List (View.Piece (Elt F) S1x512x512 .bf16)), Σ' (LT : List (View.Piece (Elt F) S520x512 .f32)), { LS : List (View.Piece (Elt F) S8x8x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f LT) ∗ arg17.view.loc (c : Thread nD τ) ↦[arg17.view.set]{fullShare} arg17.view.writes (Elt F) (harg17.unread xs) LS) -∗ K ⟨⟩))
          ⊢ wp frame (wpE (defs₀ (F := F)) Variants.none c none) E (cc0_mix_in i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, ?_, ?_, fun E K => ?run⟩
  case run =>
    simp only [cc0_mix_in_eq_skeleton]; unfold cc0_mix_in_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg17.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [HS0]; · iexists _; iexact HS0
    iexact HS1

end Cert.Proof.MixIdeal

end
-- ==== Proof.MixIdealBuf.lean ====
/-
  What the mixing kernel's body leaves in the convolution's output block and in the rows it keeps, as closed terms of the input blocks and
  of the eight rows that stand above the block.
-/
module

public import proofs.«01_k».proof.Proof.MixIdealRun
public import Idealize.ShloMosaic.Lib.Pipeline.Value
public import Idealize.ShloMosaic.Lib.Pointwise

@[expose] public section

set_option maxRecDepth 16384

noncomputable section

namespace Cert.Proof.MixIdeal

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem zeros2 : (![0, 0] : Fin 2 → Nat) = fun _ => 0 := funext fun a => by fin_cases a <;> rfl
theorem zeros3 : (![0, 0, 0] : Fin 3 → Nat) = fun _ => 0 := funext fun a => by fin_cases a <;> rfl

/-- A load of a whole array of rank two reads it. -/
theorem read_all2 {m n : Nat} {e : EltTy} (a : Memref sig .tc .vmem ⟨2, ![m, n]⟩ e) (ha : a.IsWhole) (x : Vec F ⟨2, ![m, n]⟩ e)
    (inb : ∀ a, (![0, 0] : Fin 2 → Nat) a + (![m, n] : Fin 2 → Nat) a ≤ (![m, n] : Fin 2 → Nat) a) :
    View.readAt (Elt F) a.view (Rect.unit (s := ⟨2, ![m, n]⟩) ![0, 0] ![m, n] inb).toLoadRect (ha.unread x) = x := by
  rw [View.readAt_eq_ld, ha.read_unread]
  exact View.ld_unit_zero zeros2 _ _

/-- And of rank three. -/
theorem read_all3 {l m n : Nat} {e : EltTy} (a : Memref sig .tc .vmem ⟨3, ![l, m, n]⟩ e) (ha : a.IsWhole) (x : Vec F ⟨3, ![l, m, n]⟩ e)
    (inb : ∀ a, (![0, 0, 0] : Fin 3 → Nat) a + (![l, m, n] : Fin 3 → Nat) a ≤ (![l, m, n] : Fin 3 → Nat) a) :
    View.readAt (Elt F) a.view (Rect.unit (s := ⟨3, ![l, m, n]⟩) ![0, 0, 0] ![l, m, n] inb).toLoadRect (ha.unread x) = x := by
  rw [View.readAt_eq_ld, ha.read_unread]
  exact View.ld_unit_zero zeros3 _ _

/-- One row of the filter. -/
def row (x5 : Vec F S3x512 .f32) (j : Fin 3) : Vec F S1x512 .f32 := fun i => x5 (ix2 j (i 1))

/-- A load of row `o` of the filter. -/
theorem read_row (a : Memref sig .tc .vmem S3x512 .f32) (ha : a.IsWhole) (x : Vec F S3x512 .f32) (o : Nat) (ho : o < 3)
    (inb : ∀ a, (![o, 0] : Fin 2 → Nat) a + S1x512.size a ≤ S3x512.size a) :
    View.readAt (Elt F) a.view (Rect.unit (s := S3x512) ![o, 0] S1x512.size inb).toLoadRect (ha.unread x) = row x ⟨o, ho⟩ := by
  rw [View.readAt_eq_ld, ha.read_unread]
  funext y
  refine congrArg x (funext fun a => Fin.ext ?_)
  match a with
  | ⟨0, _⟩ => show o + 1 * (y 0).val = o; have : (y 0).val < 1 := (y 0).isLt; omega
  | ⟨1, _⟩ => show 0 + 1 * (y 1).val = (y 1).val; omega

/-- The eight rows kept for batch entry `b`. -/
def kept (xs : Vec F S8x8x512 .f32) (b : Fin 8) : Vec F S1x8x512 .f32 := fun i => xs (ix3 b (i 1) (i 2))

/-- A load of them. -/
theorem read_kept (a : Memref sig .tc .vmem S8x8x512 .f32) (ha : a.IsWhole) (x : Vec F S8x8x512 .f32) (i : grid0.Coords)
    (inb : ∀ a, k0_off1 i a + S1x8x512.size a ≤ S8x8x512.size a) :
    View.readAt (Elt F) a.view (Rect.unit (s := S8x8x512) (k0_off1 i) S1x8x512.size inb).toLoadRect (ha.unread x) = kept x (i 1) := by
  rw [View.readAt_eq_ld, ha.read_unread]
  funext y
  refine congrArg x (funext fun a => Fin.ext ?_)
  match a with
  | ⟨0, _⟩ => show k0_off1 i 0 + 1 * (y 0).val = (i 1).val; have : (y 0).val < 1 := (y 0).isLt; have e : k0_off1 i 0 = (i 1).val := congrFun (k0_off1_eq i) 0; omega
  | ⟨1, _⟩ => show k0_off1 i 1 + 1 * (y 1).val = (y 1).val; have e : k0_off1 i 1 = 0 := congrFun (k0_off1_eq i) 1; omega
  | ⟨2, _⟩ => show k0_off1 i 2 + 1 * (y 2).val = (y 2).val; have e : k0_off1 i 2 = 0 := congrFun (k0_off1_eq i) 2; omega

/-- What a store of eight rows `w` at the point's batch entry leaves: those rows there, -/
theorem kept_hit (a : Memref sig .tc .vmem S8x8x512 .f32) (f : a.view.ty.Contents (Elt F)) (i : grid0.Coords)
    (inb : ∀ a, k0_off2 i a + S1x8x512.size a ≤ S8x8x512.size a) (w : Vec F S1x8x512 .f32) :
    kept (a.view.read (Elt F) (a.view.writes (Elt F) f [⟨Rect.unit (s := S8x8x512) (k0_off2 i) S1x8x512.size inb, w⟩])) (i 1) = w := by
  funext y
  have hy : (y 0).val < 1 := (y 0).isLt
  refine View.read_writes_cons_hit a.view f (Rect.unit (s := S8x8x512) (k0_off2 i) S1x8x512.size inb) w [] y _ (funext fun b => Fin.ext ?_)
  match b with
  | ⟨0, _⟩ => show k0_off2 i 0 + 1 * (y 0).val = (i 1).val; have e : k0_off2 i 0 = (i 1).val := congrFun (k0_off2_eq i) 0; omega
  | ⟨1, _⟩ => show k0_off2 i 1 + 1 * (y 1).val = (y 1).val; have e : k0_off2 i 1 = 0 := congrFun (k0_off2_eq i) 1; omega
  | ⟨2, _⟩ => show k0_off2 i 2 + 1 * (y 2).val = (y 2).val; have e : k0_off2 i 2 = 0 := congrFun (k0_off2_eq i) 2; omega

/-- and every other batch entry's rows as they were. -/
theorem kept_miss (a : Memref sig .tc .vmem S8x8x512 .f32) (ha : a.IsWhole) (x : Vec F S8x8x512 .f32) (i : grid0.Coords)
    (inb : ∀ a, k0_off2 i a + S1x8x512.size a ≤ S8x8x512.size a) (w : Vec F S1x8x512 .f32) (b : Fin 8) (hb : b ≠ i 1) :
    kept (a.view.read (Elt F) (a.view.writes (Elt F) (ha.unread x) [⟨Rect.unit (s := S8x8x512) (k0_off2 i) S1x8x512.size inb, w⟩])) b = kept x b := by
  funext y
  refine (View.read_writes_cons_miss a.view (ha.unread x) _ [] (ix3 b (y 1) (y 2)) ?_).trans ?_
  · intro h
    have h0 := (Rect.mem_set_unit (inb := inb).mp h) 0
    have e : k0_off2 i 0 = (i 1).val := congrFun (k0_off2_eq i) 0
    have h1 : k0_off2 i 0 ≤ b.val := h0.1
    have h2 : b.val < k0_off2 i 0 + 1 := h0.2
    exact hb (Fin.ext (by omega))
  · exact congrFun (ha.read_unread x) (ix3 b (y 1) (y 2))

/-- The buffer the convolution reads: eight rows above, the block's own 512 rows below. -/
def joined (u : Vec F S512x512 .f32) (h : Vec F S8x512 .f32) : Vec F S520x512 .f32 := fun y =>
  if hy : 8 ≤ (y 0).val then u (ix2 ⟨(y 0).val - 8, by have : (y 0).val < 520 := (y 0).isLt; omega⟩ (y 1))
  else h (ix2 ⟨(y 0).val, by omega⟩ (y 1))

/-- The two stores into it, last first. -/
abbrev joinPieces (u : Vec F S512x512 .f32) (h : Vec F S8x512 .f32) : List (View.Piece (Elt F) S520x512 .f32) :=
  [⟨Rect.unit ![8, 0] S512x512.size inb_S520x512_S512x512_8_0, u⟩, ⟨Rect.unit ![0, 0] S8x512.size inb_S520x512_S8x512_0_0, h⟩]

/-- They cover it. -/
theorem cover_join (u : Vec F S512x512 .f32) (h : Vec F S8x512 .f32) (y : S520x512.Idx) : ∃ p ∈ joinPieces u h, y ∈ p.1.set := by
  have h0 : (y 0).val < 520 := (y 0).isLt
  have h1 : (y 1).val < 512 := (y 1).isLt
  by_cases hy : 8 ≤ (y 0).val
  · have k : y ∈ (Rect.unit (s := S520x512) ![8, 0] S512x512.size inb_S520x512_S512x512_8_0).set := by
      refine Rect.mem_set_unit.mpr fun a => ?_
      match a with
      | ⟨0, _⟩ => exact ⟨hy, show (y 0).val < 8 + 512 by omega⟩
      | ⟨1, _⟩ => exact ⟨Nat.zero_le _, show (y 1).val < 0 + 512 by omega⟩
    exact ⟨_, List.mem_cons_self, k⟩
  · have k : y ∈ (Rect.unit (s := S520x512) ![0, 0] S8x512.size inb_S520x512_S8x512_0_0).set := by
      refine Rect.mem_set_unit.mpr fun a => ?_
      match a with
      | ⟨0, _⟩ => exact ⟨Nat.zero_le _, show (y 0).val < 0 + 8 by omega⟩
      | ⟨1, _⟩ => exact ⟨Nat.zero_le _, show (y 1).val < 0 + 512 by omega⟩
    exact ⟨_, List.mem_cons_of_mem _ List.mem_cons_self, k⟩

/-- And leave `joined`. -/
theorem canon_join (u : Vec F S512x512 .f32) (h : Vec F S8x512 .f32) : View.canon (joinPieces u h) = joined u h := by
  funext y
  refine View.canon_apply_of_pieces (joined u h) _ (fun p hp x => ?_) y (cover_join u h y)
  simp only [joinPieces, List.mem_cons, List.not_mem_nil, or_false] at hp
  rcases hp with rfl | rfl
  · have hx : (x 0).val < 512 := (x 0).isLt
    show u x = _
    unfold joined
    have h8 : 8 ≤ (((Rect.unit (s := S520x512) ![8, 0] S512x512.size inb_S520x512_S512x512_8_0).emb x) 0).val := by
      show 8 ≤ 8 + 1 * (x 0).val; omega
    rw [dif_pos h8]
    refine congrArg u (funext fun a => Fin.ext ?_)
    match a with
    | ⟨0, _⟩ => show (x 0).val = 8 + 1 * (x 0).val - 8; omega
    | ⟨1, _⟩ => show (x 1).val = 0 + 1 * (x 1).val; omega
  · have hx : (x 0).val < 8 := (x 0).isLt
    show h x = _
    unfold joined
    have h8 : ¬ 8 ≤ (((Rect.unit (s := S520x512) ![0, 0] S8x512.size inb_S520x512_S8x512_0_0).emb x) 0).val := by
      show ¬ 8 ≤ 0 + 1 * (x 0).val; omega
    rw [dif_neg h8]
    refine congrArg h (funext fun a => Fin.ext ?_)
    match a with
    | ⟨0, _⟩ => show (x 0).val = 0 + 1 * (x 0).val; omega
    | ⟨1, _⟩ => show (x 1).val = 0 + 1 * (x 1).val; omega

/-- The 512 rows of the buffer that start at row `o`. -/
def rowsAt (W : Vec F S520x512 .f32) (o : Nat) (ho : o ≤ 8) : Vec F S512x512 .f32 := fun i =>
  W (ix2 ⟨o + (i 0).val, by have : (i 0).val < 512 := (i 0).isLt; omega⟩ (i 1))

/-- A load of them. -/
theorem read_rows (v : View sig .tc .vmem S520x512 .f32) (u : Vec F S512x512 .f32) (h : Vec F S8x512 .f32) (o : Nat) (ho : o ≤ 8)
    (inb : ∀ a, (![o, 0] : Fin 2 → Nat) a + S512x512.size a ≤ S520x512.size a) :
    v.readCov (joinPieces u h) (Rect.unit (s := S520x512) ![o, 0] S512x512.size inb).toLoadRect = rowsAt (joined u h) o ho := by
  rw [View.readCov_eq_canon_ld v _ _ (cover_join u h), canon_join]
  funext x
  refine congrArg (joined u h) (funext fun a => Fin.ext ?_)
  match a with
  | ⟨0, _⟩ => show o + 1 * (x 0).val = o + (x 0).val; omega
  | ⟨1, _⟩ => show 0 + 1 * (x 1).val = (x 1).val; omega

/-- The convolution's output block, of the input blocks and the eight rows above. -/
def mixed (x0 : Vec F S1x512x1024 .f32) (x1 : Vec F S1x1024 .f32) (x4 : Vec F S1024x1536 .bf16) (x5 : Vec F S3x512 .f32) (h : Vec F S8x512 .f32) : Vec F S1x512x512 .bf16 :=
  k0_pay1 (k0_pay19 (k0_pay2 x0 x1) x4)
    (k0_pay25 (k0_pay2 x0 x1) x4 (row x5 2) (rowsAt (joined (k0_pay23 (k0_pay2 x0 x1) x4) h) 6 (by decide)) (row x5 0))
    (rowsAt (joined (k0_pay23 (k0_pay2 x0 x1) x4) h) 7 (by decide)) (row x5 1)

/-- The block's last eight rows, as kept. -/
def tailRows (x0 : Vec F S1x512x1024 .f32) (x1 : Vec F S1x1024 .f32) (x4 : Vec F S1024x1536 .bf16) : Vec F S1x8x512 .f32 :=
  k0_pay24 (k0_pay2 x0 x1) x4

section

variable (c : Dev nD) (i : grid0.Coords)
  (arg2 : Memref sig .tc .vmem S1x512x1024 .f32) (harg2 : arg2.IsWhole)
  (arg3 : Memref sig .tc .vmem S1x1024 .f32) (harg3 : arg3.IsWhole)
  (arg4 : Memref sig .tc .vmem S1024x1024 .bf16) (harg4 : arg4.IsWhole)
  (arg5 : Memref sig .tc .vmem S72x1024 .bf16) (harg5 : arg5.IsWhole)
  (arg6 : Memref sig .tc .vmem S1024x1536 .bf16) (harg6 : arg6.IsWhole)
  (arg7 : Memref sig .tc .vmem S3x512 .f32) (harg7 : arg7.IsWhole)
  (arg8 : Memref sig .tc .vmem S512x512 .f32) (harg8 : arg8.IsWhole)
  (arg9 : Memref sig .tc .vmem S1x512x512 .bf16) (harg9 : arg9.IsWhole)
  (arg10 : Memref sig .tc .vmem S1x512x256 .bf16) (harg10 : arg10.IsWhole)
  (arg11 : Memref sig .tc .vmem S1x512x128 .bf16) (harg11 : arg11.IsWhole)
  (arg12 : Memref sig .tc .vmem S1x1x72x512 .bf16) (harg12 : arg12.IsWhole)
  (arg13 : Memref sig .tc .vmem S1x512x32 .bf16) (harg13 : arg13.IsWhole)
  (arg14 : Memref sig .tc .vmem S1x8x512 .f32) (harg14 : arg14.IsWhole)
  (arg15 : Memref sig .tc .vmem S1x512x512 .bf16) (harg15 : arg15.IsWhole)
  (arg16 : Memref sig .tc .vmem S520x512 .f32) (harg16 : arg16.IsWhole)
  (arg17 : Memref sig .tc .vmem S8x8x512 .f32) (harg17 : arg17.IsWhole)
  (x0 : Vec F S1x512x1024 .f32) (x1 : Vec F S1x1024 .f32) (x2 : Vec F S1024x1024 .bf16) (x3 : Vec F S72x1024 .bf16) (x4 : Vec F S1024x1536 .bf16) (x5 : Vec F S3x512 .f32) (x6 : Vec F S512x512 .f32) (xs : Vec F S8x8x512 .f32)

/-- Case A: the normalised rows, -/
theorem rows_A : runA.sl.r (F := F) c arg2 harg2 arg3 harg3 x0 x1 = k0_pay2 x0 x1 := by
  unfold runA.sl.r
  exact congr (congrArg k0_pay2 (read_all3 arg2 harg2 x0 _)) (read_all2 arg3 harg3 x1 _)

/-- the gate, -/
theorem gate_A : runA.sl.r_12 (F := F) c arg2 harg2 arg3 harg3 arg6 harg6 x0 x1 x4 = k0_pay19 (k0_pay2 x0 x1) x4 := by
  unfold runA.sl.r_12
  exact congr (congrArg k0_pay19 (rows_A c arg2 harg2 arg3 harg3 x0 x1)) (read_all2 arg6 harg6 x4 _)

/-- the stores into the buffer, -/
theorem join_A : runA.sl.HS0_2 (F := F) c arg2 harg2 arg3 harg3 arg6 harg6 x0 x1 x4 = joinPieces (k0_pay23 (k0_pay2 x0 x1) x4) (k0_pay21 (F := F)) := by
  unfold runA.sl.HS0_2
  rw [rows_A c arg2 harg2 arg3 harg3 x0 x1, read_all2 arg6 harg6 x4]

/-- the rows one above, -/
theorem above1_A : runA.sl.v146 (F := F) c arg2 harg2 arg3 harg3 arg6 harg6 arg16 x0 x1 x4 = rowsAt (joined (k0_pay23 (k0_pay2 x0 x1) x4) (k0_pay21 (F := F))) 7 (by decide) := by
  unfold runA.sl.v146
  rw [join_A]
  exact read_rows _ _ _ _ _ _

/-- the rows two above, -/
theorem above2_A : runA.sl.v141 (F := F) c arg2 harg2 arg3 harg3 arg6 harg6 arg16 x0 x1 x4 = rowsAt (joined (k0_pay23 (k0_pay2 x0 x1) x4) (k0_pay21 (F := F))) 6 (by decide) := by
  unfold runA.sl.v141
  rw [join_A]
  exact read_rows _ _ _ _ _ _

/-- the partial sum, -/
theorem part_A : runA.sl.r_13 (F := F) c arg2 harg2 arg3 harg3 arg6 harg6 arg7 harg7 arg16 x0 x1 x4 x5
    = k0_pay25 (k0_pay2 x0 x1) x4 (row x5 2) (rowsAt (joined (k0_pay23 (k0_pay2 x0 x1) x4) (k0_pay21 (F := F))) 6 (by decide)) (row x5 0) := by
  unfold runA.sl.r_13
  rw [rows_A c arg2 harg2 arg3 harg3 x0 x1, read_all2 arg6 harg6 x4, read_row arg7 harg7 x5 2 (by decide), read_row arg7 harg7 x5 0 (by decide)]
  rw [above2_A]
  rfl

/-- the block stored, -/
theorem mixed_A (hc0 : cond0 i) (hc1 : ¬cond1 i) : (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs).2.2.2.2.2.2.1
    = [⟨Rect.unit ![0, 0, 0] S1x512x512.size inb_S1x512x512_S1x512x512_0_0_0, mixed x0 x1 x4 x5 (k0_pay21 (F := F))⟩] := by
  unfold runA mixed
  dsimp only
  rw [gate_A, part_A, above1_A, read_row arg7 harg7 x5 1 (by decide)]
  rfl

/-- and the rows kept. -/
theorem tail_A (hc0 : cond0 i) (hc1 : ¬cond1 i) : (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs).2.2.2.2.2.2.2.2.1
    = [⟨Rect.unit (s := S8x8x512) (k0_off2 i) S1x8x512.size (k0_off2_inb i), tailRows x0 x1 x4⟩] := by
  unfold runA tailRows
  dsimp only
  rw [rows_A c arg2 harg2 arg3 harg3 x0 x1, read_all2 arg6 harg6 x4]

/-- Case B: the normalised rows, -/
theorem rows_B : runB.sl.r (F := F) c arg2 harg2 arg3 harg3 x0 x1 = k0_pay2 x0 x1 := by
  unfold runB.sl.r
  exact congr (congrArg k0_pay2 (read_all3 arg2 harg2 x0 _)) (read_all2 arg3 harg3 x1 _)

/-- the gate, -/
theorem gate_B : runB.sl.r_12 (F := F) c arg2 harg2 arg3 harg3 arg6 harg6 x0 x1 x4 = k0_pay19 (k0_pay2 x0 x1) x4 := by
  unfold runB.sl.r_12
  exact congr (congrArg k0_pay19 (rows_B c arg2 harg2 arg3 harg3 x0 x1)) (read_all2 arg6 harg6 x4 _)

/-- the stores into the buffer, -/
theorem join_B (hc1 : cond1 i) : runB.sl.HS0_2 (F := F) c i arg2 harg2 arg3 harg3 arg6 harg6 arg17 harg17 hc1 x0 x1 x4 xs = joinPieces (k0_pay23 (k0_pay2 x0 x1) x4) (k0_pay22 (kept xs (i 1))) := by
  unfold runB.sl.HS0_2
  rw [rows_B c arg2 harg2 arg3 harg3 x0 x1, read_all2 arg6 harg6 x4, read_kept arg17 harg17 xs i]

/-- the rows one above, -/
theorem above1_B (hc1 : cond1 i) : runB.sl.v146 (F := F) c i arg2 harg2 arg3 harg3 arg6 harg6 arg16 arg17 harg17 hc1 x0 x1 x4 xs = rowsAt (joined (k0_pay23 (k0_pay2 x0 x1) x4) (k0_pay22 (kept xs (i 1)))) 7 (by decide) := by
  unfold runB.sl.v146
  rw [join_B]
  exact read_rows _ _ _ _ _ _

/-- the rows two above, -/
theorem above2_B (hc1 : cond1 i) : runB.sl.v141 (F := F) c i arg2 harg2 arg3 harg3 arg6 harg6 arg16 arg17 harg17 hc1 x0 x1 x4 xs = rowsAt (joined (k0_pay23 (k0_pay2 x0 x1) x4) (k0_pay22 (kept xs (i 1)))) 6 (by decide) := by
  unfold runB.sl.v141
  rw [join_B]
  exact read_rows _ _ _ _ _ _

/-- the partial sum, -/
theorem part_B (hc1 : cond1 i) : runB.sl.r_13 (F := F) c i arg2 harg2 arg3 harg3 arg6 harg6 arg7 harg7 arg16 arg17 harg17 hc1 x0 x1 x4 x5 xs
    = k0_pay25 (k0_pay2 x0 x1) x4 (row x5 2) (rowsAt (joined (k0_pay23 (k0_pay2 x0 x1) x4) (k0_pay22 (kept xs (i 1)))) 6 (by decide)) (row x5 0) := by
  unfold runB.sl.r_13
  rw [rows_B c arg2 harg2 arg3 harg3 x0 x1, read_all2 arg6 harg6 x4, read_row arg7 harg7 x5 2 (by decide), read_row arg7 harg7 x5 0 (by decide)]
  rw [above2_B]
  rfl

/-- the block stored, -/
theorem mixed_B (hc0 : ¬cond0 i) (hc1 : cond1 i) : (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs).2.2.2.2.2.2.1
    = [⟨Rect.unit ![0, 0, 0] S1x512x512.size inb_S1x512x512_S1x512x512_0_0_0, mixed x0 x1 x4 x5 (k0_pay22 (kept xs (i 1)))⟩] := by
  unfold runB mixed
  dsimp only
  rw [gate_B, part_B, above1_B, read_row arg7 harg7 x5 1 (by decide)]
  rfl

/-- and the rows kept. -/
theorem tail_B (hc0 : ¬cond0 i) (hc1 : cond1 i) : (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs).2.2.2.2.2.2.2.2.1
    = [⟨Rect.unit (s := S8x8x512) (k0_off2 i) S1x8x512.size (k0_off2_inb i), tailRows x0 x1 x4⟩] := by
  unfold runB tailRows
  dsimp only
  rw [rows_B c arg2 harg2 arg3 harg3 x0 x1, read_all2 arg6 harg6 x4]

end

end Cert.Proof.MixIdeal

end
-- ==== Proof.MixBody.lean ====
/-
  The mixing kernel's convolution branch as a function of vectors, read at an index.
-/
module

public import proofs.«01_k».proof.Proof.MixRow
public import proofs.«01_k».proof.Proof.MixIdealBuf
public import Idealize.ShloMosaic.Lib.Pointwise

@[expose] public section

set_option maxRecDepth 16384

noncomputable section

namespace Cert.Proof.MixIdeal

open Idealize.ShloMosaic Idealize.SL.Sem Cert.MixIdeal Cert.MixIdeal.Gen
open Cert.Proof

variable (x0 : Vec Ideal S1x512x1024 .f32) (x1 : Vec Ideal S1x1024 .f32) (x4 : Vec Ideal S1024x1536 .bf16) (x5 : Vec Ideal S3x512 .f32)

/-- The last 1536 columns of the block's projected rows. -/
abbrev projected : Vec Ideal S512x1536 .f32 := k0_pay18 (F := Ideal) (k0_pay2 x0 x1) x4

/-- The block's product of the two factors. -/
abbrev product : Vec Ideal S512x512 .f32 := k0_pay20 (F := Ideal) (k0_pay2 x0 x1) x4

theorem projected_apply (r : Fin 512) (f : Fin 1536) :
    projected x0 x1 x4 (ix2 r f) = Row.proj (fun k => x0 (ix3 0 r k)) (fun k => x1 (ix2 0 k)) (fun k f => x4 (ix2 k f)) f := by
  pointwise [projected, k0_pay18, k0_pay2]
  rfl

theorem cols_apply (X : Vec Ideal S512x1536 .f32) (o : Nat) (ho : o + 512 ≤ 1536) (h : S512x1536.Slices ![0, o] S512x512) (r c : Fin 512) :
    extractStridedSlice S512x512 ![0, o] X h (ix2 r c) = X (ix2 r ⟨o + c.val, by omega⟩) := by
  refine congrArg X (funext fun a => Fin.ext ?_)
  match a with
  | ⟨0, _⟩ => show 0 + r.val = r.val; omega
  | ⟨1, _⟩ => show o + c.val = o + c.val; rfl

theorem gate_apply (r c : Fin 512) :
    k0_pay19 (F := Ideal) (k0_pay2 x0 x1) x4 (ix2 r c)
      = Row.proj (fun k => x0 (ix3 0 r k)) (fun k => x1 (ix2 0 k)) (fun k f => x4 (ix2 k f)) ⟨c.val, by omega⟩ := by
  unfold k0_pay19
  refine (cols_apply (projected x0 x1 x4) 0 (by decide) _ r c).trans ((projected_apply x0 x1 x4 r _).trans ?_)
  exact congrArg (Row.proj _ _ _) (Fin.ext (show 0 + c.val = c.val by omega))

theorem product_apply (r c : Fin 512) :
    product x0 x1 x4 (ix2 r c) = Row.factor (fun k => x0 (ix3 0 r k)) (fun k => x1 (ix2 0 k)) (fun k f => x4 (ix2 k f)) c := by
  unfold product k0_pay20
  exact congrArg₂ (fun a b : EReal => a * b) ((cols_apply (projected x0 x1 x4) 512 (by decide) _ r c).trans (projected_apply x0 x1 x4 r _))
    ((cols_apply (projected x0 x1 x4) 1024 (by decide) _ r c).trans (projected_apply x0 x1 x4 r _))

/-- What the body stores of the product is the product. -/
theorem stored_eq : k0_pay23 (F := Ideal) (k0_pay2 x0 x1) x4 = product x0 x1 x4 := by
  unfold k0_pay23 product
  generalize k0_pay20 (F := Ideal) (k0_pay2 x0 x1) x4 = X
  funext i
  obtain ⟨r, c, rfl⟩ : ∃ (r c : Fin 512), i = ix2 r c := ⟨i 0, i 1, by
    funext a
    match a with
    | ⟨0, _⟩ => rfl
    | ⟨1, _⟩ => rfl⟩
  pointwise

/-- The rows kept are the last eight of the product. -/
theorem tail_apply (j : Fin 8) (c : Fin 512) :
    tailRows (F := Ideal) x0 x1 x4 (ix3 0 j c) = product x0 x1 x4 (ix2 ⟨504 + j.val, by omega⟩ c) := by
  unfold tailRows k0_pay24 product
  generalize k0_pay20 (F := Ideal) (k0_pay2 x0 x1) x4 = X
  have e : extractStridedSlice S8x512 ![504, 0] X slices_S512x512_o504_0_S8x512 = fun i => X (ix2 ⟨504 + (i 0).val, by have : (i 0).val < 8 := (i 0).isLt; omega⟩ (i 1)) := by
    funext i
    refine congrArg X (funext fun a => Fin.ext ?_)
    match a with
    | ⟨0, _⟩ => show 504 + (i 0).val = 504 + (i 0).val; rfl
    | ⟨1, _⟩ => show 0 + (i 1).val = (i 1).val; omega
  rw [e]
  pointwise

/-- The rows above the first block are zeros, -/
theorem zeros_apply (j : Fin 8) (c : Fin 512) : k0_pay21 (F := Ideal) (ix2 j c) = 0 := by
  unfold k0_pay21
  pointwise

/-- and those above a later block the rows kept. -/
theorem above_apply (w : Vec Ideal S1x8x512 .f32) (j : Fin 8) (c : Fin 512) : k0_pay22 (F := Ideal) w (ix2 j c) = w (ix3 0 j c) := by
  unfold k0_pay22
  pointwise

/-- The convolution's output block, entry by entry. -/
theorem mixed_apply (h : Vec Ideal S8x512 .f32) (r c : Fin 512) :
    mixed (F := Ideal) x0 x1 x4 x5 h (ix3 0 r c)
      = k0_pay19 (F := Ideal) (k0_pay2 x0 x1) x4 (ix2 r c)
        * (product x0 x1 x4 (ix2 r c) * x5 (ix2 2 c) + joined (product x0 x1 x4) h (ix2 ⟨6 + r.val, by omega⟩ c) * x5 (ix2 0 c)
          + joined (product x0 x1 x4) h (ix2 ⟨7 + r.val, by omega⟩ c) * x5 (ix2 1 c)) := by
  unfold mixed
  rw [stored_eq]
  unfold k0_pay1 k0_pay25 product
  generalize k0_pay19 (F := Ideal) (k0_pay2 x0 x1) x4 = G
  generalize k0_pay20 (F := Ideal) (k0_pay2 x0 x1) x4 = X
  generalize joined X h = W
  pointwise
  rfl

end Cert.Proof.MixIdeal

end
-- ==== Proof.MixIdealOuts.lean ====
/-
  The mixing kernel's other output blocks: each is stored whole, and none depends on the rows kept.
-/
module

public import proofs.«01_k».proof.Proof.MixIdealBuf

@[expose] public section

set_option maxRecDepth 16384

noncomputable section

namespace Cert.Proof.MixIdeal

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem zeros4 : (![0, 0, 0, 0] : Fin 4 → Nat) = fun _ => 0 := funext fun a => by fin_cases a <;> rfl

section

variable (c : Dev nD) (i : grid0.Coords)
  (arg2 : Memref sig .tc .vmem S1x512x1024 .f32) (harg2 : arg2.IsWhole)
  (arg3 : Memref sig .tc .vmem S1x1024 .f32) (harg3 : arg3.IsWhole)
  (arg4 : Memref sig .tc .vmem S1024x1024 .bf16) (harg4 : arg4.IsWhole)
  (arg5 : Memref sig .tc .vmem S72x1024 .bf16) (harg5 : arg5.IsWhole)
  (arg6 : Memref sig .tc .vmem S1024x1536 .bf16) (harg6 : arg6.IsWhole)
  (arg7 : Memref sig .tc .vmem S3x512 .f32) (harg7 : arg7.IsWhole)
  (arg8 : Memref sig .tc .vmem S512x512 .f32) (harg8 : arg8.IsWhole)
  (arg9 : Memref sig .tc .vmem S1x512x512 .bf16) (harg9 : arg9.IsWhole)
  (arg10 : Memref sig .tc .vmem S1x512x256 .bf16) (harg10 : arg10.IsWhole)
  (arg11 : Memref sig .tc .vmem S1x512x128 .bf16) (harg11 : arg11.IsWhole)
  (arg12 : Memref sig .tc .vmem S1x1x72x512 .bf16) (harg12 : arg12.IsWhole)
  (arg13 : Memref sig .tc .vmem S1x512x32 .bf16) (harg13 : arg13.IsWhole)
  (arg14 : Memref sig .tc .vmem S1x8x512 .f32) (harg14 : arg14.IsWhole)
  (arg15 : Memref sig .tc .vmem S1x512x512 .bf16) (harg15 : arg15.IsWhole)
  (arg16 : Memref sig .tc .vmem S520x512 .f32) (harg16 : arg16.IsWhole)
  (arg17 : Memref sig .tc .vmem S8x8x512 .f32) (harg17 : arg17.IsWhole)
  (x0 : Vec F S1x512x1024 .f32) (x1 : Vec F S1x1024 .f32) (x2 : Vec F S1024x1024 .bf16) (x3 : Vec F S72x1024 .bf16) (x4 : Vec F S1024x1536 .bf16) (x5 : Vec F S3x512 .f32) (x6 : Vec F S512x512 .f32) (xs xs' : Vec F S8x8x512 .f32)

theorem cover7_A (hc0 : cond0 i) (hc1 : ¬cond1 i) (y : S1x512x512.Idx) : ∃ pc ∈ (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs).1, y ∈ pc.1.set := by
  unfold runA
  dsimp only
  exact ⟨_, List.mem_cons_self, View.mem_set_unit_zero zeros3 inb_S1x512x512_S1x512x512_0_0_0 y⟩
theorem same7_A (hc0 : cond0 i) (hc1 : ¬cond1 i) : (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs).1 = (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs').1 := by
  unfold runA
  dsimp only

theorem cover8_A (hc0 : cond0 i) (hc1 : ¬cond1 i) (y : S1x512x256.Idx) : ∃ pc ∈ (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs).2.1, y ∈ pc.1.set := by
  unfold runA
  dsimp only
  exact ⟨_, List.mem_cons_self, View.mem_set_unit_zero zeros3 inb_S1x512x256_S1x512x256_0_0_0 y⟩
theorem same8_A (hc0 : cond0 i) (hc1 : ¬cond1 i) : (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs).2.1 = (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs').2.1 := by
  unfold runA
  dsimp only

theorem cover9_A (hc0 : cond0 i) (hc1 : ¬cond1 i) (y : S1x512x128.Idx) : ∃ pc ∈ (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs).2.2.1, y ∈ pc.1.set := by
  unfold runA
  dsimp only
  exact ⟨_, List.mem_cons_self, View.mem_set_unit_zero zeros3 inb_S1x512x128_S1x512x128_0_0_0 y⟩
theorem same9_A (hc0 : cond0 i) (hc1 : ¬cond1 i) : (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs).2.2.1 = (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs').2.2.1 := by
  unfold runA
  dsimp only

theorem cover10_A (hc0 : cond0 i) (hc1 : ¬cond1 i) (y : S1x1x72x512.Idx) : ∃ pc ∈ (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs).2.2.2.1, y ∈ pc.1.set := by
  unfold runA
  dsimp only
  exact ⟨_, List.mem_cons_self, View.mem_set_unit_zero zeros4 inb_S1x1x72x512_S1x1x72x512_0_0_0_0 y⟩
theorem same10_A (hc0 : cond0 i) (hc1 : ¬cond1 i) : (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs).2.2.2.1 = (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs').2.2.2.1 := by
  unfold runA
  dsimp only

theorem cover11_A (hc0 : cond0 i) (hc1 : ¬cond1 i) (y : S1x512x32.Idx) : ∃ pc ∈ (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs).2.2.2.2.1, y ∈ pc.1.set := by
  unfold runA
  dsimp only
  exact ⟨_, List.mem_cons_self, View.mem_set_unit_zero zeros3 inb_S1x512x32_S1x512x32_0_0_0 y⟩
theorem same11_A (hc0 : cond0 i) (hc1 : ¬cond1 i) : (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs).2.2.2.2.1 = (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs').2.2.2.2.1 := by
  unfold runA
  dsimp only

theorem cover12_A (hc0 : cond0 i) (hc1 : ¬cond1 i) (y : S1x8x512.Idx) : ∃ pc ∈ (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs).2.2.2.2.2.1, y ∈ pc.1.set := by
  unfold runA
  dsimp only
  exact ⟨_, List.mem_cons_self, View.mem_set_unit_zero zeros3 inb_S1x8x512_S1x8x512_0_0_0 y⟩
theorem same12_A (hc0 : cond0 i) (hc1 : ¬cond1 i) : (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs).2.2.2.2.2.1 = (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs').2.2.2.2.2.1 := by
  unfold runA
  dsimp only

theorem cover7_B (hc0 : ¬cond0 i) (hc1 : cond1 i) (y : S1x512x512.Idx) : ∃ pc ∈ (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs).1, y ∈ pc.1.set := by
  unfold runB
  dsimp only
  exact ⟨_, List.mem_cons_self, View.mem_set_unit_zero zeros3 inb_S1x512x512_S1x512x512_0_0_0 y⟩
theorem same7_B (hc0 : ¬cond0 i) (hc1 : cond1 i) : (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs).1 = (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs').1 := by
  unfold runB
  dsimp only

theorem cover8_B (hc0 : ¬cond0 i) (hc1 : cond1 i) (y : S1x512x256.Idx) : ∃ pc ∈ (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs).2.1, y ∈ pc.1.set := by
  unfold runB
  dsimp only
  exact ⟨_, List.mem_cons_self, View.mem_set_unit_zero zeros3 inb_S1x512x256_S1x512x256_0_0_0 y⟩
theorem same8_B (hc0 : ¬cond0 i) (hc1 : cond1 i) : (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs).2.1 = (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs').2.1 := by
  unfold runB
  dsimp only

theorem cover9_B (hc0 : ¬cond0 i) (hc1 : cond1 i) (y : S1x512x128.Idx) : ∃ pc ∈ (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs).2.2.1, y ∈ pc.1.set := by
  unfold runB
  dsimp only
  exact ⟨_, List.mem_cons_self, View.mem_set_unit_zero zeros3 inb_S1x512x128_S1x512x128_0_0_0 y⟩
theorem same9_B (hc0 : ¬cond0 i) (hc1 : cond1 i) : (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs).2.2.1 = (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs').2.2.1 := by
  unfold runB
  dsimp only

theorem cover10_B (hc0 : ¬cond0 i) (hc1 : cond1 i) (y : S1x1x72x512.Idx) : ∃ pc ∈ (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs).2.2.2.1, y ∈ pc.1.set := by
  unfold runB
  dsimp only
  exact ⟨_, List.mem_cons_self, View.mem_set_unit_zero zeros4 inb_S1x1x72x512_S1x1x72x512_0_0_0_0 y⟩
theorem same10_B (hc0 : ¬cond0 i) (hc1 : cond1 i) : (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs).2.2.2.1 = (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs').2.2.2.1 := by
  unfold runB
  dsimp only

theorem cover11_B (hc0 : ¬cond0 i) (hc1 : cond1 i) (y : S1x512x32.Idx) : ∃ pc ∈ (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs).2.2.2.2.1, y ∈ pc.1.set := by
  unfold runB
  dsimp only
  exact ⟨_, List.mem_cons_self, View.mem_set_unit_zero zeros3 inb_S1x512x32_S1x512x32_0_0_0 y⟩
theorem same11_B (hc0 : ¬cond0 i) (hc1 : cond1 i) : (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs).2.2.2.2.1 = (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs').2.2.2.2.1 := by
  unfold runB
  dsimp only

theorem cover12_B (hc0 : ¬cond0 i) (hc1 : cond1 i) (y : S1x8x512.Idx) : ∃ pc ∈ (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs).2.2.2.2.2.1, y ∈ pc.1.set := by
  unfold runB
  dsimp only
  exact ⟨_, List.mem_cons_self, View.mem_set_unit_zero zeros3 inb_S1x8x512_S1x8x512_0_0_0 y⟩
theorem same12_B (hc0 : ¬cond0 i) (hc1 : cond1 i) : (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs).2.2.2.2.2.1 = (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs').2.2.2.2.2.1 := by
  unfold runB
  dsimp only

end

end Cert.Proof.MixIdeal

end
-- ==== Proof.MixIdealFrame.lean ====
/-
  The mixing kernel's frame: the program ends with its inputs as they were, every output block what its grid point stored. Between points the
  second scratch buffer keeps, for each batch entry, the last eight rows of the entry's latest block.
-/
module

public import proofs.«01_k».proof.Proof.MixIdealOuts

@[expose] public section

set_option maxRecDepth 16384

noncomputable section

namespace Cert.Proof.MixIdeal

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0 (t : Fin cfg0.N) : Memref sig .tc .vmem S1x512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S72x1024 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1536 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S3x512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x512 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x512x512 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x512x256 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x512x128 .bf16 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x1x72x512 .bf16 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x512x32 .bf16 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x8x512 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S1x512x512 .bf16 := win0_13.stage (cfg0.slots t 13)
abbrev hs13 (t : Fin cfg0.N) : (ms13 t).IsWhole := hstage0_13 ((cfg0.slots t 13).cast nbuf0_13)
/-- The scratch buffers. -/
abbrev scA : Memref sig .tc .vmem S520x512 .f32 := Memref.whole cc0_scratch0
abbrev scB : Memref sig .tc .vmem S8x8x512 .f32 := Memref.whole cc0_scratch1

/-- The launch's invariant with the scratch buffers as owned memrefs. -/
theorem launch_eq (c : Dev nD) :
    (Pipeline.ΦA spec0 c : sProp 𝕄)
      = iprop(iprop((∃ d, owns (c : Thread nD τ) scA fullShare d) ∗ (∃ d, owns (c : Thread nD τ) scB fullShare d)) ∗ (∃ r, prngReg c r)) := by
  unfold Pipeline.ΦA; rw [scopedRest0_eq]; simp only [scA, scB, owns_whole]; try rfl

/-- The run at a point of case A, -/
abbrev ra (c : Dev nD) (t : Fin cfg0.N) (h : t.val < 8) (xs : Vec F S8x8x512 .f32) :=
  runA (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scA (Memref.isWhole_whole _) scB (Memref.isWhole_whole _) ((hcond0 t).mpr h) (fun g => absurd ((hcond1 t).mp g) (by omega)) (iblk m c 0 t) (iblk m c 1 t) (iblk m c 2 t) (iblk m c 3 t) (iblk m c 4 t) (iblk m c 5 t) (iblk m c 6 t) xs
/-- and of case B. -/
abbrev rb (c : Dev nD) (t : Fin cfg0.N) (h : ¬t.val < 8) (xs : Vec F S8x8x512 .f32) :=
  runB (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scA (Memref.isWhole_whole _) scB (Memref.isWhole_whole _) (fun g => h ((hcond0 t).mp g)) ((hcond1 t).mpr (by omega)) (iblk m c 0 t) (iblk m c 1 t) (iblk m c 2 t) (iblk m c 3 t) (iblk m c 4 t) (iblk m c 5 t) (iblk m c 6 t) xs

/-- Some contents of the rows kept. -/
def anyRows : Vec F S8x8x512 .f32 := View.canon (Val := Elt F) (e := .f32) []

/-- What a point leaves in output 7's block: its pieces, which do not depend on the rows kept. -/
def left7 (c : Dev nD) (t : Fin cfg0.N) : Vec F S1x512x512 .bf16 :=
  if h : t.val < 8 then View.canon (ra m c t h anyRows).1 else View.canon (rb m c t h anyRows).1
theorem left7_A (c : Dev nD) (t : Fin cfg0.N) (h : t.val < 8) : left7 m c t = View.canon (ra m c t h anyRows).1 := by
  unfold left7; exact dif_pos h
theorem left7_B (c : Dev nD) (t : Fin cfg0.N) (h : ¬t.val < 8) : left7 m c t = View.canon (rb m c t h anyRows).1 := by
  unfold left7; exact dif_neg h
theorem read7_A (c : Dev nD) (t : Fin cfg0.N) (h : t.val < 8) (xs) (f) :
    (ms7 t).view.read (Elt F) ((ms7 t).view.writes (Elt F) f (ra m c t h xs).1) = left7 m c t :=
  (View.read_writes_eq_canon _ _ _ (cover7_A c _ _ _ _ _ _ _ _ _ _ _ _ _ _ _ _ _ _ _ _ _ _ _ _ _ _ _ _ _ _ _ _ _ _ _ _ _ _ _ _ _ _ _)).trans
    ((congrArg View.canon (same7_A c _ _ _ _ _ _ _ _ _ _ _ _ _ _ _ _ _ _ _ _ _ _ _ _ _ _ _ _ _ _ _ _ _ _ _ _ _ _ _ _ xs anyRows _ _)).trans (left7_A m c t h).symm)
theorem read7_B (c : Dev nD) (t : Fin cfg0.N) (h : ¬t.val < 8) (xs) (f) :
    (ms7 t).view.read (Elt F) ((ms7 t).view.writes (Elt F) f (rb m c t h xs).1) = left7 m c t :=
  (View.read_writes_eq_canon _ _ _ (cover7_B c _ _ _ _ _ _ _ _ _ _ _ _ _ _ _ _ _ _ _ _ _ _ _ _ _ _ _ _ _ _ _ _ _ _ _ _ _ _ _ _ _ _ _)).trans
    ((congrArg View.canon (same7_B c _ _ _ _ _ _ _ _ _ _ _ _ _ _ _ _ _ _ _ _ _ _ _ _ _ _ _ _ _ _ _ _ _ _ _ _ _ _ _ _ xs anyRows _ _)).trans (left7_B m c t h).symm)

/-- What a point leaves in output 8's block: its pieces, which do not depend on the rows kept. -/
def left8 (c : Dev nD) (t : Fin cfg0.N) : Vec F S1x512x256 .bf16 :=
  if h : t.val < 8 then View.canon (ra m c t h anyRows).2.1 else View.canon (rb m c t h anyRows).2.1
theorem left8_A (c : Dev nD) (t : Fin cfg0.N) (h : t.val < 8) : left8 m c t = View.canon (ra m c t h anyRows).2.1 := by
  unfold left8; exact dif_pos h
theorem left8_B (c : Dev nD) (t : Fin cfg0.N) (h : ¬t.val < 8) : left8 m c t = View.canon (rb m c t h anyRows).2.1 := by
  unfold left8; exact dif_neg h
theorem read8_A (c : Dev nD) (t : Fin cfg0.N) (h : t.val < 8) (xs) (f) :
    (ms8 t).view.read (Elt F) ((ms8 t).view.writes (Elt F) f (ra m c t h xs).2.1) = left8 m c t :=
  (View.read_writes_eq_canon _ _ _ (cover8_A c _ _ _ _ _ _ _ _ _ _ _ _ _ _ _ _ _ _ _ _ _ _ _ _ _ _ _ _ _ _ _ _ _ _ _ _ _ _ _ _ _ _ _)).trans
    ((congrArg View.canon (same8_A c _ _ _ _ _ _ _ _ _ _ _ _ _ _ _ _ _ _ _ _ _ _ _ _ _ _ _ _ _ _ _ _ _ _ _ _ _ _ _ _ xs anyRows _ _)).trans (left8_A m c t h).symm)
theorem read8_B (c : Dev nD) (t : Fin cfg0.N) (h : ¬t.val < 8) (xs) (f) :
    (ms8 t).view.read (Elt F) ((ms8 t).view.writes (Elt F) f (rb m c t h xs).2.1) = left8 m c t :=
  (View.read_writes_eq_canon _ _ _ (cover8_B c _ _ _ _ _ _ _ _ _ _ _ _ _ _ _ _ _ _ _ _ _ _ _ _ _ _ _ _ _ _ _ _ _ _ _ _ _ _ _ _ _ _ _)).trans
    ((congrArg View.canon (same8_B c _ _ _ _ _ _ _ _ _ _ _ _ _ _ _ _ _ _ _ _ _ _ _ _ _ _ _ _ _ _ _ _ _ _ _ _ _ _ _ _ xs anyRows _ _)).trans (left8_B m c t h).symm)

/-- What a point leaves in output 9's block: its pieces, which do not depend on the rows kept. -/
def left9 (c : Dev nD) (t : Fin cfg0.N) : Vec F S1x512x128 .bf16 :=
  if h : t.val < 8 then View.canon (ra m c t h anyRows).2.2.1 else View.canon (rb m c t h anyRows).2.2.1
theorem left9_A (c : Dev nD) (t : Fin cfg0.N) (h : t.val < 8) : left9 m c t = View.canon (ra m c t h anyRows).2.2.1 := by
  unfold left9; exact dif_pos h
theorem left9_B (c : Dev nD) (t : Fin cfg0.N) (h : ¬t.val < 8) : left9 m c t = View.canon (rb m c t h anyRows).2.2.1 := by
  unfold left9; exact dif_neg h
theorem read9_A (c : Dev nD) (t : Fin cfg0.N) (h : t.val < 8) (xs) (f) :
    (ms9 t).view.read (Elt F) ((ms9 t).view.writes (Elt F) f (ra m c t h xs).2.2.1) = left9 m c t :=
  (View.read_writes_eq_canon _ _ _ (cover9_A c _ _ _ _ _ _ _ _ _ _ _ _ _ _ _ _ _ _ _ _ _ _ _ _ _ _ _ _ _ _ _ _ _ _ _ _ _ _ _ _ _ _ _)).trans
    ((congrArg View.canon (same9_A c _ _ _ _ _ _ _ _ _ _ _ _ _ _ _ _ _ _ _ _ _ _ _ _ _ _ _ _ _ _ _ _ _ _ _ _ _ _ _ _ xs anyRows _ _)).trans (left9_A m c t h).symm)
theorem read9_B (c : Dev nD) (t : Fin cfg0.N) (h : ¬t.val < 8) (xs) (f) :
    (ms9 t).view.read (Elt F) ((ms9 t).view.writes (Elt F) f (rb m c t h xs).2.2.1) = left9 m c t :=
  (View.read_writes_eq_canon _ _ _ (cover9_B c _ _ _ _ _ _ _ _ _ _ _ _ _ _ _ _ _ _ _ _ _ _ _ _ _ _ _ _ _ _ _ _ _ _ _ _ _ _ _ _ _ _ _)).trans
    ((congrArg View.canon (same9_B c _ _ _ _ _ _ _ _ _ _ _ _ _ _ _ _ _ _ _ _ _ _ _ _ _ _ _ _ _ _ _ _ _ _ _ _ _ _ _ _ xs anyRows _ _)).trans (left9_B m c t h).symm)

/-- What a point leaves in output 10's block: its pieces, which do not depend on the rows kept. -/
def left10 (c : Dev nD) (t : Fin cfg0.N) : Vec F S1x1x72x512 .bf16 :=
  if h : t.val < 8 then View.canon (ra m c t h anyRows).2.2.2.1 else View.canon (rb m c t h anyRows).2.2.2.1
theorem left10_A (c : Dev nD) (t : Fin cfg0.N) (h : t.val < 8) : left10 m c t = View.canon (ra m c t h anyRows).2.2.2.1 := by
  unfold left10; exact dif_pos h
theorem left10_B (c : Dev nD) (t : Fin cfg0.N) (h : ¬t.val < 8) : left10 m c t = View.canon (rb m c t h anyRows).2.2.2.1 := by
  unfold left10; exact dif_neg h
theorem read10_A (c : Dev nD) (t : Fin cfg0.N) (h : t.val < 8) (xs) (f) :
    (ms10 t).view.read (Elt F) ((ms10 t).view.writes (Elt F) f (ra m c t h xs).2.2.2.1) = left10 m c t :=
  (View.read_writes_eq_canon _ _ _ (cover10_A c _ _ _ _ _ _ _ _ _ _ _ _ _ _ _ _ _ _ _ _ _ _ _ _ _ _ _ _ _ _ _ _ _ _ _ _ _ _ _ _ _ _ _)).trans
    ((congrArg View.canon (same10_A c _ _ _ _ _ _ _ _ _ _ _ _ _ _ _ _ _ _ _ _ _ _ _ _ _ _ _ _ _ _ _ _ _ _ _ _ _ _ _ _ xs anyRows _ _)).trans (left10_A m c t h).symm)
theorem read10_B (c : Dev nD) (t : Fin cfg0.N) (h : ¬t.val < 8) (xs) (f) :
    (ms10 t).view.read (Elt F) ((ms10 t).view.writes (Elt F) f (rb m c t h xs).2.2.2.1) = left10 m c t :=
  (View.read_writes_eq_canon _ _ _ (cover10_B c _ _ _ _ _ _ _ _ _ _ _ _ _ _ _ _ _ _ _ _ _ _ _ _ _ _ _ _ _ _ _ _ _ _ _ _ _ _ _ _ _ _ _)).trans
    ((congrArg View.canon (same10_B c _ _ _ _ _ _ _ _ _ _ _ _ _ _ _ _ _ _ _ _ _ _ _ _ _ _ _ _ _ _ _ _ _ _ _ _ _ _ _ _ xs anyRows _ _)).trans (left10_B m c t h).symm)

/-- What a point leaves in output 11's block: its pieces, which do not depend on the rows kept. -/
def left11 (c : Dev nD) (t : Fin cfg0.N) : Vec F S1x512x32 .bf16 :=
  if h : t.val < 8 then View.canon (ra m c t h anyRows).2.2.2.2.1 else View.canon (rb m c t h anyRows).2.2.2.2.1
theorem left11_A (c : Dev nD) (t : Fin cfg0.N) (h : t.val < 8) : left11 m c t = View.canon (ra m c t h anyRows).2.2.2.2.1 := by
  unfold left11; exact dif_pos h
theorem left11_B (c : Dev nD) (t : Fin cfg0.N) (h : ¬t.val < 8) : left11 m c t = View.canon (rb m c t h anyRows).2.2.2.2.1 := by
  unfold left11; exact dif_neg h
theorem read11_A (c : Dev nD) (t : Fin cfg0.N) (h : t.val < 8) (xs) (f) :
    (ms11 t).view.read (Elt F) ((ms11 t).view.writes (Elt F) f (ra m c t h xs).2.2.2.2.1) = left11 m c t :=
  (View.read_writes_eq_canon _ _ _ (cover11_A c _ _ _ _ _ _ _ _ _ _ _ _ _ _ _ _ _ _ _ _ _ _ _ _ _ _ _ _ _ _ _ _ _ _ _ _ _ _ _ _ _ _ _)).trans
    ((congrArg View.canon (same11_A c _ _ _ _ _ _ _ _ _ _ _ _ _ _ _ _ _ _ _ _ _ _ _ _ _ _ _ _ _ _ _ _ _ _ _ _ _ _ _ _ xs anyRows _ _)).trans (left11_A m c t h).symm)
theorem read11_B (c : Dev nD) (t : Fin cfg0.N) (h : ¬t.val < 8) (xs) (f) :
    (ms11 t).view.read (Elt F) ((ms11 t).view.writes (Elt F) f (rb m c t h xs).2.2.2.2.1) = left11 m c t :=
  (View.read_writes_eq_canon _ _ _ (cover11_B c _ _ _ _ _ _ _ _ _ _ _ _ _ _ _ _ _ _ _ _ _ _ _ _ _ _ _ _ _ _ _ _ _ _ _ _ _ _ _ _ _ _ _)).trans
    ((congrArg View.canon (same11_B c _ _ _ _ _ _ _ _ _ _ _ _ _ _ _ _ _ _ _ _ _ _ _ _ _ _ _ _ _ _ _ _ _ _ _ _ _ _ _ _ xs anyRows _ _)).trans (left11_B m c t h).symm)

/-- What a point leaves in output 12's block: its pieces, which do not depend on the rows kept. -/
def left12 (c : Dev nD) (t : Fin cfg0.N) : Vec F S1x8x512 .f32 :=
  if h : t.val < 8 then View.canon (ra m c t h anyRows).2.2.2.2.2.1 else View.canon (rb m c t h anyRows).2.2.2.2.2.1
theorem left12_A (c : Dev nD) (t : Fin cfg0.N) (h : t.val < 8) : left12 m c t = View.canon (ra m c t h anyRows).2.2.2.2.2.1 := by
  unfold left12; exact dif_pos h
theorem left12_B (c : Dev nD) (t : Fin cfg0.N) (h : ¬t.val < 8) : left12 m c t = View.canon (rb m c t h anyRows).2.2.2.2.2.1 := by
  unfold left12; exact dif_neg h
theorem read12_A (c : Dev nD) (t : Fin cfg0.N) (h : t.val < 8) (xs) (f) :
    (ms12 t).view.read (Elt F) ((ms12 t).view.writes (Elt F) f (ra m c t h xs).2.2.2.2.2.1) = left12 m c t :=
  (View.read_writes_eq_canon _ _ _ (cover12_A c _ _ _ _ _ _ _ _ _ _ _ _ _ _ _ _ _ _ _ _ _ _ _ _ _ _ _ _ _ _ _ _ _ _ _ _ _ _ _ _ _ _ _)).trans
    ((congrArg View.canon (same12_A c _ _ _ _ _ _ _ _ _ _ _ _ _ _ _ _ _ _ _ _ _ _ _ _ _ _ _ _ _ _ _ _ _ _ _ _ _ _ _ _ xs anyRows _ _)).trans (left12_A m c t h).symm)
theorem read12_B (c : Dev nD) (t : Fin cfg0.N) (h : ¬t.val < 8) (xs) (f) :
    (ms12 t).view.read (Elt F) ((ms12 t).view.writes (Elt F) f (rb m c t h xs).2.2.2.2.2.1) = left12 m c t :=
  (View.read_writes_eq_canon _ _ _ (cover12_B c _ _ _ _ _ _ _ _ _ _ _ _ _ _ _ _ _ _ _ _ _ _ _ _ _ _ _ _ _ _ _ _ _ _ _ _ _ _ _ _ _ _ _)).trans
    ((congrArg View.canon (same12_B c _ _ _ _ _ _ _ _ _ _ _ _ _ _ _ _ _ _ _ _ _ _ _ _ _ _ _ _ _ _ _ _ _ _ _ _ _ _ _ _ xs anyRows _ _)).trans (left12_B m c t h).symm)

/-- The rows point `t` keeps. -/
def tailAt (c : Dev nD) (t : Fin cfg0.N) : Vec F S1x8x512 .f32 := tailRows (iblk m c 0 t) (iblk m c 1 t) (iblk m c 4 t)

/-- The point before `t` of the same batch entry. -/
abbrev prev (t : Fin cfg0.N) : Fin cfg0.N := ⟨t.val - 8, lt_of_le_of_lt (Nat.sub_le _ _) t.isLt⟩

/-- The rows above point `t`'s block: zeros at a batch entry's first block, else the rows the entry's block before kept. -/
def above (c : Dev nD) (t : Fin cfg0.N) : Vec F S8x512 .f32 := if t.val < 8 then k0_pay21 (F := F) else k0_pay22 (tailAt m c (prev t))

/-- What a point leaves in the convolution's output block. -/
def left13 (c : Dev nD) (t : Fin cfg0.N) : Vec F S1x512x512 .bf16 := mixed (iblk m c 0 t) (iblk m c 1 t) (iblk m c 4 t) (iblk m c 5 t) (above m c t)

theorem read13 (a : Memref sig .tc .vmem S1x512x512 .bf16) (f : a.view.ty.Contents (Elt F)) (w : Vec F S1x512x512 .bf16) :
    a.view.read (Elt F) (a.view.writes (Elt F) f [⟨Rect.unit ![0, 0, 0] S1x512x512.size inb_S1x512x512_S1x512x512_0_0_0, w⟩]) = w := by
  rw [View.read_writes_eq_canon _ _ _ (fun y => ⟨_, List.mem_cons_self, View.mem_set_unit_zero zeros3 inb_S1x512x512_S1x512x512_0_0_0 y⟩)]
  exact View.canon_unit_zero zeros3 _ _

/-- What is known of the rows kept before point `n`: those of the last eight points are there. -/
def Known (c : Dev nD) (n : ℕ) (X : Vec F S8x8x512 .f32) : Prop :=
  ∀ p : Fin cfg0.N, p.val < n → n ≤ p.val + 8 → kept X ((grid0.coords p) 1) = tailAt m c p

/-- The batch entry of a point. -/
theorem entry : ∀ t : Fin cfg0.N, ((grid0.coords t) 1).val = t.val % 8 :=
  (by decide +kernel : ∀ t : Fin grid0.N, ((grid0.coords t) 1).val = t.val % 8)

theorem known_above (c : Dev nD) (t : Fin cfg0.N) (h : ¬t.val < 8) (X : Vec F S8x8x512 .f32) (hX : Known m c t.val X) :
    k0_pay22 (kept X ((grid0.coords t) 1)) = above m c t := by
  unfold above
  rw [if_neg h]
  have e : (grid0.coords t) 1 = (grid0.coords (prev t)) 1 := Fin.ext (by rw [entry, entry]; show t.val % 8 = (t.val - 8) % 8; omega)
  rw [e, hX (prev t) (show t.val - 8 < t.val by omega) (show t.val ≤ t.val - 8 + 8 by omega)]

theorem known_step (c : Dev nD) (t : Fin cfg0.N) (X : Vec F S8x8x512 .f32) (hX : Known m c t.val X) (inb) :
    Known m c (t.val + 1) (scB.view.read (Elt F) (scB.view.writes (Elt F) ((Memref.isWhole_whole cc0_scratch1).unread X)
      [⟨Rect.unit (s := S8x8x512) (k0_off2 (grid0.coords t)) S1x8x512.size inb, tailRows (iblk m c 0 t) (iblk m c 1 t) (iblk m c 4 t)⟩])) := by
  intro p h1 h2
  by_cases hp : p = t
  · subst hp
    exact kept_hit scB _ _ inb _
  · have hv : p.val ≠ t.val := fun e => hp (Fin.ext e)
    refine (kept_miss scB (Memref.isWhole_whole cc0_scratch1) X _ inb _ _ fun e => ?_).trans (hX p (by omega) (by omega))
    have e' := congrArg Fin.val e
    rw [entry, entry] at e'
    omega

/-- The invariant before point `n`. -/
def Inv (c : Dev nD) (n : ℕ) : sProp 𝕄 :=
  iprop(iprop((∃ d, owns (c : Thread nD τ) scA fullShare d) ∗ (∃ X, ⌜Known m c n X⌝ ∗ owns (c : Thread nD τ) scB fullShare X)) ∗ (∃ r, prngReg c r))

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => left7 m c t
    | ⟨8, _⟩ => left8 m c t
    | ⟨9, _⟩ => left9 m c t
    | ⟨10, _⟩ => left10 m c t
    | ⟨11, _⟩ => left11 m c t
    | ⟨12, _⟩ => left12 m c t
    | ⟨13, _⟩ => left13 m c t
  Φ t := Inv m c t.val
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = left7 m c t := by dsimp only [dats]
theorem after8 (c : Dev nD) (t : Fin cfg0.N) : (dats m 0 c).after 8 t = left8 m c t := by dsimp only [dats]
theorem after9 (c : Dev nD) (t : Fin cfg0.N) : (dats m 0 c).after 9 t = left9 m c t := by dsimp only [dats]
theorem after10 (c : Dev nD) (t : Fin cfg0.N) : (dats m 0 c).after 10 t = left10 m c t := by dsimp only [dats]
theorem after11 (c : Dev nD) (t : Fin cfg0.N) : (dats m 0 c).after 11 t = left11 m c t := by dsimp only [dats]
theorem after12 (c : Dev nD) (t : Fin cfg0.N) : (dats m 0 c).after 12 t = left12 m c t := by dsimp only [dats]
theorem after13 (c : Dev nD) (t : Fin cfg0.N) : (dats m 0 c).after 13 t = left13 m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t)
    ∗ owns (c : Thread nD τ) (ms13 t) fullShare ((dats m 0 c).after 13 t))

set_option maxHeartbeats 6400000 in
/-- The body at a point of case A. -/
theorem sound_A (c : Dev nD) (t : Fin cfg0.N) (h : t.val < 8) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl,
    after0, after1, after2, after3, after4, after5, after6, after7, after8, after9, after10, after11, after12, after13]
  rw [show (dats m 0 c).Φ t.succ = Inv m c (t.val + 1) from rfl, show (dats m 0 c).Φ t.castSucc = Inv m c t.val from rfl]
  unfold Inv
  iintro ⟨⟨⟨HS0, ⟨%X, %hX, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((ra m c t h X).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [HS0]; · iexact HS0
  isplitl [HS1]; · iexact HS1
  iintro ⟨H0, H1, H2, H3, H4, H5, H6, ⟨%e7, H7⟩, ⟨%e8, H8⟩, ⟨%e9, H9⟩, ⟨%e10, H10⟩, ⟨%e11, H11⟩, ⟨%e12, H12⟩, ⟨%e13, H13⟩, ⟨%eS, HS0⟩, HS1⟩
  isplitl [HS0 HS1 Hg]
  · isplitl [HS0 HS1]
    · isplitl [HS0]
      · iexists _; unfold owns; iexists _; isplitr
        swap; · iexact HS0
        ipureintro; rfl
      iexists _; isplitr
      swap
      · unfold owns; iexists _; isplitr
        swap; · iexact HS1
        ipureintro; rfl
      ipureintro
      rw [tail_A]
      exact known_step m c t X hX _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact read7_A m c t h X e7
  isplitl [H8]
  · unfold owns; iexists _; isplitr
    swap; · iexact H8
    ipureintro; exact read8_A m c t h X e8
  isplitl [H9]
  · unfold owns; iexists _; isplitr
    swap; · iexact H9
    ipureintro; exact read9_A m c t h X e9
  isplitl [H10]
  · unfold owns; iexists _; isplitr
    swap; · iexact H10
    ipureintro; exact read10_A m c t h X e10
  isplitl [H11]
  · unfold owns; iexists _; isplitr
    swap; · iexact H11
    ipureintro; exact read11_A m c t h X e11
  isplitl [H12]
  · unfold owns; iexists _; isplitr
    swap; · iexact H12
    ipureintro; exact read12_A m c t h X e12
  unfold owns; iexists _; isplitr
  swap; · iexact H13
  ipureintro
  rw [mixed_A, read13]
  unfold left13
  rw [show above m c t = k0_pay21 (F := F) from if_pos h]

set_option maxHeartbeats 6400000 in
/-- The body at a point of case B. -/
theorem sound_B (c : Dev nD) (t : Fin cfg0.N) (h : ¬t.val < 8) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl,
    after0, after1, after2, after3, after4, after5, after6, after7, after8, after9, after10, after11, after12, after13]
  rw [show (dats m 0 c).Φ t.succ = Inv m c (t.val + 1) from rfl, show (dats m 0 c).Φ t.castSucc = Inv m c t.val from rfl]
  unfold Inv
  iintro ⟨⟨⟨HS0, ⟨%X, %hX, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((rb m c t h X).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [HS0]; · iexact HS0
  isplitl [HS1]; · iexact HS1
  iintro ⟨H0, H1, H2, H3, H4, H5, H6, ⟨%e7, H7⟩, ⟨%e8, H8⟩, ⟨%e9, H9⟩, ⟨%e10, H10⟩, ⟨%e11, H11⟩, ⟨%e12, H12⟩, ⟨%e13, H13⟩, ⟨%eS, HS0⟩, HS1⟩
  isplitl [HS0 HS1 Hg]
  · isplitl [HS0 HS1]
    · isplitl [HS0]
      · iexists _; unfold owns; iexists _; isplitr
        swap; · iexact HS0
        ipureintro; rfl
      iexists _; isplitr
      swap
      · unfold owns; iexists _; isplitr
        swap; · iexact HS1
        ipureintro; rfl
      ipureintro
      rw [tail_B]
      exact known_step m c t X hX _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact read7_B m c t h X e7
  isplitl [H8]
  · unfold owns; iexists _; isplitr
    swap; · iexact H8
    ipureintro; exact read8_B m c t h X e8
  isplitl [H9]
  · unfold owns; iexists _; isplitr
    swap; · iexact H9
    ipureintro; exact read9_B m c t h X e9
  isplitl [H10]
  · unfold owns; iexists _; isplitr
    swap; · iexact H10
    ipureintro; exact read10_B m c t h X e10
  isplitl [H11]
  · unfold owns; iexists _; isplitr
    swap; · iexact H11
    ipureintro; exact read11_B m c t h X e11
  isplitl [H12]
  · unfold owns; iexists _; isplitr
    swap; · iexact H12
    ipureintro; exact read12_B m c t h X e12
  unfold owns; iexists _; isplitr
  swap; · iexact H13
  ipureintro
  rw [mixed_B, read13]
  unfold left13
  rw [← known_above m c t h X hX]

/-- The body at any point. -/
theorem sound (c : Dev nD) (t : Fin cfg0.N) :
    bodyPre m c t ⊢ wp frame (wpE (defs₀ (F := F)) Variants.none c none) Set.univ (bodyAt0 t) (fun _ => bodyPost m c t) := by
  by_cases h : t.val < 8
  · exact sound_A m c t h
  · exact sound_B m c t h

/-- The body table's row at point `t`'s slots is the body. -/
theorem bodyRow (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, bodyRow]
  exact triple_restated (sound m c t) rfl .rfl fun _ => .rfl

/-- What the launch hands the region is the invariant before the first point, -/
theorem hin (c : Dev nD) : Pipeline.ΦA spec0 c ⊢ (dats m 0 c).Φ 0 := by
  rw [show (dats m 0 c).Φ 0 = Inv m c 0 from rfl, launch_eq]
  unfold Inv
  iintro ⟨⟨HS0, ⟨%X, HS1⟩⟩, Hg⟩
  isplitl [HS0 HS1]
  · isplitl [HS0]; · iexact HS0
    iexists X; isplitr
    · ipureintro; exact fun p h => absurd h (Nat.not_lt_zero _)
    iexact HS1
  iexact Hg

/-- and after the last it is given back. -/
theorem hout (c : Dev nD) : (dats m 0 c).Φ (Fin.last cfg0.N) ⊢ Pipeline.ΦA spec0 c := by
  rw [show (dats m 0 c).Φ (Fin.last cfg0.N) = Inv m c (Fin.last cfg0.N).val from rfl, launch_eq]
  unfold Inv
  iintro ⟨⟨HS0, ⟨%X, %hX, HS1⟩⟩, Hg⟩
  isplitl [HS0 HS1]
  · isplitl [HS0]; · iexact HS0
    iexists X; iexact HS1
  iexact Hg

set_option backward.isDefEq.respectTransparency.types false in
/-- The launch: the run, and every semaphore counter at zero at every final state. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every final state has every array of the pipeline at what the proof data gives. -/
theorem run_main : θ_run defs (onTc (τ := τ) (main (F := F))) (s₀ m ρ) (Pipeline.FramePost cfgs (dats m) 0 (V m)) :=
  (θ_run defs _ _).mono (fun _ h => h.1) (run_quiescent m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.Proof.MixIdeal

end
-- ==== Proof.MixValue.lean ====
/-
  The convolution output of the mixing kernel, index by index: at batch entry `b`, position `s` and column `c` it is `Row.branch` of the rows
  of the entry. Grid point `t` reads 512 positions of entry `t % 8`; above them stand zeros in an entry's first block, and in a later one the
  last eight rows of the block before.
-/
module

public import proofs.«01_k».proof.Defs
public import proofs.«01_k».proof.Proof.MixBody
public import proofs.«01_k».proof.Proof.MixIdealFrame
public import Idealize.ShloMosaic.Lib.Pointwise

@[expose] public section

set_option maxRecDepth 16384

noncomputable section

namespace Cert.Proof.MixIdeal

open Idealize.ShloMosaic Idealize.SL.Sem Cert.MixIdeal Cert.MixIdeal.Gen Idealize.ShloMosaic.TcCoe
open Idealize.ShloMosaic.Pipeline (Dat)
open Cert.Proof

variable (m : (ℓ : Loc nD τ sig) → Buf (Elt Ideal) ℓ) (c : Dev nD)

/-! ## The arrays the region finds -/

theorem V_g : V m c main_v15 = shapeCast S1x1024 (m ((c : Thread nD τ).loc main_arg1)) shapeCasts_S1024_S1x1024 := by
  dsimp only [V, hostOps0, hostOps0_1, hostOps0_2, hostOps0_3, hostOps0_4, List.flatten_cons, List.flatten_nil, List.append_nil, List.cons_append, List.nil_append]
  after_results; rfl
theorem V_g_apply (k : Fin 1024) : V m c main_v15 (ix2 0 k) = m ((c : Thread nD τ).loc main_arg1) (ix1 k) := by
  rw [V_g]; pointwise
/-- The last 1536 columns of the weights: a cast changes nothing here. -/
theorem V_w (k : Fin 1024) (f : Fin 1536) : V m c main_v14 (ix2 k f) = m ((c : Thread nD τ).loc main_arg2) (ix2 k ⟨936 + f.val, by omega⟩) := by
  have e : V m c main_v14 = extractStridedSlice S1024x1536 ![0, 936] (m ((c : Thread nD τ).loc main_arg2)) slices_S1024x2472_S1024x1536_0_936 := by
    dsimp only [V, hostOps0, hostOps0_1, hostOps0_2, hostOps0_3, hostOps0_4, List.flatten_cons, List.flatten_nil, List.append_nil, List.cons_append, List.nil_append]
    after_results; rfl
  rw [e]
  refine congrArg (m ((c : Thread nD τ).loc main_arg2)) (funext fun a => Fin.ext ?_)
  match a with
  | ⟨0, _⟩ => show 0 + k.val = k.val; omega
  | ⟨1, _⟩ => show 936 + f.val = 936 + f.val; rfl

/-! ## Where each block lies in its array -/

theorem idx0 : ∀ t : Fin cfg0.N, win0_0.index t (0 : Fin 3) = t.val % 8 ∧ win0_0.index t (1 : Fin 3) = t.val / 8 ∧ win0_0.index t (2 : Fin 3) = 0 := (by decide +kernel : ∀ t : Fin grid0.N, _)
theorem idx13 : ∀ t : Fin cfg0.N, win0_13.index t (0 : Fin 3) = t.val % 8 ∧ win0_13.index t (1 : Fin 3) = t.val / 8 ∧ win0_13.index t (2 : Fin 3) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)

/-- The batch entry of grid point `t`. -/
abbrev bOf (t : Fin cfg0.N) : Fin 8 := ⟨t.val % 8, by omega⟩
/-- The position of row `r` of grid point `t`'s block. -/
abbrev pOf (t : Fin cfg0.N) (r : Fin 512) : Fin 8192 := ⟨t.val / 8 * 512 + r.val, by have : t.val < 128 := t.isLt; omega⟩

theorem blk_h (t : Fin cfg0.N) (r : Fin 512) (k : Fin 1024) : iblk m c 0 t (ix3 0 r k) = V m c main_arg0 (ix3 (bOf t) (pOf t r) k) := by
  obtain ⟨e0, e1, e2⟩ := idx0 t
  refine congrArg (V m c main_arg0) (funext fun a => Fin.ext ?_)
  match a with
  | ⟨0, _⟩ => show win0_0.index t (0 : Fin 3) * 1 + 1 * 0 = t.val % 8; omega
  | ⟨1, _⟩ => show win0_0.index t (1 : Fin 3) * 512 + 1 * r.val = t.val / 8 * 512 + r.val; omega
  | ⟨2, _⟩ => show win0_0.index t (2 : Fin 3) * 1024 + 1 * k.val = k.val; omega
theorem blk_g (t : Fin cfg0.N) (j : S1x1024.Idx) : iblk m c 1 t j = V m c main_v15 j := by
  obtain ⟨e0, e1⟩ := idx1 t
  refine congrArg (V m c main_v15) (funext fun a => Fin.ext ?_)
  match a with
  | ⟨0, _⟩ => show win0_1.index t (0 : Fin 2) * 1 + 1 * (j 0).val = (j 0).val; omega
  | ⟨1, _⟩ => show win0_1.index t (1 : Fin 2) * 1024 + 1 * (j 1).val = (j 1).val; omega
theorem blk_w (t : Fin cfg0.N) (j : S1024x1536.Idx) : iblk m c 4 t j = V m c main_v14 j := by
  obtain ⟨e0, e1⟩ := idx4 t
  refine congrArg (V m c main_v14) (funext fun a => Fin.ext ?_)
  match a with
  | ⟨0, _⟩ => show win0_4.index t (0 : Fin 2) * 1024 + 1 * (j 0).val = (j 0).val; omega
  | ⟨1, _⟩ => show win0_4.index t (1 : Fin 2) * 1536 + 1 * (j 1).val = (j 1).val; omega
theorem blk_cw (t : Fin cfg0.N) (j : S3x512.Idx) : iblk m c 5 t j = V m c main_arg3 j := by
  obtain ⟨e0, e1⟩ := idx5 t
  refine congrArg (V m c main_arg3) (funext fun a => Fin.ext ?_)
  match a with
  | ⟨0, _⟩ => show win0_5.index t (0 : Fin 2) * 3 + 1 * (j 0).val = (j 0).val; omega
  | ⟨1, _⟩ => show win0_5.index t (1 : Fin 2) * 512 + 1 * (j 1).val = (j 1).val; omega
theorem emb_out (t : Fin cfg0.N) (r k : Fin 512) : ((cfg0.win 13).blk t).view.emb (ix3 0 r k) = ix3 (bOf t) (pOf t r) k := by
  obtain ⟨e0, e1, e2⟩ := idx13 t
  funext a; apply Fin.ext
  match a with
  | ⟨0, _⟩ => show win0_13.index t (0 : Fin 3) * 1 + 1 * 0 = t.val % 8; omega
  | ⟨1, _⟩ => show win0_13.index t (1 : Fin 3) * 512 + 1 * r.val = t.val / 8 * 512 + r.val; omega
  | ⟨2, _⟩ => show win0_13.index t (2 : Fin 3) * 512 + 1 * k.val = k.val; omega

/-! ## The result array -/

/-- The result array as one function of the arguments. -/
def G (h : Vec Ideal S8x8192x1024 .f32) (g : Vec Ideal S1024 .f32) (w : Vec Ideal S1024x2472 .f32) (cw : Vec Ideal S3x512 .f32) :
    Vec Ideal S8x8192x512 .bf16 := fun i =>
  Row.branch (fun n k => h (ix3 (i 0) n k)) (fun k => g (ix1 k)) (fun k f => w (ix2 k ⟨936 + f.val, by omega⟩)) (fun j k => cw (ix2 j k)) (i 1) (i 2)

/-- `G` of the arguments as launched. -/
abbrev final : Vec Ideal S8x8192x512 .bf16 :=
  G (m ((c : Thread nD τ).loc main_arg0)) (m ((c : Thread nD τ).loc main_arg1)) (m ((c : Thread nD τ).loc main_arg2)) (m ((c : Thread nD τ).loc main_arg3))

/-- The product at batch entry `b`, position `s`, column `k`. -/
def prod (b : Fin 8) (s : Fin 8192) (k : Fin 512) : EReal :=
  Row.factor (fun k => (m ((c : Thread nD τ).loc main_arg0)) (ix3 b s k)) (fun k => (m ((c : Thread nD τ).loc main_arg1)) (ix1 k))
    (fun k f => (m ((c : Thread nD τ).loc main_arg2)) (ix2 k ⟨936 + f.val, by omega⟩)) k

theorem proj_block (t : Fin cfg0.N) (r : Fin 512) (f : Fin 1536) :
    Row.proj (fun k => iblk m c 0 t (ix3 0 r k)) (fun k => iblk m c 1 t (ix2 0 k)) (fun k f => iblk m c 4 t (ix2 k f)) f
      = Row.proj (fun k => (m ((c : Thread nD τ).loc main_arg0)) (ix3 (bOf t) (pOf t r) k)) (fun k => (m ((c : Thread nD τ).loc main_arg1)) (ix1 k))
          (fun k f => (m ((c : Thread nD τ).loc main_arg2)) (ix2 k ⟨936 + f.val, by omega⟩)) f :=
  Row.proj_congr (fun k => (blk_h m c t r k).trans (congrFun (V_main_arg0 m c) _)) (fun k => (blk_g m c t _).trans (V_g_apply m c k))
    (fun k f => (blk_w m c t _).trans (V_w m c k f)) f

theorem prod_block (t : Fin cfg0.N) (r k : Fin 512) :
    product (iblk m c 0 t) (iblk m c 1 t) (iblk m c 4 t) (ix2 r k) = prod m c (bOf t) (pOf t r) k :=
  (product_apply _ _ _ r k).trans (congrArg₂ (fun a b : EReal => a * b) (proj_block m c t r _) (proj_block m c t r _))

/-- The rows above the block: zeros above an entry's start, else the eight rows before the block. -/
theorem above_block (t : Fin cfg0.N) (j : Fin 8) (k : Fin 512) :
    above m c t (ix2 j k) = if h : 8 ≤ t.val / 8 * 512 + j.val then prod m c (bOf t) ⟨t.val / 8 * 512 + j.val - 8, by have : t.val < 128 := t.isLt; omega⟩ k else 0 := by
  have ht : t.val < 128 := t.isLt
  unfold above
  by_cases h : t.val < 8
  · rw [if_pos h, dif_neg (by omega)]
    exact zeros_apply j k
  · rw [if_neg h, dif_pos (by omega)]
    refine (above_apply _ j k).trans ((tail_apply _ _ _ j k).trans ((prod_block m c (prev t) _ k).trans ?_))
    refine congrArg₂ (fun b s => prod m c b s k) (Fin.ext ?_) (Fin.ext ?_)
    · show (t.val - 8) % 8 = t.val % 8; omega
    · show (t.val - 8) / 8 * 512 + (504 + j.val) = t.val / 8 * 512 + j.val - 8; omega

/-- The buffer holds the 520 rows of the product that end at the block, with zeros before the start of the batch entry. -/
theorem joined_block (t : Fin cfg0.N) (i : Fin 520) (k : Fin 512) :
    joined (product (iblk m c 0 t) (iblk m c 1 t) (iblk m c 4 t)) (above m c t) (ix2 i k)
      = if h : 8 ≤ t.val / 8 * 512 + i.val then prod m c (bOf t) ⟨t.val / 8 * 512 + i.val - 8, by have : t.val < 128 := t.isLt; omega⟩ k else 0 := by
  unfold joined
  by_cases hi : 8 ≤ i.val
  · rw [dif_pos (show 8 ≤ ((ix2 i k : S520x512.Idx) 0).val from hi), dif_pos (by omega)]
    refine (prod_block m c t _ _).trans (congrArg (fun s => prod m c (bOf t) s k) (Fin.ext ?_))
    show t.val / 8 * 512 + (i.val - 8) = t.val / 8 * 512 + i.val - 8
    omega
  · rw [dif_neg (show ¬8 ≤ ((ix2 i k : S520x512.Idx) 0).val from hi)]
    exact above_block m c t ⟨i.val, by omega⟩ k

/-- Tap `j` of the block. -/
theorem tap_block (t : Fin cfg0.N) (r k : Fin 512) (j : Fin 3) :
    joined (product (iblk m c 0 t) (iblk m c 1 t) (iblk m c 4 t)) (above m c t) (ix2 ⟨6 + j.val + r.val, by omega⟩ k) * iblk m c 5 t (ix2 j k)
      = Row.tap (fun n => prod m c (bOf t) n k) (fun j => (m ((c : Thread nD τ).loc main_arg3)) (ix2 j k)) (pOf t r) j := by
  unfold Row.tap
  refine congrArg₂ (fun a b : EReal => a * b) ((joined_block m c t _ k).trans ?_) ((blk_cw m c t _).trans (congrFun (V_main_arg3 m c) _))
  show (if h : 8 ≤ t.val / 8 * 512 + (6 + j.val + r.val) then _ else _) = if h : 2 ≤ t.val / 8 * 512 + r.val + j.val then _ else _
  by_cases h : 2 ≤ t.val / 8 * 512 + r.val + j.val
  · rw [dif_pos h, dif_pos (by omega)]
    exact congrArg (fun s => prod m c (bOf t) s k) (Fin.ext (show t.val / 8 * 512 + (6 + j.val + r.val) - 8 = t.val / 8 * 512 + r.val + j.val - 2 by omega))
  · rw [dif_neg h, dif_neg (by omega)]

/-- Tap 2 reads the block's own rows. -/
theorem own_block (t : Fin cfg0.N) (r k : Fin 512) :
    product (iblk m c 0 t) (iblk m c 1 t) (iblk m c 4 t) (ix2 r k) * iblk m c 5 t (ix2 2 k)
      = Row.tap (fun n => prod m c (bOf t) n k) (fun j => (m ((c : Thread nD τ).loc main_arg3)) (ix2 j k)) (pOf t r) 2 := by
  unfold Row.tap
  refine congrArg₂ (fun a b : EReal => a * b) ((prod_block m c t r k).trans ?_) ((blk_cw m c t _).trans (congrFun (V_main_arg3 m c) _))
  show _ = if h : 2 ≤ t.val / 8 * 512 + r.val + 2 then _ else _
  rw [dif_pos (by omega)]
  exact congrArg (fun s => prod m c (bOf t) s k) (Fin.ext (show t.val / 8 * 512 + r.val = t.val / 8 * 512 + r.val + 2 - 2 by omega))

/-- The block grid point `t` stores, entry by entry, is its block of `G`. -/
theorem block_apply (t : Fin cfg0.N) (r k : Fin 512) : left13 m c t (ix3 0 r k) = final m c (ix3 (bOf t) (pOf t r) k) := by
  unfold left13
  refine (mixed_apply _ _ _ _ _ r k).trans ?_
  refine congrArg₂ (fun a b : EReal => a * b) ((gate_apply _ _ _ r k).trans (proj_block m c t r _)) ?_
  refine Eq.trans ?_ (Row.conv3_last_first _ _ _)
  exact congrArg₂ (fun a b : EReal => a + b) (congrArg₂ (fun a b : EReal => a + b) (own_block m c t r k) (tap_block m c t r k 0)) (tap_block m c t r k 1)

/-- What grid point `t` writes back is its block of `G`. -/
theorem flushed_eq (t : Fin cfg0.N) : (dats m 0 c).flushed 13 t = ((cfg0.win 13).blk t).view.read (Elt Ideal) (final m c) := by
  show (cfg0.win 13).cut (grid0.coords t) ((dats m 0 c).after 13 t) = _
  rw [after13]
  funext j
  obtain ⟨r, k, rfl⟩ : ∃ (r k : Fin 512), j = ix3 0 r k := ⟨j 1, j 2, by
    funext a
    match a with
    | ⟨0, _⟩ => exact Fin.ext (show (j 0).val = 0 by have : (j 0).val < 1 := (j 0).isLt; omega)
    | ⟨1, _⟩ => rfl
    | ⟨2, _⟩ => rfl⟩
  show left13 m c t (ix3 0 r k) = final m c (((cfg0.win 13).blk t).view.emb (ix3 0 r k))
  rw [emb_out, block_apply]

/-- The blocks tile the array. -/
theorem covered (i : S8x8192x512.Idx) : ∃ t : Fin cfg0.N, (cfg0.win 13).flush t = true ∧ i ∈ ((cfg0.win 13).blk t).view.set := by
  obtain ⟨b, q, k, rfl⟩ : ∃ (b : Fin 8) (q : Fin 8192) (k : Fin 512), i = ix3 b q k := ⟨i 0, i 1, i 2, by
    funext a
    match a with
    | ⟨0, _⟩ => rfl
    | ⟨1, _⟩ => rfl
    | ⟨2, _⟩ => rfl⟩
  have hb := b.isLt
  have hq := q.isLt
  let t : Fin cfg0.N := ⟨q.val / 512 * 8 + b.val, by show _ < 128; omega⟩
  let r : Fin 512 := ⟨q.val % 512, by omega⟩
  refine ⟨t, flush0_13 _, ?_⟩
  have h := ((cfg0.win 13).blk t).view.emb_mem_set (ix3 0 r k)
  rw [emb_out] at h
  have e0 : bOf t = b := Fin.ext (by show (q.val / 512 * 8 + b.val) % 8 = b.val; omega)
  have e1 : pOf t r = q := Fin.ext (by show (q.val / 512 * 8 + b.val) / 8 * 512 + q.val % 512 = q.val; omega)
  rwa [e0, e1] at h

/-- The result array after the run. -/
theorem final_eq : (dats m 0 c).arrAt 13 cfg0.N = final m c :=
  (dats m 0 c).arrAt_eq_of_cover 13 (final m c) (fun t _ => flushed_eq m c t) covered

end Cert.Proof.MixIdeal

end
-- ==== Proof.MixRef.lean ====
/-
  The reference's convolution branch of the mixer read at an index: the gate times three taps along the sequence, with two rows of zeros in
  front, which is `Row.branch` of the batch entry's rows.
-/
module

public import proofs.«01_k».proof.Defs
public import proofs.«01_k».proof.Proof.MixRow
public import proofs.«01_k».proof.Proof.Gen.MixRefIdeal.Read
public import Idealize.ShloMosaic.Lib.Pointwise
public import Idealize.ShloMosaic.Lib.KernelVsHost

@[expose] public section

set_option maxRecDepth 16384

noncomputable section

namespace Cert.Proof.MixRef

open Idealize.ShloMosaic Idealize.SL.Sem Cert.MixRefIdeal Cert.MixRefIdeal.Gen Cert.MixRefIdeal.Read
open Cert.Proof

variable (x0 : Vec Ideal S8x8192x1024 .f32) (x1 : Vec Ideal S1024 .f32) (x2 : Vec Ideal S1024x2472 .f32) (x3 : Vec Ideal S3x512 .f32)

/-- The last 1536 columns of the projected row. -/
theorem proj_apply (b : Fin 8) (s : Fin 8192) (f : Fin 1536) :
    val_main_v14 (F := Ideal) x0 x1 x2 (ix3 b s f)
      = Row.proj (fun k => x0 (ix3 b s k)) (fun k => x1 (ix1 k)) (fun k f => x2 (ix2 k ⟨936 + f.val, by omega⟩)) f := by
  unfold val_main_v14 val_main_v13 val_main_v12 val_main_v11 val_main_v10 val_main_v9 val_main_v8 val_main_v7 val_main_v6 val_main_v5 val_main_v4 val_main_v3 val_main_v2 val_main_v1 val_main_v0 val_main_cst_1 val_main_cst_0 val_main_cst
  pointwise
  rfl

theorem col_apply (o : Nat) (ho : o + 512 ≤ 1536) (h : S8x8192x1536.Slices ![0, 0, o] S8x8192x512) (b : Fin 8) (s : Fin 8192) (c : Fin 512) :
    extractStridedSlice S8x8192x512 ![0, 0, o] (val_main_v14 (F := Ideal) x0 x1 x2) h (ix3 b s c)
      = val_main_v14 (F := Ideal) x0 x1 x2 (ix3 b s ⟨o + c.val, by omega⟩) := by
  refine congrArg (val_main_v14 (F := Ideal) x0 x1 x2) (funext fun a => Fin.ext ?_)
  match a with
  | ⟨0, _⟩ => show 0 + b.val = b.val; omega
  | ⟨1, _⟩ => show 0 + s.val = s.val; omega
  | ⟨2, _⟩ => show o + c.val = o + c.val; rfl

/-- The product the convolution runs over. -/
theorem factor_apply (b : Fin 8) (s : Fin 8192) (c : Fin 512) :
    val_main_v18 (F := Ideal) x0 x1 x2 (ix3 b s c)
      = Row.factor (fun k => x0 (ix3 b s k)) (fun k => x1 (ix1 k)) (fun k f => x2 (ix2 k ⟨936 + f.val, by omega⟩)) c := by
  unfold val_main_v18 val_main_v16 val_main_v17
  exact congrArg₂ (fun a b : EReal => a * b) ((col_apply x0 x1 x2 512 (by decide) _ b s c).trans (proj_apply x0 x1 x2 b s _))
    ((col_apply x0 x1 x2 1024 (by decide) _ b s c).trans (proj_apply x0 x1 x2 b s _))

/-- The same rows with two rows of zeros in front. -/
theorem padded_apply (b : Fin 8) (p : Fin 8194) (c : Fin 512) :
    val_main_v19 (F := Ideal) x0 x1 x2 (ix3 b p c)
      = if h : 2 ≤ p.val then val_main_v18 (F := Ideal) x0 x1 x2 (ix3 b ⟨p.val - 2, by omega⟩ c) else 0 := by
  unfold val_main_v19
  generalize val_main_v18 (F := Ideal) x0 x1 x2 = X
  by_cases h : 2 ≤ p.val
  · rw [dif_pos h]
    refine pad_apply_of_inside _ _ _ X _ _ _ _ (ix3 b ⟨p.val - 2, by omega⟩ c) fun a => ?_
    match a with
    | ⟨0, _⟩ => show b.val = 0 + b.val * (0 + 1); omega
    | ⟨1, _⟩ => show p.val = 2 + (p.val - 2) * (0 + 1); omega
    | ⟨2, _⟩ => show c.val = 0 + c.val * (0 + 1); omega
  · rw [dif_neg h]
    refine (pad_apply_of_not_inside _ _ _ X _ _ _ _ (1 : Fin 3) fun hin => ?_).trans ?_
    · have e : 2 ≤ p.val := hin.1
      exact h e
    · exact sitofp_zero (φ := .f32)

/-- Tap `j`'s rows. -/
theorem slice_apply (j : Nat) (hj : j < 3) (h : S8x8194x512.Slices ![0, j, 0] S8x8192x512) (b : Fin 8) (s : Fin 8192) (c : Fin 512) :
    extractStridedSlice S8x8192x512 ![0, j, 0] (val_main_v19 (F := Ideal) x0 x1 x2) h (ix3 b s c)
      = if h : 2 ≤ s.val + j then val_main_v18 (F := Ideal) x0 x1 x2 (ix3 b ⟨s.val + j - 2, by omega⟩ c) else 0 := by
  refine Eq.trans ?_ (padded_apply x0 x1 x2 b ⟨s.val + j, by omega⟩ c)
  refine congrArg (val_main_v19 (F := Ideal) x0 x1 x2) (funext fun a => Fin.ext ?_)
  match a with
  | ⟨0, _⟩ => show 0 + b.val = b.val; omega
  | ⟨1, _⟩ => show j + s.val = s.val + j; omega
  | ⟨2, _⟩ => show 0 + c.val = c.val; omega

/-- Tap `j`'s coefficients. -/
theorem coeff_apply (j : Nat) (hj : j < 3) (h : S3x512.Slices ![j, 0] S1x512) (b : Fin 8) (s : Fin 8192) (c : Fin 512) :
    broadcastInDim S8x8192x512 ![0, 1, 2] bcast_S1x1x512_S8x8192x512_0_1_2 (broadcastInDim S1x1x512 ![2] bcast_S512_S1x1x512_2
      (shapeCast S512 (extractStridedSlice S1x512 ![j, 0] x3 h) shapeCasts_S1x512_S512)) (ix3 b s c) = x3 (ix2 ⟨j, hj⟩ c) := by
  have e : extractStridedSlice S1x512 ![j, 0] x3 h = fun i => x3 (ix2 ⟨j, hj⟩ (i 1)) := by
    funext i
    have h0 : (i 0).val < 1 := (i 0).isLt
    refine congrArg x3 (funext fun a => Fin.ext ?_)
    match a with
    | ⟨0, _⟩ => show j + (i 0).val = j; omega
    | ⟨1, _⟩ => show 0 + (i 1).val = (i 1).val; omega
  rw [e]
  pointwise

/-- The factor rows of a batch entry. -/
abbrev rows (b : Fin 8) (c : Fin 512) (n : Fin 8192) : EReal := val_main_v18 (F := Ideal) x0 x1 x2 (ix3 b n c)

theorem tap0 (b : Fin 8) (s : Fin 8192) (c : Fin 512) :
    val_main_v25 (F := Ideal) x0 x1 x2 x3 (ix3 b s c) = Row.tap (rows x0 x1 x2 b c) (fun j => x3 (ix2 j c)) s 0 := by
  unfold val_main_v25 val_main_v20 val_main_v24 val_main_v23 val_main_v22 val_main_v21
  exact congrArg₂ (fun a b : EReal => a * b) (slice_apply x0 x1 x2 0 (by decide) _ b s c) (coeff_apply x3 0 (by decide) _ b s c)
theorem tap1 (b : Fin 8) (s : Fin 8192) (c : Fin 512) :
    val_main_v31 (F := Ideal) x0 x1 x2 x3 (ix3 b s c) = Row.tap (rows x0 x1 x2 b c) (fun j => x3 (ix2 j c)) s 1 := by
  unfold val_main_v31 val_main_v26 val_main_v30 val_main_v29 val_main_v28 val_main_v27
  exact congrArg₂ (fun a b : EReal => a * b) (slice_apply x0 x1 x2 1 (by decide) _ b s c) (coeff_apply x3 1 (by decide) _ b s c)
theorem tap2 (b : Fin 8) (s : Fin 8192) (c : Fin 512) :
    val_main_v38 (F := Ideal) x0 x1 x2 x3 (ix3 b s c) = Row.tap (rows x0 x1 x2 b c) (fun j => x3 (ix2 j c)) s 2 := by
  unfold val_main_v38 val_main_v33 val_main_v37 val_main_v36 val_main_v35 val_main_v34
  exact congrArg₂ (fun a b : EReal => a * b) (slice_apply x0 x1 x2 2 (by decide) _ b s c) (coeff_apply x3 2 (by decide) _ b s c)

/-- The convolution. -/
theorem conv_apply (b : Fin 8) (s : Fin 8192) (c : Fin 512) :
    val_main_v39 (F := Ideal) x0 x1 x2 x3 (ix3 b s c) = Row.conv3 (rows x0 x1 x2 b c) (fun j => x3 (ix2 j c)) s := by
  unfold Row.conv3
  refine (val_main_v39_apply (F := Ideal) x0 x1 x2 x3 (ix3 b s c)).trans (congrArg₂ (fun a b : EReal => a + b) ?_ (tap2 x0 x1 x2 x3 b s c))
  exact (val_main_v32_apply (F := Ideal) x0 x1 x2 x3 (ix3 b s c)).trans
    (congrArg₂ (fun a b : EReal => a + b) (tap0 x0 x1 x2 x3 b s c) (tap1 x0 x1 x2 x3 b s c))

/-- The result. -/
theorem apply (b : Fin 8) (s : Fin 8192) (c : Fin 512) :
    val_main_v41 (F := Ideal) x0 x1 x2 x3 (ix3 b s c)
      = Row.branch (fun n k => x0 (ix3 b n k)) (fun k => x1 (ix1 k)) (fun k f => x2 (ix2 k ⟨936 + f.val, by omega⟩)) (fun j k => x3 (ix2 j k)) s c := by
  unfold Row.branch
  show val_main_v15 (F := Ideal) x0 x1 x2 (ix3 b s c) * val_main_v39 (F := Ideal) x0 x1 x2 x3 (ix3 b s c) = _
  refine congrArg₂ (fun a b : EReal => a * b) ?_ ((conv_apply x0 x1 x2 x3 b s c).trans
    (congrArg (fun u => Row.conv3 u (fun j => x3 (ix2 j c)) s) (funext fun n => factor_apply x0 x1 x2 b n c)))
  unfold val_main_v15
  refine (col_apply x0 x1 x2 0 (by decide) _ b s c).trans ((proj_apply x0 x1 x2 b s _).trans ?_)
  exact congrArg (Row.proj _ _ _) (Fin.ext (show 0 + c.val = c.val by omega))

end Cert.Proof.MixRef

end
-- ==== Proof.MixClaims.lean ====
/-
  The claims on the mixing kernel's convolution output: its frames, and that it computes what the reference computes. Both sides' result
  arrays are the same function row by row (MixValue.lean, MixRef.lean).
-/
module

public import proofs.«01_k».proof.Proof.MixValue
public import proofs.«01_k».proof.Proof.MixRef
public import proofs.«01_k».proof.Proof.MixFrame
public import Idealize.ShloMosaic.Lib.Claim

@[expose] public section

noncomputable section

namespace Cert.Proof.MixClaims

open Idealize.ShloMosaic Idealize.SL.Sem Idealize.ShloMosaic.TcCoe

theorem frame_kernel : Cert.quiescent_Mix := fun m ρ _ => Cert.Proof.Mix.frame m ρ
theorem frame_ideal : Cert.quiescent_MixIdeal := fun m ρ _ => Cert.Proof.MixIdeal.frame m ρ
/-- The reference is host operations alone: it declares no semaphore. -/
theorem frame_ref : Cert.quiescent_MixRefIdeal := fun m ρ _ =>
  (θ_run Cert.MixRefIdeal.defs _ _).mono (fun r h => ⟨fun c => (h c).2, sem_eq_zero_of_no_sems (by decide) r.2⟩)
    (Cert.MixRefIdeal.Value.run (F := Ideal) m ρ)

theorem algebraic : Cert.algebraic_MixIdeal_MixRefIdeal := by
  intro m g m' g' _ hargs
  refine ⟨fun c => MixIdeal.final m c, ?_, ?_⟩
  · exact (θ_run Cert.MixIdeal.defs _ _).mono (fun r h c => ⟨((h.1 c).1 13).trans (MixIdeal.final_eq m c), h.2.1 c⟩)
      (θ_run_and (MixIdeal.run_main (F := Ideal) m g) (MixIdeal.frame (F := Ideal) m g))
  · refine (θ_run Cert.MixRefIdeal.defs _ _).mono (fun r h c => ⟨(h c).1.trans ?_, (h c).2⟩) (Cert.MixRefIdeal.Value.run (F := Ideal) m' g')
    obtain ⟨h0, h1, h2, h3, -⟩ := hargs c
    rw [Cert.MixRefIdeal.Read.val_main_v41_eq]
    show Cert.MixRefIdeal.Read.val_main_v41 (F := Ideal) (m' ((c : Thread Cert.MixRefIdeal.nD Cert.MixRefIdeal.τ).loc Cert.MixRefIdeal.main_arg0)) (m' ((c : Thread Cert.MixRefIdeal.nD Cert.MixRefIdeal.τ).loc Cert.MixRefIdeal.main_arg1)) (m' ((c : Thread Cert.MixRefIdeal.nD Cert.MixRefIdeal.τ).loc Cert.MixRefIdeal.main_arg2)) (m' ((c : Thread Cert.MixRefIdeal.nD Cert.MixRefIdeal.τ).loc Cert.MixRefIdeal.main_arg3)) = _
    rw [h0, h1, h2, h3]
    funext i
    obtain ⟨b, q, k, rfl⟩ : ∃ (b : Fin 8) (q : Fin 8192) (k : Fin 512), i = ix3 b q k := ⟨i 0, i 1, i 2, by
      funext a
      match a with
      | ⟨0, _⟩ => rfl
      | ⟨1, _⟩ => rfl
      | ⟨2, _⟩ => rfl⟩
    exact MixRef.apply _ _ _ _ b q k

end Cert.Proof.MixClaims

end
-- ==== Proof.lean ====
/- The claims of the statement, put together from the modules under Proof/: the frame of the sparse-attention call, and
   for each of the three feed-forward calls, for the conformer's convolution call and for the convolution output of the
   mixer's input call its frames and its value. -/
module

public import proofs.«01_k».proof.Defs
public import proofs.«01_k».proof.Proof.Gen.Dsa
public import proofs.«01_k».proof.Proof.Gen.Dsa.Launch
public import proofs.«01_k».proof.Proof.Gen.Dsa.Points
public import proofs.«01_k».proof.Proof.Gen.Dsa.Frame
public import proofs.«01_k».proof.Proof.DsaFrame
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Mixed
public import proofs.«01_k».proof.Proof.Gen.Mixed.Skeleton
public import proofs.«01_k».proof.Proof.Gen.Mixed.Launch
public import proofs.«01_k».proof.Proof.Gen.Mixed.Points
public import proofs.«01_k».proof.Proof.Gen.Mixed.Frame
public import proofs.«01_k».proof.Proof.Gen.MixedIdeal
public import proofs.«01_k».proof.Proof.Gen.MixedIdeal.Skeleton
public import proofs.«01_k».proof.Proof.Gen.MixedIdeal.Launch
public import proofs.«01_k».proof.Proof.Gen.MixedIdeal.Points
public import proofs.«01_k».proof.Proof.Gen.MixedIdeal.Frame
public import proofs.«01_k».proof.Proof.Gen.MixedRefIdeal
public import proofs.«01_k».proof.Proof.Gen.Last
public import proofs.«01_k».proof.Proof.Gen.Last.Skeleton
public import proofs.«01_k».proof.Proof.Gen.Last.Launch
public import proofs.«01_k».proof.Proof.Gen.Last.Points
public import proofs.«01_k».proof.Proof.Gen.Last.Frame
public import proofs.«01_k».proof.Proof.Gen.LastIdeal
public import proofs.«01_k».proof.Proof.Gen.LastIdeal.Skeleton
public import proofs.«01_k».proof.Proof.Gen.LastIdeal.Launch
public import proofs.«01_k».proof.Proof.Gen.LastIdeal.Points
public import proofs.«01_k».proof.Proof.Gen.LastIdeal.Frame
public import proofs.«01_k».proof.Proof.Gen.LastRefIdeal
public import proofs.«01_k».proof.Proof.Gen.Conf
public import proofs.«01_k».proof.Proof.Gen.Conf.Skeleton
public import proofs.«01_k».proof.Proof.Gen.Conf.Launch
public import proofs.«01_k».proof.Proof.Gen.Conf.Points
public import proofs.«01_k».proof.Proof.Gen.Conf.Frame
public import proofs.«01_k».proof.Proof.Gen.ConfIdeal
public import proofs.«01_k».proof.Proof.Gen.ConfIdeal.Skeleton
public import proofs.«01_k».proof.Proof.Gen.ConfIdeal.Launch
public import proofs.«01_k».proof.Proof.Gen.ConfIdeal.Points
public import proofs.«01_k».proof.Proof.Gen.ConfIdeal.Frame
public import proofs.«01_k».proof.Proof.Gen.ConfRefIdeal
public import proofs.«01_k».proof.Proof.Gen.FfnIdeal.Value
public import proofs.«01_k».proof.Proof.Gen.MixedIdeal.Value
public import proofs.«01_k».proof.Proof.Gen.LastIdeal.Value
public import proofs.«01_k».proof.Proof.Gen.ConfIdeal.Value
public import proofs.«01_k».proof.Proof.Gen.FfnRefIdeal.Run
public import proofs.«01_k».proof.Proof.Gen.FfnRefIdeal.Read
public import proofs.«01_k».proof.Proof.Gen.MixedRefIdeal.Run
public import proofs.«01_k».proof.Proof.Gen.MixedRefIdeal.Read
public import proofs.«01_k».proof.Proof.Gen.LastRefIdeal.Run
public import proofs.«01_k».proof.Proof.Gen.LastRefIdeal.Read
public import proofs.«01_k».proof.Proof.Gen.ConfRefIdeal.Run
public import proofs.«01_k».proof.Proof.Gen.ConfRefIdeal.Read
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixRefIdeal
public import proofs.«01_k».proof.Proof.Gen.MixRefIdeal.Run
public import proofs.«01_k».proof.Proof.Gen.MixRefIdeal.Read
public import proofs.«01_k».proof.Proof.FfnClaims
public import proofs.«01_k».proof.Proof.MixedClaims
public import proofs.«01_k».proof.Proof.LastClaims
public import proofs.«01_k».proof.Proof.ConfClaims
public import proofs.«01_k».proof.Proof.MixClaims
public import Idealize.ShloMosaic.Adequacy
public import Idealize.ShloMosaic.Init

@[expose] public section

noncomputable section

namespace Cert.Proof

open Idealize.ShloMosaic Idealize.SL.Sem Cert.Ffn

theorem claim : Cert.Claim := ⟨Cert.Dsa.Gen.facts, Cert.Ffn.Gen.facts, Cert.FfnIdeal.Gen.facts, Cert.FfnRefIdeal.Gen.facts, Cert.Mixed.Gen.facts, Cert.MixedIdeal.Gen.facts, Cert.MixedRefIdeal.Gen.facts, Cert.Last.Gen.facts, Cert.LastIdeal.Gen.facts, Cert.LastRefIdeal.Gen.facts, Cert.Conf.Gen.facts, Cert.ConfIdeal.Gen.facts, Cert.ConfRefIdeal.Gen.facts, Cert.Mix.Gen.facts, Cert.MixIdeal.Gen.facts, Cert.MixRefIdeal.Gen.facts,
    fun m ρ _ => Dsa.frame m ρ, Ffn.frame_kernel, Ffn.frame_ideal, Ffn.frame_ref, Mixed.frame_kernel, Mixed.frame_ideal, Mixed.frame_ref, Last.frame_kernel, Last.frame_ideal,
    Last.frame_ref, Conf.frame_kernel, Conf.frame_ideal, Conf.frame_ref, MixClaims.frame_kernel, MixClaims.frame_ideal, MixClaims.frame_ref, trivial, Ffn.algebraic, trivial, Mixed.algebraic, trivial, Last.algebraic, trivial, Conf.algebraic, trivial, MixClaims.algebraic⟩

end Cert.Proof

end
